-- ==== Defs.lean ====
def Pre_Gain (m : (ℓ : Loc Cert.Gain.nD Cert.Gain.τ Cert.Gain.sig) → Buf (Elt Bits) ℓ) : Prop :=
  True

def Pre_GainIdeal (m : (ℓ : Loc Cert.GainIdeal.nD Cert.GainIdeal.τ Cert.GainIdeal.sig) → Buf (Elt Ideal) ℓ) : Prop :=
  True

def Pre_GainRefIdeal (m : (ℓ : Loc Cert.GainRefIdeal.nD Cert.GainRefIdeal.τ Cert.GainRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).1 = (fun _ => 1#1)
    ∧ (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.1 = (fun _ => 1#1)
    ∧ (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2.1 = (fun _ => 1#1)
    ∧ (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).1 = (fun _ => 1#1)
    ∧ (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.1 = (fun _ => 1#1)
    ∧ (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2.1 = (fun _ => 1#1)
    ∧ (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2.2 = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_norm1_finite [hPre_norm1_finite : Cert.Pre_norm1_finite.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3))).1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3))).2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3))).2.2 = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_norm1_finite [hPre_norm1_finite : Cert.Pre_norm1_finite.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3))).1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3))).2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3))).2.2 = (fun _ => 1#1)

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqIdeal_xq_finite [hPre_xq_finite : Cert.Pre_xq_finite.Facts] (m : (ℓ : Loc Cert.XqIdeal.nD Cert.XqIdeal.τ Cert.XqIdeal.sig) → Buf (Elt Ideal) ℓ) : Prop :=
  ∀ c : Dev Cert.XqIdeal.nD,
    (Cert.Pre_xq_finite.fn (F := Ideal) (m ((c.tc : Thread Cert.XqIdeal.nD Cert.XqIdeal.τ).loc Cert.XqIdeal.main_arg0)) (m ((c.tc : Thread Cert.XqIdeal.nD Cert.XqIdeal.τ).loc Cert.XqIdeal.main_arg1)) (m ((c.tc : Thread Cert.XqIdeal.nD Cert.XqIdeal.τ).loc Cert.XqIdeal.main_arg2)) (m ((c.tc : Thread Cert.XqIdeal.nD Cert.XqIdeal.τ).loc Cert.XqIdeal.main_arg3)) (m ((c.tc : Thread Cert.XqIdeal.nD Cert.XqIdeal.τ).loc Cert.XqIdeal.main_arg4))).1 = (fun _ => 1#1)
    ∧ (Cert.Pre_xq_finite.fn (F := Ideal) (m ((c.tc : Thread Cert.XqIdeal.nD Cert.XqIdeal.τ).loc Cert.XqIdeal.main_arg0)) (m ((c.tc : Thread Cert.XqIdeal.nD Cert.XqIdeal.τ).loc Cert.XqIdeal.main_arg1)) (m ((c.tc : Thread Cert.XqIdeal.nD Cert.XqIdeal.τ).loc Cert.XqIdeal.main_arg2)) (m ((c.tc : Thread Cert.XqIdeal.nD Cert.XqIdeal.τ).loc Cert.XqIdeal.main_arg3)) (m ((c.tc : Thread Cert.XqIdeal.nD Cert.XqIdeal.τ).loc Cert.XqIdeal.main_arg4))).2.1 = (fun _ => 1#1)
    ∧ (Cert.Pre_xq_finite.fn (F := Ideal) (m ((c.tc : Thread Cert.XqIdeal.nD Cert.XqIdeal.τ).loc Cert.XqIdeal.main_arg0)) (m ((c.tc : Thread Cert.XqIdeal.nD Cert.XqIdeal.τ).loc Cert.XqIdeal.main_arg1)) (m ((c.tc : Thread Cert.XqIdeal.nD Cert.XqIdeal.τ).loc Cert.XqIdeal.main_arg2)) (m ((c.tc : Thread Cert.XqIdeal.nD Cert.XqIdeal.τ).loc Cert.XqIdeal.main_arg3)) (m ((c.tc : Thread Cert.XqIdeal.nD Cert.XqIdeal.τ).loc Cert.XqIdeal.main_arg4))).2.2.1 = (fun _ => 1#1)
    ∧ (Cert.Pre_xq_finite.fn (F := Ideal) (m ((c.tc : Thread Cert.XqIdeal.nD Cert.XqIdeal.τ).loc Cert.XqIdeal.main_arg0)) (m ((c.tc : Thread Cert.XqIdeal.nD Cert.XqIdeal.τ).loc Cert.XqIdeal.main_arg1)) (m ((c.tc : Thread Cert.XqIdeal.nD Cert.XqIdeal.τ).loc Cert.XqIdeal.main_arg2)) (m ((c.tc : Thread Cert.XqIdeal.nD Cert.XqIdeal.τ).loc Cert.XqIdeal.main_arg3)) (m ((c.tc : Thread Cert.XqIdeal.nD Cert.XqIdeal.τ).loc Cert.XqIdeal.main_arg4))).2.2.2 = (fun _ => 1#1)

def Pre_XqRefIdeal (m : (ℓ : Loc Cert.XqRefIdeal.nD Cert.XqRefIdeal.τ Cert.XqRefIdeal.sig) → Buf (Elt Ideal) ℓ) : Prop :=
  True

def Pre_XqRefIdeal_xq_finite [hPre_xq_finite : Cert.Pre_xq_finite.Facts] (m : (ℓ : Loc Cert.XqRefIdeal.nD Cert.XqRefIdeal.τ Cert.XqRefIdeal.sig) → Buf (Elt Ideal) ℓ) : Prop :=
  ∀ c : Dev Cert.XqRefIdeal.nD,
    (Cert.Pre_xq_finite.fn (F := Ideal) (m ((c.tc : Thread Cert.XqRefIdeal.nD Cert.XqRefIdeal.τ).loc Cert.XqRefIdeal.main_arg0)) (m ((c.tc : Thread Cert.XqRefIdeal.nD Cert.XqRefIdeal.τ).loc Cert.XqRefIdeal.main_arg1)) (m ((c.tc : Thread Cert.XqRefIdeal.nD Cert.XqRefIdeal.τ).loc Cert.XqRefIdeal.main_arg2)) (m ((c.tc : Thread Cert.XqRefIdeal.nD Cert.XqRefIdeal.τ).loc Cert.XqRefIdeal.main_arg3)) (m ((c.tc : Thread Cert.XqRefIdeal.nD Cert.XqRefIdeal.τ).loc Cert.XqRefIdeal.main_arg4))).1 = (fun _ => 1#1)
    ∧ (Cert.Pre_xq_finite.fn (F := Ideal) (m ((c.tc : Thread Cert.XqRefIdeal.nD Cert.XqRefIdeal.τ).loc Cert.XqRefIdeal.main_arg0)) (m ((c.tc : Thread Cert.XqRefIdeal.nD Cert.XqRefIdeal.τ).loc Cert.XqRefIdeal.main_arg1)) (m ((c.tc : Thread Cert.XqRefIdeal.nD Cert.XqRefIdeal.τ).loc Cert.XqRefIdeal.main_arg2)) (m ((c.tc : Thread Cert.XqRefIdeal.nD Cert.XqRefIdeal.τ).loc Cert.XqRefIdeal.main_arg3)) (m ((c.tc : Thread Cert.XqRefIdeal.nD Cert.XqRefIdeal.τ).loc Cert.XqRefIdeal.main_arg4))).2.1 = (fun _ => 1#1)
    ∧ (Cert.Pre_xq_finite.fn (F := Ideal) (m ((c.tc : Thread Cert.XqRefIdeal.nD Cert.XqRefIdeal.τ).loc Cert.XqRefIdeal.main_arg0)) (m ((c.tc : Thread Cert.XqRefIdeal.nD Cert.XqRefIdeal.τ).loc Cert.XqRefIdeal.main_arg1)) (m ((c.tc : Thread Cert.XqRefIdeal.nD Cert.XqRefIdeal.τ).loc Cert.XqRefIdeal.main_arg2)) (m ((c.tc : Thread Cert.XqRefIdeal.nD Cert.XqRefIdeal.τ).loc Cert.XqRefIdeal.main_arg3)) (m ((c.tc : Thread Cert.XqRefIdeal.nD Cert.XqRefIdeal.τ).loc Cert.XqRefIdeal.main_arg4))).2.2.1 = (fun _ => 1#1)
    ∧ (Cert.Pre_xq_finite.fn (F := Ideal) (m ((c.tc : Thread Cert.XqRefIdeal.nD Cert.XqRefIdeal.τ).loc Cert.XqRefIdeal.main_arg0)) (m ((c.tc : Thread Cert.XqRefIdeal.nD Cert.XqRefIdeal.τ).loc Cert.XqRefIdeal.main_arg1)) (m ((c.tc : Thread Cert.XqRefIdeal.nD Cert.XqRefIdeal.τ).loc Cert.XqRefIdeal.main_arg2)) (m ((c.tc : Thread Cert.XqRefIdeal.nD Cert.XqRefIdeal.τ).loc Cert.XqRefIdeal.main_arg3)) (m ((c.tc : Thread Cert.XqRefIdeal.nD Cert.XqRefIdeal.τ).loc Cert.XqRefIdeal.main_arg4))).2.2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_mixin_finite [hPre_mixin_finite : Cert.Pre_mixin_finite.Facts] (m : (ℓ : Loc Cert.MixInIdeal.nD Cert.MixInIdeal.τ Cert.MixInIdeal.sig) → Buf (Elt Ideal) ℓ) : Prop :=
  ∀ c : Dev Cert.MixInIdeal.nD,
    (Cert.Pre_mixin_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).1 = (fun _ => 1#1)
    ∧ (Cert.Pre_mixin_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).2.1 = (fun _ => 1#1)
    ∧ (Cert.Pre_mixin_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).2.2.1 = (fun _ => 1#1)
    ∧ (Cert.Pre_mixin_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).2.2.2 = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mixin_finite [hPre_mixin_finite : Cert.Pre_mixin_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mixin_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).1 = (fun _ => 1#1)
    ∧ (Cert.Pre_mixin_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).2.1 = (fun _ => 1#1)
    ∧ (Cert.Pre_mixin_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).2.2.1 = (fun _ => 1#1)
    ∧ (Cert.Pre_mixin_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFRefIdeal (m : (ℓ : Loc Cert.AttnFRefIdeal.nD Cert.AttnFRefIdeal.τ Cert.AttnFRefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_HalfF (m : (ℓ : Loc Cert.HalfF.nD Cert.HalfF.τ Cert.HalfF.sig) → Buf (Elt Bits) ℓ) : Prop :=
  True

def Pre_HalfFIdeal (m : (ℓ : Loc Cert.HalfFIdeal.nD Cert.HalfFIdeal.τ Cert.HalfFIdeal.sig) → Buf (Elt Ideal) ℓ) : Prop :=
  True

def Pre_HalfFRefIdeal (m : (ℓ : Loc Cert.HalfFRefIdeal.nD Cert.HalfFRefIdeal.τ Cert.HalfFRefIdeal.sig) → Buf (Elt Ideal) ℓ) : Prop :=
  True

def Pre_Nn (m : (ℓ : Loc Cert.Nn.nD Cert.Nn.τ Cert.Nn.sig) → Buf (Elt Bits) ℓ) : Prop :=
  True

def Pre_NnIdeal (m : (ℓ : Loc Cert.NnIdeal.nD Cert.NnIdeal.τ Cert.NnIdeal.sig) → Buf (Elt Ideal) ℓ) : Prop :=
  True

def Pre_NnRefIdeal (m : (ℓ : Loc Cert.NnRefIdeal.nD Cert.NnRefIdeal.τ Cert.NnRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Nt (m : (ℓ : Loc Cert.Nt.nD Cert.Nt.τ Cert.Nt.sig) → Buf (Elt Bits) ℓ) : Prop :=
  True

def Pre_NtIdeal (m : (ℓ : Loc Cert.NtIdeal.nD Cert.NtIdeal.τ Cert.NtIdeal.sig) → Buf (Elt Ideal) ℓ) : Prop :=
  True

def Pre_NtRefIdeal (m : (ℓ : Loc Cert.NtRefIdeal.nD Cert.NtRefIdeal.τ Cert.NtRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_TnPair (m : (ℓ : Loc Cert.TnPair.nD Cert.TnPair.τ Cert.TnPair.sig) → Buf (Elt Bits) ℓ) : Prop :=
  True

def Pre_TnPairIdeal (m : (ℓ : Loc Cert.TnPairIdeal.nD Cert.TnPairIdeal.τ Cert.TnPairIdeal.sig) → Buf (Elt Ideal) ℓ) : Prop :=
  True

def Pre_TnPairRefIdeal (m : (ℓ : Loc Cert.TnPairRefIdeal.nD Cert.TnPairRefIdeal.τ Cert.TnPairRefIdeal.sig) → Buf (Elt Ideal) ℓ) : Prop :=
  True

def Pre_NtHalves (m : (ℓ : Loc Cert.NtHalves.nD Cert.NtHalves.τ Cert.NtHalves.sig) → Buf (Elt Bits) ℓ) : Prop :=
  True

def Pre_NtHalvesIdeal (m : (ℓ : Loc Cert.NtHalvesIdeal.nD Cert.NtHalvesIdeal.τ Cert.NtHalvesIdeal.sig) → Buf (Elt Ideal) ℓ) : Prop :=
  True

def Pre_NtHalvesRefIdeal (m : (ℓ : Loc Cert.NtHalvesRefIdeal.nD Cert.NtHalvesRefIdeal.τ Cert.NtHalvesRefIdeal.sig) → Buf (Elt Ideal) ℓ) : Prop :=
  True

def Pre_TnHalf (m : (ℓ : Loc Cert.TnHalf.nD Cert.TnHalf.τ Cert.TnHalf.sig) → Buf (Elt Bits) ℓ) : Prop :=
  True

def Pre_TnHalfIdeal (m : (ℓ : Loc Cert.TnHalfIdeal.nD Cert.TnHalfIdeal.τ Cert.TnHalfIdeal.sig) → Buf (Elt Ideal) ℓ) : Prop :=
  True

def Pre_TnHalfRefIdeal (m : (ℓ : Loc Cert.TnHalfRefIdeal.nD Cert.TnHalfRefIdeal.τ Cert.TnHalfRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_PairAdd (m : (ℓ : Loc Cert.PairAdd.nD Cert.PairAdd.τ Cert.PairAdd.sig) → Buf (Elt Bits) ℓ) : Prop :=
  True

def Pre_PairAddIdeal (m : (ℓ : Loc Cert.PairAddIdeal.nD Cert.PairAddIdeal.τ Cert.PairAddIdeal.sig) → Buf (Elt Ideal) ℓ) : Prop :=
  True

def Pre_PairAddRefIdeal (m : (ℓ : Loc Cert.PairAddRefIdeal.nD Cert.PairAddRefIdeal.τ Cert.PairAddRefIdeal.sig) → Buf (Elt Ideal) ℓ) : Prop :=
  True

def Pre_Packed (m : (ℓ : Loc Cert.Packed.nD Cert.Packed.τ Cert.Packed.sig) → Buf (Elt Bits) ℓ) : Prop :=
  True

def Pre_PackedIdeal (m : (ℓ : Loc Cert.PackedIdeal.nD Cert.PackedIdeal.τ Cert.PackedIdeal.sig) → Buf (Elt Ideal) ℓ) : Prop :=
  True

def Pre_PackedRefIdeal (m : (ℓ : Loc Cert.PackedRefIdeal.nD Cert.PackedRefIdeal.τ Cert.PackedRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_Gain [hGain : Cert.Gain.Facts] : Prop :=
  ∀ (m : (ℓ : Loc Cert.Gain.nD Cert.Gain.τ Cert.Gain.sig) → Buf (Elt Bits) ℓ) (g : Dev Cert.Gain.nD → PrngReg), Pre_Gain m →
    θ_run (Cert.Gain.defs (F := Bits)) (onTc (τ := Cert.Gain.τ) (Cert.Gain.main (F := Bits))) ⟨m, fun _ => 0, g⟩ (fun r => (∀ c : Dev Cert.Gain.nD,
      r.2.mem ((c.tc : Thread Cert.Gain.nD Cert.Gain.τ).loc Cert.Gain.main_arg0) = m ((c.tc : Thread Cert.Gain.nD Cert.Gain.τ).loc Cert.Gain.main_arg0)
      ∧ r.2.mem ((c.tc : Thread Cert.Gain.nD Cert.Gain.τ).loc Cert.Gain.main_arg1) = m ((c.tc : Thread Cert.Gain.nD Cert.Gain.τ).loc Cert.Gain.main_arg1)
      ∧ r.2.mem ((c.tc : Thread Cert.Gain.nD Cert.Gain.τ).loc Cert.Gain.main_arg2) = m ((c.tc : Thread Cert.Gain.nD Cert.Gain.τ).loc Cert.Gain.main_arg2)
      ∧ r.2.mem ((c.tc : Thread Cert.Gain.nD Cert.Gain.τ).loc Cert.Gain.main_arg3) = m ((c.tc : Thread Cert.Gain.nD Cert.Gain.τ).loc Cert.Gain.main_arg3))
      ∧ r.2.sem = fun _ => 0)

def quiescent_GainIdeal [hGainIdeal : Cert.GainIdeal.Facts] : Prop :=
  ∀ (m : (ℓ : Loc Cert.GainIdeal.nD Cert.GainIdeal.τ Cert.GainIdeal.sig) → Buf (Elt Ideal) ℓ) (g : Dev Cert.GainIdeal.nD → PrngReg), Pre_GainIdeal m →
    θ_run (Cert.GainIdeal.defs (F := Ideal)) (onTc (τ := Cert.GainIdeal.τ) (Cert.GainIdeal.main (F := Ideal))) ⟨m, fun _ => 0, g⟩ (fun r => (∀ c : Dev Cert.GainIdeal.nD,
      r.2.mem ((c.tc : Thread Cert.GainIdeal.nD Cert.GainIdeal.τ).loc Cert.GainIdeal.main_arg0) = m ((c.tc : Thread Cert.GainIdeal.nD Cert.GainIdeal.τ).loc Cert.GainIdeal.main_arg0)
      ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
      ∧ r.2.mem ((c.tc : Thread Cert.GainIdeal.nD Cert.GainIdeal.τ).loc Cert.GainIdeal.main_arg2) = m ((c.tc : Thread Cert.GainIdeal.nD Cert.GainIdeal.τ).loc Cert.GainIdeal.main_arg2)
      ∧ r.2.mem ((c.tc : Thread Cert.GainIdeal.nD Cert.GainIdeal.τ).loc Cert.GainIdeal.main_arg3) = m ((c.tc : Thread Cert.GainIdeal.nD Cert.GainIdeal.τ).loc Cert.GainIdeal.main_arg3))
      ∧ r.2.sem = fun _ => 0)

def quiescent_GainRefIdeal [hGainRefIdeal : Cert.GainRefIdeal.Facts] : Prop :=
  ∀ (m : (ℓ : Loc Cert.GainRefIdeal.nD Cert.GainRefIdeal.τ Cert.GainRefIdeal.sig) → Buf (Elt Ideal) ℓ) (g : Dev Cert.GainRefIdeal.nD → PrngReg), Pre_GainRefIdeal m →
    θ_run (Cert.GainRefIdeal.defs (F := Ideal)) (onTc (τ := Cert.GainRefIdeal.τ) (Cert.GainRefIdeal.main (F := Ideal))) ⟨m, fun _ => 0, g⟩ (fun r => (∀ c : Dev Cert.GainRefIdeal.nD,
      r.2.mem ((c.tc : Thread Cert.GainRefIdeal.nD Cert.GainRefIdeal.τ).loc Cert.GainRefIdeal.main_arg0) = m ((c.tc : Thread Cert.GainRefIdeal.nD Cert.GainRefIdeal.τ).loc Cert.GainRefIdeal.main_arg0)
      ∧ r.2.mem ((c.tc : Thread Cert.GainRefIdeal.nD Cert.GainRefIdeal.τ).loc Cert.GainRefIdeal.main_arg1) = m ((c.tc : Thread Cert.GainRefIdeal.nD Cert.GainRefIdeal.τ).loc Cert.GainRefIdeal.main_arg1)
      ∧ r.2.mem ((c.tc : Thread Cert.GainRefIdeal.nD Cert.GainRefIdeal.τ).loc Cert.GainRefIdeal.main_arg2) = m ((c.tc : Thread Cert.GainRefIdeal.nD Cert.GainRefIdeal.τ).loc Cert.GainRefIdeal.main_arg2)
      ∧ r.2.mem ((c.tc : Thread Cert.GainRefIdeal.nD Cert.GainRefIdeal.τ).loc Cert.GainRefIdeal.main_arg3) = m ((c.tc : Thread Cert.GainRefIdeal.nD Cert.GainRefIdeal.τ).loc Cert.GainRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1Ideal_pre_norm1_finite [hNorm1Ideal : Cert.Norm1Ideal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_norm1_finite m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm1RefIdeal_pre_norm1_finite [hNorm1RefIdeal : Cert.Norm1RefIdeal.Facts] [hPre_norm1_finite : Cert.Pre_norm1_finite.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_norm1_finite m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2)
      ∧ r.2.mem ((c.tc : Thread Cert.Xq.nD Cert.Xq.τ).loc Cert.Xq.main_arg3) = m ((c.tc : Thread Cert.Xq.nD Cert.Xq.τ).loc Cert.Xq.main_arg3)
      ∧ r.2.mem ((c.tc : Thread Cert.Xq.nD Cert.Xq.τ).loc Cert.Xq.main_arg4) = m ((c.tc : Thread Cert.Xq.nD Cert.Xq.τ).loc Cert.Xq.main_arg4))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
      ∧ r.2.mem ((c.tc : Thread Cert.XqIdeal.nD Cert.XqIdeal.τ).loc Cert.XqIdeal.main_arg4) = m ((c.tc : Thread Cert.XqIdeal.nD Cert.XqIdeal.τ).loc Cert.XqIdeal.main_arg4))
      ∧ r.2.sem = fun _ => 0)

def quiescent_XqIdeal_pre_xq_finite [hXqIdeal : Cert.XqIdeal.Facts] [hPre_xq_finite : Cert.Pre_xq_finite.Facts] : Prop :=
  ∀ (m : (ℓ : Loc Cert.XqIdeal.nD Cert.XqIdeal.τ Cert.XqIdeal.sig) → Buf (Elt Ideal) ℓ) (g : Dev Cert.XqIdeal.nD → PrngReg), Pre_XqIdeal_xq_finite m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
      ∧ r.2.mem ((c.tc : Thread Cert.XqIdeal.nD Cert.XqIdeal.τ).loc Cert.XqIdeal.main_arg4) = m ((c.tc : Thread Cert.XqIdeal.nD Cert.XqIdeal.τ).loc Cert.XqIdeal.main_arg4))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2)
      ∧ r.2.mem ((c.tc : Thread Cert.XqRefIdeal.nD Cert.XqRefIdeal.τ).loc Cert.XqRefIdeal.main_arg3) = m ((c.tc : Thread Cert.XqRefIdeal.nD Cert.XqRefIdeal.τ).loc Cert.XqRefIdeal.main_arg3)
      ∧ r.2.mem ((c.tc : Thread Cert.XqRefIdeal.nD Cert.XqRefIdeal.τ).loc Cert.XqRefIdeal.main_arg4) = m ((c.tc : Thread Cert.XqRefIdeal.nD Cert.XqRefIdeal.τ).loc Cert.XqRefIdeal.main_arg4))
      ∧ r.2.sem = fun _ => 0)

def quiescent_XqRefIdeal_pre_xq_finite [hXqRefIdeal : Cert.XqRefIdeal.Facts] [hPre_xq_finite : Cert.Pre_xq_finite.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal_xq_finite m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2)
      ∧ r.2.mem ((c.tc : Thread Cert.XqRefIdeal.nD Cert.XqRefIdeal.τ).loc Cert.XqRefIdeal.main_arg3) = m ((c.tc : Thread Cert.XqRefIdeal.nD Cert.XqRefIdeal.τ).loc Cert.XqRefIdeal.main_arg3)
      ∧ r.2.mem ((c.tc : Thread Cert.XqRefIdeal.nD Cert.XqRefIdeal.τ).loc Cert.XqRefIdeal.main_arg4) = m ((c.tc : Thread Cert.XqRefIdeal.nD Cert.XqRefIdeal.τ).loc Cert.XqRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_mixin_finite [hMixInIdeal : Cert.MixInIdeal.Facts] [hPre_mixin_finite : Cert.Pre_mixin_finite.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_mixin_finite m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_mixin_finite [hMixInRefIdeal : Cert.MixInRefIdeal.Facts] [hPre_mixin_finite : Cert.Pre_mixin_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mixin_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5))
      ∧ r.2.sem = fun _ => 0)

def quiescent_HalfF [hHalfF : Cert.HalfF.Facts] : Prop :=
  ∀ (m : (ℓ : Loc Cert.HalfF.nD Cert.HalfF.τ Cert.HalfF.sig) → Buf (Elt Bits) ℓ) (g : Dev Cert.HalfF.nD → PrngReg), Pre_HalfF m →
    θ_run (Cert.HalfF.defs (F := Bits)) (onTc (τ := Cert.HalfF.τ) (Cert.HalfF.main (F := Bits))) ⟨m, fun _ => 0, g⟩ (fun r => (∀ c : Dev Cert.HalfF.nD,
      r.2.mem ((c.tc : Thread Cert.HalfF.nD Cert.HalfF.τ).loc Cert.HalfF.main_arg0) = m ((c.tc : Thread Cert.HalfF.nD Cert.HalfF.τ).loc Cert.HalfF.main_arg0)
      ∧ r.2.mem ((c.tc : Thread Cert.HalfF.nD Cert.HalfF.τ).loc Cert.HalfF.main_arg1) = m ((c.tc : Thread Cert.HalfF.nD Cert.HalfF.τ).loc Cert.HalfF.main_arg1))
      ∧ r.2.sem = fun _ => 0)

def quiescent_HalfFIdeal [hHalfFIdeal : Cert.HalfFIdeal.Facts] : Prop :=
  ∀ (m : (ℓ : Loc Cert.HalfFIdeal.nD Cert.HalfFIdeal.τ Cert.HalfFIdeal.sig) → Buf (Elt Ideal) ℓ) (g : Dev Cert.HalfFIdeal.nD → PrngReg), Pre_HalfFIdeal m →
    θ_run (Cert.HalfFIdeal.defs (F := Ideal)) (onTc (τ := Cert.HalfFIdeal.τ) (Cert.HalfFIdeal.main (F := Ideal))) ⟨m, fun _ => 0, g⟩ (fun r => (∀ c : Dev Cert.HalfFIdeal.nD,
      r.2.mem ((c.tc : Thread Cert.HalfFIdeal.nD Cert.HalfFIdeal.τ).loc Cert.HalfFIdeal.main_arg0) = m ((c.tc : Thread Cert.HalfFIdeal.nD Cert.HalfFIdeal.τ).loc Cert.HalfFIdeal.main_arg0)
      ∧ r.2.mem ((c.tc : Thread Cert.HalfFIdeal.nD Cert.HalfFIdeal.τ).loc Cert.HalfFIdeal.main_arg1) = m ((c.tc : Thread Cert.HalfFIdeal.nD Cert.HalfFIdeal.τ).loc Cert.HalfFIdeal.main_arg1))
      ∧ r.2.sem = fun _ => 0)

def quiescent_HalfFRefIdeal [hHalfFRefIdeal : Cert.HalfFRefIdeal.Facts] : Prop :=
  ∀ (m : (ℓ : Loc Cert.HalfFRefIdeal.nD Cert.HalfFRefIdeal.τ Cert.HalfFRefIdeal.sig) → Buf (Elt Ideal) ℓ) (g : Dev Cert.HalfFRefIdeal.nD → PrngReg), Pre_HalfFRefIdeal m →
    θ_run (Cert.HalfFRefIdeal.defs (F := Ideal)) (onTc (τ := Cert.HalfFRefIdeal.τ) (Cert.HalfFRefIdeal.main (F := Ideal))) ⟨m, fun _ => 0, g⟩ (fun r => (∀ c : Dev Cert.HalfFRefIdeal.nD,
      r.2.mem ((c.tc : Thread Cert.HalfFRefIdeal.nD Cert.HalfFRefIdeal.τ).loc Cert.HalfFRefIdeal.main_arg0) = m ((c.tc : Thread Cert.HalfFRefIdeal.nD Cert.HalfFRefIdeal.τ).loc Cert.HalfFRefIdeal.main_arg0)
      ∧ r.2.mem ((c.tc : Thread Cert.HalfFRefIdeal.nD Cert.HalfFRefIdeal.τ).loc Cert.HalfFRefIdeal.main_arg1) = m ((c.tc : Thread Cert.HalfFRefIdeal.nD Cert.HalfFRefIdeal.τ).loc Cert.HalfFRefIdeal.main_arg1))
      ∧ r.2.sem = fun _ => 0)

def quiescent_Nn [hNn : Cert.Nn.Facts] : Prop :=
  ∀ (m : (ℓ : Loc Cert.Nn.nD Cert.Nn.τ Cert.Nn.sig) → Buf (Elt Bits) ℓ) (g : Dev Cert.Nn.nD → PrngReg), Pre_Nn m →
    θ_run (Cert.Nn.defs (F := Bits)) (onTc (τ := Cert.Nn.τ) (Cert.Nn.main (F := Bits))) ⟨m, fun _ => 0, g⟩ (fun r => (∀ c : Dev Cert.Nn.nD,
      r.2.mem ((c.tc : Thread Cert.Nn.nD Cert.Nn.τ).loc Cert.Nn.main_arg0) = m ((c.tc : Thread Cert.Nn.nD Cert.Nn.τ).loc Cert.Nn.main_arg0)
      ∧ r.2.mem ((c.tc : Thread Cert.Nn.nD Cert.Nn.τ).loc Cert.Nn.main_arg1) = m ((c.tc : Thread Cert.Nn.nD Cert.Nn.τ).loc Cert.Nn.main_arg1))
      ∧ r.2.sem = fun _ => 0)

def quiescent_NnIdeal [hNnIdeal : Cert.NnIdeal.Facts] : Prop :=
  ∀ (m : (ℓ : Loc Cert.NnIdeal.nD Cert.NnIdeal.τ Cert.NnIdeal.sig) → Buf (Elt Ideal) ℓ) (g : Dev Cert.NnIdeal.nD → PrngReg), Pre_NnIdeal m →
    θ_run (Cert.NnIdeal.defs (F := Ideal)) (onTc (τ := Cert.NnIdeal.τ) (Cert.NnIdeal.main (F := Ideal))) ⟨m, fun _ => 0, g⟩ (fun r => (∀ c : Dev Cert.NnIdeal.nD,
      r.2.mem ((c.tc : Thread Cert.NnIdeal.nD Cert.NnIdeal.τ).loc Cert.NnIdeal.main_arg0) = m ((c.tc : Thread Cert.NnIdeal.nD Cert.NnIdeal.τ).loc Cert.NnIdeal.main_arg0)
      ∧ r.2.mem ((c.tc : Thread Cert.NnIdeal.nD Cert.NnIdeal.τ).loc Cert.NnIdeal.main_arg1) = m ((c.tc : Thread Cert.NnIdeal.nD Cert.NnIdeal.τ).loc Cert.NnIdeal.main_arg1))
      ∧ r.2.sem = fun _ => 0)

def quiescent_NnRefIdeal [hNnRefIdeal : Cert.NnRefIdeal.Facts] : Prop :=
  ∀ (m : (ℓ : Loc Cert.NnRefIdeal.nD Cert.NnRefIdeal.τ Cert.NnRefIdeal.sig) → Buf (Elt Ideal) ℓ) (g : Dev Cert.NnRefIdeal.nD → PrngReg), Pre_NnRefIdeal m →
    θ_run (Cert.NnRefIdeal.defs (F := Ideal)) (onTc (τ := Cert.NnRefIdeal.τ) (Cert.NnRefIdeal.main (F := Ideal))) ⟨m, fun _ => 0, g⟩ (fun r => (∀ c : Dev Cert.NnRefIdeal.nD,
      r.2.mem ((c.tc : Thread Cert.NnRefIdeal.nD Cert.NnRefIdeal.τ).loc Cert.NnRefIdeal.main_arg0) = m ((c.tc : Thread Cert.NnRefIdeal.nD Cert.NnRefIdeal.τ).loc Cert.NnRefIdeal.main_arg0)
      ∧ r.2.mem ((c.tc : Thread Cert.NnRefIdeal.nD Cert.NnRefIdeal.τ).loc Cert.NnRefIdeal.main_arg1) = m ((c.tc : Thread Cert.NnRefIdeal.nD Cert.NnRefIdeal.τ).loc Cert.NnRefIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_Nt [hNt : Cert.Nt.Facts] : Prop :=
  ∀ (m : (ℓ : Loc Cert.Nt.nD Cert.Nt.τ Cert.Nt.sig) → Buf (Elt Bits) ℓ) (g : Dev Cert.Nt.nD → PrngReg), Pre_Nt m →
    θ_run (Cert.Nt.defs (F := Bits)) (onTc (τ := Cert.Nt.τ) (Cert.Nt.main (F := Bits))) ⟨m, fun _ => 0, g⟩ (fun r => (∀ c : Dev Cert.Nt.nD,
      r.2.mem ((c.tc : Thread Cert.Nt.nD Cert.Nt.τ).loc Cert.Nt.main_arg0) = m ((c.tc : Thread Cert.Nt.nD Cert.Nt.τ).loc Cert.Nt.main_arg0)
      ∧ r.2.mem ((c.tc : Thread Cert.Nt.nD Cert.Nt.τ).loc Cert.Nt.main_arg1) = m ((c.tc : Thread Cert.Nt.nD Cert.Nt.τ).loc Cert.Nt.main_arg1))
      ∧ r.2.sem = fun _ => 0)

def quiescent_NtIdeal [hNtIdeal : Cert.NtIdeal.Facts] : Prop :=
  ∀ (m : (ℓ : Loc Cert.NtIdeal.nD Cert.NtIdeal.τ Cert.NtIdeal.sig) → Buf (Elt Ideal) ℓ) (g : Dev Cert.NtIdeal.nD → PrngReg), Pre_NtIdeal m →
    θ_run (Cert.NtIdeal.defs (F := Ideal)) (onTc (τ := Cert.NtIdeal.τ) (Cert.NtIdeal.main (F := Ideal))) ⟨m, fun _ => 0, g⟩ (fun r => (∀ c : Dev Cert.NtIdeal.nD,
      r.2.mem ((c.tc : Thread Cert.NtIdeal.nD Cert.NtIdeal.τ).loc Cert.NtIdeal.main_arg0) = m ((c.tc : Thread Cert.NtIdeal.nD Cert.NtIdeal.τ).loc Cert.NtIdeal.main_arg0)
      ∧ r.2.mem ((c.tc : Thread Cert.NtIdeal.nD Cert.NtIdeal.τ).loc Cert.NtIdeal.main_arg1) = m ((c.tc : Thread Cert.NtIdeal.nD Cert.NtIdeal.τ).loc Cert.NtIdeal.main_arg1))
      ∧ r.2.sem = fun _ => 0)

def quiescent_NtRefIdeal [hNtRefIdeal : Cert.NtRefIdeal.Facts] : Prop :=
  ∀ (m : (ℓ : Loc Cert.NtRefIdeal.nD Cert.NtRefIdeal.τ Cert.NtRefIdeal.sig) → Buf (Elt Ideal) ℓ) (g : Dev Cert.NtRefIdeal.nD → PrngReg), Pre_NtRefIdeal m →
    θ_run (Cert.NtRefIdeal.defs (F := Ideal)) (onTc (τ := Cert.NtRefIdeal.τ) (Cert.NtRefIdeal.main (F := Ideal))) ⟨m, fun _ => 0, g⟩ (fun r => (∀ c : Dev Cert.NtRefIdeal.nD,
      r.2.mem ((c.tc : Thread Cert.NtRefIdeal.nD Cert.NtRefIdeal.τ).loc Cert.NtRefIdeal.main_arg0) = m ((c.tc : Thread Cert.NtRefIdeal.nD Cert.NtRefIdeal.τ).loc Cert.NtRefIdeal.main_arg0)
      ∧ r.2.mem ((c.tc : Thread Cert.NtRefIdeal.nD Cert.NtRefIdeal.τ).loc Cert.NtRefIdeal.main_arg1) = m ((c.tc : Thread Cert.NtRefIdeal.nD Cert.NtRefIdeal.τ).loc Cert.NtRefIdeal.main_arg1))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_TnPair [hTnPair : Cert.TnPair.Facts] : Prop :=
  ∀ (m : (ℓ : Loc Cert.TnPair.nD Cert.TnPair.τ Cert.TnPair.sig) → Buf (Elt Bits) ℓ) (g : Dev Cert.TnPair.nD → PrngReg), Pre_TnPair m →
    θ_run (Cert.TnPair.defs (F := Bits)) (onTc (τ := Cert.TnPair.τ) (Cert.TnPair.main (F := Bits))) ⟨m, fun _ => 0, g⟩ (fun r => (∀ c : Dev Cert.TnPair.nD,
      r.2.mem ((c.tc : Thread Cert.TnPair.nD Cert.TnPair.τ).loc Cert.TnPair.main_arg0) = m ((c.tc : Thread Cert.TnPair.nD Cert.TnPair.τ).loc Cert.TnPair.main_arg0)
      ∧ r.2.mem ((c.tc : Thread Cert.TnPair.nD Cert.TnPair.τ).loc Cert.TnPair.main_arg1) = m ((c.tc : Thread Cert.TnPair.nD Cert.TnPair.τ).loc Cert.TnPair.main_arg1))
      ∧ r.2.sem = fun _ => 0)

def quiescent_TnPairIdeal [hTnPairIdeal : Cert.TnPairIdeal.Facts] : Prop :=
  ∀ (m : (ℓ : Loc Cert.TnPairIdeal.nD Cert.TnPairIdeal.τ Cert.TnPairIdeal.sig) → Buf (Elt Ideal) ℓ) (g : Dev Cert.TnPairIdeal.nD → PrngReg), Pre_TnPairIdeal m →
    θ_run (Cert.TnPairIdeal.defs (F := Ideal)) (onTc (τ := Cert.TnPairIdeal.τ) (Cert.TnPairIdeal.main (F := Ideal))) ⟨m, fun _ => 0, g⟩ (fun r => (∀ c : Dev Cert.TnPairIdeal.nD,
      r.2.mem ((c.tc : Thread Cert.TnPairIdeal.nD Cert.TnPairIdeal.τ).loc Cert.TnPairIdeal.main_arg0) = m ((c.tc : Thread Cert.TnPairIdeal.nD Cert.TnPairIdeal.τ).loc Cert.TnPairIdeal.main_arg0)
      ∧ r.2.mem ((c.tc : Thread Cert.TnPairIdeal.nD Cert.TnPairIdeal.τ).loc Cert.TnPairIdeal.main_arg1) = m ((c.tc : Thread Cert.TnPairIdeal.nD Cert.TnPairIdeal.τ).loc Cert.TnPairIdeal.main_arg1))
      ∧ r.2.sem = fun _ => 0)

def quiescent_TnPairRefIdeal [hTnPairRefIdeal : Cert.TnPairRefIdeal.Facts] : Prop :=
  ∀ (m : (ℓ : Loc Cert.TnPairRefIdeal.nD Cert.TnPairRefIdeal.τ Cert.TnPairRefIdeal.sig) → Buf (Elt Ideal) ℓ) (g : Dev Cert.TnPairRefIdeal.nD → PrngReg), Pre_TnPairRefIdeal m →
    θ_run (Cert.TnPairRefIdeal.defs (F := Ideal)) (onTc (τ := Cert.TnPairRefIdeal.τ) (Cert.TnPairRefIdeal.main (F := Ideal))) ⟨m, fun _ => 0, g⟩ (fun r => (∀ c : Dev Cert.TnPairRefIdeal.nD,
      r.2.mem ((c.tc : Thread Cert.TnPairRefIdeal.nD Cert.TnPairRefIdeal.τ).loc Cert.TnPairRefIdeal.main_arg0) = m ((c.tc : Thread Cert.TnPairRefIdeal.nD Cert.TnPairRefIdeal.τ).loc Cert.TnPairRefIdeal.main_arg0)
      ∧ r.2.mem ((c.tc : Thread Cert.TnPairRefIdeal.nD Cert.TnPairRefIdeal.τ).loc Cert.TnPairRefIdeal.main_arg1) = m ((c.tc : Thread Cert.TnPairRefIdeal.nD Cert.TnPairRefIdeal.τ).loc Cert.TnPairRefIdeal.main_arg1))
      ∧ r.2.sem = fun _ => 0)

def quiescent_NtHalves [hNtHalves : Cert.NtHalves.Facts] : Prop :=
  ∀ (m : (ℓ : Loc Cert.NtHalves.nD Cert.NtHalves.τ Cert.NtHalves.sig) → Buf (Elt Bits) ℓ) (g : Dev Cert.NtHalves.nD → PrngReg), Pre_NtHalves m →
    θ_run (Cert.NtHalves.defs (F := Bits)) (onTc (τ := Cert.NtHalves.τ) (Cert.NtHalves.main (F := Bits))) ⟨m, fun _ => 0, g⟩ (fun r => (∀ c : Dev Cert.NtHalves.nD,
      r.2.mem ((c.tc : Thread Cert.NtHalves.nD Cert.NtHalves.τ).loc Cert.NtHalves.main_arg0) = m ((c.tc : Thread Cert.NtHalves.nD Cert.NtHalves.τ).loc Cert.NtHalves.main_arg0)
      ∧ r.2.mem ((c.tc : Thread Cert.NtHalves.nD Cert.NtHalves.τ).loc Cert.NtHalves.main_arg1) = m ((c.tc : Thread Cert.NtHalves.nD Cert.NtHalves.τ).loc Cert.NtHalves.main_arg1))
      ∧ r.2.sem = fun _ => 0)

def quiescent_NtHalvesIdeal [hNtHalvesIdeal : Cert.NtHalvesIdeal.Facts] : Prop :=
  ∀ (m : (ℓ : Loc Cert.NtHalvesIdeal.nD Cert.NtHalvesIdeal.τ Cert.NtHalvesIdeal.sig) → Buf (Elt Ideal) ℓ) (g : Dev Cert.NtHalvesIdeal.nD → PrngReg), Pre_NtHalvesIdeal m →
    θ_run (Cert.NtHalvesIdeal.defs (F := Ideal)) (onTc (τ := Cert.NtHalvesIdeal.τ) (Cert.NtHalvesIdeal.main (F := Ideal))) ⟨m, fun _ => 0, g⟩ (fun r => (∀ c : Dev Cert.NtHalvesIdeal.nD,
      r.2.mem ((c.tc : Thread Cert.NtHalvesIdeal.nD Cert.NtHalvesIdeal.τ).loc Cert.NtHalvesIdeal.main_arg0) = m ((c.tc : Thread Cert.NtHalvesIdeal.nD Cert.NtHalvesIdeal.τ).loc Cert.NtHalvesIdeal.main_arg0)
      ∧ r.2.mem ((c.tc : Thread Cert.NtHalvesIdeal.nD Cert.NtHalvesIdeal.τ).loc Cert.NtHalvesIdeal.main_arg1) = m ((c.tc : Thread Cert.NtHalvesIdeal.nD Cert.NtHalvesIdeal.τ).loc Cert.NtHalvesIdeal.main_arg1))
      ∧ r.2.sem = fun _ => 0)

def quiescent_NtHalvesRefIdeal [hNtHalvesRefIdeal : Cert.NtHalvesRefIdeal.Facts] : Prop :=
  ∀ (m : (ℓ : Loc Cert.NtHalvesRefIdeal.nD Cert.NtHalvesRefIdeal.τ Cert.NtHalvesRefIdeal.sig) → Buf (Elt Ideal) ℓ) (g : Dev Cert.NtHalvesRefIdeal.nD → PrngReg), Pre_NtHalvesRefIdeal m →
    θ_run (Cert.NtHalvesRefIdeal.defs (F := Ideal)) (onTc (τ := Cert.NtHalvesRefIdeal.τ) (Cert.NtHalvesRefIdeal.main (F := Ideal))) ⟨m, fun _ => 0, g⟩ (fun r => (∀ c : Dev Cert.NtHalvesRefIdeal.nD,
      r.2.mem ((c.tc : Thread Cert.NtHalvesRefIdeal.nD Cert.NtHalvesRefIdeal.τ).loc Cert.NtHalvesRefIdeal.main_arg0) = m ((c.tc : Thread Cert.NtHalvesRefIdeal.nD Cert.NtHalvesRefIdeal.τ).loc Cert.NtHalvesRefIdeal.main_arg0)
      ∧ r.2.mem ((c.tc : Thread Cert.NtHalvesRefIdeal.nD Cert.NtHalvesRefIdeal.τ).loc Cert.NtHalvesRefIdeal.main_arg1) = m ((c.tc : Thread Cert.NtHalvesRefIdeal.nD Cert.NtHalvesRefIdeal.τ).loc Cert.NtHalvesRefIdeal.main_arg1))
      ∧ r.2.sem = fun _ => 0)

def quiescent_TnHalf [hTnHalf : Cert.TnHalf.Facts] : Prop :=
  ∀ (m : (ℓ : Loc Cert.TnHalf.nD Cert.TnHalf.τ Cert.TnHalf.sig) → Buf (Elt Bits) ℓ) (g : Dev Cert.TnHalf.nD → PrngReg), Pre_TnHalf m →
    θ_run (Cert.TnHalf.defs (F := Bits)) (onTc (τ := Cert.TnHalf.τ) (Cert.TnHalf.main (F := Bits))) ⟨m, fun _ => 0, g⟩ (fun r => (∀ c : Dev Cert.TnHalf.nD,
      r.2.mem ((c.tc : Thread Cert.TnHalf.nD Cert.TnHalf.τ).loc Cert.TnHalf.main_arg0) = m ((c.tc : Thread Cert.TnHalf.nD Cert.TnHalf.τ).loc Cert.TnHalf.main_arg0)
      ∧ r.2.mem ((c.tc : Thread Cert.TnHalf.nD Cert.TnHalf.τ).loc Cert.TnHalf.main_arg1) = m ((c.tc : Thread Cert.TnHalf.nD Cert.TnHalf.τ).loc Cert.TnHalf.main_arg1))
      ∧ r.2.sem = fun _ => 0)

def quiescent_TnHalfIdeal [hTnHalfIdeal : Cert.TnHalfIdeal.Facts] : Prop :=
  ∀ (m : (ℓ : Loc Cert.TnHalfIdeal.nD Cert.TnHalfIdeal.τ Cert.TnHalfIdeal.sig) → Buf (Elt Ideal) ℓ) (g : Dev Cert.TnHalfIdeal.nD → PrngReg), Pre_TnHalfIdeal m →
    θ_run (Cert.TnHalfIdeal.defs (F := Ideal)) (onTc (τ := Cert.TnHalfIdeal.τ) (Cert.TnHalfIdeal.main (F := Ideal))) ⟨m, fun _ => 0, g⟩ (fun r => (∀ c : Dev Cert.TnHalfIdeal.nD,
      r.2.mem ((c.tc : Thread Cert.TnHalfIdeal.nD Cert.TnHalfIdeal.τ).loc Cert.TnHalfIdeal.main_arg0) = m ((c.tc : Thread Cert.TnHalfIdeal.nD Cert.TnHalfIdeal.τ).loc Cert.TnHalfIdeal.main_arg0)
      ∧ r.2.mem ((c.tc : Thread Cert.TnHalfIdeal.nD Cert.TnHalfIdeal.τ).loc Cert.TnHalfIdeal.main_arg1) = m ((c.tc : Thread Cert.TnHalfIdeal.nD Cert.TnHalfIdeal.τ).loc Cert.TnHalfIdeal.main_arg1))
      ∧ r.2.sem = fun _ => 0)

def quiescent_TnHalfRefIdeal [hTnHalfRefIdeal : Cert.TnHalfRefIdeal.Facts] : Prop :=
  ∀ (m : (ℓ : Loc Cert.TnHalfRefIdeal.nD Cert.TnHalfRefIdeal.τ Cert.TnHalfRefIdeal.sig) → Buf (Elt Ideal) ℓ) (g : Dev Cert.TnHalfRefIdeal.nD → PrngReg), Pre_TnHalfRefIdeal m →
    θ_run (Cert.TnHalfRefIdeal.defs (F := Ideal)) (onTc (τ := Cert.TnHalfRefIdeal.τ) (Cert.TnHalfRefIdeal.main (F := Ideal))) ⟨m, fun _ => 0, g⟩ (fun r => (∀ c : Dev Cert.TnHalfRefIdeal.nD,
      r.2.mem ((c.tc : Thread Cert.TnHalfRefIdeal.nD Cert.TnHalfRefIdeal.τ).loc Cert.TnHalfRefIdeal.main_arg0) = m ((c.tc : Thread Cert.TnHalfRefIdeal.nD Cert.TnHalfRefIdeal.τ).loc Cert.TnHalfRefIdeal.main_arg0)
      ∧ r.2.mem ((c.tc : Thread Cert.TnHalfRefIdeal.nD Cert.TnHalfRefIdeal.τ).loc Cert.TnHalfRefIdeal.main_arg1) = m ((c.tc : Thread Cert.TnHalfRefIdeal.nD Cert.TnHalfRefIdeal.τ).loc Cert.TnHalfRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_PairAdd [hPairAdd : Cert.PairAdd.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1))
      ∧ r.2.sem = fun _ => 0)

def quiescent_PairAddIdeal [hPairAddIdeal : Cert.PairAddIdeal.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1))
      ∧ r.2.sem = fun _ => 0)

def quiescent_PairAddRefIdeal [hPairAddRefIdeal : Cert.PairAddRefIdeal.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1))
      ∧ r.2.sem = fun _ => 0)

def quiescent_Packed [hPacked : Cert.Packed.Facts] : Prop :=
  ∀ (m : (ℓ : Loc Cert.Packed.nD Cert.Packed.τ Cert.Packed.sig) → Buf (Elt Bits) ℓ) (g : Dev Cert.Packed.nD → PrngReg), Pre_Packed m →
    θ_run (Cert.Packed.defs (F := Bits)) (onTc (τ := Cert.Packed.τ) (Cert.Packed.main (F := Bits))) ⟨m, fun _ => 0, g⟩ (fun r => (∀ c : Dev Cert.Packed.nD,
      r.2.mem ((c.tc : Thread Cert.Packed.nD Cert.Packed.τ).loc Cert.Packed.main_arg0) = m ((c.tc : Thread Cert.Packed.nD Cert.Packed.τ).loc Cert.Packed.main_arg0)
      ∧ r.2.mem ((c.tc : Thread Cert.Packed.nD Cert.Packed.τ).loc Cert.Packed.main_arg1) = m ((c.tc : Thread Cert.Packed.nD Cert.Packed.τ).loc Cert.Packed.main_arg1)
      ∧ r.2.mem ((c.tc : Thread Cert.Packed.nD Cert.Packed.τ).loc Cert.Packed.main_arg2) = m ((c.tc : Thread Cert.Packed.nD Cert.Packed.τ).loc Cert.Packed.main_arg2)
      ∧ r.2.mem ((c.tc : Thread Cert.Packed.nD Cert.Packed.τ).loc Cert.Packed.main_arg3) = m ((c.tc : Thread Cert.Packed.nD Cert.Packed.τ).loc Cert.Packed.main_arg3)
      ∧ r.2.mem ((c.tc : Thread Cert.Packed.nD Cert.Packed.τ).loc Cert.Packed.main_arg4) = m ((c.tc : Thread Cert.Packed.nD Cert.Packed.τ).loc Cert.Packed.main_arg4)
      ∧ r.2.mem ((c.tc : Thread Cert.Packed.nD Cert.Packed.τ).loc Cert.Packed.main_arg5) = m ((c.tc : Thread Cert.Packed.nD Cert.Packed.τ).loc Cert.Packed.main_arg5)
      ∧ r.2.mem ((c.tc : Thread Cert.Packed.nD Cert.Packed.τ).loc Cert.Packed.main_arg6) = m ((c.tc : Thread Cert.Packed.nD Cert.Packed.τ).loc Cert.Packed.main_arg6)
      ∧ r.2.mem ((c.tc : Thread Cert.Packed.nD Cert.Packed.τ).loc Cert.Packed.main_arg7) = m ((c.tc : Thread Cert.Packed.nD Cert.Packed.τ).loc Cert.Packed.main_arg7)
      ∧ r.2.mem ((c.tc : Thread Cert.Packed.nD Cert.Packed.τ).loc Cert.Packed.main_arg8) = m ((c.tc : Thread Cert.Packed.nD Cert.Packed.τ).loc Cert.Packed.main_arg8)
      ∧ r.2.mem ((c.tc : Thread Cert.Packed.nD Cert.Packed.τ).loc Cert.Packed.main_arg9) = m ((c.tc : Thread Cert.Packed.nD Cert.Packed.τ).loc Cert.Packed.main_arg9)
      ∧ r.2.mem ((c.tc : Thread Cert.Packed.nD Cert.Packed.τ).loc Cert.Packed.main_arg10) = m ((c.tc : Thread Cert.Packed.nD Cert.Packed.τ).loc Cert.Packed.main_arg10))
      ∧ r.2.sem = fun _ => 0)

def quiescent_PackedIdeal [hPackedIdeal : Cert.PackedIdeal.Facts] : Prop :=
  ∀ (m : (ℓ : Loc Cert.PackedIdeal.nD Cert.PackedIdeal.τ Cert.PackedIdeal.sig) → Buf (Elt Ideal) ℓ) (g : Dev Cert.PackedIdeal.nD → PrngReg), Pre_PackedIdeal m →
    θ_run (Cert.PackedIdeal.defs (F := Ideal)) (onTc (τ := Cert.PackedIdeal.τ) (Cert.PackedIdeal.main (F := Ideal))) ⟨m, fun _ => 0, g⟩ (fun r => (∀ c : Dev Cert.PackedIdeal.nD,
      r.2.mem ((c.tc : Thread Cert.PackedIdeal.nD Cert.PackedIdeal.τ).loc Cert.PackedIdeal.main_arg0) = m ((c.tc : Thread Cert.PackedIdeal.nD Cert.PackedIdeal.τ).loc Cert.PackedIdeal.main_arg0)
      ∧ r.2.mem ((c.tc : Thread Cert.PackedIdeal.nD Cert.PackedIdeal.τ).loc Cert.PackedIdeal.main_arg1) = m ((c.tc : Thread Cert.PackedIdeal.nD Cert.PackedIdeal.τ).loc Cert.PackedIdeal.main_arg1)
      ∧ r.2.mem ((c.tc : Thread Cert.PackedIdeal.nD Cert.PackedIdeal.τ).loc Cert.PackedIdeal.main_arg2) = m ((c.tc : Thread Cert.PackedIdeal.nD Cert.PackedIdeal.τ).loc Cert.PackedIdeal.main_arg2)
      ∧ r.2.mem ((c.tc : Thread Cert.PackedIdeal.nD Cert.PackedIdeal.τ).loc Cert.PackedIdeal.main_arg3) = m ((c.tc : Thread Cert.PackedIdeal.nD Cert.PackedIdeal.τ).loc Cert.PackedIdeal.main_arg3)
      ∧ r.2.mem ((c.tc : Thread Cert.PackedIdeal.nD Cert.PackedIdeal.τ).loc Cert.PackedIdeal.main_arg4) = m ((c.tc : Thread Cert.PackedIdeal.nD Cert.PackedIdeal.τ).loc Cert.PackedIdeal.main_arg4)
      ∧ r.2.mem ((c.tc : Thread Cert.PackedIdeal.nD Cert.PackedIdeal.τ).loc Cert.PackedIdeal.main_arg5) = m ((c.tc : Thread Cert.PackedIdeal.nD Cert.PackedIdeal.τ).loc Cert.PackedIdeal.main_arg5)
      ∧ r.2.mem ((c.tc : Thread Cert.PackedIdeal.nD Cert.PackedIdeal.τ).loc Cert.PackedIdeal.main_arg6) = m ((c.tc : Thread Cert.PackedIdeal.nD Cert.PackedIdeal.τ).loc Cert.PackedIdeal.main_arg6)
      ∧ r.2.mem ((c.tc : Thread Cert.PackedIdeal.nD Cert.PackedIdeal.τ).loc Cert.PackedIdeal.main_arg7) = m ((c.tc : Thread Cert.PackedIdeal.nD Cert.PackedIdeal.τ).loc Cert.PackedIdeal.main_arg7)
      ∧ r.2.mem ((c.tc : Thread Cert.PackedIdeal.nD Cert.PackedIdeal.τ).loc Cert.PackedIdeal.main_arg8) = m ((c.tc : Thread Cert.PackedIdeal.nD Cert.PackedIdeal.τ).loc Cert.PackedIdeal.main_arg8)
      ∧ r.2.mem ((c.tc : Thread Cert.PackedIdeal.nD Cert.PackedIdeal.τ).loc Cert.PackedIdeal.main_arg9) = m ((c.tc : Thread Cert.PackedIdeal.nD Cert.PackedIdeal.τ).loc Cert.PackedIdeal.main_arg9)
      ∧ r.2.mem ((c.tc : Thread Cert.PackedIdeal.nD Cert.PackedIdeal.τ).loc Cert.PackedIdeal.main_arg10) = m ((c.tc : Thread Cert.PackedIdeal.nD Cert.PackedIdeal.τ).loc Cert.PackedIdeal.main_arg10))
      ∧ r.2.sem = fun _ => 0)

def quiescent_PackedRefIdeal [hPackedRefIdeal : Cert.PackedRefIdeal.Facts] : Prop :=
  ∀ (m : (ℓ : Loc Cert.PackedRefIdeal.nD Cert.PackedRefIdeal.τ Cert.PackedRefIdeal.sig) → Buf (Elt Ideal) ℓ) (g : Dev Cert.PackedRefIdeal.nD → PrngReg), Pre_PackedRefIdeal m →
    θ_run (Cert.PackedRefIdeal.defs (F := Ideal)) (onTc (τ := Cert.PackedRefIdeal.τ) (Cert.PackedRefIdeal.main (F := Ideal))) ⟨m, fun _ => 0, g⟩ (fun r => (∀ c : Dev Cert.PackedRefIdeal.nD,
      r.2.mem ((c.tc : Thread Cert.PackedRefIdeal.nD Cert.PackedRefIdeal.τ).loc Cert.PackedRefIdeal.main_arg0) = m ((c.tc : Thread Cert.PackedRefIdeal.nD Cert.PackedRefIdeal.τ).loc Cert.PackedRefIdeal.main_arg0)
      ∧ r.2.mem ((c.tc : Thread Cert.PackedRefIdeal.nD Cert.PackedRefIdeal.τ).loc Cert.PackedRefIdeal.main_arg1) = m ((c.tc : Thread Cert.PackedRefIdeal.nD Cert.PackedRefIdeal.τ).loc Cert.PackedRefIdeal.main_arg1)
      ∧ r.2.mem ((c.tc : Thread Cert.PackedRefIdeal.nD Cert.PackedRefIdeal.τ).loc Cert.PackedRefIdeal.main_arg2) = m ((c.tc : Thread Cert.PackedRefIdeal.nD Cert.PackedRefIdeal.τ).loc Cert.PackedRefIdeal.main_arg2)
      ∧ r.2.mem ((c.tc : Thread Cert.PackedRefIdeal.nD Cert.PackedRefIdeal.τ).loc Cert.PackedRefIdeal.main_arg3) = m ((c.tc : Thread Cert.PackedRefIdeal.nD Cert.PackedRefIdeal.τ).loc Cert.PackedRefIdeal.main_arg3)
      ∧ r.2.mem ((c.tc : Thread Cert.PackedRefIdeal.nD Cert.PackedRefIdeal.τ).loc Cert.PackedRefIdeal.main_arg4) = m ((c.tc : Thread Cert.PackedRefIdeal.nD Cert.PackedRefIdeal.τ).loc Cert.PackedRefIdeal.main_arg4)
      ∧ r.2.mem ((c.tc : Thread Cert.PackedRefIdeal.nD Cert.PackedRefIdeal.τ).loc Cert.PackedRefIdeal.main_arg5) = m ((c.tc : Thread Cert.PackedRefIdeal.nD Cert.PackedRefIdeal.τ).loc Cert.PackedRefIdeal.main_arg5)
      ∧ r.2.mem ((c.tc : Thread Cert.PackedRefIdeal.nD Cert.PackedRefIdeal.τ).loc Cert.PackedRefIdeal.main_arg6) = m ((c.tc : Thread Cert.PackedRefIdeal.nD Cert.PackedRefIdeal.τ).loc Cert.PackedRefIdeal.main_arg6)
      ∧ r.2.mem ((c.tc : Thread Cert.PackedRefIdeal.nD Cert.PackedRefIdeal.τ).loc Cert.PackedRefIdeal.main_arg7) = m ((c.tc : Thread Cert.PackedRefIdeal.nD Cert.PackedRefIdeal.τ).loc Cert.PackedRefIdeal.main_arg7)
      ∧ r.2.mem ((c.tc : Thread Cert.PackedRefIdeal.nD Cert.PackedRefIdeal.τ).loc Cert.PackedRefIdeal.main_arg8) = m ((c.tc : Thread Cert.PackedRefIdeal.nD Cert.PackedRefIdeal.τ).loc Cert.PackedRefIdeal.main_arg8)
      ∧ r.2.mem ((c.tc : Thread Cert.PackedRefIdeal.nD Cert.PackedRefIdeal.τ).loc Cert.PackedRefIdeal.main_arg9) = m ((c.tc : Thread Cert.PackedRefIdeal.nD Cert.PackedRefIdeal.τ).loc Cert.PackedRefIdeal.main_arg9)
      ∧ r.2.mem ((c.tc : Thread Cert.PackedRefIdeal.nD Cert.PackedRefIdeal.τ).loc Cert.PackedRefIdeal.main_arg10) = m ((c.tc : Thread Cert.PackedRefIdeal.nD Cert.PackedRefIdeal.τ).loc Cert.PackedRefIdeal.main_arg10))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3)
      ∧ r.2.mem ((c.tc : Thread Cert.AdamwSmall.nD Cert.AdamwSmall.τ).loc Cert.AdamwSmall.main_arg4) = m ((c.tc : Thread Cert.AdamwSmall.nD Cert.AdamwSmall.τ).loc Cert.AdamwSmall.main_arg4)
      ∧ r.2.mem ((c.tc : Thread Cert.AdamwSmall.nD Cert.AdamwSmall.τ).loc Cert.AdamwSmall.main_arg5) = m ((c.tc : Thread Cert.AdamwSmall.nD Cert.AdamwSmall.τ).loc Cert.AdamwSmall.main_arg5)
      ∧ r.2.mem ((c.tc : Thread Cert.AdamwSmall.nD Cert.AdamwSmall.τ).loc Cert.AdamwSmall.main_arg6) = m ((c.tc : Thread Cert.AdamwSmall.nD Cert.AdamwSmall.τ).loc Cert.AdamwSmall.main_arg6)
      ∧ r.2.mem ((c.tc : Thread Cert.AdamwSmall.nD Cert.AdamwSmall.τ).loc Cert.AdamwSmall.main_arg7) = m ((c.tc : Thread Cert.AdamwSmall.nD Cert.AdamwSmall.τ).loc Cert.AdamwSmall.main_arg7)
      ∧ r.2.mem ((c.tc : Thread Cert.AdamwSmall.nD Cert.AdamwSmall.τ).loc Cert.AdamwSmall.main_arg8) = m ((c.tc : Thread Cert.AdamwSmall.nD Cert.AdamwSmall.τ).loc Cert.AdamwSmall.main_arg8)
      ∧ r.2.mem ((c.tc : Thread Cert.AdamwSmall.nD Cert.AdamwSmall.τ).loc Cert.AdamwSmall.main_arg9) = m ((c.tc : Thread Cert.AdamwSmall.nD Cert.AdamwSmall.τ).loc Cert.AdamwSmall.main_arg9)
      ∧ r.2.mem ((c.tc : Thread Cert.AdamwSmall.nD Cert.AdamwSmall.τ).loc Cert.AdamwSmall.main_arg10) = m ((c.tc : Thread Cert.AdamwSmall.nD Cert.AdamwSmall.τ).loc Cert.AdamwSmall.main_arg10)
      ∧ r.2.mem ((c.tc : Thread Cert.AdamwSmall.nD Cert.AdamwSmall.τ).loc Cert.AdamwSmall.main_arg11) = m ((c.tc : Thread Cert.AdamwSmall.nD Cert.AdamwSmall.τ).loc Cert.AdamwSmall.main_arg11)
      ∧ r.2.mem ((c.tc : Thread Cert.AdamwSmall.nD Cert.AdamwSmall.τ).loc Cert.AdamwSmall.main_arg12) = m ((c.tc : Thread Cert.AdamwSmall.nD Cert.AdamwSmall.τ).loc Cert.AdamwSmall.main_arg12)
      ∧ r.2.mem ((c.tc : Thread Cert.AdamwSmall.nD Cert.AdamwSmall.τ).loc Cert.AdamwSmall.main_arg13) = m ((c.tc : Thread Cert.AdamwSmall.nD Cert.AdamwSmall.τ).loc Cert.AdamwSmall.main_arg13)
      ∧ r.2.mem ((c.tc : Thread Cert.AdamwSmall.nD Cert.AdamwSmall.τ).loc Cert.AdamwSmall.main_arg14) = m ((c.tc : Thread Cert.AdamwSmall.nD Cert.AdamwSmall.τ).loc Cert.AdamwSmall.main_arg14)
      ∧ r.2.mem ((c.tc : Thread Cert.AdamwSmall.nD Cert.AdamwSmall.τ).loc Cert.AdamwSmall.main_arg15) = m ((c.tc : Thread Cert.AdamwSmall.nD Cert.AdamwSmall.τ).loc Cert.AdamwSmall.main_arg15)
      ∧ r.2.mem ((c.tc : Thread Cert.AdamwSmall.nD Cert.AdamwSmall.τ).loc Cert.AdamwSmall.main_arg16) = m ((c.tc : Thread Cert.AdamwSmall.nD Cert.AdamwSmall.τ).loc Cert.AdamwSmall.main_arg16)
      ∧ r.2.mem ((c.tc : Thread Cert.AdamwSmall.nD Cert.AdamwSmall.τ).loc Cert.AdamwSmall.main_arg17) = m ((c.tc : Thread Cert.AdamwSmall.nD Cert.AdamwSmall.τ).loc Cert.AdamwSmall.main_arg17)
      ∧ r.2.mem ((c.tc : Thread Cert.AdamwSmall.nD Cert.AdamwSmall.τ).loc Cert.AdamwSmall.main_arg18) = m ((c.tc : Thread Cert.AdamwSmall.nD Cert.AdamwSmall.τ).loc Cert.AdamwSmall.main_arg18)
      ∧ r.2.mem ((c.tc : Thread Cert.AdamwSmall.nD Cert.AdamwSmall.τ).loc Cert.AdamwSmall.main_arg19) = m ((c.tc : Thread Cert.AdamwSmall.nD Cert.AdamwSmall.τ).loc Cert.AdamwSmall.main_arg19)
      ∧ r.2.mem ((c.tc : Thread Cert.AdamwSmall.nD Cert.AdamwSmall.τ).loc Cert.AdamwSmall.main_arg20) = m ((c.tc : Thread Cert.AdamwSmall.nD Cert.AdamwSmall.τ).loc Cert.AdamwSmall.main_arg20)
      ∧ r.2.mem ((c.tc : Thread Cert.AdamwSmall.nD Cert.AdamwSmall.τ).loc Cert.AdamwSmall.main_arg21) = m ((c.tc : Thread Cert.AdamwSmall.nD Cert.AdamwSmall.τ).loc Cert.AdamwSmall.main_arg21)
      ∧ r.2.mem ((c.tc : Thread Cert.AdamwSmall.nD Cert.AdamwSmall.τ).loc Cert.AdamwSmall.main_arg22) = m ((c.tc : Thread Cert.AdamwSmall.nD Cert.AdamwSmall.τ).loc Cert.AdamwSmall.main_arg22)
      ∧ r.2.mem ((c.tc : Thread Cert.AdamwSmall.nD Cert.AdamwSmall.τ).loc Cert.AdamwSmall.main_arg23) = m ((c.tc : Thread Cert.AdamwSmall.nD Cert.AdamwSmall.τ).loc Cert.AdamwSmall.main_arg23)
      ∧ r.2.mem ((c.tc : Thread Cert.AdamwSmall.nD Cert.AdamwSmall.τ).loc Cert.AdamwSmall.main_arg24) = m ((c.tc : Thread Cert.AdamwSmall.nD Cert.AdamwSmall.τ).loc Cert.AdamwSmall.main_arg24)
      ∧ r.2.mem ((c.tc : Thread Cert.AdamwSmall.nD Cert.AdamwSmall.τ).loc Cert.AdamwSmall.main_arg25) = m ((c.tc : Thread Cert.AdamwSmall.nD Cert.AdamwSmall.τ).loc Cert.AdamwSmall.main_arg25)
      ∧ r.2.mem ((c.tc : Thread Cert.AdamwSmall.nD Cert.AdamwSmall.τ).loc Cert.AdamwSmall.main_arg26) = m ((c.tc : Thread Cert.AdamwSmall.nD Cert.AdamwSmall.τ).loc Cert.AdamwSmall.main_arg26)
      ∧ r.2.mem ((c.tc : Thread Cert.AdamwSmall.nD Cert.AdamwSmall.τ).loc Cert.AdamwSmall.main_arg27) = m ((c.tc : Thread Cert.AdamwSmall.nD Cert.AdamwSmall.τ).loc Cert.AdamwSmall.main_arg27)
      ∧ r.2.mem ((c.tc : Thread Cert.AdamwSmall.nD Cert.AdamwSmall.τ).loc Cert.AdamwSmall.main_arg28) = m ((c.tc : Thread Cert.AdamwSmall.nD Cert.AdamwSmall.τ).loc Cert.AdamwSmall.main_arg28)
      ∧ r.2.mem ((c.tc : Thread Cert.AdamwSmall.nD Cert.AdamwSmall.τ).loc Cert.AdamwSmall.main_arg29) = m ((c.tc : Thread Cert.AdamwSmall.nD Cert.AdamwSmall.τ).loc Cert.AdamwSmall.main_arg29)
      ∧ r.2.mem ((c.tc : Thread Cert.AdamwSmall.nD Cert.AdamwSmall.τ).loc Cert.AdamwSmall.main_arg30) = m ((c.tc : Thread Cert.AdamwSmall.nD Cert.AdamwSmall.τ).loc Cert.AdamwSmall.main_arg30)
      ∧ r.2.mem ((c.tc : Thread Cert.AdamwSmall.nD Cert.AdamwSmall.τ).loc Cert.AdamwSmall.main_arg31) = m ((c.tc : Thread Cert.AdamwSmall.nD Cert.AdamwSmall.τ).loc Cert.AdamwSmall.main_arg31)
      ∧ r.2.mem ((c.tc : Thread Cert.AdamwSmall.nD Cert.AdamwSmall.τ).loc Cert.AdamwSmall.main_arg32) = m ((c.tc : Thread Cert.AdamwSmall.nD Cert.AdamwSmall.τ).loc Cert.AdamwSmall.main_arg32)
      ∧ r.2.mem ((c.tc : Thread Cert.AdamwSmall.nD Cert.AdamwSmall.τ).loc Cert.AdamwSmall.main_arg33) = m ((c.tc : Thread Cert.AdamwSmall.nD Cert.AdamwSmall.τ).loc Cert.AdamwSmall.main_arg33)
      ∧ r.2.mem ((c.tc : Thread Cert.AdamwSmall.nD Cert.AdamwSmall.τ).loc Cert.AdamwSmall.main_arg34) = m ((c.tc : Thread Cert.AdamwSmall.nD Cert.AdamwSmall.τ).loc Cert.AdamwSmall.main_arg34)
      ∧ r.2.mem ((c.tc : Thread Cert.AdamwSmall.nD Cert.AdamwSmall.τ).loc Cert.AdamwSmall.main_arg35) = m ((c.tc : Thread Cert.AdamwSmall.nD Cert.AdamwSmall.τ).loc Cert.AdamwSmall.main_arg35)
      ∧ r.2.mem ((c.tc : Thread Cert.AdamwSmall.nD Cert.AdamwSmall.τ).loc Cert.AdamwSmall.main_arg36) = m ((c.tc : Thread Cert.AdamwSmall.nD Cert.AdamwSmall.τ).loc Cert.AdamwSmall.main_arg36)
      ∧ r.2.mem ((c.tc : Thread Cert.AdamwSmall.nD Cert.AdamwSmall.τ).loc Cert.AdamwSmall.main_arg37) = m ((c.tc : Thread Cert.AdamwSmall.nD Cert.AdamwSmall.τ).loc Cert.AdamwSmall.main_arg37)
      ∧ r.2.mem ((c.tc : Thread Cert.AdamwSmall.nD Cert.AdamwSmall.τ).loc Cert.AdamwSmall.main_arg38) = m ((c.tc : Thread Cert.AdamwSmall.nD Cert.AdamwSmall.τ).loc Cert.AdamwSmall.main_arg38)
      ∧ r.2.mem ((c.tc : Thread Cert.AdamwSmall.nD Cert.AdamwSmall.τ).loc Cert.AdamwSmall.main_arg39) = m ((c.tc : Thread Cert.AdamwSmall.nD Cert.AdamwSmall.τ).loc Cert.AdamwSmall.main_arg39)
      ∧ r.2.mem ((c.tc : Thread Cert.AdamwSmall.nD Cert.AdamwSmall.τ).loc Cert.AdamwSmall.main_arg40) = m ((c.tc : Thread Cert.AdamwSmall.nD Cert.AdamwSmall.τ).loc Cert.AdamwSmall.main_arg40)
      ∧ r.2.mem ((c.tc : Thread Cert.AdamwSmall.nD Cert.AdamwSmall.τ).loc Cert.AdamwSmall.main_arg41) = m ((c.tc : Thread Cert.AdamwSmall.nD Cert.AdamwSmall.τ).loc Cert.AdamwSmall.main_arg41)
      ∧ r.2.mem ((c.tc : Thread Cert.AdamwSmall.nD Cert.AdamwSmall.τ).loc Cert.AdamwSmall.main_arg42) = m ((c.tc : Thread Cert.AdamwSmall.nD Cert.AdamwSmall.τ).loc Cert.AdamwSmall.main_arg42)
      ∧ r.2.mem ((c.tc : Thread Cert.AdamwSmall.nD Cert.AdamwSmall.τ).loc Cert.AdamwSmall.main_arg43) = m ((c.tc : Thread Cert.AdamwSmall.nD Cert.AdamwSmall.τ).loc Cert.AdamwSmall.main_arg43))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
      ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
      ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
      ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
      ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
      ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
      ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
      ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
      ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11)
      ∧ r.2.mem ((c.tc : Thread Cert.AdamwSmallIdeal.nD Cert.AdamwSmallIdeal.τ).loc Cert.AdamwSmallIdeal.main_arg12) = m ((c.tc : Thread Cert.AdamwSmallIdeal.nD Cert.AdamwSmallIdeal.τ).loc Cert.AdamwSmallIdeal.main_arg12)
      ∧ r.2.mem ((c.tc : Thread Cert.AdamwSmallIdeal.nD Cert.AdamwSmallIdeal.τ).loc Cert.AdamwSmallIdeal.main_arg13) = m ((c.tc : Thread Cert.AdamwSmallIdeal.nD Cert.AdamwSmallIdeal.τ).loc Cert.AdamwSmallIdeal.main_arg13)
      ∧ r.2.mem ((c.tc : Thread Cert.AdamwSmallIdeal.nD Cert.AdamwSmallIdeal.τ).loc Cert.AdamwSmallIdeal.main_arg14) = m ((c.tc : Thread Cert.AdamwSmallIdeal.nD Cert.AdamwSmallIdeal.τ).loc Cert.AdamwSmallIdeal.main_arg14)
      ∧ r.2.mem ((c.tc : Thread Cert.AdamwSmallIdeal.nD Cert.AdamwSmallIdeal.τ).loc Cert.AdamwSmallIdeal.main_arg15) = m ((c.tc : Thread Cert.AdamwSmallIdeal.nD Cert.AdamwSmallIdeal.τ).loc Cert.AdamwSmallIdeal.main_arg15)
      ∧ r.2.mem ((c.tc : Thread Cert.AdamwSmallIdeal.nD Cert.AdamwSmallIdeal.τ).loc Cert.AdamwSmallIdeal.main_arg16) = m ((c.tc : Thread Cert.AdamwSmallIdeal.nD Cert.AdamwSmallIdeal.τ).loc Cert.AdamwSmallIdeal.main_arg16)
      ∧ r.2.mem ((c.tc : Thread Cert.AdamwSmallIdeal.nD Cert.AdamwSmallIdeal.τ).loc Cert.AdamwSmallIdeal.main_arg17) = m ((c.tc : Thread Cert.AdamwSmallIdeal.nD Cert.AdamwSmallIdeal.τ).loc Cert.AdamwSmallIdeal.main_arg17)
      ∧ r.2.mem ((c.tc : Thread Cert.AdamwSmallIdeal.nD Cert.AdamwSmallIdeal.τ).loc Cert.AdamwSmallIdeal.main_arg18) = m ((c.tc : Thread Cert.AdamwSmallIdeal.nD Cert.AdamwSmallIdeal.τ).loc Cert.AdamwSmallIdeal.main_arg18)
      ∧ r.2.mem ((c.tc : Thread Cert.AdamwSmallIdeal.nD Cert.AdamwSmallIdeal.τ).loc Cert.AdamwSmallIdeal.main_arg19) = m ((c.tc : Thread Cert.AdamwSmallIdeal.nD Cert.AdamwSmallIdeal.τ).loc Cert.AdamwSmallIdeal.main_arg19)
      ∧ r.2.mem ((c.tc : Thread Cert.AdamwSmallIdeal.nD Cert.AdamwSmallIdeal.τ).loc Cert.AdamwSmallIdeal.main_arg20) = m ((c.tc : Thread Cert.AdamwSmallIdeal.nD Cert.AdamwSmallIdeal.τ).loc Cert.AdamwSmallIdeal.main_arg20)
      ∧ r.2.mem ((c.tc : Thread Cert.AdamwSmallIdeal.nD Cert.AdamwSmallIdeal.τ).loc Cert.AdamwSmallIdeal.main_arg21) = m ((c.tc : Thread Cert.AdamwSmallIdeal.nD Cert.AdamwSmallIdeal.τ).loc Cert.AdamwSmallIdeal.main_arg21)
      ∧ r.2.mem ((c.tc : Thread Cert.AdamwSmallIdeal.nD Cert.AdamwSmallIdeal.τ).loc Cert.AdamwSmallIdeal.main_arg22) = m ((c.tc : Thread Cert.AdamwSmallIdeal.nD Cert.AdamwSmallIdeal.τ).loc Cert.AdamwSmallIdeal.main_arg22)
      ∧ r.2.mem ((c.tc : Thread Cert.AdamwSmallIdeal.nD Cert.AdamwSmallIdeal.τ).loc Cert.AdamwSmallIdeal.main_arg23) = m ((c.tc : Thread Cert.AdamwSmallIdeal.nD Cert.AdamwSmallIdeal.τ).loc Cert.AdamwSmallIdeal.main_arg23)
      ∧ r.2.mem ((c.tc : Thread Cert.AdamwSmallIdeal.nD Cert.AdamwSmallIdeal.τ).loc Cert.AdamwSmallIdeal.main_arg24) = m ((c.tc : Thread Cert.AdamwSmallIdeal.nD Cert.AdamwSmallIdeal.τ).loc Cert.AdamwSmallIdeal.main_arg24)
      ∧ r.2.mem ((c.tc : Thread Cert.AdamwSmallIdeal.nD Cert.AdamwSmallIdeal.τ).loc Cert.AdamwSmallIdeal.main_arg25) = m ((c.tc : Thread Cert.AdamwSmallIdeal.nD Cert.AdamwSmallIdeal.τ).loc Cert.AdamwSmallIdeal.main_arg25)
      ∧ r.2.mem ((c.tc : Thread Cert.AdamwSmallIdeal.nD Cert.AdamwSmallIdeal.τ).loc Cert.AdamwSmallIdeal.main_arg26) = m ((c.tc : Thread Cert.AdamwSmallIdeal.nD Cert.AdamwSmallIdeal.τ).loc Cert.AdamwSmallIdeal.main_arg26)
      ∧ r.2.mem ((c.tc : Thread Cert.AdamwSmallIdeal.nD Cert.AdamwSmallIdeal.τ).loc Cert.AdamwSmallIdeal.main_arg27) = m ((c.tc : Thread Cert.AdamwSmallIdeal.nD Cert.AdamwSmallIdeal.τ).loc Cert.AdamwSmallIdeal.main_arg27)
      ∧ r.2.mem ((c.tc : Thread Cert.AdamwSmallIdeal.nD Cert.AdamwSmallIdeal.τ).loc Cert.AdamwSmallIdeal.main_arg28) = m ((c.tc : Thread Cert.AdamwSmallIdeal.nD Cert.AdamwSmallIdeal.τ).loc Cert.AdamwSmallIdeal.main_arg28)
      ∧ r.2.mem ((c.tc : Thread Cert.AdamwSmallIdeal.nD Cert.AdamwSmallIdeal.τ).loc Cert.AdamwSmallIdeal.main_arg29) = m ((c.tc : Thread Cert.AdamwSmallIdeal.nD Cert.AdamwSmallIdeal.τ).loc Cert.AdamwSmallIdeal.main_arg29)
      ∧ r.2.mem ((c.tc : Thread Cert.AdamwSmallIdeal.nD Cert.AdamwSmallIdeal.τ).loc Cert.AdamwSmallIdeal.main_arg30) = m ((c.tc : Thread Cert.AdamwSmallIdeal.nD Cert.AdamwSmallIdeal.τ).loc Cert.AdamwSmallIdeal.main_arg30)
      ∧ r.2.mem ((c.tc : Thread Cert.AdamwSmallIdeal.nD Cert.AdamwSmallIdeal.τ).loc Cert.AdamwSmallIdeal.main_arg31) = m ((c.tc : Thread Cert.AdamwSmallIdeal.nD Cert.AdamwSmallIdeal.τ).loc Cert.AdamwSmallIdeal.main_arg31)
      ∧ r.2.mem ((c.tc : Thread Cert.AdamwSmallIdeal.nD Cert.AdamwSmallIdeal.τ).loc Cert.AdamwSmallIdeal.main_arg32) = m ((c.tc : Thread Cert.AdamwSmallIdeal.nD Cert.AdamwSmallIdeal.τ).loc Cert.AdamwSmallIdeal.main_arg32)
      ∧ r.2.mem ((c.tc : Thread Cert.AdamwSmallIdeal.nD Cert.AdamwSmallIdeal.τ).loc Cert.AdamwSmallIdeal.main_arg33) = m ((c.tc : Thread Cert.AdamwSmallIdeal.nD Cert.AdamwSmallIdeal.τ).loc Cert.AdamwSmallIdeal.main_arg33)
      ∧ r.2.mem ((c.tc : Thread Cert.AdamwSmallIdeal.nD Cert.AdamwSmallIdeal.τ).loc Cert.AdamwSmallIdeal.main_arg34) = m ((c.tc : Thread Cert.AdamwSmallIdeal.nD Cert.AdamwSmallIdeal.τ).loc Cert.AdamwSmallIdeal.main_arg34)
      ∧ r.2.mem ((c.tc : Thread Cert.AdamwSmallIdeal.nD Cert.AdamwSmallIdeal.τ).loc Cert.AdamwSmallIdeal.main_arg35) = m ((c.tc : Thread Cert.AdamwSmallIdeal.nD Cert.AdamwSmallIdeal.τ).loc Cert.AdamwSmallIdeal.main_arg35)
      ∧ r.2.mem ((c.tc : Thread Cert.AdamwSmallIdeal.nD Cert.AdamwSmallIdeal.τ).loc Cert.AdamwSmallIdeal.main_arg36) = m ((c.tc : Thread Cert.AdamwSmallIdeal.nD Cert.AdamwSmallIdeal.τ).loc Cert.AdamwSmallIdeal.main_arg36)
      ∧ r.2.mem ((c.tc : Thread Cert.AdamwSmallIdeal.nD Cert.AdamwSmallIdeal.τ).loc Cert.AdamwSmallIdeal.main_arg37) = m ((c.tc : Thread Cert.AdamwSmallIdeal.nD Cert.AdamwSmallIdeal.τ).loc Cert.AdamwSmallIdeal.main_arg37)
      ∧ r.2.mem ((c.tc : Thread Cert.AdamwSmallIdeal.nD Cert.AdamwSmallIdeal.τ).loc Cert.AdamwSmallIdeal.main_arg38) = m ((c.tc : Thread Cert.AdamwSmallIdeal.nD Cert.AdamwSmallIdeal.τ).loc Cert.AdamwSmallIdeal.main_arg38)
      ∧ r.2.mem ((c.tc : Thread Cert.AdamwSmallIdeal.nD Cert.AdamwSmallIdeal.τ).loc Cert.AdamwSmallIdeal.main_arg39) = m ((c.tc : Thread Cert.AdamwSmallIdeal.nD Cert.AdamwSmallIdeal.τ).loc Cert.AdamwSmallIdeal.main_arg39)
      ∧ r.2.mem ((c.tc : Thread Cert.AdamwSmallIdeal.nD Cert.AdamwSmallIdeal.τ).loc Cert.AdamwSmallIdeal.main_arg40) = m ((c.tc : Thread Cert.AdamwSmallIdeal.nD Cert.AdamwSmallIdeal.τ).loc Cert.AdamwSmallIdeal.main_arg40)
      ∧ r.2.mem ((c.tc : Thread Cert.AdamwSmallIdeal.nD Cert.AdamwSmallIdeal.τ).loc Cert.AdamwSmallIdeal.main_arg41) = m ((c.tc : Thread Cert.AdamwSmallIdeal.nD Cert.AdamwSmallIdeal.τ).loc Cert.AdamwSmallIdeal.main_arg41)
      ∧ r.2.mem ((c.tc : Thread Cert.AdamwSmallIdeal.nD Cert.AdamwSmallIdeal.τ).loc Cert.AdamwSmallIdeal.main_arg42) = m ((c.tc : Thread Cert.AdamwSmallIdeal.nD Cert.AdamwSmallIdeal.τ).loc Cert.AdamwSmallIdeal.main_arg42)
      ∧ r.2.mem ((c.tc : Thread Cert.AdamwSmallIdeal.nD Cert.AdamwSmallIdeal.τ).loc Cert.AdamwSmallIdeal.main_arg43) = m ((c.tc : Thread Cert.AdamwSmallIdeal.nD Cert.AdamwSmallIdeal.τ).loc Cert.AdamwSmallIdeal.main_arg43))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3)
      ∧ r.2.mem ((c.tc : Thread Cert.AdamwSmallRefIdeal.nD Cert.AdamwSmallRefIdeal.τ).loc Cert.AdamwSmallRefIdeal.main_arg4) = m ((c.tc : Thread Cert.AdamwSmallRefIdeal.nD Cert.AdamwSmallRefIdeal.τ).loc Cert.AdamwSmallRefIdeal.main_arg4)
      ∧ r.2.mem ((c.tc : Thread Cert.AdamwSmallRefIdeal.nD Cert.AdamwSmallRefIdeal.τ).loc Cert.AdamwSmallRefIdeal.main_arg5) = m ((c.tc : Thread Cert.AdamwSmallRefIdeal.nD Cert.AdamwSmallRefIdeal.τ).loc Cert.AdamwSmallRefIdeal.main_arg5)
      ∧ r.2.mem ((c.tc : Thread Cert.AdamwSmallRefIdeal.nD Cert.AdamwSmallRefIdeal.τ).loc Cert.AdamwSmallRefIdeal.main_arg6) = m ((c.tc : Thread Cert.AdamwSmallRefIdeal.nD Cert.AdamwSmallRefIdeal.τ).loc Cert.AdamwSmallRefIdeal.main_arg6)
      ∧ r.2.mem ((c.tc : Thread Cert.AdamwSmallRefIdeal.nD Cert.AdamwSmallRefIdeal.τ).loc Cert.AdamwSmallRefIdeal.main_arg7) = m ((c.tc : Thread Cert.AdamwSmallRefIdeal.nD Cert.AdamwSmallRefIdeal.τ).loc Cert.AdamwSmallRefIdeal.main_arg7)
      ∧ r.2.mem ((c.tc : Thread Cert.AdamwSmallRefIdeal.nD Cert.AdamwSmallRefIdeal.τ).loc Cert.AdamwSmallRefIdeal.main_arg8) = m ((c.tc : Thread Cert.AdamwSmallRefIdeal.nD Cert.AdamwSmallRefIdeal.τ).loc Cert.AdamwSmallRefIdeal.main_arg8)
      ∧ r.2.mem ((c.tc : Thread Cert.AdamwSmallRefIdeal.nD Cert.AdamwSmallRefIdeal.τ).loc Cert.AdamwSmallRefIdeal.main_arg9) = m ((c.tc : Thread Cert.AdamwSmallRefIdeal.nD Cert.AdamwSmallRefIdeal.τ).loc Cert.AdamwSmallRefIdeal.main_arg9)
      ∧ r.2.mem ((c.tc : Thread Cert.AdamwSmallRefIdeal.nD Cert.AdamwSmallRefIdeal.τ).loc Cert.AdamwSmallRefIdeal.main_arg10) = m ((c.tc : Thread Cert.AdamwSmallRefIdeal.nD Cert.AdamwSmallRefIdeal.τ).loc Cert.AdamwSmallRefIdeal.main_arg10)
      ∧ r.2.mem ((c.tc : Thread Cert.AdamwSmallRefIdeal.nD Cert.AdamwSmallRefIdeal.τ).loc Cert.AdamwSmallRefIdeal.main_arg11) = m ((c.tc : Thread Cert.AdamwSmallRefIdeal.nD Cert.AdamwSmallRefIdeal.τ).loc Cert.AdamwSmallRefIdeal.main_arg11)
      ∧ r.2.mem ((c.tc : Thread Cert.AdamwSmallRefIdeal.nD Cert.AdamwSmallRefIdeal.τ).loc Cert.AdamwSmallRefIdeal.main_arg12) = m ((c.tc : Thread Cert.AdamwSmallRefIdeal.nD Cert.AdamwSmallRefIdeal.τ).loc Cert.AdamwSmallRefIdeal.main_arg12)
      ∧ r.2.mem ((c.tc : Thread Cert.AdamwSmallRefIdeal.nD Cert.AdamwSmallRefIdeal.τ).loc Cert.AdamwSmallRefIdeal.main_arg13) = m ((c.tc : Thread Cert.AdamwSmallRefIdeal.nD Cert.AdamwSmallRefIdeal.τ).loc Cert.AdamwSmallRefIdeal.main_arg13)
      ∧ r.2.mem ((c.tc : Thread Cert.AdamwSmallRefIdeal.nD Cert.AdamwSmallRefIdeal.τ).loc Cert.AdamwSmallRefIdeal.main_arg14) = m ((c.tc : Thread Cert.AdamwSmallRefIdeal.nD Cert.AdamwSmallRefIdeal.τ).loc Cert.AdamwSmallRefIdeal.main_arg14)
      ∧ r.2.mem ((c.tc : Thread Cert.AdamwSmallRefIdeal.nD Cert.AdamwSmallRefIdeal.τ).loc Cert.AdamwSmallRefIdeal.main_arg15) = m ((c.tc : Thread Cert.AdamwSmallRefIdeal.nD Cert.AdamwSmallRefIdeal.τ).loc Cert.AdamwSmallRefIdeal.main_arg15)
      ∧ r.2.mem ((c.tc : Thread Cert.AdamwSmallRefIdeal.nD Cert.AdamwSmallRefIdeal.τ).loc Cert.AdamwSmallRefIdeal.main_arg16) = m ((c.tc : Thread Cert.AdamwSmallRefIdeal.nD Cert.AdamwSmallRefIdeal.τ).loc Cert.AdamwSmallRefIdeal.main_arg16)
      ∧ r.2.mem ((c.tc : Thread Cert.AdamwSmallRefIdeal.nD Cert.AdamwSmallRefIdeal.τ).loc Cert.AdamwSmallRefIdeal.main_arg17) = m ((c.tc : Thread Cert.AdamwSmallRefIdeal.nD Cert.AdamwSmallRefIdeal.τ).loc Cert.AdamwSmallRefIdeal.main_arg17)
      ∧ r.2.mem ((c.tc : Thread Cert.AdamwSmallRefIdeal.nD Cert.AdamwSmallRefIdeal.τ).loc Cert.AdamwSmallRefIdeal.main_arg18) = m ((c.tc : Thread Cert.AdamwSmallRefIdeal.nD Cert.AdamwSmallRefIdeal.τ).loc Cert.AdamwSmallRefIdeal.main_arg18)
      ∧ r.2.mem ((c.tc : Thread Cert.AdamwSmallRefIdeal.nD Cert.AdamwSmallRefIdeal.τ).loc Cert.AdamwSmallRefIdeal.main_arg19) = m ((c.tc : Thread Cert.AdamwSmallRefIdeal.nD Cert.AdamwSmallRefIdeal.τ).loc Cert.AdamwSmallRefIdeal.main_arg19)
      ∧ r.2.mem ((c.tc : Thread Cert.AdamwSmallRefIdeal.nD Cert.AdamwSmallRefIdeal.τ).loc Cert.AdamwSmallRefIdeal.main_arg20) = m ((c.tc : Thread Cert.AdamwSmallRefIdeal.nD Cert.AdamwSmallRefIdeal.τ).loc Cert.AdamwSmallRefIdeal.main_arg20)
      ∧ r.2.mem ((c.tc : Thread Cert.AdamwSmallRefIdeal.nD Cert.AdamwSmallRefIdeal.τ).loc Cert.AdamwSmallRefIdeal.main_arg21) = m ((c.tc : Thread Cert.AdamwSmallRefIdeal.nD Cert.AdamwSmallRefIdeal.τ).loc Cert.AdamwSmallRefIdeal.main_arg21)
      ∧ r.2.mem ((c.tc : Thread Cert.AdamwSmallRefIdeal.nD Cert.AdamwSmallRefIdeal.τ).loc Cert.AdamwSmallRefIdeal.main_arg22) = m ((c.tc : Thread Cert.AdamwSmallRefIdeal.nD Cert.AdamwSmallRefIdeal.τ).loc Cert.AdamwSmallRefIdeal.main_arg22)
      ∧ r.2.mem ((c.tc : Thread Cert.AdamwSmallRefIdeal.nD Cert.AdamwSmallRefIdeal.τ).loc Cert.AdamwSmallRefIdeal.main_arg23) = m ((c.tc : Thread Cert.AdamwSmallRefIdeal.nD Cert.AdamwSmallRefIdeal.τ).loc Cert.AdamwSmallRefIdeal.main_arg23)
      ∧ r.2.mem ((c.tc : Thread Cert.AdamwSmallRefIdeal.nD Cert.AdamwSmallRefIdeal.τ).loc Cert.AdamwSmallRefIdeal.main_arg24) = m ((c.tc : Thread Cert.AdamwSmallRefIdeal.nD Cert.AdamwSmallRefIdeal.τ).loc Cert.AdamwSmallRefIdeal.main_arg24)
      ∧ r.2.mem ((c.tc : Thread Cert.AdamwSmallRefIdeal.nD Cert.AdamwSmallRefIdeal.τ).loc Cert.AdamwSmallRefIdeal.main_arg25) = m ((c.tc : Thread Cert.AdamwSmallRefIdeal.nD Cert.AdamwSmallRefIdeal.τ).loc Cert.AdamwSmallRefIdeal.main_arg25)
      ∧ r.2.mem ((c.tc : Thread Cert.AdamwSmallRefIdeal.nD Cert.AdamwSmallRefIdeal.τ).loc Cert.AdamwSmallRefIdeal.main_arg26) = m ((c.tc : Thread Cert.AdamwSmallRefIdeal.nD Cert.AdamwSmallRefIdeal.τ).loc Cert.AdamwSmallRefIdeal.main_arg26)
      ∧ r.2.mem ((c.tc : Thread Cert.AdamwSmallRefIdeal.nD Cert.AdamwSmallRefIdeal.τ).loc Cert.AdamwSmallRefIdeal.main_arg27) = m ((c.tc : Thread Cert.AdamwSmallRefIdeal.nD Cert.AdamwSmallRefIdeal.τ).loc Cert.AdamwSmallRefIdeal.main_arg27)
      ∧ r.2.mem ((c.tc : Thread Cert.AdamwSmallRefIdeal.nD Cert.AdamwSmallRefIdeal.τ).loc Cert.AdamwSmallRefIdeal.main_arg28) = m ((c.tc : Thread Cert.AdamwSmallRefIdeal.nD Cert.AdamwSmallRefIdeal.τ).loc Cert.AdamwSmallRefIdeal.main_arg28)
      ∧ r.2.mem ((c.tc : Thread Cert.AdamwSmallRefIdeal.nD Cert.AdamwSmallRefIdeal.τ).loc Cert.AdamwSmallRefIdeal.main_arg29) = m ((c.tc : Thread Cert.AdamwSmallRefIdeal.nD Cert.AdamwSmallRefIdeal.τ).loc Cert.AdamwSmallRefIdeal.main_arg29)
      ∧ r.2.mem ((c.tc : Thread Cert.AdamwSmallRefIdeal.nD Cert.AdamwSmallRefIdeal.τ).loc Cert.AdamwSmallRefIdeal.main_arg30) = m ((c.tc : Thread Cert.AdamwSmallRefIdeal.nD Cert.AdamwSmallRefIdeal.τ).loc Cert.AdamwSmallRefIdeal.main_arg30)
      ∧ r.2.mem ((c.tc : Thread Cert.AdamwSmallRefIdeal.nD Cert.AdamwSmallRefIdeal.τ).loc Cert.AdamwSmallRefIdeal.main_arg31) = m ((c.tc : Thread Cert.AdamwSmallRefIdeal.nD Cert.AdamwSmallRefIdeal.τ).loc Cert.AdamwSmallRefIdeal.main_arg31)
      ∧ r.2.mem ((c.tc : Thread Cert.AdamwSmallRefIdeal.nD Cert.AdamwSmallRefIdeal.τ).loc Cert.AdamwSmallRefIdeal.main_arg32) = m ((c.tc : Thread Cert.AdamwSmallRefIdeal.nD Cert.AdamwSmallRefIdeal.τ).loc Cert.AdamwSmallRefIdeal.main_arg32)
      ∧ r.2.mem ((c.tc : Thread Cert.AdamwSmallRefIdeal.nD Cert.AdamwSmallRefIdeal.τ).loc Cert.AdamwSmallRefIdeal.main_arg33) = m ((c.tc : Thread Cert.AdamwSmallRefIdeal.nD Cert.AdamwSmallRefIdeal.τ).loc Cert.AdamwSmallRefIdeal.main_arg33)
      ∧ r.2.mem ((c.tc : Thread Cert.AdamwSmallRefIdeal.nD Cert.AdamwSmallRefIdeal.τ).loc Cert.AdamwSmallRefIdeal.main_arg34) = m ((c.tc : Thread Cert.AdamwSmallRefIdeal.nD Cert.AdamwSmallRefIdeal.τ).loc Cert.AdamwSmallRefIdeal.main_arg34)
      ∧ r.2.mem ((c.tc : Thread Cert.AdamwSmallRefIdeal.nD Cert.AdamwSmallRefIdeal.τ).loc Cert.AdamwSmallRefIdeal.main_arg35) = m ((c.tc : Thread Cert.AdamwSmallRefIdeal.nD Cert.AdamwSmallRefIdeal.τ).loc Cert.AdamwSmallRefIdeal.main_arg35)
      ∧ r.2.mem ((c.tc : Thread Cert.AdamwSmallRefIdeal.nD Cert.AdamwSmallRefIdeal.τ).loc Cert.AdamwSmallRefIdeal.main_arg36) = m ((c.tc : Thread Cert.AdamwSmallRefIdeal.nD Cert.AdamwSmallRefIdeal.τ).loc Cert.AdamwSmallRefIdeal.main_arg36)
      ∧ r.2.mem ((c.tc : Thread Cert.AdamwSmallRefIdeal.nD Cert.AdamwSmallRefIdeal.τ).loc Cert.AdamwSmallRefIdeal.main_arg37) = m ((c.tc : Thread Cert.AdamwSmallRefIdeal.nD Cert.AdamwSmallRefIdeal.τ).loc Cert.AdamwSmallRefIdeal.main_arg37)
      ∧ r.2.mem ((c.tc : Thread Cert.AdamwSmallRefIdeal.nD Cert.AdamwSmallRefIdeal.τ).loc Cert.AdamwSmallRefIdeal.main_arg38) = m ((c.tc : Thread Cert.AdamwSmallRefIdeal.nD Cert.AdamwSmallRefIdeal.τ).loc Cert.AdamwSmallRefIdeal.main_arg38)
      ∧ r.2.mem ((c.tc : Thread Cert.AdamwSmallRefIdeal.nD Cert.AdamwSmallRefIdeal.τ).loc Cert.AdamwSmallRefIdeal.main_arg39) = m ((c.tc : Thread Cert.AdamwSmallRefIdeal.nD Cert.AdamwSmallRefIdeal.τ).loc Cert.AdamwSmallRefIdeal.main_arg39)
      ∧ r.2.mem ((c.tc : Thread Cert.AdamwSmallRefIdeal.nD Cert.AdamwSmallRefIdeal.τ).loc Cert.AdamwSmallRefIdeal.main_arg40) = m ((c.tc : Thread Cert.AdamwSmallRefIdeal.nD Cert.AdamwSmallRefIdeal.τ).loc Cert.AdamwSmallRefIdeal.main_arg40)
      ∧ r.2.mem ((c.tc : Thread Cert.AdamwSmallRefIdeal.nD Cert.AdamwSmallRefIdeal.τ).loc Cert.AdamwSmallRefIdeal.main_arg41) = m ((c.tc : Thread Cert.AdamwSmallRefIdeal.nD Cert.AdamwSmallRefIdeal.τ).loc Cert.AdamwSmallRefIdeal.main_arg41)
      ∧ r.2.mem ((c.tc : Thread Cert.AdamwSmallRefIdeal.nD Cert.AdamwSmallRefIdeal.τ).loc Cert.AdamwSmallRefIdeal.main_arg42) = m ((c.tc : Thread Cert.AdamwSmallRefIdeal.nD Cert.AdamwSmallRefIdeal.τ).loc Cert.AdamwSmallRefIdeal.main_arg42)
      ∧ r.2.mem ((c.tc : Thread Cert.AdamwSmallRefIdeal.nD Cert.AdamwSmallRefIdeal.τ).loc Cert.AdamwSmallRefIdeal.main_arg43) = m ((c.tc : Thread Cert.AdamwSmallRefIdeal.nD Cert.AdamwSmallRefIdeal.τ).loc Cert.AdamwSmallRefIdeal.main_arg43))
      ∧ r.2.sem = fun _ => 0)

def preserves_Gain_GainIdeal : Prop :=
  True

def algebraic_GainIdeal_GainRefIdeal [hGainIdeal : Cert.GainIdeal.Facts] [hGainRefIdeal : Cert.GainRefIdeal.Facts] : Prop :=
  ∀ (m : (ℓ : Loc Cert.GainIdeal.nD Cert.GainIdeal.τ Cert.GainIdeal.sig) → Buf (Elt Ideal) ℓ) (g : Dev Cert.GainIdeal.nD → PrngReg)
    (m' : (ℓ : Loc Cert.GainRefIdeal.nD Cert.GainRefIdeal.τ Cert.GainRefIdeal.sig) → Buf (Elt Ideal) ℓ) (g' : Dev Cert.GainRefIdeal.nD → PrngReg), Pre_GainIdeal m →
    (∀ c : Dev Cert.GainIdeal.nD,
      m' ((c.tc : Thread Cert.GainRefIdeal.nD Cert.GainRefIdeal.τ).loc Cert.GainRefIdeal.main_arg0) = m ((c.tc : Thread Cert.GainIdeal.nD Cert.GainIdeal.τ).loc Cert.GainIdeal.main_arg0)
      ∧ m' ((c.tc : Thread Cert.GainRefIdeal.nD Cert.GainRefIdeal.τ).loc Cert.GainRefIdeal.main_arg1) = m ((c.tc : Thread Cert.GainIdeal.nD Cert.GainIdeal.τ).loc Cert.GainIdeal.main_arg1)
      ∧ m' ((c.tc : Thread Cert.GainRefIdeal.nD Cert.GainRefIdeal.τ).loc Cert.GainRefIdeal.main_arg2) = m ((c.tc : Thread Cert.GainIdeal.nD Cert.GainIdeal.τ).loc Cert.GainIdeal.main_arg2)
      ∧ m' ((c.tc : Thread Cert.GainRefIdeal.nD Cert.GainRefIdeal.τ).loc Cert.GainRefIdeal.main_arg3) = m ((c.tc : Thread Cert.GainIdeal.nD Cert.GainIdeal.τ).loc Cert.GainIdeal.main_arg3)) →
    ∃ (v0 : (c : Dev Cert.GainIdeal.nD) → Buf (Elt Ideal) ((c.tc : Thread Cert.GainIdeal.nD Cert.GainIdeal.τ).loc Cert.GainIdeal.main_v1)),
      θ_run (Cert.GainIdeal.defs (F := Ideal)) (onTc (τ := Cert.GainIdeal.τ) (Cert.GainIdeal.main (F := Ideal))) ⟨m, fun _ => 0, g⟩ (fun r => ∀ c : Dev Cert.GainIdeal.nD,
          r.2.mem ((c.tc : Thread Cert.GainIdeal.nD Cert.GainIdeal.τ).loc Cert.GainIdeal.main_v1) = v0 c
          ∧ r.2.mem ((c.tc : Thread Cert.GainIdeal.nD Cert.GainIdeal.τ).loc Cert.GainIdeal.main_arg0) = m ((c.tc : Thread Cert.GainIdeal.nD Cert.GainIdeal.τ).loc Cert.GainIdeal.main_arg0)
          ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
          ∧ r.2.mem ((c.tc : Thread Cert.GainIdeal.nD Cert.GainIdeal.τ).loc Cert.GainIdeal.main_arg2) = m ((c.tc : Thread Cert.GainIdeal.nD Cert.GainIdeal.τ).loc Cert.GainIdeal.main_arg2)
          ∧ r.2.mem ((c.tc : Thread Cert.GainIdeal.nD Cert.GainIdeal.τ).loc Cert.GainIdeal.main_arg3) = m ((c.tc : Thread Cert.GainIdeal.nD Cert.GainIdeal.τ).loc Cert.GainIdeal.main_arg3))
      ∧ θ_run (Cert.GainRefIdeal.defs (F := Ideal)) (onTc (τ := Cert.GainRefIdeal.τ) (Cert.GainRefIdeal.main (F := Ideal))) ⟨m', fun _ => 0, g'⟩ (fun r => ∀ c : Dev Cert.GainRefIdeal.nD,
          r.2.mem ((c.tc : Thread Cert.GainRefIdeal.nD Cert.GainRefIdeal.τ).loc Cert.GainRefIdeal.main_v19) = v0 c
          ∧ r.2.mem ((c.tc : Thread Cert.GainRefIdeal.nD Cert.GainRefIdeal.τ).loc Cert.GainRefIdeal.main_arg0) = m' ((c.tc : Thread Cert.GainRefIdeal.nD Cert.GainRefIdeal.τ).loc Cert.GainRefIdeal.main_arg0)
          ∧ r.2.mem ((c.tc : Thread Cert.GainRefIdeal.nD Cert.GainRefIdeal.τ).loc Cert.GainRefIdeal.main_arg1) = m' ((c.tc : Thread Cert.GainRefIdeal.nD Cert.GainRefIdeal.τ).loc Cert.GainRefIdeal.main_arg1)
          ∧ r.2.mem ((c.tc : Thread Cert.GainRefIdeal.nD Cert.GainRefIdeal.τ).loc Cert.GainRefIdeal.main_arg2) = m' ((c.tc : Thread Cert.GainRefIdeal.nD Cert.GainRefIdeal.τ).loc Cert.GainRefIdeal.main_arg2)
          ∧ r.2.mem ((c.tc : Thread Cert.GainRefIdeal.nD Cert.GainRefIdeal.τ).loc Cert.GainRefIdeal.main_arg3) = m' ((c.tc : Thread Cert.GainRefIdeal.nD Cert.GainRefIdeal.τ).loc Cert.GainRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v66) = v1 c
          ∧ r.2.mem ((c.tc : Thread Cert.AttnRefIdeal.nD Cert.AttnRefIdeal.τ).loc Cert.AttnRefIdeal.main_v65) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v21) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_Norm1_Norm1Ideal : Prop :=
  True

def algebraic_Norm1Ideal_Norm1RefIdeal_pre_norm1_finite [hNorm1Ideal : Cert.Norm1Ideal.Facts] [hNorm1RefIdeal : Cert.Norm1RefIdeal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_norm1_finite m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v1_0)) (v1 : (c : Dev Cert.Norm1Ideal.nD) → Buf (Elt Ideal) ((c.tc : Thread Cert.Norm1Ideal.nD Cert.Norm1Ideal.τ).loc Cert.Norm1Ideal.main_v1_1)) (v2 : (c : Dev Cert.Norm1Ideal.nD) → Buf (Elt Ideal) ((c.tc : Thread Cert.Norm1Ideal.nD Cert.Norm1Ideal.τ).loc Cert.Norm1Ideal.main_v1_2)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v1_0) = v0 c
          ∧ r.2.mem ((c.tc : Thread Cert.Norm1Ideal.nD Cert.Norm1Ideal.τ).loc Cert.Norm1Ideal.main_v1_1) = v1 c
          ∧ r.2.mem ((c.tc : Thread Cert.Norm1Ideal.nD Cert.Norm1Ideal.τ).loc Cert.Norm1Ideal.main_v1_2) = v2 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v37) = v0 c
          ∧ r.2.mem ((c.tc : Thread Cert.Norm1RefIdeal.nD Cert.Norm1RefIdeal.τ).loc Cert.Norm1RefIdeal.main_v39) = v1 c
          ∧ r.2.mem ((c.tc : Thread Cert.Norm1RefIdeal.nD Cert.Norm1RefIdeal.τ).loc Cert.Norm1RefIdeal.main_v38) = v2 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Xq_XqIdeal : Prop :=
  True

def algebraic_XqIdeal_XqRefIdeal_pre_xq_finite [hXqIdeal : Cert.XqIdeal.Facts] [hXqRefIdeal : Cert.XqRefIdeal.Facts] [hPre_xq_finite : Cert.Pre_xq_finite.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal_xq_finite m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)
      ∧ m' ((c.tc : Thread Cert.XqRefIdeal.nD Cert.XqRefIdeal.τ).loc Cert.XqRefIdeal.main_arg3) = m ((c.tc : Thread Cert.XqIdeal.nD Cert.XqIdeal.τ).loc Cert.XqIdeal.main_arg3)
      ∧ m' ((c.tc : Thread Cert.XqRefIdeal.nD Cert.XqRefIdeal.τ).loc Cert.XqRefIdeal.main_arg4) = m ((c.tc : Thread Cert.XqIdeal.nD Cert.XqIdeal.τ).loc Cert.XqIdeal.main_arg4)) →
    ∃ (v0 : (c : Dev Cert.XqIdeal.nD) → Buf (Elt Ideal) ((c.tc : Thread Cert.XqIdeal.nD Cert.XqIdeal.τ).loc Cert.XqIdeal.main_v1_0)) (v1 : (c : Dev Cert.XqIdeal.nD) → Buf (Elt Ideal) ((c.tc : Thread Cert.XqIdeal.nD Cert.XqIdeal.τ).loc Cert.XqIdeal.main_v1_1)) (v2 : (c : Dev Cert.XqIdeal.nD) → Buf (Elt Ideal) ((c.tc : Thread Cert.XqIdeal.nD Cert.XqIdeal.τ).loc Cert.XqIdeal.main_v1_2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v1_0) = v0 c
          ∧ r.2.mem ((c.tc : Thread Cert.XqIdeal.nD Cert.XqIdeal.τ).loc Cert.XqIdeal.main_v1_1) = v1 c
          ∧ r.2.mem ((c.tc : Thread Cert.XqIdeal.nD Cert.XqIdeal.τ).loc Cert.XqIdeal.main_v1_2) = v2 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
          ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
          ∧ r.2.mem ((c.tc : Thread Cert.XqIdeal.nD Cert.XqIdeal.τ).loc Cert.XqIdeal.main_arg4) = m ((c.tc : Thread Cert.XqIdeal.nD Cert.XqIdeal.τ).loc Cert.XqIdeal.main_arg4))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v41) = v0 c
          ∧ r.2.mem ((c.tc : Thread Cert.XqRefIdeal.nD Cert.XqRefIdeal.τ).loc Cert.XqRefIdeal.main_v43) = v1 c
          ∧ r.2.mem ((c.tc : Thread Cert.XqRefIdeal.nD Cert.XqRefIdeal.τ).loc Cert.XqRefIdeal.main_v42) = v2 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2)
          ∧ r.2.mem ((c.tc : Thread Cert.XqRefIdeal.nD Cert.XqRefIdeal.τ).loc Cert.XqRefIdeal.main_arg3) = m' ((c.tc : Thread Cert.XqRefIdeal.nD Cert.XqRefIdeal.τ).loc Cert.XqRefIdeal.main_arg3)
          ∧ r.2.mem ((c.tc : Thread Cert.XqRefIdeal.nD Cert.XqRefIdeal.τ).loc Cert.XqRefIdeal.main_arg4) = m' ((c.tc : Thread Cert.XqRefIdeal.nD Cert.XqRefIdeal.τ).loc Cert.XqRefIdeal.main_arg4))

def preserves_MixIn_MixInIdeal : Prop :=
  True

def algebraic_MixInIdeal_MixInRefIdeal_pre_mixin_finite [hMixInIdeal : Cert.MixInIdeal.Facts] [hMixInRefIdeal : Cert.MixInRefIdeal.Facts] [hPre_mixin_finite : Cert.Pre_mixin_finite.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_mixin_finite m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v1_0)) (v1 : (c : Dev Cert.MixInIdeal.nD) → Buf (Elt Ideal) ((c.tc : Thread Cert.MixInIdeal.nD Cert.MixInIdeal.τ).loc Cert.MixInIdeal.main_v1_1)) (v2 : (c : Dev Cert.MixInIdeal.nD) → Buf (Elt Ideal) ((c.tc : Thread Cert.MixInIdeal.nD Cert.MixInIdeal.τ).loc Cert.MixInIdeal.main_v1_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v1_0) = v0 c
          ∧ r.2.mem ((c.tc : Thread Cert.MixInIdeal.nD Cert.MixInIdeal.τ).loc Cert.MixInIdeal.main_v1_1) = v1 c
          ∧ r.2.mem ((c.tc : Thread Cert.MixInIdeal.nD Cert.MixInIdeal.τ).loc Cert.MixInIdeal.main_v1_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v41) = v0 c
          ∧ r.2.mem ((c.tc : Thread Cert.MixInRefIdeal.nD Cert.MixInRefIdeal.τ).loc Cert.MixInRefIdeal.main_v43) = v1 c
          ∧ r.2.mem ((c.tc : Thread Cert.MixInRefIdeal.nD Cert.MixInRefIdeal.τ).loc Cert.MixInRefIdeal.main_v42) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)) (v2 : (c : Dev Cert.FfnIdeal.nD) → Buf (Elt Ideal) ((c.tc : Thread Cert.FfnIdeal.nD Cert.FfnIdeal.τ).loc Cert.FfnIdeal.main_v1_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_v1_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v50) = v1 c
          ∧ r.2.mem ((c.tc : Thread Cert.FfnRefIdeal.nD Cert.FfnRefIdeal.τ).loc Cert.FfnRefIdeal.main_v49) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v5_0)) (v1 : (c : Dev Cert.MixerIdeal.nD) → Buf (Elt Ideal) ((c.tc : Thread Cert.MixerIdeal.nD Cert.MixerIdeal.τ).loc Cert.MixerIdeal.main_v5_1)) (v2 : (c : Dev Cert.MixerIdeal.nD) → Buf (Elt Ideal) ((c.tc : Thread Cert.MixerIdeal.nD Cert.MixerIdeal.τ).loc Cert.MixerIdeal.main_v5_2)) (v3 : (c : Dev Cert.MixerIdeal.nD) → Buf (Elt Ideal) ((c.tc : Thread Cert.MixerIdeal.nD Cert.MixerIdeal.τ).loc Cert.MixerIdeal.main_v5_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v5_0) = v0 c
          ∧ r.2.mem ((c.tc : Thread Cert.MixerIdeal.nD Cert.MixerIdeal.τ).loc Cert.MixerIdeal.main_v5_1) = v1 c
          ∧ r.2.mem ((c.tc : Thread Cert.MixerIdeal.nD Cert.MixerIdeal.τ).loc Cert.MixerIdeal.main_v5_2) = v2 c
          ∧ r.2.mem ((c.tc : Thread Cert.MixerIdeal.nD Cert.MixerIdeal.τ).loc Cert.MixerIdeal.main_v5_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v159) = v0 c
          ∧ r.2.mem ((c.tc : Thread Cert.MixerRefIdeal.nD Cert.MixerRefIdeal.τ).loc Cert.MixerRefIdeal.main_v157) = v1 c
          ∧ r.2.mem ((c.tc : Thread Cert.MixerRefIdeal.nD Cert.MixerRefIdeal.τ).loc Cert.MixerRefIdeal.main_v160) = v2 c
          ∧ r.2.mem ((c.tc : Thread Cert.MixerRefIdeal.nD Cert.MixerRefIdeal.τ).loc Cert.MixerRefIdeal.main_v162) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v0_0)) (v1 : (c : Dev Cert.NormFIdeal.nD) → Buf (Elt Ideal) ((c.tc : Thread Cert.NormFIdeal.nD Cert.NormFIdeal.τ).loc Cert.NormFIdeal.main_v0_1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v0_0) = v0 c
          ∧ r.2.mem ((c.tc : Thread Cert.NormFIdeal.nD Cert.NormFIdeal.τ).loc Cert.NormFIdeal.main_v0_1) = v1 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v14) = v0 c
          ∧ r.2.mem ((c.tc : Thread Cert.NormFRefIdeal.nD Cert.NormFRefIdeal.τ).loc Cert.NormFRefIdeal.main_v22) = v1 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)) →
    ∃ (v0 : (c : Dev Cert.GateFIdeal.nD) → Buf (Elt Ideal) ((c.tc : Thread Cert.GateFIdeal.nD Cert.GateFIdeal.τ).loc Cert.GateFIdeal.main_v0_0)) (v1 : (c : Dev Cert.GateFIdeal.nD) → Buf (Elt Ideal) ((c.tc : Thread Cert.GateFIdeal.nD Cert.GateFIdeal.τ).loc Cert.GateFIdeal.main_v0_1)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v0_0) = v0 c
          ∧ r.2.mem ((c.tc : Thread Cert.GateFIdeal.nD Cert.GateFIdeal.τ).loc Cert.GateFIdeal.main_v0_1) = v1 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v8) = v0 c
          ∧ r.2.mem ((c.tc : Thread Cert.GateFRefIdeal.nD Cert.GateFRefIdeal.τ).loc Cert.GateFRefIdeal.main_v11) = v1 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1))

def preserves_AttnF_AttnFIdeal : Prop :=
  True

def algebraic_AttnFIdeal_AttnFRefIdeal [hAttnFIdeal : Cert.AttnFIdeal.Facts] [hAttnFRefIdeal : Cert.AttnFRefIdeal.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v0)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v0) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v23) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)
      ∧ m' ((c.tc : Thread Cert.MixFRefIdeal.nD Cert.MixFRefIdeal.τ).loc Cert.MixFRefIdeal.main_arg5) = m ((c.tc : Thread Cert.MixFIdeal.nD Cert.MixFIdeal.τ).loc Cert.MixFIdeal.main_arg5)) →
    ∃ (v0 : (c : Dev Cert.MixFIdeal.nD) → Buf (Elt Ideal) ((c.tc : Thread Cert.MixFIdeal.nD Cert.MixFIdeal.τ).loc Cert.MixFIdeal.main_v5)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v5) = v0 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v68) = v0 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4)
          ∧ r.2.mem ((c.tc : Thread Cert.MixFRefIdeal.nD Cert.MixFRefIdeal.τ).loc Cert.MixFRefIdeal.main_arg5) = m' ((c.tc : Thread Cert.MixFRefIdeal.nD Cert.MixFRefIdeal.τ).loc Cert.MixFRefIdeal.main_arg5))

def preserves_HalfF_HalfFIdeal : Prop :=
  True

def algebraic_HalfFIdeal_HalfFRefIdeal [hHalfFIdeal : Cert.HalfFIdeal.Facts] [hHalfFRefIdeal : Cert.HalfFRefIdeal.Facts] : Prop :=
  ∀ (m : (ℓ : Loc Cert.HalfFIdeal.nD Cert.HalfFIdeal.τ Cert.HalfFIdeal.sig) → Buf (Elt Ideal) ℓ) (g : Dev Cert.HalfFIdeal.nD → PrngReg)
    (m' : (ℓ : Loc Cert.HalfFRefIdeal.nD Cert.HalfFRefIdeal.τ Cert.HalfFRefIdeal.sig) → Buf (Elt Ideal) ℓ) (g' : Dev Cert.HalfFRefIdeal.nD → PrngReg), Pre_HalfFIdeal m →
    (∀ c : Dev Cert.HalfFIdeal.nD,
      m' ((c.tc : Thread Cert.HalfFRefIdeal.nD Cert.HalfFRefIdeal.τ).loc Cert.HalfFRefIdeal.main_arg0) = m ((c.tc : Thread Cert.HalfFIdeal.nD Cert.HalfFIdeal.τ).loc Cert.HalfFIdeal.main_arg0)
      ∧ m' ((c.tc : Thread Cert.HalfFRefIdeal.nD Cert.HalfFRefIdeal.τ).loc Cert.HalfFRefIdeal.main_arg1) = m ((c.tc : Thread Cert.HalfFIdeal.nD Cert.HalfFIdeal.τ).loc Cert.HalfFIdeal.main_arg1)) →
    ∃ (v0 : (c : Dev Cert.HalfFIdeal.nD) → Buf (Elt Ideal) ((c.tc : Thread Cert.HalfFIdeal.nD Cert.HalfFIdeal.τ).loc Cert.HalfFIdeal.main_v8_0)) (v1 : (c : Dev Cert.HalfFIdeal.nD) → Buf (Elt Ideal) ((c.tc : Thread Cert.HalfFIdeal.nD Cert.HalfFIdeal.τ).loc Cert.HalfFIdeal.main_v8_1)),
      θ_run (Cert.HalfFIdeal.defs (F := Ideal)) (onTc (τ := Cert.HalfFIdeal.τ) (Cert.HalfFIdeal.main (F := Ideal))) ⟨m, fun _ => 0, g⟩ (fun r => ∀ c : Dev Cert.HalfFIdeal.nD,
          r.2.mem ((c.tc : Thread Cert.HalfFIdeal.nD Cert.HalfFIdeal.τ).loc Cert.HalfFIdeal.main_v8_0) = v0 c
          ∧ r.2.mem ((c.tc : Thread Cert.HalfFIdeal.nD Cert.HalfFIdeal.τ).loc Cert.HalfFIdeal.main_v8_1) = v1 c
          ∧ r.2.mem ((c.tc : Thread Cert.HalfFIdeal.nD Cert.HalfFIdeal.τ).loc Cert.HalfFIdeal.main_arg0) = m ((c.tc : Thread Cert.HalfFIdeal.nD Cert.HalfFIdeal.τ).loc Cert.HalfFIdeal.main_arg0)
          ∧ r.2.mem ((c.tc : Thread Cert.HalfFIdeal.nD Cert.HalfFIdeal.τ).loc Cert.HalfFIdeal.main_arg1) = m ((c.tc : Thread Cert.HalfFIdeal.nD Cert.HalfFIdeal.τ).loc Cert.HalfFIdeal.main_arg1))
      ∧ θ_run (Cert.HalfFRefIdeal.defs (F := Ideal)) (onTc (τ := Cert.HalfFRefIdeal.τ) (Cert.HalfFRefIdeal.main (F := Ideal))) ⟨m', fun _ => 0, g'⟩ (fun r => ∀ c : Dev Cert.HalfFRefIdeal.nD,
          r.2.mem ((c.tc : Thread Cert.HalfFRefIdeal.nD Cert.HalfFRefIdeal.τ).loc Cert.HalfFRefIdeal.main_v8) = v0 c
          ∧ r.2.mem ((c.tc : Thread Cert.HalfFRefIdeal.nD Cert.HalfFRefIdeal.τ).loc Cert.HalfFRefIdeal.main_v11) = v1 c
          ∧ r.2.mem ((c.tc : Thread Cert.HalfFRefIdeal.nD Cert.HalfFRefIdeal.τ).loc Cert.HalfFRefIdeal.main_arg0) = m' ((c.tc : Thread Cert.HalfFRefIdeal.nD Cert.HalfFRefIdeal.τ).loc Cert.HalfFRefIdeal.main_arg0)
          ∧ r.2.mem ((c.tc : Thread Cert.HalfFRefIdeal.nD Cert.HalfFRefIdeal.τ).loc Cert.HalfFRefIdeal.main_arg1) = m' ((c.tc : Thread Cert.HalfFRefIdeal.nD Cert.HalfFRefIdeal.τ).loc Cert.HalfFRefIdeal.main_arg1))

def preserves_Nn_NnIdeal : Prop :=
  True

def algebraic_NnIdeal_NnRefIdeal [hNnIdeal : Cert.NnIdeal.Facts] [hNnRefIdeal : Cert.NnRefIdeal.Facts] : Prop :=
  ∀ (m : (ℓ : Loc Cert.NnIdeal.nD Cert.NnIdeal.τ Cert.NnIdeal.sig) → Buf (Elt Ideal) ℓ) (g : Dev Cert.NnIdeal.nD → PrngReg)
    (m' : (ℓ : Loc Cert.NnRefIdeal.nD Cert.NnRefIdeal.τ Cert.NnRefIdeal.sig) → Buf (Elt Ideal) ℓ) (g' : Dev Cert.NnRefIdeal.nD → PrngReg), Pre_NnIdeal m →
    (∀ c : Dev Cert.NnIdeal.nD,
      m' ((c.tc : Thread Cert.NnRefIdeal.nD Cert.NnRefIdeal.τ).loc Cert.NnRefIdeal.main_arg0) = m ((c.tc : Thread Cert.NnIdeal.nD Cert.NnIdeal.τ).loc Cert.NnIdeal.main_arg0)
      ∧ m' ((c.tc : Thread Cert.NnRefIdeal.nD Cert.NnRefIdeal.τ).loc Cert.NnRefIdeal.main_arg1) = m ((c.tc : Thread Cert.NnIdeal.nD Cert.NnIdeal.τ).loc Cert.NnIdeal.main_arg1)) →
    ∃ (v0 : (c : Dev Cert.NnIdeal.nD) → Buf (Elt Ideal) ((c.tc : Thread Cert.NnIdeal.nD Cert.NnIdeal.τ).loc Cert.NnIdeal.main_v0)),
      θ_run (Cert.NnIdeal.defs (F := Ideal)) (onTc (τ := Cert.NnIdeal.τ) (Cert.NnIdeal.main (F := Ideal))) ⟨m, fun _ => 0, g⟩ (fun r => ∀ c : Dev Cert.NnIdeal.nD,
          r.2.mem ((c.tc : Thread Cert.NnIdeal.nD Cert.NnIdeal.τ).loc Cert.NnIdeal.main_v0) = v0 c
          ∧ r.2.mem ((c.tc : Thread Cert.NnIdeal.nD Cert.NnIdeal.τ).loc Cert.NnIdeal.main_arg0) = m ((c.tc : Thread Cert.NnIdeal.nD Cert.NnIdeal.τ).loc Cert.NnIdeal.main_arg0)
          ∧ r.2.mem ((c.tc : Thread Cert.NnIdeal.nD Cert.NnIdeal.τ).loc Cert.NnIdeal.main_arg1) = m ((c.tc : Thread Cert.NnIdeal.nD Cert.NnIdeal.τ).loc Cert.NnIdeal.main_arg1))
      ∧ θ_run (Cert.NnRefIdeal.defs (F := Ideal)) (onTc (τ := Cert.NnRefIdeal.τ) (Cert.NnRefIdeal.main (F := Ideal))) ⟨m', fun _ => 0, g'⟩ (fun r => ∀ c : Dev Cert.NnRefIdeal.nD,
          r.2.mem ((c.tc : Thread Cert.NnRefIdeal.nD Cert.NnRefIdeal.τ).loc Cert.NnRefIdeal.main_v3) = v0 c
          ∧ r.2.mem ((c.tc : Thread Cert.NnRefIdeal.nD Cert.NnRefIdeal.τ).loc Cert.NnRefIdeal.main_arg0) = m' ((c.tc : Thread Cert.NnRefIdeal.nD Cert.NnRefIdeal.τ).loc Cert.NnRefIdeal.main_arg0)
          ∧ r.2.mem ((c.tc : Thread Cert.NnRefIdeal.nD Cert.NnRefIdeal.τ).loc Cert.NnRefIdeal.main_arg1) = m' ((c.tc : Thread Cert.NnRefIdeal.nD Cert.NnRefIdeal.τ).loc Cert.NnRefIdeal.main_arg1))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v5) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_Nt_NtIdeal : Prop :=
  True

def algebraic_NtIdeal_NtRefIdeal [hNtIdeal : Cert.NtIdeal.Facts] [hNtRefIdeal : Cert.NtRefIdeal.Facts] : Prop :=
  ∀ (m : (ℓ : Loc Cert.NtIdeal.nD Cert.NtIdeal.τ Cert.NtIdeal.sig) → Buf (Elt Ideal) ℓ) (g : Dev Cert.NtIdeal.nD → PrngReg)
    (m' : (ℓ : Loc Cert.NtRefIdeal.nD Cert.NtRefIdeal.τ Cert.NtRefIdeal.sig) → Buf (Elt Ideal) ℓ) (g' : Dev Cert.NtRefIdeal.nD → PrngReg), Pre_NtIdeal m →
    (∀ c : Dev Cert.NtIdeal.nD,
      m' ((c.tc : Thread Cert.NtRefIdeal.nD Cert.NtRefIdeal.τ).loc Cert.NtRefIdeal.main_arg0) = m ((c.tc : Thread Cert.NtIdeal.nD Cert.NtIdeal.τ).loc Cert.NtIdeal.main_arg0)
      ∧ m' ((c.tc : Thread Cert.NtRefIdeal.nD Cert.NtRefIdeal.τ).loc Cert.NtRefIdeal.main_arg1) = m ((c.tc : Thread Cert.NtIdeal.nD Cert.NtIdeal.τ).loc Cert.NtIdeal.main_arg1)) →
    ∃ (v0 : (c : Dev Cert.NtIdeal.nD) → Buf (Elt Ideal) ((c.tc : Thread Cert.NtIdeal.nD Cert.NtIdeal.τ).loc Cert.NtIdeal.main_v0)),
      θ_run (Cert.NtIdeal.defs (F := Ideal)) (onTc (τ := Cert.NtIdeal.τ) (Cert.NtIdeal.main (F := Ideal))) ⟨m, fun _ => 0, g⟩ (fun r => ∀ c : Dev Cert.NtIdeal.nD,
          r.2.mem ((c.tc : Thread Cert.NtIdeal.nD Cert.NtIdeal.τ).loc Cert.NtIdeal.main_v0) = v0 c
          ∧ r.2.mem ((c.tc : Thread Cert.NtIdeal.nD Cert.NtIdeal.τ).loc Cert.NtIdeal.main_arg0) = m ((c.tc : Thread Cert.NtIdeal.nD Cert.NtIdeal.τ).loc Cert.NtIdeal.main_arg0)
          ∧ r.2.mem ((c.tc : Thread Cert.NtIdeal.nD Cert.NtIdeal.τ).loc Cert.NtIdeal.main_arg1) = m ((c.tc : Thread Cert.NtIdeal.nD Cert.NtIdeal.τ).loc Cert.NtIdeal.main_arg1))
      ∧ θ_run (Cert.NtRefIdeal.defs (F := Ideal)) (onTc (τ := Cert.NtRefIdeal.τ) (Cert.NtRefIdeal.main (F := Ideal))) ⟨m', fun _ => 0, g'⟩ (fun r => ∀ c : Dev Cert.NtRefIdeal.nD,
          r.2.mem ((c.tc : Thread Cert.NtRefIdeal.nD Cert.NtRefIdeal.τ).loc Cert.NtRefIdeal.main_v3) = v0 c
          ∧ r.2.mem ((c.tc : Thread Cert.NtRefIdeal.nD Cert.NtRefIdeal.τ).loc Cert.NtRefIdeal.main_arg0) = m' ((c.tc : Thread Cert.NtRefIdeal.nD Cert.NtRefIdeal.τ).loc Cert.NtRefIdeal.main_arg0)
          ∧ r.2.mem ((c.tc : Thread Cert.NtRefIdeal.nD Cert.NtRefIdeal.τ).loc Cert.NtRefIdeal.main_arg1) = m' ((c.tc : Thread Cert.NtRefIdeal.nD Cert.NtRefIdeal.τ).loc Cert.NtRefIdeal.main_arg1))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v0)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v0) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v6) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_TnPair_TnPairIdeal : Prop :=
  True

def algebraic_TnPairIdeal_TnPairRefIdeal [hTnPairIdeal : Cert.TnPairIdeal.Facts] [hTnPairRefIdeal : Cert.TnPairRefIdeal.Facts] : Prop :=
  ∀ (m : (ℓ : Loc Cert.TnPairIdeal.nD Cert.TnPairIdeal.τ Cert.TnPairIdeal.sig) → Buf (Elt Ideal) ℓ) (g : Dev Cert.TnPairIdeal.nD → PrngReg)
    (m' : (ℓ : Loc Cert.TnPairRefIdeal.nD Cert.TnPairRefIdeal.τ Cert.TnPairRefIdeal.sig) → Buf (Elt Ideal) ℓ) (g' : Dev Cert.TnPairRefIdeal.nD → PrngReg), Pre_TnPairIdeal m →
    (∀ c : Dev Cert.TnPairIdeal.nD,
      m' ((c.tc : Thread Cert.TnPairRefIdeal.nD Cert.TnPairRefIdeal.τ).loc Cert.TnPairRefIdeal.main_arg0) = m ((c.tc : Thread Cert.TnPairIdeal.nD Cert.TnPairIdeal.τ).loc Cert.TnPairIdeal.main_arg0)
      ∧ m' ((c.tc : Thread Cert.TnPairRefIdeal.nD Cert.TnPairRefIdeal.τ).loc Cert.TnPairRefIdeal.main_arg1) = m ((c.tc : Thread Cert.TnPairIdeal.nD Cert.TnPairIdeal.τ).loc Cert.TnPairIdeal.main_arg1)) →
    ∃ (v0 : (c : Dev Cert.TnPairIdeal.nD) → Buf (Elt Ideal) ((c.tc : Thread Cert.TnPairIdeal.nD Cert.TnPairIdeal.τ).loc Cert.TnPairIdeal.main_v0)),
      θ_run (Cert.TnPairIdeal.defs (F := Ideal)) (onTc (τ := Cert.TnPairIdeal.τ) (Cert.TnPairIdeal.main (F := Ideal))) ⟨m, fun _ => 0, g⟩ (fun r => ∀ c : Dev Cert.TnPairIdeal.nD,
          r.2.mem ((c.tc : Thread Cert.TnPairIdeal.nD Cert.TnPairIdeal.τ).loc Cert.TnPairIdeal.main_v0) = v0 c
          ∧ r.2.mem ((c.tc : Thread Cert.TnPairIdeal.nD Cert.TnPairIdeal.τ).loc Cert.TnPairIdeal.main_arg0) = m ((c.tc : Thread Cert.TnPairIdeal.nD Cert.TnPairIdeal.τ).loc Cert.TnPairIdeal.main_arg0)
          ∧ r.2.mem ((c.tc : Thread Cert.TnPairIdeal.nD Cert.TnPairIdeal.τ).loc Cert.TnPairIdeal.main_arg1) = m ((c.tc : Thread Cert.TnPairIdeal.nD Cert.TnPairIdeal.τ).loc Cert.TnPairIdeal.main_arg1))
      ∧ θ_run (Cert.TnPairRefIdeal.defs (F := Ideal)) (onTc (τ := Cert.TnPairRefIdeal.τ) (Cert.TnPairRefIdeal.main (F := Ideal))) ⟨m', fun _ => 0, g'⟩ (fun r => ∀ c : Dev Cert.TnPairRefIdeal.nD,
          r.2.mem ((c.tc : Thread Cert.TnPairRefIdeal.nD Cert.TnPairRefIdeal.τ).loc Cert.TnPairRefIdeal.main_v9) = v0 c
          ∧ r.2.mem ((c.tc : Thread Cert.TnPairRefIdeal.nD Cert.TnPairRefIdeal.τ).loc Cert.TnPairRefIdeal.main_arg0) = m' ((c.tc : Thread Cert.TnPairRefIdeal.nD Cert.TnPairRefIdeal.τ).loc Cert.TnPairRefIdeal.main_arg0)
          ∧ r.2.mem ((c.tc : Thread Cert.TnPairRefIdeal.nD Cert.TnPairRefIdeal.τ).loc Cert.TnPairRefIdeal.main_arg1) = m' ((c.tc : Thread Cert.TnPairRefIdeal.nD Cert.TnPairRefIdeal.τ).loc Cert.TnPairRefIdeal.main_arg1))

def preserves_NtHalves_NtHalvesIdeal : Prop :=
  True

def algebraic_NtHalvesIdeal_NtHalvesRefIdeal [hNtHalvesIdeal : Cert.NtHalvesIdeal.Facts] [hNtHalvesRefIdeal : Cert.NtHalvesRefIdeal.Facts] : Prop :=
  ∀ (m : (ℓ : Loc Cert.NtHalvesIdeal.nD Cert.NtHalvesIdeal.τ Cert.NtHalvesIdeal.sig) → Buf (Elt Ideal) ℓ) (g : Dev Cert.NtHalvesIdeal.nD → PrngReg)
    (m' : (ℓ : Loc Cert.NtHalvesRefIdeal.nD Cert.NtHalvesRefIdeal.τ Cert.NtHalvesRefIdeal.sig) → Buf (Elt Ideal) ℓ) (g' : Dev Cert.NtHalvesRefIdeal.nD → PrngReg), Pre_NtHalvesIdeal m →
    (∀ c : Dev Cert.NtHalvesIdeal.nD,
      m' ((c.tc : Thread Cert.NtHalvesRefIdeal.nD Cert.NtHalvesRefIdeal.τ).loc Cert.NtHalvesRefIdeal.main_arg0) = m ((c.tc : Thread Cert.NtHalvesIdeal.nD Cert.NtHalvesIdeal.τ).loc Cert.NtHalvesIdeal.main_arg0)
      ∧ m' ((c.tc : Thread Cert.NtHalvesRefIdeal.nD Cert.NtHalvesRefIdeal.τ).loc Cert.NtHalvesRefIdeal.main_arg1) = m ((c.tc : Thread Cert.NtHalvesIdeal.nD Cert.NtHalvesIdeal.τ).loc Cert.NtHalvesIdeal.main_arg1)) →
    ∃ (v0 : (c : Dev Cert.NtHalvesIdeal.nD) → Buf (Elt Ideal) ((c.tc : Thread Cert.NtHalvesIdeal.nD Cert.NtHalvesIdeal.τ).loc Cert.NtHalvesIdeal.main_v7)),
      θ_run (Cert.NtHalvesIdeal.defs (F := Ideal)) (onTc (τ := Cert.NtHalvesIdeal.τ) (Cert.NtHalvesIdeal.main (F := Ideal))) ⟨m, fun _ => 0, g⟩ (fun r => ∀ c : Dev Cert.NtHalvesIdeal.nD,
          r.2.mem ((c.tc : Thread Cert.NtHalvesIdeal.nD Cert.NtHalvesIdeal.τ).loc Cert.NtHalvesIdeal.main_v7) = v0 c
          ∧ r.2.mem ((c.tc : Thread Cert.NtHalvesIdeal.nD Cert.NtHalvesIdeal.τ).loc Cert.NtHalvesIdeal.main_arg0) = m ((c.tc : Thread Cert.NtHalvesIdeal.nD Cert.NtHalvesIdeal.τ).loc Cert.NtHalvesIdeal.main_arg0)
          ∧ r.2.mem ((c.tc : Thread Cert.NtHalvesIdeal.nD Cert.NtHalvesIdeal.τ).loc Cert.NtHalvesIdeal.main_arg1) = m ((c.tc : Thread Cert.NtHalvesIdeal.nD Cert.NtHalvesIdeal.τ).loc Cert.NtHalvesIdeal.main_arg1))
      ∧ θ_run (Cert.NtHalvesRefIdeal.defs (F := Ideal)) (onTc (τ := Cert.NtHalvesRefIdeal.τ) (Cert.NtHalvesRefIdeal.main (F := Ideal))) ⟨m', fun _ => 0, g'⟩ (fun r => ∀ c : Dev Cert.NtHalvesRefIdeal.nD,
          r.2.mem ((c.tc : Thread Cert.NtHalvesRefIdeal.nD Cert.NtHalvesRefIdeal.τ).loc Cert.NtHalvesRefIdeal.main_v7) = v0 c
          ∧ r.2.mem ((c.tc : Thread Cert.NtHalvesRefIdeal.nD Cert.NtHalvesRefIdeal.τ).loc Cert.NtHalvesRefIdeal.main_arg0) = m' ((c.tc : Thread Cert.NtHalvesRefIdeal.nD Cert.NtHalvesRefIdeal.τ).loc Cert.NtHalvesRefIdeal.main_arg0)
          ∧ r.2.mem ((c.tc : Thread Cert.NtHalvesRefIdeal.nD Cert.NtHalvesRefIdeal.τ).loc Cert.NtHalvesRefIdeal.main_arg1) = m' ((c.tc : Thread Cert.NtHalvesRefIdeal.nD Cert.NtHalvesRefIdeal.τ).loc Cert.NtHalvesRefIdeal.main_arg1))

def preserves_TnHalf_TnHalfIdeal : Prop :=
  True

def algebraic_TnHalfIdeal_TnHalfRefIdeal [hTnHalfIdeal : Cert.TnHalfIdeal.Facts] [hTnHalfRefIdeal : Cert.TnHalfRefIdeal.Facts] : Prop :=
  ∀ (m : (ℓ : Loc Cert.TnHalfIdeal.nD Cert.TnHalfIdeal.τ Cert.TnHalfIdeal.sig) → Buf (Elt Ideal) ℓ) (g : Dev Cert.TnHalfIdeal.nD → PrngReg)
    (m' : (ℓ : Loc Cert.TnHalfRefIdeal.nD Cert.TnHalfRefIdeal.τ Cert.TnHalfRefIdeal.sig) → Buf (Elt Ideal) ℓ) (g' : Dev Cert.TnHalfRefIdeal.nD → PrngReg), Pre_TnHalfIdeal m →
    (∀ c : Dev Cert.TnHalfIdeal.nD,
      m' ((c.tc : Thread Cert.TnHalfRefIdeal.nD Cert.TnHalfRefIdeal.τ).loc Cert.TnHalfRefIdeal.main_arg0) = m ((c.tc : Thread Cert.TnHalfIdeal.nD Cert.TnHalfIdeal.τ).loc Cert.TnHalfIdeal.main_arg0)
      ∧ m' ((c.tc : Thread Cert.TnHalfRefIdeal.nD Cert.TnHalfRefIdeal.τ).loc Cert.TnHalfRefIdeal.main_arg1) = m ((c.tc : Thread Cert.TnHalfIdeal.nD Cert.TnHalfIdeal.τ).loc Cert.TnHalfIdeal.main_arg1)) →
    ∃ (v0 : (c : Dev Cert.TnHalfIdeal.nD) → Buf (Elt Ideal) ((c.tc : Thread Cert.TnHalfIdeal.nD Cert.TnHalfIdeal.τ).loc Cert.TnHalfIdeal.main_v1)),
      θ_run (Cert.TnHalfIdeal.defs (F := Ideal)) (onTc (τ := Cert.TnHalfIdeal.τ) (Cert.TnHalfIdeal.main (F := Ideal))) ⟨m, fun _ => 0, g⟩ (fun r => ∀ c : Dev Cert.TnHalfIdeal.nD,
          r.2.mem ((c.tc : Thread Cert.TnHalfIdeal.nD Cert.TnHalfIdeal.τ).loc Cert.TnHalfIdeal.main_v1) = v0 c
          ∧ r.2.mem ((c.tc : Thread Cert.TnHalfIdeal.nD Cert.TnHalfIdeal.τ).loc Cert.TnHalfIdeal.main_arg0) = m ((c.tc : Thread Cert.TnHalfIdeal.nD Cert.TnHalfIdeal.τ).loc Cert.TnHalfIdeal.main_arg0)
          ∧ r.2.mem ((c.tc : Thread Cert.TnHalfIdeal.nD Cert.TnHalfIdeal.τ).loc Cert.TnHalfIdeal.main_arg1) = m ((c.tc : Thread Cert.TnHalfIdeal.nD Cert.TnHalfIdeal.τ).loc Cert.TnHalfIdeal.main_arg1))
      ∧ θ_run (Cert.TnHalfRefIdeal.defs (F := Ideal)) (onTc (τ := Cert.TnHalfRefIdeal.τ) (Cert.TnHalfRefIdeal.main (F := Ideal))) ⟨m', fun _ => 0, g'⟩ (fun r => ∀ c : Dev Cert.TnHalfRefIdeal.nD,
          r.2.mem ((c.tc : Thread Cert.TnHalfRefIdeal.nD Cert.TnHalfRefIdeal.τ).loc Cert.TnHalfRefIdeal.main_v10) = v0 c
          ∧ r.2.mem ((c.tc : Thread Cert.TnHalfRefIdeal.nD Cert.TnHalfRefIdeal.τ).loc Cert.TnHalfRefIdeal.main_arg0) = m' ((c.tc : Thread Cert.TnHalfRefIdeal.nD Cert.TnHalfRefIdeal.τ).loc Cert.TnHalfRefIdeal.main_arg0)
          ∧ r.2.mem ((c.tc : Thread Cert.TnHalfRefIdeal.nD Cert.TnHalfRefIdeal.τ).loc Cert.TnHalfRefIdeal.main_arg1) = m' ((c.tc : Thread Cert.TnHalfRefIdeal.nD Cert.TnHalfRefIdeal.τ).loc Cert.TnHalfRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_arg1) = v0 c
          ∧ r.2.mem ((c.tc : Thread Cert.AdamwRefIdeal.nD Cert.AdamwRefIdeal.τ).loc Cert.AdamwRefIdeal.main_v23) = v1 c
          ∧ r.2.mem ((c.tc : Thread Cert.AdamwRefIdeal.nD Cert.AdamwRefIdeal.τ).loc Cert.AdamwRefIdeal.main_v4) = v2 c
          ∧ r.2.mem ((c.tc : Thread Cert.AdamwRefIdeal.nD Cert.AdamwRefIdeal.τ).loc Cert.AdamwRefIdeal.main_v10) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_PairAdd_PairAddIdeal : Prop :=
  True

def algebraic_PairAddIdeal_PairAddRefIdeal [hPairAddIdeal : Cert.PairAddIdeal.Facts] [hPairAddRefIdeal : Cert.PairAddRefIdeal.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.PairAddRefIdeal.nD Cert.PairAddRefIdeal.τ Cert.PairAddRefIdeal.sig) → Buf (Elt Ideal) ℓ) (g' : Dev Cert.PairAddRefIdeal.nD → PrngReg), Pre_PairAddIdeal m →
    (∀ c : Dev Cert.PairAddIdeal.nD,
      m' ((c.tc : Thread Cert.PairAddRefIdeal.nD Cert.PairAddRefIdeal.τ).loc Cert.PairAddRefIdeal.main_arg0) = m ((c.tc : Thread Cert.PairAddIdeal.nD Cert.PairAddIdeal.τ).loc Cert.PairAddIdeal.main_arg0)
      ∧ m' ((c.tc : Thread Cert.PairAddRefIdeal.nD Cert.PairAddRefIdeal.τ).loc Cert.PairAddRefIdeal.main_arg1) = m ((c.tc : Thread Cert.PairAddIdeal.nD Cert.PairAddIdeal.τ).loc Cert.PairAddIdeal.main_arg1)) →
    ∃ (v0 : (c : Dev Cert.PairAddIdeal.nD) → Buf (Elt Ideal) ((c.tc : Thread Cert.PairAddIdeal.nD Cert.PairAddIdeal.τ).loc Cert.PairAddIdeal.main_v1)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v1) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1))
      ∧ θ_run (Cert.PairAddRefIdeal.defs (F := Ideal)) (onTc (τ := Cert.PairAddRefIdeal.τ) (Cert.PairAddRefIdeal.main (F := Ideal))) ⟨m', fun _ => 0, g'⟩ (fun r => ∀ c : Dev Cert.PairAddRefIdeal.nD,
          r.2.mem ((c.tc : Thread Cert.PairAddRefIdeal.nD Cert.PairAddRefIdeal.τ).loc Cert.PairAddRefIdeal.main_v4) = v0 c
          ∧ r.2.mem ((c.tc : Thread Cert.PairAddRefIdeal.nD Cert.PairAddRefIdeal.τ).loc Cert.PairAddRefIdeal.main_arg0) = m' ((c.tc : Thread Cert.PairAddRefIdeal.nD Cert.PairAddRefIdeal.τ).loc Cert.PairAddRefIdeal.main_arg0)
          ∧ r.2.mem ((c.tc : Thread Cert.PairAddRefIdeal.nD Cert.PairAddRefIdeal.τ).loc Cert.PairAddRefIdeal.main_arg1) = m' ((c.tc : Thread Cert.PairAddRefIdeal.nD Cert.PairAddRefIdeal.τ).loc Cert.PairAddRefIdeal.main_arg1))

def preserves_Packed_PackedIdeal : Prop :=
  True

def algebraic_PackedIdeal_PackedRefIdeal [hPackedIdeal : Cert.PackedIdeal.Facts] [hPackedRefIdeal : Cert.PackedRefIdeal.Facts] : Prop :=
  ∀ (m : (ℓ : Loc Cert.PackedIdeal.nD Cert.PackedIdeal.τ Cert.PackedIdeal.sig) → Buf (Elt Ideal) ℓ) (g : Dev Cert.PackedIdeal.nD → PrngReg)
    (m' : (ℓ : Loc Cert.PackedRefIdeal.nD Cert.PackedRefIdeal.τ Cert.PackedRefIdeal.sig) → Buf (Elt Ideal) ℓ) (g' : Dev Cert.PackedRefIdeal.nD → PrngReg), Pre_PackedIdeal m →
    (∀ c : Dev Cert.PackedIdeal.nD,
      m' ((c.tc : Thread Cert.PackedRefIdeal.nD Cert.PackedRefIdeal.τ).loc Cert.PackedRefIdeal.main_arg0) = m ((c.tc : Thread Cert.PackedIdeal.nD Cert.PackedIdeal.τ).loc Cert.PackedIdeal.main_arg0)
      ∧ m' ((c.tc : Thread Cert.PackedRefIdeal.nD Cert.PackedRefIdeal.τ).loc Cert.PackedRefIdeal.main_arg1) = m ((c.tc : Thread Cert.PackedIdeal.nD Cert.PackedIdeal.τ).loc Cert.PackedIdeal.main_arg1)
      ∧ m' ((c.tc : Thread Cert.PackedRefIdeal.nD Cert.PackedRefIdeal.τ).loc Cert.PackedRefIdeal.main_arg2) = m ((c.tc : Thread Cert.PackedIdeal.nD Cert.PackedIdeal.τ).loc Cert.PackedIdeal.main_arg2)
      ∧ m' ((c.tc : Thread Cert.PackedRefIdeal.nD Cert.PackedRefIdeal.τ).loc Cert.PackedRefIdeal.main_arg3) = m ((c.tc : Thread Cert.PackedIdeal.nD Cert.PackedIdeal.τ).loc Cert.PackedIdeal.main_arg3)
      ∧ m' ((c.tc : Thread Cert.PackedRefIdeal.nD Cert.PackedRefIdeal.τ).loc Cert.PackedRefIdeal.main_arg4) = m ((c.tc : Thread Cert.PackedIdeal.nD Cert.PackedIdeal.τ).loc Cert.PackedIdeal.main_arg4)
      ∧ m' ((c.tc : Thread Cert.PackedRefIdeal.nD Cert.PackedRefIdeal.τ).loc Cert.PackedRefIdeal.main_arg5) = m ((c.tc : Thread Cert.PackedIdeal.nD Cert.PackedIdeal.τ).loc Cert.PackedIdeal.main_arg5)
      ∧ m' ((c.tc : Thread Cert.PackedRefIdeal.nD Cert.PackedRefIdeal.τ).loc Cert.PackedRefIdeal.main_arg6) = m ((c.tc : Thread Cert.PackedIdeal.nD Cert.PackedIdeal.τ).loc Cert.PackedIdeal.main_arg6)
      ∧ m' ((c.tc : Thread Cert.PackedRefIdeal.nD Cert.PackedRefIdeal.τ).loc Cert.PackedRefIdeal.main_arg7) = m ((c.tc : Thread Cert.PackedIdeal.nD Cert.PackedIdeal.τ).loc Cert.PackedIdeal.main_arg7)
      ∧ m' ((c.tc : Thread Cert.PackedRefIdeal.nD Cert.PackedRefIdeal.τ).loc Cert.PackedRefIdeal.main_arg8) = m ((c.tc : Thread Cert.PackedIdeal.nD Cert.PackedIdeal.τ).loc Cert.PackedIdeal.main_arg8)
      ∧ m' ((c.tc : Thread Cert.PackedRefIdeal.nD Cert.PackedRefIdeal.τ).loc Cert.PackedRefIdeal.main_arg9) = m ((c.tc : Thread Cert.PackedIdeal.nD Cert.PackedIdeal.τ).loc Cert.PackedIdeal.main_arg9)
      ∧ m' ((c.tc : Thread Cert.PackedRefIdeal.nD Cert.PackedRefIdeal.τ).loc Cert.PackedRefIdeal.main_arg10) = m ((c.tc : Thread Cert.PackedIdeal.nD Cert.PackedIdeal.τ).loc Cert.PackedIdeal.main_arg10)) →
    ∃ (v0 : (c : Dev Cert.PackedIdeal.nD) → Buf (Elt Ideal) ((c.tc : Thread Cert.PackedIdeal.nD Cert.PackedIdeal.τ).loc Cert.PackedIdeal.main_v18)) (v1 : (c : Dev Cert.PackedIdeal.nD) → Buf (Elt Ideal) ((c.tc : Thread Cert.PackedIdeal.nD Cert.PackedIdeal.τ).loc Cert.PackedIdeal.main_v21)) (v2 : (c : Dev Cert.PackedIdeal.nD) → Buf (Elt Ideal) ((c.tc : Thread Cert.PackedIdeal.nD Cert.PackedIdeal.τ).loc Cert.PackedIdeal.main_v23)) (v3 : (c : Dev Cert.PackedIdeal.nD) → Buf (Elt Ideal) ((c.tc : Thread Cert.PackedIdeal.nD Cert.PackedIdeal.τ).loc Cert.PackedIdeal.main_v25)) (v4 : (c : Dev Cert.PackedIdeal.nD) → Buf (Elt Ideal) ((c.tc : Thread Cert.PackedIdeal.nD Cert.PackedIdeal.τ).loc Cert.PackedIdeal.main_v27)) (v5 : (c : Dev Cert.PackedIdeal.nD) → Buf (Elt Ideal) ((c.tc : Thread Cert.PackedIdeal.nD Cert.PackedIdeal.τ).loc Cert.PackedIdeal.main_v29)) (v6 : (c : Dev Cert.PackedIdeal.nD) → Buf (Elt Ideal) ((c.tc : Thread Cert.PackedIdeal.nD Cert.PackedIdeal.τ).loc Cert.PackedIdeal.main_v31)) (v7 : (c : Dev Cert.PackedIdeal.nD) → Buf (Elt Ideal) ((c.tc : Thread Cert.PackedIdeal.nD Cert.PackedIdeal.τ).loc Cert.PackedIdeal.main_v33)) (v8 : (c : Dev Cert.PackedIdeal.nD) → Buf (Elt Ideal) ((c.tc : Thread Cert.PackedIdeal.nD Cert.PackedIdeal.τ).loc Cert.PackedIdeal.main_v35)) (v9 : (c : Dev Cert.PackedIdeal.nD) → Buf (Elt Ideal) ((c.tc : Thread Cert.PackedIdeal.nD Cert.PackedIdeal.τ).loc Cert.PackedIdeal.main_v37)) (v10 : (c : Dev Cert.PackedIdeal.nD) → Buf (Elt Ideal) ((c.tc : Thread Cert.PackedIdeal.nD Cert.PackedIdeal.τ).loc Cert.PackedIdeal.main_v39)),
      θ_run (Cert.PackedIdeal.defs (F := Ideal)) (onTc (τ := Cert.PackedIdeal.τ) (Cert.PackedIdeal.main (F := Ideal))) ⟨m, fun _ => 0, g⟩ (fun r => ∀ c : Dev Cert.PackedIdeal.nD,
          r.2.mem ((c.tc : Thread Cert.PackedIdeal.nD Cert.PackedIdeal.τ).loc Cert.PackedIdeal.main_v18) = v0 c
          ∧ r.2.mem ((c.tc : Thread Cert.PackedIdeal.nD Cert.PackedIdeal.τ).loc Cert.PackedIdeal.main_v21) = v1 c
          ∧ r.2.mem ((c.tc : Thread Cert.PackedIdeal.nD Cert.PackedIdeal.τ).loc Cert.PackedIdeal.main_v23) = v2 c
          ∧ r.2.mem ((c.tc : Thread Cert.PackedIdeal.nD Cert.PackedIdeal.τ).loc Cert.PackedIdeal.main_v25) = v3 c
          ∧ r.2.mem ((c.tc : Thread Cert.PackedIdeal.nD Cert.PackedIdeal.τ).loc Cert.PackedIdeal.main_v27) = v4 c
          ∧ r.2.mem ((c.tc : Thread Cert.PackedIdeal.nD Cert.PackedIdeal.τ).loc Cert.PackedIdeal.main_v29) = v5 c
          ∧ r.2.mem ((c.tc : Thread Cert.PackedIdeal.nD Cert.PackedIdeal.τ).loc Cert.PackedIdeal.main_v31) = v6 c
          ∧ r.2.mem ((c.tc : Thread Cert.PackedIdeal.nD Cert.PackedIdeal.τ).loc Cert.PackedIdeal.main_v33) = v7 c
          ∧ r.2.mem ((c.tc : Thread Cert.PackedIdeal.nD Cert.PackedIdeal.τ).loc Cert.PackedIdeal.main_v35) = v8 c
          ∧ r.2.mem ((c.tc : Thread Cert.PackedIdeal.nD Cert.PackedIdeal.τ).loc Cert.PackedIdeal.main_v37) = v9 c
          ∧ r.2.mem ((c.tc : Thread Cert.PackedIdeal.nD Cert.PackedIdeal.τ).loc Cert.PackedIdeal.main_v39) = v10 c
          ∧ r.2.mem ((c.tc : Thread Cert.PackedIdeal.nD Cert.PackedIdeal.τ).loc Cert.PackedIdeal.main_arg0) = m ((c.tc : Thread Cert.PackedIdeal.nD Cert.PackedIdeal.τ).loc Cert.PackedIdeal.main_arg0)
          ∧ r.2.mem ((c.tc : Thread Cert.PackedIdeal.nD Cert.PackedIdeal.τ).loc Cert.PackedIdeal.main_arg1) = m ((c.tc : Thread Cert.PackedIdeal.nD Cert.PackedIdeal.τ).loc Cert.PackedIdeal.main_arg1)
          ∧ r.2.mem ((c.tc : Thread Cert.PackedIdeal.nD Cert.PackedIdeal.τ).loc Cert.PackedIdeal.main_arg2) = m ((c.tc : Thread Cert.PackedIdeal.nD Cert.PackedIdeal.τ).loc Cert.PackedIdeal.main_arg2)
          ∧ r.2.mem ((c.tc : Thread Cert.PackedIdeal.nD Cert.PackedIdeal.τ).loc Cert.PackedIdeal.main_arg3) = m ((c.tc : Thread Cert.PackedIdeal.nD Cert.PackedIdeal.τ).loc Cert.PackedIdeal.main_arg3)
          ∧ r.2.mem ((c.tc : Thread Cert.PackedIdeal.nD Cert.PackedIdeal.τ).loc Cert.PackedIdeal.main_arg4) = m ((c.tc : Thread Cert.PackedIdeal.nD Cert.PackedIdeal.τ).loc Cert.PackedIdeal.main_arg4)
          ∧ r.2.mem ((c.tc : Thread Cert.PackedIdeal.nD Cert.PackedIdeal.τ).loc Cert.PackedIdeal.main_arg5) = m ((c.tc : Thread Cert.PackedIdeal.nD Cert.PackedIdeal.τ).loc Cert.PackedIdeal.main_arg5)
          ∧ r.2.mem ((c.tc : Thread Cert.PackedIdeal.nD Cert.PackedIdeal.τ).loc Cert.PackedIdeal.main_arg6) = m ((c.tc : Thread Cert.PackedIdeal.nD Cert.PackedIdeal.τ).loc Cert.PackedIdeal.main_arg6)
          ∧ r.2.mem ((c.tc : Thread Cert.PackedIdeal.nD Cert.PackedIdeal.τ).loc Cert.PackedIdeal.main_arg7) = m ((c.tc : Thread Cert.PackedIdeal.nD Cert.PackedIdeal.τ).loc Cert.PackedIdeal.main_arg7)
          ∧ r.2.mem ((c.tc : Thread Cert.PackedIdeal.nD Cert.PackedIdeal.τ).loc Cert.PackedIdeal.main_arg8) = m ((c.tc : Thread Cert.PackedIdeal.nD Cert.PackedIdeal.τ).loc Cert.PackedIdeal.main_arg8)
          ∧ r.2.mem ((c.tc : Thread Cert.PackedIdeal.nD Cert.PackedIdeal.τ).loc Cert.PackedIdeal.main_arg9) = m ((c.tc : Thread Cert.PackedIdeal.nD Cert.PackedIdeal.τ).loc Cert.PackedIdeal.main_arg9)
          ∧ r.2.mem ((c.tc : Thread Cert.PackedIdeal.nD Cert.PackedIdeal.τ).loc Cert.PackedIdeal.main_arg10) = m ((c.tc : Thread Cert.PackedIdeal.nD Cert.PackedIdeal.τ).loc Cert.PackedIdeal.main_arg10))
      ∧ θ_run (Cert.PackedRefIdeal.defs (F := Ideal)) (onTc (τ := Cert.PackedRefIdeal.τ) (Cert.PackedRefIdeal.main (F := Ideal))) ⟨m', fun _ => 0, g'⟩ (fun r => ∀ c : Dev Cert.PackedRefIdeal.nD,
          r.2.mem ((c.tc : Thread Cert.PackedRefIdeal.nD Cert.PackedRefIdeal.τ).loc Cert.PackedRefIdeal.main_v0) = v0 c
          ∧ r.2.mem ((c.tc : Thread Cert.PackedRefIdeal.nD Cert.PackedRefIdeal.τ).loc Cert.PackedRefIdeal.main_v1) = v1 c
          ∧ r.2.mem ((c.tc : Thread Cert.PackedRefIdeal.nD Cert.PackedRefIdeal.τ).loc Cert.PackedRefIdeal.main_v2) = v2 c
          ∧ r.2.mem ((c.tc : Thread Cert.PackedRefIdeal.nD Cert.PackedRefIdeal.τ).loc Cert.PackedRefIdeal.main_v3) = v3 c
          ∧ r.2.mem ((c.tc : Thread Cert.PackedRefIdeal.nD Cert.PackedRefIdeal.τ).loc Cert.PackedRefIdeal.main_v4) = v4 c
          ∧ r.2.mem ((c.tc : Thread Cert.PackedRefIdeal.nD Cert.PackedRefIdeal.τ).loc Cert.PackedRefIdeal.main_v5) = v5 c
          ∧ r.2.mem ((c.tc : Thread Cert.PackedRefIdeal.nD Cert.PackedRefIdeal.τ).loc Cert.PackedRefIdeal.main_v6) = v6 c
          ∧ r.2.mem ((c.tc : Thread Cert.PackedRefIdeal.nD Cert.PackedRefIdeal.τ).loc Cert.PackedRefIdeal.main_v7) = v7 c
          ∧ r.2.mem ((c.tc : Thread Cert.PackedRefIdeal.nD Cert.PackedRefIdeal.τ).loc Cert.PackedRefIdeal.main_v8) = v8 c
          ∧ r.2.mem ((c.tc : Thread Cert.PackedRefIdeal.nD Cert.PackedRefIdeal.τ).loc Cert.PackedRefIdeal.main_v9) = v9 c
          ∧ r.2.mem ((c.tc : Thread Cert.PackedRefIdeal.nD Cert.PackedRefIdeal.τ).loc Cert.PackedRefIdeal.main_v10) = v10 c
          ∧ r.2.mem ((c.tc : Thread Cert.PackedRefIdeal.nD Cert.PackedRefIdeal.τ).loc Cert.PackedRefIdeal.main_arg0) = m' ((c.tc : Thread Cert.PackedRefIdeal.nD Cert.PackedRefIdeal.τ).loc Cert.PackedRefIdeal.main_arg0)
          ∧ r.2.mem ((c.tc : Thread Cert.PackedRefIdeal.nD Cert.PackedRefIdeal.τ).loc Cert.PackedRefIdeal.main_arg1) = m' ((c.tc : Thread Cert.PackedRefIdeal.nD Cert.PackedRefIdeal.τ).loc Cert.PackedRefIdeal.main_arg1)
          ∧ r.2.mem ((c.tc : Thread Cert.PackedRefIdeal.nD Cert.PackedRefIdeal.τ).loc Cert.PackedRefIdeal.main_arg2) = m' ((c.tc : Thread Cert.PackedRefIdeal.nD Cert.PackedRefIdeal.τ).loc Cert.PackedRefIdeal.main_arg2)
          ∧ r.2.mem ((c.tc : Thread Cert.PackedRefIdeal.nD Cert.PackedRefIdeal.τ).loc Cert.PackedRefIdeal.main_arg3) = m' ((c.tc : Thread Cert.PackedRefIdeal.nD Cert.PackedRefIdeal.τ).loc Cert.PackedRefIdeal.main_arg3)
          ∧ r.2.mem ((c.tc : Thread Cert.PackedRefIdeal.nD Cert.PackedRefIdeal.τ).loc Cert.PackedRefIdeal.main_arg4) = m' ((c.tc : Thread Cert.PackedRefIdeal.nD Cert.PackedRefIdeal.τ).loc Cert.PackedRefIdeal.main_arg4)
          ∧ r.2.mem ((c.tc : Thread Cert.PackedRefIdeal.nD Cert.PackedRefIdeal.τ).loc Cert.PackedRefIdeal.main_arg5) = m' ((c.tc : Thread Cert.PackedRefIdeal.nD Cert.PackedRefIdeal.τ).loc Cert.PackedRefIdeal.main_arg5)
          ∧ r.2.mem ((c.tc : Thread Cert.PackedRefIdeal.nD Cert.PackedRefIdeal.τ).loc Cert.PackedRefIdeal.main_arg6) = m' ((c.tc : Thread Cert.PackedRefIdeal.nD Cert.PackedRefIdeal.τ).loc Cert.PackedRefIdeal.main_arg6)
          ∧ r.2.mem ((c.tc : Thread Cert.PackedRefIdeal.nD Cert.PackedRefIdeal.τ).loc Cert.PackedRefIdeal.main_arg7) = m' ((c.tc : Thread Cert.PackedRefIdeal.nD Cert.PackedRefIdeal.τ).loc Cert.PackedRefIdeal.main_arg7)
          ∧ r.2.mem ((c.tc : Thread Cert.PackedRefIdeal.nD Cert.PackedRefIdeal.τ).loc Cert.PackedRefIdeal.main_arg8) = m' ((c.tc : Thread Cert.PackedRefIdeal.nD Cert.PackedRefIdeal.τ).loc Cert.PackedRefIdeal.main_arg8)
          ∧ r.2.mem ((c.tc : Thread Cert.PackedRefIdeal.nD Cert.PackedRefIdeal.τ).loc Cert.PackedRefIdeal.main_arg9) = m' ((c.tc : Thread Cert.PackedRefIdeal.nD Cert.PackedRefIdeal.τ).loc Cert.PackedRefIdeal.main_arg9)
          ∧ r.2.mem ((c.tc : Thread Cert.PackedRefIdeal.nD Cert.PackedRefIdeal.τ).loc Cert.PackedRefIdeal.main_arg10) = m' ((c.tc : Thread Cert.PackedRefIdeal.nD Cert.PackedRefIdeal.τ).loc Cert.PackedRefIdeal.main_arg10))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)
      ∧ m' ((c.tc : Thread Cert.AdamwSmallRefIdeal.nD Cert.AdamwSmallRefIdeal.τ).loc Cert.AdamwSmallRefIdeal.main_arg4) = m ((c.tc : Thread Cert.AdamwSmallIdeal.nD Cert.AdamwSmallIdeal.τ).loc Cert.AdamwSmallIdeal.main_arg4)
      ∧ m' ((c.tc : Thread Cert.AdamwSmallRefIdeal.nD Cert.AdamwSmallRefIdeal.τ).loc Cert.AdamwSmallRefIdeal.main_arg5) = m ((c.tc : Thread Cert.AdamwSmallIdeal.nD Cert.AdamwSmallIdeal.τ).loc Cert.AdamwSmallIdeal.main_arg5)
      ∧ m' ((c.tc : Thread Cert.AdamwSmallRefIdeal.nD Cert.AdamwSmallRefIdeal.τ).loc Cert.AdamwSmallRefIdeal.main_arg6) = m ((c.tc : Thread Cert.AdamwSmallIdeal.nD Cert.AdamwSmallIdeal.τ).loc Cert.AdamwSmallIdeal.main_arg6)
      ∧ m' ((c.tc : Thread Cert.AdamwSmallRefIdeal.nD Cert.AdamwSmallRefIdeal.τ).loc Cert.AdamwSmallRefIdeal.main_arg7) = m ((c.tc : Thread Cert.AdamwSmallIdeal.nD Cert.AdamwSmallIdeal.τ).loc Cert.AdamwSmallIdeal.main_arg7)
      ∧ m' ((c.tc : Thread Cert.AdamwSmallRefIdeal.nD Cert.AdamwSmallRefIdeal.τ).loc Cert.AdamwSmallRefIdeal.main_arg8) = m ((c.tc : Thread Cert.AdamwSmallIdeal.nD Cert.AdamwSmallIdeal.τ).loc Cert.AdamwSmallIdeal.main_arg8)
      ∧ m' ((c.tc : Thread Cert.AdamwSmallRefIdeal.nD Cert.AdamwSmallRefIdeal.τ).loc Cert.AdamwSmallRefIdeal.main_arg9) = m ((c.tc : Thread Cert.AdamwSmallIdeal.nD Cert.AdamwSmallIdeal.τ).loc Cert.AdamwSmallIdeal.main_arg9)
      ∧ m' ((c.tc : Thread Cert.AdamwSmallRefIdeal.nD Cert.AdamwSmallRefIdeal.τ).loc Cert.AdamwSmallRefIdeal.main_arg10) = m ((c.tc : Thread Cert.AdamwSmallIdeal.nD Cert.AdamwSmallIdeal.τ).loc Cert.AdamwSmallIdeal.main_arg10)
      ∧ m' ((c.tc : Thread Cert.AdamwSmallRefIdeal.nD Cert.AdamwSmallRefIdeal.τ).loc Cert.AdamwSmallRefIdeal.main_arg11) = m ((c.tc : Thread Cert.AdamwSmallIdeal.nD Cert.AdamwSmallIdeal.τ).loc Cert.AdamwSmallIdeal.main_arg11)
      ∧ m' ((c.tc : Thread Cert.AdamwSmallRefIdeal.nD Cert.AdamwSmallRefIdeal.τ).loc Cert.AdamwSmallRefIdeal.main_arg12) = m ((c.tc : Thread Cert.AdamwSmallIdeal.nD Cert.AdamwSmallIdeal.τ).loc Cert.AdamwSmallIdeal.main_arg12)
      ∧ m' ((c.tc : Thread Cert.AdamwSmallRefIdeal.nD Cert.AdamwSmallRefIdeal.τ).loc Cert.AdamwSmallRefIdeal.main_arg13) = m ((c.tc : Thread Cert.AdamwSmallIdeal.nD Cert.AdamwSmallIdeal.τ).loc Cert.AdamwSmallIdeal.main_arg13)
      ∧ m' ((c.tc : Thread Cert.AdamwSmallRefIdeal.nD Cert.AdamwSmallRefIdeal.τ).loc Cert.AdamwSmallRefIdeal.main_arg14) = m ((c.tc : Thread Cert.AdamwSmallIdeal.nD Cert.AdamwSmallIdeal.τ).loc Cert.AdamwSmallIdeal.main_arg14)
      ∧ m' ((c.tc : Thread Cert.AdamwSmallRefIdeal.nD Cert.AdamwSmallRefIdeal.τ).loc Cert.AdamwSmallRefIdeal.main_arg15) = m ((c.tc : Thread Cert.AdamwSmallIdeal.nD Cert.AdamwSmallIdeal.τ).loc Cert.AdamwSmallIdeal.main_arg15)
      ∧ m' ((c.tc : Thread Cert.AdamwSmallRefIdeal.nD Cert.AdamwSmallRefIdeal.τ).loc Cert.AdamwSmallRefIdeal.main_arg16) = m ((c.tc : Thread Cert.AdamwSmallIdeal.nD Cert.AdamwSmallIdeal.τ).loc Cert.AdamwSmallIdeal.main_arg16)
      ∧ m' ((c.tc : Thread Cert.AdamwSmallRefIdeal.nD Cert.AdamwSmallRefIdeal.τ).loc Cert.AdamwSmallRefIdeal.main_arg17) = m ((c.tc : Thread Cert.AdamwSmallIdeal.nD Cert.AdamwSmallIdeal.τ).loc Cert.AdamwSmallIdeal.main_arg17)
      ∧ m' ((c.tc : Thread Cert.AdamwSmallRefIdeal.nD Cert.AdamwSmallRefIdeal.τ).loc Cert.AdamwSmallRefIdeal.main_arg18) = m ((c.tc : Thread Cert.AdamwSmallIdeal.nD Cert.AdamwSmallIdeal.τ).loc Cert.AdamwSmallIdeal.main_arg18)
      ∧ m' ((c.tc : Thread Cert.AdamwSmallRefIdeal.nD Cert.AdamwSmallRefIdeal.τ).loc Cert.AdamwSmallRefIdeal.main_arg19) = m ((c.tc : Thread Cert.AdamwSmallIdeal.nD Cert.AdamwSmallIdeal.τ).loc Cert.AdamwSmallIdeal.main_arg19)
      ∧ m' ((c.tc : Thread Cert.AdamwSmallRefIdeal.nD Cert.AdamwSmallRefIdeal.τ).loc Cert.AdamwSmallRefIdeal.main_arg20) = m ((c.tc : Thread Cert.AdamwSmallIdeal.nD Cert.AdamwSmallIdeal.τ).loc Cert.AdamwSmallIdeal.main_arg20)
      ∧ m' ((c.tc : Thread Cert.AdamwSmallRefIdeal.nD Cert.AdamwSmallRefIdeal.τ).loc Cert.AdamwSmallRefIdeal.main_arg21) = m ((c.tc : Thread Cert.AdamwSmallIdeal.nD Cert.AdamwSmallIdeal.τ).loc Cert.AdamwSmallIdeal.main_arg21)
      ∧ m' ((c.tc : Thread Cert.AdamwSmallRefIdeal.nD Cert.AdamwSmallRefIdeal.τ).loc Cert.AdamwSmallRefIdeal.main_arg22) = m ((c.tc : Thread Cert.AdamwSmallIdeal.nD Cert.AdamwSmallIdeal.τ).loc Cert.AdamwSmallIdeal.main_arg22)
      ∧ m' ((c.tc : Thread Cert.AdamwSmallRefIdeal.nD Cert.AdamwSmallRefIdeal.τ).loc Cert.AdamwSmallRefIdeal.main_arg23) = m ((c.tc : Thread Cert.AdamwSmallIdeal.nD Cert.AdamwSmallIdeal.τ).loc Cert.AdamwSmallIdeal.main_arg23)
      ∧ m' ((c.tc : Thread Cert.AdamwSmallRefIdeal.nD Cert.AdamwSmallRefIdeal.τ).loc Cert.AdamwSmallRefIdeal.main_arg24) = m ((c.tc : Thread Cert.AdamwSmallIdeal.nD Cert.AdamwSmallIdeal.τ).loc Cert.AdamwSmallIdeal.main_arg24)
      ∧ m' ((c.tc : Thread Cert.AdamwSmallRefIdeal.nD Cert.AdamwSmallRefIdeal.τ).loc Cert.AdamwSmallRefIdeal.main_arg25) = m ((c.tc : Thread Cert.AdamwSmallIdeal.nD Cert.AdamwSmallIdeal.τ).loc Cert.AdamwSmallIdeal.main_arg25)
      ∧ m' ((c.tc : Thread Cert.AdamwSmallRefIdeal.nD Cert.AdamwSmallRefIdeal.τ).loc Cert.AdamwSmallRefIdeal.main_arg26) = m ((c.tc : Thread Cert.AdamwSmallIdeal.nD Cert.AdamwSmallIdeal.τ).loc Cert.AdamwSmallIdeal.main_arg26)
      ∧ m' ((c.tc : Thread Cert.AdamwSmallRefIdeal.nD Cert.AdamwSmallRefIdeal.τ).loc Cert.AdamwSmallRefIdeal.main_arg27) = m ((c.tc : Thread Cert.AdamwSmallIdeal.nD Cert.AdamwSmallIdeal.τ).loc Cert.AdamwSmallIdeal.main_arg27)
      ∧ m' ((c.tc : Thread Cert.AdamwSmallRefIdeal.nD Cert.AdamwSmallRefIdeal.τ).loc Cert.AdamwSmallRefIdeal.main_arg28) = m ((c.tc : Thread Cert.AdamwSmallIdeal.nD Cert.AdamwSmallIdeal.τ).loc Cert.AdamwSmallIdeal.main_arg28)
      ∧ m' ((c.tc : Thread Cert.AdamwSmallRefIdeal.nD Cert.AdamwSmallRefIdeal.τ).loc Cert.AdamwSmallRefIdeal.main_arg29) = m ((c.tc : Thread Cert.AdamwSmallIdeal.nD Cert.AdamwSmallIdeal.τ).loc Cert.AdamwSmallIdeal.main_arg29)
      ∧ m' ((c.tc : Thread Cert.AdamwSmallRefIdeal.nD Cert.AdamwSmallRefIdeal.τ).loc Cert.AdamwSmallRefIdeal.main_arg30) = m ((c.tc : Thread Cert.AdamwSmallIdeal.nD Cert.AdamwSmallIdeal.τ).loc Cert.AdamwSmallIdeal.main_arg30)
      ∧ m' ((c.tc : Thread Cert.AdamwSmallRefIdeal.nD Cert.AdamwSmallRefIdeal.τ).loc Cert.AdamwSmallRefIdeal.main_arg31) = m ((c.tc : Thread Cert.AdamwSmallIdeal.nD Cert.AdamwSmallIdeal.τ).loc Cert.AdamwSmallIdeal.main_arg31)
      ∧ m' ((c.tc : Thread Cert.AdamwSmallRefIdeal.nD Cert.AdamwSmallRefIdeal.τ).loc Cert.AdamwSmallRefIdeal.main_arg32) = m ((c.tc : Thread Cert.AdamwSmallIdeal.nD Cert.AdamwSmallIdeal.τ).loc Cert.AdamwSmallIdeal.main_arg32)
      ∧ m' ((c.tc : Thread Cert.AdamwSmallRefIdeal.nD Cert.AdamwSmallRefIdeal.τ).loc Cert.AdamwSmallRefIdeal.main_arg33) = m ((c.tc : Thread Cert.AdamwSmallIdeal.nD Cert.AdamwSmallIdeal.τ).loc Cert.AdamwSmallIdeal.main_arg33)
      ∧ m' ((c.tc : Thread Cert.AdamwSmallRefIdeal.nD Cert.AdamwSmallRefIdeal.τ).loc Cert.AdamwSmallRefIdeal.main_arg34) = m ((c.tc : Thread Cert.AdamwSmallIdeal.nD Cert.AdamwSmallIdeal.τ).loc Cert.AdamwSmallIdeal.main_arg34)
      ∧ m' ((c.tc : Thread Cert.AdamwSmallRefIdeal.nD Cert.AdamwSmallRefIdeal.τ).loc Cert.AdamwSmallRefIdeal.main_arg35) = m ((c.tc : Thread Cert.AdamwSmallIdeal.nD Cert.AdamwSmallIdeal.τ).loc Cert.AdamwSmallIdeal.main_arg35)
      ∧ m' ((c.tc : Thread Cert.AdamwSmallRefIdeal.nD Cert.AdamwSmallRefIdeal.τ).loc Cert.AdamwSmallRefIdeal.main_arg36) = m ((c.tc : Thread Cert.AdamwSmallIdeal.nD Cert.AdamwSmallIdeal.τ).loc Cert.AdamwSmallIdeal.main_arg36)
      ∧ m' ((c.tc : Thread Cert.AdamwSmallRefIdeal.nD Cert.AdamwSmallRefIdeal.τ).loc Cert.AdamwSmallRefIdeal.main_arg37) = m ((c.tc : Thread Cert.AdamwSmallIdeal.nD Cert.AdamwSmallIdeal.τ).loc Cert.AdamwSmallIdeal.main_arg37)
      ∧ m' ((c.tc : Thread Cert.AdamwSmallRefIdeal.nD Cert.AdamwSmallRefIdeal.τ).loc Cert.AdamwSmallRefIdeal.main_arg38) = m ((c.tc : Thread Cert.AdamwSmallIdeal.nD Cert.AdamwSmallIdeal.τ).loc Cert.AdamwSmallIdeal.main_arg38)
      ∧ m' ((c.tc : Thread Cert.AdamwSmallRefIdeal.nD Cert.AdamwSmallRefIdeal.τ).loc Cert.AdamwSmallRefIdeal.main_arg39) = m ((c.tc : Thread Cert.AdamwSmallIdeal.nD Cert.AdamwSmallIdeal.τ).loc Cert.AdamwSmallIdeal.main_arg39)
      ∧ m' ((c.tc : Thread Cert.AdamwSmallRefIdeal.nD Cert.AdamwSmallRefIdeal.τ).loc Cert.AdamwSmallRefIdeal.main_arg40) = m ((c.tc : Thread Cert.AdamwSmallIdeal.nD Cert.AdamwSmallIdeal.τ).loc Cert.AdamwSmallIdeal.main_arg40)
      ∧ m' ((c.tc : Thread Cert.AdamwSmallRefIdeal.nD Cert.AdamwSmallRefIdeal.τ).loc Cert.AdamwSmallRefIdeal.main_arg41) = m ((c.tc : Thread Cert.AdamwSmallIdeal.nD Cert.AdamwSmallIdeal.τ).loc Cert.AdamwSmallIdeal.main_arg41)
      ∧ m' ((c.tc : Thread Cert.AdamwSmallRefIdeal.nD Cert.AdamwSmallRefIdeal.τ).loc Cert.AdamwSmallRefIdeal.main_arg42) = m ((c.tc : Thread Cert.AdamwSmallIdeal.nD Cert.AdamwSmallIdeal.τ).loc Cert.AdamwSmallIdeal.main_arg42)
      ∧ m' ((c.tc : Thread Cert.AdamwSmallRefIdeal.nD Cert.AdamwSmallRefIdeal.τ).loc Cert.AdamwSmallRefIdeal.main_arg43) = m ((c.tc : Thread Cert.AdamwSmallIdeal.nD Cert.AdamwSmallIdeal.τ).loc Cert.AdamwSmallIdeal.main_arg43)) →
    ∃ (v0 : (c : Dev Cert.AdamwSmallIdeal.nD) → Buf (Elt Ideal) ((c.tc : Thread Cert.AdamwSmallIdeal.nD Cert.AdamwSmallIdeal.τ).loc Cert.AdamwSmallIdeal.main_v59)) (v1 : (c : Dev Cert.AdamwSmallIdeal.nD) → Buf (Elt Ideal) ((c.tc : Thread Cert.AdamwSmallIdeal.nD Cert.AdamwSmallIdeal.τ).loc Cert.AdamwSmallIdeal.main_v61)) (v2 : (c : Dev Cert.AdamwSmallIdeal.nD) → Buf (Elt Ideal) ((c.tc : Thread Cert.AdamwSmallIdeal.nD Cert.AdamwSmallIdeal.τ).loc Cert.AdamwSmallIdeal.main_v63)) (v3 : (c : Dev Cert.AdamwSmallIdeal.nD) → Buf (Elt Ideal) ((c.tc : Thread Cert.AdamwSmallIdeal.nD Cert.AdamwSmallIdeal.τ).loc Cert.AdamwSmallIdeal.main_v65)) (v4 : (c : Dev Cert.AdamwSmallIdeal.nD) → Buf (Elt Ideal) ((c.tc : Thread Cert.AdamwSmallIdeal.nD Cert.AdamwSmallIdeal.τ).loc Cert.AdamwSmallIdeal.main_v67)) (v5 : (c : Dev Cert.AdamwSmallIdeal.nD) → Buf (Elt Ideal) ((c.tc : Thread Cert.AdamwSmallIdeal.nD Cert.AdamwSmallIdeal.τ).loc Cert.AdamwSmallIdeal.main_v69)) (v6 : (c : Dev Cert.AdamwSmallIdeal.nD) → Buf (Elt Ideal) ((c.tc : Thread Cert.AdamwSmallIdeal.nD Cert.AdamwSmallIdeal.τ).loc Cert.AdamwSmallIdeal.main_v71)) (v7 : (c : Dev Cert.AdamwSmallIdeal.nD) → Buf (Elt Ideal) ((c.tc : Thread Cert.AdamwSmallIdeal.nD Cert.AdamwSmallIdeal.τ).loc Cert.AdamwSmallIdeal.main_v73)) (v8 : (c : Dev Cert.AdamwSmallIdeal.nD) → Buf (Elt Ideal) ((c.tc : Thread Cert.AdamwSmallIdeal.nD Cert.AdamwSmallIdeal.τ).loc Cert.AdamwSmallIdeal.main_v75)) (v9 : (c : Dev Cert.AdamwSmallIdeal.nD) → Buf (Elt Ideal) ((c.tc : Thread Cert.AdamwSmallIdeal.nD Cert.AdamwSmallIdeal.τ).loc Cert.AdamwSmallIdeal.main_v77)) (v10 : (c : Dev Cert.AdamwSmallIdeal.nD) → Buf (Elt Ideal) ((c.tc : Thread Cert.AdamwSmallIdeal.nD Cert.AdamwSmallIdeal.τ).loc Cert.AdamwSmallIdeal.main_v79)) (v11 : (c : Dev Cert.AdamwSmallIdeal.nD) → Buf (Elt Ideal) ((c.tc : Thread Cert.AdamwSmallIdeal.nD Cert.AdamwSmallIdeal.τ).loc Cert.AdamwSmallIdeal.main_v82)) (v12 : (c : Dev Cert.AdamwSmallIdeal.nD) → Buf (Elt Ideal) ((c.tc : Thread Cert.AdamwSmallIdeal.nD Cert.AdamwSmallIdeal.τ).loc Cert.AdamwSmallIdeal.main_v84)) (v13 : (c : Dev Cert.AdamwSmallIdeal.nD) → Buf (Elt Ideal) ((c.tc : Thread Cert.AdamwSmallIdeal.nD Cert.AdamwSmallIdeal.τ).loc Cert.AdamwSmallIdeal.main_v86)) (v14 : (c : Dev Cert.AdamwSmallIdeal.nD) → Buf (Elt Ideal) ((c.tc : Thread Cert.AdamwSmallIdeal.nD Cert.AdamwSmallIdeal.τ).loc Cert.AdamwSmallIdeal.main_v88)) (v15 : (c : Dev Cert.AdamwSmallIdeal.nD) → Buf (Elt Ideal) ((c.tc : Thread Cert.AdamwSmallIdeal.nD Cert.AdamwSmallIdeal.τ).loc Cert.AdamwSmallIdeal.main_v90)) (v16 : (c : Dev Cert.AdamwSmallIdeal.nD) → Buf (Elt Ideal) ((c.tc : Thread Cert.AdamwSmallIdeal.nD Cert.AdamwSmallIdeal.τ).loc Cert.AdamwSmallIdeal.main_v92)) (v17 : (c : Dev Cert.AdamwSmallIdeal.nD) → Buf (Elt Ideal) ((c.tc : Thread Cert.AdamwSmallIdeal.nD Cert.AdamwSmallIdeal.τ).loc Cert.AdamwSmallIdeal.main_v94)) (v18 : (c : Dev Cert.AdamwSmallIdeal.nD) → Buf (Elt Ideal) ((c.tc : Thread Cert.AdamwSmallIdeal.nD Cert.AdamwSmallIdeal.τ).loc Cert.AdamwSmallIdeal.main_v96)) (v19 : (c : Dev Cert.AdamwSmallIdeal.nD) → Buf (Elt Ideal) ((c.tc : Thread Cert.AdamwSmallIdeal.nD Cert.AdamwSmallIdeal.τ).loc Cert.AdamwSmallIdeal.main_v98)) (v20 : (c : Dev Cert.AdamwSmallIdeal.nD) → Buf (Elt Ideal) ((c.tc : Thread Cert.AdamwSmallIdeal.nD Cert.AdamwSmallIdeal.τ).loc Cert.AdamwSmallIdeal.main_v100)) (v21 : (c : Dev Cert.AdamwSmallIdeal.nD) → Buf (Elt Ideal) ((c.tc : Thread Cert.AdamwSmallIdeal.nD Cert.AdamwSmallIdeal.τ).loc Cert.AdamwSmallIdeal.main_v102)) (v22 : (c : Dev Cert.AdamwSmallIdeal.nD) → Buf (Elt Ideal) ((c.tc : Thread Cert.AdamwSmallIdeal.nD Cert.AdamwSmallIdeal.τ).loc Cert.AdamwSmallIdeal.main_v105)) (v23 : (c : Dev Cert.AdamwSmallIdeal.nD) → Buf (Elt Ideal) ((c.tc : Thread Cert.AdamwSmallIdeal.nD Cert.AdamwSmallIdeal.τ).loc Cert.AdamwSmallIdeal.main_v107)) (v24 : (c : Dev Cert.AdamwSmallIdeal.nD) → Buf (Elt Ideal) ((c.tc : Thread Cert.AdamwSmallIdeal.nD Cert.AdamwSmallIdeal.τ).loc Cert.AdamwSmallIdeal.main_v109)) (v25 : (c : Dev Cert.AdamwSmallIdeal.nD) → Buf (Elt Ideal) ((c.tc : Thread Cert.AdamwSmallIdeal.nD Cert.AdamwSmallIdeal.τ).loc Cert.AdamwSmallIdeal.main_v111)) (v26 : (c : Dev Cert.AdamwSmallIdeal.nD) → Buf (Elt Ideal) ((c.tc : Thread Cert.AdamwSmallIdeal.nD Cert.AdamwSmallIdeal.τ).loc Cert.AdamwSmallIdeal.main_v113)) (v27 : (c : Dev Cert.AdamwSmallIdeal.nD) → Buf (Elt Ideal) ((c.tc : Thread Cert.AdamwSmallIdeal.nD Cert.AdamwSmallIdeal.τ).loc Cert.AdamwSmallIdeal.main_v115)) (v28 : (c : Dev Cert.AdamwSmallIdeal.nD) → Buf (Elt Ideal) ((c.tc : Thread Cert.AdamwSmallIdeal.nD Cert.AdamwSmallIdeal.τ).loc Cert.AdamwSmallIdeal.main_v117)) (v29 : (c : Dev Cert.AdamwSmallIdeal.nD) → Buf (Elt Ideal) ((c.tc : Thread Cert.AdamwSmallIdeal.nD Cert.AdamwSmallIdeal.τ).loc Cert.AdamwSmallIdeal.main_v119)) (v30 : (c : Dev Cert.AdamwSmallIdeal.nD) → Buf (Elt Ideal) ((c.tc : Thread Cert.AdamwSmallIdeal.nD Cert.AdamwSmallIdeal.τ).loc Cert.AdamwSmallIdeal.main_v121)) (v31 : (c : Dev Cert.AdamwSmallIdeal.nD) → Buf (Elt Ideal) ((c.tc : Thread Cert.AdamwSmallIdeal.nD Cert.AdamwSmallIdeal.τ).loc Cert.AdamwSmallIdeal.main_v123)) (v32 : (c : Dev Cert.AdamwSmallIdeal.nD) → Buf (Elt Ideal) ((c.tc : Thread Cert.AdamwSmallIdeal.nD Cert.AdamwSmallIdeal.τ).loc Cert.AdamwSmallIdeal.main_v125)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v59) = v0 c
          ∧ r.2.mem ((c.tc : Thread Cert.AdamwSmallIdeal.nD Cert.AdamwSmallIdeal.τ).loc Cert.AdamwSmallIdeal.main_v61) = v1 c
          ∧ r.2.mem ((c.tc : Thread Cert.AdamwSmallIdeal.nD Cert.AdamwSmallIdeal.τ).loc Cert.AdamwSmallIdeal.main_v63) = v2 c
          ∧ r.2.mem ((c.tc : Thread Cert.AdamwSmallIdeal.nD Cert.AdamwSmallIdeal.τ).loc Cert.AdamwSmallIdeal.main_v65) = v3 c
          ∧ r.2.mem ((c.tc : Thread Cert.AdamwSmallIdeal.nD Cert.AdamwSmallIdeal.τ).loc Cert.AdamwSmallIdeal.main_v67) = v4 c
          ∧ r.2.mem ((c.tc : Thread Cert.AdamwSmallIdeal.nD Cert.AdamwSmallIdeal.τ).loc Cert.AdamwSmallIdeal.main_v69) = v5 c
          ∧ r.2.mem ((c.tc : Thread Cert.AdamwSmallIdeal.nD Cert.AdamwSmallIdeal.τ).loc Cert.AdamwSmallIdeal.main_v71) = v6 c
          ∧ r.2.mem ((c.tc : Thread Cert.AdamwSmallIdeal.nD Cert.AdamwSmallIdeal.τ).loc Cert.AdamwSmallIdeal.main_v73) = v7 c
          ∧ r.2.mem ((c.tc : Thread Cert.AdamwSmallIdeal.nD Cert.AdamwSmallIdeal.τ).loc Cert.AdamwSmallIdeal.main_v75) = v8 c
          ∧ r.2.mem ((c.tc : Thread Cert.AdamwSmallIdeal.nD Cert.AdamwSmallIdeal.τ).loc Cert.AdamwSmallIdeal.main_v77) = v9 c
          ∧ r.2.mem ((c.tc : Thread Cert.AdamwSmallIdeal.nD Cert.AdamwSmallIdeal.τ).loc Cert.AdamwSmallIdeal.main_v79) = v10 c
          ∧ r.2.mem ((c.tc : Thread Cert.AdamwSmallIdeal.nD Cert.AdamwSmallIdeal.τ).loc Cert.AdamwSmallIdeal.main_v82) = v11 c
          ∧ r.2.mem ((c.tc : Thread Cert.AdamwSmallIdeal.nD Cert.AdamwSmallIdeal.τ).loc Cert.AdamwSmallIdeal.main_v84) = v12 c
          ∧ r.2.mem ((c.tc : Thread Cert.AdamwSmallIdeal.nD Cert.AdamwSmallIdeal.τ).loc Cert.AdamwSmallIdeal.main_v86) = v13 c
          ∧ r.2.mem ((c.tc : Thread Cert.AdamwSmallIdeal.nD Cert.AdamwSmallIdeal.τ).loc Cert.AdamwSmallIdeal.main_v88) = v14 c
          ∧ r.2.mem ((c.tc : Thread Cert.AdamwSmallIdeal.nD Cert.AdamwSmallIdeal.τ).loc Cert.AdamwSmallIdeal.main_v90) = v15 c
          ∧ r.2.mem ((c.tc : Thread Cert.AdamwSmallIdeal.nD Cert.AdamwSmallIdeal.τ).loc Cert.AdamwSmallIdeal.main_v92) = v16 c
          ∧ r.2.mem ((c.tc : Thread Cert.AdamwSmallIdeal.nD Cert.AdamwSmallIdeal.τ).loc Cert.AdamwSmallIdeal.main_v94) = v17 c
          ∧ r.2.mem ((c.tc : Thread Cert.AdamwSmallIdeal.nD Cert.AdamwSmallIdeal.τ).loc Cert.AdamwSmallIdeal.main_v96) = v18 c
          ∧ r.2.mem ((c.tc : Thread Cert.AdamwSmallIdeal.nD Cert.AdamwSmallIdeal.τ).loc Cert.AdamwSmallIdeal.main_v98) = v19 c
          ∧ r.2.mem ((c.tc : Thread Cert.AdamwSmallIdeal.nD Cert.AdamwSmallIdeal.τ).loc Cert.AdamwSmallIdeal.main_v100) = v20 c
          ∧ r.2.mem ((c.tc : Thread Cert.AdamwSmallIdeal.nD Cert.AdamwSmallIdeal.τ).loc Cert.AdamwSmallIdeal.main_v102) = v21 c
          ∧ r.2.mem ((c.tc : Thread Cert.AdamwSmallIdeal.nD Cert.AdamwSmallIdeal.τ).loc Cert.AdamwSmallIdeal.main_v105) = v22 c
          ∧ r.2.mem ((c.tc : Thread Cert.AdamwSmallIdeal.nD Cert.AdamwSmallIdeal.τ).loc Cert.AdamwSmallIdeal.main_v107) = v23 c
          ∧ r.2.mem ((c.tc : Thread Cert.AdamwSmallIdeal.nD Cert.AdamwSmallIdeal.τ).loc Cert.AdamwSmallIdeal.main_v109) = v24 c
          ∧ r.2.mem ((c.tc : Thread Cert.AdamwSmallIdeal.nD Cert.AdamwSmallIdeal.τ).loc Cert.AdamwSmallIdeal.main_v111) = v25 c
          ∧ r.2.mem ((c.tc : Thread Cert.AdamwSmallIdeal.nD Cert.AdamwSmallIdeal.τ).loc Cert.AdamwSmallIdeal.main_v113) = v26 c
          ∧ r.2.mem ((c.tc : Thread Cert.AdamwSmallIdeal.nD Cert.AdamwSmallIdeal.τ).loc Cert.AdamwSmallIdeal.main_v115) = v27 c
          ∧ r.2.mem ((c.tc : Thread Cert.AdamwSmallIdeal.nD Cert.AdamwSmallIdeal.τ).loc Cert.AdamwSmallIdeal.main_v117) = v28 c
          ∧ r.2.mem ((c.tc : Thread Cert.AdamwSmallIdeal.nD Cert.AdamwSmallIdeal.τ).loc Cert.AdamwSmallIdeal.main_v119) = v29 c
          ∧ r.2.mem ((c.tc : Thread Cert.AdamwSmallIdeal.nD Cert.AdamwSmallIdeal.τ).loc Cert.AdamwSmallIdeal.main_v121) = v30 c
          ∧ r.2.mem ((c.tc : Thread Cert.AdamwSmallIdeal.nD Cert.AdamwSmallIdeal.τ).loc Cert.AdamwSmallIdeal.main_v123) = v31 c
          ∧ r.2.mem ((c.tc : Thread Cert.AdamwSmallIdeal.nD Cert.AdamwSmallIdeal.τ).loc Cert.AdamwSmallIdeal.main_v125) = v32 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
          ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
          ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
          ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
          ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
          ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
          ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
          ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
          ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11)
          ∧ r.2.mem ((c.tc : Thread Cert.AdamwSmallIdeal.nD Cert.AdamwSmallIdeal.τ).loc Cert.AdamwSmallIdeal.main_arg12) = m ((c.tc : Thread Cert.AdamwSmallIdeal.nD Cert.AdamwSmallIdeal.τ).loc Cert.AdamwSmallIdeal.main_arg12)
          ∧ r.2.mem ((c.tc : Thread Cert.AdamwSmallIdeal.nD Cert.AdamwSmallIdeal.τ).loc Cert.AdamwSmallIdeal.main_arg13) = m ((c.tc : Thread Cert.AdamwSmallIdeal.nD Cert.AdamwSmallIdeal.τ).loc Cert.AdamwSmallIdeal.main_arg13)
          ∧ r.2.mem ((c.tc : Thread Cert.AdamwSmallIdeal.nD Cert.AdamwSmallIdeal.τ).loc Cert.AdamwSmallIdeal.main_arg14) = m ((c.tc : Thread Cert.AdamwSmallIdeal.nD Cert.AdamwSmallIdeal.τ).loc Cert.AdamwSmallIdeal.main_arg14)
          ∧ r.2.mem ((c.tc : Thread Cert.AdamwSmallIdeal.nD Cert.AdamwSmallIdeal.τ).loc Cert.AdamwSmallIdeal.main_arg15) = m ((c.tc : Thread Cert.AdamwSmallIdeal.nD Cert.AdamwSmallIdeal.τ).loc Cert.AdamwSmallIdeal.main_arg15)
          ∧ r.2.mem ((c.tc : Thread Cert.AdamwSmallIdeal.nD Cert.AdamwSmallIdeal.τ).loc Cert.AdamwSmallIdeal.main_arg16) = m ((c.tc : Thread Cert.AdamwSmallIdeal.nD Cert.AdamwSmallIdeal.τ).loc Cert.AdamwSmallIdeal.main_arg16)
          ∧ r.2.mem ((c.tc : Thread Cert.AdamwSmallIdeal.nD Cert.AdamwSmallIdeal.τ).loc Cert.AdamwSmallIdeal.main_arg17) = m ((c.tc : Thread Cert.AdamwSmallIdeal.nD Cert.AdamwSmallIdeal.τ).loc Cert.AdamwSmallIdeal.main_arg17)
          ∧ r.2.mem ((c.tc : Thread Cert.AdamwSmallIdeal.nD Cert.AdamwSmallIdeal.τ).loc Cert.AdamwSmallIdeal.main_arg18) = m ((c.tc : Thread Cert.AdamwSmallIdeal.nD Cert.AdamwSmallIdeal.τ).loc Cert.AdamwSmallIdeal.main_arg18)
          ∧ r.2.mem ((c.tc : Thread Cert.AdamwSmallIdeal.nD Cert.AdamwSmallIdeal.τ).loc Cert.AdamwSmallIdeal.main_arg19) = m ((c.tc : Thread Cert.AdamwSmallIdeal.nD Cert.AdamwSmallIdeal.τ).loc Cert.AdamwSmallIdeal.main_arg19)
          ∧ r.2.mem ((c.tc : Thread Cert.AdamwSmallIdeal.nD Cert.AdamwSmallIdeal.τ).loc Cert.AdamwSmallIdeal.main_arg20) = m ((c.tc : Thread Cert.AdamwSmallIdeal.nD Cert.AdamwSmallIdeal.τ).loc Cert.AdamwSmallIdeal.main_arg20)
          ∧ r.2.mem ((c.tc : Thread Cert.AdamwSmallIdeal.nD Cert.AdamwSmallIdeal.τ).loc Cert.AdamwSmallIdeal.main_arg21) = m ((c.tc : Thread Cert.AdamwSmallIdeal.nD Cert.AdamwSmallIdeal.τ).loc Cert.AdamwSmallIdeal.main_arg21)
          ∧ r.2.mem ((c.tc : Thread Cert.AdamwSmallIdeal.nD Cert.AdamwSmallIdeal.τ).loc Cert.AdamwSmallIdeal.main_arg22) = m ((c.tc : Thread Cert.AdamwSmallIdeal.nD Cert.AdamwSmallIdeal.τ).loc Cert.AdamwSmallIdeal.main_arg22)
          ∧ r.2.mem ((c.tc : Thread Cert.AdamwSmallIdeal.nD Cert.AdamwSmallIdeal.τ).loc Cert.AdamwSmallIdeal.main_arg23) = m ((c.tc : Thread Cert.AdamwSmallIdeal.nD Cert.AdamwSmallIdeal.τ).loc Cert.AdamwSmallIdeal.main_arg23)
          ∧ r.2.mem ((c.tc : Thread Cert.AdamwSmallIdeal.nD Cert.AdamwSmallIdeal.τ).loc Cert.AdamwSmallIdeal.main_arg24) = m ((c.tc : Thread Cert.AdamwSmallIdeal.nD Cert.AdamwSmallIdeal.τ).loc Cert.AdamwSmallIdeal.main_arg24)
          ∧ r.2.mem ((c.tc : Thread Cert.AdamwSmallIdeal.nD Cert.AdamwSmallIdeal.τ).loc Cert.AdamwSmallIdeal.main_arg25) = m ((c.tc : Thread Cert.AdamwSmallIdeal.nD Cert.AdamwSmallIdeal.τ).loc Cert.AdamwSmallIdeal.main_arg25)
          ∧ r.2.mem ((c.tc : Thread Cert.AdamwSmallIdeal.nD Cert.AdamwSmallIdeal.τ).loc Cert.AdamwSmallIdeal.main_arg26) = m ((c.tc : Thread Cert.AdamwSmallIdeal.nD Cert.AdamwSmallIdeal.τ).loc Cert.AdamwSmallIdeal.main_arg26)
          ∧ r.2.mem ((c.tc : Thread Cert.AdamwSmallIdeal.nD Cert.AdamwSmallIdeal.τ).loc Cert.AdamwSmallIdeal.main_arg27) = m ((c.tc : Thread Cert.AdamwSmallIdeal.nD Cert.AdamwSmallIdeal.τ).loc Cert.AdamwSmallIdeal.main_arg27)
          ∧ r.2.mem ((c.tc : Thread Cert.AdamwSmallIdeal.nD Cert.AdamwSmallIdeal.τ).loc Cert.AdamwSmallIdeal.main_arg28) = m ((c.tc : Thread Cert.AdamwSmallIdeal.nD Cert.AdamwSmallIdeal.τ).loc Cert.AdamwSmallIdeal.main_arg28)
          ∧ r.2.mem ((c.tc : Thread Cert.AdamwSmallIdeal.nD Cert.AdamwSmallIdeal.τ).loc Cert.AdamwSmallIdeal.main_arg29) = m ((c.tc : Thread Cert.AdamwSmallIdeal.nD Cert.AdamwSmallIdeal.τ).loc Cert.AdamwSmallIdeal.main_arg29)
          ∧ r.2.mem ((c.tc : Thread Cert.AdamwSmallIdeal.nD Cert.AdamwSmallIdeal.τ).loc Cert.AdamwSmallIdeal.main_arg30) = m ((c.tc : Thread Cert.AdamwSmallIdeal.nD Cert.AdamwSmallIdeal.τ).loc Cert.AdamwSmallIdeal.main_arg30)
          ∧ r.2.mem ((c.tc : Thread Cert.AdamwSmallIdeal.nD Cert.AdamwSmallIdeal.τ).loc Cert.AdamwSmallIdeal.main_arg31) = m ((c.tc : Thread Cert.AdamwSmallIdeal.nD Cert.AdamwSmallIdeal.τ).loc Cert.AdamwSmallIdeal.main_arg31)
          ∧ r.2.mem ((c.tc : Thread Cert.AdamwSmallIdeal.nD Cert.AdamwSmallIdeal.τ).loc Cert.AdamwSmallIdeal.main_arg32) = m ((c.tc : Thread Cert.AdamwSmallIdeal.nD Cert.AdamwSmallIdeal.τ).loc Cert.AdamwSmallIdeal.main_arg32)
          ∧ r.2.mem ((c.tc : Thread Cert.AdamwSmallIdeal.nD Cert.AdamwSmallIdeal.τ).loc Cert.AdamwSmallIdeal.main_arg33) = m ((c.tc : Thread Cert.AdamwSmallIdeal.nD Cert.AdamwSmallIdeal.τ).loc Cert.AdamwSmallIdeal.main_arg33)
          ∧ r.2.mem ((c.tc : Thread Cert.AdamwSmallIdeal.nD Cert.AdamwSmallIdeal.τ).loc Cert.AdamwSmallIdeal.main_arg34) = m ((c.tc : Thread Cert.AdamwSmallIdeal.nD Cert.AdamwSmallIdeal.τ).loc Cert.AdamwSmallIdeal.main_arg34)
          ∧ r.2.mem ((c.tc : Thread Cert.AdamwSmallIdeal.nD Cert.AdamwSmallIdeal.τ).loc Cert.AdamwSmallIdeal.main_arg35) = m ((c.tc : Thread Cert.AdamwSmallIdeal.nD Cert.AdamwSmallIdeal.τ).loc Cert.AdamwSmallIdeal.main_arg35)
          ∧ r.2.mem ((c.tc : Thread Cert.AdamwSmallIdeal.nD Cert.AdamwSmallIdeal.τ).loc Cert.AdamwSmallIdeal.main_arg36) = m ((c.tc : Thread Cert.AdamwSmallIdeal.nD Cert.AdamwSmallIdeal.τ).loc Cert.AdamwSmallIdeal.main_arg36)
          ∧ r.2.mem ((c.tc : Thread Cert.AdamwSmallIdeal.nD Cert.AdamwSmallIdeal.τ).loc Cert.AdamwSmallIdeal.main_arg37) = m ((c.tc : Thread Cert.AdamwSmallIdeal.nD Cert.AdamwSmallIdeal.τ).loc Cert.AdamwSmallIdeal.main_arg37)
          ∧ r.2.mem ((c.tc : Thread Cert.AdamwSmallIdeal.nD Cert.AdamwSmallIdeal.τ).loc Cert.AdamwSmallIdeal.main_arg38) = m ((c.tc : Thread Cert.AdamwSmallIdeal.nD Cert.AdamwSmallIdeal.τ).loc Cert.AdamwSmallIdeal.main_arg38)
          ∧ r.2.mem ((c.tc : Thread Cert.AdamwSmallIdeal.nD Cert.AdamwSmallIdeal.τ).loc Cert.AdamwSmallIdeal.main_arg39) = m ((c.tc : Thread Cert.AdamwSmallIdeal.nD Cert.AdamwSmallIdeal.τ).loc Cert.AdamwSmallIdeal.main_arg39)
          ∧ r.2.mem ((c.tc : Thread Cert.AdamwSmallIdeal.nD Cert.AdamwSmallIdeal.τ).loc Cert.AdamwSmallIdeal.main_arg40) = m ((c.tc : Thread Cert.AdamwSmallIdeal.nD Cert.AdamwSmallIdeal.τ).loc Cert.AdamwSmallIdeal.main_arg40)
          ∧ r.2.mem ((c.tc : Thread Cert.AdamwSmallIdeal.nD Cert.AdamwSmallIdeal.τ).loc Cert.AdamwSmallIdeal.main_arg41) = m ((c.tc : Thread Cert.AdamwSmallIdeal.nD Cert.AdamwSmallIdeal.τ).loc Cert.AdamwSmallIdeal.main_arg41)
          ∧ r.2.mem ((c.tc : Thread Cert.AdamwSmallIdeal.nD Cert.AdamwSmallIdeal.τ).loc Cert.AdamwSmallIdeal.main_arg42) = m ((c.tc : Thread Cert.AdamwSmallIdeal.nD Cert.AdamwSmallIdeal.τ).loc Cert.AdamwSmallIdeal.main_arg42)
          ∧ r.2.mem ((c.tc : Thread Cert.AdamwSmallIdeal.nD Cert.AdamwSmallIdeal.τ).loc Cert.AdamwSmallIdeal.main_arg43) = m ((c.tc : Thread Cert.AdamwSmallIdeal.nD Cert.AdamwSmallIdeal.τ).loc Cert.AdamwSmallIdeal.main_arg43))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v47) = v1 c
          ∧ r.2.mem ((c.tc : Thread Cert.AdamwSmallRefIdeal.nD Cert.AdamwSmallRefIdeal.τ).loc Cert.AdamwSmallRefIdeal.main_v71) = v2 c
          ∧ r.2.mem ((c.tc : Thread Cert.AdamwSmallRefIdeal.nD Cert.AdamwSmallRefIdeal.τ).loc Cert.AdamwSmallRefIdeal.main_v95) = v3 c
          ∧ r.2.mem ((c.tc : Thread Cert.AdamwSmallRefIdeal.nD Cert.AdamwSmallRefIdeal.τ).loc Cert.AdamwSmallRefIdeal.main_v119) = v4 c
          ∧ r.2.mem ((c.tc : Thread Cert.AdamwSmallRefIdeal.nD Cert.AdamwSmallRefIdeal.τ).loc Cert.AdamwSmallRefIdeal.main_v143) = v5 c
          ∧ r.2.mem ((c.tc : Thread Cert.AdamwSmallRefIdeal.nD Cert.AdamwSmallRefIdeal.τ).loc Cert.AdamwSmallRefIdeal.main_v167) = v6 c
          ∧ r.2.mem ((c.tc : Thread Cert.AdamwSmallRefIdeal.nD Cert.AdamwSmallRefIdeal.τ).loc Cert.AdamwSmallRefIdeal.main_v191) = v7 c
          ∧ r.2.mem ((c.tc : Thread Cert.AdamwSmallRefIdeal.nD Cert.AdamwSmallRefIdeal.τ).loc Cert.AdamwSmallRefIdeal.main_v215) = v8 c
          ∧ r.2.mem ((c.tc : Thread Cert.AdamwSmallRefIdeal.nD Cert.AdamwSmallRefIdeal.τ).loc Cert.AdamwSmallRefIdeal.main_v239) = v9 c
          ∧ r.2.mem ((c.tc : Thread Cert.AdamwSmallRefIdeal.nD Cert.AdamwSmallRefIdeal.τ).loc Cert.AdamwSmallRefIdeal.main_v263) = v10 c
          ∧ r.2.mem ((c.tc : Thread Cert.AdamwSmallRefIdeal.nD Cert.AdamwSmallRefIdeal.τ).loc Cert.AdamwSmallRefIdeal.main_v4) = v11 c
          ∧ r.2.mem ((c.tc : Thread Cert.AdamwSmallRefIdeal.nD Cert.AdamwSmallRefIdeal.τ).loc Cert.AdamwSmallRefIdeal.main_v28) = v12 c
          ∧ r.2.mem ((c.tc : Thread Cert.AdamwSmallRefIdeal.nD Cert.AdamwSmallRefIdeal.τ).loc Cert.AdamwSmallRefIdeal.main_v52) = v13 c
          ∧ r.2.mem ((c.tc : Thread Cert.AdamwSmallRefIdeal.nD Cert.AdamwSmallRefIdeal.τ).loc Cert.AdamwSmallRefIdeal.main_v76) = v14 c
          ∧ r.2.mem ((c.tc : Thread Cert.AdamwSmallRefIdeal.nD Cert.AdamwSmallRefIdeal.τ).loc Cert.AdamwSmallRefIdeal.main_v100) = v15 c
          ∧ r.2.mem ((c.tc : Thread Cert.AdamwSmallRefIdeal.nD Cert.AdamwSmallRefIdeal.τ).loc Cert.AdamwSmallRefIdeal.main_v124) = v16 c
          ∧ r.2.mem ((c.tc : Thread Cert.AdamwSmallRefIdeal.nD Cert.AdamwSmallRefIdeal.τ).loc Cert.AdamwSmallRefIdeal.main_v148) = v17 c
          ∧ r.2.mem ((c.tc : Thread Cert.AdamwSmallRefIdeal.nD Cert.AdamwSmallRefIdeal.τ).loc Cert.AdamwSmallRefIdeal.main_v172) = v18 c
          ∧ r.2.mem ((c.tc : Thread Cert.AdamwSmallRefIdeal.nD Cert.AdamwSmallRefIdeal.τ).loc Cert.AdamwSmallRefIdeal.main_v196) = v19 c
          ∧ r.2.mem ((c.tc : Thread Cert.AdamwSmallRefIdeal.nD Cert.AdamwSmallRefIdeal.τ).loc Cert.AdamwSmallRefIdeal.main_v220) = v20 c
          ∧ r.2.mem ((c.tc : Thread Cert.AdamwSmallRefIdeal.nD Cert.AdamwSmallRefIdeal.τ).loc Cert.AdamwSmallRefIdeal.main_v244) = v21 c
          ∧ r.2.mem ((c.tc : Thread Cert.AdamwSmallRefIdeal.nD Cert.AdamwSmallRefIdeal.τ).loc Cert.AdamwSmallRefIdeal.main_v10) = v22 c
          ∧ r.2.mem ((c.tc : Thread Cert.AdamwSmallRefIdeal.nD Cert.AdamwSmallRefIdeal.τ).loc Cert.AdamwSmallRefIdeal.main_v34) = v23 c
          ∧ r.2.mem ((c.tc : Thread Cert.AdamwSmallRefIdeal.nD Cert.AdamwSmallRefIdeal.τ).loc Cert.AdamwSmallRefIdeal.main_v58) = v24 c
          ∧ r.2.mem ((c.tc : Thread Cert.AdamwSmallRefIdeal.nD Cert.AdamwSmallRefIdeal.τ).loc Cert.AdamwSmallRefIdeal.main_v82) = v25 c
          ∧ r.2.mem ((c.tc : Thread Cert.AdamwSmallRefIdeal.nD Cert.AdamwSmallRefIdeal.τ).loc Cert.AdamwSmallRefIdeal.main_v106) = v26 c
          ∧ r.2.mem ((c.tc : Thread Cert.AdamwSmallRefIdeal.nD Cert.AdamwSmallRefIdeal.τ).loc Cert.AdamwSmallRefIdeal.main_v130) = v27 c
          ∧ r.2.mem ((c.tc : Thread Cert.AdamwSmallRefIdeal.nD Cert.AdamwSmallRefIdeal.τ).loc Cert.AdamwSmallRefIdeal.main_v154) = v28 c
          ∧ r.2.mem ((c.tc : Thread Cert.AdamwSmallRefIdeal.nD Cert.AdamwSmallRefIdeal.τ).loc Cert.AdamwSmallRefIdeal.main_v178) = v29 c
          ∧ r.2.mem ((c.tc : Thread Cert.AdamwSmallRefIdeal.nD Cert.AdamwSmallRefIdeal.τ).loc Cert.AdamwSmallRefIdeal.main_v202) = v30 c
          ∧ r.2.mem ((c.tc : Thread Cert.AdamwSmallRefIdeal.nD Cert.AdamwSmallRefIdeal.τ).loc Cert.AdamwSmallRefIdeal.main_v226) = v31 c
          ∧ r.2.mem ((c.tc : Thread Cert.AdamwSmallRefIdeal.nD Cert.AdamwSmallRefIdeal.τ).loc Cert.AdamwSmallRefIdeal.main_v250) = v32 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3)
          ∧ r.2.mem ((c.tc : Thread Cert.AdamwSmallRefIdeal.nD Cert.AdamwSmallRefIdeal.τ).loc Cert.AdamwSmallRefIdeal.main_arg4) = m' ((c.tc : Thread Cert.AdamwSmallRefIdeal.nD Cert.AdamwSmallRefIdeal.τ).loc Cert.AdamwSmallRefIdeal.main_arg4)
          ∧ r.2.mem ((c.tc : Thread Cert.AdamwSmallRefIdeal.nD Cert.AdamwSmallRefIdeal.τ).loc Cert.AdamwSmallRefIdeal.main_arg5) = m' ((c.tc : Thread Cert.AdamwSmallRefIdeal.nD Cert.AdamwSmallRefIdeal.τ).loc Cert.AdamwSmallRefIdeal.main_arg5)
          ∧ r.2.mem ((c.tc : Thread Cert.AdamwSmallRefIdeal.nD Cert.AdamwSmallRefIdeal.τ).loc Cert.AdamwSmallRefIdeal.main_arg6) = m' ((c.tc : Thread Cert.AdamwSmallRefIdeal.nD Cert.AdamwSmallRefIdeal.τ).loc Cert.AdamwSmallRefIdeal.main_arg6)
          ∧ r.2.mem ((c.tc : Thread Cert.AdamwSmallRefIdeal.nD Cert.AdamwSmallRefIdeal.τ).loc Cert.AdamwSmallRefIdeal.main_arg7) = m' ((c.tc : Thread Cert.AdamwSmallRefIdeal.nD Cert.AdamwSmallRefIdeal.τ).loc Cert.AdamwSmallRefIdeal.main_arg7)
          ∧ r.2.mem ((c.tc : Thread Cert.AdamwSmallRefIdeal.nD Cert.AdamwSmallRefIdeal.τ).loc Cert.AdamwSmallRefIdeal.main_arg8) = m' ((c.tc : Thread Cert.AdamwSmallRefIdeal.nD Cert.AdamwSmallRefIdeal.τ).loc Cert.AdamwSmallRefIdeal.main_arg8)
          ∧ r.2.mem ((c.tc : Thread Cert.AdamwSmallRefIdeal.nD Cert.AdamwSmallRefIdeal.τ).loc Cert.AdamwSmallRefIdeal.main_arg9) = m' ((c.tc : Thread Cert.AdamwSmallRefIdeal.nD Cert.AdamwSmallRefIdeal.τ).loc Cert.AdamwSmallRefIdeal.main_arg9)
          ∧ r.2.mem ((c.tc : Thread Cert.AdamwSmallRefIdeal.nD Cert.AdamwSmallRefIdeal.τ).loc Cert.AdamwSmallRefIdeal.main_arg10) = m' ((c.tc : Thread Cert.AdamwSmallRefIdeal.nD Cert.AdamwSmallRefIdeal.τ).loc Cert.AdamwSmallRefIdeal.main_arg10)
          ∧ r.2.mem ((c.tc : Thread Cert.AdamwSmallRefIdeal.nD Cert.AdamwSmallRefIdeal.τ).loc Cert.AdamwSmallRefIdeal.main_arg11) = m' ((c.tc : Thread Cert.AdamwSmallRefIdeal.nD Cert.AdamwSmallRefIdeal.τ).loc Cert.AdamwSmallRefIdeal.main_arg11)
          ∧ r.2.mem ((c.tc : Thread Cert.AdamwSmallRefIdeal.nD Cert.AdamwSmallRefIdeal.τ).loc Cert.AdamwSmallRefIdeal.main_arg12) = m' ((c.tc : Thread Cert.AdamwSmallRefIdeal.nD Cert.AdamwSmallRefIdeal.τ).loc Cert.AdamwSmallRefIdeal.main_arg12)
          ∧ r.2.mem ((c.tc : Thread Cert.AdamwSmallRefIdeal.nD Cert.AdamwSmallRefIdeal.τ).loc Cert.AdamwSmallRefIdeal.main_arg13) = m' ((c.tc : Thread Cert.AdamwSmallRefIdeal.nD Cert.AdamwSmallRefIdeal.τ).loc Cert.AdamwSmallRefIdeal.main_arg13)
          ∧ r.2.mem ((c.tc : Thread Cert.AdamwSmallRefIdeal.nD Cert.AdamwSmallRefIdeal.τ).loc Cert.AdamwSmallRefIdeal.main_arg14) = m' ((c.tc : Thread Cert.AdamwSmallRefIdeal.nD Cert.AdamwSmallRefIdeal.τ).loc Cert.AdamwSmallRefIdeal.main_arg14)
          ∧ r.2.mem ((c.tc : Thread Cert.AdamwSmallRefIdeal.nD Cert.AdamwSmallRefIdeal.τ).loc Cert.AdamwSmallRefIdeal.main_arg15) = m' ((c.tc : Thread Cert.AdamwSmallRefIdeal.nD Cert.AdamwSmallRefIdeal.τ).loc Cert.AdamwSmallRefIdeal.main_arg15)
          ∧ r.2.mem ((c.tc : Thread Cert.AdamwSmallRefIdeal.nD Cert.AdamwSmallRefIdeal.τ).loc Cert.AdamwSmallRefIdeal.main_arg16) = m' ((c.tc : Thread Cert.AdamwSmallRefIdeal.nD Cert.AdamwSmallRefIdeal.τ).loc Cert.AdamwSmallRefIdeal.main_arg16)
          ∧ r.2.mem ((c.tc : Thread Cert.AdamwSmallRefIdeal.nD Cert.AdamwSmallRefIdeal.τ).loc Cert.AdamwSmallRefIdeal.main_arg17) = m' ((c.tc : Thread Cert.AdamwSmallRefIdeal.nD Cert.AdamwSmallRefIdeal.τ).loc Cert.AdamwSmallRefIdeal.main_arg17)
          ∧ r.2.mem ((c.tc : Thread Cert.AdamwSmallRefIdeal.nD Cert.AdamwSmallRefIdeal.τ).loc Cert.AdamwSmallRefIdeal.main_arg18) = m' ((c.tc : Thread Cert.AdamwSmallRefIdeal.nD Cert.AdamwSmallRefIdeal.τ).loc Cert.AdamwSmallRefIdeal.main_arg18)
          ∧ r.2.mem ((c.tc : Thread Cert.AdamwSmallRefIdeal.nD Cert.AdamwSmallRefIdeal.τ).loc Cert.AdamwSmallRefIdeal.main_arg19) = m' ((c.tc : Thread Cert.AdamwSmallRefIdeal.nD Cert.AdamwSmallRefIdeal.τ).loc Cert.AdamwSmallRefIdeal.main_arg19)
          ∧ r.2.mem ((c.tc : Thread Cert.AdamwSmallRefIdeal.nD Cert.AdamwSmallRefIdeal.τ).loc Cert.AdamwSmallRefIdeal.main_arg20) = m' ((c.tc : Thread Cert.AdamwSmallRefIdeal.nD Cert.AdamwSmallRefIdeal.τ).loc Cert.AdamwSmallRefIdeal.main_arg20)
          ∧ r.2.mem ((c.tc : Thread Cert.AdamwSmallRefIdeal.nD Cert.AdamwSmallRefIdeal.τ).loc Cert.AdamwSmallRefIdeal.main_arg21) = m' ((c.tc : Thread Cert.AdamwSmallRefIdeal.nD Cert.AdamwSmallRefIdeal.τ).loc Cert.AdamwSmallRefIdeal.main_arg21)
          ∧ r.2.mem ((c.tc : Thread Cert.AdamwSmallRefIdeal.nD Cert.AdamwSmallRefIdeal.τ).loc Cert.AdamwSmallRefIdeal.main_arg22) = m' ((c.tc : Thread Cert.AdamwSmallRefIdeal.nD Cert.AdamwSmallRefIdeal.τ).loc Cert.AdamwSmallRefIdeal.main_arg22)
          ∧ r.2.mem ((c.tc : Thread Cert.AdamwSmallRefIdeal.nD Cert.AdamwSmallRefIdeal.τ).loc Cert.AdamwSmallRefIdeal.main_arg23) = m' ((c.tc : Thread Cert.AdamwSmallRefIdeal.nD Cert.AdamwSmallRefIdeal.τ).loc Cert.AdamwSmallRefIdeal.main_arg23)
          ∧ r.2.mem ((c.tc : Thread Cert.AdamwSmallRefIdeal.nD Cert.AdamwSmallRefIdeal.τ).loc Cert.AdamwSmallRefIdeal.main_arg24) = m' ((c.tc : Thread Cert.AdamwSmallRefIdeal.nD Cert.AdamwSmallRefIdeal.τ).loc Cert.AdamwSmallRefIdeal.main_arg24)
          ∧ r.2.mem ((c.tc : Thread Cert.AdamwSmallRefIdeal.nD Cert.AdamwSmallRefIdeal.τ).loc Cert.AdamwSmallRefIdeal.main_arg25) = m' ((c.tc : Thread Cert.AdamwSmallRefIdeal.nD Cert.AdamwSmallRefIdeal.τ).loc Cert.AdamwSmallRefIdeal.main_arg25)
          ∧ r.2.mem ((c.tc : Thread Cert.AdamwSmallRefIdeal.nD Cert.AdamwSmallRefIdeal.τ).loc Cert.AdamwSmallRefIdeal.main_arg26) = m' ((c.tc : Thread Cert.AdamwSmallRefIdeal.nD Cert.AdamwSmallRefIdeal.τ).loc Cert.AdamwSmallRefIdeal.main_arg26)
          ∧ r.2.mem ((c.tc : Thread Cert.AdamwSmallRefIdeal.nD Cert.AdamwSmallRefIdeal.τ).loc Cert.AdamwSmallRefIdeal.main_arg27) = m' ((c.tc : Thread Cert.AdamwSmallRefIdeal.nD Cert.AdamwSmallRefIdeal.τ).loc Cert.AdamwSmallRefIdeal.main_arg27)
          ∧ r.2.mem ((c.tc : Thread Cert.AdamwSmallRefIdeal.nD Cert.AdamwSmallRefIdeal.τ).loc Cert.AdamwSmallRefIdeal.main_arg28) = m' ((c.tc : Thread Cert.AdamwSmallRefIdeal.nD Cert.AdamwSmallRefIdeal.τ).loc Cert.AdamwSmallRefIdeal.main_arg28)
          ∧ r.2.mem ((c.tc : Thread Cert.AdamwSmallRefIdeal.nD Cert.AdamwSmallRefIdeal.τ).loc Cert.AdamwSmallRefIdeal.main_arg29) = m' ((c.tc : Thread Cert.AdamwSmallRefIdeal.nD Cert.AdamwSmallRefIdeal.τ).loc Cert.AdamwSmallRefIdeal.main_arg29)
          ∧ r.2.mem ((c.tc : Thread Cert.AdamwSmallRefIdeal.nD Cert.AdamwSmallRefIdeal.τ).loc Cert.AdamwSmallRefIdeal.main_arg30) = m' ((c.tc : Thread Cert.AdamwSmallRefIdeal.nD Cert.AdamwSmallRefIdeal.τ).loc Cert.AdamwSmallRefIdeal.main_arg30)
          ∧ r.2.mem ((c.tc : Thread Cert.AdamwSmallRefIdeal.nD Cert.AdamwSmallRefIdeal.τ).loc Cert.AdamwSmallRefIdeal.main_arg31) = m' ((c.tc : Thread Cert.AdamwSmallRefIdeal.nD Cert.AdamwSmallRefIdeal.τ).loc Cert.AdamwSmallRefIdeal.main_arg31)
          ∧ r.2.mem ((c.tc : Thread Cert.AdamwSmallRefIdeal.nD Cert.AdamwSmallRefIdeal.τ).loc Cert.AdamwSmallRefIdeal.main_arg32) = m' ((c.tc : Thread Cert.AdamwSmallRefIdeal.nD Cert.AdamwSmallRefIdeal.τ).loc Cert.AdamwSmallRefIdeal.main_arg32)
          ∧ r.2.mem ((c.tc : Thread Cert.AdamwSmallRefIdeal.nD Cert.AdamwSmallRefIdeal.τ).loc Cert.AdamwSmallRefIdeal.main_arg33) = m' ((c.tc : Thread Cert.AdamwSmallRefIdeal.nD Cert.AdamwSmallRefIdeal.τ).loc Cert.AdamwSmallRefIdeal.main_arg33)
          ∧ r.2.mem ((c.tc : Thread Cert.AdamwSmallRefIdeal.nD Cert.AdamwSmallRefIdeal.τ).loc Cert.AdamwSmallRefIdeal.main_arg34) = m' ((c.tc : Thread Cert.AdamwSmallRefIdeal.nD Cert.AdamwSmallRefIdeal.τ).loc Cert.AdamwSmallRefIdeal.main_arg34)
          ∧ r.2.mem ((c.tc : Thread Cert.AdamwSmallRefIdeal.nD Cert.AdamwSmallRefIdeal.τ).loc Cert.AdamwSmallRefIdeal.main_arg35) = m' ((c.tc : Thread Cert.AdamwSmallRefIdeal.nD Cert.AdamwSmallRefIdeal.τ).loc Cert.AdamwSmallRefIdeal.main_arg35)
          ∧ r.2.mem ((c.tc : Thread Cert.AdamwSmallRefIdeal.nD Cert.AdamwSmallRefIdeal.τ).loc Cert.AdamwSmallRefIdeal.main_arg36) = m' ((c.tc : Thread Cert.AdamwSmallRefIdeal.nD Cert.AdamwSmallRefIdeal.τ).loc Cert.AdamwSmallRefIdeal.main_arg36)
          ∧ r.2.mem ((c.tc : Thread Cert.AdamwSmallRefIdeal.nD Cert.AdamwSmallRefIdeal.τ).loc Cert.AdamwSmallRefIdeal.main_arg37) = m' ((c.tc : Thread Cert.AdamwSmallRefIdeal.nD Cert.AdamwSmallRefIdeal.τ).loc Cert.AdamwSmallRefIdeal.main_arg37)
          ∧ r.2.mem ((c.tc : Thread Cert.AdamwSmallRefIdeal.nD Cert.AdamwSmallRefIdeal.τ).loc Cert.AdamwSmallRefIdeal.main_arg38) = m' ((c.tc : Thread Cert.AdamwSmallRefIdeal.nD Cert.AdamwSmallRefIdeal.τ).loc Cert.AdamwSmallRefIdeal.main_arg38)
          ∧ r.2.mem ((c.tc : Thread Cert.AdamwSmallRefIdeal.nD Cert.AdamwSmallRefIdeal.τ).loc Cert.AdamwSmallRefIdeal.main_arg39) = m' ((c.tc : Thread Cert.AdamwSmallRefIdeal.nD Cert.AdamwSmallRefIdeal.τ).loc Cert.AdamwSmallRefIdeal.main_arg39)
          ∧ r.2.mem ((c.tc : Thread Cert.AdamwSmallRefIdeal.nD Cert.AdamwSmallRefIdeal.τ).loc Cert.AdamwSmallRefIdeal.main_arg40) = m' ((c.tc : Thread Cert.AdamwSmallRefIdeal.nD Cert.AdamwSmallRefIdeal.τ).loc Cert.AdamwSmallRefIdeal.main_arg40)
          ∧ r.2.mem ((c.tc : Thread Cert.AdamwSmallRefIdeal.nD Cert.AdamwSmallRefIdeal.τ).loc Cert.AdamwSmallRefIdeal.main_arg41) = m' ((c.tc : Thread Cert.AdamwSmallRefIdeal.nD Cert.AdamwSmallRefIdeal.τ).loc Cert.AdamwSmallRefIdeal.main_arg41)
          ∧ r.2.mem ((c.tc : Thread Cert.AdamwSmallRefIdeal.nD Cert.AdamwSmallRefIdeal.τ).loc Cert.AdamwSmallRefIdeal.main_arg42) = m' ((c.tc : Thread Cert.AdamwSmallRefIdeal.nD Cert.AdamwSmallRefIdeal.τ).loc Cert.AdamwSmallRefIdeal.main_arg42)
          ∧ r.2.mem ((c.tc : Thread Cert.AdamwSmallRefIdeal.nD Cert.AdamwSmallRefIdeal.τ).loc Cert.AdamwSmallRefIdeal.main_arg43) = m' ((c.tc : Thread Cert.AdamwSmallRefIdeal.nD Cert.AdamwSmallRefIdeal.τ).loc Cert.AdamwSmallRefIdeal.main_arg43))

def Claim : Prop :=
  ∃ (hGain : Cert.Gain.Facts) (hGainIdeal : Cert.GainIdeal.Facts) (hGainRefIdeal : Cert.GainRefIdeal.Facts) (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hSwiglu : Cert.Swiglu.Facts) (hSwigluIdeal : Cert.SwigluIdeal.Facts) (hSwigluRefIdeal : Cert.SwigluRefIdeal.Facts) (hNorm1 : Cert.Norm1.Facts) (hNorm1Ideal : Cert.Norm1Ideal.Facts) (hNorm1RefIdeal : Cert.Norm1RefIdeal.Facts) (hXq : Cert.Xq.Facts) (hXqIdeal : Cert.XqIdeal.Facts) (hXqRefIdeal : Cert.XqRefIdeal.Facts) (hMixIn : Cert.MixIn.Facts) (hMixInIdeal : Cert.MixInIdeal.Facts) (hMixInRefIdeal : Cert.MixInRefIdeal.Facts) (hFfn : Cert.Ffn.Facts) (hFfnIdeal : Cert.FfnIdeal.Facts) (hFfnRefIdeal : Cert.FfnRefIdeal.Facts) (hMixer : Cert.Mixer.Facts) (hMixerIdeal : Cert.MixerIdeal.Facts) (hMixerRefIdeal : Cert.MixerRefIdeal.Facts) (hNormF : Cert.NormF.Facts) (hNormFIdeal : Cert.NormFIdeal.Facts) (hNormFRefIdeal : Cert.NormFRefIdeal.Facts) (hGateF : Cert.GateF.Facts) (hGateFIdeal : Cert.GateFIdeal.Facts) (hGateFRefIdeal : Cert.GateFRefIdeal.Facts) (hAttnF : Cert.AttnF.Facts) (hAttnFIdeal : Cert.AttnFIdeal.Facts) (hAttnFRefIdeal : Cert.AttnFRefIdeal.Facts) (hMixF : Cert.MixF.Facts) (hMixFIdeal : Cert.MixFIdeal.Facts) (hMixFRefIdeal : Cert.MixFRefIdeal.Facts) (hHalfF : Cert.HalfF.Facts) (hHalfFIdeal : Cert.HalfFIdeal.Facts) (hHalfFRefIdeal : Cert.HalfFRefIdeal.Facts) (hNn : Cert.Nn.Facts) (hNnIdeal : Cert.NnIdeal.Facts) (hNnRefIdeal : Cert.NnRefIdeal.Facts) (hResid : Cert.Resid.Facts) (hResidIdeal : Cert.ResidIdeal.Facts) (hResidRefIdeal : Cert.ResidRefIdeal.Facts) (hNt : Cert.Nt.Facts) (hNtIdeal : Cert.NtIdeal.Facts) (hNtRefIdeal : Cert.NtRefIdeal.Facts) (hTn : Cert.Tn.Facts) (hTnIdeal : Cert.TnIdeal.Facts) (hTnRefIdeal : Cert.TnRefIdeal.Facts) (hTnPair : Cert.TnPair.Facts) (hTnPairIdeal : Cert.TnPairIdeal.Facts) (hTnPairRefIdeal : Cert.TnPairRefIdeal.Facts) (hNtHalves : Cert.NtHalves.Facts) (hNtHalvesIdeal : Cert.NtHalvesIdeal.Facts) (hNtHalvesRefIdeal : Cert.NtHalvesRefIdeal.Facts) (hTnHalf : Cert.TnHalf.Facts) (hTnHalfIdeal : Cert.TnHalfIdeal.Facts) (hTnHalfRefIdeal : Cert.TnHalfRefIdeal.Facts) (hAdamw : Cert.Adamw.Facts) (hAdamwIdeal : Cert.AdamwIdeal.Facts) (hAdamwRefIdeal : Cert.AdamwRefIdeal.Facts) (hPairAdd : Cert.PairAdd.Facts) (hPairAddIdeal : Cert.PairAddIdeal.Facts) (hPairAddRefIdeal : Cert.PairAddRefIdeal.Facts) (hPacked : Cert.Packed.Facts) (hPackedIdeal : Cert.PackedIdeal.Facts) (hPackedRefIdeal : Cert.PackedRefIdeal.Facts) (hAdamwSmall : Cert.AdamwSmall.Facts) (hAdamwSmallIdeal : Cert.AdamwSmallIdeal.Facts) (hAdamwSmallRefIdeal : Cert.AdamwSmallRefIdeal.Facts) (hPre_loss_finite : Cert.Pre_loss_finite.Facts) (hPre_attn_finite : Cert.Pre_attn_finite.Facts) (hPre_swiglu_finite : Cert.Pre_swiglu_finite.Facts) (hPre_norm1_finite : Cert.Pre_norm1_finite.Facts) (hPre_xq_finite : Cert.Pre_xq_finite.Facts) (hPre_mixin_finite : Cert.Pre_mixin_finite.Facts) (hPre_ffn_finite : Cert.Pre_ffn_finite.Facts),
    quiescent_Gain (hGain := hGain)
    ∧ quiescent_GainIdeal (hGainIdeal := hGainIdeal)
    ∧ quiescent_GainRefIdeal (hGainRefIdeal := hGainRefIdeal)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_Norm1 (hNorm1 := hNorm1)
    ∧ quiescent_Norm1Ideal (hNorm1Ideal := hNorm1Ideal)
    ∧ quiescent_Norm1Ideal_pre_norm1_finite (hNorm1Ideal := hNorm1Ideal) (hPre_norm1_finite := hPre_norm1_finite)
    ∧ quiescent_Norm1RefIdeal (hNorm1RefIdeal := hNorm1RefIdeal)
    ∧ quiescent_Norm1RefIdeal_pre_norm1_finite (hNorm1RefIdeal := hNorm1RefIdeal) (hPre_norm1_finite := hPre_norm1_finite)
    ∧ quiescent_Xq (hXq := hXq)
    ∧ quiescent_XqIdeal (hXqIdeal := hXqIdeal)
    ∧ quiescent_XqIdeal_pre_xq_finite (hXqIdeal := hXqIdeal) (hPre_xq_finite := hPre_xq_finite)
    ∧ quiescent_XqRefIdeal (hXqRefIdeal := hXqRefIdeal)
    ∧ quiescent_XqRefIdeal_pre_xq_finite (hXqRefIdeal := hXqRefIdeal) (hPre_xq_finite := hPre_xq_finite)
    ∧ quiescent_MixIn (hMixIn := hMixIn)
    ∧ quiescent_MixInIdeal (hMixInIdeal := hMixInIdeal)
    ∧ quiescent_MixInIdeal_pre_mixin_finite (hMixInIdeal := hMixInIdeal) (hPre_mixin_finite := hPre_mixin_finite)
    ∧ quiescent_MixInRefIdeal (hMixInRefIdeal := hMixInRefIdeal)
    ∧ quiescent_MixInRefIdeal_pre_mixin_finite (hMixInRefIdeal := hMixInRefIdeal) (hPre_mixin_finite := hPre_mixin_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Mixer (hMixer := hMixer)
    ∧ quiescent_MixerIdeal (hMixerIdeal := hMixerIdeal)
    ∧ quiescent_MixerRefIdeal (hMixerRefIdeal := hMixerRefIdeal)
    ∧ quiescent_NormF (hNormF := hNormF)
    ∧ quiescent_NormFIdeal (hNormFIdeal := hNormFIdeal)
    ∧ quiescent_NormFRefIdeal (hNormFRefIdeal := hNormFRefIdeal)
    ∧ quiescent_GateF (hGateF := hGateF)
    ∧ quiescent_GateFIdeal (hGateFIdeal := hGateFIdeal)
    ∧ quiescent_GateFRefIdeal (hGateFRefIdeal := hGateFRefIdeal)
    ∧ quiescent_AttnF (hAttnF := hAttnF)
    ∧ quiescent_AttnFIdeal (hAttnFIdeal := hAttnFIdeal)
    ∧ quiescent_AttnFRefIdeal (hAttnFRefIdeal := hAttnFRefIdeal)
    ∧ quiescent_MixF (hMixF := hMixF)
    ∧ quiescent_MixFIdeal (hMixFIdeal := hMixFIdeal)
    ∧ quiescent_MixFRefIdeal (hMixFRefIdeal := hMixFRefIdeal)
    ∧ quiescent_HalfF (hHalfF := hHalfF)
    ∧ quiescent_HalfFIdeal (hHalfFIdeal := hHalfFIdeal)
    ∧ quiescent_HalfFRefIdeal (hHalfFRefIdeal := hHalfFRefIdeal)
    ∧ quiescent_Nn (hNn := hNn)
    ∧ quiescent_NnIdeal (hNnIdeal := hNnIdeal)
    ∧ quiescent_NnRefIdeal (hNnRefIdeal := hNnRefIdeal)
    ∧ quiescent_Resid (hResid := hResid)
    ∧ quiescent_ResidIdeal (hResidIdeal := hResidIdeal)
    ∧ quiescent_ResidRefIdeal (hResidRefIdeal := hResidRefIdeal)
    ∧ quiescent_Nt (hNt := hNt)
    ∧ quiescent_NtIdeal (hNtIdeal := hNtIdeal)
    ∧ quiescent_NtRefIdeal (hNtRefIdeal := hNtRefIdeal)
    ∧ quiescent_Tn (hTn := hTn)
    ∧ quiescent_TnIdeal (hTnIdeal := hTnIdeal)
    ∧ quiescent_TnRefIdeal (hTnRefIdeal := hTnRefIdeal)
    ∧ quiescent_TnPair (hTnPair := hTnPair)
    ∧ quiescent_TnPairIdeal (hTnPairIdeal := hTnPairIdeal)
    ∧ quiescent_TnPairRefIdeal (hTnPairRefIdeal := hTnPairRefIdeal)
    ∧ quiescent_NtHalves (hNtHalves := hNtHalves)
    ∧ quiescent_NtHalvesIdeal (hNtHalvesIdeal := hNtHalvesIdeal)
    ∧ quiescent_NtHalvesRefIdeal (hNtHalvesRefIdeal := hNtHalvesRefIdeal)
    ∧ quiescent_TnHalf (hTnHalf := hTnHalf)
    ∧ quiescent_TnHalfIdeal (hTnHalfIdeal := hTnHalfIdeal)
    ∧ quiescent_TnHalfRefIdeal (hTnHalfRefIdeal := hTnHalfRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_PairAdd (hPairAdd := hPairAdd)
    ∧ quiescent_PairAddIdeal (hPairAddIdeal := hPairAddIdeal)
    ∧ quiescent_PairAddRefIdeal (hPairAddRefIdeal := hPairAddRefIdeal)
    ∧ quiescent_Packed (hPacked := hPacked)
    ∧ quiescent_PackedIdeal (hPackedIdeal := hPackedIdeal)
    ∧ quiescent_PackedRefIdeal (hPackedRefIdeal := hPackedRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ preserves_Gain_GainIdeal
    ∧ algebraic_GainIdeal_GainRefIdeal (hGainIdeal := hGainIdeal) (hGainRefIdeal := hGainRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_Norm1_Norm1Ideal
    ∧ algebraic_Norm1Ideal_Norm1RefIdeal_pre_norm1_finite (hNorm1Ideal := hNorm1Ideal) (hNorm1RefIdeal := hNorm1RefIdeal) (hPre_norm1_finite := hPre_norm1_finite)
    ∧ preserves_Xq_XqIdeal
    ∧ algebraic_XqIdeal_XqRefIdeal_pre_xq_finite (hXqIdeal := hXqIdeal) (hXqRefIdeal := hXqRefIdeal) (hPre_xq_finite := hPre_xq_finite)
    ∧ preserves_MixIn_MixInIdeal
    ∧ algebraic_MixInIdeal_MixInRefIdeal_pre_mixin_finite (hMixInIdeal := hMixInIdeal) (hMixInRefIdeal := hMixInRefIdeal) (hPre_mixin_finite := hPre_mixin_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Mixer_MixerIdeal
    ∧ algebraic_MixerIdeal_MixerRefIdeal (hMixerIdeal := hMixerIdeal) (hMixerRefIdeal := hMixerRefIdeal)
    ∧ preserves_NormF_NormFIdeal
    ∧ algebraic_NormFIdeal_NormFRefIdeal (hNormFIdeal := hNormFIdeal) (hNormFRefIdeal := hNormFRefIdeal)
    ∧ preserves_GateF_GateFIdeal
    ∧ algebraic_GateFIdeal_GateFRefIdeal (hGateFIdeal := hGateFIdeal) (hGateFRefIdeal := hGateFRefIdeal)
    ∧ preserves_AttnF_AttnFIdeal
    ∧ algebraic_AttnFIdeal_AttnFRefIdeal (hAttnFIdeal := hAttnFIdeal) (hAttnFRefIdeal := hAttnFRefIdeal)
    ∧ preserves_MixF_MixFIdeal
    ∧ algebraic_MixFIdeal_MixFRefIdeal (hMixFIdeal := hMixFIdeal) (hMixFRefIdeal := hMixFRefIdeal)
    ∧ preserves_HalfF_HalfFIdeal
    ∧ algebraic_HalfFIdeal_HalfFRefIdeal (hHalfFIdeal := hHalfFIdeal) (hHalfFRefIdeal := hHalfFRefIdeal)
    ∧ preserves_Nn_NnIdeal
    ∧ algebraic_NnIdeal_NnRefIdeal (hNnIdeal := hNnIdeal) (hNnRefIdeal := hNnRefIdeal)
    ∧ preserves_Resid_ResidIdeal
    ∧ algebraic_ResidIdeal_ResidRefIdeal (hResidIdeal := hResidIdeal) (hResidRefIdeal := hResidRefIdeal)
    ∧ preserves_Nt_NtIdeal
    ∧ algebraic_NtIdeal_NtRefIdeal (hNtIdeal := hNtIdeal) (hNtRefIdeal := hNtRefIdeal)
    ∧ preserves_Tn_TnIdeal
    ∧ algebraic_TnIdeal_TnRefIdeal (hTnIdeal := hTnIdeal) (hTnRefIdeal := hTnRefIdeal)
    ∧ preserves_TnPair_TnPairIdeal
    ∧ algebraic_TnPairIdeal_TnPairRefIdeal (hTnPairIdeal := hTnPairIdeal) (hTnPairRefIdeal := hTnPairRefIdeal)
    ∧ preserves_NtHalves_NtHalvesIdeal
    ∧ algebraic_NtHalvesIdeal_NtHalvesRefIdeal (hNtHalvesIdeal := hNtHalvesIdeal) (hNtHalvesRefIdeal := hNtHalvesRefIdeal)
    ∧ preserves_TnHalf_TnHalfIdeal
    ∧ algebraic_TnHalfIdeal_TnHalfRefIdeal (hTnHalfIdeal := hTnHalfIdeal) (hTnHalfRefIdeal := hTnHalfRefIdeal)
    ∧ preserves_Adamw_AdamwIdeal
    ∧ algebraic_AdamwIdeal_AdamwRefIdeal (hAdamwIdeal := hAdamwIdeal) (hAdamwRefIdeal := hAdamwRefIdeal)
    ∧ preserves_PairAdd_PairAddIdeal
    ∧ algebraic_PairAddIdeal_PairAddRefIdeal (hPairAddIdeal := hPairAddIdeal) (hPairAddRefIdeal := hPairAddRefIdeal)
    ∧ preserves_Packed_PackedIdeal
    ∧ algebraic_PackedIdeal_PackedRefIdeal (hPackedIdeal := hPackedIdeal) (hPackedRefIdeal := hPackedRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== Pre_attn_finite.lean ====
abbrev S4096x2048 : Shape := ⟨2, ![4096, 2048]⟩
abbrev S256x2048 : Shape := ⟨2, ![256, 2048]⟩
abbrev S_ : Shape := ⟨0, ![]⟩

class Facts : Prop where
  bcast_S_S4096x2048 : S_.BroadcastsInDim S4096x2048 (![] : Fin 0 → Fin S4096x2048.rank)
  bcast_S_S256x2048 : S_.BroadcastsInDim S256x2048 (![] : Fin 0 → Fin S256x2048.rank)

variable [Facts]

def fn {F : FTy → Type} [FloatOps F] (main_arg0 : FVec F S4096x2048 .bf16) (main_arg1 : FVec F S256x2048 .bf16) (main_arg2 : FVec F S256x2048 .bf16) (main_arg3 : FVec F S4096x2048 .bf16) : IVec S4096x2048 1 × IVec S256x2048 1 × IVec S256x2048 1 × IVec S4096x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S256x2048 .bf16 := Host.absf main_arg1
  let main_cst_0 : FVec F S_ .bf16 := constant S_ .bf16 0x7F80#16
  let main_v4 : FVec F S256x2048 .bf16 := broadcastInDim S256x2048 ![] bcast_S_S256x2048 main_cst_0
  let main_v5 : IVec S256x2048 1 := cmpf .olt main_v3 main_v4
  let main_v6 : FVec F S256x2048 .bf16 := Host.absf main_arg2
  let main_cst_1 : FVec F S_ .bf16 := constant S_ .bf16 0x7F80#16
  let main_v7 : FVec F S256x2048 .bf16 := broadcastInDim S256x2048 ![] bcast_S_S256x2048 main_cst_1
  let main_v8 : IVec S256x2048 1 := cmpf .olt main_v6 main_v7
  let main_v9 : FVec F S4096x2048 .bf16 := Host.absf main_arg3
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  (main_v2, main_v5, main_v8, main_v11)
-- ==== Pre_ffn_finite.lean ====
abbrev S4096x2048 : Shape := ⟨2, ![4096, 2048]⟩
abbrev S1x2048 : Shape := ⟨2, ![1, 2048]⟩
abbrev S2048x11264 : Shape := ⟨2, ![2048, 11264]⟩
abbrev S2x4096x5632 : Shape := ⟨3, ![2, 4096, 5632]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S_S2048x11264 : S_.BroadcastsInDim S2048x11264 (![] : Fin 0 → Fin S2048x11264.rank)
  bcast_S_S2x4096x5632 : S_.BroadcastsInDim S2x4096x5632 (![] : Fin 0 → Fin S2x4096x5632.rank)

variable [Facts]

def fn {F : FTy → Type} [FloatOps F] (main_arg0 : FVec F S4096x2048 .f32) (main_arg1 : FVec F S1x2048 .f32) (main_arg2 : FVec F S2048x11264 .bf16) (main_arg3 : FVec F S2x4096x5632 .bf16) (main_arg4 : FVec F S4096x2048 .f32) : IVec S4096x2048 1 × IVec S1x2048 1 × IVec S2048x11264 1 × IVec S2x4096x5632 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x11264 .bf16 := Host.absf main_arg2
  let main_cst_1 : FVec F S_ .bf16 := constant S_ .bf16 0x7F80#16
  let main_v7 : FVec F S2048x11264 .bf16 := broadcastInDim S2048x11264 ![] bcast_S_S2048x11264 main_cst_1
  let main_v8 : IVec S2048x11264 1 := cmpf .olt main_v6 main_v7
  let main_v9 : FVec F S2x4096x5632 .bf16 := Host.absf main_arg3
  let main_cst_2 : FVec F S_ .bf16 := constant S_ .bf16 0x7F80#16
  let main_v10 : FVec F S2x4096x5632 .bf16 := broadcastInDim S2x4096x5632 ![] bcast_S_S2x4096x5632 main_cst_2
  let main_v11 : IVec S2x4096x5632 1 := cmpf .olt main_v9 main_v10
  (main_v2, main_v5, main_v8, main_v11)
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_mixin_finite.lean ====
abbrev S4096x2048 : Shape := ⟨2, ![4096, 2048]⟩
abbrev S1x2048 : Shape := ⟨2, ![1, 2048]⟩
abbrev S2048x5120 : Shape := ⟨2, ![2048, 5120]⟩
abbrev S4096x5120 : Shape := ⟨2, ![4096, 5120]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S_S2048x5120 : S_.BroadcastsInDim S2048x5120 (![] : Fin 0 → Fin S2048x5120.rank)
  bcast_S_S4096x5120 : S_.BroadcastsInDim S4096x5120 (![] : Fin 0 → Fin S4096x5120.rank)

variable [Facts]

def fn {F : FTy → Type} [FloatOps F] (main_arg0 : FVec F S4096x2048 .f32) (main_arg1 : FVec F S1x2048 .f32) (main_arg2 : FVec F S2048x5120 .bf16) (main_arg3 : FVec F S4096x5120 .bf16) (main_arg4 : FVec F S4096x2048 .f32) : IVec S4096x2048 1 × IVec S1x2048 1 × IVec S2048x5120 1 × IVec S4096x5120 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x5120 .bf16 := Host.absf main_arg2
  let main_cst_1 : FVec F S_ .bf16 := constant S_ .bf16 0x7F80#16
  let main_v7 : FVec F S2048x5120 .bf16 := broadcastInDim S2048x5120 ![] bcast_S_S2048x5120 main_cst_1
  let main_v8 : IVec S2048x5120 1 := cmpf .olt main_v6 main_v7
  let main_v9 : FVec F S4096x5120 .bf16 := Host.absf main_arg3
  let main_cst_2 : FVec F S_ .bf16 := constant S_ .bf16 0x7F80#16
  let main_v10 : FVec F S4096x5120 .bf16 := broadcastInDim S4096x5120 ![] bcast_S_S4096x5120 main_cst_2
  let main_v11 : IVec S4096x5120 1 := cmpf .olt main_v9 main_v10
  (main_v2, main_v5, main_v8, main_v11)
-- ==== Pre_norm1_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_swiglu_finite.lean ====
abbrev S4096x2048 : Shape := ⟨2, ![4096, 2048]⟩
abbrev S2048x11264 : Shape := ⟨2, ![2048, 11264]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S4096x2048 .bf16) (main_arg1 : FVec F S2048x11264 .bf16) (main_arg2 : FVec F S5632x2048 .bf16) (main_arg3 : FVec F S4096x2048 .bf16) : IVec S4096x2048 1 × IVec S2048x11264 1 × IVec S5632x2048 1 × IVec S4096x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S2048x11264 .bf16 := Host.absf main_arg1
  let main_cst_0 : FVec F S_ .bf16 := constant S_ .bf16 0x7F80#16
  let main_v4 : FVec F S2048x11264 .bf16 := broadcastInDim S2048x11264 ![] bcast_S_S2048x11264 main_cst_0
  let main_v5 : IVec S2048x11264 1 := cmpf .olt main_v3 main_v4
  let main_v6 : FVec F S5632x2048 .bf16 := Host.absf main_arg2
  let main_cst_1 : FVec F S_ .bf16 := constant S_ .bf16 0x7F80#16
  let main_v7 : FVec F S5632x2048 .bf16 := broadcastInDim S5632x2048 ![] bcast_S_S5632x2048 main_cst_1
  let main_v8 : IVec S5632x2048 1 := cmpf .olt main_v6 main_v7
  let main_v9 : FVec F S4096x2048 .bf16 := Host.absf main_arg3
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  (main_v2, main_v5, main_v8, main_v11)
-- ==== Pre_xq_finite.lean ====
abbrev S4096x2048 : Shape := ⟨2, ![4096, 2048]⟩
abbrev S1x2048 : Shape := ⟨2, ![1, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S_S2048x2048 : S_.BroadcastsInDim S2048x2048 (![] : Fin 0 → Fin S2048x2048.rank)

variable [Facts]

def fn {F : FTy → Type} [FloatOps F] (main_arg0 : FVec F S4096x2048 .f32) (main_arg1 : FVec F S1x2048 .f32) (main_arg2 : FVec F S2048x2048 .bf16) (main_arg3 : FVec F S4096x2048 .bf16) (main_arg4 : FVec F S4096x2048 .f32) : IVec S4096x2048 1 × IVec S1x2048 1 × IVec S2048x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .bf16 := Host.absf main_arg2
  let main_cst_1 : FVec F S_ .bf16 := constant S_ .bf16 0x7F80#16
  let main_v7 : FVec F S2048x2048 .bf16 := broadcastInDim S2048x2048 ![] bcast_S_S2048x2048 main_cst_1
  let main_v8 : IVec S2048x2048 1 := cmpf .olt main_v6 main_v7
  let main_v9 : FVec F S4096x2048 .bf16 := Host.absf main_arg3
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  (main_v2, main_v5, main_v8, main_v11)
-- ==== Gain.lean ====
abbrev S256x2048 : Shape := ⟨2, ![256, 2048]⟩
abbrev S1x2048 : Shape := ⟨2, ![1, 2048]⟩
abbrev S256x1 : Shape := ⟨2, ![256, 1]⟩
abbrev S256 : Shape := ⟨1, ![256]⟩
abbrev S2048 : Shape := ⟨1, ![2048]⟩

abbrev nBuf : Space → Nat
  | .hbm => 7
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S256x2048, .bf16⟩
  | .hbm, ⟨5, _⟩ => ⟨S256x1, .f32⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x1, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x1, .f32⟩
  | .local _ .vmem, ⟨8, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![1], ![false]⟩

def k1_cond1 (i : grid1.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k1_cond2 (i : grid1.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== GainRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S_, .f32⟩
  | .hbm, ⟨27, _⟩ => ⟨S2048, .f32⟩
  | .hbm, ⟨28, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S8x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_19 : BitVec 32 := 0#32
  let v48 : BitVec 1 := Scalar.cmpi .ne v47 c0_i32_19
  v48

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32_17 : BitVec 32 := 0#32
  let v43 : BitVec 1 := Scalar.cmpi .sgt arg0 c0_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S8x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Attn.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩
abbrev S1x4x512x256 : Shape := ⟨4, ![1, 4, 512, 256]⟩
abbrev S4x4096 : Shape := ⟨2, ![4, 4096]⟩
abbrev S1x4x256x512 : Shape := ⟨4, ![1, 4, 256, 512]⟩
abbrev S1x4x4096x512 : Shape := ⟨4, ![1, 4, 4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .f32⟩
  | .hbm, ⟨5, _⟩ => ⟨S256x2048, .f32⟩
  | .hbm, ⟨6, _⟩ => ⟨S256x2048, .f32⟩
  | .hbm, ⟨7, _⟩ => ⟨S4096x2048, .f32⟩
  | .hbm, ⟨8, _⟩ => ⟨S1x4096x4x512, .f32⟩
  | .hbm, ⟨9, _⟩ => ⟨S1x256x4x512, .f32⟩
  | .hbm, ⟨10, _⟩ => ⟨S1x256x4x512, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x512x4096, .f32⟩
  | .hbm, ⟨54, _⟩ => ⟨S1x4096x4x512, .f32⟩
  | .hbm, ⟨55, _⟩ => ⟨S4096x2048, .f32⟩
  | .hbm, ⟨56, _⟩ => ⟨S1x4096x4x512, .f32⟩
  | .hbm, ⟨57, _⟩ => ⟨S1x4x512x4096, .f32⟩
  | .hbm, ⟨58, _⟩ => ⟨S1x4x4096x256, .f32⟩
  | .hbm, ⟨59, _⟩ => ⟨S1x4x512x256, .f32⟩
  | .hbm, ⟨60, _⟩ => ⟨S1x256x4x512, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x1, .f32⟩
  | .hbm, ⟨68, _⟩ => ⟨S1x4x4096x256, .f32⟩
  | .hbm, ⟨69, _⟩ => ⟨S1x4x4096x256, .f32⟩
  | .hbm, ⟨70, _⟩ => ⟨S_, .f32⟩
  | .hbm, ⟨71, _⟩ => ⟨S4x4096, .f32⟩
  | .hbm, ⟨72, _⟩ => ⟨S1x4x4096, .f32⟩
  | .hbm, ⟨73, _⟩ => ⟨S1x4x4096x256, .f32⟩
  | .hbm, ⟨74, _⟩ => ⟨S1x4x4096x256, .f32⟩
  | .hbm, ⟨75, _⟩ => ⟨S1x4x4096x256, .f32⟩
  | .hbm, ⟨76, _⟩ => ⟨S_, .f32⟩
  | .hbm, ⟨77, _⟩ => ⟨S1x4x4096x256, .f32⟩
  | .hbm, ⟨78, _⟩ => ⟨S1x4x4096x256, .f32⟩
  | .hbm, ⟨79, _⟩ => ⟨S1x4x256x512, .f32⟩
  | .hbm, ⟨80, _⟩ => ⟨S1x256x4x512, .f32⟩
  | .hbm, ⟨81, _⟩ => ⟨S1x4x4096x512, .f32⟩
  | .hbm, ⟨82, _⟩ => ⟨S1x4096x4x512, .f32⟩
  | .hbm, ⟨83, _⟩ => ⟨S256x2048, .f32⟩
  | .hbm, ⟨84, _⟩ => ⟨S256x2048, .f32⟩
  | .hbm, ⟨85, _⟩ => ⟨S4096x2048, .f32⟩
  | .hbm, ⟨86, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Swiglu.lean ====
abbrev S4096x2048 : Shape := ⟨2, ![4096, 2048]⟩
abbrev S2048x11264 : Shape := ⟨2, ![2048, 11264]⟩
abbrev S5632x2048 : Shape := ⟨2, ![5632, 2048]⟩
abbrev S2x4096x5632 : Shape := ⟨3, ![2, 4096, 5632]⟩
abbrev S4096x5632 : Shape := ⟨2, ![4096, 5632]⟩
abbrev S1024x2048 : Shape := ⟨2, ![1024, 2048]⟩
abbrev S2048x512 : Shape := ⟨2, ![2048, 512]⟩
abbrev S2x1024x512 : Shape := ⟨3, ![2, 1024, 512]⟩
abbrev S1024x512 : Shape := ⟨2, ![1024, 512]⟩
abbrev S1x1024x512 : Shape := ⟨3, ![1, 1024, 512]⟩
abbrev S512x2048 : Shape := ⟨2, ![512, 2048]⟩
abbrev S256x2048 : Shape := ⟨2, ![256, 2048]⟩
abbrev S256x512 : Shape := ⟨2, ![256, 512]⟩
abbrev S1x256x512 : Shape := ⟨3, ![1, 256, 512]⟩

abbrev nBuf : Space → Nat
  | .hbm => 7
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S5632x2048, .bf16⟩
  | .hbm, ⟨3, _⟩ => ⟨S4096x2048, .bf16⟩
  | .hbm, ⟨4, _⟩ => ⟨S2x4096x5632, .bf16⟩
  | .hbm, ⟨5, _⟩ => ⟨S4096x5632, .bf16⟩
  | .hbm, ⟨6, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S512x2048, .bf16⟩
  | .local _ .vmem, ⟨14, _⟩ => ⟨S2x1024x512, .bf16⟩
  | .local _ .vmem, ⟨15, _⟩ => ⟨S2x1024x512, .bf16⟩
  | .local _ .vmem, ⟨16, _⟩ => ⟨S2x1024x512, .bf16⟩
  | .local _ .vmem, ⟨17, _⟩ => ⟨S2x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c11_i32 : BitVec 32 := 11#32
  let v2 : BitVec 32 := Scalar.addi v1 c11_i32
  let c0_i32_0 : BitVec 32 := 0#32
  let c0_i32_1 : BitVec 32 := 0#32
  ![c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![11, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== SwigluRefIdeal.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S5632x2048, .bf16⟩
  | .hbm, ⟨3, _⟩ => ⟨S4096x2048, .bf16⟩
  | .hbm, ⟨4, _⟩ => ⟨S4096x2048, .f32⟩
  | .hbm, ⟨5, _⟩ => ⟨S2048x11264, .f32⟩
  | .hbm, ⟨6, _⟩ => ⟨S5632x2048, .f32⟩
  | .hbm, ⟨7, _⟩ => ⟨S4096x2048, .f32⟩
  | .hbm, ⟨8, _⟩ => ⟨S4096x11264, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S1x4096x5632, .f32⟩
  | .hbm, ⟨40, _⟩ => ⟨S1x4096x5632, .f32⟩
  | .hbm, ⟨41, _⟩ => ⟨S2x4096x5632, .f32⟩
  | .hbm, ⟨42, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Norm1.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 9
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x1, .f32⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x1, .f32⟩
  | .local _ .vmem, ⟨12, _⟩ => ⟨S512x1, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_17 : BitVec 32 := 0#32
  let v31 : BitVec 1 := Scalar.cmpi .ne v30 c0_i32_17
  v31

def k1_cond2 (i : grid1.Coords) : BitVec 1 :=
  let arg0 : BitVec 32 := BitVec.ofNat 32 (i 0).val
  let c0_i32_18 : BitVec 32 := 0#32
  let v32 : BitVec 1 := Scalar.cmpi .sgt arg0 c0_i32_18
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== Norm1RefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Xq.lean ====
abbrev S4096x2048 : Shape := ⟨2, ![4096, 2048]⟩
abbrev S1x2048 : Shape := ⟨2, ![1, 2048]⟩
abbrev S2048x2048 : Shape := ⟨2, ![2048, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S512x1024 : Shape := ⟨2, ![512, 1024]⟩
abbrev S2048x1024 : Shape := ⟨2, ![2048, 1024]⟩
abbrev S2048 : Shape := ⟨1, ![2048]⟩

abbrev nBuf : Space → Nat
  | .hbm => 10
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x1, .f32⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | .local _ .vmem, ⟨7, _⟩ => ⟨S512x1024, .bf16⟩
  | .local _ .vmem, ⟨8, _⟩ => ⟨S512x1024, .bf16⟩
  | .local _ .vmem, ⟨9, _⟩ => ⟨S2048x1024, .bf16⟩
  | .local _ .vmem, ⟨10, _⟩ => ⟨S2048x1024, .bf16⟩
  | .local _ .vmem, ⟨11, _⟩ => ⟨S512x2048, .f32⟩
  | .local _ .vmem, ⟨12, _⟩ => ⟨S512x2048, .f32⟩
  | .local _ .vmem, ⟨13, _⟩ => ⟨S512x1, .f32⟩
  | .local _ .vmem, ⟨14, _⟩ => ⟨S512x1, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def k1_cond3 (i : grid1.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def k1_cond4 (i : grid1.Coords) : BitVec 1 :=
  let arg0 : BitVec 32 := BitVec.ofNat 32 (i 0).val
  let c0_i32_27 : BitVec 32 := 0#32
  let v44 : BitVec 1 := Scalar.cmpi .eq arg0 c0_i32_27
  let v45 : BitVec 32 := Scalar.extui v44
  let c0_i32_28 : BitVec 32 := 0#32
  let v46 : BitVec 1 := Scalar.cmpi .ne v45 c0_i32_28
  v46

def k1_cond5 (i : grid1.Coords) : BitVec 1 :=
  let arg0 : BitVec 32 := BitVec.ofNat 32 (i 0).val
  let c0_i32_29 : BitVec 32 := 0#32
  let v47 : BitVec 1 := Scalar.cmpi .sgt arg0 c0_i32_29
  let v48 : BitVec 32 := Scalar.extui v47
  let c0_i32_30 : BitVec 32 := 0#32
  let v49 : BitVec 1 := Scalar.cmpi .ne v48 c0_i32_30
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== XqRefIdeal.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | .hbm, ⟨57, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== MixIn.lean ====
abbrev S4096x2048 : Shape := ⟨2, ![4096, 2048]⟩
abbrev S1x2048 : Shape := ⟨2, ![1, 2048]⟩
abbrev S2048x5120 : Shape := ⟨2, ![2048, 5120]⟩
abbrev S4096x5120 : Shape := ⟨2, ![4096, 5120]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S512x1280 : Shape := ⟨2, ![512, 1280]⟩
abbrev S2048x1280 : Shape := ⟨2, ![2048, 1280]⟩
abbrev S2048 : Shape := ⟨1, ![2048]⟩

abbrev nBuf : Space → Nat
  | .hbm => 10
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x5120, .bf16⟩
  | .hbm, ⟨3, _⟩ => ⟨S4096x5120, .bf16⟩
  | .hbm, ⟨4, _⟩ => ⟨S4096x2048, .f32⟩
  | .hbm, ⟨5, _⟩ => ⟨S4096x2048, .bf16⟩
  | .hbm, ⟨6, _⟩ => ⟨S4096x1, .f32⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | .local _ .vmem, ⟨7, _⟩ => ⟨S512x1280, .bf16⟩
  | .local _ .vmem, ⟨8, _⟩ => ⟨S512x1280, .bf16⟩
  | .local _ .vmem, ⟨9, _⟩ => ⟨S2048x1280, .bf16⟩
  | .local _ .vmem, ⟨10, _⟩ => ⟨S2048x1280, .bf16⟩
  | .local _ .vmem, ⟨11, _⟩ => ⟨S512x2048, .f32⟩
  | .local _ .vmem, ⟨12, _⟩ => ⟨S512x2048, .f32⟩
  | .local _ .vmem, ⟨13, _⟩ => ⟨S512x1, .f32⟩
  | .local _ .vmem, ⟨14, _⟩ => ⟨S512x1, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond3 (i : grid1.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def k1_cond4 (i : grid1.Coords) : BitVec 1 :=
  let arg0 : BitVec 32 := BitVec.ofNat 32 (i 0).val
  let c0_i32_27 : BitVec 32 := 0#32
  let v44 : BitVec 1 := Scalar.cmpi .eq arg0 c0_i32_27
  let v45 : BitVec 32 := Scalar.extui v44
  let c0_i32_28 : BitVec 32 := 0#32
  let v46 : BitVec 1 := Scalar.cmpi .ne v45 c0_i32_28
  v46

def k1_cond5 (i : grid1.Coords) : BitVec 1 :=
  let arg0 : BitVec 32 := BitVec.ofNat 32 (i 0).val
  let c0_i32_29 : BitVec 32 := 0#32
  let v47 : BitVec 1 := Scalar.cmpi .sgt arg0 c0_i32_29
  let v48 : BitVec 32 := Scalar.extui v47
  let c0_i32_30 : BitVec 32 := 0#32
  let v49 : BitVec 1 := Scalar.cmpi .ne v48 c0_i32_30
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== MixInRefIdeal.lean ====
abbrev S4096x2048 : Shape := ⟨2, ![4096, 2048]⟩
abbrev S1x2048 : Shape := ⟨2, ![1, 2048]⟩
abbrev S2048x5120 : Shape := ⟨2, ![2048, 5120]⟩
abbrev S4096x5120 : Shape := ⟨2, ![4096, 5120]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x5120, .bf16⟩
  | .hbm, ⟨3, _⟩ => ⟨S4096x5120, .bf16⟩
  | .hbm, ⟨4, _⟩ => ⟨S4096x2048, .f32⟩
  | .hbm, ⟨5, _⟩ => ⟨S2048x5120, .f32⟩
  | .hbm, ⟨6, _⟩ => ⟨S4096x5120, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x5120, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | .hbm, ⟨57, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Ffn.lean ====
abbrev S4096x2048 : Shape := ⟨2, ![4096, 2048]⟩
abbrev S1x2048 : Shape := ⟨2, ![1, 2048]⟩
abbrev S2048x11264 : Shape := ⟨2, ![2048, 11264]⟩
abbrev S2x4096x5632 : Shape := ⟨3, ![2, 4096, 5632]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S1x512x1408 : Shape := ⟨3, ![1, 512, 1408]⟩
abbrev S2048x1408 : Shape := ⟨2, ![2048, 1408]⟩
abbrev S512x1408 : Shape := ⟨2, ![512, 1408]⟩
abbrev S2048 : Shape := ⟨1, ![2048]⟩

abbrev nBuf : Space → Nat
  | .hbm => 10
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x11264, .bf16⟩
  | .hbm, ⟨3, _⟩ => ⟨S2x4096x5632, .bf16⟩
  | .hbm, ⟨4, _⟩ => ⟨S4096x2048, .f32⟩
  | .hbm, ⟨5, _⟩ => ⟨S4096x2048, .bf16⟩
  | .hbm, ⟨6, _⟩ => ⟨S4096x1, .f32⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | .local _ .vmem, ⟨7, _⟩ => ⟨S1x512x1408, .bf16⟩
  | .local _ .vmem, ⟨8, _⟩ => ⟨S1x512x1408, .bf16⟩
  | .local _ .vmem, ⟨9, _⟩ => ⟨S2048x1408, .bf16⟩
  | .local _ .vmem, ⟨10, _⟩ => ⟨S2048x1408, .bf16⟩
  | .local _ .vmem, ⟨11, _⟩ => ⟨S512x2048, .f32⟩
  | .local _ .vmem, ⟨12, _⟩ => ⟨S512x2048, .f32⟩
  | .local _ .vmem, ⟨13, _⟩ => ⟨S512x1, .f32⟩
  | .local _ .vmem, ⟨14, _⟩ => ⟨S512x1, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond3 (i : grid1.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def k1_cond4 (i : grid1.Coords) : BitVec 1 :=
  let arg0 : BitVec 32 := BitVec.ofNat 32 (i 0).val
  let c0_i32_28 : BitVec 32 := 0#32
  let v45 : BitVec 1 := Scalar.cmpi .eq arg0 c0_i32_28
  let v46 : BitVec 32 := Scalar.extui v45
  let c0_i32_29 : BitVec 32 := 0#32
  let v47 : BitVec 1 := Scalar.cmpi .ne v46 c0_i32_29
  v47

def k1_cond5 (i : grid1.Coords) : BitVec 1 :=
  let arg0 : BitVec 32 := BitVec.ofNat 32 (i 0).val
  let c0_i32_30 : BitVec 32 := 0#32
  let v48 : BitVec 1 := Scalar.cmpi .sgt arg0 c0_i32_30
  let v49 : BitVec 32 := Scalar.extui v48
  let c0_i32_31 : BitVec 32 := 0#32
  let v50 : BitVec 1 := Scalar.cmpi .ne v49 c0_i32_31
  v50

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== FfnRefIdeal.lean ====
abbrev S4096x2048 : Shape := ⟨2, ![4096, 2048]⟩
abbrev S1x2048 : Shape := ⟨2, ![1, 2048]⟩
abbrev S2048x11264 : Shape := ⟨2, ![2048, 11264]⟩
abbrev S2x4096x5632 : Shape := ⟨3, ![2, 4096, 5632]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x11264, .bf16⟩
  | .hbm, ⟨3, _⟩ => ⟨S2x4096x5632, .bf16⟩
  | .hbm, ⟨4, _⟩ => ⟨S4096x2048, .f32⟩
  | .hbm, ⟨5, _⟩ => ⟨S2048x11264, .f32⟩
  | .hbm, ⟨6, _⟩ => ⟨S2x4096x5632, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x11264, .f32⟩
  | .hbm, ⟨29, _⟩ => ⟨S4096x5632, .f32⟩
  | .hbm, ⟨30, _⟩ => ⟨S4096x5632, .f32⟩
  | .hbm, ⟨31, _⟩ => ⟨S1x4096x5632, .f32⟩
  | .hbm, ⟨32, _⟩ => ⟨S4096x5632, .f32⟩
  | .hbm, ⟨33, _⟩ => ⟨S1x4096x5632, .f32⟩
  | .hbm, ⟨34, _⟩ => ⟨S4096x5632, .f32⟩
  | .hbm, ⟨35, _⟩ => ⟨S4096x11264, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S1x2048, .f32⟩
  | .hbm, ⟨64, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Mixer.lean ====
abbrev S4096x5120 : Shape := ⟨2, ![4096, 5120]⟩
abbrev S4096x2048 : Shape := ⟨2, ![4096, 2048]⟩
abbrev S1x3x1024 : Shape := ⟨3, ![1, 3, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S3x1024 : Shape := ⟨2, ![3, 1024]⟩
abbrev S_ : Shape := ⟨0, ![]⟩
abbrev S8x1024 : Shape := ⟨2, ![8, 1024]⟩
abbrev S256x5120 : Shape := ⟨2, ![256, 5120]⟩
abbrev S16x1024 : Shape := ⟨2, ![16, 1024]⟩
abbrev S256x2048 : Shape := ⟨2, ![256, 2048]⟩
abbrev S128x1024 : Shape := ⟨2, ![128, 1024]⟩
abbrev S256x1024 : Shape := ⟨2, ![256, 1024]⟩
abbrev S1024 : Shape := ⟨1, ![1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 18
  | .vmem => 23
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S1x3x1024, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S8x128x128, .f32⟩
  | .hbm, ⟨8, _⟩ => ⟨S8x128, .f32⟩
  | .hbm, ⟨9, _⟩ => ⟨S128x8, .f32⟩
  | .hbm, ⟨10, _⟩ => ⟨S3x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S4096x5120, .bf16⟩
  | .hbm, ⟨15, _⟩ => ⟨S8x1024, .f32⟩
  | .hbm, ⟨16, _⟩ => ⟨S8x128x128, .f32⟩
  | .hbm, ⟨17, _⟩ => ⟨S128x8, .f32⟩
  | .local _ .vmem, ⟨0, _⟩ => ⟨S256x5120, .bf16⟩
  | .local _ .vmem, ⟨1, _⟩ => ⟨S256x5120, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S256x2048, .bf16⟩
  | .local _ .vmem, ⟨9, _⟩ => ⟨S256x2048, .bf16⟩
  | .local _ .vmem, ⟨10, _⟩ => ⟨S16x1024, .bf16⟩
  | .local _ .vmem, ⟨11, _⟩ => ⟨S16x1024, .bf16⟩
  | .local _ .vmem, ⟨12, _⟩ => ⟨S8x1024, .f32⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x8, .f32⟩
  | .local _ .vmem, ⟨17, _⟩ => ⟨S256x5120, .bf16⟩
  | .local _ .vmem, ⟨18, _⟩ => ⟨S256x5120, .bf16⟩
  | .local _ .vmem, ⟨19, _⟩ => ⟨S8x1024, .f32⟩
  | .local _ .vmem, ⟨20, _⟩ => ⟨S8x128x128, .f32⟩
  | .local _ .vmem, ⟨21, _⟩ => ⟨S128x8, .f32⟩
  | .local _ .vmem, ⟨22, _⟩ => ⟨S128x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_561 : BitVec 32 := 15#32
  let v1152 : BitVec 1 := Scalar.cmpi .eq arg0 c15_i32_561
  let v1153 : BitVec 32 := Scalar.extui v1152
  let c0_i32_562 : BitVec 32 := 0#32
  let v1154 : BitVec 1 := Scalar.cmpi .ne v1153 c0_i32_562
  v1154

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixerRefIdeal.lean ====
abbrev S4096x5120 : Shape := ⟨2, ![4096, 5120]⟩
abbrev S4096x2048 : Shape := ⟨2, ![4096, 2048]⟩
abbrev S1x3x1024 : Shape := ⟨3, ![1, 3, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x5120 : Shape := ⟨3, ![1, 4096, 5120]⟩
abbrev S1x4096x2048 : Shape := ⟨3, ![1, 4096, 2048]⟩
abbrev S1x4096x1024 : Shape := ⟨3, ![1, 4096, 1024]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x4098x1024 : Shape := ⟨3, ![1, 4098, 1024]⟩
abbrev S1x1x1024 : Shape := ⟨3, ![1, 1, 1024]⟩
abbrev S8x128x128 : Shape := ⟨3, ![8, 128, 128]⟩
abbrev S8x128 : Shape := ⟨2, ![8, 128]⟩
abbrev S1x32x128x8x128 : Shape := ⟨5, ![1, 32, 128, 8, 128]⟩
abbrev S1x32x128x8 : Shape := ⟨4, ![1, 32, 128, 8]⟩
abbrev S1x32x128x8x1 : Shape := ⟨5, ![1, 32, 128, 8, 1]⟩
abbrev S1x1x1x8x128 : Shape := ⟨5, ![1, 1, 1, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S32x128x8 : Shape := ⟨3, ![32, 128, 8]⟩
abbrev S8x1024 : Shape := ⟨2, ![8, 1024]⟩

abbrev nBuf : Space → Nat
  | .hbm => 212
  | .vmem => 0
  | .smem => 0
  | _ => 0

abbrev hbmTy0_0 (i : Nat) : BufTy := match i % 128 with
  | 0 => ⟨S4096x5120, .bf16⟩
  | 1 => ⟨S4096x2048, .bf16⟩
  | 2 => ⟨S1x3x1024, .f32⟩
  | 3 => ⟨S1x1024, .f32⟩
  | 4 => ⟨S1x1024, .f32⟩
  | 5 => ⟨S1x8x128x128, .f32⟩
  | 6 => ⟨S1x8x128, .f32⟩
  | 7 => ⟨S4096x5120, .f32⟩
  | 8 => ⟨S1x4096x5120, .f32⟩
  | 9 => ⟨S4096x2048, .f32⟩
  | 10 => ⟨S1x4096x2048, .f32⟩
  | 11 => ⟨S1x4096x1024, .f32⟩
  | 12 => ⟨S1x4096x1024, .f32⟩
  | 13 => ⟨S1x4096x1024, .f32⟩
  | 14 => ⟨S1x4096x1024, .f32⟩
  | 15 => ⟨S1x4096x1024, .f32⟩
  | 16 => ⟨S1x4096x1024, .f32⟩
  | 17 => ⟨S3x1024, .f32⟩
  | 18 => ⟨S1024, .f32⟩
  | 19 => ⟨S_, .f32⟩
  | 20 => ⟨S1x2x1024, .f32⟩
  | 21 => ⟨S1x4098x1024, .f32⟩
  | 22 => ⟨S_, .f32⟩
  | 23 => ⟨S1x2x1024, .f32⟩
  | 24 => ⟨S1x1024, .f32⟩
  | 25 => ⟨S1024, .f32⟩
  | 26 => ⟨S1x1x1024, .f32⟩
  | 27 => ⟨S1x4096x1024, .f32⟩
  | 28 => ⟨S1x4096x1024, .f32⟩
  | 29 => ⟨S1x1x1024, .f32⟩
  | 30 => ⟨S1x4096x1024, .f32⟩
  | 31 => ⟨S1x4096x1024, .f32⟩
  | 32 => ⟨S1x1024, .f32⟩
  | 33 => ⟨S1024, .f32⟩
  | 34 => ⟨S1x4096x1024, .f32⟩
  | 35 => ⟨S1x1x1024, .f32⟩
  | 36 => ⟨S1x4096x1024, .f32⟩
  | 37 => ⟨S1x4096x1024, .f32⟩
  | 38 => ⟨S1x4096x1024, .f32⟩
  | 39 => ⟨S1x1024, .f32⟩
  | 40 => ⟨S1024, .f32⟩
  | 41 => ⟨S1x4096x1024, .f32⟩
  | 42 => ⟨S1x1x1024, .f32⟩
  | 43 => ⟨S1x4096x1024, .f32⟩
  | 44 => ⟨S1x4096x1024, .f32⟩
  | 45 => ⟨S1x4096x1024, .f32⟩
  | 46 => ⟨S1x4096x1024, .f32⟩
  | 47 => ⟨S1024, .f32⟩
  | 48 => ⟨S8x128x128, .f32⟩
  | 49 => ⟨S8x128, .f32⟩
  | 50 => ⟨S1x32x128x8x128, .f32⟩
  | 51 => ⟨S8x128, .f32⟩
  | 52 => ⟨S1x32x128x8x128, .f32⟩
  | 53 => ⟨S_, .f32⟩
  | 54 => ⟨S1x32x128x8, .f32⟩
  | 55 => ⟨S1x32x128x8x1, .f32⟩
  | 56 => ⟨S_, .f32⟩
  | 57 => ⟨S1x32x128x8x1, .f32⟩
  | 58 => ⟨S1x32x128x8x1, .f32⟩
  | 59 => ⟨S_, .f32⟩
  | 60 => ⟨S1x32x128x8x1, .f32⟩
  | 61 => ⟨S1x32x128x8x1, .f32⟩
  | 62 => ⟨S1x32x128x8x1, .f32⟩
  | 63 => ⟨S1x32x128x8x1, .f32⟩
  | 64 => ⟨S_, .f32⟩
  | 65 => ⟨S1x32x128x8x1, .f32⟩
  | 66 => ⟨S1x32x128x8x1, .f32⟩
  | 67 => ⟨S1x32x128x8x128, .f32⟩
  | 68 => ⟨S1x32x128x8x128, .f32⟩
  | 69 => ⟨S1x1x1x8x128, .f32⟩
  | 70 => ⟨S1x32x128x8x128, .f32⟩
  | 71 => ⟨S1x32x128x8x128, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S_, .f32⟩
  | 85 => ⟨S8x128x128, .f32⟩
  | 86 => ⟨S8x128x128, .i1⟩
  | 87 => ⟨S8x128x128, .f32⟩
  | 88 => ⟨S_, .f32⟩
  | 89 => ⟨S8x128x128, .f32⟩
  | 90 => ⟨S8x1x32x128x128, .f32⟩
  | 91 => ⟨S1x32x128x8x128, .f32⟩
  | 92 => ⟨S128x8, .f32⟩
  | 93 => ⟨S1x1x128x8x1, .f32⟩
  | 94 => ⟨S1x32x128x8x128, .f32⟩
  | 95 => ⟨S1x32x128x8x128, .f32⟩
  | 96 => ⟨S1x4096x1024, .f32⟩
  | 97 => ⟨S1x4096x1024, .f32⟩
  | 98 => ⟨S1x4096x2048, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x32x128x8x128, .f32⟩
  | 104 => ⟨S_, .f32⟩
  | 105 => ⟨S1x128x8, .f32⟩
  | 106 => ⟨S1x1x128x8x1, .f32⟩
  | 107 => ⟨S_, .f32⟩
  | 108 => ⟨S128x8, .f32⟩
  | 109 => ⟨S8x128, .f32⟩
  | 110 => ⟨S8x1x32x128x128, .f32⟩
  | 111 => ⟨S8x128x128, .f32⟩
  | 112 => ⟨S8x1x32x128x128, .f32⟩
  | 113 => ⟨S1x32x128x8x128, .f32⟩
  | 114 => ⟨S_, .f32⟩
  | 115 => ⟨S8x128x128, .f32⟩
  | 116 => ⟨S8x128x128, .f32⟩
  | 117 => ⟨S1x32x128x8x128, .f32⟩
  | 118 => ⟨S_, .f32⟩
  | 119 => ⟨S1x8x128, .f32⟩
  | 120 => ⟨S1x1x1x8x128, .f32⟩
  | 121 => ⟨S1x32x128x8x128, .f32⟩
  | 122 => ⟨S1x32x128x8x128, .f32⟩
  | 123 => ⟨S_, .f32⟩
  | 124 => ⟨S8x128, .f32⟩
  | 125 => ⟨S1x32x128x8x128, .f32⟩
  | 126 => ⟨S_, .f32⟩
  | 127 => ⟨S1x32x128x8, .f32⟩
  | _ => ⟨S4096x5120, .bf16⟩

abbrev hbmTy0_1 (i : Nat) : BufTy := match i % 128 with
  | 0 => ⟨S1x32x128x8x1, .f32⟩
  | 1 => ⟨S1x32x128x8x128, .f32⟩
  | 2 => ⟨S1x32x128x8x128, .f32⟩
  | 3 => ⟨S1x32x128x8x1, .f32⟩
  | 4 => ⟨S_, .f32⟩
  | 5 => ⟨S1x32x128x8x1, .f32⟩
  | 6 => ⟨S1x32x128x8x1, .f32⟩
  | 7 => ⟨S_, .f32⟩
  | 8 => ⟨S32x128x8, .f32⟩
  | 9 => ⟨S1x32x128x8, .f32⟩
  | 10 => ⟨S1x32x128x8x128, .f32⟩
  | 11 => ⟨S1x32x128x8x128, .f32⟩
  | 12 => ⟨S1x32x128x8x128, .f32⟩
  | 13 => ⟨S1x32x128x8x128, .f32⟩
  | 14 => ⟨S1x32x128x8x128, .f32⟩
  | 15 => ⟨S1024, .f32⟩
  | 16 => ⟨S1x4096x1024, .f32⟩
  | 17 => ⟨S1x8x128, .f32⟩
  | 18 => ⟨S1x8x128x128, .f32⟩
  | 19 => ⟨S1x1024, .f32⟩
  | 20 => ⟨S1x4096x1024, .f32⟩
  | 21 => ⟨S1x4096x1024, .f32⟩
  | 22 => ⟨S1x4096x1024, .f32⟩
  | 23 => ⟨S1x4096x1024, .f32⟩
  | 24 => ⟨S1x4096x1024, .f32⟩
  | 25 => ⟨S_, .f32⟩
  | 26 => ⟨S1x1024, .f32⟩
  | 27 => ⟨S1x1x1024, .f32⟩
  | 28 => ⟨S_, .f32⟩
  | 29 => ⟨S1024, .f32⟩
  | 30 => ⟨S_, .f32⟩
  | 31 => ⟨S1x4098x1024, .f32⟩
  | 32 => ⟨S1x1024, .f32⟩
  | 33 => ⟨S_, .f32⟩
  | 34 => ⟨S3x1024, .f32⟩
  | 35 => ⟨S1x4096x1024, .f32⟩
  | 36 => ⟨S1x4096x1024, .f32⟩
  | 37 => ⟨S1x4096x1024, .f32⟩
  | 38 => ⟨S_, .f32⟩
  | 39 => ⟨S1x1024, .f32⟩
  | 40 => ⟨S1x1x1024, .f32⟩
  | 41 => ⟨S_, .f32⟩
  | 42 => ⟨S1024, .f32⟩
  | 43 => ⟨S_, .f32⟩
  | 44 => ⟨S1x4098x1024, .f32⟩
  | 45 => ⟨S1x4098x1024, .f32⟩
  | 46 => ⟨S1x1024, .f32⟩
  | 47 => ⟨S_, .f32⟩
  | 48 => ⟨S3x1024, .f32⟩
  | 49 => ⟨S3x1024, .f32⟩
  | 50 => ⟨S_, .f32⟩
  | 51 => ⟨S1x1024, .f32⟩
  | 52 => ⟨S1x1x1024, .f32⟩
  | 53 => ⟨S_, .f32⟩
  | 54 => ⟨S1024, .f32⟩
  | 55 => ⟨S1x4096x1024, .f32⟩
  | 56 => ⟨S1x4096x1024, .f32⟩
  | 57 => ⟨S1x4096x1024, .f32⟩
  | 58 => ⟨S_, .f32⟩
  | 59 => ⟨S1x1024, .f32⟩
  | 60 => ⟨S1x1x1024, .f32⟩
  | 61 => ⟨S_, .f32⟩
  | 62 => ⟨S1024, .f32⟩
  | 63 => ⟨S1x1024, .f32⟩
  | 64 => ⟨S_, .f32⟩
  | 65 => ⟨S3x1024, .f32⟩
  | 66 => ⟨S3x1024, .f32⟩
  | 67 => ⟨S1x2x1024, .f32⟩
  | 68 => ⟨S1x4096x1024, .f32⟩
  | 69 => ⟨S1x4096x1024, .f32⟩
  | 70 => ⟨S1x1024, .f32⟩
  | 71 => ⟨S1x3x1024, .f32⟩
  | 72 => ⟨S1x4096x1024, .f32⟩
  | 73 => ⟨S1x4096x1024, .f32⟩
  | 74 => ⟨S1x4096x5120, .f32⟩
  | 75 => ⟨S3x1024, .f32⟩
  | 76 => ⟨S_, .f32⟩
  | 77 => ⟨S3x1024, .f32⟩
  | 78 => ⟨S8x1024, .f32⟩
  | 79 => ⟨S4096x5120, .f32⟩
  | 80 => ⟨S4096x5120, .bf16⟩
  | 81 => ⟨S8x128x128, .f32⟩
  | 82 => ⟨S8x128, .f32⟩
  | 83 => ⟨S128x8, .f32⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c : Ref sig .tc := ⟨.hbm, 72, rfl⟩
abbrev main_v59 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_v63_1 : Ref sig .tc := ⟨.hbm, 86, rfl⟩
abbrev main_v63_0 : Ref sig .tc := ⟨.hbm, 87, rfl⟩
abbrev main_call1_cst : Ref sig .tc := ⟨.hbm, 88, rfl⟩
abbrev main_v63_2 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_6 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call2_cst : Ref sig .tc := ⟨.hbm, 114, rfl⟩
abbrev main_call2_v0 : Ref sig .tc := ⟨.hbm, 115, rfl⟩
abbrev main_v86 : Ref sig .tc := ⟨.hbm, 116, rfl⟩
abbrev main_v87 : Ref sig .tc := ⟨.hbm, 117, rfl⟩
abbrev main_cst_8 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_9 : Ref sig .tc := ⟨.hbm, 123, rfl⟩
abbrev main_v92 : Ref sig .tc := ⟨.hbm, 124, rfl⟩
abbrev main_v93 : Ref sig .tc := ⟨.hbm, 125, rfl⟩
abbrev main_cst_10 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_11 : Ref sig .tc := ⟨.hbm, 132, rfl⟩
abbrev main_v99 : Ref sig .tc := ⟨.hbm, 133, rfl⟩
abbrev main_v100 : Ref sig .tc := ⟨.hbm, 134, rfl⟩
abbrev main_cst_12 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_13 : Ref sig .tc := ⟨.hbm, 153, rfl⟩
abbrev main_v118 : Ref sig .tc := ⟨.hbm, 154, rfl⟩
abbrev main_v119 : Ref sig .tc := ⟨.hbm, 155, rfl⟩
abbrev main_cst_14 : Ref sig .tc := ⟨.hbm, 156, rfl⟩
abbrev main_v120 : Ref sig .tc := ⟨.hbm, 157, rfl⟩
abbrev main_cst_15 : Ref sig .tc := ⟨.hbm, 158, rfl⟩
abbrev main_v121 : Ref sig .tc := ⟨.hbm, 159, rfl⟩
abbrev main_v122 : Ref sig .tc := ⟨.hbm, 160, rfl⟩
abbrev main_cst_16 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_17 : Ref sig .tc := ⟨.hbm, 166, rfl⟩
abbrev main_v127 : Ref sig .tc := ⟨.hbm, 167, rfl⟩
abbrev main_v128 : Ref sig .tc := ⟨.hbm, 168, rfl⟩
abbrev main_cst_18 : Ref sig .tc := ⟨.hbm, 169, rfl⟩
abbrev main_v129 : Ref sig .tc := ⟨.hbm, 170, rfl⟩
abbrev main_cst_19 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_20 : Ref sig .tc := ⟨.hbm, 175, rfl⟩
abbrev main_v133 : Ref sig .tc := ⟨.hbm, 176, rfl⟩
abbrev main_v134 : Ref sig .tc := ⟨.hbm, 177, rfl⟩
abbrev main_cst_21 : Ref sig .tc := ⟨.hbm, 178, rfl⟩
abbrev main_v135 : Ref sig .tc := ⟨.hbm, 179, rfl⟩
abbrev main_v136 : Ref sig .tc := ⟨.hbm, 180, rfl⟩
abbrev main_cst_22 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_23 : Ref sig .tc := ⟨.hbm, 186, rfl⟩
abbrev main_v141 : Ref sig .tc := ⟨.hbm, 187, rfl⟩
abbrev main_v142 : Ref sig .tc := ⟨.hbm, 188, rfl⟩
abbrev main_cst_24 : Ref sig .tc := ⟨.hbm, 189, rfl⟩
abbrev main_v143 : Ref sig .tc := ⟨.hbm, 190, rfl⟩
abbrev main_v144 : Ref sig .tc := ⟨.hbm, 191, rfl⟩
abbrev main_cst_25 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_26 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩

abbrev nD : Nat := 1
abbrev τ : Topo := Topo.v7x

variable {F : FTy → Type} [FloatOps F]
-- ==== NormF.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== GateF.lean ====
abbrev S4096x2048 : Shape := ⟨2, ![4096, 2048]⟩
abbrev S2048x11264 : Shape := ⟨2, ![2048, 11264]⟩
abbrev S2x4096x5632 : Shape := ⟨3, ![2, 4096, 5632]⟩
abbrev S4096x5632 : Shape := ⟨2, ![4096, 5632]⟩
abbrev S1024x2048 : Shape := ⟨2, ![1024, 2048]⟩
abbrev S2048x512 : Shape := ⟨2, ![2048, 512]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2x4096x5632, .bf16⟩
  | .hbm, ⟨3, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c11_i32 : BitVec 32 := 11#32
  let v2 : BitVec 32 := Scalar.addi v1 c11_i32
  let c0_i32_0 : BitVec 32 := 0#32
  let c0_i32_1 : BitVec 32 := 0#32
  ![c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateFRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== AttnF.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFRefIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .f32⟩
  | .hbm, ⟨4, _⟩ => ⟨S256x2048, .f32⟩
  | .hbm, ⟨5, _⟩ => ⟨S256x2048, .f32⟩
  | .hbm, ⟨6, _⟩ => ⟨S1x4096x4x512, .f32⟩
  | .hbm, ⟨7, _⟩ => ⟨S1x256x4x512, .f32⟩
  | .hbm, ⟨8, _⟩ => ⟨S1x256x4x512, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x512x4096, .f32⟩
  | .hbm, ⟨28, _⟩ => ⟨S1x4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== MixF.lean ====
abbrev S4096x5120 : Shape := ⟨2, ![4096, 5120]⟩
abbrev S1x3x1024 : Shape := ⟨3, ![1, 3, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S3x1024 : Shape := ⟨2, ![3, 1024]⟩
abbrev S_ : Shape := ⟨0, ![]⟩
abbrev S8x1024 : Shape := ⟨2, ![8, 1024]⟩
abbrev S4096x2048 : Shape := ⟨2, ![4096, 2048]⟩
abbrev S256x5120 : Shape := ⟨2, ![256, 5120]⟩
abbrev S16x1024 : Shape := ⟨2, ![16, 1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 14
  | .vmem => 13
  | .smem => 0
  | _ => 0

abbrev bufTy : (tb : Table) → Fin (tcTables nBuf tb) → BufTy
  | .hbm, ⟨0, _⟩ => ⟨S4096x5120, .bf16⟩
  | .hbm, ⟨1, _⟩ => ⟨S1x3x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S128x8, .f32⟩
  | .hbm, ⟨9, _⟩ => ⟨S3x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S4096x2048, .bf16⟩
  | .local _ .vmem, ⟨0, _⟩ => ⟨S256x5120, .bf16⟩
  | .local _ .vmem, ⟨1, _⟩ => ⟨S256x5120, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x8, .f32⟩
  | .local _ .vmem, ⟨11, _⟩ => ⟨S256x2048, .bf16⟩
  | .local _ .vmem, ⟨12, _⟩ => ⟨S256x2048, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFRefIdeal.lean ====
abbrev S4096x5120 : Shape := ⟨2, ![4096, 5120]⟩
abbrev S1x3x1024 : Shape := ⟨3, ![1, 3, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x5120 : Shape := ⟨3, ![1, 4096, 5120]⟩
abbrev S1x4096x1024 : Shape := ⟨3, ![1, 4096, 1024]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x4098x1024 : Shape := ⟨3, ![1, 4098, 1024]⟩
abbrev S1x1x1024 : Shape := ⟨3, ![1, 1, 1024]⟩
abbrev S8x128x128 : Shape := ⟨3, ![8, 128, 128]⟩
abbrev S8x128 : Shape := ⟨2, ![8, 128]⟩
abbrev S1x32x128x8x128 : Shape := ⟨5, ![1, 32, 128, 8, 128]⟩
abbrev S1x32x128x8 : Shape := ⟨4, ![1, 32, 128, 8]⟩
abbrev S1x32x128x8x1 : Shape := ⟨5, ![1, 32, 128, 8, 1]⟩
abbrev S1x1x1x8x128 : Shape := ⟨5, ![1, 1, 1, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x4096x2048 : Shape := ⟨3, ![1, 4096, 2048]⟩
abbrev S4096x2048 : Shape := ⟨2, ![4096, 2048]⟩

abbrev nBuf : Space → Nat
  | .hbm => 90
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1x3x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S4096x5120, .f32⟩
  | .hbm, ⟨7, _⟩ => ⟨S1x4096x5120, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S3x1024, .f32⟩
  | .hbm, ⟨15, _⟩ => ⟨S1024, .f32⟩
  | .hbm, ⟨16, _⟩ => ⟨S_, .f32⟩
  | .hbm, ⟨17, _⟩ => ⟨S1x2x1024, .f32⟩
  | .hbm, ⟨18, _⟩ => ⟨S1x4098x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x1024, .f32⟩
  | .hbm, ⟨28, _⟩ => ⟨S1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x1024, .f32⟩
  | .hbm, ⟨35, _⟩ => ⟨S1024, .f32⟩
  | .hbm, ⟨36, _⟩ => ⟨S1x4096x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1024, .f32⟩
  | .hbm, ⟨43, _⟩ => ⟨S8x128x128, .f32⟩
  | .hbm, ⟨44, _⟩ => ⟨S8x128, .f32⟩
  | .hbm, ⟨45, _⟩ => ⟨S1x32x128x8x128, .f32⟩
  | .hbm, ⟨46, _⟩ => ⟨S8x128, .f32⟩
  | .hbm, ⟨47, _⟩ => ⟨S1x32x128x8x128, .f32⟩
  | .hbm, ⟨48, _⟩ => ⟨S_, .f32⟩
  | .hbm, ⟨49, _⟩ => ⟨S1x32x128x8, .f32⟩
  | .hbm, ⟨50, _⟩ => ⟨S1x32x128x8x1, .f32⟩
  | .hbm, ⟨51, _⟩ => ⟨S_, .f32⟩
  | .hbm, ⟨52, _⟩ => ⟨S1x32x128x8x1, .f32⟩
  | .hbm, ⟨53, _⟩ => ⟨S1x32x128x8x1, .f32⟩
  | .hbm, ⟨54, _⟩ => ⟨S_, .f32⟩
  | .hbm, ⟨55, _⟩ => ⟨S1x32x128x8x1, .f32⟩
  | .hbm, ⟨56, _⟩ => ⟨S1x32x128x8x1, .f32⟩
  | .hbm, ⟨57, _⟩ => ⟨S1x32x128x8x1, .f32⟩
  | .hbm, ⟨58, _⟩ => ⟨S1x32x128x8x128, .f32⟩
  | .hbm, ⟨59, _⟩ => ⟨S1x32x128x8x128, .f32⟩
  | .hbm, ⟨60, _⟩ => ⟨S1x1x1x8x128, .f32⟩
  | .hbm, ⟨61, _⟩ => ⟨S1x32x128x8x128, .f32⟩
  | .hbm, ⟨62, _⟩ => ⟨S1x32x128x8x128, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S1x128x128, .i1⟩
  | .hbm, ⟨75, _⟩ => ⟨S_, .f32⟩
  | .hbm, ⟨76, _⟩ => ⟨S8x128x128, .f32⟩
  | .hbm, ⟨77, _⟩ => ⟨S8x128x128, .i1⟩
  | .hbm, ⟨78, _⟩ => ⟨S8x128x128, .f32⟩
  | .hbm, ⟨79, _⟩ => ⟨S8x1x32x128x128, .f32⟩
  | .hbm, ⟨80, _⟩ => ⟨S1x32x128x8x128, .f32⟩
  | .hbm, ⟨81, _⟩ => ⟨S128x8, .f32⟩
  | .hbm, ⟨82, _⟩ => ⟨S1x1x128x8x1, .f32⟩
  | .hbm, ⟨83, _⟩ => ⟨S1x32x128x8x128, .f32⟩
  | .hbm, ⟨84, _⟩ => ⟨S1x32x128x8x128, .f32⟩
  | .hbm, ⟨85, _⟩ => ⟨S1x4096x1024, .f32⟩
  | .hbm, ⟨86, _⟩ => ⟨S1x4096x1024, .f32⟩
  | .hbm, ⟨87, _⟩ => ⟨S1x4096x2048, .f32⟩
  | .hbm, ⟨88, _⟩ => ⟨S4096x2048, .f32⟩
  | .hbm, ⟨89, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_0 : Ref sig .tc := ⟨.hbm, 48, rfl⟩
abbrev main_v41 : Ref sig .tc := ⟨.hbm, 49, rfl⟩
abbrev main_v42 : Ref sig .tc := ⟨.hbm, 50, rfl⟩
abbrev main_cst_1 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c : Ref sig .tc := ⟨.hbm, 63, rfl⟩
abbrev main_v53 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_call1_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== HalfF.lean ====
abbrev S4096x2048 : Shape := ⟨2, ![4096, 2048]⟩
abbrev S2048x11264 : Shape := ⟨2, ![2048, 11264]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S2048x5632 : Shape := ⟨2, ![2048, 5632]⟩
abbrev S2x4096x5632 : Shape := ⟨3, ![2, 4096, 5632]⟩
abbrev S4096x5632 : Shape := ⟨2, ![4096, 5632]⟩
abbrev S512x2048 : Shape := ⟨2, ![512, 2048]⟩
abbrev S2048x1408 : Shape := ⟨2, ![2048, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 13
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2048x4x2x1408, .bf16⟩
  | .hbm, ⟨3, _⟩ => ⟨S2048x4x1x1408, .bf16⟩
  | .hbm, ⟨4, _⟩ => ⟨S2048x4x1408, .bf16⟩
  | .hbm, ⟨5, _⟩ => ⟨S2048x5632, .bf16⟩
  | .hbm, ⟨6, _⟩ => ⟨S2048x4x1x1408, .bf16⟩
  | .hbm, ⟨7, _⟩ => ⟨S2048x4x1408, .bf16⟩
  | .hbm, ⟨8, _⟩ => ⟨S2048x5632, .bf16⟩
  | .hbm, ⟨9, _⟩ => ⟨S2x4096x5632, .bf16⟩
  | .hbm, ⟨10, _⟩ => ⟨S4096x5632, .bf16⟩
  | .hbm, ⟨11, _⟩ => ⟨S2x4096x5632, .bf16⟩
  | .hbm, ⟨12, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x2048, .bf16⟩
  | .local _ .vmem, ⟨11, _⟩ => ⟨S512x2048, .bf16⟩
  | .local _ .vmem, ⟨12, _⟩ => ⟨S2048x1408, .bf16⟩
  | .local _ .vmem, ⟨13, _⟩ => ⟨S2048x1408, .bf16⟩
  | .local _ .vmem, ⟨14, _⟩ => ⟨S2048x1408, .bf16⟩
  | .local _ .vmem, ⟨15, _⟩ => ⟨S2048x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S512x1408, .bf16⟩
  | .local _ .vmem, ⟨19, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![c0_i32_0.toNat, arg1.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc1_transform_5 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![c0_i32.toNat, arg1.toNat, v1.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  ![arg1.toNat, v1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== HalfFRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Nn.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnRefIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | .hbm, ⟨5, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Resid.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ResidRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Nt.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtRefIdeal.lean ====
abbrev S2048x2048 : Shape := ⟨2, ![2048, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Tn.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnRefIdeal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnPair.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnPairRefIdeal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩
abbrev S2048x11264 : Shape := ⟨2, ![2048, 11264]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2048, .f32⟩
  | .hbm, ⟨3, _⟩ => ⟨S2x4096x5632, .f32⟩
  | .hbm, ⟨4, _⟩ => ⟨S1x4096x5632, .f32⟩
  | .hbm, ⟨5, _⟩ => ⟨S4096x5632, .f32⟩
  | .hbm, ⟨6, _⟩ => ⟨S1x4096x5632, .f32⟩
  | .hbm, ⟨7, _⟩ => ⟨S4096x5632, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== NtHalves.lean ====
abbrev S2048x11264 : Shape := ⟨2, ![2048, 11264]⟩
abbrev S2x4096x5632 : Shape := ⟨3, ![2, 4096, 5632]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S2048x5632 : Shape := ⟨2, ![2048, 5632]⟩
abbrev S4096x2048 : Shape := ⟨2, ![4096, 2048]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2048x11264, .bf16⟩
  | .hbm, ⟨1, _⟩ => ⟨S2x4096x5632, .bf16⟩
  | .hbm, ⟨2, _⟩ => ⟨S2048x4x2x1408, .bf16⟩
  | .hbm, ⟨3, _⟩ => ⟨S2048x4x1x1408, .bf16⟩
  | .hbm, ⟨4, _⟩ => ⟨S2048x4x1408, .bf16⟩
  | .hbm, ⟨5, _⟩ => ⟨S2048x5632, .bf16⟩
  | .hbm, ⟨6, _⟩ => ⟨S2048x4x1x1408, .bf16⟩
  | .hbm, ⟨7, _⟩ => ⟨S2048x4x1408, .bf16⟩
  | .hbm, ⟨8, _⟩ => ⟨S2048x5632, .bf16⟩
  | .hbm, ⟨9, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NtHalvesRefIdeal.lean ====
abbrev S2048x11264 : Shape := ⟨2, ![2048, 11264]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2x4096x5632, .bf16⟩
  | .hbm, ⟨2, _⟩ => ⟨S2048x11264, .f32⟩
  | .hbm, ⟨3, _⟩ => ⟨S2x4096x5632, .f32⟩
  | .hbm, ⟨4, _⟩ => ⟨S1x4096x5632, .f32⟩
  | .hbm, ⟨5, _⟩ => ⟨S4096x5632, .f32⟩
  | .hbm, ⟨6, _⟩ => ⟨S1x4096x5632, .f32⟩
  | .hbm, ⟨7, _⟩ => ⟨S4096x5632, .f32⟩
  | .hbm, ⟨8, _⟩ => ⟨S4096x11264, .f32⟩
  | .hbm, ⟨9, _⟩ => ⟨S4096x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== TnHalf.lean ====
abbrev S4096x2048 : Shape := ⟨2, ![4096, 2048]⟩
abbrev S2x4096x5632 : Shape := ⟨3, ![2, 4096, 5632]⟩
abbrev S_ : Shape := ⟨0, ![]⟩
abbrev S2 : Shape := ⟨1, ![2]⟩
abbrev S1024x11264 : Shape := ⟨2, ![1024, 11264]⟩
abbrev S4096x1024 : Shape := ⟨2, ![4096, 1024]⟩
abbrev S1 : Shape := ⟨1, ![1]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .i32⟩
  | .hbm, ⟨3, _⟩ => ⟨S1024x11264, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .bf16⟩
  | .local _ .vmem, ⟨4, _⟩ => ⟨S1024x512, .bf16⟩
  | .local _ .smem, ⟨0, _⟩ => ⟨S2, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg0 v2
  let c0_i32 : BitVec 32 := 0#32
  ![arg2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnHalfRefIdeal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩
abbrev S2048x11264 : Shape := ⟨2, ![2048, 11264]⟩
abbrev S1024x11264 : Shape := ⟨2, ![1024, 11264]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2048, .f32⟩
  | .hbm, ⟨3, _⟩ => ⟨S2x4096x5632, .f32⟩
  | .hbm, ⟨4, _⟩ => ⟨S1x4096x5632, .f32⟩
  | .hbm, ⟨5, _⟩ => ⟨S4096x5632, .f32⟩
  | .hbm, ⟨6, _⟩ => ⟨S1x4096x5632, .f32⟩
  | .hbm, ⟨7, _⟩ => ⟨S4096x5632, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S1024x11264, .f32⟩
  | .hbm, ⟨12, _⟩ => ⟨S1024x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Adamw.lean ====
abbrev S2048x2816 : Shape := ⟨2, ![2048, 2816]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwRefIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PairAdd.lean ====
abbrev S2048x11264 : Shape := ⟨2, ![2048, 11264]⟩
abbrev S1024x11264 : Shape := ⟨2, ![1024, 11264]⟩
abbrev S_ : Shape := ⟨0, ![]⟩
abbrev S2 : Shape := ⟨1, ![2]⟩
abbrev S512x1408 : Shape := ⟨2, ![512, 1408]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S_, .i32⟩
  | .hbm, ⟨3, _⟩ => ⟨S1024x11264, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .smem, ⟨0, _⟩ => ⟨S2, .i32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi arg0 v1
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddRefIdeal.lean ====
abbrev S2048x11264 : Shape := ⟨2, ![2048, 11264]⟩
abbrev S1024x11264 : Shape := ⟨2, ![1024, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S2048x11264, .f32⟩
  | .hbm, ⟨3, _⟩ => ⟨S1024x11264, .f32⟩
  | .hbm, ⟨4, _⟩ => ⟨S1024x11264, .f32⟩
  | .hbm, ⟨5, _⟩ => ⟨S1024x11264, .f32⟩
  | .hbm, ⟨6, _⟩ => ⟨S1024x11264, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Packed.lean ====
abbrev S8x1x2048 : Shape := ⟨3, ![8, 1, 2048]⟩
abbrev S8x3x1024 : Shape := ⟨3, ![8, 3, 1024]⟩
abbrev S8x1x1024 : Shape := ⟨3, ![8, 1, 1024]⟩
abbrev S8x8x128x128 : Shape := ⟨4, ![8, 8, 128, 128]⟩
abbrev S8x8x128 : Shape := ⟨3, ![8, 8, 128]⟩
abbrev S8x2048 : Shape := ⟨2, ![8, 2048]⟩
abbrev S8x3072 : Shape := ⟨2, ![8, 3072]⟩
abbrev S8x1024 : Shape := ⟨2, ![8, 1024]⟩
abbrev S8x131072 : Shape := ⟨2, ![8, 131072]⟩
abbrev S8x147456 : Shape := ⟨2, ![8, 147456]⟩
abbrev S_ : Shape := ⟨0, ![]⟩
abbrev S8x1152x128 : Shape := ⟨3, ![8, 1152, 128]⟩
abbrev S8x16x128 : Shape := ⟨3, ![8, 16, 128]⟩
abbrev S1152x128 : Shape := ⟨2, ![1152, 128]⟩
abbrev S16x128 : Shape := ⟨2, ![16, 128]⟩
abbrev S1x1152x128 : Shape := ⟨3, ![1, 1152, 128]⟩
abbrev S1x16x128 : Shape := ⟨3, ![1, 16, 128]⟩
abbrev S2048 : Shape := ⟨1, ![2048]⟩
abbrev S1x2048 : Shape := ⟨2, ![1, 2048]⟩
abbrev S147456 : Shape := ⟨1, ![147456]⟩
abbrev S3072 : Shape := ⟨1, ![3072]⟩
abbrev S3x1024 : Shape := ⟨2, ![3, 1024]⟩
abbrev S1024 : Shape := ⟨1, ![1024]⟩
abbrev S1x1024 : Shape := ⟨2, ![1, 1024]⟩
abbrev S131072 : Shape := ⟨1, ![131072]⟩
abbrev S8x128x128 : Shape := ⟨3, ![8, 128, 128]⟩
abbrev S8x128 : Shape := ⟨2, ![8, 128]⟩

abbrev nBuf : Space → Nat
  | .hbm => 56
  | .vmem => 4
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x3x1024, .f32⟩
  | .hbm, ⟨3, _⟩ => ⟨S8x1x1024, .f32⟩
  | .hbm, ⟨4, _⟩ => ⟨S8x1x1024, .f32⟩
  | .hbm, ⟨5, _⟩ => ⟨S8x8x128x128, .f32⟩
  | .hbm, ⟨6, _⟩ => ⟨S8x8x128, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x2048, .f32⟩
  | .hbm, ⟨12, _⟩ => ⟨S8x3072, .f32⟩
  | .hbm, ⟨13, _⟩ => ⟨S8x1024, .f32⟩
  | .hbm, ⟨14, _⟩ => ⟨S8x1024, .f32⟩
  | .hbm, ⟨15, _⟩ => ⟨S8x131072, .f32⟩
  | .hbm, ⟨16, _⟩ => ⟨S8x1024, .f32⟩
  | .hbm, ⟨17, _⟩ => ⟨S8x2048, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S8x147456, .f32⟩
  | .hbm, ⟨22, _⟩ => ⟨S_, .i32⟩
  | .hbm, ⟨23, _⟩ => ⟨S_, .f32⟩
  | .hbm, ⟨24, _⟩ => ⟨S8x147456, .f32⟩
  | .hbm, ⟨25, _⟩ => ⟨S8x1152x128, .f32⟩
  | .hbm, ⟨26, _⟩ => ⟨S8x2048, .f32⟩
  | .hbm, ⟨27, _⟩ => ⟨S_, .i32⟩
  | .hbm, ⟨28, _⟩ => ⟨S_, .f32⟩
  | .hbm, ⟨29, _⟩ => ⟨S8x2048, .f32⟩
  | .hbm, ⟨30, _⟩ => ⟨S8x16x128, .f32⟩
  | .hbm, ⟨31, _⟩ => ⟨S1152x128, .f32⟩
  | .hbm, ⟨32, _⟩ => ⟨S16x128, .f32⟩
  | .hbm, ⟨33, _⟩ => ⟨S2048, .f32⟩
  | .hbm, ⟨34, _⟩ => ⟨S1x2048, .f32⟩
  | .hbm, ⟨35, _⟩ => ⟨S147456, .f32⟩
  | .hbm, ⟨36, _⟩ => ⟨S2048, .f32⟩
  | .hbm, ⟨37, _⟩ => ⟨S1x2048, .f32⟩
  | .hbm, ⟨38, _⟩ => ⟨S3072, .f32⟩
  | .hbm, ⟨39, _⟩ => ⟨S3x1024, .f32⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S131072, .f32⟩
  | .hbm, ⟨45, _⟩ => ⟨S8x128x128, .f32⟩
  | .hbm, ⟨46, _⟩ => ⟨S1024, .f32⟩
  | .hbm, ⟨47, _⟩ => ⟨S8x128, .f32⟩
  | .hbm, ⟨48, _⟩ => ⟨S2048, .f32⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S1x2048, .f32⟩
  | .hbm, ⟨54, _⟩ => ⟨S2048, .f32⟩
  | .hbm, ⟨55, _⟩ => ⟨S1x2048, .f32⟩
  | .local _ .vmem, ⟨0, _⟩ => ⟨S8x1152x128, .f32⟩
  | .local _ .vmem, ⟨1, _⟩ => ⟨S8x16x128, .f32⟩
  | .local _ .vmem, ⟨2, _⟩ => ⟨S1152x128, .f32⟩
  | .local _ .vmem, ⟨3, _⟩ => ⟨S16x128, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== PackedRefIdeal.lean ====
abbrev S8x1x2048 : Shape := ⟨3, ![8, 1, 2048]⟩
abbrev S8x3x1024 : Shape := ⟨3, ![8, 3, 1024]⟩
abbrev S8x1x1024 : Shape := ⟨3, ![8, 1, 1024]⟩
abbrev S8x8x128x128 : Shape := ⟨4, ![8, 8, 128, 128]⟩
abbrev S8x8x128 : Shape := ⟨3, ![8, 8, 128]⟩
abbrev S_ : Shape := ⟨0, ![]⟩
abbrev S1x2048 : Shape := ⟨2, ![1, 2048]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x3x1024, .f32⟩
  | .hbm, ⟨3, _⟩ => ⟨S8x1x1024, .f32⟩
  | .hbm, ⟨4, _⟩ => ⟨S8x1x1024, .f32⟩
  | .hbm, ⟨5, _⟩ => ⟨S8x8x128x128, .f32⟩
  | .hbm, ⟨6, _⟩ => ⟨S8x8x128, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S_, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S_, .f32⟩
  | .hbm, ⟨16, _⟩ => ⟨S3x1024, .f32⟩
  | .hbm, ⟨17, _⟩ => ⟨S_, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S_, .f32⟩
  | .hbm, ⟨22, _⟩ => ⟨S8x128x128, .f32⟩
  | .hbm, ⟨23, _⟩ => ⟨S_, .f32⟩
  | .hbm, ⟨24, _⟩ => ⟨S8x128, .f32⟩
  | .hbm, ⟨25, _⟩ => ⟨S_, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S_, .f32⟩
  | .hbm, ⟨32, _⟩ => ⟨S1x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_cst_3 : Ref sig .tc := ⟨.hbm, 19, rfl⟩
abbrev main_v4 : Ref sig .tc := ⟨.hbm, 20, rfl⟩
abbrev main_cst_4 : Ref sig .tc := ⟨.hbm, 21, rfl⟩
abbrev main_v5 : Ref sig .tc := ⟨.hbm, 22, rfl⟩
abbrev main_cst_5 : Ref sig .tc := ⟨.hbm, 23, rfl⟩
abbrev main_v6 : Ref sig .tc := ⟨.hbm, 24, rfl⟩
abbrev main_cst_6 : Ref sig .tc := ⟨.hbm, 25, rfl⟩
abbrev main_v7 : Ref sig .tc := ⟨.hbm, 26, rfl⟩
abbrev main_cst_7 : Ref sig .tc := ⟨.hbm, 27, rfl⟩
abbrev main_v8 : Ref sig .tc := ⟨.hbm, 28, rfl⟩
abbrev main_cst_8 : Ref sig .tc := ⟨.hbm, 29, rfl⟩
abbrev main_v9 : Ref sig .tc := ⟨.hbm, 30, rfl⟩
abbrev main_cst_9 : Ref sig .tc := ⟨.hbm, 31, rfl⟩
abbrev main_v10 : Ref sig .tc := ⟨.hbm, 32, rfl⟩

abbrev nD : Nat := 1
abbrev τ : Topo := Topo.v7x

variable {F : FTy → Type} [FloatOps F]
-- ==== AdamwSmall.lean ====
abbrev S1x2048 : Shape := ⟨2, ![1, 2048]⟩
abbrev S1x3x512 : Shape := ⟨3, ![1, 3, 512]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S1536 : Shape := ⟨1, ![1536]⟩
abbrev S1024 : Shape := ⟨1, ![1024]⟩
abbrev S131072 : Shape := ⟨1, ![131072]⟩
abbrev S147968 : Shape := ⟨1, ![147968]⟩
abbrev S_ : Shape := ⟨0, ![]⟩
abbrev S148480 : Shape := ⟨1, ![148480]⟩
abbrev S1160x128 : Shape := ⟨2, ![1160, 128]⟩
abbrev S232x128 : Shape := ⟨2, ![232, 128]⟩

abbrev nBuf : Space → Nat
  | .hbm => 181
  | .vmem => 16
  | .smem => 0
  | _ => 0

abbrev hbmTy0_0 (i : Nat) : BufTy := match i % 128 with
  | 0 => ⟨S1x2048, .f32⟩
  | 1 => ⟨S1x2048, .f32⟩
  | 2 => ⟨S1x3x512, .f32⟩
  | 3 => ⟨S1x1024, .f32⟩
  | 4 => ⟨S1x1024, .f32⟩
  | 5 => ⟨S1x8x128x128, .f32⟩
  | 6 => ⟨S1x8x128, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S1x2048, .f32⟩
  | 13 => ⟨S1x3x512, .f32⟩
  | 14 => ⟨S1x1024, .f32⟩
  | 15 => ⟨S1x1024, .f32⟩
  | 16 => ⟨S1x8x128x128, .f32⟩
  | 17 => ⟨S1x8x128, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S1x3x512, .f32⟩
  | 25 => ⟨S1x1024, .f32⟩
  | 26 => ⟨S1x1024, .f32⟩
  | 27 => ⟨S1x8x128x128, .f32⟩
  | 28 => ⟨S1x8x128, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S1x3x512, .f32⟩
  | 36 => ⟨S1x1024, .f32⟩
  | 37 => ⟨S1x1024, .f32⟩
  | 38 => ⟨S1x8x128x128, .f32⟩
  | 39 => ⟨S1x8x128, .f32⟩
  | 40 => ⟨S1x2048, .f32⟩
  | 41 => ⟨S1x2048, .f32⟩
  | 42 => ⟨S1x2048, .f32⟩
  | 43 => ⟨S1x2048, .f32⟩
  | 44 => ⟨S2048, .f32⟩
  | 45 => ⟨S2048, .f32⟩
  | 46 => ⟨S1536, .f32⟩
  | 47 => ⟨S1024, .f32⟩
  | 48 => ⟨S1024, .f32⟩
  | 49 => ⟨S131072, .f32⟩
  | 50 => ⟨S1024, .f32⟩
  | 51 => ⟨S2048, .f32⟩
  | 52 => ⟨S2048, .f32⟩
  | 53 => ⟨S2048, .f32⟩
  | 54 => ⟨S2048, .f32⟩
  | 55 => ⟨S147968, .f32⟩
  | 56 => ⟨S_, .i32⟩
  | 57 => ⟨S_, .f32⟩
  | 58 => ⟨S148480, .f32⟩
  | 59 => ⟨S1160x128, .f32⟩
  | 60 => ⟨S2048, .f32⟩
  | 61 => ⟨S2048, .f32⟩
  | 62 => ⟨S1536, .f32⟩
  | 63 => ⟨S1024, .f32⟩
  | 64 => ⟨S1024, .f32⟩
  | 65 => ⟨S131072, .f32⟩
  | 66 => ⟨S1024, .f32⟩
  | 67 => ⟨S2048, .f32⟩
  | 68 => ⟨S2048, .f32⟩
  | 69 => ⟨S2048, .f32⟩
  | 70 => ⟨S2048, .f32⟩
  | 71 => ⟨S147968, .f32⟩
  | 72 => ⟨S_, .i32⟩
  | 73 => ⟨S_, .f32⟩
  | 74 => ⟨S148480, .f32⟩
  | 75 => ⟨S1160x128, .f32⟩
  | 76 => ⟨S2048, .f32⟩
  | 77 => ⟨S2048, .f32⟩
  | 78 => ⟨S1536, .f32⟩
  | 79 => ⟨S1024, .f32⟩
  | 80 => ⟨S1024, .f32⟩
  | 81 => ⟨S131072, .f32⟩
  | 82 => ⟨S1024, .f32⟩
  | 83 => ⟨S2048, .f32⟩
  | 84 => ⟨S2048, .f32⟩
  | 85 => ⟨S2048, .f32⟩
  | 86 => ⟨S2048, .f32⟩
  | 87 => ⟨S147968, .f32⟩
  | 88 => ⟨S_, .i32⟩
  | 89 => ⟨S_, .f32⟩
  | 90 => ⟨S148480, .f32⟩
  | 91 => ⟨S1160x128, .f32⟩
  | 92 => ⟨S2048, .f32⟩
  | 93 => ⟨S2048, .f32⟩
  | 94 => ⟨S1536, .f32⟩
  | 95 => ⟨S1024, .f32⟩
  | 96 => ⟨S1024, .f32⟩
  | 97 => ⟨S131072, .f32⟩
  | 98 => ⟨S1024, .f32⟩
  | 99 => ⟨S2048, .f32⟩
  | 100 => ⟨S2048, .f32⟩
  | 101 => ⟨S2048, .f32⟩
  | 102 => ⟨S2048, .f32⟩
  | 103 => ⟨S147968, .f32⟩
  | 104 => ⟨S_, .i32⟩
  | 105 => ⟨S_, .f32⟩
  | 106 => ⟨S148480, .f32⟩
  | 107 => ⟨S1160x128, .f32⟩
  | 108 => ⟨S1160x128, .f32⟩
  | 109 => ⟨S1160x128, .f32⟩
  | 110 => ⟨S1160x128, .f32⟩
  | 111 => ⟨S1160x128, .f32⟩
  | 112 => ⟨S148480, .f32⟩
  | 113 => ⟨S2048, .f32⟩
  | 114 => ⟨S1x2048, .f32⟩
  | 115 => ⟨S2048, .f32⟩
  | 116 => ⟨S1x2048, .f32⟩
  | 117 => ⟨S1536, .f32⟩
  | 118 => ⟨S1x3x512, .f32⟩
  | 119 => ⟨S1024, .f32⟩
  | 120 => ⟨S1x1024, .f32⟩
  | 121 => ⟨S1024, .f32⟩
  | 122 => ⟨S1x1024, .f32⟩
  | 123 => ⟨S131072, .f32⟩
  | 124 => ⟨S1x8x128x128, .f32⟩
  | 125 => ⟨S1024, .f32⟩
  | 126 => ⟨S1x8x128, .f32⟩
  | 127 => ⟨S2048, .f32⟩
  | _ => ⟨S1x2048, .f32⟩

abbrev hbmTy0_1 (i : Nat) : BufTy := match i % 128 with
  | 0 => ⟨S1x2048, .f32⟩
  | 1 => ⟨S2048, .f32⟩
  | 2 => ⟨S1x2048, .f32⟩
  | 3 => ⟨S2048, .f32⟩
  | 4 => ⟨S1x2048, .f32⟩
  | 5 => ⟨S2048, .f32⟩
  | 6 => ⟨S1x2048, .f32⟩
  | 7 => ⟨S148480, .f32⟩
  | 8 => ⟨S2048, .f32⟩
  | 9 => ⟨S1x2048, .f32⟩
  | 10 => ⟨S2048, .f32⟩
  | 11 => ⟨S1x2048, .f32⟩
  | 12 => ⟨S1536, .f32⟩
  | 13 => ⟨S1x3x512, .f32⟩
  | 14 => ⟨S1024, .f32⟩
  | 15 => ⟨S1x1024, .f32⟩
  | 16 => ⟨S1024, .f32⟩
  | 17 => ⟨S1x1024, .f32⟩
  | 18 => ⟨S131072, .f32⟩
  | 19 => ⟨S1x8x128x128, .f32⟩
  | 20 => ⟨S1024, .f32⟩
  | 21 => ⟨S1x8x128, .f32⟩
  | 22 => ⟨S2048, .f32⟩
  | 23 => ⟨S1x2048, .f32⟩
  | 24 => ⟨S2048, .f32⟩
  | 25 => ⟨S1x2048, .f32⟩
  | 26 => ⟨S2048, .f32⟩
  | 27 => ⟨S1x2048, .f32⟩
  | 28 => ⟨S2048, .f32⟩
  | 29 => ⟨S1x2048, .f32⟩
  | 30 => ⟨S148480, .f32⟩
  | 31 => ⟨S2048, .f32⟩
  | 32 => ⟨S1x2048, .f32⟩
  | 33 => ⟨S2048, .f32⟩
  | 34 => ⟨S1x2048, .f32⟩
  | 35 => ⟨S1536, .f32⟩
  | 36 => ⟨S1x3x512, .f32⟩
  | 37 => ⟨S1024, .f32⟩
  | 38 => ⟨S1x1024, .f32⟩
  | 39 => ⟨S1024, .f32⟩
  | 40 => ⟨S1x1024, .f32⟩
  | 41 => ⟨S131072, .f32⟩
  | 42 => ⟨S1x8x128x128, .f32⟩
  | 43 => ⟨S1024, .f32⟩
  | 44 => ⟨S1x8x128, .f32⟩
  | 45 => ⟨S2048, .f32⟩
  | 46 => ⟨S1x2048, .f32⟩
  | 47 => ⟨S2048, .f32⟩
  | 48 => ⟨S1x2048, .f32⟩
  | 49 => ⟨S2048, .f32⟩
  | 50 => ⟨S1x2048, .f32⟩
  | 51 => ⟨S2048, .f32⟩
  | 52 => ⟨S1x2048, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | .local _ .vmem, ⟨0, _⟩ => ⟨S232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | .local _ .vmem, ⟨7, _⟩ => ⟨S232x128, .f32⟩
  | .local _ .vmem, ⟨8, _⟩ => ⟨S232x128, .f32⟩
  | .local _ .vmem, ⟨9, _⟩ => ⟨S232x128, .f32⟩
  | .local _ .vmem, ⟨10, _⟩ => ⟨S232x128, .f32⟩
  | .local _ .vmem, ⟨11, _⟩ => ⟨S232x128, .f32⟩
  | .local _ .vmem, ⟨12, _⟩ => ⟨S232x128, .f32⟩
  | .local _ .vmem, ⟨13, _⟩ => ⟨S232x128, .f32⟩
  | .local _ .vmem, ⟨14, _⟩ => ⟨S232x128, .f32⟩
  | .local _ .vmem, ⟨15, _⟩ => ⟨S232x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_c : Ref sig .tc := ⟨.hbm, 56, rfl⟩
abbrev main_call0_v0 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_c_0 : Ref sig .tc := ⟨.hbm, 72, rfl⟩
abbrev main_call1_v0 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_c_1 : Ref sig .tc := ⟨.hbm, 88, rfl⟩
abbrev main_call2_v0 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_c_2 : Ref sig .tc := ⟨.hbm, 104, rfl⟩
abbrev main_call3_v0 : Ref sig .tc := ⟨.hbm, 105, rfl⟩
abbrev main_v54 : Ref sig .tc := ⟨.hbm, 106, rfl⟩
abbrev main_v55 : Ref sig .tc := ⟨.hbm, 107, rfl⟩
abbrev main_v56_0 : Ref sig .tc := ⟨.hbm, 108, rfl⟩
abbrev main_v56_1 : Ref sig .tc := ⟨.hbm, 109, rfl⟩
abbrev main_v56_2 : Ref sig .tc := ⟨.hbm, 110, rfl⟩
abbrev main_v56_3 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S232x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S232x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S232x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S232x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S232x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S232x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S232x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S232x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwSmallRefIdeal.lean ====
abbrev S1x2048 : Shape := ⟨2, ![1, 2048]⟩
abbrev S1x3x512 : Shape := ⟨3, ![1, 3, 512]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1x2048, .f32⟩
  | 1 => ⟨S1x2048, .f32⟩
  | 2 => ⟨S1x3x512, .f32⟩
  | 3 => ⟨S1x1024, .f32⟩
  | 4 => ⟨S1x1024, .f32⟩
  | 5 => ⟨S1x8x128x128, .f32⟩
  | 6 => ⟨S1x8x128, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S1x2048, .f32⟩
  | 13 => ⟨S1x3x512, .f32⟩
  | 14 => ⟨S1x1024, .f32⟩
  | 15 => ⟨S1x1024, .f32⟩
  | 16 => ⟨S1x8x128x128, .f32⟩
  | 17 => ⟨S1x8x128, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S1x3x512, .f32⟩
  | 25 => ⟨S1x1024, .f32⟩
  | 26 => ⟨S1x1024, .f32⟩
  | 27 => ⟨S1x8x128x128, .f32⟩
  | 28 => ⟨S1x8x128, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S1x3x512, .f32⟩
  | 36 => ⟨S1x1024, .f32⟩
  | 37 => ⟨S1x1024, .f32⟩
  | 38 => ⟨S1x8x128x128, .f32⟩
  | 39 => ⟨S1x8x128, .f32⟩
  | 40 => ⟨S1x2048, .f32⟩
  | 41 => ⟨S1x2048, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S_, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S_, .f32⟩
  | 111 => ⟨S1x3x512, .f32⟩
  | 112 => ⟨S1x3x512, .f32⟩
  | 113 => ⟨S_, .f32⟩
  | 114 => ⟨S1x3x512, .f32⟩
  | 115 => ⟨S1x3x512, .f32⟩
  | 116 => ⟨S1x3x512, .f32⟩
  | 117 => ⟨S_, .f32⟩
  | 118 => ⟨S1x3x512, .f32⟩
  | 119 => ⟨S1x3x512, .f32⟩
  | 120 => ⟨S1x3x512, .f32⟩
  | 121 => ⟨S_, .f32⟩
  | 122 => ⟨S1x3x512, .f32⟩
  | 123 => ⟨S1x3x512, .f32⟩
  | 124 => ⟨S1x3x512, .f32⟩
  | 125 => ⟨S_, .f32⟩
  | 126 => ⟨S1x3x512, .f32⟩
  | 127 => ⟨S1x3x512, .f32⟩
  | _ => ⟨S1x2048, .f32⟩

abbrev hbmTy0_1 (i : Nat) : BufTy := match i % 128 with
  | 0 => ⟨S_, .f32⟩
  | 1 => ⟨S1x3x512, .f32⟩
  | 2 => ⟨S1x3x512, .f32⟩
  | 3 => ⟨S1x3x512, .f32⟩
  | 4 => ⟨S_, .f32⟩
  | 5 => ⟨S1x3x512, .f32⟩
  | 6 => ⟨S1x3x512, .f32⟩
  | 7 => ⟨S1x3x512, .f32⟩
  | 8 => ⟨S_, .f32⟩
  | 9 => ⟨S1x3x512, .f32⟩
  | 10 => ⟨S1x3x512, .f32⟩
  | 11 => ⟨S1x3x512, .f32⟩
  | 12 => ⟨S_, .f32⟩
  | 13 => ⟨S1x3x512, .f32⟩
  | 14 => ⟨S1x3x512, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1x8x128x128, .f32⟩
  | 83 => ⟨S1x8x128x128, .f32⟩
  | 84 => ⟨S_, .f32⟩
  | 85 => ⟨S1x8x128x128, .f32⟩
  | 86 => ⟨S1x8x128x128, .f32⟩
  | 87 => ⟨S1x8x128x128, .f32⟩
  | 88 => ⟨S_, .f32⟩
  | 89 => ⟨S1x8x128x128, .f32⟩
  | 90 => ⟨S1x8x128x128, .f32⟩
  | 91 => ⟨S1x8x128x128, .f32⟩
  | 92 => ⟨S_, .f32⟩
  | 93 => ⟨S1x8x128x128, .f32⟩
  | 94 => ⟨S1x8x128x128, .f32⟩
  | 95 => ⟨S1x8x128x128, .f32⟩
  | 96 => ⟨S_, .f32⟩
  | 97 => ⟨S1x8x128x128, .f32⟩
  | 98 => ⟨S1x8x128x128, .f32⟩
  | 99 => ⟨S_, .f32⟩
  | 100 => ⟨S1x8x128x128, .f32⟩
  | 101 => ⟨S1x8x128x128, .f32⟩
  | 102 => ⟨S1x8x128x128, .f32⟩
  | 103 => ⟨S_, .f32⟩
  | 104 => ⟨S1x8x128x128, .f32⟩
  | 105 => ⟨S1x8x128x128, .f32⟩
  | 106 => ⟨S1x8x128x128, .f32⟩
  | 107 => ⟨S_, .f32⟩
  | 108 => ⟨S1x8x128x128, .f32⟩
  | 109 => ⟨S1x8x128x128, .f32⟩
  | 110 => ⟨S1x8x128x128, .f32⟩
  | 111 => ⟨S_, .f32⟩
  | 112 => ⟨S1x8x128x128, .f32⟩
  | 113 => ⟨S1x8x128x128, .f32⟩
  | 114 => ⟨S_, .f32⟩
  | 115 => ⟨S1x8x128, .f32⟩
  | 116 => ⟨S1x8x128, .f32⟩
  | 117 => ⟨S_, .f32⟩
  | 118 => ⟨S1x8x128, .f32⟩
  | 119 => ⟨S1x8x128, .f32⟩
  | 120 => ⟨S1x8x128, .f32⟩
  | 121 => ⟨S_, .f32⟩
  | 122 => ⟨S1x8x128, .f32⟩
  | 123 => ⟨S1x8x128, .f32⟩
  | 124 => ⟨S1x8x128, .f32⟩
  | 125 => ⟨S_, .f32⟩
  | 126 => ⟨S1x8x128, .f32⟩
  | 127 => ⟨S1x8x128, .f32⟩
  | _ => ⟨S1x2048, .f32⟩

abbrev hbmTy0_2 (i : Nat) : BufTy := match i % 128 with
  | 0 => ⟨S1x8x128, .f32⟩
  | 1 => ⟨S_, .f32⟩
  | 2 => ⟨S1x8x128, .f32⟩
  | 3 => ⟨S1x8x128, .f32⟩
  | 4 => ⟨S_, .f32⟩
  | 5 => ⟨S1x8x128, .f32⟩
  | 6 => ⟨S1x8x128, .f32⟩
  | 7 => ⟨S1x8x128, .f32⟩
  | 8 => ⟨S_, .f32⟩
  | 9 => ⟨S1x8x128, .f32⟩
  | 10 => ⟨S1x8x128, .f32⟩
  | 11 => ⟨S1x8x128, .f32⟩
  | 12 => ⟨S_, .f32⟩
  | 13 => ⟨S1x8x128, .f32⟩
  | 14 => ⟨S1x8x128, .f32⟩
  | 15 => ⟨S1x8x128, .f32⟩
  | 16 => ⟨S_, .f32⟩
  | 17 => ⟨S1x8x128, .f32⟩
  | 18 => ⟨S1x8x128, .f32⟩
  | 19 => ⟨S_, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S1x2048, .f32⟩
  | 82 => ⟨S_, .f32⟩
  | 83 => ⟨S1x2048, .f32⟩
  | 84 => ⟨S1x2048, .f32⟩
  | 85 => ⟨S_, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x2048, .f32⟩

abbrev hbmTy0_3 (i : Nat) : BufTy := match i % 128 with
  | 0 => ⟨S1x2048, .f32⟩
  | 1 => ⟨S_, .f32⟩
  | 2 => ⟨S1x2048, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S1x2048, .f32⟩
  | 16 => ⟨S_, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | _ => ⟨S1x2048, .f32⟩

abbrev hbmTy (i : Nat) : BufTy := match i / 128 with
  | 0 => hbmTy0_0 i
  | 1 => hbmTy0_1 i
  | 2 => hbmTy0_2 i
  | 3 => hbmTy0_3 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Proof.Held.lean ====
/- A program of several kernel regions, run to what every unscoped buffer ends holding. -/
module

public import Idealize.ShloMosaic.Lib.Pipeline.RegionArraysS
public import Idealize.ShloMosaic.Lib.Pipeline.RegionsLoop
public import Idealize.ShloMosaic.Lib.Pipeline.Kit
public import Idealize.ShloMosaic.Lib.Pipeline.FrameBody
public import Idealize.ShloMosaic.Lib.Pipeline.Frame
public import Idealize.ShloMosaic.Lib.Pipeline.Value
public import Idealize.ShloMosaic.Lib.Tactic

@[expose] public section

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg cellOf)

variable {nD : Nat} {τ : Topo} {sig : RefSig} {Val : EltTy → Type} [∀ e, Nonempty (Val e)]
variable {Λ₀ : Labels} {P : Type} [Fintype P] [DecidableEq P]

local notation "𝕄" => MT nD τ sig Unit Val ℕ (UR sig nD τ) ℕ

/-- What a core holds between two regions: every unscoped buffer at `W c`, its generator register, and nothing owed. -/
def between (W : Dev nD → Valuation τ sig Val) (c : Dev nD) : sProp 𝕄 :=
  iprop(StableHlo.held (c : Thread nD τ) (Pipeline.ucRefs τ sig) (W c) ∗ (∃ r, prngReg c r)
    ∗ ∃ Wd, owes (c : Thread nD τ) (0 : CellTallies nD τ sig Unit) Wd)

variable (pcs : P → PCfg sig Λ₀ Val) (a : (p : P) → (pcs p).Adm)
  (pdats : (p : P) → (c : Dev nD) → Dat τ Val Unit ℕ (UR sig nD τ) ℕ (Pipeline.pin pcs a p) c)
  (phinj : Function.Injective (cellOf (nD := nD) (τ := τ) (Pipeline.pin pcs a)))
  (defs₀ : Defs nD τ sig Val Λ₀)

variable {pcs a pdats defs₀} in
omit [DecidableEq P] [∀ e, Nonempty (Val e)] in
/-- A chain of segments left at `T'` is left at anything `T'` gives. -/
theorem chains_weaken {T'' : Dev nD → sProp 𝕄} : ∀ {T : Dev nD → sProp 𝕄}
    {l : List (Pipeline.Seg pcs a pdats () defs₀ Variants.none (fun _ => ∅) (fun _ _ => 0))} {T' : Dev nD → sProp 𝕄},
    Pipeline.Seg.Chains T l T' → (∀ c, T' c ⊢ T'' c) → Pipeline.Seg.Chains T l T''
  | _, [], _, h, h' => fun c => (h c).trans (h' c)
  | _, _ :: _, _, ⟨h, hl⟩, h' => ⟨h, chains_weaken hl h'⟩

include phinj in
-- the implicit arguments of the launch theorem are found by unfolding plain definitions
set_option backward.isDefEq.respectTransparency.types false in
/-- A program that is the run of `segs`, entered from the launch contents and left with every unscoped buffer at `Wn c`:
    every execution ends with those contents and every counter at zero. -/
theorem run_segs (m : (ℓ : Loc nD τ sig) → Buf Val ℓ) (ρ : Dev nD → PrngReg)
    (main : Dev nD → Prog (TpuEff nD τ sig Val (Pipeline.Sig Λ₀ P fun p => (pcs p).Adm) .tc) PUnit)
    (segs : List (Pipeline.Seg pcs a pdats () defs₀ Variants.none (fun _ => ∅) (fun _ _ => 0)))
    (hmain : ∀ c, main c = Pipeline.Seg.run segs) (hnd : (Pipeline.Seg.pipes segs).Nodup)
    (Wn : Dev nD → Valuation τ sig Val)
    (hch : Pipeline.Seg.Chains (between fun c b => m ((c : Dev nD), b)) segs (between Wn))
    (hsem : ∀ sm : SemLoc sig, sm.isScoped .tc = true) :
    θ_run (Pipeline.defs pcs defs₀) (onTc main) ⟨m, fun _ => 0, ρ⟩
      (fun r => (∀ c : Dev nD, ∀ b ∈ Pipeline.ucRefs τ sig, r.2.mem (c, b) = Wn c b) ∧ r.2.sem = fun _ => 0) :=
  Pipeline.θ_run_regions_kit_sems pcs a pdats () phinj emb₁ defs₀ Variants.none (fun _ => ∅) (fun _ _ => 0) m ρ main segs
    (fun c Q => by rw [hmain c]) hnd
    (O₀ := 0) (hL := fun _ _ => rfl) (G := fun _ => iprop(emp))
    (u₀ := initOf (Pipeline.cells (Pipeline.pin pcs a) phinj) (Pipeline.launchToks (Pipeline.pin pcs a) phinj))
    (hu₀ := by
      iintro Hu; imodintro
      isplitl [Hu]
      · iapply (show (ownU (initOf (Pipeline.cells (Pipeline.pin pcs a) phinj) (Pipeline.launchToks (Pipeline.pin pcs a) phinj)) : sProp 𝕄)
            ⊢ BI.own (emb₁ (initOf (Pipeline.cells (Pipeline.pin pcs a) phinj) (Pipeline.launchToks (Pipeline.pin pcs a) phinj))) from .rfl)
        iexact Hu
      iapply (show (BI.emp : sProp 𝕄) ⊢ bigSep Finset.univ (fun _ : Dev nD => (BI.emp : sProp 𝕄)) from by rw [BI.bigSep_emp_const])
      iempintro)
    (T₀ := between fun c b => m ((c : Dev nD), b))
    (Tₙ := fun c => iprop(StableHlo.held (c : Thread nD τ) (Pipeline.ucRefs τ sig) (Wn c) ∗ ∃ r, prngReg c r))
    (hch := chains_weaken hch fun c => by
      unfold between
      iintro ⟨Hh, Hp, HO⟩
      isplitl [Hh Hp]
      · isplitl [Hh]; · iexact Hh
        iexact Hp
      iexact HO)
    (hinit := by
      refine Pipeline.initEach _ _ fun c => ?_
      rw [show unscopedBufs c (fun b => m ((c : Thread nD τ).loc b))
          = StableHlo.held (c : Thread nD τ) (Pipeline.ucRefs τ sig) (fun b => m ((c : Dev nD), b))
        from Pipeline.unscopedBufs_held c (fun b => m ((c : Dev nD), b))]
      unfold between
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h hz => ⟨h, funext fun g => hz g (.inr (hsem g.2))⟩)

-- as above
set_option backward.isDefEq.respectTransparency.types false in
/-- One kernel region between two such states: entered from the unscoped buffers at `W`, left with the region's arrays
    at what its proof data name and every other buffer as it was. `hin` and `hout`: the scoped buffers no window stages, with
    the generator register, give the invariant at the first point and are given back at the last. -/
def region (p : P) (kit : Pipeline.PLaunchFacts (nD := nD) (τ := τ) pcs p) (hK : (pcs p).pre.K = 0)
    (hbody : ∀ c, Pipeline.BodyObligationLoose (pdats p c) defs₀ Variants.none () Set.univ)
    (howed : ∀ c t, (pdats p c).owed t = 0) (hrec : ∀ c, (pdats p c).recorded 0 = Set.univ)
    (hshare : ∀ c w, (pdats p c).share w = fullShare)
    (hin : ∀ c, iprop(Pipeline.scopedRest (Pipeline.pin pcs a p).spec c ∗ ∃ r, prngReg c r) ⊢ (pdats p c).Φ 0)
    (hout : ∀ c, (pdats p c).Φ (Fin.last (Pipeline.pin pcs a p).N)
      ⊢ iprop(Pipeline.scopedRest (Pipeline.pin pcs a p).spec c ∗ ∃ r, prngReg c r))
    (W : Dev nD → Valuation τ sig Val)
    (hA : ∀ c w, (pdats p c).A w = W c (Proc.devRef .tc (Pipeline.arrRef (Pipeline.pin pcs a p).spec w))) :
    Pipeline.RegionSeg pcs a pdats () defs₀ Variants.none (fun _ => ∅) (fun _ _ => 0) p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ (fun _ => ∅) (fun _ _ => 0) p howed
  pre := between W
  post := between fun c => Pipeline.afterRegion (pdats p c) (W c)
  X c := iprop(∃ r, prngReg c r)
  Y c := iprop(∃ r, prngReg c r)
  Z c := Pipeline.unscopedRest (Ix := Unit) (Name := ℕ) (U := UR sig nD τ) (Lvl := ℕ) (Pipeline.pin pcs a p).spec c
    fun b => W c (Proc.devRef .tc b)
  hentry c := by
    rw [Pipeline.ownSems0_none]
    have hsplit := Pipeline.arrays_of_unscopedBufs (p := p) pcs a pdats kit.win kit.arr_whole c (hshare c)
      (fun b => W c (Proc.devRef .tc b)) (hA c)
    rw [Pipeline.unscopedBufs_held] at hsplit
    unfold between
    iintro ⟨⟨Hub, Hp, HO⟩, -, -⟩
    ihave H := hsplit $$ Hub
    icases H with ⟨Ha, Hrest⟩
    imodintro
    isplitl [Ha]; · iexact Ha
    isplitr
    · unfold Pipeline.prefHeld
      haveI : IsEmpty (Fin (pcs p).pre.K) := by rw [hK]; exact inferInstanceAs (IsEmpty (Fin 0))
      rw [show (Finset.univ : Finset (Fin (pcs p).pre.K)) = ∅ from Finset.univ_eq_empty, BI.bigSep_empty]; iempintro
    isplitl [HO]
    · unfold Pipeline.Dat.owesAt Pipeline.owesWithin
      rw [howed c 0]
      icases HO with ⟨%Wd, HO⟩; iexists Wd; isplitr; · ipureintro; exact fun _ _ => Or.inl (by rw [hrec c]; trivial)
      iexact HO
    isplitl [Hp]; · iexact Hp
    iexact Hrest
  hin c := by
    refine BIBase.Entails.trans ?_ (hin c)
    iintro ⟨Hp, -, Hr⟩
    isplitl [Hr]; · iexact Hr
    iexact Hp
  hout c := by
    rw [Pipeline.ownSems0_none]
    refine BIBase.Entails.trans (hout c) ?_
    iintro ⟨Hr, Hp⟩
    isplitl [Hp]; · iexact Hp
    isplitr; · iempintro
    iexact Hr
  hexit c := by
    have hjoin := Pipeline.unscopedBufs_of_arrays (p := p) pcs a (Ix := Unit) (Name := ℕ) (U := UR sig nD τ) (Lvl := ℕ)
      kit.win kit.arr_whole c pdats (hshare c)
      (fun b => W c (Proc.devRef .tc b)) (fun b => Pipeline.afterRegion (pdats p c) (W c) (Proc.devRef .tc b))
      ((pdats p c).arrAt · (Pipeline.pin pcs a p).N)
      (fun w => (Pipeline.afterRegion_arr (pdats p c) (W c) kit.win.arr_inj w).symm)
      (fun b hb => Pipeline.afterRegion_of_not_arr (pdats p c) (W c) fun w e =>
        hb (Finset.mem_image.mpr ⟨w, Finset.mem_univ _, e.symm⟩))
    rw [Pipeline.unscopedBufs_held] at hjoin
    unfold between
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%Wd, -, HO⟩; iexists Wd; iexact HO

/-- An unscoped buffer is among those the run reads. -/
theorem mem_uc (r : Ref sig .tc) (h : ¬(Proc.devRef .tc r : DevRef τ sig).isScoped) : Proc.devRef .tc r ∈ Pipeline.ucRefs τ sig :=
  Finset.mem_filter.mpr ⟨StableHlo.devRef_mem_tcRefs r, h⟩

/-! ## Whole blocks -/

/-- A block whose last store fills it holds what that store wrote. -/
theorem read_stored {κ : Kind} {sp : Space} {S : Shape} {e : EltTy} (v : View sig κ sp S e) (f : v.ty.Contents Val)
    {off : Fin S.rank → Nat} (h : off = fun _ => 0) (inb : ∀ a, off a + S.size a ≤ S.size a) {w w' : S.Idx → Val e} (hw : w = w')
    (L : List (View.Piece Val S e)) : v.read Val (v.writes Val f (⟨Rect.unit off S.size inb, w⟩ :: L)) = w' := by
  rw [View.read_writes_eq_canon _ _ _ fun y => ⟨_, List.mem_cons_self, View.mem_set_unit_zero h inb y⟩,
    View.canon_cons_unit_zero h, hw]

omit [∀ e, Nonempty (Val e)] in
/-- A load of a whole block reads the block. -/
theorem load_all {κ : Kind} {sp : Space} {S : Shape} {e : EltTy} (v : View sig κ sp S e) (f : v.ty.Contents Val)
    {off : Fin S.rank → Nat} (h : off = fun _ => 0) (inb : ∀ a, off a + S.size a ≤ S.size a) :
    v.readAt Val (Rect.unit off S.size inb).toLoadRect f = v.read Val f :=
  View.ld_unit_zero h inb (v.read Val f)

omit [∀ e, Nonempty (Val e)] in
/-- A block held at contents that read as `x` is held at `x`. -/
theorem holds (c : Thread nD τ) {sp : Space} {S : Shape} {e : EltTy} (a : Memref sig c.2.kind sp S e) (f : a.view.ty.Contents Val)
    {x : S.Idx → Val e} (h : a.view.read Val f = x) :
    (a.view.loc c ↦[a.view.set]{fullShare} f : sProp 𝕄) ⊢ iprop(∃ f', ⌜a.view.read Val f' = x⌝ ∗ a.view.loc c ↦[a.view.set]{fullShare} f') := by
  iintro H
  iexists f
  isplitr; · ipureintro; exact h
  iexact H

/-- An input window's block, left in place by every body, is before each body its array's block there. -/
theorem before_in {Λ : Labels} {cfg : Cfg sig Λ} {c : Dev nD} (dat : Dat τ Val Unit ℕ (UR sig nD τ) ℕ cfg c) (w : Fin cfg.W)
    (hw : (cfg.win w).isOut = false) (hlive : ∀ i, cfg.idle w i = false) (hclip : ∀ i a, (cfg.win w).clip i a = none)
    (hkeep : ∀ t, (cfg.win w).cut (cfg.grid.coords t) (dat.after w t) = dat.blockOf w t) (t : Fin cfg.N) (d) :
    dat.before w t d = dat.after w t := by
  rw [dat.before_in_eq_fetched w hw hlive (fun t t' _ => funext fun a => (hclip _ a).trans (hclip _ a).symm) hkeep t d]
  unfold Dat.fetched
  rw [← hkeep]
  exact (Pipeline.fill_of_clip_none _ _ (hclip _) d (dat.after w t) _).trans (Pipeline.Window.fill_cut _ _ _)

end Cert.Held

end
-- ==== Proof.GainValue.lean ====
/- The gradient of the memory norm's gain: what the idealized program ends holding, and that the reference ends holding
   the same. -/
module

public import proofs.«01_k».proof.Proof.Held
public import proofs.«01_k».proof.Proof.Gen.GainIdeal.Frame
public import proofs.«01_k».proof.Proof.Gen.GainRefIdeal.Run
public import proofs.«01_k».proof.Proof.Gen.GainRefIdeal.Read
public import proofs.«01_k».proof.Defs
public import Idealize.ShloMosaic.Lib.Pipeline.ValueKit.Point

@[expose] public section

set_option maxRecDepth 16384

noncomputable section

namespace Cert.GainValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GainIdeal Cert.GainIdeal.Gen Cert.GainRefIdeal.Read

/-! ## The run -/

section Run
variable {F : FTy → Type} [FloatOps F]
variable (m : (ℓ : Loc nD τ sig) → Buf (Elt F) ℓ) (ρ : Dev nD → PrngReg)

/-- Every execution ends with every unscoped buffer at what the second kernel leaves. -/
theorem run : θ_run defs (onTc (τ := τ) (main (F := F))) ⟨m, fun _ => 0, ρ⟩
    (fun r => (∀ c : Dev nD, ∀ b ∈ Pipeline.ucRefs τ sig, r.2.mem (c, b) = W2 m ρ c b) ∧ r.2.sem = fun _ => 0) :=
  Cert.Held.run_segs (pcfgs (F := F)) adm (pdats m ρ) cellOf_inj defs₀ m ρ main (segs m ρ) (main_run m ρ)
    (by simp only [segs, Pipeline.Seg.pipes_region, Pipeline.Seg.pipes_nil]; decide) (W2 m ρ)
    ⟨fun _ => .rfl, fun _ => .rfl, fun c => by
      unfold Cert.Held.between
      show iprop((StableHlo.held (c : Thread nD τ) (Pipeline.ucRefs τ sig) (W2 m ρ c) ∗ ∃ r, prngReg c r)
        ∗ ∃ Wd, owes (c : Thread nD τ) (0 : CellTallies nD τ sig Unit) Wd) ⊢ _
      iintro ⟨⟨Hh, Hp⟩, HO⟩
      isplitl [Hh]; · iexact Hh
      isplitl [Hp]; · iexact Hp
      iexact HO⟩
    no_unscoped

/-! ## The arrays the two kernels leave -/

variable (V : (c : Dev nD) → (b : Ref sig .tc) → Buf (Elt F) ((c : Thread nD τ).loc b))

theorem at0 : ∀ t : Fin grid0.N, win0_0.index t = ![0, 0] ∧ win0_3.index t = ![0, 0] := by decide +kernel
theorem at1 : ∀ t : Fin grid1.N, win1_0.index t = ![0, 0] ∧ win1_1.index t = ![0, 0] ∧ win1_2.index t = ![0, 0]
    ∧ win1_3.index t = ![0, 0] ∧ win1_4.index t = ![0, 0] := by decide +kernel

/-- Each window of the second kernel is its whole array. -/
theorem whole1 (c : Dev nD) (t : Fin cfg1.N) : iblk1 V c 0 t = V c main_arg2 ∧ iblk1 V c 1 t = V c main_arg3
    ∧ iblk1 V c 2 t = V c main_arg0 ∧ iblk1 V c 3 t = V c main_v0_1 := by
  refine ⟨?_, ?_, ?_, ?_⟩ <;> funext y <;> blk_ext! [iblk1, at1 t]

/-- The first kernel leaves the row factors `1 / sqrt (mean x² + ε)` in its second result. -/
theorem rows (c : Dev nD) : W1 m ρ c (Proc.devRef .tc main_v0_1) = k0_pay1 (m ((c : Thread nD τ).loc main_arg0)) := by
  refine (W1_arr m ρ c 3).trans ?_
  refine (dat0 (V0 m ρ) c).arrAt_eq_of_covers 3 _ (by decide +kernel) fun t hf y => ?_
  blk_simp
  rw [after0_3]; frame_out
  rw [show iblk0 (V0 m ρ) c 0 t = m ((c : Thread nD τ).loc main_arg0) by funext y; blk_ext! [iblk0, V0, W0, at0 t]]
  exact congrArg _ (by blk_ext [at0 t])

/-- The second kernel leaves, in its one result, the sum over the rows. -/
theorem gain (c : Dev nD) : W2 m ρ c (Proc.devRef .tc main_v1)
    = k1_pay1 (m ((c : Thread nD τ).loc main_arg2)) (m ((c : Thread nD τ).loc main_arg3)) (m ((c : Thread nD τ).loc main_arg0))
        (k0_pay1 (m ((c : Thread nD τ).loc main_arg0))) := by
  rw [← rows m ρ c]
  refine (W2_arr m ρ c 4).trans ?_
  refine (dat1 (V1 m ρ) c).arrAt_eq_of_covers 4 _ (by decide +kernel) fun t hf y => ?_
  blk_simp
  rw [after1_4]; unfold outsAt1; frame_out
  obtain ⟨h0, h1, h2, h3⟩ := whole1 (V1 m ρ) c t
  rw [h0, h1, h2, h3]
  rw [show V1 m ρ c main_arg2 = m ((c : Thread nD τ).loc main_arg2) from W1_args m ρ c _ (by decide),
    show V1 m ρ c main_arg3 = m ((c : Thread nD τ).loc main_arg3) from W1_args m ρ c _ (by decide),
    show V1 m ρ c main_arg0 = m ((c : Thread nD τ).loc main_arg0) from W1_args m ρ c _ (by decide)]
  exact congrArg _ (by blk_ext [at1 t])

end Run

/-! ## The two programs' one value -/

/-- At the ideal numbers the kernels' sum over the rows is the reference's, element by element. -/
theorem value (x0 x2 x3 : Vec Ideal S256x2048 .f32) :
    k1_pay1 x2 x3 x0 (k0_pay1 x0) = Cert.GainRefIdeal.Read.val_main_v19 (F := Ideal) x0 x2 x3 := by
  funext i
  pointwise [k1_pay1, k0_pay1, val_main_v19, val_main_v18, val_main_v17, val_main_v16, val_main_v15, val_main_v14,
    val_main_v10, val_main_v9, val_main_v8, val_main_v7, val_main_v6, val_main_v5, val_main_v4, val_main_v3, val_main_v2,
    val_main_v1, val_main_cst, val_main_cst_0, val_main_cst_1, val_main_cst_2, val_main_cst_3]
  refine Eq.trans ?_ (Fintype.sum_unique (ι := Fin 1) (M := EReal) _).symm
  exact Finset.sum_congr rfl fun x _ => mul_comm _ _

theorem algebraic : Cert.algebraic_GainIdeal_GainRefIdeal := by
  intro m ρ m' ρ' _ hagree
  refine ⟨fun c => k1_pay1 (m ((c : Thread nD τ).loc main_arg2)) (m ((c : Thread nD τ).loc main_arg3))
      (m ((c : Thread nD τ).loc main_arg0)) (k0_pay1 (m ((c : Thread nD τ).loc main_arg0))), ?_, ?_⟩
  · refine (θ_run defs _ _).mono (fun r h c => ?_) (run (F := Ideal) m ρ)
    have hb := fun b hb => h.1 c _ (mem_uc b hb)
    exact ⟨(hb main_v1 (by decide)).trans (gain m ρ c), (hb main_arg0 (by decide)).trans (W2_main_arg0 m ρ c),
      (hb main_arg1 (by decide)).trans (W2_main_arg1 m ρ c), (hb main_arg2 (by decide)).trans (W2_main_arg2 m ρ c),
      (hb main_arg3 (by decide)).trans (W2_main_arg3 m ρ c)⟩
  · refine (θ_run Cert.GainRefIdeal.defs _ _).mono (fun r h c => ⟨?_, (h c).2⟩) (Cert.GainRefIdeal.Value.run (F := Ideal) m' ρ')
    rw [(h c).1, val_main_v19_eq, (hagree c).1, (hagree c).2.2.1, (hagree c).2.2.2]
    exact (value _ _ _).symm

end Cert.GainValue

end
-- ==== Proof.Reals.lean ====
/- Finite extended reals: arrays of finite numbers as arrays of reals, the constants as reals, and the gradient of a
   root-mean-square norm over the reals. -/
module

public import Idealize.ShloMosaic.Lib.StableHlo
public import Idealize.ShloMosaic.PureOps
public import Idealize.ShloMosaic.PureOps.Ideal
public import Idealize.ShloMosaic.PureOps.Ideal.Laws
public import Idealize.ShloMosaic.Lib.IdealHost

@[expose] public section

noncomputable section

namespace Cert.Reals

open Idealize.ShloMosaic

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A quotient of reals whose divisor is not zero. -/
theorem div_real (a : ℝ) {b : ℝ} (hb : b ≠ 0) : Ideal.div (a : EReal) (b : EReal) = ((a / b : ℝ) : EReal) := by
  rw [Ideal.div_coe hb, ← EReal.coe_mul, mul_one_div]

/-- An extended real whose size is below infinity is a real. -/
theorem real_of_abs_lt {x : EReal} (h : max x (-x) < ⊤) : ∃ r : ℝ, x = (r : EReal) := by
  induction x using EReal.rec with
  | bot => simp at h
  | coe r => exact ⟨r, rfl⟩
  | top => simp at h

/-- An array each of whose entries tests finite is an array of reals. -/
theorem reals_of_lt {S : Shape} {φ : FTy} (x : FVec Ideal S φ) {S₀ : Shape} {d : Fin S₀.rank → Fin S.rank} (hb : S₀.BroadcastsInDim S d)
    (b : BitVec φ.bits) (hinf : Ideal.ofBits φ b = ⊤)
    (h : cmpf .olt (Host.absf x) (broadcastInDim S d hb (constant (F := Ideal) S₀ φ b)) = fun _ => 1#1) :
    ∃ f : S.Idx → ℝ, x = fun i => ((f i : ℝ) : EReal) := by
  have : ∀ i, ∃ r : ℝ, x i = (r : EReal) := fun i => by
    refine real_of_abs_lt ?_
    have hi : Ideal.cmp .olt (max (x i) (-(x i))) (Ideal.ofBits φ b) = 1#1 := congrFun h i
    rw [hinf] at hi
    by_contra hn
    simp [Ideal.cmp, hn] at hi
  exact ⟨fun i => (this i).choose, funext fun i => (this i).choose_spec⟩

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

theorem half_f32 : Ideal.ofBits .f32 0x3F000000#32 = ((1 / 2 : ℝ) : EReal) := by
  simp [Ideal.ofBits, Ideal.ieee, -EReal.coe_mul]; norm_num
theorem neg_half_f32 : Ideal.ofBits .f32 0xBF000000#32 = ((-1 / 2 : ℝ) : EReal) := by
  simp [Ideal.ofBits, Ideal.ieee, -EReal.coe_mul]; norm_num
theorem one_f32 : Ideal.ofBits .f32 0x3F800000#32 = ((1 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem width_f32 : Ideal.ofBits .f32 0x45000000#32 = ((2048 : ℝ) : EReal) := by
  simp [Ideal.ofBits, Ideal.ieee, -EReal.coe_mul]; norm_num
theorem inv_width_f32 : Ideal.ofBits .f32 0x3A000000#32 = ((1 / 2048 : ℝ) : EReal) := by
  simp [Ideal.ofBits, Ideal.ieee, -EReal.coe_mul]; norm_num
theorem half_inv_width_f32 : Ideal.ofBits .f32 0x39800000#32 = ((1 / 4096 : ℝ) : EReal) := by
  simp [Ideal.ofBits, Ideal.ieee, -EReal.coe_mul]; norm_num

theorem bot_f32 : Ideal.ofBits .f32 0xFF800000#32 = ⊥ := by simp [Ideal.ofBits, Ideal.ieee]

/-- The scale of the scores, some real. -/
theorem scale_f32 : ∃ s : ℝ, Ideal.ofBits .f32 0x3D3504F3#32 = (s : EReal) := by
  simp only [Ideal.ofBits, Ideal.ieee]
  rw [if_neg (by decide), if_neg (by decide)]
  exact ⟨_, rfl⟩

/-- The `ε` of the norms, some positive real. -/
theorem eps_f32 : ∃ e : ℝ, 0 < e ∧ Ideal.ofBits .f32 0x358637BD#32 = (e : EReal) := by
  simp only [Ideal.ofBits, Ideal.ieee]
  rw [if_neg (by decide), if_neg (by decide)]
  refine ⟨_, ?_, rfl⟩
  rw [if_neg (by decide)]; positivity

/-- The mean square of a row and its reciprocal root are reals. -/
theorem root {ι : Type*} [Fintype ι] (x : ι → ℝ) {n : ℝ} (hn : 0 < n) :
    ∃ w r : ℝ, 0 < w ∧ r * r * w = 1
      ∧ Ideal.div (∑ j, (x j : EReal) * (x j : EReal)) (n : EReal) + Ideal.ofBits .f32 0x358637BD#32 = (w : EReal)
      ∧ Ideal.rsqrt (w : EReal) = (r : EReal) := by
  obtain ⟨e, he, he'⟩ := eps_f32
  have hw : 0 < (∑ j, x j * x j) / n + e :=
    add_pos_of_nonneg_of_pos (div_nonneg (Finset.sum_nonneg fun j _ => mul_self_nonneg (x j)) hn.le) he
  refine ⟨(∑ j, x j * x j) / n + e, (Real.sqrt ((∑ j, x j * x j) / n + e))⁻¹, hw, ?_, ?_, ?_⟩
  · generalize (∑ j, x j * x j) / n + e = w at hw
    have := Real.mul_self_sqrt hw.le
    have h0 : Real.sqrt w ≠ 0 := (Real.sqrt_pos.mpr hw).ne'
    field_simp
    rw [sq, this]
  · simp only [← EReal.coe_mul, ← coe_sum, he', div_real _ hn.ne', ← EReal.coe_add]
  · rw [Ideal.rsqrt_coe, if_neg (not_lt.mpr hw.le), if_neg hw.ne']

/-- The gradient of `x · (mean x² + ε)^(-1/2)` in its two forms: with the row's projection taken off, and as the
    derivative's own sum. -/
theorem norm_grad {ι : Type*} [Fintype ι] (x y : ι → ℝ) (i : ι) {n w r : ℝ} (hn : n ≠ 0) (hw : w ≠ 0) (hr : r * r * w = 1) :
    r * (y i - x i * r * ((∑ j, y j * (x j * r)) / n))
      = y i * r + x i * ((∑ j, x j * y j) * (-1 / 2 * (r / w)) / n) + (∑ j, x j * y j) * (-1 / 2 * (r / w)) / n * x i := by
  have hs : ∑ j, y j * (x j * r) = (∑ j, x j * y j) * r := by
    rw [Finset.sum_mul]; exact Finset.sum_congr rfl fun j _ => by ring
  have hq : r / w = r * r * r := by field_simp; linear_combination (-r) * hr
  rw [hs, hq]; ring

/-- The greatest of finitely many reals, begun from below every real, is a real. -/
theorem top_real {ι : Type*} [Fintype ι] [Nonempty ι] (f : ι → ℝ) :
    ∃ μ : ℝ, Finset.fold max (Ideal.ofBits .f32 0xFF800000#32) (fun i => (f i : EReal)) Finset.univ = (μ : EReal) := by
  obtain ⟨i, -, hi⟩ := Finset.exists_mem_eq_sup (Finset.univ : Finset ι) Finset.univ_nonempty fun i => (f i : EReal)
  refine ⟨f i, Eq.trans ?_ hi⟩
  rw [bot_f32]; rfl

/-- The gradient of a row's scores in its two forms: by the weights, and by the quotient's two operands. -/
theorem softmax_grad {ι : Type*} [Fintype ι] (e d : ι → ℝ) (i : ι) {n : ℝ} (hn : n ≠ 0) (s : ℝ) :
    e i / n * (d i - ∑ j, d j * (e j / n)) * s = (d i / n + -∑ j, d j * (1 / (n * n)) * e j) * e i * s := by
  have h1 : ∑ j, d j * (e j / n) = (∑ j, d j * e j) / n := by
    rw [Finset.sum_div]; exact Finset.sum_congr rfl fun j _ => by ring
  have h2 : ∑ j, d j * (1 / (n * n)) * e j = (∑ j, d j * e j) / (n * n) := by
    rw [Finset.sum_div]; exact Finset.sum_congr rfl fun j _ => by ring
  rw [h1, h2]; field_simp; ring

end Cert.Reals

end
-- ==== Proof.LossValue.lean ====
/- The loss and its gradients: what the idealized kernel ends holding, and that the reference ends holding the same. -/
module

public import proofs.«01_k».proof.Proof.Reals
public import proofs.«01_k».proof.Proof.Gen.LossIdeal.Value
public import proofs.«01_k».proof.Proof.Gen.LossRefIdeal.Run
public import proofs.«01_k».proof.Proof.Gen.LossRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.LossValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LossIdeal Cert.LossIdeal.Gen Cert.LossRefIdeal.Read

/-! ## One point's numbers -/

/-- The row of the array that is row `j` of point `t`'s block. -/
abbrev row (t : Fin cfg0.N) (j : Fin 512) : Fin 4096 :=
  ⟨t.val * 512 + j.val, by have := lt_of_lt_of_eq t.isLt N_0; have := j.isLt; omega⟩

/-- Point `t`'s 512 rows of an array. -/
def rows (t : Fin cfg0.N) (X : Vec Ideal S4096x2048 .f32) : Vec Ideal S512x2048 .f32 := fun y => X (ix2 (row t (y 0)) (y 1))

/-- The gain as a row. -/
abbrev asRow (X : Vec Ideal S2048 .f32) : Vec Ideal S1x2048 .f32 := fun y => X (ix1 (y 1))

section Real
variable (t : Fin cfg0.N) (f0 : S4096x2048.Idx → ℝ) (f1 : S2048.Idx → ℝ) (f2 : S4096x2048.Idx → ℝ)

/-- The activations' gradient: the block the point writes is the reference's rows. -/
theorem dh : k0_pay11 (F := Ideal) (rows t fun i => (f0 i : EReal)) (asRow fun i => (f1 i : EReal)) (rows t fun i => (f2 i : EReal))
      = rows t (val_main_v50 (F := Ideal) (fun i => (f0 i : EReal)) (fun i => (f1 i : EReal)) (fun i => (f2 i : EReal))) := by
  funext i
  pointwise [k0_pay11, k0_pay10, k0_pay9, k0_pay8, k0_pay7, k0_pay6, rows, row, asRow, val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_v17, val_main_cst_3, val_main_v18,
    val_main_v19, val_main_cst_4, val_main_cst_5, val_main_cst_6, val_main_cst_7, val_main_cst_8, val_main_cst_9,
    val_main_v25, val_main_v26, val_main_cst_10, val_main_v27, val_main_v28, val_main_v29, val_main_v30,
    val_main_cst_11, val_main_v34, val_main_v35, val_main_cst_12, val_main_v37, val_main_cst_13, val_main_v38,
    val_main_v39, val_main_v40, val_main_v41, val_main_v42, val_main_cst_14, val_main_v43, val_main_v44,
    val_main_cst_15, val_main_v45, val_main_v46, val_main_v47, val_main_v48, val_main_v49, val_main_v50, val_main_v31,
    val_main_v32, val_main_v33, val_main_v36]
  obtain ⟨w, r, hw, hr, hdw, hdr⟩ := Cert.Reals.root (n := 2048) (fun j => f0 (ix2 (row t (i 0)) j)) (by norm_num)
  simp only [Cert.Reals.width_f32, Cert.Reals.half_f32, Cert.Reals.neg_half_f32, Cert.Reals.two_f32,
    Cert.Reals.inv_width_f32] at hdw hdr ⊢
  simp only [hdw, hdr]
  simp only [Cert.Reals.div_real _ (by norm_num : (2048 : ℝ) ≠ 0), Cert.Reals.div_real _ hw.ne', ← EReal.coe_mul,
    ← EReal.coe_sub, ← EReal.coe_add, ← Cert.Reals.coe_sum, Finset.sum_const]
  refine Eq.trans ?_ (congrArg₂ (fun a b : EReal => _ + _ * a + b * _) (one_smul ℕ _).symm (one_smul ℕ _).symm)
  simp only [← EReal.coe_mul, ← EReal.coe_add]
  have e (a b : ℝ) : (1 / 2 / 2048 : ℝ) * (2 * a) * b = a * (1 / 2048) * b := by ring
  simp only [e]
  exact congrArg _ (Cert.Reals.norm_grad (fun j => f0 (ix2 (row t (i 0)) j))
    (fun j => (f0 (ix2 (row t (i 0)) j) * r * f1 (ix1 j) - f2 (ix2 (row t (i 0)) j)) * (1 / 2048) * f1 (ix1 j)) (i 1)
    (n := 2048) (by norm_num) hw.ne' hr)

/-- The gain's gradient: the point's part of the sum over the rows. -/
theorem dg (i : S1x2048.Idx) :
    k0_pay13 (F := Ideal) (rows t fun i => (f0 i : EReal)) (asRow fun i => (f1 i : EReal)) (rows t fun i => (f2 i : EReal)) i
      = ∑ j : Fin 512, val_main_v31 (F := Ideal) (fun i => (f0 i : EReal)) (fun i => (f1 i : EReal)) (fun i => (f2 i : EReal))
          (ix2 (row t j) (i 1)) := by
  pointwise [k0_pay13, k0_pay10, k0_pay9, k0_pay8, k0_pay7, k0_pay6, rows, row, asRow, val_main_v31, val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_cst, val_main_cst_0, val_main_cst_1,
    val_main_cst_2, val_main_cst_3, val_main_v18, val_main_v19, val_main_cst_4, val_main_cst_5, val_main_cst_6,
    val_main_cst_7, val_main_cst_8, val_main_cst_9, val_main_v25, val_main_v26, val_main_cst_10, val_main_v27,
    val_main_v28, val_main_v29, val_main_v30]
  refine Finset.sum_congr rfl fun j _ => ?_
  obtain ⟨w, r, hw, hr, hdw, hdr⟩ := Cert.Reals.root (n := 2048) (fun k => f0 (ix2 (row t j) k)) (by norm_num)
  simp only [Cert.Reals.width_f32, Cert.Reals.half_f32, Cert.Reals.two_f32, Cert.Reals.inv_width_f32] at hdw hdr ⊢
  simp only [hdw, hdr]
  simp only [Cert.Reals.div_real _ (by norm_num : (2048 : ℝ) ≠ 0), ← EReal.coe_mul, ← EReal.coe_sub]
  exact congrArg _ (by ring)

/-- The loss's squares are real numbers. -/
theorem square_real (f0 : S4096x2048.Idx → ℝ) (f1 : S2048.Idx → ℝ) (f2 : S4096x2048.Idx → ℝ) : ∃ e : S4096x2048.Idx → ℝ,
    val_main_v17 (F := Ideal) (fun i => (f0 i : EReal)) (fun i => (f1 i : EReal)) (fun i => (f2 i : EReal))
      = fun i => (e i : EReal) := by
  suffices h : ∀ i, ∃ e : ℝ, val_main_v17 (F := Ideal) (fun i => (f0 i : EReal)) (fun i => (f1 i : EReal))
      (fun i => (f2 i : EReal)) i = (e : EReal) from ⟨fun i => (h i).choose, funext fun i => (h i).choose_spec⟩
  intro i
  obtain ⟨a, b, rfl⟩ : ∃ (a : Fin 4096) (b : Fin 2048), i = ix2 a b :=
    ⟨i 0, i 1, funext fun k => by match k with | ⟨0, _⟩ => rfl | ⟨1, _⟩ => rfl⟩
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_v17]
  obtain ⟨w, r, hw, hr, hdw, hdr⟩ := Cert.Reals.root (n := 2048) (fun k => f0 (ix2 a k)) (by norm_num)
  simp only [Cert.Reals.width_f32] at hdw hdr ⊢
  simp only [hdw, hdr]
  simp only [← EReal.coe_mul, ← EReal.coe_sub]
  exact ⟨_, rfl⟩

end Real

/-- The loss's squares: the point's part of each column's sum. -/
theorem squares (t : Fin cfg0.N) (x0 : Vec Ideal S4096x2048 .f32) (x1 : Vec Ideal S2048 .f32) (x2 : Vec Ideal S4096x2048 .f32)
    (k : Fin 2048) : k0_pay14 (F := Ideal) (rows t x0) (asRow x1) (rows t x2) (ix1 k)
      = ∑ j : Fin 512, val_main_v17 (F := Ideal) x0 x1 x2 (ix2 (row t j) k) := by
  pointwise [k0_pay14, k0_pay9, k0_pay8, k0_pay7, k0_pay6, rows, row, asRow, val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_v17]

/-- The loss: the columns' sums added and scaled are half the sum of the rows' means. -/
theorem loss (f0 : S4096x2048.Idx → ℝ) (f1 : S2048.Idx → ℝ) (f2 : S4096x2048.Idx → ℝ) :
    k0_pay5 (F := Ideal) (fun k => ∑ j : Fin 4096, val_main_v17 (F := Ideal) (fun i => (f0 i : EReal)) (fun i => (f1 i : EReal))
        (fun i => (f2 i : EReal)) (ix2 j (k 1)))
      = val_main_v51 (F := Ideal) (fun i => (f0 i : EReal)) (fun i => (f1 i : EReal)) (fun i => (f2 i : EReal)) := by
  funext i
  obtain ⟨e, he⟩ := square_real f0 f1 f2
  pointwise [k0_pay5, val_main_v51, val_main_v24, val_main_v23, val_main_v22, val_main_v21, val_main_v20, val_main_cst_7,
    val_main_cst_6, val_main_cst_5, val_main_cst_4]
  simp only [he]
  rw [Cert.Reals.half_f32, Cert.Reals.width_f32, Cert.Reals.half_inv_width_f32]
  simp only [← Cert.Reals.coe_sum, Cert.Reals.div_real _ (by norm_num : (2048 : ℝ) ≠ 0), ← EReal.coe_mul]
  rw [Finset.sum_comm, ← Finset.sum_div]
  exact congrArg _ (by ring)

/-! ## What the points leave -/

section Points
variable (m : (ℓ : Loc nD τ sig) → Buf (Elt Ideal) ℓ) (c : Dev nD)

abbrev X0 : Vec Ideal S4096x2048 .f32 := m ((c : Thread nD τ).loc main_arg0)
abbrev X1 : Vec Ideal S2048 .f32 := m ((c : Thread nD τ).loc main_arg1)
abbrev X2 : Vec Ideal S4096x2048 .f32 := m ((c : Thread nD τ).loc main_arg2)

theorem at0 : ∀ t : Fin grid0.N, win0_0.index t = ![t.val, 0] ∧ win0_1.index t = ![0, 0] ∧ win0_2.index t = ![t.val, 0]
    ∧ win0_4.index t = ![t.val, 0] ∧ win0_5.index t = ![t.val, 0] := by decide +kernel

/-- The blocks the point `t` reads. -/
theorem blocks (t : Fin cfg0.N) : iblk m c 0 t = rows t (X0 m c) ∧ iblk m c 1 t = asRow (X1 m c)
    ∧ iblk m c 2 t = rows t (X2 m c) := by
  refine ⟨?_, ?_, ?_⟩ <;> funext y
  · blk_ext! [iblk, rows, row, at0 t]
  · have e : V m c main_v0 = broadcastInDim S1x2048 ![1] bcast_S2048_S1x2048_1 (X1 m c) := rfl
    have h : iblk m c 1 t y = V m c main_v0 y := by blk_ext! [iblk, at0 t]
    rw [h, e]
    pointwise [asRow]
  · blk_ext! [iblk, rows, row, at0 t]

/-- What the point `t` leaves in the blocks it writes whole. -/
theorem tiles (t : Fin cfg0.N) :
    (outsAt0 m c t.val t.isLt).2.1 = k0_pay11 (rows t (X0 m c)) (asRow (X1 m c)) (rows t (X2 m c))
      ∧ (outsAt0 m c t.val t.isLt).2.2.1 = k0_pay12 (rows t (X0 m c)) (asRow (X1 m c)) (rows t (X2 m c)) := by
  obtain ⟨b0, b1, b2⟩ := blocks m c t
  rw [← b0, ← b1, ← b2]
  by_cases h0 : t.val % 8 = 0
  · by_cases h1 : 1 ≤ t.val
    · exact absurd (lt_of_lt_of_eq t.isLt N_0) (by omega)
    · rw [outsAt0_A m c t h0 h1 (by omega)]; constructor <;> frame_out
  · by_cases h2 : t.val % 8 = 7
    · rw [outsAt0_C m c t h0 (by omega) h2]; constructor <;> frame_out
    · rw [outsAt0_B m c t h0 (by omega) h2]; constructor <;> frame_out

/-- The sums over the points: the gain's gradient in its output's block, the squares' in the scratch row. -/
theorem sums (t : Fin cfg0.N) (ht : t.val + 1 = cfg0.N) (i : S1x2048.Idx) :
    (outsAt0 m c t.val t.isLt).2.2.2.1 i
        = ∑ p : Fin cfg0.N, k0_pay13 (rows p (X0 m c)) (asRow (X1 m c)) (rows p (X2 m c)) i
      ∧ (outsAt0 m c t.val t.isLt).2.2.2.2 i
        = ∑ p : Fin cfg0.N, k0_pay14 (rows p (X0 m c)) (asRow (X1 m c)) (rows p (X2 m c)) (ix1 (i 1)) := by
  constructor
  · refine (Pipeline.eq_sum_fin_of_reset_step_apply_last (fun n h => (outsAt0 m c n h).2.2.2.1) 8 (fun _ => (0 : EReal))
      (fun p i => k0_pay13 (rows p (X0 m c)) (asRow (X1 m c)) (rows p (X2 m c)) i) (fun t h i => ?_) (fun t h i => ?_)
      (le_of_eq N_0) t ht i).trans (zero_add _)
    · obtain ⟨b0, b1, b2⟩ := blocks m c t
      rw [← b0, ← b1, ← b2, zero_add]
      rw [outsAt0_A m c t h (by have := lt_of_lt_of_eq t.isLt N_0; omega) (by omega)]; frame_out
    · obtain ⟨b0, b1, b2⟩ := blocks m c t
      rw [← b0, ← b1, ← b2]
      by_cases h2 : t.val % 8 = 7
      · rw [outsAt0_C m c t h (by omega) h2]; frame_out; pointwise [k0_pay3]
      · rw [outsAt0_B m c t h (by omega) h2]; frame_out; pointwise [k0_pay3]
  · refine (Pipeline.eq_sum_fin_of_reset_step_apply_last (fun n h => (outsAt0 m c n h).2.2.2.2) 8 (fun _ => (0 : EReal))
      (fun p i => k0_pay14 (rows p (X0 m c)) (asRow (X1 m c)) (rows p (X2 m c)) (ix1 (i 1))) (fun t h i => ?_)
      (fun t h i => ?_) (le_of_eq N_0) t ht i).trans (zero_add _)
    · obtain ⟨b0, b1, b2⟩ := blocks m c t
      rw [← b0, ← b1, ← b2, zero_add]
      rw [outsAt0_A m c t h (by have := lt_of_lt_of_eq t.isLt N_0; omega) (by omega)]; frame_out
      pointwise [k0_pay2, k0_pay1]
    · obtain ⟨b0, b1, b2⟩ := blocks m c t
      rw [← b0, ← b1, ← b2]
      by_cases h2 : t.val % 8 = 7
      · rw [outsAt0_C m c t h (by omega) h2]; frame_out; simp only [read_unread_whole]; pointwise [k0_pay4, k0_pay1]
      · rw [outsAt0_B m c t h (by omega) h2]; frame_out; simp only [read_unread_whole]; pointwise [k0_pay4, k0_pay1]

/-! ## The arrays after the run -/

variable (f0 : S4096x2048.Idx → ℝ) (f1 : S2048.Idx → ℝ) (f2 : S4096x2048.Idx → ℝ)
  (h0 : X0 m c = fun i => (f0 i : EReal)) (h1 : X1 m c = fun i => (f1 i : EReal)) (h2 : X2 m c = fun i => (f2 i : EReal))
include h0 h1 h2

theorem end_dh : (dats m 0 c).arrAt 4 cfg0.N = val_main_v50 (X0 m c) (X1 m c) (X2 m c) := by
  refine (dats m 0 c).arrAt_eq_of_covers 4 _ (by decide +kernel) fun t hf y => ?_
  blk_simp
  rw [after0_4, (tiles m c t).1, h0, h1, h2, dh]
  generalize val_main_v50 (F := Ideal) _ _ _ = G
  blk_ext [at0 t, rows, row]

theorem end_dh_half : (dats m 0 c).arrAt 5 cfg0.N = val_main_v52 (X0 m c) (X1 m c) (X2 m c) := by
  refine (dats m 0 c).arrAt_eq_of_covers 5 _ (by decide +kernel) fun t hf y => ?_
  blk_simp
  rw [after0_5, (tiles m c t).2, h0, h1, h2]
  unfold k0_pay12 val_main_v52
  rw [dh]
  generalize val_main_v50 (F := Ideal) _ _ _ = G
  show rows t G _ = G _
  blk_ext [at0 t, rows, row]

theorem end_dg : (dats m 0 c).arrAt 6 cfg0.N = val_main_v53 (X0 m c) (X1 m c) (X2 m c) := by
  refine (dats m 0 c).arrAt_eq_of_after_last 6 ⟨7, by decide⟩ (by decide +kernel) _ fun j => ?_
  rw [after0_6]
  refine ((sums m c ⟨7, by decide⟩ rfl _).1).trans ?_
  simp only [h0, h1, h2, dg]
  refine (Fin.sum_mul_add_congr (S := cfg0.N) (n := 512) (L := 4096) (f := fun l => val_main_v31 (F := Ideal)
    (fun i => (f0 i : EReal)) (fun i => (f1 i : EReal)) (fun i => (f2 i : EReal)) (ix2 l (j 1))) (fun s k hl => rfl) (by rfl)).trans ?_
  obtain ⟨a, b, rfl⟩ : ∃ (a : Fin 1) (b : Fin 2048), j = ix2 a b := ⟨j 0, j 1, eq_ix2 j⟩
  show _ = val_main_v53 (F := Ideal) _ _ _ (ix2 a b)
  pointwise [val_main_v53, val_main_v36, val_main_v33, val_main_v32, val_main_cst_12, val_main_cst_11]
  refine Eq.trans ?_ (Fintype.sum_unique (ι := Fin 1) (M := EReal) _).symm
  rfl

theorem end_loss : (dats m 0 c).arrAt 3 cfg0.N = val_main_v51 (X0 m c) (X1 m c) (X2 m c) := by
  refine (dats m 0 c).arrAt_eq_of_after_last 3 ⟨7, by decide⟩ (by decide +kernel) _ fun j => ?_
  rw [after0_3]
  have e : (outsAt0 m c 7 (by decide)).1 = k0_pay5 (outsAt0 m c 7 (by decide)).2.2.2.2 := by
    rw [outsAt0_C m c ⟨7, by decide⟩ (by decide) (by decide) (by decide)]
    trans
    · frame_out
      exact rfl
    · refine congrArg k0_pay5 ?_
      frame_out
  have hs : (outsAt0 m c 7 (by decide)).2.2.2.2 = fun k => ∑ j : Fin 4096, val_main_v17 (F := Ideal) (X0 m c) (X1 m c) (X2 m c) (ix2 j (k 1)) := by
    funext i
    refine (sums m c ⟨7, by decide⟩ rfl i).2.trans ?_
    refine (Finset.sum_congr rfl fun p _ => squares p _ _ _ (i 1)).trans ?_
    exact Fin.sum_mul_add_congr (S := cfg0.N) (n := 512) (L := 4096)
      (f := fun l => val_main_v17 (F := Ideal) (X0 m c) (X1 m c) (X2 m c) (ix2 l (i 1))) (fun s k hl => rfl) (by rfl)
  rw [hs, h0, h1, h2, loss f0 f1 f2, ← h0, ← h1, ← h2] at e
  exact congrFun e _

end Points

/-! ## The two programs' one value -/

instance : Cert.Pre_loss_finite.Facts := ⟨by decide, by decide⟩

theorem algebraic : Cert.algebraic_LossIdeal_LossRefIdeal_pre_loss_finite := by
  intro m ρ m' ρ' hpre hagree
  refine ⟨fun c => val_main_v51 (X0 m c) (X1 m c) (X2 m c), fun c => val_main_v50 (X0 m c) (X1 m c) (X2 m c),
    fun c => val_main_v52 (X0 m c) (X1 m c) (X2 m c), fun c => val_main_v53 (X0 m c) (X1 m c) (X2 m c), ?_, ?_⟩
  · refine (θ_run defs _ _).mono (fun r h c => ?_) (Cert.LossIdeal.Value.run_blocks (F := Ideal) m ρ)
    obtain ⟨e3, e4, e5, e6, ea⟩ := h c
    obtain ⟨p0, p1, p2⟩ := hpre c
    obtain ⟨f0, h0⟩ := Cert.Reals.reals_of_lt _ _ _ Cert.Reals.inf_f32 p0
    obtain ⟨f1, h1⟩ := Cert.Reals.reals_of_lt _ _ _ Cert.Reals.inf_f32 p1
    obtain ⟨f2, h2⟩ := Cert.Reals.reals_of_lt _ _ _ Cert.Reals.inf_f32 p2
    exact ⟨e3.trans (end_loss m c f0 f1 f2 h0 h1 h2), e4.trans (end_dh m c f0 f1 f2 h0 h1 h2),
      e5.trans (end_dh_half m c f0 f1 f2 h0 h1 h2), e6.trans (end_dg m c f0 f1 f2 h0 h1 h2), ea⟩
  · refine (θ_run Cert.LossRefIdeal.defs _ _).mono (fun r h c => ?_) (Cert.LossRefIdeal.Value.run (F := Ideal) m' ρ')
    obtain ⟨e0, e1, e2, e3, ea⟩ := h c
    rw [val_main_v51_eq] at e0
    rw [val_main_v50_eq] at e1
    rw [val_main_v52_eq] at e2
    rw [val_main_v53_eq] at e3
    rw [(hagree c).1, (hagree c).2.1, (hagree c).2.2] at e0 e1 e2 e3
    exact ⟨e0, e1, e2, e3, ea⟩

end Cert.LossValue

end
-- ==== Proof.AttnValue.lean ====
/- The attention's gradients: what the idealized kernel ends holding, and that the reference ends holding the same. -/
module

public import proofs.«01_k».proof.Proof.Reals
public import proofs.«01_k».proof.Proof.Gen.AttnIdeal.Value
public import proofs.«01_k».proof.Proof.Gen.AttnRefIdeal.Run
public import proofs.«01_k».proof.Proof.Gen.AttnRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.AttnValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen Cert.AttnRefIdeal.Read

/-- The row of the array that is row `j` of point `t`'s block. -/
abbrev row (t : Fin cfg0.N) (j : Fin 512) : Fin 4096 :=
  ⟨t.val * 512 + j.val, by have := lt_of_lt_of_eq t.isLt N_0; have := j.isLt; omega⟩

/-- The column of the array that is column `e` of head `h`. -/
abbrev col (h : Fin 4) (e : Fin 512) : Fin 2048 := ⟨h.val * 512 + e.val, by have := h.isLt; have := e.isLt; omega⟩

/-- Point `t`'s rows and head `h`'s columns of the queries or of the output's gradient. -/
def tile (t : Fin cfg0.N) (h : Fin 4) (X : Vec Ideal S4096x2048 .bf16) : Vec Ideal S512x512 .bf16 :=
  fun y => X (ix2 (row t (y 0)) (col h (y 1)))

/-- Head `h`'s columns of the keys or of the values. -/
def head (h : Fin 4) (X : Vec Ideal S256x2048 .bf16) : Vec Ideal S256x512 .bf16 :=
  fun y => X (ix2 (y 0) (col h (y 1)))

/-! ## A head's weights and the gradient of its scores -/

/-- The greatest score of a row. -/
def top (s : Fin 256 → EReal) : EReal := Finset.fold max (Ideal.ofBits .f32 0xFF800000#32) s Finset.univ

/-- A row's exponentials and their sum. -/
def ex (s : Fin 256 → EReal) (l : Fin 256) : EReal := Ideal.exp (s l - top s)
def total (s : Fin 256 → EReal) : EReal := ∑ l, ex s l

/-- A head's scaled scores. -/
def score (h : Fin 4) (q : Vec Ideal S4096x2048 .bf16) (k : Vec Ideal S256x2048 .bf16) (r : Fin 4096) (l : Fin 256) : EReal :=
  (∑ e : Fin 512, q (ix2 r (col h e)) * k (ix2 l (col h e))) * Ideal.ofBits .f32 0x3D3504F3#32

/-- The gradient of a head's weights. -/
def dweight (h : Fin 4) (v : Vec Ideal S256x2048 .bf16) (d : Vec Ideal S4096x2048 .bf16) (r : Fin 4096) (l : Fin 256) : EReal :=
  ∑ e : Fin 512, d (ix2 r (col h e)) * v (ix2 l (col h e))

/-- The idealized kernel's weights. -/
theorem weights (t : Fin cfg0.N) (h : Fin 4) (q : Vec Ideal S4096x2048 .bf16) (k : Vec Ideal S256x2048 .bf16) (j : Fin 512) (l : Fin 256) :
    k0_pay3 (F := Ideal) (tile t h q) (head h k) (ix2 j l)
      = Ideal.div (ex (score h q k (row t j)) l) (total (score h q k (row t j))) := by
  pointwise [k0_pay3, tile, head, row, col, ex, total, top, score]

/-- The idealized kernel's gradient of the scores. -/
theorem grads (t : Fin cfg0.N) (h : Fin 4) (q : Vec Ideal S4096x2048 .bf16) (k v : Vec Ideal S256x2048 .bf16) (d : Vec Ideal S4096x2048 .bf16)
    (j : Fin 512) (l : Fin 256) :
    k0_pay4 (F := Ideal) (tile t h q) (tile t h d) (head h k) (head h v) (ix2 j l)
      = k0_pay3 (F := Ideal) (tile t h q) (head h k) (ix2 j l) * (dweight h v d (row t j) l
        - ∑ x : Fin 256, dweight h v d (row t j) x * k0_pay3 (F := Ideal) (tile t h q) (head h k) (ix2 j x)) * Ideal.ofBits .f32 0x3D3504F3#32 := by
  pointwise [k0_pay4, tile, head, row, col, dweight]

/-- The reference's scaled scores. -/
theorem scoreRef (h : Fin 4) (q : Vec Ideal S4096x2048 .bf16) (k : Vec Ideal S256x2048 .bf16) (r : Fin 4096) (l : Fin 256) :
    val_main_v9 (F := Ideal) q k (ix4 0 h r l) = score h q k r l := by
  pointwise [col, score, val_main_v9, val_main_v7, val_main_v4, val_main_v0, val_main_v5, val_main_v1, val_main_v8, val_main_cst]

/-- The reference's greatest score of a row. -/
theorem topRef (h : Fin 4) (q : Vec Ideal S4096x2048 .bf16) (k : Vec Ideal S256x2048 .bf16) (r : Fin 4096) :
    val_main_v17 (F := Ideal) q k (ix3 0 h r) = top (score h q k r) := by
  have e : val_main_v10 (F := Ideal) q k (ix3 0 h r)
      = Finset.fold max (Ideal.ofBits .f32 0xFF800000#32) (fun l : Fin 256 => val_main_v9 (F := Ideal) q k (ix4 0 h r l)) Finset.univ := by
    pointwise [val_main_v10, val_main_cst_0]
  refine (val_main_v17_apply q k _).trans ?_
  rw [e, val_main_v16_apply]
  show max (Ideal.ofBits .f32 0xFF800000#32) _ = _
  simp only [scoreRef, Cert.Reals.bot_f32, top, bot_sup_eq]

/-- The reference's exponentials. -/
theorem exRef (h : Fin 4) (q : Vec Ideal S4096x2048 .bf16) (k : Vec Ideal S256x2048 .bf16) (r : Fin 4096) (l : Fin 256) :
    val_main_v30 (F := Ideal) q k (ix4 0 h r l) = ex (score h q k r) l := by
  refine Eq.trans (b := Ideal.exp (val_main_v9 (F := Ideal) q k (ix4 0 h r l) - val_main_v17 (F := Ideal) q k (ix3 0 h r))) ?_ ?_
  · pointwise [val_main_v30, val_main_v29, val_main_v28, val_main_v27]
  · rw [scoreRef, topRef]; rfl

/-- The reference's sums of exponentials. -/
theorem totalRef (h : Fin 4) (q : Vec Ideal S4096x2048 .bf16) (k : Vec Ideal S256x2048 .bf16) (r : Fin 4096) :
    val_main_v32 (F := Ideal) q k (ix4 0 h r 0) = total (score h q k r) := by
  refine Eq.trans (b := ∑ l : Fin 256, val_main_v30 (F := Ideal) q k (ix4 0 h r l)) ?_ (Finset.sum_congr rfl fun l _ => exRef h q k r l)
  pointwise [val_main_v32, val_main_v31, val_main_cst_8]

/-- The reference's weights. -/
theorem weightsRef (h : Fin 4) (q : Vec Ideal S4096x2048 .bf16) (k : Vec Ideal S256x2048 .bf16) (r : Fin 4096) (l : Fin 256) :
    val_main_v34 (F := Ideal) q k (ix4 0 h r l) = Ideal.div (ex (score h q k r) l) (total (score h q k r)) := by
  refine Eq.trans (b := Ideal.div (val_main_v30 (F := Ideal) q k (ix4 0 h r l)) (val_main_v32 (F := Ideal) q k (ix4 0 h r 0))) ?_ ?_
  · pointwise [val_main_v34, val_main_v33]
  · rw [exRef, totalRef]

/-- The reference's gradient of the weights. -/
theorem dweightRef (h : Fin 4) (v : Vec Ideal S256x2048 .bf16) (d : Vec Ideal S4096x2048 .bf16) (r : Fin 4096) (l : Fin 256) :
    val_main_v43 (F := Ideal) v d (ix4 0 h r l) = dweight h v d r l := by
  pointwise [col, dweight, val_main_v43, val_main_v42, val_main_v41, val_main_v3, val_main_v6, val_main_v2]

/-- The reference's sum over the two axes of extent one. -/
theorem sumRef (q : Vec Ideal S4096x2048 .bf16) (k v : Vec Ideal S256x2048 .bf16) (d : Vec Ideal S4096x2048 .bf16) (h : Fin 4) (r : Fin 4096) :
    val_main_v54 (F := Ideal) q k v d (ix2 h r) = val_main_v51 (F := Ideal) q k v d (ix4 0 h r 0) := by
  unfold val_main_v54
  show Ideal.hostReduceAdd _ _ _ _ = _
  unfold Ideal.hostReduceAdd
  have e : (Finset.univ.filter fun i : Cert.AttnRefIdeal.S1x4x4096x1.Idx =>
      Cert.AttnRefIdeal.Gen.reducesTo_S1x4x4096x1_S4x4096_d0_3.drop i = ix2 h r) = {ix4 0 h r 0} := by
    ext i
    simp only [Finset.mem_filter, Finset.mem_univ, true_and, Finset.mem_singleton]
    constructor
    · intro hi
      have h0 : i 1 = h := congrFun hi 0
      have h1 : i 2 = r := congrFun hi 1
      rw [eq_ix4 i, h0, h1]
      congr 1
      · exact Fin.ext (by have := (i 0).isLt; exact Nat.lt_one_iff.mp this)
      · exact Fin.ext (by have := (i 3).isLt; exact Nat.lt_one_iff.mp this)
    · rintro rfl
      funext b
      match b with
      | ⟨0, _⟩ => rfl
      | ⟨1, _⟩ => rfl
  rw [e, Finset.sum_singleton]
  show Ideal.ofBits .f32 0x00000000#32 + _ = _
  simp

/-- The reference's gradient of the scores. -/
theorem gradsRef (h : Fin 4) (q : Vec Ideal S4096x2048 .bf16) (k v : Vec Ideal S256x2048 .bf16) (d : Vec Ideal S4096x2048 .bf16)
    (r : Fin 4096) (l : Fin 256) :
    val_main_v60 (F := Ideal) q k v d (ix4 0 h r l)
      = (Ideal.div (dweight h v d r l) (total (score h q k r))
          + -(∑ x : Fin 256, dweight h v d r x * Ideal.div (Ideal.ofBits .f32 0x3F800000#32) (total (score h q k r) * total (score h q k r)) * ex (score h q k r) x))
        * ex (score h q k r) l * Ideal.ofBits .f32 0x3D3504F3#32 := by
  have e : val_main_v60 (F := Ideal) q k v d (ix4 0 h r l)
      = (Ideal.div (val_main_v43 (F := Ideal) v d (ix4 0 h r l)) (val_main_v32 (F := Ideal) q k (ix4 0 h r 0))
          + -(∑ x : Fin 256, val_main_v43 (F := Ideal) v d (ix4 0 h r x) * Ideal.div (Ideal.ofBits .f32 0x3F800000#32) (val_main_v32 (F := Ideal) q k (ix4 0 h r 0) * val_main_v32 (F := Ideal) q k (ix4 0 h r 0)) * val_main_v30 (F := Ideal) q k (ix4 0 h r x)))
        * val_main_v30 (F := Ideal) q k (ix4 0 h r l) * Ideal.ofBits .f32 0x3D3504F3#32 := by
    have e' : val_main_v60 (F := Ideal) q k v d (ix4 0 h r l)
        = (Ideal.div (val_main_v43 (F := Ideal) v d (ix4 0 h r l)) (val_main_v32 (F := Ideal) q k (ix4 0 h r 0)) + val_main_v54 (F := Ideal) q k v d (ix2 h r))
          * val_main_v30 (F := Ideal) q k (ix4 0 h r l) * Ideal.ofBits .f32 0x3D3504F3#32 := by
      pointwise [val_main_v60, val_main_v58, val_main_v57, val_main_v53, val_main_v52, val_main_v56, val_main_v55, val_main_v59,
    val_main_cst_12]
    have n : val_main_v51 (F := Ideal) q k v d (ix4 0 h r 0)
        = -(∑ x : Fin 256, val_main_v43 (F := Ideal) v d (ix4 0 h r x) * Ideal.div (Ideal.ofBits .f32 0x3F800000#32) (val_main_v32 (F := Ideal) q k (ix4 0 h r 0) * val_main_v32 (F := Ideal) q k (ix4 0 h r 0)) * val_main_v30 (F := Ideal) q k (ix4 0 h r x)) := by
      pointwise [val_main_v51, val_main_v50, val_main_v49, val_main_v48, val_main_v47, val_main_v46, val_main_v37, val_main_v36,
    val_main_cst_9, val_main_v35, val_main_cst_10]
    rw [e', sumRef, n]
  rw [e]
  simp only [exRef, totalRef, dweightRef]

/-! ## On finite arrays the two gradients of the scores are one -/

section Finite

variable (f0 : S4096x2048.Idx → ℝ) (f1 f2 : S256x2048.Idx → ℝ) (f3 : S4096x2048.Idx → ℝ)

/-- A row's exponentials and their sum are reals, the sum positive. -/
theorem reals (h : Fin 4) (r : Fin 4096) : ∃ (e : Fin 256 → ℝ) (n : ℝ), 0 < n
    ∧ (∀ l, ex (score h (fun i => (f0 i : EReal)) (fun i => (f1 i : EReal)) r) l = (e l : EReal))
    ∧ total (score h (fun i => (f0 i : EReal)) (fun i => (f1 i : EReal)) r) = (n : EReal) := by
  obtain ⟨s, hs⟩ := Cert.Reals.scale_f32
  obtain ⟨g, hg⟩ : ∃ g : Fin 256 → ℝ, score h (fun i => (f0 i : EReal)) (fun i => (f1 i : EReal)) r = fun l => (g l : EReal) := by
    refine ⟨fun l => (∑ e : Fin 512, f0 (ix2 r (col h e)) * f1 (ix2 l (col h e))) * s, funext fun l => ?_⟩
    simp only [score, hs]
    simp only [← EReal.coe_mul, ← Cert.Reals.coe_sum]
  rw [hg]
  obtain ⟨μ, hμ⟩ := Cert.Reals.top_real g
  have he : ∀ l, ex (fun l => (g l : EReal)) l = ((Real.exp (g l - μ) : ℝ) : EReal) := fun l => by
    show Ideal.exp ((g l : EReal) - top _) = _
    unfold top
    rw [hμ, ← EReal.coe_sub, Ideal.exp_coe]
  refine ⟨_, ∑ l, Real.exp (g l - μ), Finset.sum_pos (fun l _ => Real.exp_pos _) Finset.univ_nonempty, he, ?_⟩
  simp only [total, he, Cert.Reals.coe_sum]

/-- The kernel's gradient of the scores is the reference's. -/
theorem grads_eq (t : Fin cfg0.N) (h : Fin 4) (j : Fin 512) (l : Fin 256) :
    k0_pay4 (F := Ideal) (tile t h fun i => (f0 i : EReal)) (tile t h fun i => (f3 i : EReal)) (head h fun i => (f1 i : EReal))
        (head h fun i => (f2 i : EReal)) (ix2 j l)
      = val_main_v60 (F := Ideal) (fun i => (f0 i : EReal)) (fun i => (f1 i : EReal)) (fun i => (f2 i : EReal))
        (fun i => (f3 i : EReal)) (ix4 0 h (row t j) l) := by
  rw [grads, gradsRef]
  obtain ⟨e, n, hn, he, hn'⟩ := reals f0 f1 h (row t j)
  obtain ⟨s, hs⟩ := Cert.Reals.scale_f32
  have hd : ∀ l, dweight h (fun i => (f2 i : EReal)) (fun i => (f3 i : EReal)) (row t j) l
      = ((∑ e : Fin 512, f3 (ix2 (row t j) (col h e)) * f2 (ix2 l (col h e)) : ℝ) : EReal) := fun l => by
    simp only [dweight]
    simp only [← EReal.coe_mul, ← Cert.Reals.coe_sum]
  simp only [weights]
  simp only [he, hn', hd, hs, Cert.Reals.one_f32]
  have hnn := mul_ne_zero hn.ne' hn.ne'
  simp only [← EReal.coe_mul, Cert.Reals.div_real _ hn.ne', Cert.Reals.div_real _ hnn]
  simp only [← EReal.coe_mul, ← EReal.coe_sub, ← EReal.coe_add, ← EReal.coe_neg, ← Cert.Reals.coe_sum]
  exact congrArg _ (Cert.Reals.softmax_grad e (fun l => ∑ e : Fin 512, f3 (ix2 (row t j) (col h e)) * f2 (ix2 l (col h e))) l hn.ne' s)

end Finite

/-! ## A head's part of each result -/

variable (t : Fin cfg0.N) (h : Fin 4) (x0 : Vec Ideal S4096x2048 .bf16) (x1 x2 : Vec Ideal S256x2048 .bf16) (x3 : Vec Ideal S4096x2048 .bf16)

/-- The head a column belongs to. -/
abbrev headOf (j : Fin 2048) : Fin 4 := ⟨j.val / 512, by have := j.isLt; omega⟩

/-- A point's part of the keys' and of the values' gradient. -/
def dkPart (y : S256x2048.Idx) : EReal :=
  ∑ j : Fin 512, val_main_v60 (F := Ideal) x0 x1 x2 x3 (ix4 0 (headOf (y 1)) (row t j) (y 0)) * x0 (ix2 (row t j) (y 1))
def dvPart (y : S256x2048.Idx) : EReal :=
  ∑ j : Fin 512, val_main_v34 (F := Ideal) x0 x1 (ix4 0 (headOf (y 1)) (row t j) (y 0)) * x3 (ix2 (row t j) (y 1))

theorem headOf_col (e : Fin 512) : headOf (col h e) = h :=
  Fin.ext (by have := e.isLt; show (h.val * 512 + e.val) / 512 = h.val; omega)

theorem dq_apply (r : Fin 4096) (e : Fin 512) : val_main_v68 (F := Ideal) x0 x1 x2 x3 (ix2 r (col h e))
    = ∑ l : Fin 256, val_main_v60 (F := Ideal) x0 x1 x2 x3 (ix4 0 h r l) * x1 (ix2 l (col h e)) := by
  pointwise [col, val_main_v68, val_main_v67, val_main_v64, val_main_v63, val_main_v5, val_main_v1]

theorem dk_apply (l : Fin 256) (e : Fin 512) : val_main_v66 (F := Ideal) x0 x1 x2 x3 (ix2 l (col h e))
    = ∑ r : Fin 4096, val_main_v60 (F := Ideal) x0 x1 x2 x3 (ix4 0 h r l) * x0 (ix2 r (col h e)) := by
  pointwise [col, val_main_v66, val_main_v62, val_main_v61, val_main_v4, val_main_v0]

theorem dv_apply (l : Fin 256) (e : Fin 512) : val_main_v65 (F := Ideal) x0 x1 x3 (ix2 l (col h e))
    = ∑ r : Fin 4096, val_main_v34 (F := Ideal) x0 x1 (ix4 0 h r l) * x3 (ix2 r (col h e)) := by
  refine Eq.trans ?_ (Finset.sum_congr rfl fun r _ => mul_comm _ _)
  pointwise [col, val_main_v65, val_main_v45, val_main_v44, val_main_v42, val_main_v41, val_main_v3]

theorem dqTile (j e : Fin 512) : k0_pay5 (F := Ideal) (tile t h x0) (tile t h x3) (head h x1) (head h x2) (head h x1) (ix2 j e)
    = ∑ l : Fin 256, k0_pay4 (F := Ideal) (tile t h x0) (tile t h x3) (head h x1) (head h x2) (ix2 j l) * x1 (ix2 l (col h e)) := by
  pointwise [k0_pay5, head, col]

theorem dkTile (a : Vec Ideal S256x512 .f32) (d : FVec Ideal S512x256 .bf16) (l : Fin 256) (e : Fin 512) :
    k0_pay6 (F := Ideal) (tile t h x0) d a (ix2 l e)
      = a (ix2 l e) + ∑ j : Fin 512, d (ix2 j l) * x0 (ix2 (row t j) (col h e)) := by
  pointwise [k0_pay6, tile, row, col]

theorem dvTile (a : Vec Ideal S256x512 .f32) (p : FVec Ideal S512x256 .f32) (l : Fin 256) (e : Fin 512) :
    k0_pay7 (F := Ideal) (tile t h x3) p a (ix2 l e)
      = a (ix2 l e) + ∑ j : Fin 512, p (ix2 j l) * x3 (ix2 (row t j) (col h e)) := by
  pointwise [k0_pay7, tile, row, col]

/-! ## The points -/

section Points

variable (m : (ℓ : Loc nD τ sig) → Buf (Elt Ideal) ℓ) (c : Dev nD)

abbrev X0 : Vec Ideal S4096x2048 .bf16 := m ((c : Thread nD τ).loc main_arg0)
abbrev X1 : Vec Ideal S256x2048 .bf16 := m ((c : Thread nD τ).loc main_arg1)
abbrev X2 : Vec Ideal S256x2048 .bf16 := m ((c : Thread nD τ).loc main_arg2)
abbrev X3 : Vec Ideal S4096x2048 .bf16 := m ((c : Thread nD τ).loc main_arg3)

theorem at0 : ∀ t : Fin grid0.N, win0_0.index t = ![t.val, 0] ∧ win0_1.index t = ![0, 0] ∧ win0_2.index t = ![0, 0]
    ∧ win0_3.index t = ![t.val, 0] ∧ win0_4.index t = ![t.val, 0] := by decide +kernel

/-- A load of head `h`'s columns of the point's blocks. -/
theorem ld0 {o : Fin 2 → ℕ} (i : ∀ a, o a + ![512, 512] a ≤ S512x2048.size a) (e : o = ![0, h.val * 512]) :
    View.ld (iblk m c 0 t) (Rect.unit o ![512, 512] i) = tile t h (X0 m c) := by
  subst e
  funext y
  blk_ext! [iblk, tile, row, col, at0 t]

theorem ld1 {o : Fin 2 → ℕ} (i : ∀ a, o a + ![256, 512] a ≤ S256x2048.size a) (e : o = ![0, h.val * 512]) :
    View.ld (iblk m c 1 t) (Rect.unit o ![256, 512] i) = head h (X1 m c) := by
  subst e
  funext y
  blk_ext! [iblk, head, col, at0 t]

theorem ld2 {o : Fin 2 → ℕ} (i : ∀ a, o a + ![256, 512] a ≤ S256x2048.size a) (e : o = ![0, h.val * 512]) :
    View.ld (iblk m c 2 t) (Rect.unit o ![256, 512] i) = head h (X2 m c) := by
  subst e
  funext y
  blk_ext! [iblk, head, col, at0 t]

theorem ld3 {o : Fin 2 → ℕ} (i : ∀ a, o a + ![512, 512] a ≤ S512x2048.size a) (e : o = ![0, h.val * 512]) :
    View.ld (iblk m c 3 t) (Rect.unit o ![512, 512] i) = tile t h (X3 m c) := by
  subst e
  funext y
  blk_ext! [iblk, tile, row, col, at0 t]

/-- Where head `h`'s columns lie in a block. -/
theorem emb_col {n : ℕ} {o : Fin 2 → ℕ} (i : ∀ a, o a + ![n, 512] a ≤ (⟨2, ![n, 2048]⟩ : Shape).size a) (e : o = ![0, h.val * 512])
    (a : Fin n) (b : Fin 512) : (Rect.unit (s := ⟨2, ![n, 2048]⟩) o ![n, 512] i).emb (ix2 a b) = ix2 a (col h b) := by
  subst e
  funext k
  match k with
  | ⟨0, _⟩ => exact Fin.ext (by show 0 + 1 * a.val = a.val; omega)
  | ⟨1, _⟩ => exact Fin.ext (by show h.val * 512 + 1 * b.val = h.val * 512 + b.val; omega)

variable (f0 : S4096x2048.Idx → ℝ) (f1 f2 : S256x2048.Idx → ℝ) (f3 : S4096x2048.Idx → ℝ)
  (h0 : X0 m c = fun i => (f0 i : EReal)) (h1 : X1 m c = fun i => (f1 i : EReal)) (h2 : X2 m c = fun i => (f2 i : EReal))
  (h3 : X3 m c = fun i => (f3 i : EReal))

/-- What one head stores, from its loads: its part of each result, added to what was there for the keys and the values. -/
theorem dvPiece {A B : Vec Ideal S512x512 .bf16} {C : Vec Ideal S256x512 .bf16} {o : Fin 2 → ℕ}
    (i : ∀ a, o a + ![256, 512] a ≤ S256x2048.size a) (e : o = ![0, h.val * 512]) (a : Vec Ideal S256x2048 .f32)
    (hA : A = tile t h (X0 m c)) (hB : B = tile t h (X3 m c)) (hC : C = head h (X1 m c)) (x : S256x512.Idx) :
    k0_pay7 (F := Ideal) B (k0_pay3 A C) (View.ld a (Rect.unit o ![256, 512] i)) x
      = a ((Rect.unit (s := S256x2048) o ![256, 512] i).emb x) + dvPart t (X0 m c) (X1 m c) (X3 m c) ((Rect.unit (s := S256x2048) o ![256, 512] i).emb x) := by
  subst hA hB hC
  obtain ⟨l, b, rfl⟩ : ∃ (l : Fin 256) (b : Fin 512), x = ix2 l b := ⟨x 0, x 1, eq_ix2 x⟩
  refine (dvTile t h (X3 m c) _ _ l b).trans (congrArg₂ (fun p q : EReal => p + q) rfl ?_)
  rw [emb_col h i e]
  show _ = ∑ j : Fin 512, val_main_v34 (F := Ideal) (X0 m c) (X1 m c) (ix4 0 (headOf (col h b)) (row t j) l) * (X3 m c) (ix2 (row t j) (col h b))
  rw [headOf_col]
  exact Finset.sum_congr rfl fun j _ => congrArg (fun p : EReal => p * _) ((weights t h _ _ j l).trans (weightsRef h _ _ _ l).symm)

include h0 h1 h2 h3 in
theorem dkPiece {A B : Vec Ideal S512x512 .bf16} {C D : Vec Ideal S256x512 .bf16} {o : Fin 2 → ℕ}
    (i : ∀ a, o a + ![256, 512] a ≤ S256x2048.size a) (e : o = ![0, h.val * 512]) (a : Vec Ideal S256x2048 .f32)
    (hA : A = tile t h (X0 m c)) (hB : B = tile t h (X3 m c)) (hC : C = head h (X1 m c)) (hD : D = head h (X2 m c)) (x : S256x512.Idx) :
    k0_pay6 (F := Ideal) A (k0_pay4 A B C D) (View.ld a (Rect.unit o ![256, 512] i)) x
      = a ((Rect.unit (s := S256x2048) o ![256, 512] i).emb x) + dkPart t (X0 m c) (X1 m c) (X2 m c) (X3 m c) ((Rect.unit (s := S256x2048) o ![256, 512] i).emb x) := by
  subst hA hB hC hD
  obtain ⟨l, b, rfl⟩ : ∃ (l : Fin 256) (b : Fin 512), x = ix2 l b := ⟨x 0, x 1, eq_ix2 x⟩
  refine (dkTile t h (X0 m c) _ _ l b).trans (congrArg₂ (fun p q : EReal => p + q) rfl ?_)
  rw [emb_col h i e]
  show _ = ∑ j : Fin 512, val_main_v60 (F := Ideal) (X0 m c) (X1 m c) (X2 m c) (X3 m c) (ix4 0 (headOf (col h b)) (row t j) l) * (X0 m c) (ix2 (row t j) (col h b))
  rw [headOf_col, h0, h1, h2, h3]
  exact Finset.sum_congr rfl fun j _ => congrArg (fun p : EReal => p * _) (grads_eq f0 f1 f2 f3 t h j l)

include h0 h1 h2 h3 in
theorem dqPiece {A B : Vec Ideal S512x512 .bf16} {C D : Vec Ideal S256x512 .bf16} {o : Fin 2 → ℕ}
    (i : ∀ a, o a + ![512, 512] a ≤ S512x2048.size a) (e : o = ![0, h.val * 512])
    (hA : A = tile t h (X0 m c)) (hB : B = tile t h (X3 m c)) (hC : C = head h (X1 m c)) (hD : D = head h (X2 m c)) (x : S512x512.Idx) :
    k0_pay5 (F := Ideal) A B C D C x
      = (fun y : S512x2048.Idx => val_main_v68 (F := Ideal) (X0 m c) (X1 m c) (X2 m c) (X3 m c) (ix2 (row t (y 0)) (y 1))) ((Rect.unit (s := S512x2048) o ![512, 512] i).emb x) := by
  subst hA hB hC hD
  obtain ⟨j, b, rfl⟩ : ∃ (j b : Fin 512), x = ix2 j b := ⟨x 0, x 1, eq_ix2 x⟩
  rw [emb_col h i e]
  refine (dqTile t h _ _ _ _ j b).trans ((dq_apply h _ _ _ _ (row t j) b).trans ?_).symm
  rw [h0, h1, h2, h3]
  exact Finset.sum_congr rfl fun l _ => congrArg (fun p : EReal => p * _) (grads_eq f0 f1 f2 f3 t h j l).symm

/-- The values' gradient at the first point: that point's part. -/
theorem dv_first (hc : t.val % 8 = 0) : (outsAt0 m c t.val t.isLt).2.2 = dvPart t (X0 m c) (X1 m c) (X3 m c) := by
  rw [outsAt0_A m c t hc]
  frame_open
  simp (disch := decide) only [↓ View.readCov_skip, ↓ View.readCov_cons_toLoadRect, ↓ View.readCov_fill]
  frame_out
  funext y
  have z : ∀ y, k0_pay2 (F := Ideal) y = 0 := fun y => by pointwise [k0_pay2]
  refine (View.canon_append_of_piecesOf (fun y => k0_pay2 (F := Ideal) y + dvPart t (X0 m c) (X1 m c) (X3 m c) y) [_] [_, _, _, _]
    ⟨?_, ?_, ?_, ?_, trivial⟩ y (View.cover_of_tiledL (s := S256x2048) _ ![256, 512] (by sl_kernel_rfl) y)).trans
    ((congrArg (fun p : EReal => p + _) (z y)).trans (zero_add _))
  · exact dvPiece t 3 m c _ rfl (k0_pay2 (F := Ideal)) (ld0 t 3 m c _ rfl) (ld3 t 3 m c _ rfl) (ld1 t 3 m c _ rfl)
  · exact dvPiece t 2 m c _ rfl (k0_pay2 (F := Ideal)) (ld0 t 2 m c _ rfl) (ld3 t 2 m c _ rfl) (ld1 t 2 m c _ rfl)
  · exact dvPiece t 1 m c _ rfl (k0_pay2 (F := Ideal)) (ld0 t 1 m c _ rfl) (ld3 t 1 m c _ rfl) (ld1 t 1 m c _ rfl)
  · exact dvPiece t 0 m c _ rfl (k0_pay2 (F := Ideal)) (ld0 t 0 m c _ rfl) (ld3 t 0 m c _ rfl) (ld1 t 0 m c _ rfl)

/-- The values' gradient at a later point: the point's part on top of what the point before left. -/
theorem dv_step (hc : ¬t.val % 8 = 0) : (outsAt0 m c t.val t.isLt).2.2
    = fun y => (outsAt0 m c (t.val - 1) (lt_of_le_of_lt (Nat.sub_le _ _) t.isLt)).2.2 y + dvPart t (X0 m c) (X1 m c) (X3 m c) y := by
  rw [outsAt0_B m c t hc]
  frame_out
  funext y
  refine View.canon_append_of_piecesOf (fun y => (outsAt0 m c (t.val - 1) (lt_of_le_of_lt (Nat.sub_le _ _) t.isLt)).2.2 y + dvPart t (X0 m c) (X1 m c) (X3 m c) y) [] [_, _, _, _]
    ⟨?_, ?_, ?_, ?_, trivial⟩ y (View.cover_of_tiledL (s := S256x2048) _ ![256, 512] (by sl_kernel_rfl) y)
  · exact dvPiece t 3 m c _ rfl _ (ld0 t 3 m c _ rfl) (ld3 t 3 m c _ rfl) (ld1 t 3 m c _ rfl)
  · exact dvPiece t 2 m c _ rfl _ (ld0 t 2 m c _ rfl) (ld3 t 2 m c _ rfl) (ld1 t 2 m c _ rfl)
  · exact dvPiece t 1 m c _ rfl _ (ld0 t 1 m c _ rfl) (ld3 t 1 m c _ rfl) (ld1 t 1 m c _ rfl)
  · exact dvPiece t 0 m c _ rfl _ (ld0 t 0 m c _ rfl) (ld3 t 0 m c _ rfl) (ld1 t 0 m c _ rfl)

include h0 h1 h2 h3 in
/-- The keys' gradient at the first point: that point's part. -/
theorem dk_first (hc : t.val % 8 = 0) : (outsAt0 m c t.val t.isLt).2.1 = dkPart t (X0 m c) (X1 m c) (X2 m c) (X3 m c) := by
  rw [outsAt0_A m c t hc]
  frame_open
  simp (disch := decide) only [↓ View.readCov_skip, ↓ View.readCov_cons_toLoadRect, ↓ View.readCov_fill]
  frame_out
  funext y
  have z : ∀ y, k0_pay1 (F := Ideal) y = 0 := fun y => by pointwise [k0_pay1]
  refine (View.canon_append_of_piecesOf (fun y => k0_pay1 (F := Ideal) y + dkPart t (X0 m c) (X1 m c) (X2 m c) (X3 m c) y) [_] [_, _, _, _]
    ⟨?_, ?_, ?_, ?_, trivial⟩ y (View.cover_of_tiledL (s := S256x2048) _ ![256, 512] (by sl_kernel_rfl) y)).trans
    ((congrArg (fun p : EReal => p + _) (z y)).trans (zero_add _))
  · exact dkPiece t 3 m c f0 f1 f2 f3 h0 h1 h2 h3 _ rfl (k0_pay1 (F := Ideal)) (ld0 t 3 m c _ rfl) (ld3 t 3 m c _ rfl) (ld1 t 3 m c _ rfl) (ld2 t 3 m c _ rfl)
  · exact dkPiece t 2 m c f0 f1 f2 f3 h0 h1 h2 h3 _ rfl (k0_pay1 (F := Ideal)) (ld0 t 2 m c _ rfl) (ld3 t 2 m c _ rfl) (ld1 t 2 m c _ rfl) (ld2 t 2 m c _ rfl)
  · exact dkPiece t 1 m c f0 f1 f2 f3 h0 h1 h2 h3 _ rfl (k0_pay1 (F := Ideal)) (ld0 t 1 m c _ rfl) (ld3 t 1 m c _ rfl) (ld1 t 1 m c _ rfl) (ld2 t 1 m c _ rfl)
  · exact dkPiece t 0 m c f0 f1 f2 f3 h0 h1 h2 h3 _ rfl (k0_pay1 (F := Ideal)) (ld0 t 0 m c _ rfl) (ld3 t 0 m c _ rfl) (ld1 t 0 m c _ rfl) (ld2 t 0 m c _ rfl)

include h0 h1 h2 h3 in
/-- The keys' gradient at a later point: the point's part on top of what the point before left. -/
theorem dk_step (hc : ¬t.val % 8 = 0) : (outsAt0 m c t.val t.isLt).2.1
    = fun y => (outsAt0 m c (t.val - 1) (lt_of_le_of_lt (Nat.sub_le _ _) t.isLt)).2.1 y + dkPart t (X0 m c) (X1 m c) (X2 m c) (X3 m c) y := by
  rw [outsAt0_B m c t hc]
  frame_out
  funext y
  refine View.canon_append_of_piecesOf (fun y => (outsAt0 m c (t.val - 1) (lt_of_le_of_lt (Nat.sub_le _ _) t.isLt)).2.1 y + dkPart t (X0 m c) (X1 m c) (X2 m c) (X3 m c) y) [] [_, _, _, _]
    ⟨?_, ?_, ?_, ?_, trivial⟩ y (View.cover_of_tiledL (s := S256x2048) _ ![256, 512] (by sl_kernel_rfl) y)
  · exact dkPiece t 3 m c f0 f1 f2 f3 h0 h1 h2 h3 _ rfl _ (ld0 t 3 m c _ rfl) (ld3 t 3 m c _ rfl) (ld1 t 3 m c _ rfl) (ld2 t 3 m c _ rfl)
  · exact dkPiece t 2 m c f0 f1 f2 f3 h0 h1 h2 h3 _ rfl _ (ld0 t 2 m c _ rfl) (ld3 t 2 m c _ rfl) (ld1 t 2 m c _ rfl) (ld2 t 2 m c _ rfl)
  · exact dkPiece t 1 m c f0 f1 f2 f3 h0 h1 h2 h3 _ rfl _ (ld0 t 1 m c _ rfl) (ld3 t 1 m c _ rfl) (ld1 t 1 m c _ rfl) (ld2 t 1 m c _ rfl)
  · exact dkPiece t 0 m c f0 f1 f2 f3 h0 h1 h2 h3 _ rfl _ (ld0 t 0 m c _ rfl) (ld3 t 0 m c _ rfl) (ld1 t 0 m c _ rfl) (ld2 t 0 m c _ rfl)

include h0 h1 h2 h3 in
/-- The queries' gradient at a point. -/
theorem dq : (outsAt0 m c t.val t.isLt).1
    = fun y => val_main_v68 (F := Ideal) (X0 m c) (X1 m c) (X2 m c) (X3 m c) (ix2 (row t (y 0)) (y 1)) := by
  by_cases hc : t.val % 8 = 0
  · rw [outsAt0_A m c t hc]
    frame_out
    funext y
    refine View.canon_append_of_piecesOf (fun y : S512x2048.Idx => val_main_v68 (F := Ideal) (X0 m c) (X1 m c) (X2 m c) (X3 m c) (ix2 (row t (y 0)) (y 1)))
      [] [_, _, _, _] ⟨?_, ?_, ?_, ?_, trivial⟩ y (View.cover_of_tiledL (s := S512x2048) _ ![512, 512] (by sl_kernel_rfl) y)
    · exact dqPiece t 3 m c f0 f1 f2 f3 h0 h1 h2 h3 inb_S512x2048_S512x512_0_1536 rfl (ld0 t 3 m c _ rfl) (ld3 t 3 m c _ rfl) (ld1 t 3 m c _ rfl) (ld2 t 3 m c _ rfl)
    · exact dqPiece t 2 m c f0 f1 f2 f3 h0 h1 h2 h3 inb_S512x2048_S512x512_0_1024 rfl (ld0 t 2 m c _ rfl) (ld3 t 2 m c _ rfl) (ld1 t 2 m c _ rfl) (ld2 t 2 m c _ rfl)
    · exact dqPiece t 1 m c f0 f1 f2 f3 h0 h1 h2 h3 inb_S512x2048_S512x512_0_512 rfl (ld0 t 1 m c _ rfl) (ld3 t 1 m c _ rfl) (ld1 t 1 m c _ rfl) (ld2 t 1 m c _ rfl)
    · exact dqPiece t 0 m c f0 f1 f2 f3 h0 h1 h2 h3 inb_S512x2048_S512x512_0_0 rfl (ld0 t 0 m c _ rfl) (ld3 t 0 m c _ rfl) (ld1 t 0 m c _ rfl) (ld2 t 0 m c _ rfl)
  · rw [outsAt0_B m c t hc]
    frame_out
    funext y
    refine View.canon_append_of_piecesOf (fun y : S512x2048.Idx => val_main_v68 (F := Ideal) (X0 m c) (X1 m c) (X2 m c) (X3 m c) (ix2 (row t (y 0)) (y 1)))
      [] [_, _, _, _] ⟨?_, ?_, ?_, ?_, trivial⟩ y (View.cover_of_tiledL (s := S512x2048) _ ![512, 512] (by sl_kernel_rfl) y)
    · exact dqPiece t 3 m c f0 f1 f2 f3 h0 h1 h2 h3 inb_S512x2048_S512x512_0_1536 rfl (ld0 t 3 m c _ rfl) (ld3 t 3 m c _ rfl) (ld1 t 3 m c _ rfl) (ld2 t 3 m c _ rfl)
    · exact dqPiece t 2 m c f0 f1 f2 f3 h0 h1 h2 h3 inb_S512x2048_S512x512_0_1024 rfl (ld0 t 2 m c _ rfl) (ld3 t 2 m c _ rfl) (ld1 t 2 m c _ rfl) (ld2 t 2 m c _ rfl)
    · exact dqPiece t 1 m c f0 f1 f2 f3 h0 h1 h2 h3 inb_S512x2048_S512x512_0_512 rfl (ld0 t 1 m c _ rfl) (ld3 t 1 m c _ rfl) (ld1 t 1 m c _ rfl) (ld2 t 1 m c _ rfl)
    · exact dqPiece t 0 m c f0 f1 f2 f3 h0 h1 h2 h3 inb_S512x2048_S512x512_0_0 rfl (ld0 t 0 m c _ rfl) (ld3 t 0 m c _ rfl) (ld1 t 0 m c _ rfl) (ld2 t 0 m c _ rfl)

/-! ## The arrays after the run -/

omit t h x0 x1 x2 x3

include h0 h1 h2 h3 in
theorem end_dq : (dats m 0 c).arrAt 4 cfg0.N = val_main_v68 (X0 m c) (X1 m c) (X2 m c) (X3 m c) := by
  refine (dats m 0 c).arrAt_eq_of_covers 4 _ (by decide +kernel) fun t hf y => ?_
  blk_simp
  rw [after0_4, dq t m c f0 f1 f2 f3 h0 h1 h2 h3]
  generalize val_main_v68 (F := Ideal) _ _ _ _ = G
  blk_ext [at0 t, row]

/-- A column of the array, as its head's column. -/
theorem col_head (j : Fin 2048) : col (headOf j) ⟨j.val % 512, Nat.mod_lt _ (by decide)⟩ = j :=
  Fin.ext (by show j.val / 512 * 512 + j.val % 512 = j.val; omega)

include h0 h1 h2 h3 in
theorem end_dk : (dats m 0 c).arrAt 5 cfg0.N = val_main_v66 (X0 m c) (X1 m c) (X2 m c) (X3 m c) := by
  refine (dats m 0 c).arrAt_eq_of_after_last 5 ⟨7, by decide⟩ (by decide +kernel) _ fun j => ?_
  rw [after0_5]
  refine (Pipeline.eq_sum_fin_of_reset_step_apply_last (fun n h => (outsAt0 m c n h).2.1) 8 (fun _ => (0 : EReal))
    (fun p y => dkPart p (X0 m c) (X1 m c) (X2 m c) (X3 m c) y) (fun t h i => ?_) (fun t h i => ?_) (le_of_eq N_0) ⟨7, by decide⟩ rfl j).trans
    ((zero_add _).trans ?_)
  · rw [zero_add]; exact congrFun (dk_first t m c f0 f1 f2 f3 h0 h1 h2 h3 h) i
  · exact congrFun (dk_step t m c f0 f1 f2 f3 h0 h1 h2 h3 h) i
  · obtain ⟨l, b, rfl⟩ : ∃ (l : Fin 256) (b : Fin 2048), j = ix2 l b := ⟨j 0, j 1, eq_ix2 j⟩
    show _ = val_main_v66 (F := Ideal) (X0 m c) (X1 m c) (X2 m c) (X3 m c) (ix2 l b)
    refine Eq.trans ?_ ((dk_apply (headOf b) _ _ _ _ l ⟨b.val % 512, Nat.mod_lt _ (by decide)⟩).symm.trans (by rw [col_head]))
    rw [col_head]
    exact Fin.sum_mul_add_congr (S := cfg0.N) (n := 512) (L := 4096)
      (f := fun r => val_main_v60 (F := Ideal) (X0 m c) (X1 m c) (X2 m c) (X3 m c) (ix4 0 (headOf b) r l) * X0 m c (ix2 r b)) (fun s k hl => rfl) (by rfl)

theorem end_dv : (dats m 0 c).arrAt 6 cfg0.N = val_main_v65 (X0 m c) (X1 m c) (X3 m c) := by
  refine (dats m 0 c).arrAt_eq_of_after_last 6 ⟨7, by decide⟩ (by decide +kernel) _ fun j => ?_
  rw [after0_6]
  refine (Pipeline.eq_sum_fin_of_reset_step_apply_last (fun n h => (outsAt0 m c n h).2.2) 8 (fun _ => (0 : EReal))
    (fun p y => dvPart p (X0 m c) (X1 m c) (X3 m c) y) (fun t h i => ?_) (fun t h i => ?_) (le_of_eq N_0) ⟨7, by decide⟩ rfl j).trans
    ((zero_add _).trans ?_)
  · rw [zero_add]; exact congrFun (dv_first t m c h) i
  · exact congrFun (dv_step t m c h) i
  · obtain ⟨l, b, rfl⟩ : ∃ (l : Fin 256) (b : Fin 2048), j = ix2 l b := ⟨j 0, j 1, eq_ix2 j⟩
    show _ = val_main_v65 (F := Ideal) (X0 m c) (X1 m c) (X3 m c) (ix2 l b)
    refine Eq.trans ?_ ((dv_apply (headOf b) _ _ _ l ⟨b.val % 512, Nat.mod_lt _ (by decide)⟩).symm.trans (by rw [col_head]))
    rw [col_head]
    exact Fin.sum_mul_add_congr (S := cfg0.N) (n := 512) (L := 4096)
      (f := fun r => val_main_v34 (F := Ideal) (X0 m c) (X1 m c) (ix4 0 (headOf b) r l) * X3 m c (ix2 r b)) (fun s k hl => rfl) (by rfl)

end Points

/-! ## The two programs' one value -/

instance : Cert.Pre_attn_finite.Facts := ⟨by decide, by decide⟩

theorem algebraic : Cert.algebraic_AttnIdeal_AttnRefIdeal_pre_attn_finite := by
  intro m ρ m' ρ' hpre hagree
  refine ⟨fun c => val_main_v68 (X0 m c) (X1 m c) (X2 m c) (X3 m c), fun c => val_main_v66 (X0 m c) (X1 m c) (X2 m c) (X3 m c),
    fun c => val_main_v65 (X0 m c) (X1 m c) (X3 m c), ?_, ?_⟩
  · refine (θ_run defs _ _).mono (fun r h c => ?_) (Cert.AttnIdeal.Value.run_blocks (F := Ideal) m ρ)
    obtain ⟨e4, e5, e6, ea⟩ := h c
    obtain ⟨p0, p1, p2, p3⟩ := hpre c
    obtain ⟨f0, h0⟩ := Cert.Reals.reals_of_lt _ _ _ Cert.Reals.inf_bf16 p0
    obtain ⟨f1, h1⟩ := Cert.Reals.reals_of_lt _ _ _ Cert.Reals.inf_bf16 p1
    obtain ⟨f2, h2⟩ := Cert.Reals.reals_of_lt _ _ _ Cert.Reals.inf_bf16 p2
    obtain ⟨f3, h3⟩ := Cert.Reals.reals_of_lt _ _ _ Cert.Reals.inf_bf16 p3
    exact ⟨e4.trans (end_dq m c f0 f1 f2 f3 h0 h1 h2 h3), e5.trans (end_dk m c f0 f1 f2 f3 h0 h1 h2 h3), e6.trans (end_dv m c), ea⟩
  · refine (θ_run Cert.AttnRefIdeal.defs _ _).mono (fun r h c => ?_) (Cert.AttnRefIdeal.Value.run (F := Ideal) m' ρ')
    obtain ⟨e0, e1, e2, ea⟩ := h c
    rw [val_main_v68_eq] at e0
    rw [val_main_v66_eq] at e1
    rw [val_main_v65_eq] at e2
    rw [(hagree c).1, (hagree c).2.1, (hagree c).2.2.1, (hagree c).2.2.2] at e0 e1
    rw [(hagree c).1, (hagree c).2.1, (hagree c).2.2.2] at e2
    exact ⟨e0, e1, e2, ea⟩

end Cert.AttnValue

end
-- ==== Proof.SwigluValue.lean ====
/- The gradients of the gated products: what the idealized program ends holding, and that the reference ends holding the
   same. -/
module

public import proofs.«01_k».proof.Proof.Held
public import proofs.«01_k».proof.Proof.Reals
public import proofs.«01_k».proof.Proof.Gen.SwigluIdeal.Frame
public import proofs.«01_k».proof.Proof.Gen.SwigluRefIdeal.Run
public import proofs.«01_k».proof.Proof.Gen.SwigluRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.SwigluValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SwigluIdeal Cert.SwigluIdeal.Gen Cert.SwigluRefIdeal.Read

/-! ## What each kernel's body leaves of its blocks -/

/-- The kernel's logistic function. -/
def lgs (g : EReal) : EReal :=
  Ideal.ofBits .bf16 0x3F00#16 * Ideal.tanh (Ideal.ofBits .bf16 0x3F00#16 * g) + Ideal.ofBits .bf16 0x3F00#16

/-- The gradients of `g · lgs g · u` at `g` and at `u`, times `d`. -/
def dgate (d g u : EReal) : EReal := d * (u * (lgs g + g * lgs g * (Ideal.ofBits .bf16 0x3F80#16 - lgs g)))
def dup (d g : EReal) : EReal := d * (g * lgs g)

/-- The first kernel's block: the two products, by the leading coordinate. -/
def prods (A : Vec Ideal S1024x2048 .bf16) (B C : Vec Ideal S2048x512 .bf16) : Vec Ideal S2x1024x512 .bf16 :=
  fun y => ∑ k : Fin 2048, A (ix2 (y 1) k) * (if (y 0).val = 0 then B else C) (ix2 k (y 2))

/-- The second kernel's block. -/
def grads (A : Vec Ideal S1024x2048 .bf16) (B : Vec Ideal S512x2048 .bf16) (G : Vec Ideal S2x1024x512 .bf16) : Vec Ideal S2x1024x512 .bf16 :=
  fun y =>
    if (y 0).val = 0 then dgate ((∑ k : Fin 2048, A (ix2 (y 1) k) * B (ix2 (y 2) k)) * Ideal.ofBits .f32 0x3F000000#32) (G (ix3 0 (y 1) (y 2))) (G (ix3 1 (y 1) (y 2)))
    else dup ((∑ k : Fin 2048, A (ix2 (y 1) k) * B (ix2 (y 2) k)) * Ideal.ofBits .f32 0x3F000000#32) (G (ix3 0 (y 1) (y 2)))

theorem prod0 (A : Vec Ideal S1024x2048 .bf16) (B : Vec Ideal S2048x512 .bf16) (r : Fin 1024) (b : Fin 512) :
    k0_pay3 (F := Ideal) A B (ix3 0 r b) = ∑ k : Fin 2048, A (ix2 r k) * B (ix2 k b) := by
  pointwise [k0_pay3, k0_pay1]

theorem gate0 (A : Vec Ideal S256x2048 .bf16) (B : Vec Ideal S512x2048 .bf16) (G U : Vec Ideal S1x256x512 .bf16) (r : Fin 256) (b : Fin 512) :
    k1_pay10 (F := Ideal) A B G U (ix3 0 r b)
      = dgate ((∑ k : Fin 2048, A (ix2 r k) * B (ix2 b k)) * Ideal.ofBits .f32 0x3F000000#32) (G (ix3 0 r b)) (U (ix3 0 r b)) := by
  pointwise [k1_pay10, k1_pay9, k1_pay8, k1_pay7, k1_pay6, dgate, lgs]

theorem up0 (A : Vec Ideal S256x2048 .bf16) (B : Vec Ideal S512x2048 .bf16) (G : Vec Ideal S1x256x512 .bf16) (r : Fin 256) (b : Fin 512) :
    k1_pay11 (F := Ideal) A B G (ix3 0 r b)
      = dup ((∑ k : Fin 2048, A (ix2 r k) * B (ix2 b k)) * Ideal.ofBits .f32 0x3F000000#32) (G (ix3 0 r b)) := by
  pointwise [k1_pay11, k1_pay9, k1_pay8, k1_pay7, k1_pay6, dup, lgs]

/-- The body's text says one computation four times over, once per 256 rows. -/
theorem gates (A : Vec Ideal S256x2048 .bf16) (B : Vec Ideal S512x2048 .bf16) (G U : Vec Ideal S1x256x512 .bf16) :
    k1_pay16 A B G U = k1_pay10 A B G U ∧ k1_pay23 (k1_pay18 A B) G U = k1_pay10 A B G U ∧ k1_pay4 (k1_pay25 A B) G U = k1_pay10 A B G U :=
  ⟨rfl, rfl, rfl⟩
theorem ups (A : Vec Ideal S256x2048 .bf16) (B : Vec Ideal S512x2048 .bf16) (G : Vec Ideal S1x256x512 .bf16) :
    k1_pay17 A B G = k1_pay11 A B G ∧ k1_pay24 (k1_pay18 A B) G = k1_pay11 A B G ∧ k1_pay5 (k1_pay25 A B) G = k1_pay11 A B G :=
  ⟨rfl, rfl, rfl⟩

theorem idx3 {a b : ℕ} (x : (⟨3, ![1, a, b]⟩ : Shape).Idx) : ∃ (r : Fin a) (s : Fin b), x = ix3 0 r s :=
  ⟨x 1, x 2, by
    conv_lhs => rw [eq_ix3 x]
    exact congrArg (fun z => ix3 z (x 1) (x 2)) (Subsingleton.elim (α := Fin 1) (x 0) 0)⟩

theorem emb3 {n g o : ℕ} (i : ∀ a, ![g, o, 0] a + ![1, n, 512] a ≤ S2x1024x512.size a) (r : Fin n) (b : Fin 512) :
    (Rect.unit (s := S2x1024x512) ![g, o, 0] ![1, n, 512] i).emb (ix3 0 r b)
      = ix3 ⟨g, i 0⟩ ⟨o + r.val, lt_of_lt_of_le (Nat.add_lt_add_left r.isLt o) (i 1)⟩ b := by
  funext k
  match k with
  | ⟨0, _⟩ => exact Fin.ext (by show g + 1 * 0 = g; omega)
  | ⟨1, _⟩ => exact Fin.ext (by show o + 1 * r.val = o + r.val; omega)
  | ⟨2, _⟩ => exact Fin.ext (by show 0 + 1 * b.val = b.val; omega)

/-- The first kernel's block, from its two stores. -/
theorem out0 (A : Vec Ideal S1024x2048 .bf16) (B C : Vec Ideal S2048x512 .bf16) : out0_3 (F := Ideal) A B C = prods A B C := by
  frame_out
  funext y
  refine View.canon_append_of_piecesOf (prods A B C) [] [_, _] ⟨fun x => ?_, fun x => ?_, trivial⟩ y
    (View.cover_of_tiledL (s := S2x1024x512) _ ![1, 1024, 512] (by sl_kernel_rfl) y)
  · obtain ⟨r, b, rfl⟩ := idx3 x
    refine (prod0 _ _ r b).trans ?_
    rw [emb3 inb_S2x1024x512_S1x1024x512_1_0_0]
    show _ = ∑ k : Fin 2048, A (ix2 ⟨0 + r.val, _⟩ k) * C (ix2 k b)
    simp only [Nat.zero_add]
  · obtain ⟨r, b, rfl⟩ := idx3 x
    refine (prod0 _ _ r b).trans ?_
    rw [emb3 inb_S2x1024x512_S1x1024x512_0_0_0]
    show _ = ∑ k : Fin 2048, A (ix2 ⟨0 + r.val, _⟩ k) * B (ix2 k b)
    simp only [Nat.zero_add]

section Pieces
variable (A : Vec Ideal S1024x2048 .bf16) (B : Vec Ideal S512x2048 .bf16) (G : Vec Ideal S2x1024x512 .bf16) {o : ℕ}
  (i : ∀ a, ![o, 0] a + ![256, 2048] a ≤ S1024x2048.size a) (j : ∀ a, ![0, o, 0] a + ![1, 256, 512] a ≤ S2x1024x512.size a)
  (k : ∀ a, ![1, o, 0] a + ![1, 256, 512] a ≤ S2x1024x512.size a)

theorem ldRows (r : Fin 256) (e : Fin 2048) :
    View.ld A (Rect.unit (s := S1024x2048) ![o, 0] ![256, 2048] i) (ix2 r e)
      = A (ix2 ⟨o + r.val, lt_of_lt_of_le (Nat.add_lt_add_left r.isLt o) (i 0)⟩ e) :=
  congrArg A (by
    funext k
    match k with
    | ⟨0, _⟩ => exact Fin.ext (by show o + 1 * r.val = o + r.val; omega)
    | ⟨1, _⟩ => exact Fin.ext (by show 0 + 1 * e.val = e.val; omega))

/-- The second kernel's gradient at the gate, 256 rows at a time. -/
theorem gatePiece (x : S1x256x512.Idx) :
    k1_pay10 (F := Ideal) (View.ld A (Rect.unit (s := S1024x2048) ![o, 0] ![256, 2048] i)) B
      (View.ld G (Rect.unit (s := S2x1024x512) ![0, o, 0] ![1, 256, 512] j)) (View.ld G (Rect.unit (s := S2x1024x512) ![1, o, 0] ![1, 256, 512] k)) x
      = grads A B G ((Rect.unit (s := S2x1024x512) ![0, o, 0] ![1, 256, 512] j).emb x) := by
  obtain ⟨r, b, rfl⟩ := idx3 x
  refine (gate0 _ _ _ _ r b).trans ?_
  rw [emb3 j, show View.ld G (Rect.unit (s := S2x1024x512) ![0, o, 0] ![1, 256, 512] j) (ix3 0 r b) = _ from congrArg G (emb3 j r b),
    show View.ld G (Rect.unit (s := S2x1024x512) ![1, o, 0] ![1, 256, 512] k) (ix3 0 r b) = _ from congrArg G (emb3 k r b)]
  exact congrArg (fun p : EReal => dgate (p * _) _ _) (Finset.sum_congr rfl fun e _ => congrArg (fun p : EReal => p * _) (ldRows A i r e))

/-- The second kernel's gradient at the up product, 256 rows at a time. -/
theorem upPiece (x : S1x256x512.Idx) :
    k1_pay11 (F := Ideal) (View.ld A (Rect.unit (s := S1024x2048) ![o, 0] ![256, 2048] i)) B
      (View.ld G (Rect.unit (s := S2x1024x512) ![0, o, 0] ![1, 256, 512] j)) x
      = grads A B G ((Rect.unit (s := S2x1024x512) ![1, o, 0] ![1, 256, 512] k).emb x) := by
  obtain ⟨r, b, rfl⟩ := idx3 x
  refine (up0 _ _ _ r b).trans ?_
  rw [emb3 k, show View.ld G (Rect.unit (s := S2x1024x512) ![0, o, 0] ![1, 256, 512] j) (ix3 0 r b) = _ from congrArg G (emb3 j r b)]
  exact congrArg (fun p : EReal => dup (p * _) _) (Finset.sum_congr rfl fun e _ => congrArg (fun p : EReal => p * _) (ldRows A i r e))

end Pieces

/-- The second kernel's block, from its eight stores. -/
theorem out1 (A : Vec Ideal S1024x2048 .bf16) (B : Vec Ideal S512x2048 .bf16) (G : Vec Ideal S2x1024x512 .bf16) : out1_3 (F := Ideal) A B G = grads A B G := by
  have w : View.ld B r1_1 = B := by funext y; exact congrArg B (by funext k; exact Fin.ext (by fin_cases k <;> simp [Rect.emb]))
  unfold out1_3 k1_pay27 k1_pay26
  simp only [(gates _ _ _ _).1, (gates _ _ _ _).2.1, (gates _ _ _ _).2.2, (ups _ _ _).1, (ups _ _ _).2.1, (ups _ _ _).2.2, w]
  funext y
  refine View.canon_append_of_piecesOf (grads A B G) [] [_, _, _, _, _, _, _, _] ⟨?_, ?_, ?_, ?_, ?_, ?_, ?_, ?_, trivial⟩ y (View.cover_of_tiledL (s := S2x1024x512) _ ![1, 256, 512] (by sl_kernel_rfl) y)
  · exact upPiece A B G (o := 768) _ _ inb_S2x1024x512_S1x256x512_1_768_0
  · exact gatePiece A B G (o := 768) _ inb_S2x1024x512_S1x256x512_0_768_0 _
  · exact upPiece A B G (o := 512) _ _ inb_S2x1024x512_S1x256x512_1_512_0
  · exact gatePiece A B G (o := 512) _ inb_S2x1024x512_S1x256x512_0_512_0 _
  · exact upPiece A B G (o := 256) _ _ inb_S2x1024x512_S1x256x512_1_256_0
  · exact gatePiece A B G (o := 256) _ inb_S2x1024x512_S1x256x512_0_256_0 _
  · exact upPiece A B G (o := 0) _ _ inb_S2x1024x512_S1x256x512_1_0_0
  · exact gatePiece A B G (o := 0) _ inb_S2x1024x512_S1x256x512_0_0_0 _

/-! ## The run -/

section Run
variable {F : FTy → Type} [FloatOps F]
variable (m : (ℓ : Loc nD τ sig) → Buf (Elt F) ℓ) (ρ : Dev nD → PrngReg)

/-- Every execution ends with every unscoped buffer at what the second kernel leaves. -/
theorem run : θ_run defs (onTc (τ := τ) (main (F := F))) ⟨m, fun _ => 0, ρ⟩
    (fun r => (∀ c : Dev nD, ∀ b ∈ Pipeline.ucRefs τ sig, r.2.mem (c, b) = W2 m ρ c b) ∧ r.2.sem = fun _ => 0) :=
  Cert.Held.run_segs (pcfgs (F := F)) adm (pdats m ρ) cellOf_inj defs₀ m ρ main (segs m ρ) (main_run m ρ)
    (by simp only [segs, Pipeline.Seg.pipes_region, Pipeline.Seg.pipes_nil]; decide) (W2 m ρ)
    ⟨fun _ => .rfl, fun _ => .rfl, fun c => by
      unfold Cert.Held.between
      show iprop((StableHlo.held (c : Thread nD τ) (Pipeline.ucRefs τ sig) (W2 m ρ c) ∗ ∃ r, prngReg c r)
        ∗ ∃ Wd, owes (c : Thread nD τ) (0 : CellTallies nD τ sig Unit) Wd) ⊢ _
      iintro ⟨⟨Hh, Hp⟩, HO⟩
      isplitl [Hh]; · iexact Hh
      isplitl [Hp]; · iexact Hp
      iexact HO⟩
    no_unscoped

end Run

/-! ## The arrays the two kernels leave -/

theorem at0 : ∀ t : Fin grid0.N, win0_0.index t = ![t.val % 4, 0] ∧ win0_1.index t = ![0, t.val / 4] ∧ win0_2.index t = ![0, 11 + t.val / 4]
    ∧ win0_3.index t = ![0, t.val % 4, t.val / 4] := by decide +kernel
theorem at1 : ∀ t : Fin grid1.N, win1_0.index t = ![t.val % 4, 0] ∧ win1_1.index t = ![t.val / 4, 0] ∧ win1_2.index t = ![0, t.val % 4, t.val / 4]
    ∧ win1_3.index t = ![0, t.val % 4, t.val / 4] := by decide +kernel

/-- The two products, the gate's and the up product's, and their gradients, as whole arrays. -/
def Prods (X0 : Vec Ideal S4096x2048 .bf16) (X1 : Vec Ideal S2048x11264 .bf16) : Vec Ideal S2x4096x5632 .bf16 :=
  fun y => ∑ k : Fin 2048, X0 (ix2 (y 1) k)
    * X1 (ix2 k ⟨(y 0).val * 5632 + (y 2).val, by have h : (y 0).val < 2 := (y 0).isLt; have h' : (y 2).val < 5632 := (y 2).isLt; omega⟩)
def Grads (X2 : Vec Ideal S5632x2048 .bf16) (X3 : Vec Ideal S4096x2048 .bf16) (G : Vec Ideal S2x4096x5632 .bf16) : Vec Ideal S2x4096x5632 .bf16 :=
  fun y =>
    if (y 0).val = 0 then dgate ((∑ k : Fin 2048, X3 (ix2 (y 1) k) * X2 (ix2 (y 2) k)) * Ideal.ofBits .f32 0x3F000000#32) (G (ix3 0 (y 1) (y 2))) (G (ix3 1 (y 1) (y 2)))
    else dup ((∑ k : Fin 2048, X3 (ix2 (y 1) k) * X2 (ix2 (y 2) k)) * Ideal.ofBits .f32 0x3F000000#32) (G (ix3 0 (y 1) (y 2)))

/-- The row and the column of the array that are a row and a column of a point's block. -/
abbrev row (t : Fin 44) (a : Fin 1024) : Fin 4096 := ⟨t.val % 4 * 1024 + a.val, by have := a.isLt; omega⟩
abbrev cl (t : Fin 44) (b : Fin 512) : Fin 5632 := ⟨t.val / 4 * 512 + b.val, by have := b.isLt; have := t.isLt; omega⟩

section Arrays
variable (m : (ℓ : Loc nD τ sig) → Buf (Elt Ideal) ℓ) (ρ : Dev nD → PrngReg)
abbrev X0 (c : Dev nD) : Vec Ideal S4096x2048 .bf16 := m ((c : Thread nD τ).loc main_arg0)
abbrev X1 (c : Dev nD) : Vec Ideal S2048x11264 .bf16 := m ((c : Thread nD τ).loc main_arg1)
abbrev X2 (c : Dev nD) : Vec Ideal S5632x2048 .bf16 := m ((c : Thread nD τ).loc main_arg2)
abbrev X3 (c : Dev nD) : Vec Ideal S4096x2048 .bf16 := m ((c : Thread nD τ).loc main_arg3)

theorem first (c : Dev nD) : W1 m ρ c (Proc.devRef .tc main_v0_0) = Prods (X0 m c) (X1 m c) := by
  refine (W1_arr m ρ c 3).trans ?_
  refine (dat0 (V0 m ρ) c).arrAt_eq_of_covers 3 _ (by decide +kernel) fun t hf y => ?_
  blk_simp
  rw [after0_3, out0]
  refine Eq.trans ?_ (show Prods (X0 m c) (X1 m c) (ix3 (y 0) (row t (y 1)) (cl t (y 2))) = _ by generalize Prods _ _ = G; blk_ext [at0 t, row, cl])
  rw [show iblk0 (V0 m ρ) c 0 t = fun y => X0 m c (ix2 (row t (y 0)) (y 1)) by funext y; blk_ext! [iblk0, V0, W0, at0 t, row],
    show iblk0 (V0 m ρ) c 1 t = fun y => X1 m c (ix2 (y 0) ⟨(cl t (y 1)).val, lt_trans (cl t (y 1)).isLt (by decide)⟩) by funext y; blk_ext! [iblk0, V0, W0, at0 t, cl],
    show iblk0 (V0 m ρ) c 2 t = fun y => X1 m c (ix2 (y 0) ⟨5632 + (cl t (y 1)).val, Nat.add_lt_add_left (cl t (y 1)).isLt 5632⟩) by funext y; blk_ext! [iblk0, V0, W0, at0 t, cl]]
  obtain ⟨g, r, b, rfl⟩ : ∃ (g : Fin 2) (r : Fin 1024) (b : Fin 512), y = ix3 g r b := ⟨y 0, y 1, y 2, eq_ix3 y⟩
  refine Finset.sum_congr (M := EReal) rfl fun k _ => congrArg (fun p : EReal => _ * p) ?_
  match g with
  | 0 => exact congrArg (X1 m c) (congrArg (ix2 k) (Fin.ext (by show (cl t b).val = 0 * 5632 + (cl t b).val; omega)))
  | 1 => exact congrArg (X1 m c) (congrArg (ix2 k) (Fin.ext (by show 5632 + (cl t b).val = 1 * 5632 + (cl t b).val; omega)))

theorem second (c : Dev nD) : W2 m ρ c (Proc.devRef .tc main_v1) = Grads (X2 m c) (X3 m c) (Prods (X0 m c) (X1 m c)) := by
  rw [← first m ρ c]
  refine (W2_arr m ρ c 3).trans ?_
  refine (dat1 (V1 m ρ) c).arrAt_eq_of_covers 3 _ (by decide +kernel) fun t hf y => ?_
  blk_simp
  rw [after1_3, out1]
  refine Eq.trans ?_ (show Grads (X2 m c) (X3 m c) (W1 m ρ c (Proc.tc.devRef main_v0_0)) (ix3 (y 0) (row t (y 1)) (cl t (y 2))) = _ by generalize Grads _ _ _ = G; blk_ext [at1 t, row, cl])
  rw [show iblk1 (V1 m ρ) c 0 t = fun y => V1 m ρ c main_arg3 (ix2 (row t (y 0)) (y 1)) by funext y; blk_ext! [iblk1, at1 t, row],
    show iblk1 (V1 m ρ) c 1 t = fun y => V1 m ρ c main_arg2 (ix2 (cl t (y 0)) (y 1)) by funext y; blk_ext! [iblk1, at1 t, cl],
    show iblk1 (V1 m ρ) c 2 t = fun y => V1 m ρ c main_v0_0 (ix3 (y 0) (row t (y 1)) (cl t (y 2))) by funext y; blk_ext! [iblk1, at1 t, row, cl],
    show V1 m ρ c main_arg2 = X2 m c from W1_args m ρ c _ (by decide),
    show V1 m ρ c main_arg3 = X3 m c from W1_args m ρ c _ (by decide)]
  rfl
end Arrays

section Ref
variable (x0 : Vec Ideal S4096x2048 .bf16) (x1 : Vec Ideal S2048x11264 .bf16) (x2 : Vec Ideal S5632x2048 .bf16) (x3 : Vec Ideal S4096x2048 .bf16)
  (r : Fin 4096) (s : Fin 5632)
theorem ref0 : val_main_v21 (F := Ideal) x0 x1 x2 x3 (ix3 0 r s) = val_main_v17 (F := Ideal) x0 x1 x2 x3 (ix2 r s) := by
  pointwise [val_main_v21, val_main_v20, val_main_v19, val_main_v18]
theorem ref1 : val_main_v21 (F := Ideal) x0 x1 x2 x3 (ix3 1 r s) = val_main_v15 (F := Ideal) x0 x1 x2 x3 (ix2 r s) := by
  pointwise [val_main_v21, val_main_v20, val_main_v19, val_main_v18]
theorem gateRef : val_main_v5 (F := Ideal) x0 x1 (ix2 r s) = Prods x0 x1 (ix3 0 r s) := by
  pointwise [val_main_v5, val_main_v4, val_main_v0, val_main_v1, Prods]
theorem upRef : val_main_v6 (F := Ideal) x0 x1 (ix2 r s) = Prods x0 x1 (ix3 1 r s) := by
  pointwise [val_main_v6, val_main_v4, val_main_v0, val_main_v1, Prods]
theorem dRef : val_main_v14 (F := Ideal) x2 x3 (ix2 r s) = ∑ k : Fin 2048, Ideal.ofBits .f32 0x3F000000#32 * x3 (ix2 r k) * x2 (ix2 s k) := by
  pointwise [val_main_v14, val_main_v13, val_main_v12, val_main_cst_0, val_main_v3, val_main_v2]
theorem lgsRef : val_main_v7_2 (F := Ideal) x0 x1 (ix2 r s) = Ideal.div (Ideal.ofBits .f32 0x3F800000#32)
    (Ideal.ofBits .f32 0x3F800000#32 + Ideal.exp (-(val_main_v5 (F := Ideal) x0 x1 (ix2 r s)))) := by
  pointwise [val_main_v7_2, val_main_call0_v4, val_main_call0_cst_0, val_main_call0_v3, val_main_call0_v2, val_main_call0_cst, val_main_call0_v1, val_main_call0_v0]
theorem ref17 (g u d l : EReal) (hg : val_main_v5 (F := Ideal) x0 x1 (ix2 r s) = g) (hu : val_main_v6 (F := Ideal) x0 x1 (ix2 r s) = u)
    (hd : val_main_v14 (F := Ideal) x2 x3 (ix2 r s) = d) (hl : val_main_v7_2 (F := Ideal) x0 x1 (ix2 r s) = l) :
    val_main_v17 (F := Ideal) x0 x1 x2 x3 (ix2 r s) = d * u * l + g * (d * u) * (l * (Ideal.ofBits .f32 0x3F800000#32 - l)) := by
  subst hg hu hd hl
  pointwise [val_main_v17, val_main_call1_v1, val_main_call1_v2, val_main_call1_v0, val_main_v16, val_main_v7_1, val_main_call0_v7, val_main_call0_v6, val_main_call0_cst_1]
theorem ref15 (g d l : EReal) (hg : val_main_v5 (F := Ideal) x0 x1 (ix2 r s) = g)
    (hd : val_main_v14 (F := Ideal) x2 x3 (ix2 r s) = d) (hl : val_main_v7_2 (F := Ideal) x0 x1 (ix2 r s) = l) :
    val_main_v15 (F := Ideal) x0 x1 x2 x3 (ix2 r s) = g * l * d := by
  subst hg hd hl
  pointwise [val_main_v15, val_main_v7_0]

theorem half_bf16 : Ideal.ofBits .bf16 0x3F00#16 = ((1 / 2 : ℝ) : EReal) := by
  simp [Ideal.ofBits, Ideal.ieee, -EReal.coe_mul]; norm_num
theorem one_bf16 : Ideal.ofBits .bf16 0x3F80#16 = ((1 : ℝ) : EReal) := by
  simp [Ideal.ofBits, Ideal.ieee, -EReal.coe_mul]; norm_num

/-- The logistic function, as a hyperbolic tangent and as a quotient. -/
theorem logistic_real (g : ℝ) : 1 / (1 + Real.exp (-g)) = 1 / 2 * Real.tanh (1 / 2 * g) + 1 / 2 := by
  have e : Real.exp (-g) = Real.exp (-(1 / 2 * g)) * Real.exp (-(1 / 2 * g)) := by rw [← Real.exp_add]; congr 1; ring
  have h : Real.exp (1 / 2 * g) * Real.exp (-(1 / 2 * g)) = 1 := by rw [← Real.exp_add]; simp
  rw [Real.tanh_eq_sinh_div_cosh, Real.sinh_eq, Real.cosh_eq, e]
  have p := Real.exp_pos (1 / 2 * g)
  have q := Real.exp_pos (-(1 / 2 * g))
  generalize Real.exp (1 / 2 * g) = a at *
  generalize Real.exp (-(1 / 2 * g)) = b at *
  have : a + b ≠ 0 := by positivity
  have : 1 + b * b ≠ 0 := by positivity
  field_simp
  linear_combination (-2 * b) * h

variable (f0 : S4096x2048.Idx → ℝ) (f1 : S2048x11264.Idx → ℝ) (f2 : S5632x2048.Idx → ℝ) (f3 : S4096x2048.Idx → ℝ)
/-- The two programs' one value, where the arguments are reals. -/
theorem value : Grads (fun i => (f2 i : EReal)) (fun i => (f3 i : EReal)) (Prods (fun i => (f0 i : EReal)) (fun i => (f1 i : EReal)))
    = val_main_v21 (F := Ideal) (fun i => (f0 i : EReal)) (fun i => (f1 i : EReal)) (fun i => (f2 i : EReal)) (fun i => (f3 i : EReal)) := by
  funext y
  obtain ⟨a, r, s, rfl⟩ : ∃ (a : Fin 2) (r : Fin 4096) (s : Fin 5632), y = ix3 a r s := ⟨y 0, y 1, y 2, eq_ix3 y⟩
  have P : ∀ a : Fin 2, ∃ p : ℝ, Prods (fun i => (f0 i : EReal)) (fun i => (f1 i : EReal)) (ix3 a r s) = (p : EReal) := fun a =>
    ⟨_, by unfold Prods; simp only [← EReal.coe_mul]; exact (Cert.Reals.coe_sum _ _).symm⟩
  obtain ⟨g, hg⟩ := P 0
  obtain ⟨u, hu⟩ := P 1
  have hl : val_main_v7_2 (F := Ideal) (fun i => (f0 i : EReal)) (fun i => (f1 i : EReal)) (ix2 r s)
      = ((1 / 2 * Real.tanh (1 / 2 * g) + 1 / 2 : ℝ) : EReal) := by
    rw [lgsRef, gateRef, hg, Cert.Reals.one_f32, ← EReal.coe_neg, Ideal.exp_coe, ← EReal.coe_add,
      Cert.Reals.div_real _ (by positivity), logistic_real]
  have hl' : lgs (g : EReal) = ((1 / 2 * Real.tanh (1 / 2 * g) + 1 / 2 : ℝ) : EReal) := by
    unfold lgs
    rw [half_bf16, ← EReal.coe_mul, Ideal.tanh_coe, ← EReal.coe_mul, ← EReal.coe_add]
  generalize 1 / 2 * Real.tanh (1 / 2 * g) + 1 / 2 = l at hl hl'
  have hd : val_main_v14 (F := Ideal) (fun i => (f2 i : EReal)) (fun i => (f3 i : EReal)) (ix2 r s)
      = (((∑ k : Fin 2048, f3 (ix2 r k) * f2 (ix2 s k)) * (1 / 2) : ℝ) : EReal) := by
    rw [dRef]
    simp only [Cert.Reals.half_f32, ← EReal.coe_mul, ← Cert.Reals.coe_sum]
    refine congrArg _ ?_
    rw [Finset.sum_mul]
    exact Finset.sum_congr rfl fun k _ => by ring
  have hd' : (∑ k : Fin 2048, (f3 (ix2 r k) : EReal) * (f2 (ix2 s k) : EReal)) * Ideal.ofBits .f32 0x3F000000#32
      = (((∑ k : Fin 2048, f3 (ix2 r k) * f2 (ix2 s k)) * (1 / 2) : ℝ) : EReal) := by
    simp only [Cert.Reals.half_f32, ← EReal.coe_mul, ← Cert.Reals.coe_sum]
  generalize (∑ k : Fin 2048, f3 (ix2 r k) * f2 (ix2 s k)) * (1 / 2) = d at hd hd'
  match a with
  | 0 =>
    rw [ref0, ref17 _ _ _ _ r s _ _ _ _ ((gateRef _ _ r s).trans hg) ((upRef _ _ r s).trans hu) hd hl]
    show dgate ((∑ k : Fin 2048, (f3 (ix2 r k) : EReal) * (f2 (ix2 s k) : EReal)) * Ideal.ofBits .f32 0x3F000000#32) (Prods _ _ (ix3 0 r s)) (Prods _ _ (ix3 1 r s)) = _
    rw [hd', hg, hu]
    unfold dgate
    rw [hl', one_bf16, Cert.Reals.one_f32]
    simp only [← EReal.coe_mul, ← EReal.coe_sub, ← EReal.coe_add]
    exact congrArg _ (by ring)
  | 1 =>
    rw [ref1, ref15 _ _ _ _ r s _ _ _ ((gateRef _ _ r s).trans hg) hd hl]
    show dup ((∑ k : Fin 2048, (f3 (ix2 r k) : EReal) * (f2 (ix2 s k) : EReal)) * Ideal.ofBits .f32 0x3F000000#32) (Prods _ _ (ix3 0 r s)) = _
    rw [hd', hg]
    unfold dup
    rw [hl']
    exact mul_comm _ _
end Ref

instance : Cert.Pre_swiglu_finite.Facts := ⟨by decide, by decide, by decide⟩

theorem algebraic : Cert.algebraic_SwigluIdeal_SwigluRefIdeal_pre_swiglu_finite := by
  intro m ρ m' ρ' hpre hagree
  have val : ∀ c : Dev nD, Grads (X2 m c) (X3 m c) (Prods (X0 m c) (X1 m c)) = val_main_v21 (F := Ideal) (X0 m c) (X1 m c) (X2 m c) (X3 m c) := by
    intro c
    obtain ⟨p0, p1, p2, p3⟩ := hpre c
    obtain ⟨f0, h0⟩ := Cert.Reals.reals_of_lt _ _ _ Cert.Reals.inf_bf16 p0
    obtain ⟨f1, h1⟩ := Cert.Reals.reals_of_lt _ _ _ Cert.Reals.inf_bf16 p1
    obtain ⟨f2, h2⟩ := Cert.Reals.reals_of_lt _ _ _ Cert.Reals.inf_bf16 p2
    obtain ⟨f3, h3⟩ := Cert.Reals.reals_of_lt _ _ _ Cert.Reals.inf_bf16 p3
    rw [show X0 m c = _ from h0, show X1 m c = _ from h1, show X2 m c = _ from h2, show X3 m c = _ from h3]
    exact value f0 f1 f2 f3
  refine ⟨fun c => Grads (X2 m c) (X3 m c) (Prods (X0 m c) (X1 m c)), ?_, ?_⟩
  · refine (θ_run defs _ _).mono (fun r h c => ?_) (run (F := Ideal) m ρ)
    have hb := fun b hb => h.1 c _ (mem_uc b hb)
    exact ⟨(hb main_v1 (by decide)).trans (second m ρ c), (hb main_arg0 (by decide)).trans (W2_main_arg0 m ρ c),
      (hb main_arg1 (by decide)).trans (W2_main_arg1 m ρ c), (hb main_arg2 (by decide)).trans (W2_main_arg2 m ρ c),
      (hb main_arg3 (by decide)).trans (W2_main_arg3 m ρ c)⟩
  · refine (θ_run Cert.SwigluRefIdeal.defs _ _).mono (fun r h c => ⟨?_, (h c).2⟩) (Cert.SwigluRefIdeal.Value.run (F := Ideal) m' ρ')
    rw [(h c).1, val_main_v21_eq, (hagree c).1, (hagree c).2.1, (hagree c).2.2.1, (hagree c).2.2.2]
    exact (val c).symm

end Cert.SwigluValue

end
-- ==== Proof.Norm1Frame.lean ====
/- The block's norm and its gradients: the two kernels run to what every unscoped buffer ends holding, over any numbers. -/
module

public import proofs.«01_k».proof.Proof.Held
public import proofs.«01_k».proof.Proof.Gen.Norm1Ideal.Launch
public import proofs.«01_k».proof.Proof.Gen.Norm1Ideal.Skeleton
public import proofs.«01_k».proof.Proof.Gen.Norm1Ideal.Points
public import Idealize.ShloMosaic.Lib.Ring
public import Idealize.ShloMosaic.Lib.Tactic

@[expose] public section

set_option maxRecDepth 16384

noncomputable section

namespace Cert.Norm1Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Norm1Ideal Cert.Norm1Ideal.Gen

variable {F : FTy → Type} [FloatOps F]

local notation "𝕄" => MT nD τ sig Unit (Elt F) ℕ (UR sig nD τ) ℕ

/-! ## The norm -/

theorem off : (![0, 0] : Fin 2 → Nat) = fun _ => 0 := by decide

/-- The norm's body: the row factors in its second output, the normalized rows in its first. -/
theorem body0 (c : Dev nD) (i : grid0.Coords) (a1 : Memref sig .tc .vmem S512x2048 .f32) (h1 : a1.IsWhole)
    (a2 : Memref sig .tc .vmem S1x2048 .f32) (h2 : a2.IsWhole) (a3 : Memref sig .tc .vmem S512x2048 .bf16) (h3 : a3.IsWhole)
    (a4 : Memref sig .tc .vmem S512x1 .f32) (h4 : a4.IsWhole) (x0 : Vec F S512x2048 .f32) (x1 : Vec F S1x2048 .f32) (K : PUnit → sProp 𝕄) :
    iprop(owns (c : Thread nD τ) a1 fullShare x0 ∗ owns (c : Thread nD τ) a2 fullShare x1 ∗ (∃ d, owns (c : Thread nD τ) a3 fullShare d)
        ∗ (∃ d, owns (c : Thread nD τ) a4 fullShare d)
        ∗ (iprop(owns (c : Thread nD τ) a1 fullShare x0 ∗ owns (c : Thread nD τ) a2 fullShare x1
          ∗ owns (c : Thread nD τ) a3 fullShare (k0_pay2 x0 x1) ∗ owns (c : Thread nD τ) a4 fullShare (k0_pay1 x0)) -∗ K ⟨⟩))
      ⊢ wp frame (wpE (defs₀ (F := F)) Variants.none c none) Set.univ (cc0_norm1 i a1 h1 a2 h2 a3 h3 a4 h4) K := by
  rw [cc0_norm1_eq_skeleton]; unfold cc0_norm1_skel
  iintro ⟨H0, H1, ⟨%d2, H2⟩, ⟨%d3, H3⟩, Hk⟩
  unfold owns
  icases H0 with ⟨%f0, %e0, H0⟩
  icases H1 with ⟨%f1, %e1, H1⟩
  icases H2 with ⟨%f2, -, H2⟩
  icases H3 with ⟨%f3, -, H3⟩
  subst e0 e1
  sl_exec
  sl_step
  iapply Hk
  isplitl [H0]; · iapply (Cert.Held.holds (c : Thread nD τ) a1 _ rfl); iexact H0
  isplitl [H1]; · iapply (Cert.Held.holds (c : Thread nD τ) a2 _ rfl); iexact H1
  isplitl [H2]
  · iexists _; isplitr
    swap; · iexact H2
    ipureintro
    refine Cert.Held.read_stored _ _ off _ ?_ _
    simp (config := { proj := false }) only [Cert.Held.load_all, off]
  iexists _; isplitr
  swap; · iexact H3
  ipureintro
  refine Cert.Held.read_stored _ _ off _ ?_ _
  simp (config := { proj := false }) only [Cert.Held.load_all, off]

/-! ## The gradients -/

/-- The gradients' kernel stores its third output at the first point and adds to it at the others. -/
theorem first : ∀ t : Fin grid1.N, t.val % 8 = 0 → k1_cond1 (grid1.coords t) = 1#1 ∧ ¬k1_cond2 (grid1.coords t) = 1#1 := by decide +kernel
theorem later : ∀ t : Fin grid1.N, ¬t.val % 8 = 0 → ¬k1_cond1 (grid1.coords t) = 1#1 ∧ k1_cond2 (grid1.coords t) = 1#1 := by decide +kernel

/-- What its body leaves in its outputs, the third's old contents being `x7`. -/
theorem body1 (c : Dev nD) (i : grid1.Coords) (a1 : Memref sig .tc .vmem S512x2048 .f32) (h1 : a1.IsWhole)
    (a2 : Memref sig .tc .vmem S512x2048 .f32) (h2 : a2.IsWhole) (a3 : Memref sig .tc .vmem S512x1 .f32) (h3 : a3.IsWhole)
    (a4 : Memref sig .tc .vmem S1x2048 .f32) (h4 : a4.IsWhole) (a5 : Memref sig .tc .vmem S512x2048 .f32) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (x0 x1 : Vec F S512x2048 .f32) (x2 : Vec F S512x1 .f32) (x3 : Vec F S1x2048 .f32) (x4 : Vec F S512x2048 .f32) (x7 y7 : Vec F S1x2048 .f32)
    (hy : (k1_cond1 i = 1#1 ∧ ¬k1_cond2 i = 1#1 ∧ y7 = k1_pay5 x1 x2 x0)
      ∨ (¬k1_cond1 i = 1#1 ∧ k1_cond2 i = 1#1 ∧ y7 = k1_pay1 (k1_pay5 x1 x2 x0) x7)) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d) ∗ owns (c : Thread nD τ) a8 fullShare x7
        ∗ (iprop(owns (c : Thread nD τ) a1 fullShare x0 ∗ owns (c : Thread nD τ) a2 fullShare x1 ∗ owns (c : Thread nD τ) a3 fullShare x2
          ∗ owns (c : Thread nD τ) a4 fullShare x3 ∗ owns (c : Thread nD τ) a5 fullShare x4
          ∗ owns (c : Thread nD τ) a6 fullShare (k1_pay3 x1 x2 x0 x3 x2 x4) ∗ owns (c : Thread nD τ) a7 fullShare (k1_pay4 x1 x2 x0 x3 x2 x4)
          ∗ owns (c : Thread nD τ) a8 fullShare y7) -∗ K ⟨⟩))
      ⊢ wp frame (wpE (defs₀ (F := F)) Variants.none c none) Set.univ
          (cc1_norm1_bwd i a1 h1 a2 h2 a3 h3 a4 h4 a5 h5 a6 h6 a7 h7 a8 h8) K := by
  simp only [cc1_norm1_bwd_eq_skeleton]; unfold cc1_norm1_bwd_skel
  iintro ⟨H0, H1, H2, H3, H4, ⟨%d5, H5⟩, ⟨%d6, H6⟩, H7, Hk⟩
  unfold owns
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, -, H5⟩
  icases H6 with ⟨%f6, -, H6⟩
  icases H7 with ⟨%f7, %e7, H7⟩
  subst e0 e1 e2 e3 e4 e7
  rcases hy with ⟨hc1, hc2, rfl⟩ | ⟨hc1, hc2, rfl⟩
  all_goals
    sl_exec (disch := first | sl_exact hc1 | sl_exact hc2)
    sl_step
    iapply Hk
    isplitl [H0]; · iapply (Cert.Held.holds (c : Thread nD τ) a1 _ rfl); iexact H0
    isplitl [H1]; · iapply (Cert.Held.holds (c : Thread nD τ) a2 _ rfl); iexact H1
    isplitl [H2]; · iapply (Cert.Held.holds (c : Thread nD τ) a3 _ rfl); iexact H2
    isplitl [H3]; · iapply (Cert.Held.holds (c : Thread nD τ) a4 _ rfl); iexact H3
    isplitl [H4]; · iapply (Cert.Held.holds (c : Thread nD τ) a5 _ rfl); iexact H4
    isplitl [H5]
    · iexists _; isplitr
      swap; · iexact H5
      ipureintro
      refine Cert.Held.read_stored _ _ off _ ?_ _
      simp (config := { proj := false }) only [Cert.Held.load_all, off]
    isplitl [H6]
    · iexists _; isplitr
      swap; · iexact H6
      ipureintro
      refine Cert.Held.read_stored _ _ off _ ?_ _
      simp (config := { proj := false }) only [Cert.Held.load_all, off]
    iexists _; isplitr
    swap; · iexact H7
    ipureintro
    refine Cert.Held.read_stored _ _ off _ ?_ _
    simp (config := { proj := false }) only [Cert.Held.load_all, off]
    try (unfold body1.sl.r_1; simp (config := { proj := false }) only [Cert.Held.load_all, off])

/-! ## What each region leaves, point by point -/

section Regions
variable (V : (c : Dev nD) → (b : Ref sig .tc) → Buf (Elt F) ((c : Thread nD τ).loc b))

/-- A window's block at a point, of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The norm's blocks after a point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay2 (blk0 V c 0 t) (blk0 V c 1 t)
    | ⟨3, _⟩ => k0_pay1 (blk0 V c 0 t)
  Φ _ := Pipeline.ΦA spec0 c
  q _ := fullShare
  owed _ := 0

/-- One point's part of the gain's gradient, and the sum of the parts up to a point. -/
def part (c : Dev nD) (t : Fin cfg1.N) : Vec F S1x2048 .f32 := k1_pay5 (blk1 V c 1 t) (blk1 V c 2 t) (blk1 V c 0 t)
def acc (c : Dev nD) : (n : ℕ) → n < cfg1.N → Vec F S1x2048 .f32
  | 0, h => part V c ⟨0, h⟩
  | n + 1, h => if (n + 1) % 8 = 0 then part V c ⟨n + 1, h⟩ else k1_pay1 (part V c ⟨n + 1, h⟩) (acc c n (Nat.lt_of_succ_lt h))

theorem acc_first (c : Dev nD) (t : Fin cfg1.N) (h : t.val % 8 = 0) : acc V c t.val t.isLt = part V c t := by
  obtain ⟨n, hn⟩ := t
  cases n with
  | zero => rfl
  | succ n => exact if_pos h
theorem acc_later (c : Dev nD) (t : Fin cfg1.N) (h : ¬t.val % 8 = 0) :
    acc V c t.val t.isLt = k1_pay1 (part V c t) (acc V c (t.val - 1) (Nat.lt_of_le_of_lt (Nat.sub_le _ _) t.isLt)) := by
  obtain ⟨n, hn⟩ := t
  cases n with
  | zero => exact absurd (Nat.zero_mod _) h
  | succ n => exact if_neg h

/-- The gradients' blocks after a point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay3 (blk1 V c 1 t) (blk1 V c 2 t) (blk1 V c 0 t) (blk1 V c 3 t) (blk1 V c 2 t) (blk1 V c 4 t)
    | ⟨6, _⟩ => k1_pay4 (blk1 V c 1 t) (blk1 V c 2 t) (blk1 V c 0 t) (blk1 V c 3 t) (blk1 V c 2 t) (blk1 V c 4 t)
    | ⟨7, _⟩ => acc V c t.val t.isLt
  Φ _ := Pipeline.ΦA spec1 c
  q _ := fullShare
  owed _ := 0

theorem A0 (c : Dev nD) (w : Fin cfg0.W) : (dat0 V c).A w = V c (Pipeline.arrRef spec0 w) := by dsimp only [dat0]
theorem A1 (c : Dev nD) (w : Fin cfg1.W) : (dat1 V c).A w = V c (Pipeline.arrRef spec1 w) := by dsimp only [dat1]

theorem before0 (c : Dev nD) (w : Fin cfg0.W) (hw : w = 0 ∨ w = 1) (t : Fin cfg0.N) (d) :
    (dat0 V c).before w t d = (dat0 V c).after w t := by
  rcases hw with rfl | rfl <;>
    exact Cert.Held.before_in _ _ rfl (fun _ => rfl) (fun _ _ => rfl) (fun t => by unfold Dat.blockOf; rw [A0]; dsimp only [dat0]; rfl) t d

theorem before1 (c : Dev nD) (w : Fin cfg1.W) (hw : w = 0 ∨ w = 1 ∨ w = 2 ∨ w = 3 ∨ w = 4) (t : Fin cfg1.N) (d) :
    (dat1 V c).before w t d = (dat1 V c).after w t := by
  rcases hw with rfl | rfl | rfl | rfl | rfl <;>
    exact Cert.Held.before_in _ _ rfl (fun _ => rfl) (fun _ _ => rfl) (fun t => by unfold Dat.blockOf; rw [A1]; dsimp only [dat1]; rfl) t d

/-- The third output is stored at every point. -/
theorem live : ∀ i : grid1.Coords, cfg1.idle 7 i = false := by decide +kernel

theorem before1_7 (c : Dev nD) (t : Fin cfg1.N) (h : ¬t.val % 8 = 0) (d) :
    (dat1 V c).before 7 t d = acc V c (t.val - 1) (Nat.lt_of_le_of_lt (Nat.sub_le _ _) t.isLt) := by
  have hN : t.val < 8 := lt_of_lt_of_eq t.isLt (show cfg1.N = 8 from N_1)
  rw [Dat.before_out_kept _ 7 rfl t (by omega) (Bool.eq_false_iff.mpr fun e => by have := (flush1_7 _).mp e; dsimp only at this; omega)
    live (fun _ _ => rfl)]
  dsimp only [dat1]

theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [before0 V c 0 (.inl rfl), before0 V c 1 (.inr rfl)]
  unfold bodyAt0
  rw [show (dat0 V c).Φ t.succ = (dat0 V c).Φ t.castSucc from rfl, show (dat0 V c).owesAt () t.succ = (dat0 V c).owesAt () t.castSucc from rfl]
  refine triple_restated ?_ rfl .rfl fun _ => .rfl
  iintro ⟨HΦ, Ho, ⟨%d0, H0⟩, ⟨%d1, H1⟩, ⟨%d2, H2⟩, ⟨%d3, H3⟩⟩
  iapply (body0 c (grid0.coords t) _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  simp only [before1 V c 0 (by decide), before1 V c 1 (by decide), before1 V c 2 (by decide), before1 V c 3 (by decide), before1 V c 4 (by decide)]
  unfold bodyAt1
  rw [show (dat1 V c).Φ t.succ = (dat1 V c).Φ t.castSucc from rfl, show (dat1 V c).owesAt () t.succ = (dat1 V c).owesAt () t.castSucc from rfl]
  have hy (d) : (k1_cond1 (grid1.coords t) = 1#1 ∧ ¬k1_cond2 (grid1.coords t) = 1#1 ∧ acc V c t.val t.isLt = part V c t)
      ∨ (¬k1_cond1 (grid1.coords t) = 1#1 ∧ k1_cond2 (grid1.coords t) = 1#1
        ∧ acc V c t.val t.isLt = k1_pay1 (part V c t) ((dat1 V c).before 7 t d)) := by
    by_cases h : t.val % 8 = 0
    · exact .inl ⟨(first t h).1, (first t h).2, acc_first V c t h⟩
    · exact .inr ⟨(later t h).1, (later t h).2, by rw [before1_7 V c t h d]; exact acc_later V c t h⟩
  refine triple_restated ?_ rfl .rfl fun _ => .rfl
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1 c (grid1.coords t) _ _ _ _ _ _ _ _ _ _ _ _ _ _ _ _ (blk1 V c 0 t) (blk1 V c 1 t) (blk1 V c 2 t) (blk1 V c 3 t)
    (blk1 V c 4 t) ((dat1 V c).before 7 t d7) (acc V c t.val t.isLt) (hy d7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show idle1 7 (grid1.coords t) = false from live _]
  iexact H7

end Regions

/-! ## The run -/

section Run
variable (m : (ℓ : Loc nD τ sig) → Buf (Elt F) ℓ) (ρ : Dev nD → PrngReg)

/-- The unscoped buffers at launch, between the two kernels, and at the end. -/
abbrev W0 (c : Dev nD) : Valuation τ sig (Elt F) := fun b => m (c, b)
abbrev V0 (c : Dev nD) (b : Ref sig .tc) : Buf (Elt F) ((c : Thread nD τ).loc b) := W0 m c b
def W1 (c : Dev nD) : Valuation τ sig (Elt F) := Pipeline.afterRegion (dat0 (V0 m) c) (W0 m c)
abbrev V1 (c : Dev nD) (b : Ref sig .tc) : Buf (Elt F) ((c : Thread nD τ).loc b) := W1 m c b
def W2 (c : Dev nD) : Valuation τ sig (Elt F) := Pipeline.afterRegion (dat1 (V1 m) c) (W1 m c)

/-- No kernel changes an argument. -/
theorem W1_keeps (c : Dev nD) (r : Ref sig .tc) (h : ∀ w, Pipeline.arrRef spec0 w = r → (cfg0.win w).isOut = false) :
    W1 m c (Proc.devRef .tc r) = m ((c : Thread nD τ).loc r) :=
  Pipeline.afterRegion_keeps (dat0 (V0 m) c) (W0 m c) launch0.win.arr_inj (A0 _ c) r h
theorem W2_keeps (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (V1 m) c) (W1 m c) launch1.win.arr_inj (A1 _ c) r h
theorem W2_arg (c : Dev nD) : ∀ r ∈ ([main_arg0, main_arg1, main_arg2, main_arg3] : List (Ref sig .tc)),
    W2 m c (Proc.devRef .tc r) = m ((c : Thread nD τ).loc r) := fun r hr =>
  (W2_keeps m c r (by revert r; decide +kernel)).trans (W1_keeps m c r (by revert r; decide +kernel))

def pdats : (p : Fin 2) → (c : Dev nD) → Dat τ (Elt F) Unit ℕ (UR sig nD τ) ℕ (Pipeline.pin (pcfgs (F := F)) (fun p => (cfgs p).toPCfg_adm) p) c
  | ⟨0, _⟩, c => dat0 (V0 m) c
  | ⟨1, _⟩, c => dat1 (V1 m) c

def reg0 := Cert.Held.region (pcfgs (F := F)) (fun p => (cfgs p).toPCfg_adm) (pdats m) defs₀ 0 launch0.toP rfl
  (fun c => (obligation0 (V0 m) c).loose) (fun _ _ => rfl) (fun _ => rfl) (fun c => (dat0 (V0 m) c).share_full fun _ => rfl)
  (fun _ => .rfl) (fun _ => .rfl) (W0 m) (fun c => A0 (V0 m) c)
def reg1 := Cert.Held.region (pcfgs (F := F)) (fun p => (cfgs p).toPCfg_adm) (pdats m) defs₀ 1 launch1.toP rfl
  (fun c => (obligation1 (V1 m) c).loose) (fun _ _ => rfl) (fun _ => rfl) (fun c => (dat1 (V1 m) c).share_full fun _ => rfl)
  (fun _ => .rfl) (fun _ => .rfl) (W1 m) (fun c => A1 (V1 m) c)

/-- Every execution ends with every unscoped buffer at what the second kernel leaves. -/
theorem run : θ_run defs (onTc (τ := τ) (main (F := F))) ⟨m, fun _ => 0, ρ⟩
    (fun r => (∀ c : Dev nD, ∀ b ∈ Pipeline.ucRefs τ sig, r.2.mem (c, b) = W2 m c b) ∧ r.2.sem = fun _ => 0) :=
  Cert.Held.run_segs (pcfgs (F := F)) _ (pdats m) cellOf_inj defs₀ m ρ main [.region (reg0 m), .region (reg1 m)]
    (main_segs _ _ _ _ _ _ (reg0 m) (reg1 m)) (by simp only [Pipeline.Seg.pipes_region, Pipeline.Seg.pipes_nil]; decide) (W2 m)
    ⟨fun _ => .rfl, fun _ => .rfl, fun _ => .rfl⟩ (by decide)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    have e (r : Ref sig .tc) (hu : ¬(Proc.devRef .tc r : DevRef τ sig).isScoped) (hr) :=
      (h.1 c _ (Cert.Held.mem_uc r hu)).trans (W2_arg m c r hr)
    exact ⟨e main_arg0 (by decide) (by decide), e main_arg1 (by decide) (by decide), e main_arg2 (by decide) (by decide),
      e main_arg3 (by decide) (by decide)⟩, h.2⟩) (run m ρ)

end Run

end Cert.Norm1Frame

end
-- ==== Proof.Norm1Value.lean ====
/- The block's norm and its gradients: what the idealized program ends holding, and that the reference ends holding the
   same. -/
module

public import proofs.«01_k».proof.Proof.Norm1Frame
public import proofs.«01_k».proof.Proof.Reals
public import proofs.«01_k».proof.Proof.Gen.Norm1RefIdeal.Run
public import proofs.«01_k».proof.Proof.Gen.Norm1RefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.Norm1Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Norm1Ideal Cert.Norm1Ideal.Gen Cert.Norm1Frame Cert.Norm1RefIdeal.Read

/-! ## One point's numbers -/

/-- The row of the array that is row `j` of point `t`'s block. -/
abbrev row (t : Fin 8) (j : Fin 512) : Fin 4096 := ⟨t.val * 512 + j.val, by have := t.isLt; have := j.isLt; omega⟩

/-- Point `t`'s 512 rows of an array. -/
def rows {n : ℕ} (t : Fin 8) (X : (⟨2, ![4096, n]⟩ : Shape).Idx → EReal) : (⟨2, ![512, n]⟩ : Shape).Idx → EReal :=
  fun y => X (ix2 (row t (y 0)) (y 1))

/-- The rows' factors: the reciprocal root of a row's mean square. -/
def factor (X : Vec Ideal S4096x2048 .f32) : Vec Ideal S4096x1 .f32 := fun y =>
  Ideal.rsqrt (Ideal.div (∑ k : Fin 2048, X (ix2 (y 0) k) * X (ix2 (y 0) k)) (Ideal.ofBits .f32 0x45000000#32) + Ideal.ofBits .f32 0x358637BD#32)

theorem factors (t : Fin 8) (X : Vec Ideal S4096x2048 .f32) : k0_pay1 (F := Ideal) (rows t X) = rows t (factor X) := by
  funext i
  obtain ⟨a, b, rfl⟩ : ∃ (a : Fin 512) (b : Fin 1), i = ix2 a b := ⟨i 0, i 1, eq_ix2 i⟩
  pointwise [k0_pay1, rows, row, factor]

section Real
variable (t : Fin 8) (f0 : S4096x2048.Idx → ℝ) (f1 : S1x2048.Idx → ℝ) (f2 : S4096x2048.Idx → ℝ) (x3 : Vec Ideal S4096x2048 .f32)

/-- The activations' gradient: the block the point writes is the reference's rows. -/
theorem dx : k1_pay3 (F := Ideal) (rows t fun i => (f0 i : EReal)) (rows t (factor fun i => (f0 i : EReal))) (rows t fun i => (f2 i : EReal))
      (fun i => (f1 i : EReal)) (rows t (factor fun i => (f0 i : EReal))) (rows t x3)
      = rows t (val_main_v37 (F := Ideal) (fun i => (f0 i : EReal)) (fun i => (f1 i : EReal)) (fun i => (f2 i : EReal)) x3) := by
  funext i
  obtain ⟨a, b, rfl⟩ : ∃ (a : Fin 512) (b : Fin 2048), i = ix2 a b := ⟨i 0, i 1, eq_ix2 i⟩
  pointwise [k1_pay3, k1_pay2, rows, row, factor, val_main_v37, val_main_v36, val_main_v35, val_main_v34, val_main_v33, val_main_v32, val_main_cst_7,
    val_main_v31, val_main_v30, val_main_cst_6, val_main_v29, val_main_v28, val_main_v27, val_main_v26, val_main_v25, val_main_v24,
    val_main_cst_5, val_main_v23, val_main_v21, val_main_v20, val_main_v14, val_main_v0, val_main_v11, val_main_v10, val_main_cst_2,
    val_main_v9, val_main_v8, val_main_v7, val_main_v6, val_main_cst_1, val_main_v5, val_main_v4, val_main_cst_0, val_main_v3,
    val_main_v2, val_main_cst, val_main_v1]
  obtain ⟨w, r, hw, hr, hdw, hdr⟩ := Cert.Reals.root (n := 2048) (fun j => f0 (ix2 (row t a) j)) (by norm_num)
  simp only [Cert.Reals.width_f32, Cert.Reals.neg_half_f32] at hdw hdr ⊢
  simp only [hdw, hdr]
  simp only [Cert.Reals.div_real _ (by norm_num : (2048 : ℝ) ≠ 0), Cert.Reals.div_real _ hw.ne', ← EReal.coe_mul,
    ← EReal.coe_sub, ← Cert.Reals.coe_sum, Finset.sum_const]
  refine Eq.trans ?_ (congrArg₂ (fun p q : EReal => _ + _ * p + q * _) (one_smul ℕ _).symm (one_smul ℕ _).symm)
  rw [add_assoc, add_assoc]
  simp only [← EReal.coe_mul, ← EReal.coe_add]
  refine congrArg _ (congrArg _ ((Cert.Reals.norm_grad (fun j => f0 (ix2 (row t a) j))
    (fun j => f2 (ix2 (row t a) j) * f1 (ix2 0 j)) b (n := 2048) (by norm_num) hw.ne' hr).trans (add_assoc _ _ _)))

/-- The gain's gradient: the point's part of the sum over the rows. -/
theorem dg (i : S1x2048.Idx) :
    k1_pay5 (F := Ideal) (rows t fun i => (f0 i : EReal)) (rows t (factor fun i => (f0 i : EReal))) (rows t fun i => (f2 i : EReal)) i
      = ∑ j : Fin 512, val_main_v17 (F := Ideal) (fun i => (f0 i : EReal)) (fun i => (f2 i : EReal)) (ix2 (row t j) (i 1)) := by
  obtain ⟨a, b, rfl⟩ : ∃ (a : Fin 1) (b : Fin 2048), i = ix2 a b := ⟨i 0, i 1, eq_ix2 i⟩
  pointwise [k1_pay5, k1_pay2, rows, row, factor, val_main_v17, val_main_v13, val_main_v12,
    val_main_v8, val_main_v7, val_main_v6, val_main_cst_1, val_main_v5, val_main_v4, val_main_cst_0, val_main_v3,
    val_main_v2, val_main_cst, val_main_v1]
  exact Finset.sum_congr rfl fun j _ => mul_comm _ _

end Real

/-! ## The arrays after the run -/

section Points
variable (m : (ℓ : Loc nD τ sig) → Buf (Elt Ideal) ℓ) (c : Dev nD)

abbrev X0 : Vec Ideal S4096x2048 .f32 := m ((c : Thread nD τ).loc main_arg0)
abbrev X1 : Vec Ideal S1x2048 .f32 := m ((c : Thread nD τ).loc main_arg1)
abbrev X2 : Vec Ideal S4096x2048 .f32 := m ((c : Thread nD τ).loc main_arg2)
abbrev X3 : Vec Ideal S4096x2048 .f32 := m ((c : Thread nD τ).loc main_arg3)

theorem at0 : ∀ t : Fin grid0.N, win0_0.index t = ![t.val, 0] ∧ win0_3.index t = ![t.val, 0] := by decide +kernel
theorem at1 : ∀ t : Fin grid1.N, win1_0.index t = ![t.val, 0] ∧ win1_1.index t = ![t.val, 0] ∧ win1_2.index t = ![t.val, 0]
    ∧ win1_3.index t = ![0, 0] ∧ win1_4.index t = ![t.val, 0] ∧ win1_5.index t = ![t.val, 0] ∧ win1_6.index t = ![t.val, 0] := by decide +kernel

theorem norm : W1 m c (Proc.devRef .tc main_v0_1) = factor (X0 m c) := by
  refine (Pipeline.afterRegion_arr (dat0 (V0 m) c) (W0 m c) launch0.win.arr_inj 3).trans ?_
  refine (dat0 (V0 m) c).arrAt_eq_of_covers 3 _ (by decide +kernel) fun t hf y => ?_
  blk_simp
  rw [show (dat0 (V0 m) c).after 3 t = k0_pay1 (blk0 (V0 m) c 0 t) by dsimp only [dat0],
    show blk0 (V0 m) c 0 t = rows (Fin.cast N_0 t) (X0 m c) by funext y; blk_ext! [blk0, V0, W0, at0 t, rows, row] <;> rfl, factors]
  generalize factor (X0 m c) = G
  blk_ext [at0 t, rows, row] <;> rfl

/-- The blocks the gradients' kernel reads. -/
theorem blocks (t : Fin cfg1.N) : blk1 (V1 m) c 0 t = rows (Fin.cast N_1 t) (X2 m c) ∧ blk1 (V1 m) c 1 t = rows (Fin.cast N_1 t) (X0 m c)
    ∧ blk1 (V1 m) c 2 t = rows (Fin.cast N_1 t) (factor (X0 m c)) ∧ blk1 (V1 m) c 3 t = X1 m c
    ∧ blk1 (V1 m) c 4 t = rows (Fin.cast N_1 t) (X3 m c) := by
  rw [← norm m c, show X0 m c = V1 m c main_arg0 from (W1_keeps m c _ (by decide +kernel)).symm, show X1 m c = V1 m c main_arg1 from (W1_keeps m c _ (by decide +kernel)).symm,
    show X2 m c = V1 m c main_arg2 from (W1_keeps m c _ (by decide +kernel)).symm, show X3 m c = V1 m c main_arg3 from (W1_keeps m c _ (by decide +kernel)).symm]
  refine ⟨?_, ?_, ?_, ?_, ?_⟩ <;> funext y <;> blk_ext! [blk1, rows, row, at1 t] <;> rfl

variable (f0 : S4096x2048.Idx → ℝ) (f1 : S1x2048.Idx → ℝ) (f2 : S4096x2048.Idx → ℝ)
  (h0 : X0 m c = fun i => (f0 i : EReal)) (h1 : X1 m c = fun i => (f1 i : EReal)) (h2 : X2 m c = fun i => (f2 i : EReal))
include h0 h1 h2

theorem end_dx : W2 m c (Proc.devRef .tc main_v1_0) = val_main_v37 (X0 m c) (X1 m c) (X2 m c) (X3 m c) := by
  refine (Pipeline.afterRegion_arr (dat1 (V1 m) c) (W1 m c) launch1.win.arr_inj 5).trans ?_
  refine (dat1 (V1 m) c).arrAt_eq_of_covers 5 _ (by decide +kernel) fun t hf y => ?_
  blk_simp
  obtain ⟨b0, b1, b2, b3, b4⟩ := blocks m c t
  rw [show (dat1 (V1 m) c).after 5 t = k1_pay3 (blk1 (V1 m) c 1 t) (blk1 (V1 m) c 2 t) (blk1 (V1 m) c 0 t) (blk1 (V1 m) c 3 t) (blk1 (V1 m) c 2 t) (blk1 (V1 m) c 4 t)
    by dsimp only [dat1], b0, b1, b2, b3, b4, h0, h1, h2, dx]
  generalize val_main_v37 (F := Ideal) _ _ _ _ = G
  blk_ext [at1 t, rows, row] <;> rfl

theorem end_dx_half : W2 m c (Proc.devRef .tc main_v1_1) = val_main_v39 (X0 m c) (X1 m c) (X2 m c) (X3 m c) := by
  refine (Pipeline.afterRegion_arr (dat1 (V1 m) c) (W1 m c) launch1.win.arr_inj 6).trans ?_
  refine (dat1 (V1 m) c).arrAt_eq_of_covers 6 _ (by decide +kernel) fun t hf y => ?_
  blk_simp
  obtain ⟨b0, b1, b2, b3, b4⟩ := blocks m c t
  rw [show (dat1 (V1 m) c).after 6 t = k1_pay4 (blk1 (V1 m) c 1 t) (blk1 (V1 m) c 2 t) (blk1 (V1 m) c 0 t) (blk1 (V1 m) c 3 t) (blk1 (V1 m) c 2 t) (blk1 (V1 m) c 4 t)
    by dsimp only [dat1], b0, b1, b2, b3, b4, h0, h1, h2]
  unfold k1_pay4 val_main_v39
  rw [dx]
  generalize val_main_v37 (F := Ideal) _ _ _ _ = G
  show rows _ G _ = G _
  blk_ext [at1 t, rows, row] <;> rfl

theorem end_dg : W2 m c (Proc.devRef .tc main_v1_2) = val_main_v38 (X0 m c) (X2 m c) := by
  refine (Pipeline.afterRegion_arr (dat1 (V1 m) c) (W1 m c) launch1.win.arr_inj 7).trans ?_
  refine (dat1 (V1 m) c).arrAt_eq_of_after_last 7 ⟨7, by decide⟩ (by decide +kernel) _ fun j => ?_
  have hp : ∀ (t : Fin cfg1.N) i, part (V1 m) c t i = ∑ j : Fin 512, val_main_v17 (F := Ideal) (fun i => (f0 i : EReal)) (fun i => (f2 i : EReal)) (ix2 (row (Fin.cast N_1 t) j) (i 1)) := fun t i => by
    obtain ⟨b0, b1, b2, b3, b4⟩ := blocks m c t
    unfold part
    rw [b0, b1, b2, h0, h2, dg]
  show acc (V1 m) c 7 _ _ = _
  refine ((Pipeline.eq_sum_fin_of_reset_step_apply_last (fun n h => acc (V1 m) c n h) 8 (fun _ => (0 : EReal))
      (fun p i => part (V1 m) c p i) (fun t h i => ?_) (fun t h i => ?_)
      (le_of_eq N_1) ⟨7, by decide⟩ rfl _).trans (zero_add _)).trans ?_
  · rw [acc_first _ c t h, zero_add]
  · rw [acc_later _ c t h]
    pointwise [k1_pay1]
  simp only [hp, h0, h2]
  refine (Fin.sum_mul_add_congr (S := cfg1.N) (n := 512) (L := 4096) (f := fun l => val_main_v17 (F := Ideal)
    (fun i => (f0 i : EReal)) (fun i => (f2 i : EReal)) (ix2 l (j 1))) (fun s k hl => rfl) (by rfl)).trans ?_
  obtain ⟨a, b, rfl⟩ : ∃ (a : Fin 1) (b : Fin 2048), j = ix2 a b := ⟨j 0, j 1, eq_ix2 j⟩
  show _ = val_main_v38 (F := Ideal) _ _ (ix2 a b)
  pointwise [val_main_v38, val_main_v22, val_main_v19, val_main_v18, val_main_cst_4, val_main_cst_3]
  refine Eq.trans ?_ (Fintype.sum_unique (ι := Fin 1) (M := EReal) _).symm
  rfl

end Points

/-! ## The two programs' one value -/

instance : Cert.Pre_norm1_finite.Facts := ⟨by decide, by decide⟩

theorem algebraic : Cert.algebraic_Norm1Ideal_Norm1RefIdeal_pre_norm1_finite := by
  intro m ρ m' ρ' hpre hagree
  refine ⟨fun c => val_main_v37 (X0 m c) (X1 m c) (X2 m c) (X3 m c), fun c => val_main_v39 (X0 m c) (X1 m c) (X2 m c) (X3 m c),
    fun c => val_main_v38 (X0 m c) (X2 m c), ?_, ?_⟩
  · refine (θ_run defs _ _).mono (fun r h c => ?_) (run (F := Ideal) m ρ)
    have e (r : Ref sig .tc) (hu : ¬(Proc.devRef .tc r : DevRef τ sig).isScoped) := h.1 c _ (Cert.Held.mem_uc r hu)
    obtain ⟨p0, p1, p2⟩ := hpre c
    obtain ⟨f0, h0⟩ := Cert.Reals.reals_of_lt _ _ _ Cert.Reals.inf_f32 p0
    obtain ⟨f1, h1⟩ := Cert.Reals.reals_of_lt _ _ _ Cert.Reals.inf_f32 p1
    obtain ⟨f2, h2⟩ := Cert.Reals.reals_of_lt _ _ _ Cert.Reals.inf_f32 p2
    exact ⟨(e main_v1_0 (by decide)).trans (end_dx m c f0 f1 f2 h0 h1 h2), (e main_v1_1 (by decide)).trans (end_dx_half m c f0 f1 f2 h0 h1 h2),
      (e main_v1_2 (by decide)).trans (end_dg m c f0 f1 f2 h0 h1 h2), (e main_arg0 (by decide)).trans (W2_arg m c _ (by decide)),
      (e main_arg1 (by decide)).trans (W2_arg m c _ (by decide)), (e main_arg2 (by decide)).trans (W2_arg m c _ (by decide)),
      (e main_arg3 (by decide)).trans (W2_arg m c _ (by decide))⟩
  · refine (θ_run Cert.Norm1RefIdeal.defs _ _).mono (fun r h c => ?_) (Cert.Norm1RefIdeal.Value.run (F := Ideal) m' ρ')
    obtain ⟨e0, e1, e2, ea⟩ := h c
    rw [val_main_v37_eq] at e0
    rw [val_main_v39_eq] at e1
    rw [val_main_v38_eq] at e2
    rw [(hagree c).1, (hagree c).2.1, (hagree c).2.2.1, (hagree c).2.2.2] at e0 e1
    rw [(hagree c).1, (hagree c).2.2.1] at e2
    exact ⟨e0, e1, e2, ea⟩

end Cert.Norm1Value

end
-- ==== Proof.Fused.lean ====
/- The norm's kernel and the kernel that multiplies and then takes the norm's gradients, over any shapes and any numbers: what one point of each leaves. -/
module

public import proofs.«01_k».proof.Proof.Held
public import Idealize.ShloMosaic.Lib.Ring
public import Idealize.ShloMosaic.Lib.Tactic

@[expose] public section

set_option maxRecDepth 16384

noncomputable section

namespace Cert.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {F : FTy → Type} [FloatOps F]

local notation "𝕄" => MT nD τ sig Unit (Elt F) ℕ (UR sig nD τ) ℕ

/-! ## What is carried from point to point -/

section Along

/-- Contents put down at the starting points and changed at the others. -/
def along {α : Type} {N : ℕ} (start : ℕ → Prop) [DecidablePred start] (f : Fin N → α) (g : Fin N → α → α) : (n : ℕ) → n < N → α
  | 0, h => f ⟨0, h⟩
  | n + 1, h => if start (n + 1) then f ⟨n + 1, h⟩ else g ⟨n + 1, h⟩ (along start f g n (Nat.lt_of_succ_lt h))

variable {α : Type} {N : ℕ} {start : ℕ → Prop} [DecidablePred start] {f : Fin N → α} {g : Fin N → α → α}

theorem along_start (t : Fin N) (h : start t.val) : along start f g t.val t.isLt = f t := by
  obtain ⟨n, hn⟩ := t
  cases n with
  | zero => rfl
  | succ n => exact if_pos h

theorem along_later (t : Fin N) (h : ¬start t.val) (h0 : t.val ≠ 0) :
    along start f g t.val t.isLt = g t (along start f g (t.val - 1) (Nat.lt_of_le_of_lt (Nat.sub_le _ _) t.isLt)) := by
  obtain ⟨n, hn⟩ := t
  cases n with
  | zero => exact absurd rfl h0
  | succ n => exact if_neg h

theorem along_idle {a b : ℕ} (hab : a ≤ b) (hb : b < N) (h : ∀ t : Fin N, a < t.val → t.val ≤ b → ¬start t.val ∧ ∀ x, g t x = x) :
    along start f g b hb = along start f g a (Nat.lt_of_le_of_lt hab hb) := by
  induction b, hab using Nat.le_induction with
  | base => rfl
  | succ b hab ih =>
    obtain ⟨h1, h2⟩ := h ⟨b + 1, hb⟩ (by dsimp only; omega) (by dsimp only; omega)
    exact ((along_later ⟨b + 1, hb⟩ h1 (by dsimp only; omega)).trans (h2 _)).trans
      (ih (Nat.lt_of_succ_lt hb) fun t h3 h4 => h t h3 (by omega))

end Along

/-! ## The two bodies

`A` and `W` are the blocks multiplied, `T` a block of rows, `R` its row factors and `G` a gain. -/

section Bodies
variable {A W T R G : Shape}
  {oA : Fin A.rank → Nat} (iA : ∀ a, oA a + A.size a ≤ A.size a) (pA : 0 < A.numel)
  {oW : Fin W.rank → Nat} (iW : ∀ a, oW a + W.size a ≤ W.size a) (pW : 0 < W.numel)
  {oT : Fin T.rank → Nat} (iT : ∀ a, oT a + T.size a ≤ T.size a) (pT : 0 < T.numel)
  {oR : Fin R.rank → Nat} (iR : ∀ a, oR a + R.size a ≤ R.size a) (pR : 0 < R.numel)
  {oG : Fin G.rank → Nat} (iG : ∀ a, oG a + G.size a ≤ G.size a) (pG : 0 < G.numel)
  (kT : (Rect.unit oT T.size iT).PackedRows (EltTy.packing .bf16))

/-- The norm's body: it stores the normalized rows and the row factors. -/
def norm (p1 : Vec F T .f32 → Vec F R .f32) (p2 : Vec F T .f32 → Vec F G .f32 → Vec F T .bf16)
    (a1 : Memref sig .tc .vmem T .f32) (a2 : Memref sig .tc .vmem G .f32) (a3 : Memref sig .tc .vmem T .bf16) (h3 : a3.IsWhole)
    (a4 : Memref sig .tc .vmem R .f32) : Prog (TpuEff nD τ sig (Elt F) Λ .tc) PUnit := do
  let x : Vec F T .f32 ← Prog.lift (.load a1 (Rect.unit oT T.size iT).toLoadRect (View.loadsAt_vmem pT))
  let g : Vec F G .f32 ← Prog.lift (.load a2 (Rect.unit oG G.size iG).toLoadRect (View.loadsAt_vmem pG))
  let _ : Vec F T .bf16 ← Prog.lift (.load a3 (Rect.unit oT T.size iT).toLoadRect (View.loadsAt_vmem pT))
  Prog.lift (.store a3 (Rect.unit oT T.size iT) (p2 x g) Finset.univ (View.stores_vmem pT (h3.storeExact_slice rfl _ kT) (fun _ => rfl)) (.inl rfl))
  let _ : Vec F R .f32 ← Prog.lift (.load a4 (Rect.unit oR R.size iR).toLoadRect (View.loadsAt_vmem pR))
  Prog.lift (.store a4 (Rect.unit oR R.size iR) (p1 x) Finset.univ (View.stores_vmem_bits_univ pR rfl) (.inl rfl))
  pure ⟨⟩

/-- The gradients' body: at the first of a row block's points it stores a product, at those between it adds one, and at the last,
    the sum complete, it stores the gradients; the gain's gradient is added to what the row blocks before left. -/
def grads {β : Type} (c1 c2 c3 c4 c5 : BitVec 1) (p1 : Vec F A .bf16 → Vec F W .bf16 → Vec F T .f32)
    (p2 : Vec F T .f32 → Vec F A .bf16 → Vec F W .bf16 → Vec F T .f32)
    (p6 : Vec F T .f32 → Vec F A .bf16 → Vec F W .bf16 → Vec F T .f32 → Vec F R .f32 → Vec F G .f32 → Vec F T .f32 → Vec F R .f32 → Vec F T .f32)
    (p7 : Vec F T .f32 → Vec F A .bf16 → Vec F W .bf16 → Vec F T .f32 → Vec F R .f32 → Vec F G .f32 → Vec F T .f32 → Vec F R .f32 → Vec F T .bf16)
    (p8 : Vec F T .f32 → Vec F A .bf16 → Vec F W .bf16 → Vec F T .f32 → Vec F R .f32 → β) (s1 : β → Vec F G .f32)
    (s2 : β → Vec F G .f32 → Vec F G .f32)
    (a2 : Memref sig .tc .vmem A .bf16) (a3 : Memref sig .tc .vmem W .bf16) (a4 : Memref sig .tc .vmem T .f32)
    (a5 : Memref sig .tc .vmem R .f32) (a6 : Memref sig .tc .vmem G .f32) (a7 a8 : Memref sig .tc .vmem T .f32)
    (a9 : Memref sig .tc .vmem T .bf16) (h9 : a9.IsWhole) (a10 : Memref sig .tc .vmem G .f32) (a11 : Memref sig .tc .vmem T .f32) :
    Prog (TpuEff nD τ sig (Elt F) Λ .tc) PUnit := do
  if c1 = 1#1 then do
    let d : Vec F A .bf16 ← Prog.lift (.load a2 (Rect.unit oA A.size iA).toLoadRect (View.loadsAt_vmem pA))
    let w : Vec F W .bf16 ← Prog.lift (.load a3 (Rect.unit oW W.size iW).toLoadRect (View.loadsAt_vmem pW))
    let _ : Vec F T .f32 ← Prog.lift (.load a11 (Rect.unit oT T.size iT).toLoadRect (View.loadsAt_vmem pT))
    Prog.lift (.store a11 (Rect.unit oT T.size iT) (p1 d w) Finset.univ (View.stores_vmem_bits_univ pT rfl) (.inl rfl))
    pure ⟨⟩
  else do
    pure ⟨⟩
  if c2 = 1#1 then do
    let s : Vec F T .f32 ← Prog.lift (.load a11 (Rect.unit oT T.size iT).toLoadRect (View.loadsAt_vmem pT))
    let d : Vec F A .bf16 ← Prog.lift (.load a2 (Rect.unit oA A.size iA).toLoadRect (View.loadsAt_vmem pA))
    let w : Vec F W .bf16 ← Prog.lift (.load a3 (Rect.unit oW W.size iW).toLoadRect (View.loadsAt_vmem pW))
    let _ : Vec F T .f32 ← Prog.lift (.load a11 (Rect.unit oT T.size iT).toLoadRect (View.loadsAt_vmem pT))
    Prog.lift (.store a11 (Rect.unit oT T.size iT) (p2 s d w) Finset.univ (View.stores_vmem_bits_univ pT rfl) (.inl rfl))
    pure ⟨⟩
  else do
    pure ⟨⟩
  if c3 = 1#1 then do
    let s : Vec F T .f32 ← Prog.lift (.load a11 (Rect.unit oT T.size iT).toLoadRect (View.loadsAt_vmem pT))
    let d : Vec F A .bf16 ← Prog.lift (.load a2 (Rect.unit oA A.size iA).toLoadRect (View.loadsAt_vmem pA))
    let w : Vec F W .bf16 ← Prog.lift (.load a3 (Rect.unit oW W.size iW).toLoadRect (View.loadsAt_vmem pW))
    let x : Vec F T .f32 ← Prog.lift (.load a4 (Rect.unit oT T.size iT).toLoadRect (View.loadsAt_vmem pT))
    let r : Vec F R .f32 ← Prog.lift (.load a5 (Rect.unit oR R.size iR).toLoadRect (View.loadsAt_vmem pR))
    let g : Vec F G .f32 ← Prog.lift (.load a6 (Rect.unit oG G.size iG).toLoadRect (View.loadsAt_vmem pG))
    let h : Vec F T .f32 ← Prog.lift (.load a7 (Rect.unit oT T.size iT).toLoadRect (View.loadsAt_vmem pT))
    let r' : Vec F R .f32 ← Prog.lift (.load a5 (Rect.unit oR R.size iR).toLoadRect (View.loadsAt_vmem pR))
    let _ : Vec F T .f32 ← Prog.lift (.load a8 (Rect.unit oT T.size iT).toLoadRect (View.loadsAt_vmem pT))
    Prog.lift (.store a8 (Rect.unit oT T.size iT) (p6 s d w x r g h r') Finset.univ (View.stores_vmem_bits_univ pT rfl) (.inl rfl))
    let _ : Vec F T .bf16 ← Prog.lift (.load a9 (Rect.unit oT T.size iT).toLoadRect (View.loadsAt_vmem pT))
    Prog.lift (.store a9 (Rect.unit oT T.size iT) (p7 s d w x r g h r') Finset.univ
      (View.stores_vmem pT (h9.storeExact_slice rfl _ kT) (fun _ => rfl)) (.inl rfl))
    if c4 = 1#1 then do
      let _ : Vec F G .f32 ← Prog.lift (.load a10 (Rect.unit oG G.size iG).toLoadRect (View.loadsAt_vmem pG))
      Prog.lift (.store a10 (Rect.unit oG G.size iG) (s1 (p8 s d w x r)) Finset.univ (View.stores_vmem_bits_univ pG rfl) (.inl rfl))
      pure ⟨⟩
    else do
      pure ⟨⟩
    if c5 = 1#1 then do
      let y : Vec F G .f32 ← Prog.lift (.load a10 (Rect.unit oG G.size iG).toLoadRect (View.loadsAt_vmem pG))
      let _ : Vec F G .f32 ← Prog.lift (.load a10 (Rect.unit oG G.size iG).toLoadRect (View.loadsAt_vmem pG))
      Prog.lift (.store a10 (Rect.unit oG G.size iG) (s2 (p8 s d w x r) y) Finset.univ (View.stores_vmem_bits_univ pG rfl) (.inl rfl))
      pure ⟨⟩
    else do
      pure ⟨⟩
    pure ⟨⟩
  else do
    pure ⟨⟩
  pure ⟨⟩

variable {defs₀ : Defs nD τ sig (Elt F) Λ}
  (zA : oA = fun _ => 0) (zW : oW = fun _ => 0) (zT : oT = fun _ => 0) (zR : oR = fun _ => 0) (zG : oG = fun _ => 0)

include zT zR zG in
/-- What the norm's body leaves. -/
theorem norm_leaves (p1 : Vec F T .f32 → Vec F R .f32) (p2 : Vec F T .f32 → Vec F G .f32 → Vec F T .bf16) (c : Dev nD)
    (a1 : Memref sig .tc .vmem T .f32) (a2 : Memref sig .tc .vmem G .f32) (a3 : Memref sig .tc .vmem T .bf16) (h3 : a3.IsWhole)
    (a4 : Memref sig .tc .vmem R .f32) (x0 : Vec F T .f32) (x1 : Vec F G .f32) (K : PUnit → sProp 𝕄) :
    iprop(owns (c : Thread nD τ) a1 fullShare x0 ∗ owns (c : Thread nD τ) a2 fullShare x1 ∗ (∃ d, owns (c : Thread nD τ) a3 fullShare d)
        ∗ (∃ d, owns (c : Thread nD τ) a4 fullShare d)
        ∗ (iprop(owns (c : Thread nD τ) a1 fullShare x0 ∗ owns (c : Thread nD τ) a2 fullShare x1
          ∗ owns (c : Thread nD τ) a3 fullShare (p2 x0 x1) ∗ owns (c : Thread nD τ) a4 fullShare (p1 x0)) -∗ K ⟨⟩))
      ⊢ wp frame (wpE defs₀ Variants.none c none) Set.univ (norm iT pT iR pR iG pG kT p1 p2 a1 a2 a3 h3 a4) K := by
  unfold norm
  iintro ⟨H0, H1, ⟨%d2, H2⟩, ⟨%d3, H3⟩, Hk⟩
  unfold owns
  icases H0 with ⟨%f0, %e0, H0⟩
  icases H1 with ⟨%f1, %e1, H1⟩
  icases H2 with ⟨%f2, -, H2⟩
  icases H3 with ⟨%f3, -, H3⟩
  subst e0 e1
  sl_exec
  sl_step
  iapply Hk
  isplitl [H0]; · iapply (Cert.Held.holds (c : Thread nD τ) a1 _ rfl); iexact H0
  isplitl [H1]; · iapply (Cert.Held.holds (c : Thread nD τ) a2 _ rfl); iexact H1
  isplitl [H2]
  · iexists _; isplitr
    swap; · iexact H2
    ipureintro
    refine Cert.Held.read_stored _ _ zT _ ?_ _
    simp (config := { proj := false }) only [Cert.Held.load_all, zT, zG]
  iexists _; isplitr
  swap; · iexact H3
  ipureintro
  refine Cert.Held.read_stored _ _ zR _ ?_ _
  simp (config := { proj := false }) only [Cert.Held.load_all, zT]

variable {β : Type} {c1 c2 c3 c4 c5 : BitVec 1} (p1 : Vec F A .bf16 → Vec F W .bf16 → Vec F T .f32)
  (p2 : Vec F T .f32 → Vec F A .bf16 → Vec F W .bf16 → Vec F T .f32)
  (p6 : Vec F T .f32 → Vec F A .bf16 → Vec F W .bf16 → Vec F T .f32 → Vec F R .f32 → Vec F G .f32 → Vec F T .f32 → Vec F R .f32 → Vec F T .f32)
  (p7 : Vec F T .f32 → Vec F A .bf16 → Vec F W .bf16 → Vec F T .f32 → Vec F R .f32 → Vec F G .f32 → Vec F T .f32 → Vec F R .f32 → Vec F T .bf16)
  (p8 : Vec F T .f32 → Vec F A .bf16 → Vec F W .bf16 → Vec F T .f32 → Vec F R .f32 → β) (s1 : β → Vec F G .f32)
  (s2 : β → Vec F G .f32 → Vec F G .f32) (c : Dev nD)
  (a2 : Memref sig .tc .vmem A .bf16) (a3 : Memref sig .tc .vmem W .bf16) (a4 : Memref sig .tc .vmem T .f32)
  (a5 : Memref sig .tc .vmem R .f32) (a6 : Memref sig .tc .vmem G .f32) (a7 a8 : Memref sig .tc .vmem T .f32)
  (a9 : Memref sig .tc .vmem T .bf16) (h9 : a9.IsWhole) (a10 : Memref sig .tc .vmem G .f32) (a11 : Memref sig .tc .vmem T .f32)
  (x0 : Vec F A .bf16) (x1 : Vec F W .bf16)

include zA zW zT in
/-- Between the first and the last of a row block's points the gradients' body changes the sum alone. -/
theorem grads_sums (s s' : Vec F T .f32) (h3 : ¬c3 = 1#1)
    (h : (c1 = 1#1 ∧ ¬c2 = 1#1 ∧ s' = p1 x0 x1) ∨ (¬c1 = 1#1 ∧ c2 = 1#1 ∧ s' = p2 s x0 x1)) (K : PUnit → sProp 𝕄) :
    iprop(owns (c : Thread nD τ) a2 fullShare x0 ∗ owns (c : Thread nD τ) a3 fullShare x1 ∗ owns (c : Thread nD τ) a11 fullShare s
        ∗ (iprop(owns (c : Thread nD τ) a2 fullShare x0 ∗ owns (c : Thread nD τ) a3 fullShare x1
          ∗ owns (c : Thread nD τ) a11 fullShare s') -∗ K ⟨⟩))
      ⊢ wp frame (wpE defs₀ Variants.none c none) Set.univ
          (grads iA pA iW pW iT pT iR pR iG pG kT c1 c2 c3 c4 c5 p1 p2 p6 p7 p8 s1 s2 a2 a3 a4 a5 a6 a7 a8 a9 h9 a10 a11) K := by
  unfold grads
  iintro ⟨H0, H1, H2, Hk⟩
  unfold owns
  icases H0 with ⟨%f0, %e0, H0⟩
  icases H1 with ⟨%f1, %e1, H1⟩
  icases H2 with ⟨%f2, %e2, H2⟩
  subst e0 e1 e2
  rcases h with ⟨h1, h2, rfl⟩ | ⟨h1, h2, rfl⟩
  all_goals
    sl_exec (disch := first | sl_exact h1 | sl_exact h2 | sl_exact h3)
    sl_step
    iapply Hk
    isplitl [H0]; · iapply (Cert.Held.holds (c : Thread nD τ) a2 _ rfl); iexact H0
    isplitl [H1]; · iapply (Cert.Held.holds (c : Thread nD τ) a3 _ rfl); iexact H1
    iexists _; isplitr
    swap; · iexact H2
    ipureintro
    refine Cert.Held.read_stored _ _ zT _ ?_ _
    simp (config := { proj := false }) only [Cert.Held.load_all, zA, zW, zT]

include zA zW zT zR zG in
/-- At the last of a row block's points it stores the gradients. -/
theorem grads_last (s x2 : Vec F T .f32) (x3 : Vec F R .f32) (x4 : Vec F G .f32) (x5 : Vec F T .f32) (x8 y8 : Vec F G .f32)
    (h1 : ¬c1 = 1#1) (h2 : ¬c2 = 1#1) (h3 : c3 = 1#1)
    (h : (c4 = 1#1 ∧ ¬c5 = 1#1 ∧ y8 = s1 (p8 s x0 x1 x2 x3)) ∨ (¬c4 = 1#1 ∧ c5 = 1#1 ∧ y8 = s2 (p8 s x0 x1 x2 x3) x8)) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ (∃ d, owns (c : Thread nD τ) a8 fullShare d) ∗ (∃ d, owns (c : Thread nD τ) a9 fullShare d) ∗ owns (c : Thread nD τ) a10 fullShare x8
        ∗ owns (c : Thread nD τ) a11 fullShare s
        ∗ (iprop(owns (c : Thread nD τ) a2 fullShare x0 ∗ owns (c : Thread nD τ) a3 fullShare x1 ∗ owns (c : Thread nD τ) a4 fullShare x2
          ∗ owns (c : Thread nD τ) a5 fullShare x3 ∗ owns (c : Thread nD τ) a6 fullShare x4 ∗ owns (c : Thread nD τ) a7 fullShare x5
          ∗ owns (c : Thread nD τ) a8 fullShare (p6 s x0 x1 x2 x3 x4 x5 x3) ∗ owns (c : Thread nD τ) a9 fullShare (p7 s x0 x1 x2 x3 x4 x5 x3)
          ∗ owns (c : Thread nD τ) a10 fullShare y8 ∗ owns (c : Thread nD τ) a11 fullShare s) -∗ K ⟨⟩))
      ⊢ wp frame (wpE defs₀ Variants.none c none) Set.univ
          (grads iA pA iW pW iT pT iR pR iG pG kT c1 c2 c3 c4 c5 p1 p2 p6 p7 p8 s1 s2 a2 a3 a4 a5 a6 a7 a8 a9 h9 a10 a11) K := by
  unfold grads
  iintro ⟨H0, H1, H2, H3, H4, H5, ⟨%d6, H6⟩, ⟨%d7, H7⟩, H8, H9, Hk⟩
  unfold owns
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, -, H6⟩
  icases H7 with ⟨%f7, -, H7⟩
  icases H8 with ⟨%f8, %e8, H8⟩
  icases H9 with ⟨%f9, %e9, H9⟩
  subst e0 e1 e2 e3 e4 e5 e8 e9
  rcases h with ⟨h4, h5, rfl⟩ | ⟨h4, h5, rfl⟩
  all_goals
    sl_exec (disch := first | sl_exact h1 | sl_exact h2 | sl_exact h3 | sl_exact h4 | sl_exact h5)
    sl_step
    iapply Hk
    isplitl [H0]; · iapply (Cert.Held.holds (c : Thread nD τ) a2 _ rfl); iexact H0
    isplitl [H1]; · iapply (Cert.Held.holds (c : Thread nD τ) a3 _ rfl); iexact H1
    isplitl [H2]; · iapply (Cert.Held.holds (c : Thread nD τ) a4 _ rfl); iexact H2
    isplitl [H3]; · iapply (Cert.Held.holds (c : Thread nD τ) a5 _ rfl); iexact H3
    isplitl [H4]; · iapply (Cert.Held.holds (c : Thread nD τ) a6 _ rfl); iexact H4
    isplitl [H5]; · iapply (Cert.Held.holds (c : Thread nD τ) a7 _ rfl); iexact H5
    isplitl [H6]
    · iexists _; isplitr
      swap; · iexact H6
      ipureintro
      refine Cert.Held.read_stored _ _ zT _ ?_ _
      simp (config := { proj := false }) only [Cert.Held.load_all, zA, zW, zT, zR, zG]
    isplitl [H7]
    · iexists _; isplitr
      swap; · iexact H7
      ipureintro
      refine Cert.Held.read_stored _ _ zT _ ?_ _
      simp (config := { proj := false }) only [Cert.Held.load_all, zA, zW, zT, zR, zG]
    isplitl [H8]
    · iexists _; isplitr
      swap; · iexact H8
      ipureintro
      refine Cert.Held.read_stored _ _ zG _ ?_ _
      simp (config := { proj := false }) only [Cert.Held.load_all, zA, zW, zT, zR, zG]
    iapply (Cert.Held.holds (c : Thread nD τ) a11 _ rfl); iexact H9

/-! ## One point of a row block's `J`

`x0` and `x1` are the blocks multiplied, `x2` the rows, `x3` their factors, `x4` the gain and `x5` the gradient that is added. -/

section Points
variable {N : ℕ} (J : ℕ) (x0 : Fin N → Vec F A .bf16) (x1 : Fin N → Vec F W .bf16) (x2 : Fin N → Vec F T .f32) (x3 : Fin N → Vec F R .f32)
  (x4 : Fin N → Vec F G .f32) (x5 : Fin N → Vec F T .f32) (t : Fin N)

/-- The sum after a point, and the sum the point finds. -/
def sums : (n : ℕ) → n < N → Vec F T .f32 := along (fun n => n % J = 0) (fun t => p1 (x0 t) (x1 t)) fun t s => p2 s (x0 t) (x1 t)
def found : Vec F T .f32 := sums p1 p2 J x0 x1 (t.val - 1) (Nat.lt_of_le_of_lt (Nat.sub_le _ _) t.isLt)

/-- A row block's part of the gain's gradient, and the sum of the parts up to a point. -/
def part : β := p8 (found p1 p2 J x0 x1 t) (x0 t) (x1 t) (x2 t) (x3 t)
def acc : (n : ℕ) → n < N → Vec F G .f32 :=
  along (fun n => n = J - 1) (fun t => s1 (part p1 p2 p8 J x0 x1 x2 x3 t))
    fun t y => if t.val % J = J - 1 then s2 (part p1 p2 p8 J x0 x1 x2 x3 t) y else y

theorem acc_idle (h : ¬t.val % J = J - 1) (h0 : t.val ≠ 0) : acc p1 p2 p8 s1 s2 J x0 x1 x2 x3 t.val t.isLt
    = acc p1 p2 p8 s1 s2 J x0 x1 x2 x3 (t.val - 1) (Nat.lt_of_le_of_lt (Nat.sub_le _ _) t.isLt) := by
  unfold acc
  rw [along_later t (fun e => h ?_) h0, if_neg h]
  rw [e]
  exact Nat.mod_eq_of_lt (Nat.lt_of_le_of_ne (Nat.le_of_not_lt fun hj => by
    obtain rfl : J = 0 := by omega
    omega) (by omega))

/-- What a point finds beside its blocks: at a row block's first, `rest`, which holds the sum's buffer at anything; at the
    others, the sum so far, and `rest` once the sum's buffer is given back. -/
def carried (rest : sProp 𝕄) : (n : ℕ) → n ≤ N → sProp 𝕄
  | 0, _ => rest
  | n + 1, h => if (n + 1) % J = 0 then rest
    else iprop(owns (c : Thread nD τ) a11 fullShare (sums p1 p2 J x0 x1 n h) ∗ ((∃ d, owns (c : Thread nD τ) a11 fullShare d) -∗ rest))

/-- `rest` holds the sum's buffer at anything, and takes it back at anything. -/
def Lends (rest : sProp 𝕄) : Prop :=
  rest ⊢ iprop((∃ d, owns (c : Thread nD τ) a11 fullShare d) ∗ ((∃ d, owns (c : Thread nD τ) a11 fullShare d) -∗ rest))

theorem carried_begin (rest : sProp 𝕄) (n : ℕ) (h : n ≤ N) (hn : n % J = 0) : carried p1 p2 c a11 J x0 x1 rest n h = rest := by
  cases n with
  | zero => rfl
  | succ n => exact if_pos hn

theorem carried_opens (rest : sProp 𝕄) (lends : Lends c a11 rest) :
    carried p1 p2 c a11 J x0 x1 rest t.val (Nat.le_of_lt t.isLt)
      ⊢ iprop(∃ s, ⌜t.val % J = 0 ∨ s = found p1 p2 J x0 x1 t⌝ ∗ owns (c : Thread nD τ) a11 fullShare s
        ∗ ((∃ d, owns (c : Thread nD τ) a11 fullShare d) -∗ rest)) := by
  by_cases ht : t.val % J = 0
  · rw [carried_begin _ _ _ _ _ _ _ _ _ _ ht]
    iintro H
    ihave H := (show rest ⊢ _ from lends) $$ H
    icases H with ⟨⟨%s, Hs⟩, Hb⟩
    iexists s
    isplitr; · ipureintro; exact .inl ht
    isplitl [Hs]; · iexact Hs
    iexact Hb
  · obtain ⟨n, hn⟩ := t
    cases n with
    | zero => exact absurd (Nat.zero_mod _) ht
    | succ n =>
      rw [show carried p1 p2 c a11 J x0 x1 rest (n + 1) (Nat.le_of_lt hn) = _ from if_neg ht]
      iintro ⟨Hs, Hb⟩
      iexists _
      isplitr; · ipureintro; exact .inr rfl
      isplitl [Hs]; · iexact Hs
      iexact Hb

variable {D0 D1 D2 D3 D4 D5 D6 D7 D8 : Type}
  (hJ : 2 ≤ J) (k1 : c1 = 1#1 ↔ t.val % J = 0) (k2 : c2 = 1#1 ↔ ¬t.val % J = 0 ∧ ¬t.val % J = J - 1)
  (k3 : c3 = 1#1 ↔ t.val % J = J - 1)

include zA zW zT hJ k1 k2 k3 in
/-- A point that is not its row block's last changes the sum alone. -/
theorem point_sums (rest O : sProp 𝕄) (lends : Lends c a11 rest) (H6 H7 H8 : sProp 𝕄) (h : ¬t.val % J = J - 1) :
    iprop(carried p1 p2 c a11 J x0 x1 rest t.val (Nat.le_of_lt t.isLt) ∗ O ∗ (∃ _ : D0, owns (c : Thread nD τ) a2 fullShare (x0 t))
        ∗ (∃ _ : D1, owns (c : Thread nD τ) a3 fullShare (x1 t)) ∗ (∃ _ : D2, owns (c : Thread nD τ) a4 fullShare (x2 t))
        ∗ (∃ _ : D3, owns (c : Thread nD τ) a5 fullShare (x3 t)) ∗ (∃ _ : D4, owns (c : Thread nD τ) a6 fullShare (x4 t))
        ∗ (∃ _ : D5, owns (c : Thread nD τ) a7 fullShare (x5 t)) ∗ H6 ∗ H7 ∗ H8)
      ⊢ wp frame (wpE defs₀ Variants.none c none) Set.univ
          (grads iA pA iW pW iT pT iR pR iG pG kT c1 c2 c3 c4 c5 p1 p2 p6 p7 p8 s1 s2 a2 a3 a4 a5 a6 a7 a8 a9 h9 a10 a11)
          (fun _ => iprop(carried p1 p2 c a11 J x0 x1 rest (t.val + 1) t.isLt ∗ O ∗ owns (c : Thread nD τ) a2 fullShare (x0 t)
            ∗ owns (c : Thread nD τ) a3 fullShare (x1 t) ∗ owns (c : Thread nD τ) a4 fullShare (x2 t)
            ∗ owns (c : Thread nD τ) a5 fullShare (x3 t) ∗ owns (c : Thread nD τ) a6 fullShare (x4 t)
            ∗ owns (c : Thread nD τ) a7 fullShare (x5 t) ∗ H6 ∗ H7 ∗ H8)) := by
  have hs (s : Vec F T .f32) (hs : t.val % J = 0 ∨ s = found p1 p2 J x0 x1 t) :
      (c1 = 1#1 ∧ ¬c2 = 1#1 ∧ sums p1 p2 J x0 x1 t.val t.isLt = p1 (x0 t) (x1 t))
        ∨ (¬c1 = 1#1 ∧ c2 = 1#1 ∧ sums p1 p2 J x0 x1 t.val t.isLt = p2 s (x0 t) (x1 t)) := by
    by_cases h0 : t.val % J = 0
    · exact .inl ⟨k1.mpr h0, fun e => (k2.mp e).1 h0, along_start t h0⟩
    · refine .inr ⟨fun e => h0 (k1.mp e), k2.mpr ⟨h0, h⟩, ?_⟩
      rw [hs.resolve_left h0]
      exact along_later t h0 fun e => h0 (by rw [e, Nat.zero_mod])
  have hn : ¬(t.val + 1) % J = 0 := fun e => h (by
    have h1 := Nat.mod_lt t.val (by omega : 0 < J)
    have h2 : (t.val % J + 1) % J = 0 := by rw [Nat.mod_add_mod]; exact e
    rcases Nat.lt_or_ge (t.val % J + 1) J with h3 | h3
    · rw [Nat.mod_eq_of_lt h3] at h2; omega
    · omega)
  rw [show carried p1 p2 c a11 J x0 x1 rest (t.val + 1) t.isLt = _ from if_neg hn]
  iintro ⟨HΦ, Ho, ⟨%d0, H0⟩, ⟨%d1, H1⟩, ⟨%d2, H2⟩, ⟨%d3, H3⟩, ⟨%d4, H4⟩, ⟨%d5, H5⟩, H6, H7, H8⟩
  ihave HΦ := (carried_opens p1 p2 c a11 J x0 x1 t rest lends) $$ HΦ
  icases HΦ with ⟨%s, %hf, Hs, Hb⟩
  iapply (grads_sums iA pA iW pW iT pT iR pR iG pG kT zA zW zT p1 p2 p6 p7 p8 s1 s2 c a2 a3 a4 a5 a6 a7 a8 a9 h9 a10 a11 (x0 t) (x1 t)
    s (sums p1 p2 J x0 x1 t.val t.isLt) (fun e => h (k3.mp e)) (hs s hf) _)
  isplitl [H0]; · iexact H0
  isplitl [H1]; · iexact H1
  isplitl [Hs]; · iexact Hs
  iintro ⟨H0, H1, Hs⟩
  isplitl [Hs Hb]
  · isplitl [Hs]; · iexact Hs
    iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

include zA zW zT zR zG hJ k1 k2 k3 in
/-- The last point of a row block stores the gradients. -/
theorem point_last (rest O : sProp 𝕄) (lends : Lends c a11 rest) (v6 : D6 → Vec F T .f32) (v7 : D7 → Vec F T .bf16) (v8 : D8 → Vec F G .f32) (h : t.val % J = J - 1)
    (k4 : c4 = 1#1 ↔ t.val = J - 1) (k5 : c5 = 1#1 ↔ ¬t.val = J - 1)
    (h8 : ¬t.val = J - 1 → ∀ d, v8 d = acc p1 p2 p8 s1 s2 J x0 x1 x2 x3 (t.val - 1) (Nat.lt_of_le_of_lt (Nat.sub_le _ _) t.isLt)) :
    iprop(carried p1 p2 c a11 J x0 x1 rest t.val (Nat.le_of_lt t.isLt) ∗ O ∗ (∃ _ : D0, owns (c : Thread nD τ) a2 fullShare (x0 t))
        ∗ (∃ _ : D1, owns (c : Thread nD τ) a3 fullShare (x1 t)) ∗ (∃ _ : D2, owns (c : Thread nD τ) a4 fullShare (x2 t))
        ∗ (∃ _ : D3, owns (c : Thread nD τ) a5 fullShare (x3 t)) ∗ (∃ _ : D4, owns (c : Thread nD τ) a6 fullShare (x4 t))
        ∗ (∃ _ : D5, owns (c : Thread nD τ) a7 fullShare (x5 t)) ∗ (∃ d, owns (c : Thread nD τ) a8 fullShare (v6 d))
        ∗ (∃ d, owns (c : Thread nD τ) a9 fullShare (v7 d)) ∗ (∃ d, owns (c : Thread nD τ) a10 fullShare (v8 d)))
      ⊢ wp frame (wpE defs₀ Variants.none c none) Set.univ
          (grads iA pA iW pW iT pT iR pR iG pG kT c1 c2 c3 c4 c5 p1 p2 p6 p7 p8 s1 s2 a2 a3 a4 a5 a6 a7 a8 a9 h9 a10 a11)
          (fun _ => iprop(carried p1 p2 c a11 J x0 x1 rest (t.val + 1) t.isLt ∗ O ∗ owns (c : Thread nD τ) a2 fullShare (x0 t)
            ∗ owns (c : Thread nD τ) a3 fullShare (x1 t) ∗ owns (c : Thread nD τ) a4 fullShare (x2 t)
            ∗ owns (c : Thread nD τ) a5 fullShare (x3 t) ∗ owns (c : Thread nD τ) a6 fullShare (x4 t)
            ∗ owns (c : Thread nD τ) a7 fullShare (x5 t)
            ∗ owns (c : Thread nD τ) a8 fullShare (p6 (found p1 p2 J x0 x1 t) (x0 t) (x1 t) (x2 t) (x3 t) (x4 t) (x5 t) (x3 t))
            ∗ owns (c : Thread nD τ) a9 fullShare (p7 (found p1 p2 J x0 x1 t) (x0 t) (x1 t) (x2 t) (x3 t) (x4 t) (x5 t) (x3 t))
            ∗ owns (c : Thread nD τ) a10 fullShare (acc p1 p2 p8 s1 s2 J x0 x1 x2 x3 t.val t.isLt))) := by
  have h0 : ¬t.val % J = 0 := by omega
  have hn : (t.val + 1) % J = 0 := by
    rw [← Nat.mod_add_mod, h, Nat.sub_add_cancel (by omega), Nat.mod_self]
  have hy (d) : (c4 = 1#1 ∧ ¬c5 = 1#1 ∧ acc p1 p2 p8 s1 s2 J x0 x1 x2 x3 t.val t.isLt = s1 (part p1 p2 p8 J x0 x1 x2 x3 t))
      ∨ (¬c4 = 1#1 ∧ c5 = 1#1 ∧ acc p1 p2 p8 s1 s2 J x0 x1 x2 x3 t.val t.isLt = s2 (part p1 p2 p8 J x0 x1 x2 x3 t) (v8 d)) := by
    by_cases h1 : t.val = J - 1
    · exact .inl ⟨k4.mpr h1, fun e => k5.mp e h1, along_start t h1⟩
    · refine .inr ⟨fun e => h1 (k4.mp e), k5.mpr h1, ?_⟩
      rw [h8 h1 d]
      unfold acc
      rw [along_later t h1 fun e => h0 (by rw [e, Nat.zero_mod]), if_pos h]
  rw [carried_begin _ _ _ _ _ _ _ rest (t.val + 1) _ hn]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (carried_opens p1 p2 c a11 J x0 x1 t rest lends) $$ HΦ
  icases HΦ with ⟨%s, %hs, Hs, Hb⟩
  obtain rfl : s = found p1 p2 J x0 x1 t := hs.resolve_left h0
  iapply (grads_last iA pA iW pW iT pT iR pR iG pG kT zA zW zT zR zG p1 p2 p6 p7 p8 s1 s2 c a2 a3 a4 a5 a6 a7 a8 a9 h9 a10 a11 (x0 t) (x1 t)
    (found p1 p2 J x0 x1 t) (x2 t) (x3 t) (x4 t) (x5 t) (v8 d8) (acc p1 p2 p8 s1 s2 J x0 x1 x2 x3 t.val t.isLt)
    (fun e => h0 (k1.mp e)) (fun e => (k2.mp e).2 h) (k3.mpr h) (hy d8) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [Hs]; · iexact Hs
  iintro ⟨H0, H1, H2, H3, H4, H5, H6, H7, H8, Hs⟩
  isplitl [Hs Hb]; · iapply Hb; iexists _; iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Points

/-- A buffer lent out of eight, and taken back. -/
theorem lend (H0 H1 H2 H3 H4 H5 H6 S Q : sProp 𝕄) : iprop((H0 ∗ H1 ∗ H2 ∗ H3 ∗ H4 ∗ H5 ∗ H6 ∗ S) ∗ Q)
    ⊢ iprop(S ∗ (S -∗ iprop((H0 ∗ H1 ∗ H2 ∗ H3 ∗ H4 ∗ H5 ∗ H6 ∗ S) ∗ Q))) := by
  iintro ⟨⟨H0, H1, H2, H3, H4, H5, H6, Hs⟩, Hr⟩
  isplitl [Hs]; · iexact Hs
  iintro Hs
  isplitr [Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iexact Hr

end Bodies

end Cert.Fused

end
-- ==== Proof.XqFrame.lean ====
/- The cross attention's norm and its gradients: the two kernels run to what every unscoped buffer ends holding, over any numbers. -/
module

public import proofs.«01_k».proof.Proof.Fused
public import Idealize.ShloMosaic.Lib.Pipeline.TableIdle
public import proofs.«01_k».proof.Proof.Gen.XqIdeal.Launch
public import proofs.«01_k».proof.Proof.Gen.XqIdeal.Skeleton
public import proofs.«01_k».proof.Proof.Gen.XqIdeal.Points

@[expose] public section

set_option maxRecDepth 16384

noncomputable section

namespace Cert.XqFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.XqIdeal Cert.XqIdeal.Gen

variable {F : FTy → Type} [FloatOps F]

local notation "𝕄" => MT nD τ sig Unit (Elt F) ℕ (UR sig nD τ) ℕ

/-! ## The bodies -/

theorem off : (![0, 0] : Fin 2 → Nat) = fun _ => 0 := by decide

/-- Whether a point is the first of its row block, and whether it lies between the first and the last. -/
def cond1 (i : grid1.Coords) : BitVec 1 := Scalar.cmpi .ne (Scalar.extui (Scalar.cmpi .eq (BitVec.ofNat 32 (i 1).val) 0#32) : BitVec 32) 0#32
def cond2 (i : grid1.Coords) : BitVec 1 :=
  Scalar.cmpi .ne (Scalar.extui (Scalar.andi (Scalar.cmpi .sgt (BitVec.ofNat 32 (i 1).val) 0#32) (Scalar.cmpi .slt (BitVec.ofNat 32 (i 1).val) 1#32)) : BitVec 32) 0#32

theorem body0_eq (i : grid0.Coords) (a1 : Memref sig .tc .vmem S512x2048 .f32) (h1 : a1.IsWhole)
    (a2 : Memref sig .tc .vmem S1x2048 .f32) (h2 : a2.IsWhole) (a3 : Memref sig .tc .vmem S512x2048 .bf16) (h3 : a3.IsWhole)
    (a4 : Memref sig .tc .vmem S512x1 .f32) (h4 : a4.IsWhole) :
    cc0_norm3 (F := F) i a1 h1 a2 h2 a3 h3 a4 h4 = Cert.Fused.norm inb_S512x2048_S512x2048_0_0 h_S512x2048 inb_S512x1_S512x1_0_0 h_S512x1
      inb_S1x2048_S1x2048_0_0 h_S1x2048 packedbf16_S512x2048_S512x2048_0_0 k0_pay1 k0_pay2 a1 a2 a3 h3 a4 := rfl

theorem body1_eq (i : grid1.Coords) (a2 : Memref sig .tc .vmem S512x1024 .bf16) (h2 : a2.IsWhole)
    (a3 : Memref sig .tc .vmem S2048x1024 .bf16) (h3 : a3.IsWhole) (a4 : Memref sig .tc .vmem S512x2048 .f32) (h4 : a4.IsWhole)
    (a5 : Memref sig .tc .vmem S512x1 .f32) (h5 : a5.IsWhole) (a6 : Memref sig .tc .vmem S1x2048 .f32) (h6 : a6.IsWhole)
    (a7 : Memref sig .tc .vmem S512x2048 .f32) (h7 : a7.IsWhole) (a8 : Memref sig .tc .vmem S512x2048 .f32) (h8 : a8.IsWhole)
    (a9 : Memref sig .tc .vmem S512x2048 .bf16) (h9 : a9.IsWhole) (a10 : Memref sig .tc .vmem S1x2048 .f32) (h10 : a10.IsWhole)
    (a11 : Memref sig .tc .vmem S512x2048 .f32) (h11 : a11.IsWhole) :
    cc1_xq_dx (F := F) i a2 h2 a3 h3 a4 h4 a5 h5 a6 h6 a7 h7 a8 h8 a9 h9 a10 h10 a11 h11
      = Cert.Fused.grads inb_S512x1024_S512x1024_0_0 h_S512x1024 inb_S2048x1024_S2048x1024_0_0 h_S2048x1024
        inb_S512x2048_S512x2048_0_0 h_S512x2048 inb_S512x1_S512x1_0_0 h_S512x1 inb_S1x2048_S1x2048_0_0 h_S1x2048
        packedbf16_S512x2048_S512x2048_0_0 (cond1 i) (cond2 i) (k1_cond3 i) (k1_cond4 i) (k1_cond5 i) k1_pay1 k1_pay2 k1_pay6 k1_pay7 k1_pay8
        id k1_pay3 a2 a3 a4 a5 a6 a7 a8 a9 h9 a10 a11 := rfl

/-! ## What each region leaves, point by point -/

section Regions
variable (V : (c : Dev nD) → (b : Ref sig .tc) → Buf (Elt F) ((c : Thread nD τ).loc b))

/-- A window's block at a point, of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The norm's blocks after a point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay2 (blk0 V c 0 t) (blk0 V c 1 t)
    | ⟨3, _⟩ => k0_pay1 (blk0 V c 0 t)
  Φ _ := Pipeline.ΦA spec0 c
  q _ := fullShare
  owed _ := 0

/-- The sum that a point finds, a row block's part of the gain's gradient, and the sum of the parts up to a point. -/
abbrev found (c : Dev nD) : Fin cfg1.N → Vec F S512x2048 .f32 := Cert.Fused.found k1_pay1 k1_pay2 2 (blk1 V c 0) (blk1 V c 1)
abbrev part (c : Dev nD) := Cert.Fused.part (N := cfg1.N) (F := F) k1_pay1 k1_pay2 k1_pay8 2 (blk1 V c 0) (blk1 V c 1) (blk1 V c 2) (blk1 V c 3)
abbrev acc (c : Dev nD) : (n : ℕ) → n < cfg1.N → Vec F S1x2048 .f32 :=
  Cert.Fused.acc k1_pay1 k1_pay2 k1_pay8 id k1_pay3 2 (blk1 V c 0) (blk1 V c 1) (blk1 V c 2) (blk1 V c 3)

/-- The scratch buffer that holds the sum. -/
abbrev scratch : Memref sig .tc .vmem S512x2048 .f32 := Memref.whole cc1_scratch0
theorem lends (c : Dev nD) : Cert.Fused.Lends c scratch (Pipeline.ΦA spec1 c : sProp 𝕄) := by
  unfold Cert.Fused.Lends Pipeline.ΦA
  simp only [scopedRest1_eq, owns_whole]
  exact Cert.Fused.lend _ _ _ _ _ _ _ _ _

/-- What a point finds beside its blocks. -/
abbrev Φ (c : Dev nD) : (n : ℕ) → n ≤ cfg1.N → sProp 𝕄 :=
  Cert.Fused.carried k1_pay1 k1_pay2 c scratch 2 (blk1 V c 0) (blk1 V c 1) (Pipeline.ΦA spec1 c)

/-- The gradients' blocks after a point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay6 (found V c t) (blk1 V c 0 t) (blk1 V c 1 t) (blk1 V c 2 t) (blk1 V c 3 t) (blk1 V c 4 t) (blk1 V c 5 t) (blk1 V c 3 t)
    | ⟨7, _⟩ => k1_pay7 (found V c t) (blk1 V c 0 t) (blk1 V c 1 t) (blk1 V c 2 t) (blk1 V c 3 t) (blk1 V c 4 t) (blk1 V c 5 t) (blk1 V c 3 t)
    | ⟨8, _⟩ => acc V c t.val t.isLt
  Φ t := Φ V c t.val (Nat.le_of_lt_succ t.isLt)
  q _ := fullShare
  owed _ := 0

theorem Φ_first (c : Dev nD) : (Pipeline.ΦA spec1 c : sProp 𝕄) ⊢ (dat1 V c).Φ 0 := .rfl
theorem Φ_last (c : Dev nD) : (dat1 V c).Φ (Fin.last cfg1.N) ⊢ (Pipeline.ΦA spec1 c : sProp 𝕄) := by
  rw [show (dat1 V c).Φ (Fin.last cfg1.N) = Φ V c cfg1.N (Nat.le_refl _) from rfl,
    show Φ V c cfg1.N (Nat.le_refl _) = _ from Cert.Fused.carried_begin _ _ _ _ _ _ _ _ _ _ (by rw [show cfg1.N = 16 from N_1])]

theorem A0 (c : Dev nD) (w : Fin cfg0.W) : (dat0 V c).A w = V c (Pipeline.arrRef spec0 w) := by dsimp only [dat0]
theorem A1 (c : Dev nD) (w : Fin cfg1.W) : (dat1 V c).A w = V c (Pipeline.arrRef spec1 w) := by dsimp only [dat1]

theorem before0 (c : Dev nD) (w : Fin cfg0.W) (hw : w = 0 ∨ w = 1) (t : Fin cfg0.N) (d) :
    (dat0 V c).before w t d = (dat0 V c).after w t := by
  rcases hw with rfl | rfl <;>
    exact Cert.Held.before_in _ _ rfl (fun _ => rfl) (fun _ _ => rfl) (fun t => by unfold Dat.blockOf; rw [A0]; dsimp only [dat0]; rfl) t d

theorem before1 (c : Dev nD) (w : Fin cfg1.W) (hw : w.val < 6) (t : Fin cfg1.N) (d) :
    (dat1 V c).before w t d = (dat1 V c).after w t := by
  rcases (show w = 0 ∨ w = 1 ∨ w = 2 ∨ w = 3 ∨ w = 4 ∨ w = 5 by clear d; revert w; decide) with rfl | rfl | rfl | rfl | rfl | rfl <;>
    exact Cert.Held.before_in _ _ rfl (fun _ => rfl) (fun _ _ => rfl) (fun t => by unfold Dat.blockOf; rw [A1]; dsimp only [dat1]; rfl) t d

/-- Which parts of the body run at a point, and where the outputs are left alone. -/
theorem sums_at : ∀ t : Fin grid1.N, (cond1 (grid1.coords t) = 1#1 ↔ t.val % 2 = 0)
    ∧ (cond2 (grid1.coords t) = 1#1 ↔ ¬t.val % 2 = 0 ∧ ¬t.val % 2 = 2 - 1) ∧ (k1_cond3 (grid1.coords t) = 1#1 ↔ t.val % 2 = 2 - 1) := by decide +kernel
theorem ends_at : ∀ t : Fin grid1.N, t.val % 2 = 2 - 1 → (k1_cond4 (grid1.coords t) = 1#1 ↔ t.val = 2 - 1)
    ∧ (k1_cond5 (grid1.coords t) = 1#1 ↔ ¬t.val = 2 - 1) := by decide +kernel
theorem stored : ∀ t : Fin grid1.N, t.val % 2 = 2 - 1 → idle1 6 (grid1.coords t) = false ∧ idle1 7 (grid1.coords t) = false
    ∧ idle1 8 (grid1.coords t) = false := by decide +kernel
theorem kept : ∀ t : Fin grid1.N, ¬t.val % 2 = 2 - 1 → (idle1 6 (grid1.coords t) = true ∧ idle1 7 (grid1.coords t) = true
    ∧ idle1 8 (grid1.coords t) = true) ∧ (win1 6).flush t = false ∧ (win1 7).flush t = false ∧ (win1 8).flush t = false := by decide +kernel
theorem old : ∀ t : Fin cfg1.N, t.val % 2 = 2 - 1 → ¬t.val = 2 - 1 → cfg1.fresh 8 t.val = false := by decide +kernel

theorem before1_8 (c : Dev nD) (t : Fin cfg1.N) (h : t.val % 2 = 2 - 1) (h1 : ¬t.val = 2 - 1) (d) :
    (dat1 V c).before 8 t d = acc V c (t.val - 1) (Nat.lt_of_le_of_lt (Nat.sub_le _ _) t.isLt) := by
  refine (Dat.before_out_traj (dat1 V c) 8 rfl (fun _ _ => rfl) (fun t h0 hi _ => ?_) t.val t rfl d).trans ?_
  · dsimp only [dat1]
    exact Cert.Fused.acc_idle _ _ _ _ _ _ _ _ _ _ t (fun h => Bool.false_ne_true ((stored t h).2.2.symm.trans hi)) h0
  · rw [if_neg (by rw [old t h h1]; exact Bool.false_ne_true)]
    dsimp only [dat1]

theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [before0 V c 0 (.inl rfl), before0 V c 1 (.inr rfl)]
  unfold bodyAt0
  rw [show (dat0 V c).Φ t.succ = (dat0 V c).Φ t.castSucc from rfl, show (dat0 V c).owesAt () t.succ = (dat0 V c).owesAt () t.castSucc from rfl,
    body0_eq]
  refine triple_restated ?_ rfl .rfl fun _ => .rfl
  iintro ⟨HΦ, Ho, ⟨%d0, H0⟩, ⟨%d1, H1⟩, ⟨%d2, H2⟩, ⟨%d3, H3⟩⟩
  iapply (Cert.Fused.norm_leaves _ _ _ _ _ _ _ off off off _ _ c _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  simp only [before1 V c 0 (by decide), before1 V c 1 (by decide), before1 V c 2 (by decide), before1 V c 3 (by decide), before1 V c 4 (by decide),
    before1 V c 5 (by decide)]
  unfold bodyAt1
  rw [show (dat1 V c).Φ t.succ = Φ V c (t.val + 1) t.isLt from rfl, show (dat1 V c).Φ t.castSucc = Φ V c t.val (Nat.le_of_lt t.isLt) by
      dsimp only [dat1]; exact Pipeline.Dat.Φ_castSucc (Φ V c) t,
    show (dat1 V c).owesAt () t.succ = (dat1 V c).owesAt () t.castSucc from rfl, body1_eq]
  refine triple_restated ?_ rfl .rfl fun _ => .rfl
  obtain ⟨k1, k2, k3⟩ := sums_at t
  by_cases hl : t.val % 2 = 2 - 1
  · obtain ⟨e6, e7, e8⟩ := stored t hl
    simp only [e6, e7, e8]
    exact Cert.Fused.point_last _ _ _ _ _ _ _ _ _ _ _ off off off off off k1_pay1 k1_pay2 k1_pay6 k1_pay7 k1_pay8 id k1_pay3 c _ _ _ _ _ _ _ _ _ _ _
      2 (blk1 V c 0) (blk1 V c 1) (blk1 V c 2) (blk1 V c 3) (blk1 V c 4) (blk1 V c 5) t (by decide) k1 k2 k3 _ _ (lends c) _ _ _ hl
      (ends_at t hl).1 (ends_at t hl).2 (before1_8 V c t hl)
  · obtain ⟨⟨e6, e7, e8⟩, f6, f7, f8⟩ := kept t hl
    simp only [e6, e7, e8, f6, f7, f8]
    exact Cert.Fused.point_sums _ _ _ _ _ _ _ _ _ _ _ off off off k1_pay1 k1_pay2 k1_pay6 k1_pay7 k1_pay8 id k1_pay3 c _ _ _ _ _ _ _ _ _ _ _
      2 (blk1 V c 0) (blk1 V c 1) (blk1 V c 2) (blk1 V c 3) (blk1 V c 4) (blk1 V c 5) t (by decide) k1 k2 k3 _ _ (lends c) _ _ _ hl

end Regions

/-! ## The run -/

section Run
variable (m : (ℓ : Loc nD τ sig) → Buf (Elt F) ℓ) (ρ : Dev nD → PrngReg)

/-- The unscoped buffers at launch, between the two kernels, and at the end. -/
abbrev W0 (c : Dev nD) : Valuation τ sig (Elt F) := fun b => m (c, b)
abbrev V0 (c : Dev nD) (b : Ref sig .tc) : Buf (Elt F) ((c : Thread nD τ).loc b) := W0 m c b
def W1 (c : Dev nD) : Valuation τ sig (Elt F) := Pipeline.afterRegion (dat0 (V0 m) c) (W0 m c)
abbrev V1 (c : Dev nD) (b : Ref sig .tc) : Buf (Elt F) ((c : Thread nD τ).loc b) := W1 m c b
def W2 (c : Dev nD) : Valuation τ sig (Elt F) := Pipeline.afterRegion (dat1 (V1 m) c) (W1 m c)

/-- No kernel changes an argument. -/
theorem W1_keeps (c : Dev nD) (r : Ref sig .tc) (h : ∀ w, Pipeline.arrRef spec0 w = r → (cfg0.win w).isOut = false) :
    W1 m c (Proc.devRef .tc r) = m ((c : Thread nD τ).loc r) :=
  Pipeline.afterRegion_keeps (dat0 (V0 m) c) (W0 m c) launch0.win.arr_inj (A0 _ c) r h
theorem W2_keeps (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (V1 m) c) (W1 m c) launch1.win.arr_inj (A1 _ c) r h
theorem W2_arg (c : Dev nD) : ∀ r ∈ ([main_arg0, main_arg1, main_arg2, main_arg3, main_arg4] : List (Ref sig .tc)),
    W2 m c (Proc.devRef .tc r) = m ((c : Thread nD τ).loc r) := fun r hr =>
  (W2_keeps m c r (by revert r; decide +kernel)).trans (W1_keeps m c r (by revert r; decide +kernel))

def pdats : (p : Fin 2) → (c : Dev nD) → Dat τ (Elt F) Unit ℕ (UR sig nD τ) ℕ (Pipeline.pin (pcfgs (F := F)) (fun p => (cfgs p).toPCfg_adm) p) c
  | ⟨0, _⟩, c => dat0 (V0 m) c
  | ⟨1, _⟩, c => dat1 (V1 m) c

def reg0 := Cert.Held.region (pcfgs (F := F)) (fun p => (cfgs p).toPCfg_adm) (pdats m) defs₀ 0 launch0.toP rfl
  (fun c => (obligation0 (V0 m) c).loose) (fun _ _ => rfl) (fun _ => rfl) (fun c => (dat0 (V0 m) c).share_full fun _ => rfl)
  (fun _ => .rfl) (fun _ => .rfl) (W0 m) (fun c => A0 (V0 m) c)
def reg1 := Cert.Held.region (pcfgs (F := F)) (fun p => (cfgs p).toPCfg_adm) (pdats m) defs₀ 1 launch1.toP rfl
  (fun c => (obligation1 (V1 m) c).loose) (fun _ _ => rfl) (fun _ => rfl) (fun c => (dat1 (V1 m) c).share_full fun _ => rfl)
  (fun c => Φ_first (V1 m) c) (fun c => Φ_last (V1 m) c) (W1 m) (fun c => A1 (V1 m) c)

/-- Every execution ends with every unscoped buffer at what the second kernel leaves. -/
theorem run : θ_run defs (onTc (τ := τ) (main (F := F))) ⟨m, fun _ => 0, ρ⟩
    (fun r => (∀ c : Dev nD, ∀ b ∈ Pipeline.ucRefs τ sig, r.2.mem (c, b) = W2 m c b) ∧ r.2.sem = fun _ => 0) :=
  Cert.Held.run_segs (pcfgs (F := F)) _ (pdats m) cellOf_inj defs₀ m ρ main [.region (reg0 m), .region (reg1 m)]
    (main_segs _ _ _ _ _ _ (reg0 m) (reg1 m)) (by simp only [Pipeline.Seg.pipes_region, Pipeline.Seg.pipes_nil]; decide) (W2 m)
    ⟨fun _ => .rfl, fun _ => .rfl, fun _ => .rfl⟩ (by decide)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have e (r : Ref sig .tc) (hu : ¬(Proc.devRef .tc r : DevRef τ sig).isScoped) (hr) :=
      (h.1 c _ (Cert.Held.mem_uc r hu)).trans (W2_arg m c r hr)
    exact ⟨e main_arg0 (by decide) (by decide), e main_arg1 (by decide) (by decide), e main_arg2 (by decide) (by decide),
      e main_arg3 (by decide) (by decide), e main_arg4 (by decide) (by decide)⟩, h.2⟩) (run m ρ)

end Run

end Cert.XqFrame

end
-- ==== Proof.FusedValue.lean ====
/- What the fused kernels' sums come to: a product block by block of its common axis, and the gain's gradient row block by row block. -/
module

public import proofs.«01_k».proof.Proof.Fused
public import proofs.«01_k».proof.Proof.Norm1Value

@[expose] public section

noncomputable section

namespace Cert.FusedValue

open Idealize.ShloMosaic Idealize.ShloMosaic.Tactic Cert.Fused Cert.Norm1Value Cert.Norm1Ideal Cert.Norm1Ideal.Gen

/-! ## The product -/

variable {A W : Shape} {N J n K : ℕ}

/-- A point's row block, and the position on the common axis of a point's `l`-th. -/
def blockAt (hN : N = 8 * J) (t : Fin N) : Fin 8 :=
  ⟨t.val / J, Nat.div_lt_of_lt_mul (by have := t.isLt; have := Nat.mul_comm 8 J; omega)⟩
def col (hK : J * n = K) (hJ : 0 < J) (k : ℕ) (l : Fin n) : Fin K :=
  ⟨k % J * n + l.val, by
    have h1 : (k % J + 1) * n ≤ J * n := Nat.mul_le_mul_right _ (Nat.mod_lt k hJ)
    have := l.isLt
    rw [Nat.add_mul] at h1; omega⟩

/-- The product of real operands, each given by its rows. -/
def prod (a : Fin 4096 → Fin K → ℝ) (w : Fin 2048 → Fin K → ℝ) : S4096x2048.Idx → ℝ := fun i => ∑ k : Fin K, a (i 0) k * w (i 1) k

/-- One point's part of it. -/
def term (hN : N = 8 * J) (hK : J * n = K) (hJ : 0 < J) (a : Fin 4096 → Fin K → EReal) (w : Fin 2048 → Fin K → EReal) (t : Fin N) : S512x2048.Idx → EReal :=
  fun y => ∑ l : Fin n, a (row (blockAt hN t) (y 0)) (col hK hJ t.val l) * w (y 1) (col hK hJ t.val l)

/-- Where each point adds its part, the sum at a row block's last point is the product's rows. -/
theorem rows_of_sums (hN : N = 8 * J) (hK : J * n = K) (hJ : 0 < J) (p1 : Vec Ideal A .bf16 → Vec Ideal W .bf16 → Vec Ideal S512x2048 .f32)
    (p2 : Vec Ideal S512x2048 .f32 → Vec Ideal A .bf16 → Vec Ideal W .bf16 → Vec Ideal S512x2048 .f32)
    (x0 : Fin N → Vec Ideal A .bf16) (x1 : Fin N → Vec Ideal W .bf16) (a : Fin 4096 → Fin K → ℝ) (w : Fin 2048 → Fin K → ℝ)
    (h1 : ∀ t y, p1 (x0 t) (x1 t) y = 0 + term hN hK hJ (fun i k => (a i k : EReal)) (fun i k => (w i k : EReal)) t y)
    (h2 : ∀ t s y, p2 s (x0 t) (x1 t) y = s y + term hN hK hJ (fun i k => (a i k : EReal)) (fun i k => (w i k : EReal)) t y)
    (t : Fin N) (ht : t.val % J = J - 1) (h0 : t.val % J ≠ 0) :
    p2 (found p1 p2 J x0 x1 t) (x0 t) (x1 t) = rows (blockAt hN t) fun i => (prod a w i : EReal) := by
  haveI : NeZero J := ⟨hJ.ne'⟩
  funext y
  rw [show p2 (found p1 p2 J x0 x1 t) (x0 t) (x1 t) = sums p1 p2 J x0 x1 t.val t.isLt by
    symm; exact along_later t h0 fun e => h0 (by rw [e, Nat.zero_mod])]
  refine ((Pipeline.eq_sum_fin_of_reset_step_apply_of_flush (fun n h => sums p1 p2 J x0 x1 n h) J (fun _ => (0 : EReal))
    (fun p => term hN hK hJ (fun i k => (a i k : EReal)) (fun i k => (w i k : EReal)) p) (fun t h i => ?_) (fun t h i => ?_) t ht y).trans (zero_add _)).trans ?_
  · rw [← h1]
    exact congrFun (along_start t h) i
  · rw [← h2]
    exact congrFun (along_later t h fun e => h (by rw [e, Nat.zero_mod])) i
  · have hp (s : Fin J) (h : J * (t.val / J) + s.val < N) : blockAt hN ⟨J * (t.val / J) + s.val, h⟩ = blockAt hN t := Fin.ext (by
      show (J * (t.val / J) + s.val) / J = t.val / J
      rw [Nat.mul_add_div hJ, Nat.div_eq_of_lt s.isLt, Nat.add_zero])
    have hc (s : Fin J) (k : Fin n) (hl) : col hK hJ (J * (t.val / J) + s.val) k = ⟨s.val * n + k.val, hl⟩ := Fin.ext (by
      show (J * (t.val / J) + s.val) % J * n + k.val = s.val * n + k.val
      rw [Nat.mul_add_mod, Nat.mod_eq_of_lt s.isLt])
    simp only [term, hp]
    refine (Fin.sum_mul_add_congr (S := J) (n := n) (L := K) (f := fun l => (a (row (blockAt hN t) (y 0)) l : EReal) * (w (y 1) l : EReal))
      (fun s k hl => by rw [hc s k hl]) hK.symm).trans ?_
    simp only [rows, prod, Cert.Reals.coe_sum, EReal.coe_mul]
    rfl

/-! ## The gain's gradient -/

/-- The parts put down at the last of the first `J` points and added at the last of every later `J`, the sum left alone at the
    other points, end as the sum of the row blocks' parts. -/
theorem parts {ι : Type} (hJ : 0 < J) (hN : N = 8 * J) (part : Fin N → ι → EReal) (add : Fin N → (ι → EReal) → ι → EReal)
    (hadd : ∀ t y i, add t y i = y i + part t i) (h : J * 7 + (J - 1) < N) (i : ι) :
    along (fun n => n = J - 1) part (fun t y => if t.val % J = J - 1 then add t y else y) (J * 7 + (J - 1)) h i
      = ∑ p : Fin 8, part ⟨J * p.val + (J - 1), by have := p.isLt; have : J * p.val ≤ J * 7 := Nat.mul_le_mul_left _ (by omega); omega⟩ i := by
  have hb (n : ℕ) (hn : n < 8) : J * n + (J - 1) < N := by have : J * n ≤ J * 7 := Nat.mul_le_mul_left _ (by omega); omega
  have hm (n : ℕ) : (J * n + (J - 1)) % J = J - 1 := by rw [Nat.mul_add_mod]; exact Nat.mod_eq_of_lt (by omega)
  refine (Pipeline.eq_sum_fin_of_reset_step_apply_last
    (fun n hn => along (fun n => n = J - 1) part (fun t y => if t.val % J = J - 1 then add t y else y) (J * n + (J - 1)) (hb n hn))
    8 (fun _ => (0 : EReal)) (fun p i => part ⟨J * p.val + (J - 1), hb p.val p.isLt⟩ i) (fun t ht i => ?_) (fun t ht i => ?_)
    (le_refl 8) ⟨7, by decide⟩ rfl i).trans (zero_add _)
  · rw [zero_add]
    have h0 : t.val = 0 := by have := t.isLt; omega
    exact congrFun (along_start ⟨J * t.val + (J - 1), hb t.val t.isLt⟩ (by dsimp only; rw [h0]; omega)) i
  · have h0 : 0 < t.val := Nat.pos_of_ne_zero fun e => ht (by rw [e])
    have h1 : J * t.val = J * (t.val - 1) + J := by rw [← Nat.mul_succ]; congr 1; omega
    refine (congrFun (along_later ⟨J * t.val + (J - 1), hb t.val t.isLt⟩ (by dsimp only; omega) (by dsimp only; omega)) i).trans ?_
    rw [if_pos (hm t.val), hadd]
    refine congrArg (· + _) (congrFun (along_idle (a := J * (t.val - 1) + (J - 1)) (by dsimp only; omega) _ fun s h2 h3 => ⟨by omega, fun x => if_neg fun e => ?_⟩) i)
    dsimp only at h3
    have h4 : s.val % J = (s.val - J * t.val) % J := by
      conv_lhs => rw [show s.val = J * t.val + (s.val - J * t.val) by omega]
      exact Nat.mul_add_mod _ _ _
    rw [h4, Nat.mod_eq_of_lt (by omega)] at e
    omega

/-- So summed, the row blocks' parts of the gain's gradient are the reference's sum over all rows. -/
theorem gain (hJ : 0 < J) (hN : N = 8 * J) (part : Fin N → S1x2048.Idx → EReal) (add : Fin N → (S1x2048.Idx → EReal) → S1x2048.Idx → EReal)
    (hadd : ∀ t y i, add t y i = y i + part t i) (f0 f2 : S4096x2048.Idx → ℝ)
    (hp : ∀ t : Fin N, t.val % J = J - 1 → part t = k1_pay5 (F := Ideal) (rows (blockAt hN t) fun i => (f0 i : EReal))
      (rows (blockAt hN t) (factor fun i => (f0 i : EReal))) (rows (blockAt hN t) fun i => (f2 i : EReal)))
    (h : J * 7 + (J - 1) < N) (i : S1x2048.Idx) :
    along (fun n => n = J - 1) part (fun t y => if t.val % J = J - 1 then add t y else y) (J * 7 + (J - 1)) h i
      = Cert.Norm1RefIdeal.Read.val_main_v38 (F := Ideal) (fun i => (f0 i : EReal)) (fun i => (f2 i : EReal)) i := by
  refine (parts hJ hN part add hadd h i).trans ?_
  have hb (p : Fin 8) (h) : part ⟨J * p.val + (J - 1), h⟩ = k1_pay5 (F := Ideal) (rows p fun i => (f0 i : EReal))
      (rows p (factor fun i => (f0 i : EReal))) (rows p fun i => (f2 i : EReal)) := by
    rw [hp _ (by dsimp only; rw [Nat.mul_add_mod]; exact Nat.mod_eq_of_lt (by omega)), show blockAt hN ⟨J * p.val + (J - 1), h⟩ = p from Fin.ext (by
      show (J * p.val + (J - 1)) / J = p.val
      rw [Nat.mul_add_div hJ, Nat.div_eq_of_lt (by omega), Nat.add_zero])]
  simp only [hb, dg]
  refine (Fin.sum_mul_add_congr (S := 8) (n := 512) (L := 4096) (f := fun l => Cert.Norm1RefIdeal.Read.val_main_v17 (F := Ideal)
    (fun i => (f0 i : EReal)) (fun i => (f2 i : EReal)) (ix2 l (i 1))) (fun s k hl => rfl) (by rfl)).trans ?_
  obtain ⟨a, b, rfl⟩ : ∃ (a : Fin 1) (b : Fin 2048), i = ix2 a b := ⟨i 0, i 1, eq_ix2 i⟩
  pointwise [Cert.Norm1RefIdeal.Read.val_main_v38, Cert.Norm1RefIdeal.Read.val_main_v22, Cert.Norm1RefIdeal.Read.val_main_v19,
    Cert.Norm1RefIdeal.Read.val_main_v18, Cert.Norm1RefIdeal.Read.val_main_cst_4, Cert.Norm1RefIdeal.Read.val_main_cst_3]
  refine Eq.trans ?_ (Fintype.sum_unique (ι := Fin 1) (M := EReal) _).symm
  rfl

end Cert.FusedValue

end
-- ==== Proof.XqValue.lean ====
/- The cross attention's norm and its gradients: what the idealized program ends holding, and that the reference ends holding
   the same. -/
module

public import proofs.«01_k».proof.Proof.XqFrame
public import proofs.«01_k».proof.Proof.FusedValue
public import proofs.«01_k».proof.Proof.Gen.XqRefIdeal.Run
public import proofs.«01_k».proof.Proof.Gen.XqRefIdeal.Read

@[expose] public section

set_option maxRecDepth 16384

noncomputable section

namespace Cert.XqValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.XqIdeal Cert.XqIdeal.Gen Cert.XqFrame Cert.XqRefIdeal.Read
open Cert.Norm1Value (row rows factor factors)
open Cert.FusedValue (prod term col)

/-! ## The product -/

/-- The product's operands, each by its rows. -/
abbrev left {α : Type} (f3 : S4096x2048.Idx → α) (a : Fin 4096) (k : Fin 2048) : α := f3 (ix2 a k)
abbrev right {α : Type} (f2 : S2048x2048.Idx → α) (b : Fin 2048) (k : Fin 2048) : α := f2 (ix2 b k)

theorem reference (f2 : S2048x2048.Idx → ℝ) (f3 : S4096x2048.Idx → ℝ) :
    val_main_v20 (F := Ideal) (fun i => (f2 i : EReal)) (fun i => (f3 i : EReal)) = fun i => (prod (left f3) (right f2) i : EReal) := by
  funext i
  obtain ⟨a, b, rfl⟩ : ∃ (a : Fin 4096) (b : Fin 2048), i = ix2 a b := ⟨i 0, i 1, eq_ix2 i⟩
  pointwise [val_main_v20, val_main_v1, val_main_v0, prod]
  simp only [Cert.Reals.coe_sum, EReal.coe_mul]

theorem starts (a : Vec Ideal S512x1024 .bf16) (w : Vec Ideal S2048x1024 .bf16) (y : S512x2048.Idx) :
    k1_pay1 (F := Ideal) a w y = 0 + ∑ l : Fin 1024, a (ix2 (y 0) l) * w (ix2 (y 1) l) := by
  obtain ⟨i, j, rfl⟩ : ∃ (i : Fin 512) (j : Fin 2048), y = ix2 i j := ⟨y 0, y 1, eq_ix2 y⟩
  pointwise [k1_pay1]
theorem adds (s : Vec Ideal S512x2048 .f32) (a : Vec Ideal S512x1024 .bf16) (w : Vec Ideal S2048x1024 .bf16) (y : S512x2048.Idx) :
    k1_pay2 (F := Ideal) s a w y = s y + ∑ l : Fin 1024, a (ix2 (y 0) l) * w (ix2 (y 1) l) := by
  obtain ⟨i, j, rfl⟩ : ∃ (i : Fin 512) (j : Fin 2048), y = ix2 i j := ⟨y 0, y 1, eq_ix2 y⟩
  pointwise [k1_pay2]
theorem ends (s : Vec Ideal S512x2048 .f32) (a : Vec Ideal S512x1024 .bf16) (w : Vec Ideal S2048x1024 .bf16) :
    k1_pay4 (F := Ideal) s a w = k1_pay2 (F := Ideal) s a w := by
  funext y
  obtain ⟨i, j, rfl⟩ : ∃ (i : Fin 512) (j : Fin 2048), y = ix2 i j := ⟨y 0, y 1, eq_ix2 y⟩
  pointwise [k1_pay2, k1_pay4]

/-! ## The arrays after the run -/

section Points
variable (m : (ℓ : Loc nD τ sig) → Buf (Elt Ideal) ℓ) (c : Dev nD)

abbrev X0 : Vec Ideal S4096x2048 .f32 := m ((c : Thread nD τ).loc main_arg0)
abbrev X1 : Vec Ideal S1x2048 .f32 := m ((c : Thread nD τ).loc main_arg1)
abbrev X2 : Vec Ideal S2048x2048 .bf16 := m ((c : Thread nD τ).loc main_arg2)
abbrev X3 : Vec Ideal S4096x2048 .bf16 := m ((c : Thread nD τ).loc main_arg3)
abbrev X4 : Vec Ideal S4096x2048 .f32 := m ((c : Thread nD τ).loc main_arg4)

/-- A point's row block. -/
abbrev blockAt (t : Fin cfg1.N) : Fin 8 := Cert.FusedValue.blockAt (J := 2) N_1 t

theorem at0 : ∀ t : Fin grid0.N, win0_0.index t = ![t.val, 0] ∧ win0_3.index t = ![t.val, 0] := by decide +kernel
theorem at1 : ∀ t : Fin grid1.N, win1_0.index t = ![t.val / 2, t.val % 2] ∧ win1_1.index t = ![0, t.val % 2] ∧ win1_2.index t = ![t.val / 2, 0]
    ∧ win1_3.index t = ![t.val / 2, 0] ∧ win1_4.index t = ![0, 0] ∧ win1_5.index t = ![t.val / 2, 0] ∧ win1_6.index t = ![t.val / 2, 0]
    ∧ win1_7.index t = ![t.val / 2, 0] := by decide +kernel

theorem norm : W1 m c (Proc.devRef .tc main_v0_1) = factor (X0 m c) := by
  refine (Pipeline.afterRegion_arr (dat0 (V0 m) c) (W0 m c) launch0.win.arr_inj 3).trans ?_
  refine (dat0 (V0 m) c).arrAt_eq_of_covers 3 _ (by decide +kernel) fun t hf y => ?_
  blk_simp
  rw [show (dat0 (V0 m) c).after 3 t = k0_pay1 (blk0 (V0 m) c 0 t) by dsimp only [dat0],
    show blk0 (V0 m) c 0 t = rows (Fin.cast N_0 t) (X0 m c) by funext y; blk_ext! [blk0, V0, W0, at0 t, rows, row] <;> rfl,
    show k0_pay1 (F := Ideal) _ = Cert.Norm1Ideal.Gen.k0_pay1 (F := Ideal) _ from rfl, factors]
  generalize factor (X0 m c) = G
  blk_ext [at0 t, rows, row] <;> rfl

/-- The blocks the gradients' kernel reads. -/
theorem blocks (t : Fin cfg1.N) : (∀ y l, blk1 (V1 m) c 0 t (ix2 y l) = X3 m c (ix2 (row (blockAt t) y) (col (J := 2) (K := 2048) rfl (by decide) t.val l)))
    ∧ (∀ y l, blk1 (V1 m) c 1 t (ix2 y l) = X2 m c (ix2 y (col (J := 2) (K := 2048) rfl (by decide) t.val l)))
    ∧ blk1 (V1 m) c 2 t = rows (blockAt t) (X0 m c) ∧ blk1 (V1 m) c 3 t = rows (blockAt t) (factor (X0 m c))
    ∧ blk1 (V1 m) c 4 t = X1 m c ∧ blk1 (V1 m) c 5 t = rows (blockAt t) (X4 m c) := by
  rw [← norm m c, show X0 m c = V1 m c main_arg0 from (W1_keeps m c _ (by decide +kernel)).symm,
    show X1 m c = V1 m c main_arg1 from (W1_keeps m c _ (by decide +kernel)).symm,
    show X2 m c = V1 m c main_arg2 from (W1_keeps m c _ (by decide +kernel)).symm,
    show X3 m c = V1 m c main_arg3 from (W1_keeps m c _ (by decide +kernel)).symm,
    show X4 m c = V1 m c main_arg4 from (W1_keeps m c _ (by decide +kernel)).symm]
  refine ⟨fun y l => ?_, fun y l => ?_, ?_, ?_, ?_, ?_⟩
  iterate 2 blk_ext! [blk1, col, row, at1 t] <;> rfl
  all_goals funext y; blk_ext! [blk1, rows, row, at1 t] <;> rfl

variable (f0 : S4096x2048.Idx → ℝ) (f1 : S1x2048.Idx → ℝ) (f2 : S2048x2048.Idx → ℝ) (f3 : S4096x2048.Idx → ℝ)
  (h0 : X0 m c = fun i => (f0 i : EReal)) (h1 : X1 m c = fun i => (f1 i : EReal)) (h2 : X2 m c = fun i => (f2 i : EReal))
  (h3 : X3 m c = fun i => (f3 i : EReal))

include h2 h3 in
/-- At the last of a row block's points the sum is the product's rows. -/
theorem sum (t : Fin cfg1.N) (ht : t.val % 2 = 2 - 1) :
    k1_pay4 (found (V1 m) c t) (blk1 (V1 m) c 0 t) (blk1 (V1 m) c 1 t) = rows (blockAt t) fun i => (prod (left f3) (right f2) i : EReal) := by
  rw [ends]
  refine Cert.FusedValue.rows_of_sums (n := 1024) N_1 rfl (by decide) k1_pay1 k1_pay2 (blk1 (V1 m) c 0) (blk1 (V1 m) c 1)
    (left f3) (right f2) (fun t y => ?_) (fun t s y => ?_) t ht (by omega)
  all_goals
    obtain ⟨b0, b1, -⟩ := blocks m c t
    first | refine (starts _ _ _).trans (congrArg (0 + ·) ?_) | refine (adds _ _ _ _).trans (congrArg (s y + ·) ?_)
    exact Finset.sum_congr rfl fun l _ => congrArg₂ (· * ·) ((b0 _ _).trans (congrFun h3 _)) ((b1 _ _).trans (congrFun h2 _))

include h0 h1 h2 h3

/-- The block written at the last of a row block's points. -/
theorem dx (t : Fin cfg1.N) (ht : t.val % 2 = 2 - 1) : (dat1 (V1 m) c).after 6 t = rows (blockAt t) (val_main_v41 (X0 m c) (X1 m c) (X2 m c) (X3 m c) (X4 m c)) := by
  obtain ⟨-, -, b2, b3, b4, b5⟩ := blocks m c t
  refine (show (dat1 (V1 m) c).after 6 t = Cert.Norm1Ideal.Gen.k1_pay3 (F := Ideal) (blk1 (V1 m) c 2 t) (blk1 (V1 m) c 3 t)
      (k1_pay4 (found (V1 m) c t) (blk1 (V1 m) c 0 t) (blk1 (V1 m) c 1 t)) (blk1 (V1 m) c 4 t) (blk1 (V1 m) c 3 t) (blk1 (V1 m) c 5 t) by
    dsimp only [dat1]; rfl).trans ?_
  rw [sum m c f2 f3 h2 h3 t ht, b2, b3, b4, b5, h0, h1, Cert.Norm1Value.dx, ← reference, ← h2, ← h3]
  rfl

theorem end_dx : W2 m c (Proc.devRef .tc main_v1_0) = val_main_v41 (X0 m c) (X1 m c) (X2 m c) (X3 m c) (X4 m c) := by
  refine (Pipeline.afterRegion_arr (dat1 (V1 m) c) (W1 m c) launch1.win.arr_inj 6).trans ?_
  refine (dat1 (V1 m) c).arrAt_eq_of_covers 6 _ (by decide +kernel) fun t hf y => ?_
  blk_simp
  rw [dx m c f0 f1 f2 f3 h0 h1 h2 h3 t ((flush1_6 t).mp hf)]
  generalize val_main_v41 (F := Ideal) _ _ _ _ _ = G
  blk_ext [at1 t, rows, row] <;> rfl

theorem end_dx_half : W2 m c (Proc.devRef .tc main_v1_1) = val_main_v43 (X0 m c) (X1 m c) (X2 m c) (X3 m c) (X4 m c) := by
  refine (Pipeline.afterRegion_arr (dat1 (V1 m) c) (W1 m c) launch1.win.arr_inj 7).trans ?_
  refine (dat1 (V1 m) c).arrAt_eq_of_covers 7 _ (by decide +kernel) fun t hf y => ?_
  blk_simp
  rw [show (dat1 (V1 m) c).after 7 t = fun y => (dat1 (V1 m) c).after 6 t y by dsimp only [dat1]; rfl,
    dx m c f0 f1 f2 f3 h0 h1 h2 h3 t ((flush1_7 t).mp hf)]
  unfold val_main_v43
  generalize val_main_v41 (F := Ideal) _ _ _ _ _ = G
  show rows _ G _ = G _
  blk_ext [at1 t, rows, row] <;> rfl

theorem end_dg : W2 m c (Proc.devRef .tc main_v1_2) = val_main_v42 (X0 m c) (X2 m c) (X3 m c) := by
  refine (Pipeline.afterRegion_arr (dat1 (V1 m) c) (W1 m c) launch1.win.arr_inj 8).trans ?_
  refine (dat1 (V1 m) c).arrAt_eq_of_after_last 8 ⟨15, by decide⟩ (by decide +kernel) _ fun j => ?_
  show acc (V1 m) c 15 (by decide) j = _
  refine (Cert.FusedValue.gain (J := 2) (by decide) N_1 _ _ (fun t x i => by pointwise [k1_pay3]; rfl) f0 (prod (left f3) (right f2)) (fun t ht => ?_) _ j).trans ?_
  · obtain ⟨-, -, b2, b3, -, -⟩ := blocks m c t
    refine (show part (V1 m) c t = Cert.Norm1Ideal.Gen.k1_pay5 (F := Ideal) (blk1 (V1 m) c 2 _) (blk1 (V1 m) c 3 _)
      (k1_pay4 (found (V1 m) c _) (blk1 (V1 m) c 0 _) (blk1 (V1 m) c 1 _)) from rfl).trans ?_
    rw [sum m c f2 f3 h2 h3 t ht, b2, b3, h0]
  rw [← reference, ← h0, ← h2, ← h3]
  rfl

end Points

/-! ## The two programs' one value -/

instance : Cert.Pre_xq_finite.Facts := ⟨by decide, by decide, by decide⟩

theorem algebraic : Cert.algebraic_XqIdeal_XqRefIdeal_pre_xq_finite := by
  intro m ρ m' ρ' hpre hagree
  refine ⟨fun c => val_main_v41 (X0 m c) (X1 m c) (X2 m c) (X3 m c) (X4 m c), fun c => val_main_v43 (X0 m c) (X1 m c) (X2 m c) (X3 m c) (X4 m c),
    fun c => val_main_v42 (X0 m c) (X2 m c) (X3 m c), ?_, ?_⟩
  · refine (θ_run defs _ _).mono (fun r h c => ?_) (run (F := Ideal) m ρ)
    have e (r : Ref sig .tc) (hu : ¬(Proc.devRef .tc r : DevRef τ sig).isScoped) := h.1 c _ (Cert.Held.mem_uc r hu)
    obtain ⟨p0, p1, p2, p3⟩ := hpre c
    obtain ⟨f0, h0⟩ := Cert.Reals.reals_of_lt _ _ _ Cert.Reals.inf_f32 p0
    obtain ⟨f1, h1⟩ := Cert.Reals.reals_of_lt _ _ _ Cert.Reals.inf_f32 p1
    obtain ⟨f2, h2⟩ := Cert.Reals.reals_of_lt _ _ _ Cert.Reals.inf_bf16 p2
    obtain ⟨f3, h3⟩ := Cert.Reals.reals_of_lt _ _ _ Cert.Reals.inf_bf16 p3
    have a (r : Ref sig .tc) (hu : ¬(Proc.devRef .tc r : DevRef τ sig).isScoped) (hr) := (e r hu).trans (W2_arg m c r hr)
    exact ⟨(e main_v1_0 (by decide)).trans (end_dx m c f0 f1 f2 f3 h0 h1 h2 h3), (e main_v1_1 (by decide)).trans (end_dx_half m c f0 f1 f2 f3 h0 h1 h2 h3),
      (e main_v1_2 (by decide)).trans (end_dg m c f0 f1 f2 f3 h0 h1 h2 h3), a main_arg0 (by decide) (by decide),
      a main_arg1 (by decide) (by decide), a main_arg2 (by decide) (by decide), a main_arg3 (by decide) (by decide), a main_arg4 (by decide) (by decide)⟩
  · refine (θ_run Cert.XqRefIdeal.defs _ _).mono (fun r h c => ?_) (Cert.XqRefIdeal.Value.run (F := Ideal) m' ρ')
    obtain ⟨e0, e1, e2, ea⟩ := h c
    obtain ⟨g0, g1, g2, g3, g4⟩ := hagree c
    rw [val_main_v41_eq, g0, g1, g2, g3, g4] at e0
    rw [val_main_v43_eq, g0, g1, g2, g3, g4] at e1
    rw [val_main_v42_eq, g0, g2, g3] at e2
    exact ⟨e0, e1, e2, ea⟩

end Cert.XqValue

end
-- ==== Proof.MixInFrame.lean ====
/- The mixer's norm and its gradients: the two kernels run to what every unscoped buffer ends holding, over any numbers. -/
module

public import proofs.«01_k».proof.Proof.Fused
public import Idealize.ShloMosaic.Lib.Pipeline.TableIdle
public import proofs.«01_k».proof.Proof.Gen.MixInIdeal.Launch
public import proofs.«01_k».proof.Proof.Gen.MixInIdeal.Skeleton
public import proofs.«01_k».proof.Proof.Gen.MixInIdeal.Points

@[expose] public section

set_option maxRecDepth 16384

noncomputable section

namespace Cert.MixInFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixInIdeal Cert.MixInIdeal.Gen

variable {F : FTy → Type} [FloatOps F]

local notation "𝕄" => MT nD τ sig Unit (Elt F) ℕ (UR sig nD τ) ℕ

/-! ## The bodies -/

theorem off : (![0, 0] : Fin 2 → Nat) = fun _ => 0 := by decide

/-- Whether a point is the first of its row block, and whether it lies between the first and the last. -/
def cond1 (i : grid1.Coords) : BitVec 1 := Scalar.cmpi .ne (Scalar.extui (Scalar.cmpi .eq (BitVec.ofNat 32 (i 1).val) 0#32) : BitVec 32) 0#32
def cond2 (i : grid1.Coords) : BitVec 1 :=
  Scalar.cmpi .ne (Scalar.extui (Scalar.andi (Scalar.cmpi .sgt (BitVec.ofNat 32 (i 1).val) 0#32) (Scalar.cmpi .slt (BitVec.ofNat 32 (i 1).val) 3#32)) : BitVec 32) 0#32

theorem body0_eq (i : grid0.Coords) (a1 : Memref sig .tc .vmem S512x2048 .f32) (h1 : a1.IsWhole)
    (a2 : Memref sig .tc .vmem S1x2048 .f32) (h2 : a2.IsWhole) (a3 : Memref sig .tc .vmem S512x2048 .bf16) (h3 : a3.IsWhole)
    (a4 : Memref sig .tc .vmem S512x1 .f32) (h4 : a4.IsWhole) :
    cc0_norm2 (F := F) i a1 h1 a2 h2 a3 h3 a4 h4 = Cert.Fused.norm inb_S512x2048_S512x2048_0_0 h_S512x2048 inb_S512x1_S512x1_0_0 h_S512x1
      inb_S1x2048_S1x2048_0_0 h_S1x2048 packedbf16_S512x2048_S512x2048_0_0 k0_pay1 k0_pay2 a1 a2 a3 h3 a4 := rfl

theorem body1_eq (i : grid1.Coords) (a2 : Memref sig .tc .vmem S512x1280 .bf16) (h2 : a2.IsWhole)
    (a3 : Memref sig .tc .vmem S2048x1280 .bf16) (h3 : a3.IsWhole) (a4 : Memref sig .tc .vmem S512x2048 .f32) (h4 : a4.IsWhole)
    (a5 : Memref sig .tc .vmem S512x1 .f32) (h5 : a5.IsWhole) (a6 : Memref sig .tc .vmem S1x2048 .f32) (h6 : a6.IsWhole)
    (a7 : Memref sig .tc .vmem S512x2048 .f32) (h7 : a7.IsWhole) (a8 : Memref sig .tc .vmem S512x2048 .f32) (h8 : a8.IsWhole)
    (a9 : Memref sig .tc .vmem S512x2048 .bf16) (h9 : a9.IsWhole) (a10 : Memref sig .tc .vmem S1x2048 .f32) (h10 : a10.IsWhole)
    (a11 : Memref sig .tc .vmem S512x2048 .f32) (h11 : a11.IsWhole) :
    cc1_mix_in_dx (F := F) i a2 h2 a3 h3 a4 h4 a5 h5 a6 h6 a7 h7 a8 h8 a9 h9 a10 h10 a11 h11
      = Cert.Fused.grads inb_S512x1280_S512x1280_0_0 h_S512x1280 inb_S2048x1280_S2048x1280_0_0 h_S2048x1280
        inb_S512x2048_S512x2048_0_0 h_S512x2048 inb_S512x1_S512x1_0_0 h_S512x1 inb_S1x2048_S1x2048_0_0 h_S1x2048
        packedbf16_S512x2048_S512x2048_0_0 (cond1 i) (cond2 i) (k1_cond3 i) (k1_cond4 i) (k1_cond5 i) k1_pay1 k1_pay2 k1_pay6 k1_pay7 k1_pay8
        id k1_pay3 a2 a3 a4 a5 a6 a7 a8 a9 h9 a10 a11 := rfl

/-! ## What each region leaves, point by point -/

section Regions
variable (V : (c : Dev nD) → (b : Ref sig .tc) → Buf (Elt F) ((c : Thread nD τ).loc b))

/-- A window's block at a point, of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The norm's blocks after a point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay2 (blk0 V c 0 t) (blk0 V c 1 t)
    | ⟨3, _⟩ => k0_pay1 (blk0 V c 0 t)
  Φ _ := Pipeline.ΦA spec0 c
  q _ := fullShare
  owed _ := 0

/-- The sum that a point finds, a row block's part of the gain's gradient, and the sum of the parts up to a point. -/
abbrev found (c : Dev nD) : Fin cfg1.N → Vec F S512x2048 .f32 := Cert.Fused.found k1_pay1 k1_pay2 4 (blk1 V c 0) (blk1 V c 1)
abbrev part (c : Dev nD) := Cert.Fused.part (N := cfg1.N) (F := F) k1_pay1 k1_pay2 k1_pay8 4 (blk1 V c 0) (blk1 V c 1) (blk1 V c 2) (blk1 V c 3)
abbrev acc (c : Dev nD) : (n : ℕ) → n < cfg1.N → Vec F S1x2048 .f32 :=
  Cert.Fused.acc k1_pay1 k1_pay2 k1_pay8 id k1_pay3 4 (blk1 V c 0) (blk1 V c 1) (blk1 V c 2) (blk1 V c 3)

/-- The scratch buffer that holds the sum. -/
abbrev scratch : Memref sig .tc .vmem S512x2048 .f32 := Memref.whole cc1_scratch0
theorem lends (c : Dev nD) : Cert.Fused.Lends c scratch (Pipeline.ΦA spec1 c : sProp 𝕄) := by
  unfold Cert.Fused.Lends Pipeline.ΦA
  simp only [scopedRest1_eq, owns_whole]
  exact Cert.Fused.lend _ _ _ _ _ _ _ _ _

/-- What a point finds beside its blocks. -/
abbrev Φ (c : Dev nD) : (n : ℕ) → n ≤ cfg1.N → sProp 𝕄 :=
  Cert.Fused.carried k1_pay1 k1_pay2 c scratch 4 (blk1 V c 0) (blk1 V c 1) (Pipeline.ΦA spec1 c)

/-- The gradients' blocks after a point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay6 (found V c t) (blk1 V c 0 t) (blk1 V c 1 t) (blk1 V c 2 t) (blk1 V c 3 t) (blk1 V c 4 t) (blk1 V c 5 t) (blk1 V c 3 t)
    | ⟨7, _⟩ => k1_pay7 (found V c t) (blk1 V c 0 t) (blk1 V c 1 t) (blk1 V c 2 t) (blk1 V c 3 t) (blk1 V c 4 t) (blk1 V c 5 t) (blk1 V c 3 t)
    | ⟨8, _⟩ => acc V c t.val t.isLt
  Φ t := Φ V c t.val (Nat.le_of_lt_succ t.isLt)
  q _ := fullShare
  owed _ := 0

theorem Φ_first (c : Dev nD) : (Pipeline.ΦA spec1 c : sProp 𝕄) ⊢ (dat1 V c).Φ 0 := .rfl
theorem Φ_last (c : Dev nD) : (dat1 V c).Φ (Fin.last cfg1.N) ⊢ (Pipeline.ΦA spec1 c : sProp 𝕄) := by
  rw [show (dat1 V c).Φ (Fin.last cfg1.N) = Φ V c cfg1.N (Nat.le_refl _) from rfl,
    show Φ V c cfg1.N (Nat.le_refl _) = _ from Cert.Fused.carried_begin _ _ _ _ _ _ _ _ _ _ (by rw [show cfg1.N = 32 from N_1])]

theorem A0 (c : Dev nD) (w : Fin cfg0.W) : (dat0 V c).A w = V c (Pipeline.arrRef spec0 w) := by dsimp only [dat0]
theorem A1 (c : Dev nD) (w : Fin cfg1.W) : (dat1 V c).A w = V c (Pipeline.arrRef spec1 w) := by dsimp only [dat1]

theorem before0 (c : Dev nD) (w : Fin cfg0.W) (hw : w = 0 ∨ w = 1) (t : Fin cfg0.N) (d) :
    (dat0 V c).before w t d = (dat0 V c).after w t := by
  rcases hw with rfl | rfl <;>
    exact Cert.Held.before_in _ _ rfl (fun _ => rfl) (fun _ _ => rfl) (fun t => by unfold Dat.blockOf; rw [A0]; dsimp only [dat0]; rfl) t d

theorem before1 (c : Dev nD) (w : Fin cfg1.W) (hw : w.val < 6) (t : Fin cfg1.N) (d) :
    (dat1 V c).before w t d = (dat1 V c).after w t := by
  rcases (show w = 0 ∨ w = 1 ∨ w = 2 ∨ w = 3 ∨ w = 4 ∨ w = 5 by clear d; revert w; decide) with rfl | rfl | rfl | rfl | rfl | rfl <;>
    exact Cert.Held.before_in _ _ rfl (fun _ => rfl) (fun _ _ => rfl) (fun t => by unfold Dat.blockOf; rw [A1]; dsimp only [dat1]; rfl) t d

/-- Which parts of the body run at a point, and where the outputs are left alone. -/
theorem sums_at : ∀ t : Fin grid1.N, (cond1 (grid1.coords t) = 1#1 ↔ t.val % 4 = 0)
    ∧ (cond2 (grid1.coords t) = 1#1 ↔ ¬t.val % 4 = 0 ∧ ¬t.val % 4 = 4 - 1) ∧ (k1_cond3 (grid1.coords t) = 1#1 ↔ t.val % 4 = 4 - 1) := by decide +kernel
theorem ends_at : ∀ t : Fin grid1.N, t.val % 4 = 4 - 1 → (k1_cond4 (grid1.coords t) = 1#1 ↔ t.val = 4 - 1)
    ∧ (k1_cond5 (grid1.coords t) = 1#1 ↔ ¬t.val = 4 - 1) := by decide +kernel
theorem stored : ∀ t : Fin grid1.N, t.val % 4 = 4 - 1 → idle1 6 (grid1.coords t) = false ∧ idle1 7 (grid1.coords t) = false
    ∧ idle1 8 (grid1.coords t) = false := by decide +kernel
theorem kept : ∀ t : Fin grid1.N, ¬t.val % 4 = 4 - 1 → (idle1 6 (grid1.coords t) = true ∧ idle1 7 (grid1.coords t) = true
    ∧ idle1 8 (grid1.coords t) = true) ∧ (win1 6).flush t = false ∧ (win1 7).flush t = false ∧ (win1 8).flush t = false := by decide +kernel
theorem old : ∀ t : Fin cfg1.N, t.val % 4 = 4 - 1 → ¬t.val = 4 - 1 → cfg1.fresh 8 t.val = false := by decide +kernel

theorem before1_8 (c : Dev nD) (t : Fin cfg1.N) (h : t.val % 4 = 4 - 1) (h1 : ¬t.val = 4 - 1) (d) :
    (dat1 V c).before 8 t d = acc V c (t.val - 1) (Nat.lt_of_le_of_lt (Nat.sub_le _ _) t.isLt) := by
  refine (Dat.before_out_traj (dat1 V c) 8 rfl (fun _ _ => rfl) (fun t h0 hi _ => ?_) t.val t rfl d).trans ?_
  · dsimp only [dat1]
    exact Cert.Fused.acc_idle _ _ _ _ _ _ _ _ _ _ t (fun h => Bool.false_ne_true ((stored t h).2.2.symm.trans hi)) h0
  · rw [if_neg (by rw [old t h h1]; exact Bool.false_ne_true)]
    dsimp only [dat1]

theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [before0 V c 0 (.inl rfl), before0 V c 1 (.inr rfl)]
  unfold bodyAt0
  rw [show (dat0 V c).Φ t.succ = (dat0 V c).Φ t.castSucc from rfl, show (dat0 V c).owesAt () t.succ = (dat0 V c).owesAt () t.castSucc from rfl,
    body0_eq]
  refine triple_restated ?_ rfl .rfl fun _ => .rfl
  iintro ⟨HΦ, Ho, ⟨%d0, H0⟩, ⟨%d1, H1⟩, ⟨%d2, H2⟩, ⟨%d3, H3⟩⟩
  iapply (Cert.Fused.norm_leaves _ _ _ _ _ _ _ off off off _ _ c _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  simp only [before1 V c 0 (by decide), before1 V c 1 (by decide), before1 V c 2 (by decide), before1 V c 3 (by decide), before1 V c 4 (by decide),
    before1 V c 5 (by decide)]
  unfold bodyAt1
  rw [show (dat1 V c).Φ t.succ = Φ V c (t.val + 1) t.isLt from rfl, show (dat1 V c).Φ t.castSucc = Φ V c t.val (Nat.le_of_lt t.isLt) by
      dsimp only [dat1]; exact Pipeline.Dat.Φ_castSucc (Φ V c) t,
    show (dat1 V c).owesAt () t.succ = (dat1 V c).owesAt () t.castSucc from rfl, body1_eq]
  refine triple_restated ?_ rfl .rfl fun _ => .rfl
  obtain ⟨k1, k2, k3⟩ := sums_at t
  by_cases hl : t.val % 4 = 4 - 1
  · obtain ⟨e6, e7, e8⟩ := stored t hl
    simp only [e6, e7, e8]
    exact Cert.Fused.point_last _ _ _ _ _ _ _ _ _ _ _ off off off off off k1_pay1 k1_pay2 k1_pay6 k1_pay7 k1_pay8 id k1_pay3 c _ _ _ _ _ _ _ _ _ _ _
      4 (blk1 V c 0) (blk1 V c 1) (blk1 V c 2) (blk1 V c 3) (blk1 V c 4) (blk1 V c 5) t (by decide) k1 k2 k3 _ _ (lends c) _ _ _ hl
      (ends_at t hl).1 (ends_at t hl).2 (before1_8 V c t hl)
  · obtain ⟨⟨e6, e7, e8⟩, f6, f7, f8⟩ := kept t hl
    simp only [e6, e7, e8, f6, f7, f8]
    exact Cert.Fused.point_sums _ _ _ _ _ _ _ _ _ _ _ off off off k1_pay1 k1_pay2 k1_pay6 k1_pay7 k1_pay8 id k1_pay3 c _ _ _ _ _ _ _ _ _ _ _
      4 (blk1 V c 0) (blk1 V c 1) (blk1 V c 2) (blk1 V c 3) (blk1 V c 4) (blk1 V c 5) t (by decide) k1 k2 k3 _ _ (lends c) _ _ _ hl

end Regions

/-! ## The run -/

section Run
variable (m : (ℓ : Loc nD τ sig) → Buf (Elt F) ℓ) (ρ : Dev nD → PrngReg)

/-- The unscoped buffers at launch, between the two kernels, and at the end. -/
abbrev W0 (c : Dev nD) : Valuation τ sig (Elt F) := fun b => m (c, b)
abbrev V0 (c : Dev nD) (b : Ref sig .tc) : Buf (Elt F) ((c : Thread nD τ).loc b) := W0 m c b
def W1 (c : Dev nD) : Valuation τ sig (Elt F) := Pipeline.afterRegion (dat0 (V0 m) c) (W0 m c)
abbrev V1 (c : Dev nD) (b : Ref sig .tc) : Buf (Elt F) ((c : Thread nD τ).loc b) := W1 m c b
def W2 (c : Dev nD) : Valuation τ sig (Elt F) := Pipeline.afterRegion (dat1 (V1 m) c) (W1 m c)

/-- No kernel changes an argument. -/
theorem W1_keeps (c : Dev nD) (r : Ref sig .tc) (h : ∀ w, Pipeline.arrRef spec0 w = r → (cfg0.win w).isOut = false) :
    W1 m c (Proc.devRef .tc r) = m ((c : Thread nD τ).loc r) :=
  Pipeline.afterRegion_keeps (dat0 (V0 m) c) (W0 m c) launch0.win.arr_inj (A0 _ c) r h
theorem W2_keeps (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (V1 m) c) (W1 m c) launch1.win.arr_inj (A1 _ c) r h
theorem W2_arg (c : Dev nD) : ∀ r ∈ ([main_arg0, main_arg1, main_arg2, main_arg3, main_arg4] : List (Ref sig .tc)),
    W2 m c (Proc.devRef .tc r) = m ((c : Thread nD τ).loc r) := fun r hr =>
  (W2_keeps m c r (by revert r; decide +kernel)).trans (W1_keeps m c r (by revert r; decide +kernel))

def pdats : (p : Fin 2) → (c : Dev nD) → Dat τ (Elt F) Unit ℕ (UR sig nD τ) ℕ (Pipeline.pin (pcfgs (F := F)) (fun p => (cfgs p).toPCfg_adm) p) c
  | ⟨0, _⟩, c => dat0 (V0 m) c
  | ⟨1, _⟩, c => dat1 (V1 m) c

def reg0 := Cert.Held.region (pcfgs (F := F)) (fun p => (cfgs p).toPCfg_adm) (pdats m) defs₀ 0 launch0.toP rfl
  (fun c => (obligation0 (V0 m) c).loose) (fun _ _ => rfl) (fun _ => rfl) (fun c => (dat0 (V0 m) c).share_full fun _ => rfl)
  (fun _ => .rfl) (fun _ => .rfl) (W0 m) (fun c => A0 (V0 m) c)
def reg1 := Cert.Held.region (pcfgs (F := F)) (fun p => (cfgs p).toPCfg_adm) (pdats m) defs₀ 1 launch1.toP rfl
  (fun c => (obligation1 (V1 m) c).loose) (fun _ _ => rfl) (fun _ => rfl) (fun c => (dat1 (V1 m) c).share_full fun _ => rfl)
  (fun c => Φ_first (V1 m) c) (fun c => Φ_last (V1 m) c) (W1 m) (fun c => A1 (V1 m) c)

/-- Every execution ends with every unscoped buffer at what the second kernel leaves. -/
theorem run : θ_run defs (onTc (τ := τ) (main (F := F))) ⟨m, fun _ => 0, ρ⟩
    (fun r => (∀ c : Dev nD, ∀ b ∈ Pipeline.ucRefs τ sig, r.2.mem (c, b) = W2 m c b) ∧ r.2.sem = fun _ => 0) :=
  Cert.Held.run_segs (pcfgs (F := F)) _ (pdats m) cellOf_inj defs₀ m ρ main [.region (reg0 m), .region (reg1 m)]
    (main_segs _ _ _ _ _ _ (reg0 m) (reg1 m)) (by simp only [Pipeline.Seg.pipes_region, Pipeline.Seg.pipes_nil]; decide) (W2 m)
    ⟨fun _ => .rfl, fun _ => .rfl, fun _ => .rfl⟩ (by decide)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have e (r : Ref sig .tc) (hu : ¬(Proc.devRef .tc r : DevRef τ sig).isScoped) (hr) :=
      (h.1 c _ (Cert.Held.mem_uc r hu)).trans (W2_arg m c r hr)
    exact ⟨e main_arg0 (by decide) (by decide), e main_arg1 (by decide) (by decide), e main_arg2 (by decide) (by decide),
      e main_arg3 (by decide) (by decide), e main_arg4 (by decide) (by decide)⟩, h.2⟩) (run m ρ)

end Run

end Cert.MixInFrame

end
-- ==== Proof.MixInValue.lean ====
/- The mixer's norm and its gradients: what the idealized program ends holding, and that the reference ends holding
   the same. -/
module

public import proofs.«01_k».proof.Proof.MixInFrame
public import proofs.«01_k».proof.Proof.FusedValue
public import proofs.«01_k».proof.Proof.Gen.MixInRefIdeal.Run
public import proofs.«01_k».proof.Proof.Gen.MixInRefIdeal.Read

@[expose] public section

set_option maxRecDepth 16384

noncomputable section

namespace Cert.MixInValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixInIdeal Cert.MixInIdeal.Gen Cert.MixInFrame Cert.MixInRefIdeal.Read
open Cert.Norm1Value (row rows factor factors)
open Cert.FusedValue (prod term col)

/-! ## The product -/

/-- The product's operands, each by its rows. -/
abbrev left {α : Type} (f3 : S4096x5120.Idx → α) (a : Fin 4096) (k : Fin 5120) : α := f3 (ix2 a k)
abbrev right {α : Type} (f2 : S2048x5120.Idx → α) (b : Fin 2048) (k : Fin 5120) : α := f2 (ix2 b k)

theorem reference (f2 : S2048x5120.Idx → ℝ) (f3 : S4096x5120.Idx → ℝ) :
    val_main_v20 (F := Ideal) (fun i => (f2 i : EReal)) (fun i => (f3 i : EReal)) = fun i => (prod (left f3) (right f2) i : EReal) := by
  funext i
  obtain ⟨a, b, rfl⟩ : ∃ (a : Fin 4096) (b : Fin 2048), i = ix2 a b := ⟨i 0, i 1, eq_ix2 i⟩
  pointwise [val_main_v20, val_main_v1, val_main_v0, prod]
  simp only [Cert.Reals.coe_sum, EReal.coe_mul]

theorem starts (a : Vec Ideal S512x1280 .bf16) (w : Vec Ideal S2048x1280 .bf16) (y : S512x2048.Idx) :
    k1_pay1 (F := Ideal) a w y = 0 + ∑ l : Fin 1280, a (ix2 (y 0) l) * w (ix2 (y 1) l) := by
  obtain ⟨i, j, rfl⟩ : ∃ (i : Fin 512) (j : Fin 2048), y = ix2 i j := ⟨y 0, y 1, eq_ix2 y⟩
  pointwise [k1_pay1]
theorem adds (s : Vec Ideal S512x2048 .f32) (a : Vec Ideal S512x1280 .bf16) (w : Vec Ideal S2048x1280 .bf16) (y : S512x2048.Idx) :
    k1_pay2 (F := Ideal) s a w y = s y + ∑ l : Fin 1280, a (ix2 (y 0) l) * w (ix2 (y 1) l) := by
  obtain ⟨i, j, rfl⟩ : ∃ (i : Fin 512) (j : Fin 2048), y = ix2 i j := ⟨y 0, y 1, eq_ix2 y⟩
  pointwise [k1_pay2]
theorem ends (s : Vec Ideal S512x2048 .f32) (a : Vec Ideal S512x1280 .bf16) (w : Vec Ideal S2048x1280 .bf16) :
    k1_pay4 (F := Ideal) s a w = k1_pay2 (F := Ideal) s a w := by
  funext y
  obtain ⟨i, j, rfl⟩ : ∃ (i : Fin 512) (j : Fin 2048), y = ix2 i j := ⟨y 0, y 1, eq_ix2 y⟩
  pointwise [k1_pay2, k1_pay4]

/-! ## The arrays after the run -/

section Points
variable (m : (ℓ : Loc nD τ sig) → Buf (Elt Ideal) ℓ) (c : Dev nD)

abbrev X0 : Vec Ideal S4096x2048 .f32 := m ((c : Thread nD τ).loc main_arg0)
abbrev X1 : Vec Ideal S1x2048 .f32 := m ((c : Thread nD τ).loc main_arg1)
abbrev X2 : Vec Ideal S2048x5120 .bf16 := m ((c : Thread nD τ).loc main_arg2)
abbrev X3 : Vec Ideal S4096x5120 .bf16 := m ((c : Thread nD τ).loc main_arg3)
abbrev X4 : Vec Ideal S4096x2048 .f32 := m ((c : Thread nD τ).loc main_arg4)

/-- A point's row block. -/
abbrev blockAt (t : Fin cfg1.N) : Fin 8 := Cert.FusedValue.blockAt (J := 4) N_1 t

theorem at0 : ∀ t : Fin grid0.N, win0_0.index t = ![t.val, 0] ∧ win0_3.index t = ![t.val, 0] := by decide +kernel
theorem at1 : ∀ t : Fin grid1.N, win1_0.index t = ![t.val / 4, t.val % 4] ∧ win1_1.index t = ![0, t.val % 4] ∧ win1_2.index t = ![t.val / 4, 0]
    ∧ win1_3.index t = ![t.val / 4, 0] ∧ win1_4.index t = ![0, 0] ∧ win1_5.index t = ![t.val / 4, 0] ∧ win1_6.index t = ![t.val / 4, 0]
    ∧ win1_7.index t = ![t.val / 4, 0] := by decide +kernel

theorem norm : W1 m c (Proc.devRef .tc main_v0_1) = factor (X0 m c) := by
  refine (Pipeline.afterRegion_arr (dat0 (V0 m) c) (W0 m c) launch0.win.arr_inj 3).trans ?_
  refine (dat0 (V0 m) c).arrAt_eq_of_covers 3 _ (by decide +kernel) fun t hf y => ?_
  blk_simp
  rw [show (dat0 (V0 m) c).after 3 t = k0_pay1 (blk0 (V0 m) c 0 t) by dsimp only [dat0],
    show blk0 (V0 m) c 0 t = rows (Fin.cast N_0 t) (X0 m c) by funext y; blk_ext! [blk0, V0, W0, at0 t, rows, row] <;> rfl,
    show k0_pay1 (F := Ideal) _ = Cert.Norm1Ideal.Gen.k0_pay1 (F := Ideal) _ from rfl, factors]
  generalize factor (X0 m c) = G
  blk_ext [at0 t, rows, row] <;> rfl

/-- The blocks the gradients' kernel reads. -/
theorem blocks (t : Fin cfg1.N) : (∀ y l, blk1 (V1 m) c 0 t (ix2 y l) = X3 m c (ix2 (row (blockAt t) y) (col (J := 4) (K := 5120) rfl (by decide) t.val l)))
    ∧ (∀ y l, blk1 (V1 m) c 1 t (ix2 y l) = X2 m c (ix2 y (col (J := 4) (K := 5120) rfl (by decide) t.val l)))
    ∧ blk1 (V1 m) c 2 t = rows (blockAt t) (X0 m c) ∧ blk1 (V1 m) c 3 t = rows (blockAt t) (factor (X0 m c))
    ∧ blk1 (V1 m) c 4 t = X1 m c ∧ blk1 (V1 m) c 5 t = rows (blockAt t) (X4 m c) := by
  rw [← norm m c, show X0 m c = V1 m c main_arg0 from (W1_keeps m c _ (by decide +kernel)).symm,
    show X1 m c = V1 m c main_arg1 from (W1_keeps m c _ (by decide +kernel)).symm,
    show X2 m c = V1 m c main_arg2 from (W1_keeps m c _ (by decide +kernel)).symm,
    show X3 m c = V1 m c main_arg3 from (W1_keeps m c _ (by decide +kernel)).symm,
    show X4 m c = V1 m c main_arg4 from (W1_keeps m c _ (by decide +kernel)).symm]
  refine ⟨fun y l => ?_, fun y l => ?_, ?_, ?_, ?_, ?_⟩
  iterate 2 blk_ext! [blk1, col, row, at1 t] <;> rfl
  all_goals funext y; blk_ext! [blk1, rows, row, at1 t] <;> rfl

variable (f0 : S4096x2048.Idx → ℝ) (f1 : S1x2048.Idx → ℝ) (f2 : S2048x5120.Idx → ℝ) (f3 : S4096x5120.Idx → ℝ)
  (h0 : X0 m c = fun i => (f0 i : EReal)) (h1 : X1 m c = fun i => (f1 i : EReal)) (h2 : X2 m c = fun i => (f2 i : EReal))
  (h3 : X3 m c = fun i => (f3 i : EReal))

include h2 h3 in
/-- At the last of a row block's points the sum is the product's rows. -/
theorem sum (t : Fin cfg1.N) (ht : t.val % 4 = 4 - 1) :
    k1_pay4 (found (V1 m) c t) (blk1 (V1 m) c 0 t) (blk1 (V1 m) c 1 t) = rows (blockAt t) fun i => (prod (left f3) (right f2) i : EReal) := by
  rw [ends]
  refine Cert.FusedValue.rows_of_sums (n := 1280) N_1 rfl (by decide) k1_pay1 k1_pay2 (blk1 (V1 m) c 0) (blk1 (V1 m) c 1)
    (left f3) (right f2) (fun t y => ?_) (fun t s y => ?_) t ht (by omega)
  all_goals
    obtain ⟨b0, b1, -⟩ := blocks m c t
    first | refine (starts _ _ _).trans (congrArg (0 + ·) ?_) | refine (adds _ _ _ _).trans (congrArg (s y + ·) ?_)
    exact Finset.sum_congr rfl fun l _ => congrArg₂ (· * ·) ((b0 _ _).trans (congrFun h3 _)) ((b1 _ _).trans (congrFun h2 _))

include h0 h1 h2 h3

/-- The block written at the last of a row block's points. -/
theorem dx (t : Fin cfg1.N) (ht : t.val % 4 = 4 - 1) : (dat1 (V1 m) c).after 6 t = rows (blockAt t) (val_main_v41 (X0 m c) (X1 m c) (X2 m c) (X3 m c) (X4 m c)) := by
  obtain ⟨-, -, b2, b3, b4, b5⟩ := blocks m c t
  refine (show (dat1 (V1 m) c).after 6 t = Cert.Norm1Ideal.Gen.k1_pay3 (F := Ideal) (blk1 (V1 m) c 2 t) (blk1 (V1 m) c 3 t)
      (k1_pay4 (found (V1 m) c t) (blk1 (V1 m) c 0 t) (blk1 (V1 m) c 1 t)) (blk1 (V1 m) c 4 t) (blk1 (V1 m) c 3 t) (blk1 (V1 m) c 5 t) by
    dsimp only [dat1]; rfl).trans ?_
  rw [sum m c f2 f3 h2 h3 t ht, b2, b3, b4, b5, h0, h1, Cert.Norm1Value.dx, ← reference, ← h2, ← h3]
  rfl

theorem end_dx : W2 m c (Proc.devRef .tc main_v1_0) = val_main_v41 (X0 m c) (X1 m c) (X2 m c) (X3 m c) (X4 m c) := by
  refine (Pipeline.afterRegion_arr (dat1 (V1 m) c) (W1 m c) launch1.win.arr_inj 6).trans ?_
  refine (dat1 (V1 m) c).arrAt_eq_of_covers 6 _ (by decide +kernel) fun t hf y => ?_
  blk_simp
  rw [dx m c f0 f1 f2 f3 h0 h1 h2 h3 t ((flush1_6 t).mp hf)]
  generalize val_main_v41 (F := Ideal) _ _ _ _ _ = G
  blk_ext [at1 t, rows, row] <;> rfl

theorem end_dx_half : W2 m c (Proc.devRef .tc main_v1_1) = val_main_v43 (X0 m c) (X1 m c) (X2 m c) (X3 m c) (X4 m c) := by
  refine (Pipeline.afterRegion_arr (dat1 (V1 m) c) (W1 m c) launch1.win.arr_inj 7).trans ?_
  refine (dat1 (V1 m) c).arrAt_eq_of_covers 7 _ (by decide +kernel) fun t hf y => ?_
  blk_simp
  rw [show (dat1 (V1 m) c).after 7 t = fun y => (dat1 (V1 m) c).after 6 t y by dsimp only [dat1]; rfl,
    dx m c f0 f1 f2 f3 h0 h1 h2 h3 t ((flush1_7 t).mp hf)]
  unfold val_main_v43
  generalize val_main_v41 (F := Ideal) _ _ _ _ _ = G
  show rows _ G _ = G _
  blk_ext [at1 t, rows, row] <;> rfl

theorem end_dg : W2 m c (Proc.devRef .tc main_v1_2) = val_main_v42 (X0 m c) (X2 m c) (X3 m c) := by
  refine (Pipeline.afterRegion_arr (dat1 (V1 m) c) (W1 m c) launch1.win.arr_inj 8).trans ?_
  refine (dat1 (V1 m) c).arrAt_eq_of_after_last 8 ⟨31, by decide⟩ (by decide +kernel) _ fun j => ?_
  show acc (V1 m) c 31 (by decide) j = _
  refine (Cert.FusedValue.gain (J := 4) (by decide) N_1 _ _ (fun t x i => by pointwise [k1_pay3]; rfl) f0 (prod (left f3) (right f2)) (fun t ht => ?_) _ j).trans ?_
  · obtain ⟨-, -, b2, b3, -, -⟩ := blocks m c t
    refine (show part (V1 m) c t = Cert.Norm1Ideal.Gen.k1_pay5 (F := Ideal) (blk1 (V1 m) c 2 _) (blk1 (V1 m) c 3 _)
      (k1_pay4 (found (V1 m) c _) (blk1 (V1 m) c 0 _) (blk1 (V1 m) c 1 _)) from rfl).trans ?_
    rw [sum m c f2 f3 h2 h3 t ht, b2, b3, h0]
  rw [← reference, ← h0, ← h2, ← h3]
  rfl

end Points

/-! ## The two programs' one value -/

instance : Cert.Pre_mixin_finite.Facts := ⟨by decide, by decide, by decide, by decide⟩

theorem algebraic : Cert.algebraic_MixInIdeal_MixInRefIdeal_pre_mixin_finite := by
  intro m ρ m' ρ' hpre hagree
  refine ⟨fun c => val_main_v41 (X0 m c) (X1 m c) (X2 m c) (X3 m c) (X4 m c), fun c => val_main_v43 (X0 m c) (X1 m c) (X2 m c) (X3 m c) (X4 m c),
    fun c => val_main_v42 (X0 m c) (X2 m c) (X3 m c), ?_, ?_⟩
  · refine (θ_run defs _ _).mono (fun r h c => ?_) (run (F := Ideal) m ρ)
    have e (r : Ref sig .tc) (hu : ¬(Proc.devRef .tc r : DevRef τ sig).isScoped) := h.1 c _ (Cert.Held.mem_uc r hu)
    obtain ⟨p0, p1, p2, p3⟩ := hpre c
    obtain ⟨f0, h0⟩ := Cert.Reals.reals_of_lt _ _ _ Cert.Reals.inf_f32 p0
    obtain ⟨f1, h1⟩ := Cert.Reals.reals_of_lt _ _ _ Cert.Reals.inf_f32 p1
    obtain ⟨f2, h2⟩ := Cert.Reals.reals_of_lt _ _ _ Cert.Reals.inf_bf16 p2
    obtain ⟨f3, h3⟩ := Cert.Reals.reals_of_lt _ _ _ Cert.Reals.inf_bf16 p3
    have a (r : Ref sig .tc) (hu : ¬(Proc.devRef .tc r : DevRef τ sig).isScoped) (hr) := (e r hu).trans (W2_arg m c r hr)
    exact ⟨(e main_v1_0 (by decide)).trans (end_dx m c f0 f1 f2 f3 h0 h1 h2 h3), (e main_v1_1 (by decide)).trans (end_dx_half m c f0 f1 f2 f3 h0 h1 h2 h3),
      (e main_v1_2 (by decide)).trans (end_dg m c f0 f1 f2 f3 h0 h1 h2 h3), a main_arg0 (by decide) (by decide),
      a main_arg1 (by decide) (by decide), a main_arg2 (by decide) (by decide), a main_arg3 (by decide) (by decide), a main_arg4 (by decide) (by decide)⟩
  · refine (θ_run Cert.MixInRefIdeal.defs _ _).mono (fun r h c => ?_) (Cert.MixInRefIdeal.Value.run (F := Ideal) m' ρ')
    obtain ⟨e0, e1, e2, ea⟩ := h c
    obtain ⟨g0, g1, g2, g3, g4⟩ := hagree c
    rw [val_main_v41_eq, g0, g1, g2, g3, g4] at e0
    rw [val_main_v43_eq, g0, g1, g2, g3, g4] at e1
    rw [val_main_v42_eq, g0, g2, g3] at e2
    exact ⟨e0, e1, e2, ea⟩

end Cert.MixInValue

end
-- ==== Proof.FfnFrame.lean ====
/- The second gated product's norm and its gradients: the two kernels run to what every unscoped buffer ends holding, over any numbers. -/
module

public import proofs.«01_k».proof.Proof.Fused
public import Idealize.ShloMosaic.Lib.Pipeline.TableIdle
public import proofs.«01_k».proof.Proof.Gen.FfnIdeal.Launch
public import proofs.«01_k».proof.Proof.Gen.FfnIdeal.Skeleton
public import proofs.«01_k».proof.Proof.Gen.FfnIdeal.Points

@[expose] public section

set_option maxRecDepth 16384

noncomputable section

namespace Cert.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.FfnIdeal Cert.FfnIdeal.Gen

variable {F : FTy → Type} [FloatOps F]

local notation "𝕄" => MT nD τ sig Unit (Elt F) ℕ (UR sig nD τ) ℕ

/-! ## The bodies -/

theorem off : (![0, 0] : Fin 2 → Nat) = fun _ => 0 := by decide
theorem off3 : (![0, 0, 0] : Fin 3 → Nat) = fun _ => 0 := by decide

/-- Whether a point is the first of its row block, and whether it lies between the first and the last. -/
def cond1 (i : grid1.Coords) : BitVec 1 := Scalar.cmpi .ne (Scalar.extui (Scalar.cmpi .eq (BitVec.ofNat 32 (i 1).val) 0#32) : BitVec 32) 0#32
def cond2 (i : grid1.Coords) : BitVec 1 :=
  Scalar.cmpi .ne (Scalar.extui (Scalar.andi (Scalar.cmpi .sgt (BitVec.ofNat 32 (i 1).val) 0#32) (Scalar.cmpi .slt (BitVec.ofNat 32 (i 1).val) 7#32)) : BitVec 32) 0#32

theorem body0_eq (i : grid0.Coords) (a1 : Memref sig .tc .vmem S512x2048 .f32) (h1 : a1.IsWhole)
    (a2 : Memref sig .tc .vmem S1x2048 .f32) (h2 : a2.IsWhole) (a3 : Memref sig .tc .vmem S512x2048 .bf16) (h3 : a3.IsWhole)
    (a4 : Memref sig .tc .vmem S512x1 .f32) (h4 : a4.IsWhole) :
    cc0_norm4 (F := F) i a1 h1 a2 h2 a3 h3 a4 h4 = Cert.Fused.norm inb_S512x2048_S512x2048_0_0 h_S512x2048 inb_S512x1_S512x1_0_0 h_S512x1
      inb_S1x2048_S1x2048_0_0 h_S1x2048 packedbf16_S512x2048_S512x2048_0_0 k0_pay1 k0_pay2 a1 a2 a3 h3 a4 := rfl

theorem body1_eq (i : grid1.Coords) (a2 : Memref sig .tc .vmem S1x512x1408 .bf16) (h2 : a2.IsWhole)
    (a3 : Memref sig .tc .vmem S2048x1408 .bf16) (h3 : a3.IsWhole) (a4 : Memref sig .tc .vmem S512x2048 .f32) (h4 : a4.IsWhole)
    (a5 : Memref sig .tc .vmem S512x1 .f32) (h5 : a5.IsWhole) (a6 : Memref sig .tc .vmem S1x2048 .f32) (h6 : a6.IsWhole)
    (a7 : Memref sig .tc .vmem S512x2048 .f32) (h7 : a7.IsWhole) (a8 : Memref sig .tc .vmem S512x2048 .f32) (h8 : a8.IsWhole)
    (a9 : Memref sig .tc .vmem S512x2048 .bf16) (h9 : a9.IsWhole) (a10 : Memref sig .tc .vmem S1x2048 .f32) (h10 : a10.IsWhole)
    (a11 : Memref sig .tc .vmem S512x2048 .f32) (h11 : a11.IsWhole) :
    cc1_ffn2_dn (F := F) i a2 h2 a3 h3 a4 h4 a5 h5 a6 h6 a7 h7 a8 h8 a9 h9 a10 h10 a11 h11
      = Cert.Fused.grads inb_S1x512x1408_S1x512x1408_0_0_0 h_S1x512x1408 inb_S2048x1408_S2048x1408_0_0 h_S2048x1408
        inb_S512x2048_S512x2048_0_0 h_S512x2048 inb_S512x1_S512x1_0_0 h_S512x1 inb_S1x2048_S1x2048_0_0 h_S1x2048
        packedbf16_S512x2048_S512x2048_0_0 (cond1 i) (cond2 i) (k1_cond3 i) (k1_cond4 i) (k1_cond5 i) k1_pay1 k1_pay2 k1_pay7 k1_pay8 k1_pay9
        k1_pay3 k1_pay4 a2 a3 a4 a5 a6 a7 a8 a9 h9 a10 a11 := rfl

/-! ## What each region leaves, point by point -/

section Regions
variable (V : (c : Dev nD) → (b : Ref sig .tc) → Buf (Elt F) ((c : Thread nD τ).loc b))

/-- A window's block at a point, of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The norm's blocks after a point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay2 (blk0 V c 0 t) (blk0 V c 1 t)
    | ⟨3, _⟩ => k0_pay1 (blk0 V c 0 t)
  Φ _ := Pipeline.ΦA spec0 c
  q _ := fullShare
  owed _ := 0

/-- The sum that a point finds, a row block's part of the gain's gradient, and the sum of the parts up to a point. -/
abbrev found (c : Dev nD) : Fin cfg1.N → Vec F S512x2048 .f32 := Cert.Fused.found k1_pay1 k1_pay2 8 (blk1 V c 0) (blk1 V c 1)
abbrev part (c : Dev nD) := Cert.Fused.part (N := cfg1.N) (F := F) k1_pay1 k1_pay2 k1_pay9 8 (blk1 V c 0) (blk1 V c 1) (blk1 V c 2) (blk1 V c 3)
abbrev acc (c : Dev nD) : (n : ℕ) → n < cfg1.N → Vec F S1x2048 .f32 :=
  Cert.Fused.acc k1_pay1 k1_pay2 k1_pay9 k1_pay3 k1_pay4 8 (blk1 V c 0) (blk1 V c 1) (blk1 V c 2) (blk1 V c 3)

/-- The scratch buffer that holds the sum. -/
abbrev scratch : Memref sig .tc .vmem S512x2048 .f32 := Memref.whole cc1_scratch0
theorem lends (c : Dev nD) : Cert.Fused.Lends c scratch (Pipeline.ΦA spec1 c : sProp 𝕄) := by
  unfold Cert.Fused.Lends Pipeline.ΦA
  simp only [scopedRest1_eq, owns_whole]
  exact Cert.Fused.lend _ _ _ _ _ _ _ _ _

/-- What a point finds beside its blocks. -/
abbrev Φ (c : Dev nD) : (n : ℕ) → n ≤ cfg1.N → sProp 𝕄 :=
  Cert.Fused.carried k1_pay1 k1_pay2 c scratch 8 (blk1 V c 0) (blk1 V c 1) (Pipeline.ΦA spec1 c)

/-- The gradients' blocks after a point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay7 (found V c t) (blk1 V c 0 t) (blk1 V c 1 t) (blk1 V c 2 t) (blk1 V c 3 t) (blk1 V c 4 t) (blk1 V c 5 t) (blk1 V c 3 t)
    | ⟨7, _⟩ => k1_pay8 (found V c t) (blk1 V c 0 t) (blk1 V c 1 t) (blk1 V c 2 t) (blk1 V c 3 t) (blk1 V c 4 t) (blk1 V c 5 t) (blk1 V c 3 t)
    | ⟨8, _⟩ => acc V c t.val t.isLt
  Φ t := Φ V c t.val (Nat.le_of_lt_succ t.isLt)
  q _ := fullShare
  owed _ := 0

theorem Φ_first (c : Dev nD) : (Pipeline.ΦA spec1 c : sProp 𝕄) ⊢ (dat1 V c).Φ 0 := .rfl
theorem Φ_last (c : Dev nD) : (dat1 V c).Φ (Fin.last cfg1.N) ⊢ (Pipeline.ΦA spec1 c : sProp 𝕄) := by
  rw [show (dat1 V c).Φ (Fin.last cfg1.N) = Φ V c cfg1.N (Nat.le_refl _) from rfl,
    show Φ V c cfg1.N (Nat.le_refl _) = _ from Cert.Fused.carried_begin _ _ _ _ _ _ _ _ _ _ (by rw [show cfg1.N = 64 from N_1])]

theorem A0 (c : Dev nD) (w : Fin cfg0.W) : (dat0 V c).A w = V c (Pipeline.arrRef spec0 w) := by dsimp only [dat0]
theorem A1 (c : Dev nD) (w : Fin cfg1.W) : (dat1 V c).A w = V c (Pipeline.arrRef spec1 w) := by dsimp only [dat1]

theorem before0 (c : Dev nD) (w : Fin cfg0.W) (hw : w = 0 ∨ w = 1) (t : Fin cfg0.N) (d) :
    (dat0 V c).before w t d = (dat0 V c).after w t := by
  rcases hw with rfl | rfl <;>
    exact Cert.Held.before_in _ _ rfl (fun _ => rfl) (fun _ _ => rfl) (fun t => by unfold Dat.blockOf; rw [A0]; dsimp only [dat0]; rfl) t d

theorem before1 (c : Dev nD) (w : Fin cfg1.W) (hw : w.val < 6) (t : Fin cfg1.N) (d) :
    (dat1 V c).before w t d = (dat1 V c).after w t := by
  rcases (show w = 0 ∨ w = 1 ∨ w = 2 ∨ w = 3 ∨ w = 4 ∨ w = 5 by clear d; revert w; decide) with rfl | rfl | rfl | rfl | rfl | rfl <;>
    exact Cert.Held.before_in _ _ rfl (fun _ => rfl) (fun _ _ => rfl) (fun t => by unfold Dat.blockOf; rw [A1]; dsimp only [dat1]; rfl) t d

/-- Which parts of the body run at a point, and where the outputs are left alone. -/
theorem sums_at : ∀ t : Fin grid1.N, (cond1 (grid1.coords t) = 1#1 ↔ t.val % 8 = 0)
    ∧ (cond2 (grid1.coords t) = 1#1 ↔ ¬t.val % 8 = 0 ∧ ¬t.val % 8 = 8 - 1) ∧ (k1_cond3 (grid1.coords t) = 1#1 ↔ t.val % 8 = 8 - 1) := by decide +kernel
theorem ends_at : ∀ t : Fin grid1.N, t.val % 8 = 8 - 1 → (k1_cond4 (grid1.coords t) = 1#1 ↔ t.val = 8 - 1)
    ∧ (k1_cond5 (grid1.coords t) = 1#1 ↔ ¬t.val = 8 - 1) := by decide +kernel
theorem stored : ∀ t : Fin grid1.N, t.val % 8 = 8 - 1 → idle1 6 (grid1.coords t) = false ∧ idle1 7 (grid1.coords t) = false
    ∧ idle1 8 (grid1.coords t) = false := by decide +kernel
theorem kept : ∀ t : Fin grid1.N, ¬t.val % 8 = 8 - 1 → (idle1 6 (grid1.coords t) = true ∧ idle1 7 (grid1.coords t) = true
    ∧ idle1 8 (grid1.coords t) = true) ∧ (win1 6).flush t = false ∧ (win1 7).flush t = false ∧ (win1 8).flush t = false := by decide +kernel
theorem old : ∀ t : Fin cfg1.N, t.val % 8 = 8 - 1 → ¬t.val = 8 - 1 → cfg1.fresh 8 t.val = false := by decide +kernel

theorem before1_8 (c : Dev nD) (t : Fin cfg1.N) (h : t.val % 8 = 8 - 1) (h1 : ¬t.val = 8 - 1) (d) :
    (dat1 V c).before 8 t d = acc V c (t.val - 1) (Nat.lt_of_le_of_lt (Nat.sub_le _ _) t.isLt) := by
  refine (Dat.before_out_traj (dat1 V c) 8 rfl (fun _ _ => rfl) (fun t h0 hi _ => ?_) t.val t rfl d).trans ?_
  · dsimp only [dat1]
    exact Cert.Fused.acc_idle _ _ _ _ _ _ _ _ _ _ t (fun h => Bool.false_ne_true ((stored t h).2.2.symm.trans hi)) h0
  · rw [if_neg (by rw [old t h h1]; exact Bool.false_ne_true)]
    dsimp only [dat1]

theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [before0 V c 0 (.inl rfl), before0 V c 1 (.inr rfl)]
  unfold bodyAt0
  rw [show (dat0 V c).Φ t.succ = (dat0 V c).Φ t.castSucc from rfl, show (dat0 V c).owesAt () t.succ = (dat0 V c).owesAt () t.castSucc from rfl,
    body0_eq]
  refine triple_restated ?_ rfl .rfl fun _ => .rfl
  iintro ⟨HΦ, Ho, ⟨%d0, H0⟩, ⟨%d1, H1⟩, ⟨%d2, H2⟩, ⟨%d3, H3⟩⟩
  iapply (Cert.Fused.norm_leaves _ _ _ _ _ _ _ off off off _ _ c _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  simp only [before1 V c 0 (by decide), before1 V c 1 (by decide), before1 V c 2 (by decide), before1 V c 3 (by decide), before1 V c 4 (by decide),
    before1 V c 5 (by decide)]
  unfold bodyAt1
  rw [show (dat1 V c).Φ t.succ = Φ V c (t.val + 1) t.isLt from rfl, show (dat1 V c).Φ t.castSucc = Φ V c t.val (Nat.le_of_lt t.isLt) by
      dsimp only [dat1]; exact Pipeline.Dat.Φ_castSucc (Φ V c) t,
    show (dat1 V c).owesAt () t.succ = (dat1 V c).owesAt () t.castSucc from rfl, body1_eq]
  refine triple_restated ?_ rfl .rfl fun _ => .rfl
  obtain ⟨k1, k2, k3⟩ := sums_at t
  by_cases hl : t.val % 8 = 8 - 1
  · obtain ⟨e6, e7, e8⟩ := stored t hl
    simp only [e6, e7, e8]
    exact Cert.Fused.point_last _ _ _ _ _ _ _ _ _ _ _ off3 off off off off k1_pay1 k1_pay2 k1_pay7 k1_pay8 k1_pay9 k1_pay3 k1_pay4 c _ _ _ _ _ _ _ _ _ _ _
      8 (blk1 V c 0) (blk1 V c 1) (blk1 V c 2) (blk1 V c 3) (blk1 V c 4) (blk1 V c 5) t (by decide) k1 k2 k3 _ _ (lends c) _ _ _ hl
      (ends_at t hl).1 (ends_at t hl).2 (before1_8 V c t hl)
  · obtain ⟨⟨e6, e7, e8⟩, f6, f7, f8⟩ := kept t hl
    simp only [e6, e7, e8, f6, f7, f8]
    exact Cert.Fused.point_sums _ _ _ _ _ _ _ _ _ _ _ off3 off off k1_pay1 k1_pay2 k1_pay7 k1_pay8 k1_pay9 k1_pay3 k1_pay4 c _ _ _ _ _ _ _ _ _ _ _
      8 (blk1 V c 0) (blk1 V c 1) (blk1 V c 2) (blk1 V c 3) (blk1 V c 4) (blk1 V c 5) t (by decide) k1 k2 k3 _ _ (lends c) _ _ _ hl

end Regions

/-! ## The run -/

section Run
variable (m : (ℓ : Loc nD τ sig) → Buf (Elt F) ℓ) (ρ : Dev nD → PrngReg)

/-- The unscoped buffers at launch, between the two kernels, and at the end. -/
abbrev W0 (c : Dev nD) : Valuation τ sig (Elt F) := fun b => m (c, b)
abbrev V0 (c : Dev nD) (b : Ref sig .tc) : Buf (Elt F) ((c : Thread nD τ).loc b) := W0 m c b
def W1 (c : Dev nD) : Valuation τ sig (Elt F) := Pipeline.afterRegion (dat0 (V0 m) c) (W0 m c)
abbrev V1 (c : Dev nD) (b : Ref sig .tc) : Buf (Elt F) ((c : Thread nD τ).loc b) := W1 m c b
def W2 (c : Dev nD) : Valuation τ sig (Elt F) := Pipeline.afterRegion (dat1 (V1 m) c) (W1 m c)

/-- No kernel changes an argument. -/
theorem W1_keeps (c : Dev nD) (r : Ref sig .tc) (h : ∀ w, Pipeline.arrRef spec0 w = r → (cfg0.win w).isOut = false) :
    W1 m c (Proc.devRef .tc r) = m ((c : Thread nD τ).loc r) :=
  Pipeline.afterRegion_keeps (dat0 (V0 m) c) (W0 m c) launch0.win.arr_inj (A0 _ c) r h
theorem W2_keeps (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (V1 m) c) (W1 m c) launch1.win.arr_inj (A1 _ c) r h
theorem W2_arg (c : Dev nD) : ∀ r ∈ ([main_arg0, main_arg1, main_arg2, main_arg3, main_arg4] : List (Ref sig .tc)),
    W2 m c (Proc.devRef .tc r) = m ((c : Thread nD τ).loc r) := fun r hr =>
  (W2_keeps m c r (by revert r; decide +kernel)).trans (W1_keeps m c r (by revert r; decide +kernel))

def pdats : (p : Fin 2) → (c : Dev nD) → Dat τ (Elt F) Unit ℕ (UR sig nD τ) ℕ (Pipeline.pin (pcfgs (F := F)) (fun p => (cfgs p).toPCfg_adm) p) c
  | ⟨0, _⟩, c => dat0 (V0 m) c
  | ⟨1, _⟩, c => dat1 (V1 m) c

def reg0 := Cert.Held.region (pcfgs (F := F)) (fun p => (cfgs p).toPCfg_adm) (pdats m) defs₀ 0 launch0.toP rfl
  (fun c => (obligation0 (V0 m) c).loose) (fun _ _ => rfl) (fun _ => rfl) (fun c => (dat0 (V0 m) c).share_full fun _ => rfl)
  (fun _ => .rfl) (fun _ => .rfl) (W0 m) (fun c => A0 (V0 m) c)
def reg1 := Cert.Held.region (pcfgs (F := F)) (fun p => (cfgs p).toPCfg_adm) (pdats m) defs₀ 1 launch1.toP rfl
  (fun c => (obligation1 (V1 m) c).loose) (fun _ _ => rfl) (fun _ => rfl) (fun c => (dat1 (V1 m) c).share_full fun _ => rfl)
  (fun c => Φ_first (V1 m) c) (fun c => Φ_last (V1 m) c) (W1 m) (fun c => A1 (V1 m) c)

/-- Every execution ends with every unscoped buffer at what the second kernel leaves. -/
theorem run : θ_run defs (onTc (τ := τ) (main (F := F))) ⟨m, fun _ => 0, ρ⟩
    (fun r => (∀ c : Dev nD, ∀ b ∈ Pipeline.ucRefs τ sig, r.2.mem (c, b) = W2 m c b) ∧ r.2.sem = fun _ => 0) :=
  Cert.Held.run_segs (pcfgs (F := F)) _ (pdats m) cellOf_inj defs₀ m ρ main [.region (reg0 m), .region (reg1 m)]
    (main_segs _ _ _ _ _ _ (reg0 m) (reg1 m)) (by simp only [Pipeline.Seg.pipes_region, Pipeline.Seg.pipes_nil]; decide) (W2 m)
    ⟨fun _ => .rfl, fun _ => .rfl, fun _ => .rfl⟩ (by decide)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have e (r : Ref sig .tc) (hu : ¬(Proc.devRef .tc r : DevRef τ sig).isScoped) (hr) :=
      (h.1 c _ (Cert.Held.mem_uc r hu)).trans (W2_arg m c r hr)
    exact ⟨e main_arg0 (by decide) (by decide), e main_arg1 (by decide) (by decide), e main_arg2 (by decide) (by decide),
      e main_arg3 (by decide) (by decide), e main_arg4 (by decide) (by decide)⟩, h.2⟩) (run m ρ)

end Run

end Cert.FfnFrame

end
-- ==== Proof.FfnValue.lean ====
/- The second gated product's norm and its gradients: what the idealized program ends holding, and that the reference ends holding
   the same. -/
module

public import proofs.«01_k».proof.Proof.FfnFrame
public import proofs.«01_k».proof.Proof.FusedValue
public import proofs.«01_k».proof.Proof.Gen.FfnRefIdeal.Run
public import proofs.«01_k».proof.Proof.Gen.FfnRefIdeal.Read

@[expose] public section

set_option maxRecDepth 16384

noncomputable section

namespace Cert.FfnValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen Cert.FfnFrame Cert.FfnRefIdeal.Read
open Cert.Norm1Value (row rows factor factors)
open Cert.FusedValue (prod term col)

/-! ## The product -/

/-- The product's operands, each by its rows. -/
abbrev left {α : Type} (f3 : S2x4096x5632.Idx → α) (a : Fin 4096) (k : Fin 11264) : α := f3 (ix3 ⟨k.val / 5632, by omega⟩ a ⟨k.val % 5632, Nat.mod_lt _ (by decide)⟩)
abbrev right {α : Type} (f2 : S2048x11264.Idx → α) (b : Fin 2048) (k : Fin 11264) : α := f2 (ix2 b k)

/-- The reference joins the two halves along their columns. -/
theorem joined (x : Vec Ideal S2x4096x5632 .bf16) (i : Cert.FfnRefIdeal.S4096x11264.Idx) : val_main_v26 (F := Ideal) x i = left x (i 0) (i 1) := by
  obtain ⟨a, k, rfl⟩ : ∃ (a : Fin 4096) (k : Fin 11264), i = ix2 a k := ⟨i 0, i 1, eq_ix2 i⟩
  pointwise [val_main_v26, val_main_v25, val_main_v24, val_main_v23, val_main_v22, val_main_v1]
  split_ifs
  all_goals exact congrArg x (congrArg₂ (fun p q => ix3 p a q) (Fin.ext (by dsimp; omega)) (Fin.ext (by dsimp; omega)))

theorem reference (f2 : S2048x11264.Idx → ℝ) (f3 : S2x4096x5632.Idx → ℝ) :
    val_main_v27 (F := Ideal) (fun i => (f2 i : EReal)) (fun i => (f3 i : EReal)) = fun i => (prod (left f3) (right f2) i : EReal) := by
  funext i
  obtain ⟨a, b, rfl⟩ : ∃ (a : Fin 4096) (b : Fin 2048), i = ix2 a b := ⟨i 0, i 1, eq_ix2 i⟩
  refine (val_main_v27_apply _ _ _).trans ?_
  refine Eq.trans ?_ (Cert.Reals.coe_sum _ _).symm
  exact Finset.sum_congr rfl fun k _ => by
    rw [joined, EReal.coe_mul]
    pointwise [val_main_v0]
    rw [show ridx_main_v27 (ix2 a b) k = ix2 b k from eq_ix2 _]
    rfl

theorem starts (a : Vec Ideal S1x512x1408 .bf16) (w : Vec Ideal S2048x1408 .bf16) (y : S512x2048.Idx) :
    k1_pay1 (F := Ideal) a w y = 0 + ∑ l : Fin 1408, a (ix3 0 (y 0) l) * w (ix2 (y 1) l) := by
  obtain ⟨i, j, rfl⟩ : ∃ (i : Fin 512) (j : Fin 2048), y = ix2 i j := ⟨y 0, y 1, eq_ix2 y⟩
  pointwise [k1_pay1]
theorem adds (s : Vec Ideal S512x2048 .f32) (a : Vec Ideal S1x512x1408 .bf16) (w : Vec Ideal S2048x1408 .bf16) (y : S512x2048.Idx) :
    k1_pay2 (F := Ideal) s a w y = s y + ∑ l : Fin 1408, a (ix3 0 (y 0) l) * w (ix2 (y 1) l) := by
  obtain ⟨i, j, rfl⟩ : ∃ (i : Fin 512) (j : Fin 2048), y = ix2 i j := ⟨y 0, y 1, eq_ix2 y⟩
  pointwise [k1_pay2]
theorem ends (s : Vec Ideal S512x2048 .f32) (a : Vec Ideal S1x512x1408 .bf16) (w : Vec Ideal S2048x1408 .bf16) :
    k1_pay5 (F := Ideal) s a w = k1_pay2 (F := Ideal) s a w := by
  funext y
  obtain ⟨i, j, rfl⟩ : ∃ (i : Fin 512) (j : Fin 2048), y = ix2 i j := ⟨y 0, y 1, eq_ix2 y⟩
  pointwise [k1_pay2, k1_pay5]

/-! ## The arrays after the run -/

section Points
variable (m : (ℓ : Loc nD τ sig) → Buf (Elt Ideal) ℓ) (c : Dev nD)

abbrev X0 : Vec Ideal S4096x2048 .f32 := m ((c : Thread nD τ).loc main_arg0)
abbrev X1 : Vec Ideal S1x2048 .f32 := m ((c : Thread nD τ).loc main_arg1)
abbrev X2 : Vec Ideal S2048x11264 .bf16 := m ((c : Thread nD τ).loc main_arg2)
abbrev X3 : Vec Ideal S2x4096x5632 .bf16 := m ((c : Thread nD τ).loc main_arg3)
abbrev X4 : Vec Ideal S4096x2048 .f32 := m ((c : Thread nD τ).loc main_arg4)

/-- A point's row block. -/
abbrev blockAt (t : Fin cfg1.N) : Fin 8 := Cert.FusedValue.blockAt (J := 8) N_1 t

theorem at0 : ∀ t : Fin grid0.N, win0_0.index t = ![t.val, 0] ∧ win0_3.index t = ![t.val, 0] := by decide +kernel
theorem at1 : ∀ t : Fin grid1.N, win1_0.index t = ![t.val % 8 / 4, t.val / 8, t.val % 4] ∧ win1_1.index t = ![0, t.val % 8] ∧ win1_2.index t = ![t.val / 8, 0]
    ∧ win1_3.index t = ![t.val / 8, 0] ∧ win1_4.index t = ![0, 0] ∧ win1_5.index t = ![t.val / 8, 0] ∧ win1_6.index t = ![t.val / 8, 0]
    ∧ win1_7.index t = ![t.val / 8, 0] := by decide +kernel

theorem norm : W1 m c (Proc.devRef .tc main_v0_1) = factor (X0 m c) := by
  refine (Pipeline.afterRegion_arr (dat0 (V0 m) c) (W0 m c) launch0.win.arr_inj 3).trans ?_
  refine (dat0 (V0 m) c).arrAt_eq_of_covers 3 _ (by decide +kernel) fun t hf y => ?_
  blk_simp
  rw [show (dat0 (V0 m) c).after 3 t = k0_pay1 (blk0 (V0 m) c 0 t) by dsimp only [dat0],
    show blk0 (V0 m) c 0 t = rows (Fin.cast N_0 t) (X0 m c) by funext y; blk_ext! [blk0, V0, W0, at0 t, rows, row] <;> rfl,
    show k0_pay1 (F := Ideal) _ = Cert.Norm1Ideal.Gen.k0_pay1 (F := Ideal) _ from rfl, factors]
  generalize factor (X0 m c) = G
  blk_ext [at0 t, rows, row] <;> rfl

/-- The blocks the gradients' kernel reads. -/
theorem blocks (t : Fin cfg1.N) : (∀ y l, blk1 (V1 m) c 0 t (ix3 0 y l) = left (X3 m c) (row (blockAt t) y) (col (J := 8) (K := 11264) rfl (by decide) t.val l))
    ∧ (∀ y l, blk1 (V1 m) c 1 t (ix2 y l) = X2 m c (ix2 y (col (J := 8) (K := 11264) rfl (by decide) t.val l)))
    ∧ blk1 (V1 m) c 2 t = rows (blockAt t) (X0 m c) ∧ blk1 (V1 m) c 3 t = rows (blockAt t) (factor (X0 m c))
    ∧ blk1 (V1 m) c 4 t = X1 m c ∧ blk1 (V1 m) c 5 t = rows (blockAt t) (X4 m c) := by
  rw [← norm m c, show X0 m c = V1 m c main_arg0 from (W1_keeps m c _ (by decide +kernel)).symm,
    show X1 m c = V1 m c main_arg1 from (W1_keeps m c _ (by decide +kernel)).symm,
    show X2 m c = V1 m c main_arg2 from (W1_keeps m c _ (by decide +kernel)).symm,
    show X3 m c = V1 m c main_arg3 from (W1_keeps m c _ (by decide +kernel)).symm,
    show X4 m c = V1 m c main_arg4 from (W1_keeps m c _ (by decide +kernel)).symm]
  refine ⟨fun y l => ?_, fun y l => ?_, ?_, ?_, ?_, ?_⟩
  · blk_ext! [blk1, left, col, row, at1 t]; rfl
  · blk_ext! [blk1, col, row, at1 t] <;> rfl
  all_goals funext y; blk_ext! [blk1, rows, row, at1 t] <;> rfl

variable (f0 : S4096x2048.Idx → ℝ) (f1 : S1x2048.Idx → ℝ) (f2 : S2048x11264.Idx → ℝ) (f3 : S2x4096x5632.Idx → ℝ)
  (h0 : X0 m c = fun i => (f0 i : EReal)) (h1 : X1 m c = fun i => (f1 i : EReal)) (h2 : X2 m c = fun i => (f2 i : EReal))
  (h3 : X3 m c = fun i => (f3 i : EReal))

include h2 h3 in
/-- At the last of a row block's points the sum is the product's rows. -/
theorem sum (t : Fin cfg1.N) (ht : t.val % 8 = 8 - 1) :
    k1_pay5 (found (V1 m) c t) (blk1 (V1 m) c 0 t) (blk1 (V1 m) c 1 t) = rows (blockAt t) fun i => (prod (left f3) (right f2) i : EReal) := by
  rw [ends]
  refine Cert.FusedValue.rows_of_sums (n := 1408) N_1 rfl (by decide) k1_pay1 k1_pay2 (blk1 (V1 m) c 0) (blk1 (V1 m) c 1)
    (left f3) (right f2) (fun t y => ?_) (fun t s y => ?_) t ht (by omega)
  all_goals
    obtain ⟨b0, b1, -⟩ := blocks m c t
    first | refine (starts _ _ _).trans (congrArg (0 + ·) ?_) | refine (adds _ _ _ _).trans (congrArg (s y + ·) ?_)
    exact Finset.sum_congr rfl fun l _ => congrArg₂ (· * ·) ((b0 _ _).trans (congrFun h3 _)) ((b1 _ _).trans (congrFun h2 _))

include h0 h1 h2 h3

/-- The block written at the last of a row block's points. -/
theorem dx (t : Fin cfg1.N) (ht : t.val % 8 = 8 - 1) : (dat1 (V1 m) c).after 6 t = rows (blockAt t) (val_main_v48 (X0 m c) (X1 m c) (X2 m c) (X3 m c) (X4 m c)) := by
  obtain ⟨-, -, b2, b3, b4, b5⟩ := blocks m c t
  refine (show (dat1 (V1 m) c).after 6 t = Cert.Norm1Ideal.Gen.k1_pay3 (F := Ideal) (blk1 (V1 m) c 2 t) (blk1 (V1 m) c 3 t)
      (k1_pay5 (found (V1 m) c t) (blk1 (V1 m) c 0 t) (blk1 (V1 m) c 1 t)) (blk1 (V1 m) c 4 t) (blk1 (V1 m) c 3 t) (blk1 (V1 m) c 5 t) by
    dsimp only [dat1]; rfl).trans ?_
  rw [sum m c f2 f3 h2 h3 t ht, b2, b3, b4, b5, h0, h1, Cert.Norm1Value.dx, ← reference, ← h2, ← h3]
  rfl

theorem end_dx : W2 m c (Proc.devRef .tc main_v1_0) = val_main_v48 (X0 m c) (X1 m c) (X2 m c) (X3 m c) (X4 m c) := by
  refine (Pipeline.afterRegion_arr (dat1 (V1 m) c) (W1 m c) launch1.win.arr_inj 6).trans ?_
  refine (dat1 (V1 m) c).arrAt_eq_of_covers 6 _ (by decide +kernel) fun t hf y => ?_
  blk_simp
  rw [dx m c f0 f1 f2 f3 h0 h1 h2 h3 t ((flush1_6 t).mp hf)]
  generalize val_main_v48 (F := Ideal) _ _ _ _ _ = G
  blk_ext [at1 t, rows, row] <;> rfl

theorem end_dx_half : W2 m c (Proc.devRef .tc main_v1_1) = val_main_v50 (X0 m c) (X1 m c) (X2 m c) (X3 m c) (X4 m c) := by
  refine (Pipeline.afterRegion_arr (dat1 (V1 m) c) (W1 m c) launch1.win.arr_inj 7).trans ?_
  refine (dat1 (V1 m) c).arrAt_eq_of_covers 7 _ (by decide +kernel) fun t hf y => ?_
  blk_simp
  rw [show (dat1 (V1 m) c).after 7 t = fun y => (dat1 (V1 m) c).after 6 t y by dsimp only [dat1]; rfl,
    dx m c f0 f1 f2 f3 h0 h1 h2 h3 t ((flush1_7 t).mp hf)]
  unfold val_main_v50
  generalize val_main_v48 (F := Ideal) _ _ _ _ _ = G
  show rows _ G _ = G _
  blk_ext [at1 t, rows, row] <;> rfl

theorem end_dg : W2 m c (Proc.devRef .tc main_v1_2) = val_main_v49 (X0 m c) (X2 m c) (X3 m c) := by
  refine (Pipeline.afterRegion_arr (dat1 (V1 m) c) (W1 m c) launch1.win.arr_inj 8).trans ?_
  refine (dat1 (V1 m) c).arrAt_eq_of_after_last 8 ⟨63, by decide⟩ (by decide +kernel) _ fun j => ?_
  show acc (V1 m) c 63 (by decide) j = _
  refine (Cert.FusedValue.gain (J := 8) (by decide) N_1 (fun t => k1_pay3 (part (V1 m) c t)) (fun t => k1_pay4 (part (V1 m) c t)) (fun t x i => by pointwise [k1_pay4]) f0 (prod (left f3) (right f2)) (fun t ht => ?_) _ j).trans ?_
  · obtain ⟨-, -, b2, b3, -, -⟩ := blocks m c t
    refine (show k1_pay3 (part (V1 m) c t) = Cert.Norm1Ideal.Gen.k1_pay5 (F := Ideal) (blk1 (V1 m) c 2 _) (blk1 (V1 m) c 3 _)
      (k1_pay5 (found (V1 m) c _) (blk1 (V1 m) c 0 _) (blk1 (V1 m) c 1 _)) from rfl).trans ?_
    rw [sum m c f2 f3 h2 h3 t ht, b2, b3, h0]
  rw [← reference, ← h0, ← h2, ← h3]
  rfl

end Points

/-! ## The two programs' one value -/

instance : Cert.Pre_ffn_finite.Facts := ⟨by decide, by decide, by decide, by decide⟩

theorem algebraic : Cert.algebraic_FfnIdeal_FfnRefIdeal_pre_ffn_finite := by
  intro m ρ m' ρ' hpre hagree
  refine ⟨fun c => val_main_v48 (X0 m c) (X1 m c) (X2 m c) (X3 m c) (X4 m c), fun c => val_main_v50 (X0 m c) (X1 m c) (X2 m c) (X3 m c) (X4 m c),
    fun c => val_main_v49 (X0 m c) (X2 m c) (X3 m c), ?_, ?_⟩
  · refine (θ_run defs _ _).mono (fun r h c => ?_) (run (F := Ideal) m ρ)
    have e (r : Ref sig .tc) (hu : ¬(Proc.devRef .tc r : DevRef τ sig).isScoped) := h.1 c _ (Cert.Held.mem_uc r hu)
    obtain ⟨p0, p1, p2, p3⟩ := hpre c
    obtain ⟨f0, h0⟩ := Cert.Reals.reals_of_lt _ _ _ Cert.Reals.inf_f32 p0
    obtain ⟨f1, h1⟩ := Cert.Reals.reals_of_lt _ _ _ Cert.Reals.inf_f32 p1
    obtain ⟨f2, h2⟩ := Cert.Reals.reals_of_lt _ _ _ Cert.Reals.inf_bf16 p2
    obtain ⟨f3, h3⟩ := Cert.Reals.reals_of_lt _ _ _ Cert.Reals.inf_bf16 p3
    have a (r : Ref sig .tc) (hu : ¬(Proc.devRef .tc r : DevRef τ sig).isScoped) (hr) := (e r hu).trans (W2_arg m c r hr)
    exact ⟨(e main_v1_0 (by decide)).trans (end_dx m c f0 f1 f2 f3 h0 h1 h2 h3), (e main_v1_1 (by decide)).trans (end_dx_half m c f0 f1 f2 f3 h0 h1 h2 h3),
      (e main_v1_2 (by decide)).trans (end_dg m c f0 f1 f2 f3 h0 h1 h2 h3), a main_arg0 (by decide) (by decide),
      a main_arg1 (by decide) (by decide), a main_arg2 (by decide) (by decide), a main_arg3 (by decide) (by decide), a main_arg4 (by decide) (by decide)⟩
  · refine (θ_run Cert.FfnRefIdeal.defs _ _).mono (fun r h c => ?_) (Cert.FfnRefIdeal.Value.run (F := Ideal) m' ρ')
    obtain ⟨e0, e1, e2, ea⟩ := h c
    obtain ⟨g0, g1, g2, g3, g4⟩ := hagree c
    rw [val_main_v48_eq, g0, g1, g2, g3, g4] at e0
    rw [val_main_v50_eq, g0, g1, g2, g3, g4] at e1
    rw [val_main_v49_eq, g0, g2, g3] at e2
    exact ⟨e0, e1, e2, ea⟩

end Cert.FfnValue

end
-- ==== Proof.Acts.lean ====
/- Straight-line kernel bodies that only load and store: as programs, as functions of what the buffers hold, and that the one does the other. -/
module

public import proofs.«01_k».proof.Proof.Held
public import Idealize.ShloMosaic.Lib.WritesUnit
public import Idealize.ShloMosaic.Lib.Tactic

@[expose] public section

set_option maxRecDepth 16384

noncomputable section

namespace Cert.Acts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Buffers -/

/-- The place of a buffer in a list of kinds of buffers. -/
inductive At (x : Shape × EltTy) : List (Shape × EltTy) → Type
  | here {l : List (Shape × EltTy)} : At x (x :: l)
  | there {y : Shape × EltTy} {l : List (Shape × EltTy)} : At x l → At x (y :: l)

/-- Buffers of the listed kinds. -/
def Mems (sig : RefSig) : List (Shape × EltTy) → Type
  | [] => Unit
  | x :: l => { m : Memref sig .tc .vmem x.1 x.2 // m.IsWhole } × Mems sig l

def Mems.at {sig : RefSig} {x : Shape × EltTy} : {l : List (Shape × EltTy)} → Mems sig l → At x l →
    { m : Memref sig .tc .vmem x.1 x.2 // m.IsWhole }
  | _, M, .here => M.1
  | _, M, .there b => Mems.at M.2 b

/-- Contents of buffers of the listed kinds. -/
def Vals (F : FTy → Type) : List (Shape × EltTy) → Type
  | [] => Unit
  | x :: l => (x.1.Idx → Elt F x.2) × Vals F l

section
variable {F : FTy → Type} {x : Shape × EltTy}

def Vals.at : {l : List (Shape × EltTy)} → Vals F l → At x l → (x.1.Idx → Elt F x.2)
  | _, X, .here => X.1
  | _, X, .there b => Vals.at X.2 b

def Vals.set : {l : List (Shape × EltTy)} → Vals F l → At x l → (x.1.Idx → Elt F x.2) → Vals F l
  | _, X, .here, v => (v, X.2)
  | _, X, .there b, v => (X.1, Vals.set X.2 b v)

theorem Vals.set_at : {l : List (Shape × EltTy)} → (X : Vals F l) → (b : At x l) → X.set b (X.at b) = X
  | _, _, .here => rfl
  | _, X, .there b => Prod.ext rfl (Vals.set_at X.2 b)

end

/-- A box of a buffer's elements that may be loaded and stored. -/
structure Box (s : Shape) (e : EltTy) where
  off : Fin s.rank → ℕ
  size : Fin s.rank → ℕ
  inb : ∀ a, off a + size a ≤ s.size a
  pos : 0 < (Rect.unit off size inb).shape.numel
  packed : (Rect.unit off size inb).PackedRows e.packing

section
variable {s : Shape} {e : EltTy} (B : Box s e)

abbrev Box.rect : Rect s := Rect.unit B.off B.size B.inb

/-- The elements of a box. -/
def Box.get {α : Type} (X : s.Idx → α) : B.rect.shape.Idx → α := fun x => X (B.rect.emb x)

/-- The contents with a box replaced. -/
def Box.put {α : Type} (w : B.rect.shape.Idx → α) (X : s.Idx → α) : s.Idx → α :=
  fun y => if h : ∀ a, B.off a ≤ (y a).val ∧ (y a).val < B.off a + B.size a
    then w (Rect.unitLocal (s := s) (off := B.off) (size := B.size) y h) else X y

/-- An element is in a box. -/
def Box.has (y : s.Idx) : Prop := ∀ a, B.off a ≤ (y a).val ∧ (y a).val < B.off a + B.size a

variable {B}

theorem Box.put_has {α : Type} {w : B.rect.shape.Idx → α} {X : s.Idx → α} {y : s.Idx} (h : B.has y) :
    B.put w X y = w (Rect.unitLocal (s := s) (off := B.off) (size := B.size) y h) := dif_pos h
theorem Box.put_not {α : Type} {w : B.rect.shape.Idx → α} {X : s.Idx → α} {y : s.Idx} (h : ¬B.has y) : B.put w X y = X y := dif_neg h

/-- What a replacement leaves at an element outside the box alone depends on what was there. -/
theorem Box.put_agree {α : Type} {w : B.rect.shape.Idx → α} {X X' : s.Idx → α} {y : s.Idx} (h : B.has y ∨ X y = X' y) :
    B.put w X y = B.put w X' y := by
  by_cases hb : B.has y
  · rw [put_has hb, put_has hb]
  · rw [put_not hb, put_not hb, h.resolve_left hb]

/-- Changes one after another, of which one does not ask what was there. -/
theorem fold_agree {α ι : Type} (f : (s.Idx → α) → ι → s.Idx → α) (P : ι → Prop) (y : s.Idx)
    (hf : ∀ i X X', P i ∨ X y = X' y → f X i y = f X' i y) : ∀ (is : List ι) (X X' : s.Idx → α),
    (∃ i ∈ is, P i) ∨ X y = X' y → is.foldl f X y = is.foldl f X' y
  | [], _, _, h => h.resolve_left fun ⟨_, h, _⟩ => nomatch h
  | i :: is, X, X', h => by
      refine fold_agree f P y hf is _ _ ?_
      rcases h with ⟨j, hj, hp⟩ | h
      · rcases List.mem_cons.mp hj with rfl | hj
        · exact .inr (hf _ _ _ (.inl hp))
        · exact .inl ⟨j, hj, hp⟩
      · exact .inr (hf _ _ _ (.inr h))

end

/-! ## Bodies -/

/-- A body of loads and stores of boxes of the listed buffers. -/
inductive Act (F : FTy → Type) (l : List (Shape × EltTy)) : Type → Type 1
  | ret {α : Type} : α → Act F l α
  | ld {α : Type} {s : Shape} {e : EltTy} (b : At (s, e) l) (B : Box s e) (k : (B.rect.shape.Idx → Elt F e) → Act F l α) : Act F l α
  | st {α : Type} {s : Shape} {e : EltTy} (b : At (s, e) l) (B : Box s e) (w : B.rect.shape.Idx → Elt F e)
      (k : PUnit.{1} → Act F l α) : Act F l α

namespace Act
variable {F : FTy → Type} {l : List (Shape × EltTy)} {α β : Type}

def bind : Act F l α → (α → Act F l β) → Act F l β
  | .ret a, k => k a
  | .ld b B c, k => .ld b B fun x => (c x).bind k
  | .st b B w c, k => .st b B w fun x => (c x).bind k

instance : Monad (Act F l) where
  pure := .ret
  bind := Act.bind

/-- One body after another, for each member of a list. -/
def each {ι : Type} (f : ι → Act F l PUnit.{1}) : List ι → Act F l PUnit.{1}
  | [] => .ret ⟨⟩
  | i :: is => (f i).bind fun _ => each f is

def load {s : Shape} {e : EltTy} (b : At (s, e) l) (B : Box s e) : Act F l (B.rect.shape.Idx → Elt F e) := .ld b B .ret
def store {s : Shape} {e : EltTy} (b : At (s, e) l) (B : Box s e) (w : B.rect.shape.Idx → Elt F e) : Act F l PUnit.{1} := .st b B w .ret

/-- What a body returns and leaves. -/
def run : Act F l α → Vals F l → α × Vals F l
  | .ret a, X => (a, X)
  | .ld b B k, X => (k (B.get (X.at b))).run X
  | .st b B w k, X => (k ⟨⟩).run (X.set b (B.put w (X.at b)))

theorem run_bind (p : Act F l α) (k : α → Act F l β) : ∀ X, (p.bind k).run X = (k (p.run X).1).run (p.run X).2 := by
  induction p with
  | ret a => exact fun X => rfl
  | ld b B c ih => exact fun X => ih _ _
  | st b B w c ih => exact fun X => ih _ _

theorem run_each {ι : Type} (f : ι → Act F l PUnit.{1}) (is : List ι) (X : Vals F l) :
    ((each f is).run X).2 = is.foldl (fun X i => ((f i).run X).2) X := by
  induction is generalizing X with
  | nil => rfl
  | cons i is ih => exact (congrArg Prod.snd (run_bind (f i) _ X)).trans (ih _)

end Act

section Programs
variable {nD : Nat} {τ : Topo} {sig : RefSig} {Λ : Labels} {F : FTy → Type} {l : List (Shape × EltTy)} {α : Type}

/-- The body as a program. -/
def Act.prog (M : Mems sig l) : Act F l α → Prog (TpuEff nD τ sig (Elt F) Λ .tc) α
  | .ret a => .ret a
  | .ld b B k => .op (.load (M.at b).1 B.rect.toLoadRect (View.loadsAt_vmem B.pos)) fun x => (k x).prog M
  | .st b B w k => .op (.store (M.at b).1 B.rect w Finset.univ
      (View.stores_vmem B.pos ((M.at b).2.storeExact_slice rfl _ B.packed) (fun _ => rfl)) (.inl rfl)) fun x => (k x).prog M

local notation "𝕄" => MT nD τ sig Unit (Elt F) ℕ (UR sig nD τ) ℕ

/-- The buffers hold these contents. -/
def holds (c : Dev nD) : {l : List (Shape × EltTy)} → Mems sig l → Vals F l → sProp 𝕄
  | [], _, _ => iprop(emp)
  | _ :: _, M, X => iprop(owns (c : Thread nD τ) M.1.1 fullShare X.1 ∗ holds c M.2 X.2)

/-- One of the buffers may be taken out and put back holding something else. -/
theorem holds_at (c : Dev nD) {x : Shape × EltTy} : {l : List (Shape × EltTy)} → (M : Mems sig l) → (X : Vals F l) → (b : At x l) →
    (holds c M X : sProp 𝕄) ⊢ iprop(owns (c : Thread nD τ) (M.at b).1 fullShare (X.at b)
      ∗ (∀ v, owns (c : Thread nD τ) (M.at b).1 fullShare v -∗ holds c M (X.set b v)))
  | _, M, X, .here => by
      unfold holds
      iintro ⟨H, R⟩
      isplitl [H]
      · iexact H
      iintro %v H
      isplitl [H]
      · iexact H
      iexact R
  | _, M, X, .there b => by
      unfold holds
      iintro ⟨H, R⟩
      ihave R := (holds_at c M.2 X.2 b) $$ R
      icases R with ⟨R, W⟩
      isplitl [R]
      · iexact R
      iintro %v R
      isplitl [H]
      · iexact H
      ispecialize W $$ %v
      iapply W
      iexact R

variable [FloatOps F] {defs₀ : Defs nD τ sig (Elt F) Λ}

section Steps
variable (c : Dev nD) {s : Shape} {e : EltTy} (m : Memref sig .tc .vmem s e) (B : Box s e)
  (x : s.Idx → Elt F e)

/-- A load of a box. -/
theorem wp_ld {h : m.view.LoadsAt B.rect.toLoadRect} (k : (B.rect.shape.Idx → Elt F e) → Prog (TpuEff nD τ sig (Elt F) Λ .tc) α) (Q : α → sProp 𝕄) :
    (iprop(owns (c : Thread nD τ) m fullShare x ∗ (owns (c : Thread nD τ) m fullShare x
        -∗ wp frame (wpE defs₀ Variants.none c none) Set.univ (k (B.get x)) Q)) : sProp 𝕄)
      ⊢ wp frame (wpE defs₀ Variants.none c none) Set.univ (.op (.load m B.rect.toLoadRect h) k) Q := by
  unfold owns
  iintro ⟨⟨%f, %hf, H⟩, Hk⟩
  subst hf
  iapply (wp_load (defs := defs₀) (Ix := Unit) (Name := ℕ) (U := UR sig nD τ) (Lvl := ℕ) Variants.none (c : Thread nD τ) none Set.univ (S := m.view.set) (View.setOn_subset_set _ _)) $$ H
  iintro H
  iapply Hk
  iexists f
  isplitr
  · ipureintro; rfl
  iexact H

/-- A store of a box. -/
theorem wp_st {w : B.rect.shape.Idx → Elt F e} {h : (m.access B.rect).Stores Finset.univ}
    {h' : Finset.univ = Finset.univ ∨ ∀ a, B.rect.stride a = 1} (k : PUnit.{1} → Prog (TpuEff nD τ sig (Elt F) Λ .tc) α) (Q : α → sProp 𝕄) :
    (iprop(owns (c : Thread nD τ) m fullShare x ∗ (owns (c : Thread nD τ) m fullShare (B.put w x)
        -∗ wp frame (wpE defs₀ Variants.none c none) Set.univ (k ⟨⟩) Q)) : sProp 𝕄)
      ⊢ wp frame (wpE defs₀ Variants.none c none) Set.univ (.op (.store m B.rect w Finset.univ h h') k) Q := by
  unfold owns
  iintro ⟨⟨%f, %hf, H⟩, Hk⟩
  subst hf
  iapply (wp_store_writes₀ (defs := defs₀) (Ix := Unit) (Name := ℕ) (U := UR sig nD τ) (Lvl := ℕ) Variants.none (c : Thread nD τ) none Set.univ (S := m.view.set) (m.view.set_slice_subset _)) $$ H
  iintro H
  iapply Hk
  iexists _
  isplitr
  swap
  · iexact H
  ipureintro
  funext y
  exact View.read_writes_cons_unit m.view f B.inb w [] y rfl

end Steps

/-- A body run from some contents ends at what `run` says. -/
theorem does (c : Dev nD) (M : Mems sig l) (p : Act F l α) : ∀ (X : Vals F l) (K : α → sProp 𝕄),
    iprop(holds c M X ∗ (holds c M (p.run X).2 -∗ K (p.run X).1))
      ⊢ wp frame (wpE defs₀ Variants.none c none) Set.univ (p.prog M) K := by
  induction p with
  | ret a =>
      intro X K
      iintro ⟨H, Hk⟩
      unfold Act.prog Act.run
      sl_step
      iapply Hk
      iexact H
  | ld b B k ih =>
      intro X K
      iintro ⟨H, Hk⟩
      ihave H := (holds_at c M X b) $$ H
      icases H with ⟨H, W⟩
      unfold Act.prog
      iapply (wp_ld c (M.at b).1 B (X.at b) _ K)
      isplitl [H]
      · iexact H
      iintro H
      iapply (show _ ⊢ _ from ih (B.get (X.at b)) X K)
      isplitr [Hk]
      · rw [show (holds c M X : sProp 𝕄) = holds c M (X.set b (X.at b)) by rw [Vals.set_at]]
        iapply W
        iexact H
      iexact Hk
  | st b B w k ih =>
      intro X K
      iintro ⟨H, Hk⟩
      ihave H := (holds_at c M X b) $$ H
      icases H with ⟨H, W⟩
      unfold Act.prog
      iapply (wp_st c (M.at b).1 B (X.at b) _ K)
      isplitl [H]
      · iexact H
      iintro H
      iapply (show _ ⊢ _ from ih ⟨⟩ (X.set b (B.put w (X.at b))) K)
      isplitr [Hk]
      · iapply W
        iexact H
      iexact Hk

end Programs

end Cert.Acts

end
-- ==== Proof.MixerBody.lean ====
/- The gradient of the convolution and the spatial gating: the kernel's body, a head and a chunk of rows at a time. -/
module

public import proofs.«01_k».proof.Proof.Acts
public import proofs.«01_k».proof.Proof.Gen.MixerIdeal.Frame

@[expose] public section

set_option maxRecDepth 16384

noncomputable section

namespace Cert.MixerBody

open Idealize.ShloMosaic Idealize.ShloMosaic.TcCoe Idealize.ShloMosaic.Tactic
open Idealize.SL Idealize.SL.Sem
open Cert.MixerIdeal Cert.MixerIdeal.Facts₀ Cert.Acts Cert.Acts.At

variable {F : FTy → Type} [FloatOps F]

/-! ## The buffers and their boxes -/

abbrev kinds : List (Shape × EltTy) :=
  [(S256x5120, .bf16), (S16x1024, .bf16), (S16x1024, .bf16), (S16x1024, .bf16), (S256x2048, .bf16), (S16x1024, .bf16), (S8x1024, .f32),
    (S1x1024, .f32), (S1x1024, .f32), (S8x128x128, .f32), (S128x8, .f32), (S256x5120, .bf16), (S8x1024, .f32), (S8x128x128, .f32),
    (S128x8, .f32), (S128x1024, .f32)]

def z : At (S256x5120, .bf16) kinds := .here
def gHalo : At (S16x1024, .bf16) kinds := .there .here
def hHalo : At (S16x1024, .bf16) kinds := .there (.there .here)
def bHalo : At (S16x1024, .bf16) kinds := .there (.there (.there .here))
def dy : At (S256x2048, .bf16) kinds := .there (.there (.there (.there .here)))
def dyHalo : At (S16x1024, .bf16) kinds := .there (.there (.there (.there (.there .here))))
def taps : At (S8x1024, .f32) kinds := .there (.there (.there (.there (.there (.there .here)))))
def bias : At (S1x1024, .f32) kinds := .there (.there (.there (.there (.there (.there (.there .here))))))
def gain : At (S1x1024, .f32) kinds := .there (.there (.there (.there (.there (.there (.there (.there .here)))))))
def mix : At (S8x128x128, .f32) kinds := .there (.there (.there (.there (.there (.there (.there (.there (.there .here))))))))
def shift : At (S128x8, .f32) kinds := .there (.there (.there (.there (.there (.there (.there (.there (.there (.there .here)))))))))
abbrev outs {x : Shape × EltTy} {l : List (Shape × EltTy)} (b : At x l) {a₁ a₂ a₃ a₄ a₅ a₆ a₇ a₈ a₉ a₁₀ a₁₁ : Shape × EltTy} :
    At x (a₁ :: a₂ :: a₃ :: a₄ :: a₅ :: a₆ :: a₇ :: a₈ :: a₉ :: a₁₀ :: a₁₁ :: l) :=
  .there (.there (.there (.there (.there (.there (.there (.there (.there (.there (.there b))))))))))
def dz : At (S256x5120, .bf16) kinds := outs .here
def dsmall : At (S8x1024, .f32) kinds := outs (.there .here)
def dmix : At (S8x128x128, .f32) kinds := outs (.there (.there .here))
def dshift : At (S128x8, .f32) kinds := outs (.there (.there (.there .here)))
def sums : At (S128x1024, .f32) kinds := outs (.there (.there (.there (.there .here))))

/-- The columns of a row block from column `1024 k` on. -/
def cols (k : Fin 3) : Box S256x5120 .bf16 :=
  ⟨![0, 1024 * k.val], S256x1024.size, by revert k; decide, by revert k; decide, by revert k; decide⟩
def dyCols : Box S256x2048 .bf16 := ⟨![0, 0], S256x1024.size, by decide, by decide, by decide⟩
def halo : Box S16x1024 .bf16 := ⟨![0, 0], S16x1024.size, by decide, by decide, by decide⟩
def line (k : Fin 8) : Box S8x1024 .f32 := ⟨![k.val, 0], S1x1024.size, by revert k; decide, by revert k; decide, by revert k; decide⟩
def whole1 : Box S1x1024 .f32 := ⟨![0, 0], S1x1024.size, by decide, by decide, by decide⟩
def whole8 : Box S8x1024 .f32 := ⟨![0, 0], S8x1024.size, by decide, by decide, by decide⟩
def whole128 : Box S128x1024 .f32 := ⟨![0, 0], S128x1024.size, by decide, by decide, by decide⟩
def wholeMix : Box S8x128x128 .f32 := ⟨![0, 0, 0], S8x128x128.size, by decide, by decide, by decide⟩

/-- A head's columns, of all rows and of a chunk of rows. -/
def headV (h : Fin 8) : Box S256x5120 .bf16 :=
  ⟨![0, 4096 + 128 * h.val], S256x128.size, by revert h; decide, by revert h; decide, by revert h; decide⟩
def chunkV (h : Fin 8) (n : Fin 2) : Box S256x5120 .bf16 :=
  ⟨![128 * n.val, 4096 + 128 * h.val], S128x128.size, by revert h n; decide, by revert h n; decide, by revert h n; decide⟩
def chunkU (h : Fin 8) (n : Fin 2) : Box S256x5120 .bf16 :=
  ⟨![128 * n.val, 3072 + 128 * h.val], S128x128.size, by revert h n; decide, by revert h n; decide, by revert h n; decide⟩
def chunkDy (h : Fin 8) (n : Fin 2) : Box S256x2048 .bf16 :=
  ⟨![128 * n.val, 1024 + 128 * h.val], S128x128.size, by revert h n; decide, by revert h n; decide, by revert h n; decide⟩
def headGain (h : Fin 8) : Box S1x1024 .f32 :=
  ⟨![0, 128 * h.val], S1x128.size, by revert h; decide, by revert h; decide, by revert h; decide⟩
def headSmall (h : Fin 8) : Box S8x1024 .f32 :=
  ⟨![4, 128 * h.val], S1x128.size, by revert h; decide, by revert h; decide, by revert h; decide⟩
def headMix (h : Fin 8) : Box S8x128x128 .f32 :=
  ⟨![h.val, 0, 0], S1x128x128.size, by revert h; decide, by revert h; decide, by revert h; decide⟩
def headShift (h : Fin 8) : Box S128x8 .f32 :=
  ⟨![0, h.val], S128x1.size, by revert h; decide, by revert h; decide, by revert h; decide⟩
def headSums (h : Fin 8) : Box S128x1024 .f32 :=
  ⟨![0, 128 * h.val], S128x128.size, by revert h; decide, by revert h; decide, by revert h; decide⟩

variable [Cert.MixerIdeal.Facts₀]

/-! ## The convolution -/

/-- The rows shifted down by one and by two, the first coming from the block before. -/
def down1 (edge : FVec F S16x1024 .f32) (x : FVec F S256x1024 .f32) : FVec F S256x1024 .f32 :=
  select (cmpi .eq (iota .tc S256x1024 32 [0] iota_S256x1024_d0_w32) (broadcast S256x1024 0#32))
    (broadcastTo S256x1024 (shapeCast S1x1024 (extractStridedSlice S1x1024 ![15, 0] edge slices_S16x1024_o15_0_S1x1024)
      shapeCasts_S1x1024_S1x1024) broadcasts_S1x1024_S256x1024)
    (dynamicRotate 0 1#32 none x rotates_S256x1024_d0)
def down2 (edge : FVec F S16x1024 .f32) (x : FVec F S256x1024 .f32) : FVec F S256x1024 .f32 :=
  select (cmpi .eq (iota .tc S256x1024 32 [0] iota_S256x1024_d0_w32) (broadcast S256x1024 0#32))
    (broadcastTo S256x1024 (shapeCast S1x1024 (extractStridedSlice S1x1024 ![14, 0] edge slices_S16x1024_o14_0_S1x1024)
      shapeCasts_S1x1024_S1x1024) broadcasts_S1x1024_S256x1024)
    (select (cmpi .eq (iota .tc S256x1024 32 [0] iota_S256x1024_d0_w32) (broadcast S256x1024 1#32))
      (broadcastTo S256x1024 (shapeCast S1x1024 (extractStridedSlice S1x1024 ![15, 0] edge slices_S16x1024_o15_0_S1x1024)
        shapeCasts_S1x1024_S1x1024) broadcasts_S1x1024_S256x1024)
      (dynamicRotate 0 2#32 none x rotates_S256x1024_d0))
/-- The rows shifted up by one and by two, the last coming from the block after. -/
def up1 (edge : FVec F S16x1024 .f32) (x : FVec F S256x1024 .f32) : FVec F S256x1024 .f32 :=
  select (cmpi .eq (iota .tc S256x1024 32 [0] iota_S256x1024_d0_w32) (broadcast S256x1024 255#32))
    (broadcastTo S256x1024 (shapeCast S1x1024 (extractStridedSlice S1x1024 ![0, 0] edge slices_S16x1024_o0_0_S1x1024)
      shapeCasts_S1x1024_S1x1024) broadcasts_S1x1024_S256x1024)
    (dynamicRotate 0 255#32 none x rotates_S256x1024_d0)
def up2 (edge : FVec F S16x1024 .f32) (x : FVec F S256x1024 .f32) : FVec F S256x1024 .f32 :=
  select (cmpi .eq (iota .tc S256x1024 32 [0] iota_S256x1024_d0_w32) (broadcast S256x1024 255#32))
    (broadcastTo S256x1024 (shapeCast S1x1024 (extractStridedSlice S1x1024 ![1, 0] edge slices_S16x1024_o1_0_S1x1024)
      shapeCasts_S1x1024_S1x1024) broadcasts_S1x1024_S256x1024)
    (select (cmpi .eq (iota .tc S256x1024 32 [0] iota_S256x1024_d0_w32) (broadcast S256x1024 254#32))
      (broadcastTo S256x1024 (shapeCast S1x1024 (extractStridedSlice S1x1024 ![0, 0] edge slices_S16x1024_o0_0_S1x1024)
        shapeCasts_S1x1024_S1x1024) broadcasts_S1x1024_S256x1024)
      (dynamicRotate 0 254#32 none x rotates_S256x1024_d0))

/-- The product of two halos, or zeros where the block is at the end of the array. -/
def edge (c : BitVec 1) (a b : Vec F S16x1024 .bf16) : FVec F S16x1024 .f32 :=
  mulf (mulf (extf .f32 a bitsLt_bf16_f32) (extf .f32 b bitsLt_bf16_f32))
    (broadcast S16x1024 (Scalar.sitofp .f32 (Scalar.extui c : BitVec 32)))

/-- A tap times rows. -/
def tap (w : FVec F S1x1024 .f32) (x : FVec F S256x1024 .f32) : FVec F S256x1024 .f32 :=
  mulf (broadcastTo S256x1024 w broadcasts_S1x1024_S256x1024) x
def one (w : Vec F S1x1024 .f32) : FVec F S1x1024 .f32 := shapeCast S1x1024 w shapeCasts_S1x1024_S1x1024

/-- The sum of a block's rows. -/
def rowSum (x : FVec F S256x1024 .f32) : FVec F S1x1024 .f32 :=
  shapeCast S1x1024 (multiReduction .add [0] S1024 x 0x00000000#32 reduces_S256x1024_S1024 (.inl rfl) rfl) shapeCasts_S1024_S1x1024

def isFirst (i : grid0.Coords) : BitVec 1 := Scalar.cmpi .sgt (BitVec.ofNat 32 (i 0).val) 0#32
def isLast (i : grid0.Coords) : BitVec 1 := Scalar.cmpi .slt (BitVec.ofNat 32 (i 0).val) 15#32

/-- The sum of a line of the small gradients and of a block's rows. -/
def addLine (k : Fin 8) (x : FVec F S256x1024 .f32) : Act F kinds PUnit.{1} := do
  let y : Vec F S1x1024 .f32 ← Act.load dsmall (line k)
  let _ : Vec F S1x1024 .f32 ← Act.load dsmall (line k)
  Act.store dsmall (line k) (addf (one y) (rowSum x))

def conv (i : grid0.Coords) : Act F kinds PUnit.{1} := do
  let g : Vec F S256x1024 .bf16 ← Act.load z (cols 1)
  let hv : Vec F S256x1024 .bf16 ← Act.load z (cols 2)
  let a : Vec F S16x1024 .bf16 ← Act.load gHalo halo
  let b : Vec F S16x1024 .bf16 ← Act.load hHalo halo
  let w0 : Vec F S1x1024 .f32 ← Act.load taps (line 0)
  let w1 : Vec F S1x1024 .f32 ← Act.load taps (line 1)
  let w2 : Vec F S1x1024 .f32 ← Act.load taps (line 2)
  let c : Vec F S1x1024 .f32 ← Act.load bias whole1
  let q : Vec F S256x1024 .bf16 ← Act.load z (cols 0)
  let d : Vec F S256x1024 .bf16 ← Act.load dy dyCols
  let x : FVec F S256x1024 .f32 := mulf (extf .f32 g bitsLt_bf16_f32) (extf .f32 hv bitsLt_bf16_f32)
  let x1 := down1 (edge (isFirst i) a b) x
  let x2 := down2 (edge (isFirst i) a b) x
  let _ : Vec F S256x1024 .bf16 ← Act.load dz (cols 0)
  Act.store dz (cols 0) (truncf .bf16 (mulf (extf .f32 d bitsLt_bf16_f32)
    (addf (addf (addf (broadcastTo S256x1024 c broadcasts_S1x1024_S256x1024) (tap (one w2) x)) (tap (one w1) x1)) (tap (one w0) x2))) bitsLt_bf16_f32)
  let e : Vec F S16x1024 .bf16 ← Act.load dyHalo halo
  let f : Vec F S16x1024 .bf16 ← Act.load bHalo halo
  let y : FVec F S256x1024 .f32 := mulf (extf .f32 d bitsLt_bf16_f32) (extf .f32 q bitsLt_bf16_f32)
  let dx := addf (addf (tap (one w2) y) (tap (one w1) (up1 (edge (isLast i) e f) y))) (tap (one w0) (up2 (edge (isLast i) e f) y))
  let _ : Vec F S256x1024 .bf16 ← Act.load dz (cols 1)
  Act.store dz (cols 1) (truncf .bf16 (mulf dx (extf .f32 hv bitsLt_bf16_f32)) bitsLt_bf16_f32)
  let _ : Vec F S256x1024 .bf16 ← Act.load dz (cols 2)
  Act.store dz (cols 2) (truncf .bf16 (mulf dx (extf .f32 g bitsLt_bf16_f32)) bitsLt_bf16_f32)
  addLine 0 (mulf y x2)
  addLine 1 (mulf y x1)
  addLine 2 (mulf y x)
  addLine 3 y

/-! ## The spatial gating -/

/-- A head's rows: the reciprocal of their size, and the rows over it. -/
def rsize (x : FVec F S256x128 .f32) : FVec F S256x1 .f32 :=
  rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))
def unit (x : FVec F S256x128 .f32) : FVec F S256x128 .f32 := mulf x (broadcastTo S256x128 (rsize x) broadcasts_S256x1_S256x128)

/-- The lower triangle of a matrix. -/
def lower (x : FVec F S128x128 .f32) : FVec F S128x128 .f32 :=
  select (cmpi .sge (iota .tc S128x128 32 [0] iota_S128x128_d0_w32) (iota .tc S128x128 32 [1] iota_S128x128_d1_w32)) x
    (broadcast S128x128 (Scalar.ofBits .f32 0x00000000#32))

/-- A chunk of rows of a head. -/
def rowsOf {α : Type} (n : Fin 2) (x : S256x128.Idx → α) : S128x128.Idx → α :=
  match n with
  | 0 => extractStridedSlice S128x128 ![0, 0] x slices_S256x128_o0_0_S128x128
  | 1 => extractStridedSlice S128x128 ![128, 0] x slices_S256x128_o128_0_S128x128
def sizesOf {α : Type} (n : Fin 2) (x : S256x1.Idx → α) : S128x1.Idx → α :=
  match n with
  | 0 => extractStridedSlice S128x1 ![0, 0] x slices_S256x1_o0_0_S128x1
  | 1 => extractStridedSlice S128x1 ![128, 0] x slices_S256x1_o128_0_S128x1

def colSum (x : FVec F S128x128 .f32) : FVec F S1x128 .f32 :=
  shapeCast S1x128 (multiReduction .add [0] S128 x 0x00000000#32 reduces_S128x128_S128 (.inl rfl) rfl) shapeCasts_S128_S1x128
def laneSum (x : FVec F S128x128 .f32) : FVec F S128x1 .f32 :=
  shapeCast S128x1 (multiReduction .add [1] S128 x 0x00000000#32 reduces_S128x128_S128_2 (.inl rfl) rfl) shapeCasts_S128_S128x1

/-- The gradient of the norm of a chunk of rows. -/
def unitGrad (g : FVec F S1x128 .f32) (r : FVec F S128x1 .f32) (u d : FVec F S128x128 .f32) : FVec F S128x128 .f32 :=
  let e := mulf d (broadcastTo S128x128 g broadcasts_S1x128_S128x128)
  mulf (broadcastTo S128x128 r broadcasts_S128x1_S128x128)
    (subf e (mulf u (broadcastTo S128x128 (divf (laneSum (mulf e u)) (broadcast S128x1 (Scalar.ofBits .f32 0x43000000#32))) broadcasts_S128x1_S128x128)))

/-- A head's chunk, and the sum of the gain's gradient so far. -/
def chunk (h : Fin 8) (n : Fin 2) (r : FVec F S256x1 .f32) (u : FVec F S256x128 .f32) (g : Vec F S1x128 .f32) (v : FVec F S256x128 .bf16)
    (w : FVec F S128x128 .bf16) (s : FVec F S1x128 .f32) : Act F kinds (FVec F S1x128 .f32) := do
  let b : Vec F S128x1 .f32 ← Act.load shift (headShift h)
  let d : Vec F S128x128 .bf16 ← Act.load dy (chunkDy h n)
  let p : Vec F S128x128 .bf16 ← Act.load z (chunkU h n)
  let m : FVec F S128x128 .f32 := addf (matmul dot_S128x128_S128x128_S128x128_1_0_0_1_n_n none w (rowsOf n v) (constant S128x128 .f32 0x00000000#32))
    (broadcastTo S128x128 (shapeCast S128x1 b shapeCasts_S128x1_S128x1) broadcasts_S128x1_S128x128)
  let dm : FVec F S128x128 .f32 := mulf (extf .f32 d bitsLt_bf16_f32) (extf .f32 p bitsLt_bf16_f32)
  let _ : Vec F S128x128 .bf16 ← Act.load dz (chunkU h n)
  Act.store dz (chunkU h n) (truncf .bf16 (mulf (extf .f32 d bitsLt_bf16_f32) m) bitsLt_bf16_f32)
  let dn : FVec F S128x128 .f32 := matmul dot_S128x128_S128x128_S128x128_0_0_1_1_n_n none w (truncf .bf16 dm bitsLt_bf16_f32 : FVec F S128x128 .bf16) (constant S128x128 .f32 0x00000000#32)
  let k : Vec F S1x128x128 .f32 ← Act.load dmix (headMix h)
  let _ : Vec F S1x128x128 .f32 ← Act.load dmix (headMix h)
  Act.store dmix (headMix h) (shapeCast S1x128x128 (addf (shapeCast S128x128 k shapeCasts_S1x128x128_S128x128)
    (matmul dot_S128x128_S128x128_S128x128_1_1_0_0_n_n none (truncf .bf16 dm bitsLt_bf16_f32 : FVec F S128x128 .bf16) (rowsOf n v) (constant S128x128 .f32 0x00000000#32)))
    shapeCasts_S128x128_S1x128x128)
  let t : Vec F S128x128 .f32 ← Act.load sums (headSums h)
  let _ : Vec F S128x128 .f32 ← Act.load sums (headSums h)
  Act.store sums (headSums h) (shapeCast S128x128 (addf t dm) shapeCasts_S128x128_S128x128)
  let _ : Vec F S128x128 .bf16 ← Act.load dz (chunkV h n)
  Act.store dz (chunkV h n) (truncf .bf16 (unitGrad g (sizesOf n r) (rowsOf n u) dn) bitsLt_bf16_f32)
  pure (addf s (colSum (mulf dn (rowsOf n u))))

def head (h : Fin 8) : Act F kinds PUnit.{1} := do
  let x : Vec F S256x128 .bf16 ← Act.load z (headV h)
  let g : Vec F S1x128 .f32 ← Act.load gain (headGain h)
  let w : Vec F S1x128x128 .f32 ← Act.load mix (headMix h)
  let r := rsize (extf .f32 x bitsLt_bf16_f32)
  let u := unit (extf .f32 x bitsLt_bf16_f32)
  let v : FVec F S256x128 .bf16 := truncf .bf16 (mulf u (broadcastTo S256x128 g broadcasts_S1x128_S256x128)) bitsLt_bf16_f32
  let w : FVec F S128x128 .bf16 := truncf .bf16 (lower (shapeCast S128x128 w shapeCasts_S1x128x128_S128x128)) bitsLt_bf16_f32
  let s ← chunk h 0 r u g v w (broadcast S1x128 (Scalar.ofBits .f32 0x00000000#32))
  let s ← chunk h 1 r u g v w s
  let y : Vec F S1x128 .f32 ← Act.load dsmall (headSmall h)
  let _ : Vec F S1x128 .f32 ← Act.load dsmall (headSmall h)
  Act.store dsmall (headSmall h) (addf (shapeCast S1x128 y shapeCasts_S1x128_S1x128) s)

/-! ## The whole body -/

abbrev heads : List (Fin 8) := [0, 1, 2, 3, 4, 5, 6, 7]

/-- The sums start at zero. -/
def clear : Act F kinds PUnit.{1} := do
  let _ : Vec F S8x1024 .f32 ← Act.load dsmall whole8
  Act.store dsmall whole8 (broadcast S8x1024 (Scalar.ofBits .f32 0x00000000#32))
  let _ : Vec F S8x128x128 .f32 ← Act.load dmix wholeMix
  Act.store dmix wholeMix (broadcast S8x128x128 (Scalar.ofBits .f32 0x00000000#32))
  let _ : Vec F S128x1024 .f32 ← Act.load sums whole128
  Act.store sums whole128 (shapeCast S128x1024 (broadcast S128x1024 (Scalar.ofBits .f32 0x00000000#32)) shapeCasts_S128x1024_S128x1024)

/-- A row block. -/
def block (i : grid0.Coords) : Act F kinds PUnit.{1} := do
  conv i
  Act.each head heads

/-- What is left when the sums are done: a head's triangle, and the sums over its lanes. -/
def ending (h : Fin 8) : Act F kinds PUnit.{1} := do
  let k : Vec F S1x128x128 .f32 ← Act.load dmix (headMix h)
  let _ : Vec F S1x128x128 .f32 ← Act.load dmix (headMix h)
  Act.store dmix (headMix h) (shapeCast S1x128x128 (lower (shapeCast S128x128 k shapeCasts_S1x128x128_S128x128)) shapeCasts_S128x128_S1x128x128)
  let t : Vec F S128x128 .f32 ← Act.load sums (headSums h)
  let _ : Vec F S128x1 .f32 ← Act.load dshift (headShift h)
  Act.store dshift (headShift h) (laneSum t)

def atFirst (i : grid0.Coords) : BitVec 1 := Scalar.cmpi .ne (Scalar.extui (Scalar.cmpi .eq (BitVec.ofNat 32 (i 0).val) 0#32) : BitVec 32) 0#32

def point (i : grid0.Coords) : Act F kinds PUnit.{1} :=
  (if atFirst i = 1#1 then clear else .ret ⟨⟩).bind fun _ => (block i).bind fun _ =>
    if k0_cond2 i = 1#1 then Act.each ending heads else .ret ⟨⟩

/-- The kernel's body is this one. -/
theorem body_eq [Cert.MixerIdeal.Facts] (t : Fin 16) (M : Mems sig kinds) :
    cc0_mixer_bwd (F := F) (grid0.coords t) (M.at z).1 (M.at z).2 (M.at gHalo).1 (M.at gHalo).2 (M.at hHalo).1 (M.at hHalo).2 (M.at bHalo).1 (M.at bHalo).2 (M.at dy).1 (M.at dy).2 (M.at dyHalo).1 (M.at dyHalo).2 (M.at taps).1 (M.at taps).2 (M.at bias).1 (M.at bias).2 (M.at gain).1 (M.at gain).2 (M.at mix).1 (M.at mix).2 (M.at shift).1 (M.at shift).2 (M.at dz).1 (M.at dz).2 (M.at dsmall).1 (M.at dsmall).2 (M.at dmix).1 (M.at dmix).2 (M.at dshift).1 (M.at dshift).2 (M.at sums).1 (M.at sums).2 = (point (grid0.coords t)).prog M := by
  obtain ⟨k, hk⟩ := t
  iterate 16
    rcases k with _ | k
    · sl_kernel_rfl
  omega

/-! ## What a point leaves -/

/-- The blocks that a point finds. -/
structure Ins (F : FTy → Type) where
  z : Vec F S256x5120 .bf16
  gHalo : Vec F S16x1024 .bf16
  hHalo : Vec F S16x1024 .bf16
  bHalo : Vec F S16x1024 .bf16
  dy : Vec F S256x2048 .bf16
  dyHalo : Vec F S16x1024 .bf16
  taps : Vec F S8x1024 .f32
  bias : Vec F S1x1024 .f32
  gain : Vec F S1x1024 .f32
  mix : Vec F S8x128x128 .f32
  shift : Vec F S128x8 .f32

/-- A point's blocks, its outputs and its scratch. -/
def all (I : Ins F) (d : Vec F S256x5120 .bf16) (s : Vec F S8x1024 .f32) (k : Vec F S8x128x128 .f32) (b : Vec F S128x8 .f32)
    (t : Vec F S128x1024 .f32) : Vals F kinds :=
  (I.z, I.gHalo, I.hHalo, I.bHalo, I.dy, I.dyHalo, I.taps, I.bias, I.gain, I.mix, I.shift, d, s, k, b, t, ())

section
variable (i : grid0.Coords) (I : Ins F)

def colsOf (k : Fin 3) : FVec F S256x1024 .f32 := extf .f32 ((cols k).get I.z : Vec F S256x1024 .bf16) bitsLt_bf16_f32
def tapOf (k : Fin 8) : FVec F S1x1024 .f32 := one ((line k).get I.taps)
def dyOf : FVec F S256x1024 .f32 := extf .f32 (dyCols.get I.dy : Vec F S256x1024 .bf16) bitsLt_bf16_f32
def before : FVec F S16x1024 .f32 := edge (isFirst i) (halo.get I.gHalo) (halo.get I.hHalo)
def next : FVec F S16x1024 .f32 := edge (isLast i) (halo.get I.dyHalo) (halo.get I.bHalo)
def xOf : FVec F S256x1024 .f32 := mulf (colsOf I 1) (colsOf I 2)
def yOf : FVec F S256x1024 .f32 := mulf (dyOf I) (colsOf I 0)
def convOf : FVec F S256x1024 .f32 :=
  addf (addf (addf (broadcastTo S256x1024 (whole1.get I.bias : Vec F S1x1024 .f32) broadcasts_S1x1024_S256x1024) (tap (tapOf I 2) (xOf I)))
    (tap (tapOf I 1) (down1 (before i I) (xOf I)))) (tap (tapOf I 0) (down2 (before i I) (xOf I)))
def dxOf : FVec F S256x1024 .f32 :=
  addf (addf (tap (tapOf I 2) (yOf I)) (tap (tapOf I 1) (up1 (next i I) (yOf I)))) (tap (tapOf I 0) (up2 (next i I) (yOf I)))

/-- The convolution's three gradients, and its sums over rows. -/
def convDz (k : Fin 3) : Vec F S256x1024 .bf16 := truncf .bf16 (match k with
  | 0 => mulf (dyOf I) (convOf i I)
  | 1 => mulf (dxOf i I) (colsOf I 2)
  | 2 => mulf (dxOf i I) (colsOf I 1)) bitsLt_bf16_f32
def convSum (k : Fin 8) : FVec F S1x1024 .f32 := rowSum (match k with
  | 0 => mulf (yOf I) (down2 (before i I) (xOf I))
  | 1 => mulf (yOf I) (down1 (before i I) (xOf I))
  | 2 => mulf (yOf I) (xOf I)
  | _ => yOf I)

def putConv (d : Vec F S256x5120 .bf16) (k : Fin 3) : Vec F S256x5120 .bf16 := (cols k).put (convDz i I k) d
def putLine (s : Vec F S8x1024 .f32) (k : Fin 8) : Vec F S8x1024 .f32 := (line k).put (addf (one ((line k).get s)) (convSum i I k)) s

theorem conv_leaves (d : Vec F S256x5120 .bf16) (s : Vec F S8x1024 .f32) (k : Vec F S8x128x128 .f32) (b : Vec F S128x8 .f32)
    (t : Vec F S128x1024 .f32) : ((conv i).run (all I d s k b t)).2
      = all I ([0, 1, 2].foldl (putConv i I) d) ([0, 1, 2, 3].foldl (putLine i I) s) k b t := rfl

variable (h : Fin 8) (n : Fin 2)

def headX : FVec F S256x128 .f32 := extf .f32 ((headV h).get I.z : Vec F S256x128 .bf16) bitsLt_bf16_f32
def headG : Vec F S1x128 .f32 := (headGain h).get I.gain
def headN : FVec F S256x128 .bf16 :=
  truncf .bf16 (mulf (unit (headX I h)) (broadcastTo S256x128 (headG I h) broadcasts_S1x128_S256x128)) bitsLt_bf16_f32
def headW : FVec F S128x128 .bf16 :=
  truncf .bf16 (lower (shapeCast S128x128 ((headMix h).get I.mix : Vec F S1x128x128 .f32) shapeCasts_S1x128x128_S128x128)) bitsLt_bf16_f32
def dyH : FVec F S128x128 .f32 := extf .f32 ((chunkDy h n).get I.dy : Vec F S128x128 .bf16) bitsLt_bf16_f32
def dmOf : FVec F S128x128 .f32 := mulf (dyH I h n) (extf .f32 ((chunkU h n).get I.z : Vec F S128x128 .bf16) bitsLt_bf16_f32)
def dmT : FVec F S128x128 .bf16 := truncf .bf16 (dmOf I h n) bitsLt_bf16_f32
def mOf : FVec F S128x128 .f32 :=
  addf (matmul dot_S128x128_S128x128_S128x128_1_0_0_1_n_n none (headW I h) (rowsOf n (headN I h)) (constant S128x128 .f32 0x00000000#32))
    (broadcastTo S128x128 (shapeCast S128x1 ((headShift h).get I.shift : Vec F S128x1 .f32) shapeCasts_S128x1_S128x1) broadcasts_S128x1_S128x128)
def duOf : Vec F S128x128 .bf16 := truncf .bf16 (mulf (dyH I h n) (mOf I h n)) bitsLt_bf16_f32
def dnOf : FVec F S128x128 .f32 :=
  matmul dot_S128x128_S128x128_S128x128_0_0_1_1_n_n none (headW I h) (dmT I h n) (constant S128x128 .f32 0x00000000#32)
def dvOf : Vec F S128x128 .bf16 :=
  truncf .bf16 (unitGrad (headG I h) (sizesOf n (rsize (headX I h))) (rowsOf n (unit (headX I h))) (dnOf I h n)) bitsLt_bf16_f32
def dwOf : FVec F S128x128 .f32 :=
  matmul dot_S128x128_S128x128_S128x128_1_1_0_0_n_n none (dmT I h n) (rowsOf n (headN I h)) (constant S128x128 .f32 0x00000000#32)
def dgOf : FVec F S1x128 .f32 := colSum (mulf (dnOf I h n) (rowsOf n (unit (headX I h))))

def putHead (d : Vec F S256x5120 .bf16) : Vec F S256x5120 .bf16 := (chunkV h n).put (dvOf I h n) ((chunkU h n).put (duOf I h n) d)
def putMix (k : Vec F S8x128x128 .f32) : Vec F S8x128x128 .f32 :=
  (headMix h).put (shapeCast S1x128x128 (addf (shapeCast S128x128 ((headMix h).get k : Vec F S1x128x128 .f32) shapeCasts_S1x128x128_S128x128)
    (dwOf I h n)) shapeCasts_S128x128_S1x128x128) k
def putSums (t : Vec F S128x1024 .f32) : Vec F S128x1024 .f32 :=
  (headSums h).put (shapeCast S128x128 (addf ((headSums h).get t : Vec F S128x128 .f32) (dmOf I h n)) shapeCasts_S128x128_S128x128) t
def putGain (s : Vec F S8x1024 .f32) : Vec F S8x1024 .f32 :=
  (headSmall h).put (addf (shapeCast S1x128 ((headSmall h).get s : Vec F S1x128 .f32) shapeCasts_S1x128_S1x128)
    (addf (addf (broadcast S1x128 (Scalar.ofBits .f32 0x00000000#32)) (dgOf I h 0)) (dgOf I h 1))) s

theorem head_leaves (d : Vec F S256x5120 .bf16) (s : Vec F S8x1024 .f32) (k : Vec F S8x128x128 .f32) (b : Vec F S128x8 .f32)
    (t : Vec F S128x1024 .f32) : ((head h).run (all I d s k b t)).2
      = all I (putHead I h 1 (putHead I h 0 d)) (putGain I h s) (putMix I h 1 (putMix I h 0 k)) b (putSums I h 1 (putSums I h 0 t)) := rfl

def endMix (k : Vec F S8x128x128 .f32) (h : Fin 8) : Vec F S8x128x128 .f32 :=
  (headMix h).put (shapeCast S1x128x128 (lower (shapeCast S128x128 ((headMix h).get k : Vec F S1x128x128 .f32) shapeCasts_S1x128x128_S128x128))
    shapeCasts_S128x128_S1x128x128) k
def endShift (t : Vec F S128x1024 .f32) (b : Vec F S128x8 .f32) (h : Fin 8) : Vec F S128x8 .f32 :=
  (headShift h).put (laneSum ((headSums h).get t)) b

theorem ending_leaves (d : Vec F S256x5120 .bf16) (s : Vec F S8x1024 .f32) (k : Vec F S8x128x128 .f32) (b : Vec F S128x8 .f32)
    (t : Vec F S128x1024 .f32) : ((ending h).run (all I d s k b t)).2 = all I d s (endMix k h) (endShift t b h) t := rfl

end

end Cert.MixerBody

end
-- ==== Proof.MixerFrame.lean ====
/- The gradient of the convolution and the spatial gating: the kernel run to what its outputs end holding, over any numbers. -/
module

public import proofs.«01_k».proof.Proof.MixerBody
public import proofs.«01_k».proof.Proof.Fused
public import Idealize.ShloMosaic.Lib.Claim

@[expose] public section

set_option maxRecDepth 16384

noncomputable section

namespace Cert.MixerFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixerIdeal Cert.MixerIdeal.Gen Cert.Acts Cert.MixerBody

variable {F : FTy → Type} [FloatOps F]

local notation "𝕄" => MT nD τ sig Unit (Elt F) ℕ (UR sig nD τ) ℕ

/-! ## A point -/

section
variable [Cert.MixerIdeal.Facts₀] (i : grid0.Coords) (I : Ins F)

/-- A row block's changes to the outputs and to the scratch. -/
def blockDz (d : Vec F S256x5120 .bf16) : Vec F S256x5120 .bf16 :=
  heads.foldl (fun d h => putHead I h 1 (putHead I h 0 d)) ([0, 1, 2].foldl (putConv i I) d)
def blockSmall (s : Vec F S8x1024 .f32) : Vec F S8x1024 .f32 := heads.foldl (fun s h => putGain I h s) ([0, 1, 2, 3].foldl (putLine i I) s)
def blockMix (k : Vec F S8x128x128 .f32) : Vec F S8x128x128 .f32 := heads.foldl (fun k h => putMix I h 1 (putMix I h 0 k)) k
def blockSums (t : Vec F S128x1024 .f32) : Vec F S128x1024 .f32 := heads.foldl (fun t h => putSums I h 1 (putSums I h 0 t)) t
def lastMix (k : Vec F S8x128x128 .f32) : Vec F S8x128x128 .f32 := heads.foldl endMix k
def lastShift (t : Vec F S128x1024 .f32) (b : Vec F S128x8 .f32) : Vec F S128x8 .f32 := heads.foldl (endShift t) b

/-- Zeros. -/
def zero {s : Shape} : Vec F s .f32 := broadcast s (Scalar.ofBits .f32 0x00000000#32)

variable (d : Vec F S256x5120 .bf16) (s : Vec F S8x1024 .f32) (k : Vec F S8x128x128 .f32) (b : Vec F S128x8 .f32) (t : Vec F S128x1024 .f32)

theorem clear_leaves : ((clear (F := F)).run (all I d s k b t)).2 = all I d zero zero b zero := by
  have h8 : whole8.put (zero (F := F) (s := S8x1024)) s = zero := funext fun y => Box.put_has (B := whole8) fun a => by
    revert a; exact fun | 0 => ⟨Nat.zero_le _, (Nat.zero_add 8).symm ▸ (y 0).isLt⟩ | 1 => ⟨Nat.zero_le _, (Nat.zero_add 1024).symm ▸ (y 1).isLt⟩
  have hm : wholeMix.put (zero (F := F) (s := S8x128x128)) k = zero := funext fun y => Box.put_has (B := wholeMix) fun a => by
    revert a
    exact (fun | 0 => ⟨Nat.zero_le _, (Nat.zero_add 8).symm ▸ (y 0).isLt⟩ | 1 => ⟨Nat.zero_le _, (Nat.zero_add 128).symm ▸ (y 1).isLt⟩
               | 2 => ⟨Nat.zero_le _, (Nat.zero_add 128).symm ▸ (y 2).isLt⟩)
  have ht : whole128.put (zero (F := F) (s := S128x1024)) t = zero := funext fun y => Box.put_has (B := whole128) fun a => by
    revert a; exact fun | 0 => ⟨Nat.zero_le _, (Nat.zero_add 128).symm ▸ (y 0).isLt⟩ | 1 => ⟨Nat.zero_le _, (Nat.zero_add 1024).symm ▸ (y 1).isLt⟩
  exact (show _ = all I d (whole8.put zero s) (wholeMix.put zero k) b (whole128.put zero t) from rfl).trans
    ((congrArg (all I d · _ b _) h8).trans ((congrArg (all I d _ · b _) hm).trans (congrArg (all I d _ _ b ·) ht)))

theorem block_leaves : ((block i).run (all I d s k b t)).2
    = all I (blockDz i I d) (blockSmall i I s) (blockMix I k) b (blockSums I t) := by
  refine (congrArg Prod.snd (Act.run_bind (conv i) (fun _ => Act.each head heads) _)).trans ?_
  rw [conv_leaves, Act.run_each]
  unfold blockDz blockSmall blockMix blockSums
  generalize [0, 1, 2].foldl (putConv i I) d = d
  generalize [0, 1, 2, 3].foldl (putLine i I) s = s
  generalize heads = hs
  induction hs generalizing d s k t with
  | nil => rfl
  | cons h hs ih => rw [List.foldl_cons, head_leaves, ih]; rfl

theorem last_leaves : ((Act.each ending heads).run (all I d s k b t)).2 = all I d s (lastMix k) (lastShift t b) t := by
  rw [Act.run_each]
  unfold lastMix lastShift
  generalize heads = hs
  induction hs generalizing k b with
  | nil => rfl
  | cons h hs ih => rw [List.foldl_cons, ending_leaves, ih]; rfl

theorem point_leaves : ((point i).run (all I d s k b t)).2 = all I (blockDz i I d) (blockSmall i I (if atFirst i = 1#1 then zero else s))
    (if k0_cond2 i = 1#1 then lastMix (blockMix I (if atFirst i = 1#1 then zero else k)) else blockMix I (if atFirst i = 1#1 then zero else k))
    (if k0_cond2 i = 1#1 then lastShift (blockSums I (if atFirst i = 1#1 then zero else t)) b else b)
    (blockSums I (if atFirst i = 1#1 then zero else t)) := by
  unfold point
  refine (congrArg Prod.snd (Act.run_bind _ _ _)).trans ?_
  have h1 : ((if atFirst i = 1#1 then clear else .ret ⟨⟩ : Act F kinds PUnit.{1}).run (all I d s k b t)).2
      = all I d (if atFirst i = 1#1 then zero else s) (if atFirst i = 1#1 then zero else k) b (if atFirst i = 1#1 then zero else t) := by
    split
    · exact clear_leaves I d s k b t
    · rfl
  rw [h1]
  refine (congrArg Prod.snd (Act.run_bind _ _ _)).trans ?_
  rw [block_leaves]
  split
  · exact last_leaves I _ _ _ _ _
  · rfl

/-- Every element of the large gradient, and of the shifts' gradient, is stored. -/
theorem blockDz_any (d d' : Vec F S256x5120 .bf16) : blockDz i I d = blockDz i I d' := by
  funext y
  refine fold_agree _ (fun h => (chunkU h 0).has y ∨ (chunkU h 1).has y ∨ (chunkV h 0).has y ∨ (chunkV h 1).has y) y (fun h X X' hy => ?_) heads _ _ ?_
  · refine Box.put_agree ?_
    by_cases h1 : (chunkV h 1).has y
    · exact .inl h1
    refine .inr (Box.put_agree ?_)
    by_cases h2 : (chunkU h 1).has y
    · exact .inl h2
    refine .inr (Box.put_agree ?_)
    by_cases h3 : (chunkV h 0).has y
    · exact .inl h3
    refine .inr (Box.put_agree ?_)
    rcases hy with (hy | hy | hy | hy) | hy
    · exact .inl hy
    · exact absurd hy h2
    · exact absurd hy h3
    · exact absurd hy h1
    · exact .inr hy
  · have hr : (y 0).val < 256 := (y 0).isLt
    have hc : (y 1).val < 5120 := (y 1).isLt
    by_cases h3 : (y 1).val < 3072
    · refine .inr (fold_agree (putConv i I) (fun k => (cols k).has y) y (fun k X X' hy => Box.put_agree hy) [0, 1, 2] d d' (.inl ⟨⟨(y 1).val / 1024, by omega⟩, ?_, ?_⟩))
      · exact (show ∀ k : Fin 3, k ∈ [0, 1, 2] by decide) _
      · exact (fun
          | 0 => ⟨Nat.zero_le _, by show _ < 0 + 256; omega⟩
          | 1 => ⟨by show 1024 * ((y 1).val / 1024) ≤ _; omega, by show _ < 1024 * ((y 1).val / 1024) + 1024; omega⟩)
    · have hm : ∀ h : Fin 8, h ∈ heads := by decide
      by_cases h4 : (y 1).val < 4096
      · refine .inl ⟨⟨((y 1).val - 3072) / 128, by omega⟩, hm _, ?_⟩
        have hb (n : Fin 2) (h0 : 128 * n.val ≤ (y 0).val) (h1 : (y 0).val < 128 * n.val + 128) : (chunkU ⟨((y 1).val - 3072) / 128, by omega⟩ n).has y :=
          (fun
            | 0 => ⟨h0, h1⟩
            | 1 => ⟨by show 3072 + 128 * (((y 1).val - 3072) / 128) ≤ _; omega, by show _ < 3072 + 128 * (((y 1).val - 3072) / 128) + 128; omega⟩)
        by_cases hn : (y 0).val < 128
        · exact .inl (hb 0 (Nat.zero_le _) hn)
        · exact .inr (.inl (hb 1 (Nat.le_of_not_lt hn) hr))
      · refine .inl ⟨⟨((y 1).val - 4096) / 128, by omega⟩, hm _, ?_⟩
        have hb (n : Fin 2) (h0 : 128 * n.val ≤ (y 0).val) (h1 : (y 0).val < 128 * n.val + 128) : (chunkV ⟨((y 1).val - 4096) / 128, by omega⟩ n).has y :=
          (fun
            | 0 => ⟨h0, h1⟩
            | 1 => ⟨by show 4096 + 128 * (((y 1).val - 4096) / 128) ≤ _; omega, by show _ < 4096 + 128 * (((y 1).val - 4096) / 128) + 128; omega⟩)
        by_cases hn : (y 0).val < 128
        · exact .inr (.inr (.inl (hb 0 (Nat.zero_le _) hn)))
        · exact .inr (.inr (.inr (hb 1 (Nat.le_of_not_lt hn) hr)))

theorem lastShift_any (b b' : Vec F S128x8 .f32) : lastShift t b = lastShift t b' := by
  funext y
  have hr : (y 0).val < 128 := (y 0).isLt
  refine fold_agree (endShift t) (fun h => (headShift h).has y) y (fun h X X' hy => Box.put_agree hy) heads _ _ (.inl ⟨⟨(y 1).val, (y 1).isLt⟩, ?_, ?_⟩)
  · exact (show ∀ h : Fin 8, h ∈ heads by decide) _
  · exact fun | 0 => ⟨Nat.zero_le _, by show _ < 0 + 128; omega⟩ | 1 => ⟨Nat.le_refl _, Nat.lt_succ_self _⟩

end

/-! ## The points one after another -/

section Region
variable (m : (ℓ : Loc nD τ sig) → Buf (Elt F) ℓ) (c : Dev nD)

/-- The blocks that a point finds. -/
def ins (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t,
    iblk m c 10 t⟩

/-- Contents changed by a point after another, from zero on. -/
abbrev upTo {s : Shape} (f : Fin cfg0.N → Vec F s .f32 → Vec F s .f32) : (n : ℕ) → n < cfg0.N → Vec F s .f32 :=
  Cert.Fused.along (fun n => n = 0) (fun t => f t zero) f
def small : (n : ℕ) → n < cfg0.N → Vec F S8x1024 .f32 := upTo fun t => blockSmall (grid0.coords t) (ins m c t)
def mixed : (n : ℕ) → n < cfg0.N → Vec F S8x128x128 .f32 := upTo fun t => blockMix (ins m c t)
def summed : (n : ℕ) → n < cfg0.N → Vec F S128x1024 .f32 := upTo fun t => blockSums (ins m c t)

theorem upTo_next {s : Shape} (f : Fin cfg0.N → Vec F s .f32 → Vec F s .f32) (t : Fin cfg0.N) (x : Vec F s .f32) (P : Prop) [Decidable P]
    (hP : P ↔ t.val = 0) (hx : t.val ≠ 0 → x = upTo f (t.val - 1) (Nat.lt_of_le_of_lt (Nat.sub_le _ _) t.isLt)) :
    f t (if P then zero else x) = upTo f t.val t.isLt := by
  by_cases h : t.val = 0
  · rw [if_pos (hP.mpr h)]
    exact (Cert.Fused.along_start (start := fun n => n = 0) (f := fun t => f t zero) (g := f) t h).symm
  · rw [if_neg fun e => h (hP.mp e), hx h]
    exact (Cert.Fused.along_later (start := fun n => n = 0) (f := fun t => f t zero) (g := f) t h h).symm

/-- The outputs' blocks after a point. -/
def dzAt (t : Fin cfg0.N) : Vec F S256x5120 .bf16 := blockDz (grid0.coords t) (ins m c t) (broadcast _ (Scalar.ofBits .bf16 0x0000#16))
def mixAt (t : Fin cfg0.N) : Vec F S8x128x128 .f32 := if t.val = 15 then lastMix (mixed m c t.val t.isLt) else mixed m c t.val t.isLt
def shiftAt (t : Fin cfg0.N) : Vec F S128x8 .f32 := lastShift (summed m c t.val t.isLt) zero

/-- The scratch buffer, and what a point finds beside its blocks: at the first, the scratch at anything; at the others, the
    sums so far, and the rest once the scratch is given back. -/
abbrev scratch : Memref sig .tc .vmem S128x1024 .f32 := Memref.whole cc0_scratch0
def Φ : (n : ℕ) → n ≤ cfg0.N → sProp 𝕄
  | 0, _ => Pipeline.ΦA spec0 c
  | n + 1, h => iprop(owns (c : Thread nD τ) scratch fullShare (summed m c n h)
      ∗ ((∃ d, owns (c : Thread nD τ) scratch fullShare d) -∗ Pipeline.ΦA spec0 c))

theorem lends : (Pipeline.ΦA spec0 c : sProp 𝕄) ⊢ iprop((∃ d, owns (c : Thread nD τ) scratch fullShare d)
    ∗ ((∃ d, owns (c : Thread nD τ) scratch fullShare d) -∗ Pipeline.ΦA spec0 c)) := by
  unfold Pipeline.ΦA
  simp only [scopedRest0_eq, owns_whole]
  iintro ⟨H, R⟩
  isplitl [H]; · iexact H
  iintro H
  isplitl [H]; · iexact H
  iexact R

theorem Φ_opens (t : Fin cfg0.N) : Φ m c t.val (Nat.le_of_lt t.isLt) ⊢ iprop(∃ s,
    ⌜t.val ≠ 0 → s = summed m c (t.val - 1) (Nat.lt_of_le_of_lt (Nat.sub_le _ _) t.isLt)⌝ ∗ owns (c : Thread nD τ) scratch fullShare s
      ∗ ((∃ d, owns (c : Thread nD τ) scratch fullShare d) -∗ Pipeline.ΦA spec0 c)) := by
  obtain ⟨n, hn⟩ := t
  cases n with
  | zero =>
      iintro H
      ihave H := (show Φ m c 0 (Nat.le_of_lt hn) ⊢ _ from lends c) $$ H
      icases H with ⟨⟨%s, Hs⟩, Hb⟩
      iexists s
      isplitr; · ipureintro; exact fun h => absurd rfl h
      isplitl [Hs]; · iexact Hs
      iexact Hb
  | succ n =>
      unfold Φ
      iintro ⟨Hs, Hb⟩
      iexists _
      isplitr; · ipureintro; exact fun _ => rfl
      isplitl [Hs]; · iexact Hs
      iexact Hb

theorem Φ_closes (n : ℕ) (h : n ≤ cfg0.N) : Φ m c n h ⊢ (Pipeline.ΦA spec0 c : sProp 𝕄) := by
  cases n with
  | zero => exact .rfl
  | succ n =>
      unfold Φ
      iintro ⟨Hs, Hb⟩
      iapply Hb
      iexists _
      iexact Hs

noncomputable def dat0 : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dzAt m c t
    | ⟨12, _⟩ => small m c t.val t.isLt
    | ⟨13, _⟩ => mixAt m c t
    | ⟨14, _⟩ => shiftAt m c t
  Φ t := Φ m c t.val (Nat.le_of_lt_succ t.isLt)
  q w := Pipeline.shareOf spec0 w
  owed _ := 0

theorem A0 (w : Fin cfg0.W) : (dat0 m c).A w = V m c (Pipeline.arrRef spec0 w) := by dsimp only [dat0]

theorem before_in (w : Fin cfg0.W) (hw : w.val < 11) (t : Fin cfg0.N) (d) : (dat0 m c).before w t d = (dat0 m c).after w t := by
  rcases (show w = 0 ∨ w = 1 ∨ w = 2 ∨ w = 3 ∨ w = 4 ∨ w = 5 ∨ w = 6 ∨ w = 7 ∨ w = 8 ∨ w = 9 ∨ w = 10 by clear d; revert w; decide) with
    rfl | rfl | rfl | rfl | rfl | rfl | rfl | rfl | rfl | rfl | rfl <;>
    exact Cert.Held.before_in _ _ rfl (fun _ => rfl) (fun _ _ => rfl) (fun t => by unfold Dat.blockOf; rw [A0]; dsimp only [dat0]; rfl) t d

theorem at_ends : ∀ t : Fin grid0.N, (atFirst (grid0.coords t) = 1#1 ↔ t.val = 0) ∧ (k0_cond2 (grid0.coords t) = 1#1 ↔ t.val = 15) := by decide +kernel
theorem idle_at : ∀ t : Fin grid0.N, t.val ≠ 15 → idle0 14 (grid0.coords t) = true ∧ (win0_14).flush t = false := by decide +kernel
theorem live_at : ∀ t : Fin grid0.N, t.val = 15 → idle0 14 (grid0.coords t) = false := by decide +kernel
theorem unflushed : ∀ t : Fin grid0.N, t.val ≠ 15 → (win0_12).flush t = false ∧ (win0_13).flush t = false := by decide +kernel

theorem before_small (t : Fin cfg0.N) (h : t.val ≠ 0) (d) :
    (dat0 m c).before 12 t d = small m c (t.val - 1) (Nat.lt_of_le_of_lt (Nat.sub_le _ _) t.isLt) := by
  have hN : t.val < 16 := t.isLt
  refine ((dat0 m c).before_out_kept 12 rfl t h (unflushed ⟨t.val - 1, _⟩ (by show t.val - 1 ≠ 15; omega)).1 (fun _ => rfl) (fun _ _ => rfl) d).trans ?_
  dsimp only [dat0]
theorem before_mix (t : Fin cfg0.N) (h : t.val ≠ 0) (d) :
    (dat0 m c).before 13 t d = mixed m c (t.val - 1) (Nat.lt_of_le_of_lt (Nat.sub_le _ _) t.isLt) := by
  have hN : t.val < 16 := t.isLt
  refine ((dat0 m c).before_out_kept 13 rfl t h (unflushed ⟨t.val - 1, _⟩ (by show t.val - 1 ≠ 15; omega)).2 (fun _ => rfl) (fun _ _ => rfl) d).trans ?_
  dsimp only [dat0]
  exact if_neg (by show t.val - 1 ≠ 15; omega)

/-- The buffers of a point. -/
noncomputable def bufs (t : Fin cfg0.N) : Mems sig kinds :=
  (⟨st0_0 t, hstage0_0 ((cfg0.slots t 0).cast nbuf0_0)⟩, ⟨st0_1 t, hstage0_1 ((cfg0.slots t 1).cast nbuf0_1)⟩, ⟨st0_2 t, hstage0_2 ((cfg0.slots t 2).cast nbuf0_2)⟩, ⟨st0_3 t, hstage0_3 ((cfg0.slots t 3).cast nbuf0_3)⟩, ⟨st0_4 t, hstage0_4 ((cfg0.slots t 4).cast nbuf0_4)⟩, ⟨st0_5 t, hstage0_5 ((cfg0.slots t 5).cast nbuf0_5)⟩, ⟨st0_6 t, hstage0_6 ((cfg0.slots t 6).cast nbuf0_6)⟩, ⟨st0_7 t, hstage0_7 ((cfg0.slots t 7).cast nbuf0_7)⟩, ⟨st0_8 t, hstage0_8 ((cfg0.slots t 8).cast nbuf0_8)⟩, ⟨st0_9 t, hstage0_9 ((cfg0.slots t 9).cast nbuf0_9)⟩, ⟨st0_10 t, hstage0_10 ((cfg0.slots t 10).cast nbuf0_10)⟩, ⟨st0_11 t, hstage0_11 ((cfg0.slots t 11).cast nbuf0_11)⟩, ⟨st0_12 t, hstage0_12 ((cfg0.slots t 12).cast nbuf0_12)⟩, ⟨st0_13 t, hstage0_13 ((cfg0.slots t 13).cast nbuf0_13)⟩, ⟨st0_14 t, hstage0_14 ((cfg0.slots t 14).cast nbuf0_14)⟩, ⟨scratch, Memref.isWhole_whole _⟩, ())

theorem holds_eq (t : Fin cfg0.N) (I : Ins F) (d : Vec F S256x5120 .bf16) (s : Vec F S8x1024 .f32) (k : Vec F S8x128x128 .f32) (b : Vec F S128x8 .f32)
    (u : Vec F S128x1024 .f32) : (holds c (bufs t) (all I d s k b u) : sProp 𝕄) = iprop(owns (c : Thread nD τ) (st0_0 t) fullShare I.z
      ∗ owns (c : Thread nD τ) (st0_1 t) fullShare I.gHalo ∗ owns (c : Thread nD τ) (st0_2 t) fullShare I.hHalo
      ∗ owns (c : Thread nD τ) (st0_3 t) fullShare I.bHalo ∗ owns (c : Thread nD τ) (st0_4 t) fullShare I.dy
      ∗ owns (c : Thread nD τ) (st0_5 t) fullShare I.dyHalo ∗ owns (c : Thread nD τ) (st0_6 t) fullShare I.taps
      ∗ owns (c : Thread nD τ) (st0_7 t) fullShare I.bias ∗ owns (c : Thread nD τ) (st0_8 t) fullShare I.gain
      ∗ owns (c : Thread nD τ) (st0_9 t) fullShare I.mix ∗ owns (c : Thread nD τ) (st0_10 t) fullShare I.shift
      ∗ owns (c : Thread nD τ) (st0_11 t) fullShare d ∗ owns (c : Thread nD τ) (st0_12 t) fullShare s
      ∗ owns (c : Thread nD τ) (st0_13 t) fullShare k ∗ owns (c : Thread nD τ) (st0_14 t) fullShare b
      ∗ owns (c : Thread nD τ) scratch fullShare u ∗ emp) := rfl

/-- A point run from what it finds. -/
theorem point_runs (t : Fin cfg0.N) (d : Vec F S256x5120 .bf16) (s : Vec F S8x1024 .f32) (k : Vec F S8x128x128 .f32) (b : Vec F S128x8 .f32)
    (u : Vec F S128x1024 .f32) (hs : t.val ≠ 0 → s = small m c (t.val - 1) (Nat.lt_of_le_of_lt (Nat.sub_le _ _) t.isLt))
    (hk : t.val ≠ 0 → k = mixed m c (t.val - 1) (Nat.lt_of_le_of_lt (Nat.sub_le _ _) t.isLt))
    (hu : t.val ≠ 0 → u = summed m c (t.val - 1) (Nat.lt_of_le_of_lt (Nat.sub_le _ _) t.isLt)) :
    ((point (grid0.coords t)).run (all (ins m c t) d s k b u)).2 = all (ins m c t) (dzAt m c t) (small m c t.val t.isLt) (mixAt m c t)
      (if t.val = 15 then shiftAt m c t else b) (summed m c t.val t.isLt) := by
  obtain ⟨h0, hl⟩ := at_ends t
  rw [point_leaves, blockDz_any _ _ d (broadcast _ (Scalar.ofBits .bf16 0x0000#16)),
    upTo_next (fun t => blockSmall (grid0.coords t) (ins m c t)) t s _ h0 hs,
    upTo_next (fun t => blockMix (ins m c t)) t k _ h0 hk, upTo_next (fun t => blockSums (ins m c t)) t u _ h0 hu]
  by_cases h : t.val = 15
  · rw [if_pos (hl.mpr h), if_pos (hl.mpr h), if_pos h, lastShift_any _ b zero]
    unfold mixAt
    rw [if_pos h]
    rfl
  · rw [if_neg fun e => h (hl.mp e), if_neg fun e => h (hl.mp e), if_neg h]
    unfold mixAt
    rw [if_neg h]
    rfl

theorem obligation : BodyObligation (dat0 m c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [before_in m c 0 (by decide), before_in m c 1 (by decide), before_in m c 2 (by decide), before_in m c 3 (by decide),
    before_in m c 4 (by decide), before_in m c 5 (by decide), before_in m c 6 (by decide), before_in m c 7 (by decide),
    before_in m c 8 (by decide), before_in m c 9 (by decide), before_in m c 10 (by decide)]
  rw [show bodyAt0 t = (point (grid0.coords t)).prog (bufs t) from body_eq t (bufs t)]
  rw [show (dat0 m c).Φ t.succ = Φ m c (t.val + 1) t.isLt from rfl, show (dat0 m c).Φ t.castSucc = Φ m c t.val (Nat.le_of_lt t.isLt) by
      dsimp only [dat0]; exact Pipeline.Dat.Φ_castSucc (Φ m c) t,
    show (dat0 m c).owesAt () t.succ = (dat0 m c).owesAt () t.castSucc from rfl]
  refine triple_restated ?_ rfl .rfl fun _ => .rfl
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HΦ := (Φ_opens m c t) $$ HΦ
  icases HΦ with ⟨%u, %hu, Hs, Hb⟩
  iapply (show _ ⊢ _ from does c (bufs t) (point (grid0.coords t)) (all (ins m c t) ((dat0 m c).before 11 t d11) ((dat0 m c).before 12 t d12)
    ((dat0 m c).before 13 t d13) ((dat0 m c).before 14 t d14) u) _)
  rw [point_runs m c t _ _ _ _ _ (fun h => before_small m c t h d12) (fun h => before_mix m c t h d13) hu, holds_eq, holds_eq]
  isplitr [Hb Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [Hs]; · iexact Hs
    iempintro
  iintro ⟨H0, H1, H2, H3, H4, H5, H6, H7, H8, H9, H10, H11, H12, H13, H14, Hs, -⟩
  isplitl [Hs Hb]
  · unfold Φ
    isplitl [Hs]; · iexact Hs
    iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  by_cases h : t.val = 15
  · rw [live_at t h, if_pos h]
    iexact H14
  · rw [(idle_at t h).1, (idle_at t h).2, if_neg h]
    iexists _
    iexact H14

end Region

/-! ## The run -/

section Run
variable (m : (ℓ : Loc nD τ sig) → Buf (Elt F) ℓ) (ρ : Dev nD → PrngReg)

noncomputable def dats : (p : Fin 1) → (c : Dev nD) → Dat τ (Elt F) Unit ℕ (UR sig nD τ) ℕ (cfgs p) c
  | ⟨0, _⟩, c => dat0 m c

-- the implicit arguments of the launch theorem are found by unfolding plain definitions
set_option backward.isDefEq.respectTransparency.types false in
/-- Every execution ends with the outputs at what the points leave, every other buffer as the kernel found it, and every counter
    at zero. -/
theorem run : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m) (hmain := hmain m Variants.none)
    (hA := fun c => A0 m c) (hin := fun _ => .rfl) (hout := fun c => Φ_closes m c cfg0.N (Nat.le_refl _))

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (fun c => A0 m c) ((θ_run defs _ _).mono (fun _ h => h.1) (run m ρ)))
    ((θ_run defs _ _).mono (fun _ h => h.2) (run m ρ))

end Run

end Cert.MixerFrame

end
-- ==== Proof.MixerRef.lean ====
/- The convolution and the spatial gating: what the reference's gradients are, element by element. -/
module

public import proofs.«01_k».proof.Proof.Reals
public import proofs.«01_k».proof.Proof.Gen.MixerRefIdeal.Run
public import proofs.«01_k».proof.Proof.Gen.MixerRefIdeal.Read
public import Idealize.ShloMosaic.Lib.Pointwise

@[expose] public section

set_option maxRecDepth 16384

noncomputable section

namespace Cert.MixerRef

open Idealize.ShloMosaic Idealize.ShloMosaic.Tactic Cert.MixerRefIdeal Cert.MixerRefIdeal.Read

/-! ## The elements -/

variable (Z : Vec Ideal S4096x5120 .bf16) (D : Vec Ideal S4096x2048 .bf16) (C : Vec Ideal S1x3x1024 .f32) (B : Vec Ideal S1x1024 .f32)
  (G : Vec Ideal S1x1024 .f32) (W : Vec Ideal S1x8x128x128 .f32) (T : Vec Ideal S1x8x128 .f32)

/-- The columns from `1024 k` on. -/
def part (k : Fin 5) (r : Fin 4096) (j : Fin 1024) : EReal := Z (ix2 r (⟨1024 * k.val + j.val, by omega⟩ : Fin 5120))
def dpart (k : Fin 2) (r : Fin 4096) (j : Fin 1024) : EReal := D (ix2 r (⟨1024 * k.val + j.val, by omega⟩ : Fin 2048))

/-- The rows `n` further down, or up, and zeros. -/
def late (n : ℕ) (x : Fin 4096 → Fin 1024 → EReal) (r : Fin 4096) (j : Fin 1024) : EReal :=
  if n ≤ r.val then x ⟨r.val - n, by omega⟩ j else 0
def early (n : ℕ) (x : Fin 4096 → Fin 1024 → EReal) (r : Fin 4096) (j : Fin 1024) : EReal :=
  if h : r.val + n < 4096 then x ⟨r.val + n, h⟩ j else 0

/-- What is convolved, and the gradient of the convolution. -/
def x (r : Fin 4096) (j : Fin 1024) : EReal := part Z 1 r j * part Z 2 r j
def y (r : Fin 4096) (j : Fin 1024) : EReal := dpart D 0 r j * part Z 0 r j
def tap (k : Fin 3) (j : Fin 1024) : EReal := C (ix3 (0 : Fin 1) k j)
def conv (r : Fin 4096) (j : Fin 1024) : EReal :=
  B (ix2 (0 : Fin 1) j) + tap C 2 j * x Z r j + tap C 1 j * late 1 (x Z) r j + tap C 0 j * late 2 (x Z) r j
def dx (r : Fin 4096) (j : Fin 1024) : EReal :=
  tap C 2 j * y Z D r j + tap C 1 j * early 1 (y Z D) r j + tap C 0 j * early 2 (y Z D) r j

theorem v9 (r : Fin 4096) (j : Fin 1024) : val_main_v9 (F := Ideal) Z (ix3 (0 : Fin 1) r j) = x Z r j := by
  pointwise [val_main_v9, val_main_v5, val_main_v6, val_main_v1, val_main_v0, x, part]

theorem v25 (r : Fin 4096) (j : Fin 1024) : val_main_v25 (F := Ideal) Z (ix3 (0 : Fin 1) r j) = late 2 (x Z) r j := by
  pointwise [val_main_v25, val_main_v13, val_main_v12, val_main_cst, late]
  by_cases h : 2 ≤ r.val
  · rw [dif_neg (Nat.not_lt.mpr h), if_pos h, v9]
  · rw [dif_pos (Nat.lt_of_not_le h), if_neg h]
theorem v32 (r : Fin 4096) (j : Fin 1024) : val_main_v32 (F := Ideal) Z (ix3 (0 : Fin 1) r j) = late 1 (x Z) r j := by
  pointwise [val_main_v32, val_main_v13, val_main_v12, val_main_cst, late]
  by_cases h : 1 ≤ r.val
  · rw [dif_neg (by omega), if_pos h, v9]
    exact congrArg (x Z · j) (Fin.ext (by show 1 + r.val - 2 = r.val - 1; omega))
  · rw [dif_pos (by omega), if_neg h]
theorem v36 (r : Fin 4096) (j : Fin 1024) : val_main_v36 (F := Ideal) Z C B (ix3 (0 : Fin 1) r j) = conv Z C B r j := by
  pointwise [val_main_v36, val_main_v29, val_main_v22, val_main_v21, val_main_v20, val_main_v11, val_main_v19, val_main_v18, val_main_v17,
    val_main_v16, val_main_v15, val_main_v10, val_main_v28, val_main_v27, val_main_v26, val_main_v24, val_main_v23, val_main_v35,
    val_main_v34, val_main_v33, val_main_v31, val_main_v30, conv, tap]
  rw [v9, v25, v32]
  exact add_right_comm _ _ _
theorem v113 (r : Fin 4096) (j : Fin 1024) : val_main_v113 (F := Ideal) Z D (ix3 (0 : Fin 1) r j) = y Z D r j := by
  pointwise [val_main_v113, val_main_v4, val_main_v73, val_main_v1, val_main_v0, val_main_v2, val_main_v3, y, part, dpart]
  exact mul_comm _ _
theorem v149 (r : Fin 4096) (j : Fin 1024) : val_main_v149 (F := Ideal) Z D C (ix3 (0 : Fin 1) r j) = dx Z D C r j := by
  pointwise [val_main_v149, val_main_v139, val_main_v138, val_main_v148, val_main_v131, val_main_v121, val_main_v116, val_main_v115,
    val_main_v130, val_main_v125, val_main_v124, val_main_v33, val_main_v31, val_main_v30, val_main_v17,
    val_main_v16, val_main_v15, val_main_v10, val_main_v26, val_main_v24, val_main_v23, val_main_cst_15, val_main_cst_19, dx, tap, early]
  simp only [v113]
  rw [add_assoc]
  refine congrArg (_ + ·) (congrArg₂ (· + ·) ?_ ?_)
  · by_cases h : r.val + 1 < 4096
    · rw [dif_pos (by omega), dif_pos h]
      exact congrArg (_ * y Z D · j) (Fin.ext (by show 2 + r.val - 1 = r.val + 1; omega))
    · rw [dif_neg (by omega), dif_neg h, mul_zero]
  · by_cases h : r.val + 2 < 4096
    · rw [dif_pos (by omega), dif_pos h]
      exact congrArg (_ * y Z D · j) (Fin.ext (Nat.add_comm _ _))
    · rw [dif_neg (by omega), dif_neg h, mul_zero]

/-! ## The convolution's gradients -/

def convDz (k : Fin 3) (r : Fin 4096) (j : Fin 1024) : EReal := match k with
  | 0 => dpart D 0 r j * conv Z C B r j
  | 1 => dx Z D C r j * part Z 2 r j
  | 2 => dx Z D C r j * part Z 1 r j

/-- The large gradient is five joined pieces. -/
def piece (k : Fin 5) : FVec Ideal S1x4096x1024 .f32 := match k with
  | 0 => val_main_v114 (F := Ideal) Z D C B
  | 1 => val_main_v153 (F := Ideal) Z D C
  | 2 => val_main_v152 (F := Ideal) Z D C
  | 3 => val_main_v76 (F := Ideal) Z D G W T
  | 4 => val_main_v109 (F := Ideal) Z D G W

theorem same (p : FVec Ideal S1x4096x1024 .f32) (r : Fin 4096) (i j : Fin 1024) (h : i.val = j.val) :
    p (ix3 (0 : Fin 1) r i) = p (ix3 (0 : Fin 1) r j) := congrArg (fun l => p (ix3 (0 : Fin 1) r l)) (Fin.ext h)

theorem joined (k : Fin 5) (r : Fin 4096) (j : Fin 1024) :
    val_main_v159 (F := Ideal) Z D C B G W T (ix2 r (⟨1024 * k.val + j.val, by omega⟩ : Fin 5120)) = piece Z D C B G W T k (ix3 (0 : Fin 1) r j) := by
  pointwise [val_main_v159, val_main_v158, val_main_v154]
  have hj := j.isLt
  obtain ⟨k, hk⟩ := k
  unfold piece
  generalize val_main_v114 (F := Ideal) Z D C B = p0, val_main_v153 (F := Ideal) Z D C = p1, val_main_v152 (F := Ideal) Z D C = p2,
    val_main_v76 (F := Ideal) Z D G W T = p3, val_main_v109 (F := Ideal) Z D G W = p4
  dsimp only
  iterate 5
    rcases k with _ | k
    · split_ifs <;> first
        | omega
        | (refine same p0 r _ j ?_; dsimp only; omega)
        | (refine same p1 r _ j ?_; dsimp only; omega)
        | (refine same p2 r _ j ?_; dsimp only; omega)
        | (refine same p3 r _ j ?_; dsimp only; omega)
        | (refine same p4 r _ j ?_; dsimp only; omega)
  omega

theorem dz_conv (k : Fin 3) (r : Fin 4096) (j : Fin 1024) :
    val_main_v159 (F := Ideal) Z D C B G W T (ix2 r (⟨1024 * k.val + j.val, by omega⟩ : Fin 5120)) = convDz Z D C B k r j := by
  refine (joined Z D C B G W T ⟨k.val, by omega⟩ r j).trans ?_
  obtain ⟨k, hk⟩ := k
  iterate 3
    rcases k with _ | k
    · pointwise [piece, val_main_v114, val_main_v153, val_main_v152, val_main_v73, val_main_v3, val_main_v2, val_main_v5, val_main_v6,
        val_main_v1, val_main_v0, convDz, dpart, part]
      first | rw [v36] | rw [v149]
      try exact mul_comm _ _
  omega

/-- A small gradient's row is a sum of rows. -/
def summand (k : Fin 4) (r : Fin 4096) (j : Fin 1024) : EReal := match k with
  | 0 => y Z D r j * late 2 (x Z) r j
  | 1 => y Z D r j * late 1 (x Z) r j
  | 2 => y Z D r j * x Z r j
  | 3 => y Z D r j
def small (k : Fin 4) (j : Fin 1024) : EReal := ∑ r : Fin 4096, summand Z D k r j

theorem v118 (j : Fin 1024) : val_main_v118 (F := Ideal) Z D (ix2 (0 : Fin 1) j) = small Z D 1 j := by
  pointwise [val_main_v118, val_main_v117, val_main_cst_13, small, summand]
  simp only [v113, v32]
theorem v127 (j : Fin 1024) : val_main_v127 (F := Ideal) Z D (ix2 (0 : Fin 1) j) = small Z D 0 j := by
  pointwise [val_main_v127, val_main_v126, val_main_cst_17, small, summand]
  simp only [v113, v25]
theorem v141 (j : Fin 1024) : val_main_v141 (F := Ideal) Z D (ix2 (0 : Fin 1) j) = small Z D 2 j := by
  pointwise [val_main_v141, val_main_v140, val_main_cst_23, small, summand]
  simp only [v113, v9]
theorem v135 (j : Fin 1024) : val_main_v135 (F := Ideal) Z D (ix2 (0 : Fin 1) j) = small Z D 3 j := by
  pointwise [val_main_v135, val_main_cst_21, small, summand]
  simp only [v113]

/-- A sum over axes of one element. -/
theorem single {s t : Shape} {axes : List (Fin s.rank)} (h : s.ReducesTo axes t) (x : s.Idx → EReal) (j : t.Idx) (i : s.Idx)
    (hi : ∀ l, h.drop l = j ↔ i = l) : Ideal.hostReduceAdd h x 0 j = x i := by
  unfold Ideal.hostReduceAdd
  rw [show Finset.univ.filter (fun l => h.drop l = j) = {i} from Finset.ext fun l => by simp [hi, eq_comm], Finset.sum_singleton, zero_add]

/-- A sum over several axes. -/
theorem several {ι : Type} [Fintype ι] {s t : Shape} {axes : List (Fin s.rank)} (h : s.ReducesTo axes t) (x : s.Idx → EReal) (j : t.Idx)
    (e : ι → s.Idx) (he : Function.Injective e) (hi : ∀ l, h.drop l = j ↔ ∃ k, e k = l) : Ideal.hostReduceAdd h x 0 j = ∑ k, x (e k) := by
  classical
  unfold Ideal.hostReduceAdd
  rw [show Finset.univ.filter (fun l => h.drop l = j) = Finset.univ.image e from Finset.ext fun l => by simp [hi],
    Finset.sum_image fun _ _ _ _ h => he h, zero_add]

theorem rows (x : S1x1x1024.Idx → EReal) (j : Fin 1024) :
    Ideal.hostReduceAdd Gen.reducesTo_S1x1x1024_S1024_d0_1 x 0 (ix1 j) = x (ix3 (0 : Fin 1) (0 : Fin 1) j) :=
  single _ _ _ _ fun l => ⟨fun e => funext fun a => Fin.ext (match a with
    | ⟨0, _⟩ => (Nat.lt_one_iff.mp (l 0).isLt).symm
    | ⟨1, _⟩ => (Nat.lt_one_iff.mp (l 1).isLt).symm
    | ⟨2, _⟩ => (congrArg Fin.val (congrFun e 0)).symm), fun e => e ▸ funext fun a => match a with | ⟨0, _⟩ => rfl⟩

theorem v157 (k : Fin 4) (j : Fin 1024) :
    val_main_v157 (F := Ideal) Z D W (ix2 (⟨k.val, by omega⟩ : Fin 8) j) = small Z D k j := by
  obtain ⟨k, hk⟩ := k
  iterate 4
    rcases k with _ | k
    · pointwise [val_main_v157, val_main_v155, val_main_v151, val_main_v146, val_main_v134, val_main_v123, val_main_v122, val_main_v133,
        val_main_v132, val_main_v145, val_main_v144, val_main_v150, val_main_v120, val_main_v129, val_main_v137, val_main_v143, val_main_v119,
        val_main_v128, val_main_v136, val_main_v142, val_main_cst_14, val_main_cst_18, val_main_cst_22, val_main_cst_24, val_main_cst_16,
        val_main_cst_20, val_main_cst_25]
      refine (rows _ j).trans ?_
      pointwise []
      first | exact v127 Z D j | exact v118 Z D j | exact v141 Z D j | exact v135 Z D j
  omega

end Cert.MixerRef

end
-- ==== Proof.MixerGate.lean ====
/- The spatial gating: what the reference's gradients are, element by element. -/
module

public import proofs.«01_k».proof.Proof.MixerRef

@[expose] public section

set_option maxRecDepth 16384

noncomputable section

namespace Cert.MixerRef

open Idealize.ShloMosaic Idealize.ShloMosaic.Tactic Cert.MixerRefIdeal Cert.MixerRefIdeal.Read

variable (Z : Vec Ideal S4096x5120 .bf16) (D : Vec Ideal S4096x2048 .bf16) (C : Vec Ideal S1x3x1024 .f32) (B : Vec Ideal S1x1024 .f32)
  (G : Vec Ideal S1x1024 .f32) (W : Vec Ideal S1x8x128x128 .f32) (T : Vec Ideal S1x8x128 .f32)

/-! ## The spatial gating -/

/-- The rows chunk by chunk, and the columns head by head. -/
def row (c : Fin 32) (a : Fin 128) : Fin 4096 := ⟨c.val * 128 + a.val, by omega⟩
def lane (h : Fin 8) (b : Fin 128) : Fin 1024 := ⟨h.val * 128 + b.val, by omega⟩

variable (c : Fin 32) (a : Fin 128) (h : Fin 8) (b : Fin 128)

/-- The gradient of the norm. -/
def grad (x e : Fin 128 → EReal) (s : EReal) (b : Fin 128) : EReal :=
  Ideal.rsqrt s * (e b - x b * Ideal.rsqrt s * Ideal.div (∑ l, e l * (x l * Ideal.rsqrt s)) (Ideal.ofBits .f32 0x43000000#32))
/-- The same as the derivative's own sum. -/
def shared (x e : Fin 128 → EReal) (s : EReal) : EReal :=
  Ideal.div ((∑ l, x l * e l) * (Ideal.ofBits .f32 0xBF000000#32 * Ideal.div (Ideal.rsqrt s) s)) (Ideal.ofBits .f32 0x43000000#32)
/-- A row's mean square and `ε`. -/
def square (x : Fin 128 → EReal) : EReal := Ideal.div (∑ l, x l * x l) (Ideal.ofBits .f32 0x43000000#32) + Ideal.ofBits .f32 0x358637BD#32
theorem width : Ideal.ofBits .f32 0x43000000#32 = ((128 : ℝ) : EReal) := by
  simp [Ideal.ofBits, Ideal.ieee, -EReal.coe_mul]; norm_num

/-- A real times a sum of reals times extended reals. -/
theorem sum_mul_real {ι : Type} (s : Finset ι) (f : ι → EReal) {c : ℝ} (hc : 0 ≤ c) : (∑ i ∈ s, f i) * (c : EReal) = ∑ i ∈ s, f i * c := by
  classical
  induction s using Finset.induction_on with
  | empty => simp
  | insert a s ha ih => rw [Finset.sum_insert ha, Finset.sum_insert ha, EReal.right_distrib_of_nonneg_of_ne_top (EReal.coe_nonneg.mpr hc) (EReal.coe_ne_top c), ih]

theorem twice (p : ℝ) (t : EReal) : (p : EReal) * t + (p : EReal) * t = ((2 * p : ℝ) : EReal) * t := by
  induction t using EReal.rec with
  | coe t => rw [← EReal.coe_mul, ← EReal.coe_mul, ← EReal.coe_add]; exact congrArg _ (by ring)
  | top =>
    rcases lt_trichotomy p 0 with hp | hp | hp
    · rw [EReal.coe_mul_top_of_neg hp, EReal.coe_mul_top_of_neg (by linarith)]; rfl
    · subst hp; simp
    · rw [EReal.coe_mul_top_of_pos hp, EReal.coe_mul_top_of_pos (by linarith)]; rfl
  | bot =>
    rcases lt_trichotomy p 0 with hp | hp | hp
    · rw [EReal.coe_mul_bot_of_neg hp, EReal.coe_mul_bot_of_neg (by linarith)]; rfl
    · subst hp; simp
    · rw [EReal.coe_mul_bot_of_pos hp, EReal.coe_mul_bot_of_pos (by linarith)]; rfl

theorem rsqrt_top : Ideal.rsqrt ⊤ = 0 := rfl

/-- The two forms of the norm's gradient agree, whatever the row holds: a row that holds an infinity has the root's
    reciprocal zero, and both are zero. -/
theorem grad_eq (x e : Fin 128 → EReal) (b : Fin 128) :
    grad x e (square x) b = e b * Ideal.rsqrt (square x) + x b * shared x e (square x) + shared x e (square x) * x b := by
  by_cases hx : ∀ l, ∃ r : ℝ, x l = (r : EReal)
  · choose y hy using hx
    obtain rfl : x = fun l => (y l : EReal) := funext hy
    obtain ⟨w, r, hw, hr, hdw, hdr⟩ := Cert.Reals.root (n := 128) y (by norm_num)
    have hsq : square (fun l => (y l : EReal)) = w := by rw [square, width]; exact hdw
    have hrp : 0 ≤ r := by
      have : r = (Real.sqrt w)⁻¹ := by
        have h := hdr
        rw [Ideal.rsqrt_coe, if_neg (not_lt.mpr hw.le), if_neg hw.ne'] at h
        exact (EReal.coe_injective h).symm
      rw [this]; positivity
    simp only [grad, shared, hsq, hdr, width, Cert.Reals.neg_half_f32, Cert.Reals.div_real _ hw.ne', ← EReal.coe_mul]
    have hS : ∑ l, e l * ((y l * r : ℝ) : EReal) = (∑ l, (y l : EReal) * e l) * (r : EReal) := by
      rw [sum_mul_real _ _ hrp]
      exact Finset.sum_congr rfl fun l _ => by rw [EReal.coe_mul, ← mul_assoc, mul_comm (e l)]
    rw [hS]
    generalize ∑ l, (y l : EReal) * e l = t
    rw [Ideal.div_coe (by norm_num), Ideal.div_coe (by norm_num), sub_eq_add_neg,
      EReal.left_distrib_of_nonneg_of_ne_top (EReal.coe_nonneg.mpr hrp) (EReal.coe_ne_top r), mul_comm (r : EReal) (e b), add_assoc]
    refine congrArg (e b * (r : EReal) + ·) ?_
    have hl : (r : EReal) * -(((y b * r : ℝ) : EReal) * (t * (r : EReal) * ((1 / 128 : ℝ) : EReal))) = ((2 * (-(y b * (r * r * r) / 256)) : ℝ) : EReal) * t := by
      rw [show ((2 * (-(y b * (r * r * r) / 256)) : ℝ) : EReal) = ((r * (-(y b * r) * (r * (1 / 128))) : ℝ) : EReal) from congrArg _ (by ring)]
      simp only [EReal.coe_mul, EReal.coe_neg, neg_mul, mul_neg]
      simp only [mul_comm, mul_left_comm, mul_assoc]
    have hq : r / w = r * r * r := by field_simp; linear_combination (-r) * hr
    have hm : t * ((-1 / 2 * (r / w) : ℝ) : EReal) * ((1 / 128 : ℝ) : EReal) = ((-(r * r * r) / 256 : ℝ) : EReal) * t := by
      rw [hq, mul_assoc, ← EReal.coe_mul, mul_comm]; exact congrArg (· * t) (congrArg _ (by ring))
    rw [hl, ← twice, hm, mul_comm (_ * t) (y b : EReal), ← mul_assoc (y b : EReal), ← EReal.coe_mul]
    exact congrArg (fun p : ℝ => (p : EReal) * t + (p : EReal) * t) (by ring)
  · push Not at hx
    obtain ⟨l, hl⟩ := hx
    have hi : x l * x l = ⊤ := by
      induction hc : x l using EReal.rec with
      | coe r => exact absurd hc (hl r)
      | top => rfl
      | bot => rfl
    have hs : square x = ⊤ := by
      have : ∑ l, x l * x l = ⊤ := top_le_iff.mp (hi ▸ Finset.single_le_sum (f := fun l => x l * x l) (fun i _ => by
        rcases le_total 0 (x i) with h | h
        · exact mul_nonneg h h
        · rw [← neg_mul_neg]; exact mul_nonneg (EReal.neg_nonneg.mpr h) (EReal.neg_nonneg.mpr h)) (Finset.mem_univ l))
      obtain ⟨ε, hε, hε'⟩ := Cert.Reals.eps_f32
      rw [square, this, width, Ideal.div_coe (by norm_num), EReal.top_mul_coe_of_pos (by norm_num), hε']; rfl
    have hz : ∀ y : EReal, y ≠ 0 → Ideal.div 0 y = 0 := fun y hy => by rw [Ideal.div, if_neg hy, zero_mul]
    simp only [grad, shared, hs, rsqrt_top, hz ⊤ EReal.top_ne_zero, mul_zero, zero_mul, add_zero]
    rw [hz _ (by rw [width]; exact EReal.coe_ne_zero.mpr (by norm_num)), mul_zero, zero_mul, add_zero, add_zero]
def size : EReal := square fun l => part Z 4 (row c a) (lane h l)
def unit : EReal := part Z 4 (row c a) (lane h b) * Ideal.rsqrt (size Z c a h)
def normed : EReal := unit Z c a h b * G (ix2 (0 : Fin 1) (lane h b))
def weight (h : Fin 8) (i k : Fin 128) : EReal := if k.val ≤ i.val then W (ix4 (0 : Fin 1) h i k) else 0
def mixed : EReal := ∑ k : Fin 128, weight W h a k * normed Z G c k h b + T (ix3 (0 : Fin 1) h a)
def dm : EReal := dpart D 1 (row c a) (lane h b) * part Z 3 (row c a) (lane h b)
def dn : EReal := ∑ i : Fin 128, weight W h i a * dm Z D c i h b
def du : EReal := dpart D 1 (row c a) (lane h b) * mixed Z G W T c a h b
def dv : EReal := grad (fun l => part Z 4 (row c a) (lane h l)) (fun l => dn Z D W c a h l * G (ix2 (0 : Fin 1) (lane h l))) (size Z c a h) b
def dgain : EReal := ∑ c : Fin 32, ∑ a : Fin 128, dn Z D W c a h b * unit Z c a h b
def dweight (i k : Fin 128) : EReal := if k.val ≤ i.val then ∑ c : Fin 32, ∑ b : Fin 128, dm Z D c i h b * normed Z G c k h b else 0
def dshift : EReal := ∑ c : Fin 32, ∑ b : Fin 128, dm Z D c a h b

theorem v41 : val_main_v41 (F := Ideal) Z (ix5 (0 : Fin 1) c a h b) = part Z 4 (row c a) (lane h b) := by
  pointwise [val_main_v41, val_main_v8, val_main_v1, val_main_v0, part, row, lane]
theorem v49 : val_main_v49 (F := Ideal) Z (ix5 (0 : Fin 1) c a h (0 : Fin 1)) = size Z c a h := by
  pointwise [val_main_v49, val_main_v47, val_main_v45, val_main_v44, val_main_v43, val_main_v46, val_main_v48, val_main_cst_1, val_main_cst_2, val_main_cst_3, size, square]
  simp only [v41]
theorem v55 : val_main_v55 (F := Ideal) Z (ix5 (0 : Fin 1) c a h b) = unit Z c a h b := by
  pointwise [val_main_v55, val_main_v54, val_main_v50, unit]
  rw [v41, v49]
theorem v58 : val_main_v58 (F := Ideal) Z G (ix5 (0 : Fin 1) c a h b) = normed Z G c a h b := by
  pointwise [val_main_v58, val_main_v57, val_main_v56, val_main_v42, val_main_v38, normed]
  rw [v55]
  rfl
theorem at_or_below : ∀ i k : Fin 128, IntOp.cmpi .sge (IntOp.addi (BitVec.ofNat 32 i.val) 0#32) (BitVec.ofNat 32 k.val) = if k.val ≤ i.val then 1#1 else 0#1 := by
  decide +kernel
theorem mask (i k : Fin 128) (x y : EReal) : Scalar.select (val_main_v63_1 (F := Ideal) (ix3 h i k)) x y = if k.val ≤ i.val then x else y := by
  pointwise [val_main_v63_1, val_main_v61, val_main_v60, val_main_call0_v4, val_main_call0_v2, val_main_call0_v0, val_main_call0_v1, val_main_call0_c,
    val_main_call0_v3, val_main_v59, val_main_c, val_main_call0_v5, val_main_call0_c_0]
  rw [at_or_below]
  split_ifs <;> rfl
theorem v63 (i k : Fin 128) : val_main_v63_0 (F := Ideal) W (ix3 h i k) = weight W h i k := by
  pointwise [val_main_v63_0, val_main_v62, val_main_cst_5, val_main_v39]
  exact mask h i k _ _
theorem v69 : val_main_v69 (F := Ideal) Z G W T (ix5 (0 : Fin 1) c a h b) = mixed Z G W T c a h b := by
  pointwise [val_main_v69, val_main_v65, val_main_v64, val_main_v68, val_main_v67, val_main_v66, val_main_v40, mixed]
  simp only [v58, v63]
  exact congrArg (· + _) (Finset.sum_congr rfl fun _ _ => mul_comm _ _)
theorem v77 : val_main_v77 (F := Ideal) Z D (ix5 (0 : Fin 1) c a h b) = dm Z D c a h b := by
  pointwise [val_main_v77, val_main_v75, val_main_v7, val_main_v74, val_main_v3, val_main_v2, val_main_v1, val_main_v0, dm, dpart, part, row, lane]
  exact mul_comm _ _
theorem v85 : val_main_v85 (F := Ideal) Z D W (ix5 (0 : Fin 1) c a h b) = dn Z D W c a h b := by
  pointwise [val_main_v85, val_main_v84, val_main_v82, dn]
  simp only [v77, v63]
  exact Finset.sum_congr rfl fun _ _ => mul_comm _ _
theorem v82 : val_main_v82 (F := Ideal) Z D (ix5 h (0 : Fin 1) c b a) = dm Z D c a h b := by
  pointwise [val_main_v82]
  exact v77 Z D c a h b
theorem v83 (i k : Fin 128) : val_main_v83 (F := Ideal) Z D G (ix3 h i k) = ∑ p : Fin 32 × Fin 128, dm Z D p.1 i h p.2 * normed Z G p.1 k h p.2 := by
  pointwise [val_main_v83]
  refine (zero_add _).trans ?_
  let e : Fin 32 × Fin 128 ≃ dot_S8x1x32x128x128_S1x32x128x8x128_S8x128x128_123_014_4_2_0_3.contr.Idx :=
    { toFun := fun p a => match a with
        | ⟨0, _⟩ => (0 : Fin 1)
        | ⟨1, _⟩ => p.1
        | ⟨2, _⟩ => p.2
      invFun := fun q => (q (1 : Fin 3), q (2 : Fin 3))
      left_inv := fun _ => rfl
      right_inv := fun q => funext fun a => match a with
        | ⟨0, _⟩ => Fin.ext (Nat.lt_one_iff.mp (q (0 : Fin 3)).isLt).symm
        | ⟨1, _⟩ => rfl
        | ⟨2, _⟩ => rfl }
  refine (Fintype.sum_equiv e _ _ fun p => ?_).symm
  rw [← v82, ← v58]
  exact congrArg₂ (fun x y => val_main_v82 Z D x * val_main_v58 Z G y)
    (funext fun a => match a with
      | ⟨0, _⟩ => rfl
      | ⟨1, _⟩ => rfl
      | ⟨2, _⟩ => rfl
      | ⟨3, _⟩ => rfl
      | ⟨4, _⟩ => rfl)
    (funext fun a => match a with
      | ⟨0, _⟩ => rfl
      | ⟨1, _⟩ => rfl
      | ⟨2, _⟩ => rfl
      | ⟨3, _⟩ => rfl
      | ⟨4, _⟩ => rfl)
/-- The rows and lanes of a block, from the place in the block. -/
theorem laneOf (h₁ h₂) : (⟨(lane h b).val / 128, h₁⟩ : Fin 8) = h ∧ (⟨(lane h b).val % 128, h₂⟩ : Fin 128) = b :=
  ⟨Fin.ext (by show (h.val * 128 + b.val) / 128 = h.val; omega), Fin.ext (by show (h.val * 128 + b.val) % 128 = b.val; omega)⟩
theorem rowOf (h₁ h₂) : (⟨(row c a).val / 128, h₁⟩ : Fin 32) = c ∧ (⟨(row c a).val % 128, h₂⟩ : Fin 128) = a :=
  ⟨Fin.ext (by show (c.val * 128 + a.val) / 128 = c.val; omega), Fin.ext (by show (c.val * 128 + a.val) % 128 = a.val; omega)⟩
theorem dz_u : val_main_v159 (F := Ideal) Z D C B G W T (ix2 (row c a) (⟨1024 * 3 + (lane h b).val, by omega⟩ : Fin 5120)) = du Z D G W T c a h b := by
  refine (joined Z D C B G W T 3 (row c a) (lane h b)).trans ?_
  pointwise [piece, val_main_v76, val_main_v74, val_main_v3, val_main_v2, val_main_v70, du, dpart]
  rw [(rowOf c a (by omega) (by omega)).1, (rowOf c a (by omega) (by omega)).2, (laneOf h b (by omega) (by omega)).1, (laneOf h b (by omega) (by omega)).2, v69]
theorem v91 : val_main_v91 (F := Ideal) Z D G W (ix5 (0 : Fin 1) c a h b) = dn Z D W c a h b * G (ix2 (0 : Fin 1) (lane h b)) := by
  pointwise [val_main_v91, val_main_v90, val_main_v56, val_main_v42, val_main_v38]
  rw [v85]
  rfl
theorem v100 : val_main_v100 (F := Ideal) Z D G W (ix5 (0 : Fin 1) c a h (0 : Fin 1))
    = shared (fun l => part Z 4 (row c a) (lane h l)) (fun l => dn Z D W c a h l * G (ix2 (0 : Fin 1) (lane h l))) (size Z c a h) := by
  pointwise [val_main_v100, val_main_v99, val_main_cst_11, val_main_v98, val_main_v95, val_main_v94, val_main_cst_10, val_main_v93,
    val_main_v53, val_main_v52, val_main_cst_4, val_main_v51, val_main_v50]
  simp only [v91, v41, v49, shared]
theorem v101 : val_main_v101 (F := Ideal) Z D G W (ix3 c a h) = val_main_v100 (F := Ideal) Z D G W (ix5 (0 : Fin 1) c a h (0 : Fin 1)) := by
  pointwise [val_main_v101, val_main_cst_12]
  exact single _ _ _ _ fun l => ⟨fun e => funext fun a => match a with
    | ⟨0, _⟩ => (Fin.ext (Nat.lt_one_iff.mp (l 0).isLt)).symm
    | ⟨1, _⟩ => (Fin.ext (congrArg Fin.val (congrFun e 0))).symm
    | ⟨2, _⟩ => (Fin.ext (congrArg Fin.val (congrFun e 1))).symm
    | ⟨3, _⟩ => (Fin.ext (congrArg Fin.val (congrFun e 2))).symm
    | ⟨4, _⟩ => (Fin.ext (Nat.lt_one_iff.mp (l 4).isLt)).symm, fun e => e ▸ funext fun a => match a with
    | ⟨0, _⟩ => rfl
    | ⟨1, _⟩ => rfl
    | ⟨2, _⟩ => rfl⟩
theorem dz_v : val_main_v159 (F := Ideal) Z D C B G W T (ix2 (row c a) (⟨1024 * 4 + (lane h b).val, by omega⟩ : Fin 5120)) = dv Z D G W c a h b := by
  refine (joined Z D C B G W T 4 (row c a) (lane h b)).trans ?_
  pointwise [piece, val_main_v109, val_main_v107, val_main_v105, val_main_v97, val_main_v104, val_main_v106, val_main_v103, val_main_v102, val_main_v96, val_main_v50]
  rw [(rowOf c a (by omega) (by omega)).1, (rowOf c a (by omega) (by omega)).2, (laneOf h b (by omega) (by omega)).1, (laneOf h b (by omega) (by omega)).2]
  simp only [v91, v101, v41, v49, v100]
  exact (grad_eq (fun l => part Z 4 (row c a) (lane h l)) (fun l => dn Z D W c a h l * G (ix2 (0 : Fin 1) (lane h l))) b).symm
theorem dws (i k : Fin 128) : val_main_v160 (F := Ideal) Z D G (ix3 h i k) = dweight Z D G h i k := by
  pointwise [val_main_v160, val_main_v111, val_main_v86, val_main_call2_v0, val_main_call2_cst]
  rw [v83, mask, dweight, Fintype.sum_prod_type]
theorem v78 : val_main_v78 (F := Ideal) Z D (ix3 (0 : Fin 1) a h) = dshift Z D a h := by
  pointwise [val_main_v78, val_main_cst_6]
  refine (several _ _ _ (fun p : Fin 32 × Fin 128 => ix5 (0 : Fin 1) p.1 a h p.2) (fun p q e => Prod.ext (congrFun e 1) (congrFun e 4)) fun l =>
    ⟨fun e => ⟨(l 1, l 4), funext fun a => match a with
    | ⟨0, _⟩ => (Fin.ext (Nat.lt_one_iff.mp (l 0).isLt)).symm
    | ⟨1, _⟩ => rfl
    | ⟨2, _⟩ => (Fin.ext (congrArg Fin.val (congrFun e 1))).symm
    | ⟨3, _⟩ => (Fin.ext (congrArg Fin.val (congrFun e 2))).symm
    | ⟨4, _⟩ => rfl⟩, fun ⟨p, e⟩ => e ▸ funext fun a => match a with
    | ⟨0, _⟩ => rfl
    | ⟨1, _⟩ => rfl
    | ⟨2, _⟩ => rfl⟩).trans ?_
  simp only [v77, Fintype.sum_prod_type, dshift]
theorem dbs : val_main_v162 (F := Ideal) Z D (ix2 a h) = dshift Z D a h := by
  pointwise [val_main_v162, val_main_v161, val_main_v110, val_main_v81, val_main_v80, val_main_cst_7]
  refine (single _ _ _ (ix5 (0 : Fin 1) (0 : Fin 1) a h (0 : Fin 1)) fun l => ⟨fun e => funext fun a => match a with
    | ⟨0, _⟩ => (Fin.ext (Nat.lt_one_iff.mp (l 0).isLt)).symm
    | ⟨1, _⟩ => (Fin.ext (Nat.lt_one_iff.mp (l 1).isLt)).symm
    | ⟨2, _⟩ => (Fin.ext (congrArg Fin.val (congrFun e 0))).symm
    | ⟨3, _⟩ => (Fin.ext (congrArg Fin.val (congrFun e 1))).symm
    | ⟨4, _⟩ => (Fin.ext (Nat.lt_one_iff.mp (l 4).isLt)).symm, fun e => e ▸ funext fun a => match a with
    | ⟨0, _⟩ => rfl
    | ⟨1, _⟩ => rfl⟩).trans ?_
  pointwise [val_main_v79]
  exact v78 Z D a h
theorem v88 : val_main_v88 (F := Ideal) Z D W (ix3 (0 : Fin 1) h b) = dgain Z D W h b := by
  pointwise [val_main_v88, val_main_cst_8]
  refine (several _ _ _ (fun p : Fin 32 × Fin 128 => ix5 (0 : Fin 1) p.1 p.2 h b) (fun p q e => Prod.ext (congrFun e 1) (congrFun e 2)) fun l =>
    ⟨fun e => ⟨(l 1, l 2), funext fun a => match a with
    | ⟨0, _⟩ => (Fin.ext (Nat.lt_one_iff.mp (l 0).isLt)).symm
    | ⟨1, _⟩ => rfl
    | ⟨2, _⟩ => rfl
    | ⟨3, _⟩ => (Fin.ext (congrArg Fin.val (congrFun e 1))).symm
    | ⟨4, _⟩ => (Fin.ext (congrArg Fin.val (congrFun e 2))).symm⟩, fun ⟨p, e⟩ => e ▸ funext fun a => match a with
    | ⟨0, _⟩ => rfl
    | ⟨1, _⟩ => rfl
    | ⟨2, _⟩ => rfl⟩).trans ?_
  rw [dgain, ← Fintype.sum_prod_type (f := fun p : Fin 32 × Fin 128 => dn Z D W p.1 p.2 h b * unit Z p.1 p.2 h b)]
  refine Finset.sum_congr rfl fun p _ => ?_
  pointwise [val_main_v87]
  rw [v55, v85, mul_comm]
theorem dgain_row : val_main_v157 (F := Ideal) Z D W (ix2 (4 : Fin 8) (lane h b)) = dgain Z D W h b := by
  pointwise [val_main_v157, val_main_v112, val_main_v108, val_main_v92, val_main_cst_9]
  rw [(laneOf h b (by omega) (by omega)).1, (laneOf h b (by omega) (by omega)).2]
  refine (single _ _ _ (ix5 (0 : Fin 1) (0 : Fin 1) (0 : Fin 1) h b) fun l => ⟨fun e => funext fun a => match a with
    | ⟨0, _⟩ => (Fin.ext (Nat.lt_one_iff.mp (l 0).isLt)).symm
    | ⟨1, _⟩ => (Fin.ext (Nat.lt_one_iff.mp (l 1).isLt)).symm
    | ⟨2, _⟩ => (Fin.ext (Nat.lt_one_iff.mp (l 2).isLt)).symm
    | ⟨3, _⟩ => (Fin.ext (congrArg Fin.val (congrFun e 0))).symm
    | ⟨4, _⟩ => (Fin.ext (congrArg Fin.val (congrFun e 1))).symm, fun e => e ▸ funext fun a => match a with
    | ⟨0, _⟩ => rfl
    | ⟨1, _⟩ => rfl⟩).trans ?_
  pointwise [val_main_v89]
  exact v88 Z D W h b

/-- The last rows of the small gradients hold zeros. -/
theorem rest (k : Fin 3) (j : Fin 1024) : val_main_v157 (F := Ideal) Z D W (ix2 (⟨5 + k.val, by omega⟩ : Fin 8) j) = 0 := by
  obtain ⟨k, hk⟩ := k
  iterate 3
    rcases k with _ | k
    · pointwise [val_main_v157, val_main_v156, val_main_cst_26]
  omega

end Cert.MixerRef

end
-- ==== Proof.MixerPoint.lean ====
/- The convolution and the spatial gating: what a point's blocks hold, element by element. -/
module

public import proofs.«01_k».proof.Proof.MixerFrame
public import proofs.«01_k».proof.Proof.MixerGate

@[expose] public section

set_option maxRecDepth 16384

noncomputable section

namespace Cert.MixerPoint

open Idealize.ShloMosaic Idealize.ShloMosaic.TcCoe Idealize.ShloMosaic.Tactic
open Cert.MixerIdeal Cert.MixerIdeal.Gen Cert.Acts Cert.MixerBody Cert.MixerFrame

/-! ## Boxes -/

section
variable {s : Shape} {e : EltTy} {α ι : Type}

theorem get_at (B : Box s e) (X : s.Idx → α) (x : B.rect.shape.Idx) (y : s.Idx) (h : ∀ a, (y a).val = B.off a + (x a).val) : B.get X x = X y :=
  congrArg X (funext fun a => Fin.ext ((show (B.rect.emb x a).val = B.off a + 1 * (x a).val from rfl).trans (by rw [h, one_mul])))

theorem put_at (B : Box s e) (w : B.rect.shape.Idx → α) (X : s.Idx → α) (y : s.Idx) (x : B.rect.shape.Idx)
    (h : ∀ a, (y a).val = B.off a + (x a).val) : B.put w X y = w x := by
  have hb : B.has y := fun a => ⟨by rw [h]; exact Nat.le_add_right _ _, by rw [h]; exact Nat.add_lt_add_left (x a).isLt _⟩
  rw [Box.put_has hb]
  exact congrArg w (funext fun a => Fin.ext ((show _ = (y a).val - B.off a from rfl).trans (by rw [h]; exact Nat.add_sub_cancel_left _ _)))

theorem put_out (B : Box s e) (w : B.rect.shape.Idx → α) (X : s.Idx → α) (y : s.Idx) (a : Fin s.rank)
    (h : (y a).val < B.off a ∨ B.off a + B.size a ≤ (y a).val) : B.put w X y = X y :=
  Box.put_not fun hb => by have := hb a; omega

variable (f : (s.Idx → α) → ι → s.Idx → α) (y : s.Idx)

theorem fold_out : ∀ (is : List ι) (X : s.Idx → α), (∀ i ∈ is, ∀ X, f X i y = X y) → is.foldl f X y = X y
  | [], _, _ => rfl
  | i :: is, X, h => (fold_out is _ fun j hj => h j (List.mem_cons_of_mem _ hj)).trans (h i List.mem_cons_self X)

/-- Changes one after another, of which one changes the element. -/
theorem fold_at (g : α → α) (k : ι) (hk : ∀ X, f X k y = g (X y)) (ho : ∀ i, i ≠ k → ∀ X, f X i y = X y) :
    ∀ (is : List ι) (X : s.Idx → α), is.Nodup → k ∈ is → is.foldl f X y = g (X y)
  | i :: is, X, hn, hi => by
      obtain ⟨h1, h2⟩ := List.nodup_cons.mp hn
      by_cases e : i = k
      · subst e
        exact (fold_out f y is _ fun j hj => ho j fun e => h1 (e ▸ hj)).trans (hk X)
      · exact (fold_at g k hk ho is _ h2 ((List.mem_cons.mp hi).resolve_left fun h => e h.symm)).trans (congrArg g (ho i e X))

end

/-! ## A point's rows of the arrays -/

variable (Z : Vec Ideal S4096x5120 .bf16) (D : Vec Ideal S4096x2048 .bf16) (C : Vec Ideal S1x3x1024 .f32) (B : Vec Ideal S1x1024 .f32)
  (G : Vec Ideal S1x1024 .f32) (W : Vec Ideal S1x8x128x128 .f32) (T : Vec Ideal S1x8x128 .f32)

open Cert.MixerRef (part dpart row lane late early)

def rowAt (t : Fin 16) (r : Fin 256) : Fin 4096 := ⟨t.val * 256 + r.val, by omega⟩
def chunkAt (t : Fin 16) (n : Fin 2) : Fin 32 := ⟨t.val * 2 + n.val, by omega⟩
def inBlock (n : Fin 2) (a : Fin 128) : Fin 256 := ⟨128 * n.val + a.val, by omega⟩

theorem rowAt_inBlock (t : Fin 16) (n : Fin 2) (a : Fin 128) : rowAt t (inBlock n a) = row (chunkAt t n) a :=
  Fin.ext (by show t.val * 256 + (128 * n.val + a.val) = (t.val * 2 + n.val) * 128 + a.val; omega)

/-- The blocks are the point's rows, and the rows around them. -/
structure Of (t : Fin 16) (I : Ins Ideal) : Prop where
  z : ∀ r j, I.z (ix2 r j) = Z (ix2 (rowAt t r) j)
  dy : ∀ r j, I.dy (ix2 r j) = D (ix2 (rowAt t r) j)
  before : t.val ≠ 0 → ∀ (q : Fin 16) j (R : Fin 4096), R.val + 16 = t.val * 256 + q.val →
    I.gHalo (ix2 q j) = part Z 1 R j ∧ I.hHalo (ix2 q j) = part Z 2 R j
  after : t.val ≠ 15 → ∀ (q : Fin 16) j (R : Fin 4096), R.val = t.val * 256 + 256 + q.val →
    I.bHalo (ix2 q j) = part Z 0 R j ∧ I.dyHalo (ix2 q j) = dpart D 0 R j
  taps : ∀ (k : Fin 3) j, I.taps (ix2 (⟨k.val, by omega⟩ : Fin 8) j) = C (ix3 (0 : Fin 1) k j)
  bias : ∀ j, I.bias (ix2 (0 : Fin 1) j) = B (ix2 (0 : Fin 1) j)
  gain : ∀ j, I.gain (ix2 (0 : Fin 1) j) = G (ix2 (0 : Fin 1) j)
  mix : ∀ h i k, I.mix (ix3 h i k) = W (ix4 (0 : Fin 1) h i k)
  shift : ∀ a h, I.shift (ix2 a h) = T (ix3 (0 : Fin 1) h a)

variable {Z D C B G W T} {t : Fin 16} {I : Ins Ideal} (O : Of Z D C B G W T t I)
include O

theorem colsOf_at (k : Fin 3) (r : Fin 256) (j : Fin 1024) : colsOf I k (ix2 r j) = part Z ⟨k.val, by omega⟩ (rowAt t r) j :=
  (get_at (cols k) I.z (ix2 r j) (ix2 r (⟨1024 * k.val + j.val, by omega⟩ : Fin 5120)) fun
    | 0 => (Nat.zero_add _).symm
    | 1 => rfl).trans (O.z _ _)
theorem dyOf_at (r : Fin 256) (j : Fin 1024) : dyOf I (ix2 r j) = dpart D 0 (rowAt t r) j :=
  (get_at dyCols I.dy (ix2 r j) (ix2 r (⟨1024 * 0 + j.val, by omega⟩ : Fin 2048)) fun
    | 0 => (Nat.zero_add _).symm
    | 1 => by show 1024 * 0 + j.val = 0 + j.val; omega).trans (O.dy _ _)
theorem tapOf_at (k : Fin 3) (j : Fin 1024) : tapOf I ⟨k.val, by omega⟩ (ix2 (0 : Fin 1) j) = C (ix3 (0 : Fin 1) k j) := by
  pointwise [tapOf, one]
  exact (get_at (line ⟨k.val, by omega⟩) I.taps (ix2 (0 : Fin 1) j) (ix2 (⟨k.val, by omega⟩ : Fin 8) j) fun
    | 0 => rfl
    | 1 => (Nat.zero_add _).symm).trans (O.taps _ _)
theorem xOf_at (r : Fin 256) (j : Fin 1024) : xOf I (ix2 r j) = Cert.MixerRef.x Z (rowAt t r) j := by
  pointwise [xOf, Cert.MixerRef.x]
  rw [colsOf_at O, colsOf_at O]
  rfl
theorem yOf_at (r : Fin 256) (j : Fin 1024) : yOf I (ix2 r j) = Cert.MixerRef.y Z D (rowAt t r) j := by
  pointwise [yOf, Cert.MixerRef.y]
  rw [colsOf_at O, dyOf_at O]
  rfl

omit O in
theorem flags : ∀ t : Fin 16, (Scalar.extui (isFirst (grid0.coords t)) : BitVec 32).toInt = (if t.val = 0 then 0 else 1)
    ∧ (Scalar.extui (isLast (grid0.coords t)) : BitVec 32).toInt = (if t.val = 15 then 0 else 1) := by decide +kernel
omit O in
theorem rows_eq : ∀ r : Fin 256, IntOp.cmpi .eq (BitVec.ofNat 32 r.val) 0#32 = (if r.val = 0 then 1#1 else 0#1)
    ∧ IntOp.cmpi .eq (BitVec.ofNat 32 r.val) 1#32 = (if r.val = 1 then 1#1 else 0#1)
    ∧ IntOp.cmpi .eq (BitVec.ofNat 32 r.val) 254#32 = (if r.val = 254 then 1#1 else 0#1)
    ∧ IntOp.cmpi .eq (BitVec.ofNat 32 r.val) 255#32 = (if r.val = 255 then 1#1 else 0#1) := by decide +kernel
omit O in
theorem select_if {P : Prop} [Decidable P] (x y : EReal) : Scalar.select (if P then 1#1 else 0#1) x y = if P then x else y := by
  split_ifs <;> rfl
omit O in
theorem halo_at (X : Vec Ideal S16x1024 .bf16) (y : S16x1024.Idx) : halo.get X y = X y :=
  get_at halo X y y fun
    | 0 => (Nat.zero_add _).symm
    | 1 => (Nat.zero_add _).symm

theorem before_first (h : t.val = 0) (q : Fin 16) (j : Fin 1024) : MixerBody.before (grid0.coords t) I (ix2 q j) = 0 := by
  pointwise [MixerBody.before, edge]
  rw [(flags t).1, if_pos h]
  simp
theorem before_later (h : t.val ≠ 0) (q : Fin 16) (j : Fin 1024) (R : Fin 4096) (hR : R.val + 16 = t.val * 256 + q.val) :
    MixerBody.before (grid0.coords t) I (ix2 q j) = Cert.MixerRef.x Z R j := by
  pointwise [MixerBody.before, edge]
  rw [(flags t).1, if_neg h, halo_at, halo_at, (O.before h q j R hR).1, (O.before h q j R hR).2]
  simp [Cert.MixerRef.x]
theorem next_last (h : t.val = 15) (q : Fin 16) (j : Fin 1024) : MixerBody.next (grid0.coords t) I (ix2 q j) = 0 := by
  pointwise [MixerBody.next, edge]
  rw [(flags t).2, if_pos h]
  simp
theorem next_earlier (h : t.val ≠ 15) (q : Fin 16) (j : Fin 1024) (R : Fin 4096) (hR : R.val = t.val * 256 + 256 + q.val) :
    MixerBody.next (grid0.coords t) I (ix2 q j) = Cert.MixerRef.y Z D R j := by
  pointwise [MixerBody.next, edge]
  rw [(flags t).2, if_neg h, halo_at, halo_at, (O.after h q j R hR).1, (O.after h q j R hR).2]
  simp [Cert.MixerRef.y]

theorem down1_at (r : Fin 256) (j : Fin 1024) : down1 (MixerBody.before (grid0.coords t) I) (xOf I) (ix2 r j) = late 1 (Cert.MixerRef.x Z) (rowAt t r) j := by
  pointwise [down1]
  have hv : (rowAt t r).val = t.val * 256 + r.val := rfl
  rw [(rows_eq r).1, select_if, late, xOf_at O]
  by_cases h0 : r.val = 0
  · rw [if_pos h0]
    by_cases ht : t.val = 0
    · rw [before_first O ht, if_neg (by omega)]
    · rw [if_pos (by omega)]
      exact before_later O ht _ _ _ (by show (t.val * 256 + r.val) - 1 + 16 = t.val * 256 + 15; omega)
  · rw [if_neg h0, if_pos (by omega)]
    exact congrArg (Cert.MixerRef.x Z · j) (Fin.ext (by show t.val * 256 + (r.val + 256 - 1) % 256 = t.val * 256 + r.val - 1; omega))
theorem down2_at (r : Fin 256) (j : Fin 1024) : down2 (MixerBody.before (grid0.coords t) I) (xOf I) (ix2 r j) = late 2 (Cert.MixerRef.x Z) (rowAt t r) j := by
  pointwise [down2]
  have hv : (rowAt t r).val = t.val * 256 + r.val := rfl
  rw [(rows_eq r).1, (rows_eq r).2.1, select_if, select_if, late, xOf_at O]
  by_cases h0 : r.val = 0
  · rw [if_pos h0]
    by_cases ht : t.val = 0
    · rw [before_first O ht, if_neg (by omega)]
    · rw [if_pos (by omega)]
      exact before_later O ht _ _ _ (by show (t.val * 256 + r.val) - 2 + 16 = t.val * 256 + 14; omega)
  rw [if_neg h0]
  by_cases h1 : r.val = 1
  · rw [if_pos h1]
    by_cases ht : t.val = 0
    · rw [before_first O ht, if_neg (by omega)]
    · rw [if_pos (by omega)]
      exact before_later O ht _ _ _ (by show (t.val * 256 + r.val) - 2 + 16 = t.val * 256 + 15; omega)
  · rw [if_neg h1, if_pos (by omega)]
    exact congrArg (Cert.MixerRef.x Z · j) (Fin.ext (by show t.val * 256 + (r.val + 256 - 2) % 256 = t.val * 256 + r.val - 2; omega))
theorem up1_at (r : Fin 256) (j : Fin 1024) : up1 (MixerBody.next (grid0.coords t) I) (yOf I) (ix2 r j) = early 1 (Cert.MixerRef.y Z D) (rowAt t r) j := by
  pointwise [up1]
  have hv : (rowAt t r).val = t.val * 256 + r.val := rfl
  rw [(rows_eq r).2.2.2, select_if, early, yOf_at O]
  by_cases h0 : r.val = 255
  · rw [if_pos h0]
    by_cases ht : t.val = 15
    · rw [next_last O ht, dif_neg (by omega)]
    · rw [dif_pos (by omega)]
      exact next_earlier O ht _ _ _ (by show (t.val * 256 + r.val) + 1 = t.val * 256 + 256 + 0; omega)
  · rw [if_neg h0, dif_pos (by omega)]
    exact congrArg (Cert.MixerRef.y Z D · j) (Fin.ext (by show t.val * 256 + (r.val + 256 - 255) % 256 = t.val * 256 + r.val + 1; omega))
theorem up2_at (r : Fin 256) (j : Fin 1024) : up2 (MixerBody.next (grid0.coords t) I) (yOf I) (ix2 r j) = early 2 (Cert.MixerRef.y Z D) (rowAt t r) j := by
  pointwise [up2]
  have hv : (rowAt t r).val = t.val * 256 + r.val := rfl
  rw [(rows_eq r).2.2.2, (rows_eq r).2.2.1, select_if, select_if, early, yOf_at O]
  by_cases h0 : r.val = 255
  · rw [if_pos h0]
    by_cases ht : t.val = 15
    · rw [next_last O ht, dif_neg (by omega)]
    · rw [dif_pos (by omega)]
      exact next_earlier O ht _ _ _ (by show (t.val * 256 + r.val) + 2 = t.val * 256 + 256 + 1; omega)
  rw [if_neg h0]
  by_cases h1 : r.val = 254
  · rw [if_pos h1]
    by_cases ht : t.val = 15
    · rw [next_last O ht, dif_neg (by omega)]
    · rw [dif_pos (by omega)]
      exact next_earlier O ht _ _ _ (by show (t.val * 256 + r.val) + 2 = t.val * 256 + 256 + 0; omega)
  · rw [if_neg h1, dif_pos (by omega)]
    exact congrArg (Cert.MixerRef.y Z D · j) (Fin.ext (by show t.val * 256 + (r.val + 256 - 254) % 256 = t.val * 256 + r.val + 2; omega))

theorem bias_at : whole1.get I.bias = B := funext fun y => by
  obtain ⟨q, j, rfl⟩ : ∃ (q : Fin 1) (j : Fin 1024), y = ix2 q j := ⟨y 0, y 1, eq_ix2 y⟩
  obtain rfl : q = 0 := Subsingleton.elim _ _
  exact (get_at whole1 I.bias (ix2 (0 : Fin 1) j) (ix2 (0 : Fin 1) j) fun
    | 0 => rfl
    | 1 => (Nat.zero_add _).symm).trans (O.bias j)
theorem convOf_at (r : Fin 256) (j : Fin 1024) : convOf (grid0.coords t) I (ix2 r j) = Cert.MixerRef.conv Z C B (rowAt t r) j := by
  unfold convOf
  rw [show (whole1.get I.bias : Vec Ideal S1x1024 .f32) = B from bias_at O]
  pointwise [MixerBody.tap, Cert.MixerRef.conv, Cert.MixerRef.tap]
  rw [xOf_at O, down1_at O, down2_at O, show tapOf I 0 _ = _ from tapOf_at O 0 j, show tapOf I 1 _ = _ from tapOf_at O 1 j,
    show tapOf I 2 _ = _ from tapOf_at O 2 j]
  rfl
theorem dxOf_at (r : Fin 256) (j : Fin 1024) : dxOf (grid0.coords t) I (ix2 r j) = Cert.MixerRef.dx Z D C (rowAt t r) j := by
  pointwise [dxOf, MixerBody.tap, Cert.MixerRef.dx, Cert.MixerRef.tap]
  rw [yOf_at O, up1_at O, up2_at O, show tapOf I 0 _ = _ from tapOf_at O 0 j, show tapOf I 1 _ = _ from tapOf_at O 1 j,
    show tapOf I 2 _ = _ from tapOf_at O 2 j]

theorem convDz_at (k : Fin 3) (r : Fin 256) (j : Fin 1024) :
    MixerBody.convDz (grid0.coords t) I k (ix2 r j) = Cert.MixerRef.convDz Z D C B k (rowAt t r) j := by
  obtain ⟨k, hk⟩ := k
  iterate 3
    rcases k with _ | k
    · pointwise [MixerBody.convDz, Cert.MixerRef.convDz]
      first
        | (rw [dyOf_at O, convOf_at O])
        | (rw [dxOf_at O, colsOf_at O]; rfl)
  omega
theorem convSum_at (k : Fin 4) (j : Fin 1024) : convSum (grid0.coords t) I ⟨k.val, by omega⟩ (ix2 (0 : Fin 1) j)
    = ∑ r : Fin 256, Cert.MixerRef.summand Z D k (rowAt t r) j := by
  obtain ⟨k, hk⟩ := k
  iterate 4
    rcases k with _ | k
    · pointwise [convSum, rowSum, Cert.MixerRef.summand]
      simp only [yOf_at O, xOf_at O, down1_at O, down2_at O]
  omega

/-! ## The heads -/

variable (h : Fin 8) (n : Fin 2) (a b : Fin 128)

theorem headX_at (r : Fin 256) : headX I h (ix2 r b) = part Z 4 (rowAt t r) (lane h b) :=
  (get_at (headV h) I.z (ix2 r b) (ix2 r (⟨1024 * 4 + (lane h b).val, by omega⟩ : Fin 5120)) fun
    | 0 => (Nat.zero_add _).symm
    | 1 => by show 1024 * 4 + (h.val * 128 + b.val) = 4096 + 128 * h.val + b.val; omega).trans (O.z _ _)
theorem headG_at : headG I h (ix2 (0 : Fin 1) b) = G (ix2 (0 : Fin 1) (lane h b)) :=
  (get_at (headGain h) I.gain (ix2 (0 : Fin 1) b) (ix2 (0 : Fin 1) (lane h b)) fun
    | 0 => rfl
    | 1 => by show h.val * 128 + b.val = 128 * h.val + b.val; omega).trans (O.gain _)
theorem dyH_at : dyH I h n (ix2 a b) = dpart D 1 (row (chunkAt t n) a) (lane h b) :=
  (get_at (chunkDy h n) I.dy (ix2 a b) (ix2 (inBlock n a) (⟨1024 * 1 + (lane h b).val, by omega⟩ : Fin 2048)) fun
    | 0 => rfl
    | 1 => by show 1024 * 1 + (h.val * 128 + b.val) = 1024 + 128 * h.val + b.val; omega).trans ((O.dy _ _).trans (by rw [rowAt_inBlock]; rfl))
theorem dmOf_at : dmOf I h n (ix2 a b) = Cert.MixerRef.dm Z D (chunkAt t n) a h b := by
  pointwise [dmOf, Cert.MixerRef.dm]
  rw [dyH_at O]
  exact congrArg (_ * ·) ((get_at (chunkU h n) I.z (ix2 a b) (ix2 (inBlock n a) (⟨1024 * 3 + (lane h b).val, by omega⟩ : Fin 5120)) fun
    | 0 => rfl
    | 1 => by show 1024 * 3 + (h.val * 128 + b.val) = 3072 + 128 * h.val + b.val; omega).trans ((O.z _ _).trans (by rw [rowAt_inBlock]; rfl)))
theorem rsize_at : rsize (headX I h) (ix2 (inBlock n a) (0 : Fin 1)) = Ideal.rsqrt (Cert.MixerRef.size Z (chunkAt t n) a h) := by
  pointwise [rsize, Cert.MixerRef.size, Cert.MixerRef.square]
  simp only [headX_at O, rowAt_inBlock]
theorem unit_at : MixerBody.unit (headX I h) (ix2 (inBlock n a) b) = Cert.MixerRef.unit Z (chunkAt t n) a h b := by
  pointwise [MixerBody.unit, Cert.MixerRef.unit]
  rw [rsize_at O, headX_at O, rowAt_inBlock]
theorem headN_at : headN I h (ix2 (inBlock n a) b) = Cert.MixerRef.normed Z G (chunkAt t n) a h b := by
  pointwise [headN, Cert.MixerRef.normed]
  rw [unit_at O, headG_at O]
omit O in
theorem rowsOf_at (x : S256x128.Idx → EReal) : rowsOf n x (ix2 a b) = x (ix2 (inBlock n a) b) := by
  obtain ⟨n, hn⟩ := n
  iterate 2
    rcases n with _ | n
    · pointwise [rowsOf]
      exact congrArg (fun r => x (ix2 r b)) (Fin.ext (by dsimp only [inBlock]; omega))
  omega
omit O in
theorem sizesOf_at (x : S256x1.Idx → EReal) : sizesOf n x (ix2 a (0 : Fin 1)) = x (ix2 (inBlock n a) (0 : Fin 1)) := by
  obtain ⟨n, hn⟩ := n
  iterate 2
    rcases n with _ | n
    · pointwise [sizesOf]
      exact congrArg (fun r => x (ix2 r (0 : Fin 1))) (Fin.ext (by dsimp only [inBlock]; omega))
  omega
omit O in
theorem at_or_below : ∀ a b : Fin 128, IntOp.cmpi .sge (BitVec.ofNat 32 a.val) (BitVec.ofNat 32 b.val) = if b.val ≤ a.val then 1#1 else 0#1 := by
  decide +kernel
omit O in
theorem lower_at (x : FVec Ideal S128x128 .f32) : lower x (ix2 a b) = if b.val ≤ a.val then x (ix2 a b) else 0 := by
  pointwise [lower]
  rw [at_or_below, select_if]
omit O in
theorem sheet (x : Vec Ideal S1x128x128 .f32) (hc : S1x128x128.ShapeCasts S128x128) : shapeCast S128x128 x hc (ix2 a b) = x (ix3 (0 : Fin 1) a b) := by
  pointwise []
theorem headW_at : headW I h (ix2 a b) = Cert.MixerRef.weight W h a b := by
  refine (lower_at a b _).trans ?_
  unfold Cert.MixerRef.weight
  refine congrArg (fun x => if b.val ≤ a.val then x else 0) ((sheet a b _ _).trans ((get_at (headMix h) I.mix (ix3 (0 : Fin 1) a b) (ix3 h a b) fun
    | 0 => rfl
    | 1 => (Nat.zero_add _).symm
    | 2 => (Nat.zero_add _).symm).trans (O.mix h a b)))
theorem mOf_at : mOf I h n (ix2 a b) = Cert.MixerRef.mixed Z G W T (chunkAt t n) a h b := by
  pointwise [mOf, Cert.MixerRef.mixed]
  simp only [headW_at O, rowsOf_at, headN_at O]
  exact congrArg (_ + ·) ((get_at (headShift h) I.shift (ix2 a (0 : Fin 1)) (ix2 a h) fun
    | 0 => (Nat.zero_add _).symm
    | 1 => rfl).trans (O.shift a h))
theorem duOf_at : duOf I h n (ix2 a b) = Cert.MixerRef.du Z D G W T (chunkAt t n) a h b := by
  pointwise [duOf, Cert.MixerRef.du]
  rw [dyH_at O, mOf_at O]
theorem dnOf_at : dnOf I h n (ix2 a b) = Cert.MixerRef.dn Z D W (chunkAt t n) a h b := by
  pointwise [dnOf, dmT, Cert.MixerRef.dn]
  simp only [headW_at O, dmOf_at O]
theorem dvOf_at : dvOf I h n (ix2 a b) = Cert.MixerRef.dv Z D G W (chunkAt t n) a h b := by
  pointwise [dvOf, unitGrad, laneSum]
  simp only [rowsOf_at, sizesOf_at, rsize_at O, unit_at O, dnOf_at O, headG_at O]
  rfl
theorem dwOf_at : dwOf I h n (ix2 a b) = ∑ l : Fin 128, Cert.MixerRef.dm Z D (chunkAt t n) a h l * Cert.MixerRef.normed Z G (chunkAt t n) b h l := by
  pointwise [dwOf, dmT]
  simp only [rowsOf_at, headN_at O, dmOf_at O]
theorem dgOf_at : dgOf I h n (ix2 (0 : Fin 1) b) = ∑ a : Fin 128, Cert.MixerRef.dn Z D W (chunkAt t n) a h b * Cert.MixerRef.unit Z (chunkAt t n) a h b := by
  pointwise [dgOf, colSum]
  simp only [rowsOf_at, unit_at O, dnOf_at O]

end Cert.MixerPoint

end
-- ==== Proof.MixerBlock.lean ====
/- The convolution and the spatial gating: what a point adds to each output. -/
module

public import proofs.«01_k».proof.Proof.MixerPoint

@[expose] public section

set_option maxRecDepth 16384

noncomputable section

namespace Cert.MixerPoint

open Idealize.ShloMosaic Idealize.ShloMosaic.TcCoe Idealize.ShloMosaic.Tactic
open Cert.MixerIdeal Cert.MixerIdeal.Gen Cert.Acts Cert.MixerBody Cert.MixerFrame
open Cert.MixerRef (row lane)

theorem all_heads : heads.Nodup ∧ ∀ h : Fin 8, h ∈ heads := by decide

/-! ## Where a head's changes fall -/

section
variable (I : Ins Ideal) (h : Fin 8) (n : Fin 2) (a b : Fin 128)

/-- A head's columns of the two gradients. -/
abbrev inU (r : Fin 256) : S256x5120.Idx := ix2 r (⟨1024 * 3 + (lane h b).val, by omega⟩ : Fin 5120)
abbrev inV (r : Fin 256) : S256x5120.Idx := ix2 r (⟨1024 * 4 + (lane h b).val, by omega⟩ : Fin 5120)

theorem putHead_conv (k : Fin 3) (r : Fin 256) (j : Fin 1024) (X : Vec Ideal S256x5120 .bf16) :
    putHead I h n X (ix2 r (⟨1024 * k.val + j.val, by omega⟩ : Fin 5120)) = X (ix2 r (⟨1024 * k.val + j.val, by omega⟩ : Fin 5120)) :=
  (put_out (chunkV h n) _ _ _ 1 (.inl (by show 1024 * k.val + j.val < 4096 + 128 * h.val; omega))).trans
    (put_out (chunkU h n) _ _ _ 1 (.inl (by show 1024 * k.val + j.val < 3072 + 128 * h.val; omega)))

theorem putHead_u (X : Vec Ideal S256x5120 .bf16) : putHead I h n X (inU h b (inBlock n a)) = duOf I h n (ix2 a b) :=
  (put_out (chunkV h n) _ _ _ 1 (.inl (by show 1024 * 3 + (h.val * 128 + b.val) < 4096 + 128 * h.val; omega))).trans
    (put_at (chunkU h n) _ _ _ (ix2 a b) fun
      | 0 => rfl
      | 1 => by show 1024 * 3 + (h.val * 128 + b.val) = 3072 + 128 * h.val + b.val; omega)
theorem putHead_v (X : Vec Ideal S256x5120 .bf16) : putHead I h n X (inV h b (inBlock n a)) = dvOf I h n (ix2 a b) :=
  put_at (chunkV h n) _ _ _ (ix2 a b) fun
    | 0 => rfl
    | 1 => by show 1024 * 4 + (h.val * 128 + b.val) = 4096 + 128 * h.val + b.val; omega

variable (h' : Fin 8) (n' : Fin 2) (hne : h' ≠ h ∨ n' ≠ n)
include hne

theorem putHead_u_out (X : Vec Ideal S256x5120 .bf16) : putHead I h' n' X (inU h b (inBlock n a)) = X (inU h b (inBlock n a)) := by
  refine (put_out (chunkV h' n') _ _ _ 1 (.inl (by show 1024 * 3 + (h.val * 128 + b.val) < 4096 + 128 * h'.val; omega))).trans ?_
  by_cases e : h' = h
  · exact put_out (chunkU h' n') _ _ _ 0 (by show 128 * n.val + a.val < 128 * n'.val ∨ 128 * n'.val + 128 ≤ 128 * n.val + a.val; omega)
  · exact put_out (chunkU h' n') _ _ _ 1 (by
      show 1024 * 3 + (h.val * 128 + b.val) < 3072 + 128 * h'.val ∨ 3072 + 128 * h'.val + 128 ≤ 1024 * 3 + (h.val * 128 + b.val); omega)
theorem putHead_v_out (X : Vec Ideal S256x5120 .bf16) : putHead I h' n' X (inV h b (inBlock n a)) = X (inV h b (inBlock n a)) := by
  refine Eq.trans ?_ (put_out (chunkU h' n') (duOf I h' n') _ _ 1 (.inr (by show 3072 + 128 * h'.val + 128 ≤ 1024 * 4 + (h.val * 128 + b.val); omega)))
  by_cases e : h' = h
  · exact put_out (chunkV h' n') _ _ _ 0 (by show 128 * n.val + a.val < 128 * n'.val ∨ 128 * n'.val + 128 ≤ 128 * n.val + a.val; omega)
  · exact put_out (chunkV h' n') _ _ _ 1 (by
      show 1024 * 4 + (h.val * 128 + b.val) < 4096 + 128 * h'.val ∨ 4096 + 128 * h'.val + 128 ≤ 1024 * 4 + (h.val * 128 + b.val); omega)
end

/-- Of two changes that set the element or leave it, one sets it. -/
theorem either {α : Type} (n : Fin 2) (f : Fin 2 → α → α) (p : α → EReal) (v : EReal) (hs : ∀ X, p (f n X) = v) (ho : ∀ n', n' ≠ n → ∀ X, p (f n' X) = p X)
    (X : α) : p (f 1 (f 0 X)) = v := by
  by_cases e : n = 1
  · subst e; exact hs _
  · obtain rfl : n = 0 := by omega
    exact (ho 1 (by decide) _).trans (hs _)

/-! ## A point's outputs -/

variable {Z : Vec Ideal S4096x5120 .bf16} {D : Vec Ideal S4096x2048 .bf16} {C : Vec Ideal S1x3x1024 .f32} {B : Vec Ideal S1x1024 .f32}
  {G : Vec Ideal S1x1024 .f32} {W : Vec Ideal S1x8x128x128 .f32} {T : Vec Ideal S1x8x128 .f32} {t : Fin 16} {I : Ins Ideal}

section Dz
variable (O : Of Z D C B G W T t I) (X : Vec Ideal S256x5120 .bf16)
include O

theorem blockDz_conv (k : Fin 3) (r : Fin 256) (j : Fin 1024) :
    blockDz (grid0.coords t) I X (ix2 r (⟨1024 * k.val + j.val, by omega⟩ : Fin 5120)) = Cert.MixerRef.convDz Z D C B k (rowAt t r) j := by
  refine (fold_out _ _ heads _ fun h _ X => (putHead_conv I h 1 k r j _).trans (putHead_conv I h 0 k r j X)).trans ?_
  refine (fold_at (putConv (grid0.coords t) I) (ix2 r (⟨1024 * k.val + j.val, by omega⟩ : Fin 5120))
    (fun _ => MixerBody.convDz (grid0.coords t) I k (ix2 r j)) k (fun X => ?_) (fun i hi X => ?_) [0, 1, 2] X (by decide) (by revert k; decide)).trans
    (convDz_at O k r j)
  · exact put_at (cols k) _ _ _ (ix2 r j) fun
      | 0 => (Nat.zero_add _).symm
      | 1 => rfl
  · exact put_out (cols i) _ _ _ 1 (by
      show 1024 * k.val + j.val < 1024 * i.val ∨ 1024 * i.val + 1024 ≤ 1024 * k.val + j.val
      have := Fin.val_ne_of_ne hi; omega)

theorem blockDz_u (h : Fin 8) (n : Fin 2) (a b : Fin 128) :
    blockDz (grid0.coords t) I X (inU h b (inBlock n a)) = Cert.MixerRef.du Z D G W T (chunkAt t n) a h b :=
  (fold_at _ _ (fun _ => duOf I h n (ix2 a b)) h
    (either n (fun n => putHead I h n) (fun X => X (inU h b (inBlock n a))) _ (putHead_u I h n a b) fun n' hn => putHead_u_out I h n a b h n' (.inr hn))
    (fun i hi X => (putHead_u_out I h n a b i 1 (.inl hi) _).trans (putHead_u_out I h n a b i 0 (.inl hi) X)) heads _ all_heads.1 (all_heads.2 h)).trans
    (duOf_at O h n a b)
theorem blockDz_v (h : Fin 8) (n : Fin 2) (a b : Fin 128) :
    blockDz (grid0.coords t) I X (inV h b (inBlock n a)) = Cert.MixerRef.dv Z D G W (chunkAt t n) a h b :=
  (fold_at _ _ (fun _ => dvOf I h n (ix2 a b)) h
    (either n (fun n => putHead I h n) (fun X => X (inV h b (inBlock n a))) _ (putHead_v I h n a b) fun n' hn => putHead_v_out I h n a b h n' (.inr hn))
    (fun i hi X => (putHead_v_out I h n a b i 1 (.inl hi) _).trans (putHead_v_out I h n a b i 0 (.inl hi) X)) heads _ all_heads.1 (all_heads.2 h)).trans
    (dvOf_at O h n a b)
end Dz

section Small
variable (i : grid0.Coords) (X : Vec Ideal S8x1024 .f32)

theorem putGain_out (h : Fin 8) (k : Fin 8) (hk : k ≠ 4) (j : Fin 1024) (X : Vec Ideal S8x1024 .f32) : putGain I h X (ix2 k j) = X (ix2 k j) :=
  put_out (headSmall h) _ _ _ 0 (by show k.val < 4 ∨ 4 + 1 ≤ k.val; have : k.val ≠ 4 := Fin.val_ne_of_ne hk; omega)
theorem putLine_out (i : grid0.Coords) (l k : Fin 8) (hk : l ≠ k) (j : Fin 1024) (X : Vec Ideal S8x1024 .f32) : putLine i I X l (ix2 k j) = X (ix2 k j) :=
  put_out (line l) _ _ _ 0 (by show k.val < l.val ∨ l.val + 1 ≤ k.val; have := Fin.val_ne_of_ne hk; omega)
theorem putLine_at (i : grid0.Coords) (k : Fin 8) (j : Fin 1024) (X : Vec Ideal S8x1024 .f32) :
    putLine i I X k (ix2 k j) = X (ix2 k j) + convSum i I k (ix2 (0 : Fin 1) j) := by
  refine (put_at (line k) _ _ _ (ix2 (0 : Fin 1) j) fun
    | 0 => rfl
    | 1 => (Nat.zero_add _).symm).trans ?_
  pointwise [one]
  exact congrArg (· + _) (get_at (line k) X (ix2 (0 : Fin 1) j) (ix2 k j) fun
    | 0 => rfl
    | 1 => (Nat.zero_add _).symm)
theorem putGain_at (h : Fin 8) (b : Fin 128) (X : Vec Ideal S8x1024 .f32) : putGain I h X (ix2 (4 : Fin 8) (lane h b))
    = X (ix2 (4 : Fin 8) (lane h b)) + (dgOf I h 0 (ix2 (0 : Fin 1) b) + dgOf I h 1 (ix2 (0 : Fin 1) b)) := by
  refine (put_at (headSmall h) _ _ _ (ix2 (0 : Fin 1) b) fun
    | 0 => rfl
    | 1 => by show h.val * 128 + b.val = 128 * h.val + b.val; omega).trans ?_
  pointwise []
  exact congrArg (· + _) (get_at (headSmall h) X (ix2 (0 : Fin 1) b) (ix2 (4 : Fin 8) (lane h b)) fun
    | 0 => rfl
    | 1 => by show h.val * 128 + b.val = 128 * h.val + b.val; omega)

theorem blockSmall_line (O : Of Z D C B G W T t I) (k : Fin 4) (j : Fin 1024) :
    blockSmall (grid0.coords t) I X (ix2 (⟨k.val, by omega⟩ : Fin 8) j) = X (ix2 (⟨k.val, by omega⟩ : Fin 8) j)
      + ∑ r : Fin 256, Cert.MixerRef.summand Z D k (rowAt t r) j :=
  (fold_out _ _ heads _ fun h _ X => putGain_out h _ (Fin.ne_of_val_ne (by show k.val ≠ 4; omega)) j X).trans
    ((fold_at (putLine (grid0.coords t) I) _ (· + convSum (grid0.coords t) I ⟨k.val, by omega⟩ (ix2 (0 : Fin 1) j)) ⟨k.val, by omega⟩
      (putLine_at _ _ j) (fun l hl X => putLine_out _ l _ hl j X) [0, 1, 2, 3] X (by decide) (by revert k; decide)).trans
      (congrArg (_ + ·) (convSum_at O k j)))
theorem blockSmall_gain (O : Of Z D C B G W T t I) (h : Fin 8) (b : Fin 128) :
    blockSmall (grid0.coords t) I X (ix2 (4 : Fin 8) (lane h b)) = X (ix2 (4 : Fin 8) (lane h b))
      + ∑ n : Fin 2, ∑ a : Fin 128, Cert.MixerRef.dn Z D W (chunkAt t n) a h b * Cert.MixerRef.unit Z (chunkAt t n) a h b := by
  refine (fold_at (fun s h => putGain I h s) _ (· + (dgOf I h 0 (ix2 (0 : Fin 1) b) + dgOf I h 1 (ix2 (0 : Fin 1) b))) h (putGain_at h b)
    (fun l hl X => ?_) heads _ all_heads.1 (all_heads.2 h)).trans ?_
  · exact put_out (headSmall l) _ _ _ 1 (by
      show h.val * 128 + b.val < 128 * l.val ∨ 128 * l.val + 128 ≤ h.val * 128 + b.val
      have := Fin.val_ne_of_ne hl; omega)
  · rw [fold_out (putLine (grid0.coords t) I) _ [0, 1, 2, 3] X fun l hl X => putLine_out _ l _ (by revert l; decide) _ X, Fin.sum_univ_two,
      dgOf_at O, dgOf_at O]
theorem blockSmall_rest (k : Fin 8) (hk : 4 < k.val) (j : Fin 1024) : blockSmall i I X (ix2 k j) = X (ix2 k j) :=
  (fold_out _ _ heads _ fun h _ X => putGain_out h _ (Fin.ne_of_val_ne (by show k.val ≠ 4; omega)) j X).trans
    (fold_out (putLine i I) _ [0, 1, 2, 3] X fun l hl X => putLine_out _ l _ (by revert l k; decide) _ X)
end Small

section Sums
variable (O : Of Z D C B G W T t I)

theorem unsheet (a b : Fin 128) (x : FVec Ideal S128x128 .f32) (hc : S128x128.ShapeCasts S1x128x128) :
    shapeCast S1x128x128 x hc (ix3 (0 : Fin 1) a b) = x (ix2 a b) := by pointwise []

theorem putMix_at (h : Fin 8) (n : Fin 2) (a b : Fin 128) (X : Vec Ideal S8x128x128 .f32) :
    putMix I h n X (ix3 h a b) = X (ix3 h a b) + dwOf I h n (ix2 a b) := by
  refine (put_at (headMix h) _ _ _ (ix3 (0 : Fin 1) a b) fun
    | 0 => rfl
    | 1 => (Nat.zero_add _).symm
    | 2 => (Nat.zero_add _).symm).trans ?_
  refine (unsheet a b _ _).trans (congrArg (· + _) ((sheet a b _ _).trans ?_))
  exact (get_at (headMix h) X (ix3 (0 : Fin 1) a b) (ix3 h a b) fun
    | 0 => rfl
    | 1 => (Nat.zero_add _).symm
    | 2 => (Nat.zero_add _).symm)
theorem putSums_at (h : Fin 8) (n : Fin 2) (a b : Fin 128) (X : Vec Ideal S128x1024 .f32) :
    putSums I h n X (ix2 a (lane h b)) = X (ix2 a (lane h b)) + dmOf I h n (ix2 a b) := by
  refine (put_at (headSums h) _ _ _ (ix2 a b) fun
    | 0 => (Nat.zero_add _).symm
    | 1 => by show h.val * 128 + b.val = 128 * h.val + b.val; omega).trans ?_
  pointwise []
  exact congrArg (· + _) (get_at (headSums h) X (ix2 a b) (ix2 a (lane h b)) fun
    | 0 => (Nat.zero_add _).symm
    | 1 => by show h.val * 128 + b.val = 128 * h.val + b.val; omega)

theorem headMix_out (h l : Fin 8) (hl : l ≠ h) (a b : Fin 128) (w : S1x128x128.Idx → EReal) (X : Vec Ideal S8x128x128 .f32) :
    (headMix l).put w X (ix3 h a b) = X (ix3 h a b) :=
  put_out (headMix l) _ _ _ 0 (by show h.val < l.val ∨ l.val + 1 ≤ h.val; have := Fin.val_ne_of_ne hl; omega)
theorem headSums_out (h l : Fin 8) (hl : l ≠ h) (a b : Fin 128) (w : S128x128.Idx → EReal) (X : Vec Ideal S128x1024 .f32) :
    (headSums l).put w X (ix2 a (lane h b)) = X (ix2 a (lane h b)) :=
  put_out (headSums l) _ _ _ 1 (by
    show h.val * 128 + b.val < 128 * l.val ∨ 128 * l.val + 128 ≤ h.val * 128 + b.val
    have := Fin.val_ne_of_ne hl; omega)

theorem blockMix_at (O : Of Z D C B G W T t I) (h : Fin 8) (a b : Fin 128) (X : Vec Ideal S8x128x128 .f32) : blockMix I X (ix3 h a b) = X (ix3 h a b)
    + ∑ n : Fin 2, ∑ l : Fin 128, Cert.MixerRef.dm Z D (chunkAt t n) a h l * Cert.MixerRef.normed Z G (chunkAt t n) b h l := by
  refine (fold_at (fun k h => putMix I h 1 (putMix I h 0 k)) _ (· + (dwOf I h 0 (ix2 a b) + dwOf I h 1 (ix2 a b))) h (fun X => ?_)
    (fun l hl X => (headMix_out h l hl a b _ _).trans (headMix_out h l hl a b _ X)) heads X all_heads.1 (all_heads.2 h)).trans ?_
  · rw [putMix_at, putMix_at, add_assoc]
  · rw [Fin.sum_univ_two, dwOf_at O, dwOf_at O]
theorem blockSums_at (O : Of Z D C B G W T t I) (h : Fin 8) (a b : Fin 128) (X : Vec Ideal S128x1024 .f32) :
    blockSums I X (ix2 a (lane h b)) = X (ix2 a (lane h b)) + ∑ n : Fin 2, Cert.MixerRef.dm Z D (chunkAt t n) a h b := by
  refine (fold_at (fun k h => putSums I h 1 (putSums I h 0 k)) _ (· + (dmOf I h 0 (ix2 a b) + dmOf I h 1 (ix2 a b))) h (fun X => ?_)
    (fun l hl X => (headSums_out h l hl a b _ _).trans (headSums_out h l hl a b _ X)) heads X all_heads.1 (all_heads.2 h)).trans ?_
  · rw [putSums_at, putSums_at, add_assoc]
  · rw [Fin.sum_univ_two, dmOf_at O, dmOf_at O]

theorem lastMix_at (h : Fin 8) (a b : Fin 128) (X : Vec Ideal S8x128x128 .f32) : lastMix X (ix3 h a b) = if b.val ≤ a.val then X (ix3 h a b) else 0 := by
  refine fold_at endMix _ (fun x => if b.val ≤ a.val then x else 0) h (fun X => ?_) (fun l hl X => headMix_out h l hl a b _ X) heads X all_heads.1
    (all_heads.2 h)
  refine (put_at (headMix h) _ _ _ (ix3 (0 : Fin 1) a b) fun
    | 0 => rfl
    | 1 => (Nat.zero_add _).symm
    | 2 => (Nat.zero_add _).symm).trans ?_
  refine (unsheet a b _ _).trans ((lower_at a b _).trans ?_)
  refine congrArg (fun x => if b.val ≤ a.val then x else 0) ((sheet a b _ _).trans (get_at (headMix h) X (ix3 (0 : Fin 1) a b) (ix3 h a b) fun
    | 0 => rfl
    | 1 => (Nat.zero_add _).symm
    | 2 => (Nat.zero_add _).symm))
theorem lastShift_at (h : Fin 8) (a : Fin 128) (S : Vec Ideal S128x1024 .f32) (X : Vec Ideal S128x8 .f32) :
    lastShift S X (ix2 a h) = ∑ b : Fin 128, S (ix2 a (lane h b)) := by
  refine fold_at (endShift S) _ (fun _ => ∑ b : Fin 128, S (ix2 a (lane h b))) h (fun X => ?_) (fun l hl X => ?_) heads X all_heads.1 (all_heads.2 h)
  · refine (put_at (headShift h) _ _ _ (ix2 a (0 : Fin 1)) fun
      | 0 => (Nat.zero_add _).symm
      | 1 => rfl).trans ?_
    pointwise [laneSum]
    exact Finset.sum_congr rfl fun b _ => get_at (headSums h) S (ix2 a b) (ix2 a (lane h b)) fun
      | 0 => (Nat.zero_add _).symm
      | 1 => by show h.val * 128 + b.val = 128 * h.val + b.val; omega
  · exact put_out (headShift l) _ _ _ 1 (by show h.val < l.val ∨ l.val + 1 ≤ h.val; have := Fin.val_ne_of_ne hl; omega)
end Sums

end Cert.MixerPoint

end
-- ==== Proof.MixerValue.lean ====
/- The gradient of the convolution and the spatial gating: what the idealized kernel ends holding, and that the reference ends
   holding the same. -/
module

public import proofs.«01_k».proof.Proof.MixerBlock
public import proofs.«01_k».proof.Defs
public import Idealize.ShloMosaic.Lib.Pipeline.ValueKit.Point
public import Idealize.ShloMosaic.Lib.Pipeline.ReadBack

@[expose] public section

set_option maxRecDepth 16384

noncomputable section

namespace Cert.MixerValue

open Idealize.ShloMosaic Idealize.ShloMosaic.TcCoe Idealize.ShloMosaic.Tactic
open Idealize.SL Idealize.SL.Sem
open Cert.MixerIdeal Cert.MixerIdeal.Gen Cert.MixerRefIdeal.Read Cert.MixerBody Cert.MixerFrame Cert.MixerPoint
open Cert.MixerRef (row lane)

/-! ## The blocks a point finds -/

section
variable (m : (ℓ : Loc nD τ sig) → Buf (Elt Ideal) ℓ) (c : Dev nD)

abbrev X0 : Vec Ideal S4096x5120 .bf16 := m ((c : Thread nD τ).loc main_arg0)
abbrev X1 : Vec Ideal S4096x2048 .bf16 := m ((c : Thread nD τ).loc main_arg1)
abbrev X2 : Vec Ideal S1x3x1024 .f32 := m ((c : Thread nD τ).loc main_arg2)
abbrev X3 : Vec Ideal S1x1024 .f32 := m ((c : Thread nD τ).loc main_arg3)
abbrev X4 : Vec Ideal S1x1024 .f32 := m ((c : Thread nD τ).loc main_arg4)
abbrev X5 : Vec Ideal S1x8x128x128 .f32 := m ((c : Thread nD τ).loc main_arg5)
abbrev X6 : Vec Ideal S1x8x128 .f32 := m ((c : Thread nD τ).loc main_arg6)

/-- The arrays that the host prepares. -/
def taps : Vec Ideal S8x1024 .f32 :=
  pad S8x1024 ![0, 0] ![5, 0] ![0, 0] (shapeCast S3x1024 (X2 m c) shapeCasts_S1x3x1024_S3x1024) (sitofp .f32 (constantI S_ 32 0#32) : FVec Ideal S_ .f32)
    pads_S3x1024_S8x1024_050_000 h_S_
theorem V_taps : V m c main_v4 = taps m c := by
  rfl
theorem V_mix : V m c main_v0 = shapeCast S8x128x128 (X5 m c) shapeCasts_S1x8x128x128_S8x128x128 := by
  rfl
theorem V_shift : V m c main_v2 = transpose S128x8 [1, 0] (shapeCast S8x128 (X6 m c) shapeCasts_S1x8x128_S8x128) transposes_S8x128_S128x8_1_0 := by
  rfl

theorem at0 : ∀ t : Fin grid0.N, win0_0.index t = ![t.val, 0] ∧ win0_1.index t = ![t.val * 16 - 1, 1] ∧ win0_2.index t = ![t.val * 16 - 1, 2]
    ∧ win0_4.index t = ![t.val, 0] ∧ win0_6.index t = ![0, 0] ∧ win0_7.index t = ![0, 0] ∧ win0_8.index t = ![0, 0] ∧ win0_9.index t = ![0, 0, 0]
    ∧ win0_10.index t = ![0, 0] ∧ win0_11.index t = ![t.val, 0] := by decide +kernel
theorem later0 : ∀ t : Fin grid0.N, t.val ≠ 15 → win0_3.index t = ![t.val * 16 + 16, 0] ∧ win0_5.index t = ![t.val * 16 + 16, 0] := by decide +kernel

variable (t : Fin cfg0.N)

/-- The block of rows numbered `n`, of the columns from `1024 k` on. -/
abbrev haloOf {w : ℕ} (Z : (⟨2, ![4096, w]⟩ : Shape).Idx → EReal) (n k : ℕ) (hn : n < 256) (hk : 1024 * k + 1024 ≤ w) : S16x1024.Idx → EReal := fun y =>
  Z (ix2 (⟨n * 16 + (y 0).val, by have : (y 0).val < 16 := (y 0).isLt; omega⟩ : Fin 4096)
    (⟨k * 1024 + (y 1).val, by have : (y 1).val < 1024 := (y 1).isLt; omega⟩ : Fin w))

section
variable (A : Vec Ideal S4096x5120 .bf16) (D : Vec Ideal S4096x2048 .bf16)

/-- A window's block of its array. -/
abbrev blkOf (w : Fin cfg0.W) := ((cfg0.win w).blk t).view.read (Elt Ideal)

theorem read_rows : blkOf t 0 A = (fun y => A (ix2 (rowAt t (y 0)) (y 1))) ∧ blkOf t 4 D = fun y => D (ix2 (rowAt t (y 0)) (y 1)) := by
  constructor <;> funext y <;> blk_ext [blkOf, at0 t, rowAt] <;> rfl
theorem read_before : blkOf t 1 A = haloOf A (t.val * 16 - 1) 1 (by have : t.val < 16 := t.isLt; omega) (by decide)
    ∧ blkOf t 2 A = haloOf A (t.val * 16 - 1) 2 (by have : t.val < 16 := t.isLt; omega) (by decide) := by
  constructor <;> funext y <;> blk_ext [blkOf, at0 t, haloOf] <;> rfl
theorem read_after (ht : t.val ≠ 15) : blkOf t 3 A = haloOf A (t.val * 16 + 16) 0 (by have : t.val < 16 := t.isLt; omega) (by decide)
    ∧ blkOf t 5 D = haloOf D (t.val * 16 + 16) 0 (by have : t.val < 16 := t.isLt; omega) (by decide) := by
  constructor <;> funext y <;> blk_ext [blkOf, later0 t ht, haloOf] <;> rfl
theorem read_whole (A : Vec Ideal S8x1024 .f32) (B G : Vec Ideal S1x1024 .f32) (W : Vec Ideal S8x128x128 .f32) (T : Vec Ideal S128x8 .f32) :
    blkOf t 6 A = A ∧ blkOf t 7 B = B ∧ blkOf t 8 G = G ∧ blkOf t 9 W = W ∧ blkOf t 10 T = T := by
  refine ⟨?_, ?_, ?_, ?_, ?_⟩ <;> funext y <;> blk_ext [blkOf, at0 t] <;> rfl
end

theorem at_z : iblk m c 0 t = fun y => X0 m c (ix2 (rowAt t (y 0)) (y 1)) := (congrArg (blkOf t 0) (V_main_arg0 m c)).trans (read_rows t _ (X1 m c)).1
theorem at_dy : iblk m c 4 t = fun y => X1 m c (ix2 (rowAt t (y 0)) (y 1)) := (congrArg (blkOf t 4) (V_main_arg1 m c)).trans (read_rows t (X0 m c) _).2
theorem at_before : iblk m c 1 t = haloOf (X0 m c) (t.val * 16 - 1) 1 (by have : t.val < 16 := t.isLt; omega) (by decide)
    ∧ iblk m c 2 t = haloOf (X0 m c) (t.val * 16 - 1) 2 (by have : t.val < 16 := t.isLt; omega) (by decide) :=
  ⟨(congrArg (blkOf t 1) (V_main_arg0 m c)).trans (read_before t _).1, (congrArg (blkOf t 2) (V_main_arg0 m c)).trans (read_before t _).2⟩
theorem at_after (ht : t.val ≠ 15) : iblk m c 3 t = haloOf (X0 m c) (t.val * 16 + 16) 0 (by have : t.val < 16 := t.isLt; omega) (by decide)
    ∧ iblk m c 5 t = haloOf (X1 m c) (t.val * 16 + 16) 0 (by have : t.val < 16 := t.isLt; omega) (by decide) :=
  ⟨(congrArg (blkOf t 3) (V_main_arg0 m c)).trans (read_after t _ (X1 m c) ht).1, (congrArg (blkOf t 5) (V_main_arg1 m c)).trans (read_after t (X0 m c) _ ht).2⟩
theorem at_rest : iblk m c 6 t = taps m c ∧ iblk m c 7 t = X3 m c ∧ iblk m c 8 t = X4 m c
    ∧ iblk m c 9 t = shapeCast S8x128x128 (X5 m c) shapeCasts_S1x8x128x128_S8x128x128
    ∧ iblk m c 10 t = transpose S128x8 [1, 0] (shapeCast S8x128 (X6 m c) shapeCasts_S1x8x128_S8x128) transposes_S8x128_S128x8_1_0 := by
  obtain ⟨h6, h7, h8, h9, h10⟩ := read_whole t (taps m c) (X3 m c) (X4 m c) (shapeCast S8x128x128 (X5 m c) shapeCasts_S1x8x128x128_S8x128x128)
    (transpose S128x8 [1, 0] (shapeCast S8x128 (X6 m c) shapeCasts_S1x8x128_S8x128) transposes_S8x128_S128x8_1_0)
  exact ⟨(congrArg (blkOf t 6) (V_taps m c)).trans h6, (congrArg (blkOf t 7) (V_main_arg3 m c)).trans h7, (congrArg (blkOf t 8) (V_main_arg4 m c)).trans h8,
    (congrArg (blkOf t 9) (V_mix m c)).trans h9, (congrArg (blkOf t 10) (V_shift m c)).trans h10⟩

theorem taps_at (k : Fin 3) (j : Fin 1024) : taps m c (ix2 (⟨k.val, by omega⟩ : Fin 8) j) = X2 m c (ix3 (0 : Fin 1) k j) := by
  obtain ⟨k, hk⟩ := k
  iterate 3
    rcases k with _ | k
    · pointwise [taps]
  omega

theorem finds : Of (X0 m c) (X1 m c) (X2 m c) (X3 m c) (X4 m c) (X5 m c) (X6 m c) t (ins m c t) where
  z r j := congrFun (at_z m c t) (ix2 r j)
  dy r j := congrFun (at_dy m c t) (ix2 r j)
  before ht q j R hR := by
    obtain ⟨h1, h2⟩ := at_before m c t
    have hr : (⟨(t.val * 16 - 1) * 16 + q.val, by omega⟩ : Fin 4096) = R := Fin.ext (by show (t.val * 16 - 1) * 16 + q.val = R.val; omega)
    exact ⟨(congrFun h1 (ix2 q j)).trans (congrArg (fun R => X0 m c (ix2 R _)) hr), (congrFun h2 (ix2 q j)).trans (congrArg (fun R => X0 m c (ix2 R _)) hr)⟩
  after ht q j R hR := by
    obtain ⟨h3, h5⟩ := at_after m c t ht
    have hr : (⟨(t.val * 16 + 16) * 16 + q.val, by omega⟩ : Fin 4096) = R := Fin.ext (by show (t.val * 16 + 16) * 16 + q.val = R.val; omega)
    exact ⟨(congrFun h3 (ix2 q j)).trans (congrArg (fun R => X0 m c (ix2 R _)) hr), (congrFun h5 (ix2 q j)).trans (congrArg (fun R => X1 m c (ix2 R _)) hr)⟩
  taps k j := (congrFun (at_rest m c t).1 _).trans (taps_at m c k j)
  bias j := congrFun (at_rest m c t).2.1 _
  gain j := congrFun (at_rest m c t).2.2.1 _
  mix h i k := (congrFun (at_rest m c t).2.2.2.1 _).trans (by pointwise [])
  shift a h := (congrFun (at_rest m c t).2.2.2.2 _).trans (by pointwise [])

/-! ## The sums over the points -/

/-- Changes that add to an element leave in it the sum. -/
theorem upTo_sum {s : Shape} (f : Fin cfg0.N → Vec Ideal s .f32 → Vec Ideal s .f32) (y : s.Idx) (add : Fin 16 → EReal)
    (hf : ∀ t X, f t X y = X y + add t) : ∀ (n : ℕ) (h : n < cfg0.N), upTo f n h y = ∑ t : Fin (n + 1), add ⟨t.val, Nat.lt_of_lt_of_le t.isLt h⟩
  | 0, h => by
      rw [show upTo f 0 h = f ⟨0, h⟩ MixerFrame.zero from Cert.Fused.along_start (start := fun n => n = 0) (f := fun t => f t MixerFrame.zero) (g := f) ⟨0, h⟩ rfl, hf]
      refine (congrArg (· + _) (show MixerFrame.zero y = (0 : EReal) by pointwise [MixerFrame.zero])).trans ((zero_add _).trans ?_)
      exact (Fintype.sum_unique (ι := Fin 1) (M := EReal) fun t => add ⟨t.val, Nat.lt_of_lt_of_le t.isLt h⟩).symm
  | n + 1, h => by
      rw [show upTo f (n + 1) h = f ⟨n + 1, h⟩ (upTo f n (Nat.lt_of_succ_lt h)) from
        Cert.Fused.along_later (start := fun n => n = 0) (f := fun t => f t MixerFrame.zero) (g := f) ⟨n + 1, h⟩ (Nat.succ_ne_zero n) (Nat.succ_ne_zero n), hf,
        upTo_sum f y add hf n, Fin.sum_univ_castSucc (n := n + 1)]
      rfl

/-- Sums over the points, of sums over a point's rows or chunks of rows. -/
theorem over_rows (f : Fin 4096 → EReal) : ∑ t : Fin 16, ∑ r : Fin 256, f (rowAt t r) = ∑ R : Fin 4096, f R :=
  Fin.sum_mul_add_congr (S := 16) (n := 256) (L := 4096) (f := f) (fun _ _ _ => rfl) (by rfl)
theorem over_chunks (f : Fin 32 → EReal) : ∑ t : Fin 16, ∑ n : Fin 2, f (chunkAt t n) = ∑ c : Fin 32, f c :=
  Fin.sum_mul_add_congr (S := 16) (n := 2) (L := 32) (f := f) (fun _ _ _ => rfl) (by rfl)

variable (h15 : 15 < cfg0.N)

theorem small_line (k : Fin 4) (j : Fin 1024) : small m c 15 h15 (ix2 (⟨k.val, by omega⟩ : Fin 8) j) = Cert.MixerRef.small (X0 m c) (X1 m c) k j :=
  (upTo_sum _ _ _ (fun t X => blockSmall_line X (finds m c t) k j) 15 h15).trans (over_rows fun R => Cert.MixerRef.summand (X0 m c) (X1 m c) k R j)
theorem small_gain (h : Fin 8) (b : Fin 128) : small m c 15 h15 (ix2 (4 : Fin 8) (lane h b)) = Cert.MixerRef.dgain (X0 m c) (X1 m c) (X5 m c) h b :=
  (upTo_sum _ _ _ (fun t X => blockSmall_gain X (finds m c t) h b) 15 h15).trans (over_chunks fun n =>
    ∑ a : Fin 128, Cert.MixerRef.dn (X0 m c) (X1 m c) (X5 m c) n a h b * Cert.MixerRef.unit (X0 m c) n a h b)
theorem small_rest (k : Fin 3) (j : Fin 1024) : small m c 15 h15 (ix2 (⟨5 + k.val, by omega⟩ : Fin 8) j) = 0 :=
  (upTo_sum (fun t => blockSmall (grid0.coords t) (ins m c t)) (ix2 (⟨5 + k.val, by omega⟩ : Fin 8) j) (fun _ => 0) (fun t X => (blockSmall_rest (grid0.coords t) X _ (by show 4 < 5 + k.val; omega) j).trans (add_zero _).symm) 15 h15).trans
    Finset.sum_const_zero
theorem mixed_at (h : Fin 8) (i k : Fin 128) : mixed m c 15 h15 (ix3 h i k)
    = ∑ n : Fin 32, ∑ l : Fin 128, Cert.MixerRef.dm (X0 m c) (X1 m c) n i h l * Cert.MixerRef.normed (X0 m c) (X4 m c) n k h l :=
  (upTo_sum _ _ _ (fun t X => blockMix_at (finds m c t) h i k X) 15 h15).trans (over_chunks fun n =>
    ∑ l : Fin 128, Cert.MixerRef.dm (X0 m c) (X1 m c) n i h l * Cert.MixerRef.normed (X0 m c) (X4 m c) n k h l)
theorem summed_at (h : Fin 8) (a b : Fin 128) : summed m c 15 h15 (ix2 a (lane h b)) = ∑ n : Fin 32, Cert.MixerRef.dm (X0 m c) (X1 m c) n a h b :=
  (upTo_sum _ _ _ (fun t X => blockSums_at (finds m c t) h a b X) 15 h15).trans (over_chunks fun n => Cert.MixerRef.dm (X0 m c) (X1 m c) n a h b)

/-! ## The arrays after the run -/

abbrev dz : Vec Ideal S4096x5120 .bf16 := val_main_v159 (X0 m c) (X1 m c) (X2 m c) (X3 m c) (X4 m c) (X5 m c) (X6 m c)

theorem lane_of (j : Fin 1024) : ∃ h b, j = lane h b :=
  ⟨⟨j.val / 128, by omega⟩, ⟨j.val % 128, by omega⟩, Fin.ext (by show j.val = j.val / 128 * 128 + j.val % 128; omega)⟩
theorem inBlock_of (r : Fin 256) : ∃ n a, r = inBlock n a :=
  ⟨⟨r.val / 128, by omega⟩, ⟨r.val % 128, by omega⟩, Fin.ext (by show r.val = 128 * (r.val / 128) + r.val % 128; omega)⟩

theorem dzAt_at (t : Fin cfg0.N) (r : Fin 256) (j : Fin 5120) : dzAt m c t (ix2 r j) = dz m c (ix2 (rowAt t r) j) := by
  obtain ⟨q, l, hl⟩ : ∃ (q : Fin 5) (l : Fin 1024), j.val = 1024 * q.val + l.val := ⟨⟨j.val / 1024, by omega⟩, ⟨j.val % 1024, by omega⟩, by
    show j.val = 1024 * (j.val / 1024) + j.val % 1024; omega⟩
  have hb : 1024 * q.val + l.val < 5120 := by clear hl; omega
  obtain rfl : j = ⟨1024 * q.val + l.val, hb⟩ := Fin.ext hl
  by_cases hq : q.val < 3
  · exact (blockDz_conv (finds m c t) _ ⟨q.val, hq⟩ r l).trans (Cert.MixerRef.dz_conv _ _ _ _ _ _ _ ⟨q.val, hq⟩ _ l).symm
  obtain ⟨h, b, rfl⟩ := lane_of l
  obtain ⟨n, a, rfl⟩ := inBlock_of r
  refine Eq.trans ?_ (congrArg (fun R => dz m c (ix2 R _)) (rowAt_inBlock t n a)).symm
  obtain rfl | rfl : q = 3 ∨ q = 4 := by omega
  · exact (blockDz_u (finds m c t) _ h n a b).trans (Cert.MixerRef.dz_u _ _ _ _ _ _ _ _ a h b).symm
  · exact (blockDz_v (finds m c t) _ h n a b).trans (Cert.MixerRef.dz_v _ _ _ _ _ _ _ _ a h b).symm

theorem end_dz : (dat0 m c).arrAt 11 cfg0.N = dz m c := by
  refine (dat0 m c).arrAt_eq_of_covers 11 _ (by decide +kernel) fun t hf y => ?_
  blk_simp
  rw [show (dat0 m c).after 11 t = fun y => dz m c (ix2 (rowAt t (y 0)) (y 1)) by
    dsimp only [dat0]; funext y; obtain ⟨r, j, rfl⟩ : ∃ (r : Fin 256) (j : Fin 5120), y = ix2 r j := ⟨y 0, y 1, eq_ix2 y⟩; exact dzAt_at m c t r j]
  generalize dz m c = G
  blk_ext [blkOf, at0 t, rowAt] <;> rfl

theorem end_small : (dat0 m c).arrAt 12 cfg0.N = val_main_v157 (F := Ideal) (X0 m c) (X1 m c) (X5 m c) := by
  refine (dat0 m c).arrAt_eq_of_after_last 12 ⟨15, by decide⟩ (by decide +kernel) _ fun y => ?_
  obtain ⟨k, j, rfl⟩ : ∃ (k : Fin 8) (j : Fin 1024), y = ix2 k j := ⟨y 0, y 1, eq_ix2 y⟩
  refine (show _ = small m c 15 (by decide) (ix2 k j) by dsimp only [dat0]; rfl).trans ?_
  by_cases h : k.val < 4
  · exact (small_line m c _ ⟨k.val, h⟩ j).trans (Cert.MixerRef.v157 _ _ _ ⟨k.val, h⟩ j).symm
  by_cases h : k.val = 4
  · obtain rfl : k = 4 := Fin.ext h
    obtain ⟨h, b, rfl⟩ := lane_of j
    exact (small_gain m c _ h b).trans (Cert.MixerRef.dgain_row _ _ _ h b).symm
  · obtain ⟨l, hl⟩ : ∃ l : Fin 3, k.val = 5 + l.val := ⟨⟨k.val - 5, by omega⟩, by show k.val = 5 + (k.val - 5); omega⟩
    have hb : 5 + l.val < 8 := by clear hl; omega
    obtain rfl : k = ⟨5 + l.val, hb⟩ := Fin.ext hl
    exact (small_rest m c _ l j).trans (Cert.MixerRef.rest _ _ _ l j).symm

theorem end_mix : (dat0 m c).arrAt 13 cfg0.N = val_main_v160 (F := Ideal) (X0 m c) (X1 m c) (X4 m c) := by
  refine (dat0 m c).arrAt_eq_of_after_last 13 ⟨15, by decide⟩ (by decide +kernel) _ fun y => ?_
  obtain ⟨h, i, k, rfl⟩ : ∃ (h : Fin 8) (i k : Fin 128), y = ix3 h i k := ⟨y 0, y 1, y 2, eq_ix3 y⟩
  refine (show _ = lastMix (mixed m c 15 (by decide)) (ix3 h i k) by dsimp only [dat0]; rfl).trans ((lastMix_at h i k _).trans ?_)
  show _ = val_main_v160 (F := Ideal) _ _ _ (ix3 h i k)
  rw [mixed_at, Cert.MixerRef.dws, Cert.MixerRef.dweight]

theorem end_shift : (dat0 m c).arrAt 14 cfg0.N = val_main_v162 (F := Ideal) (X0 m c) (X1 m c) := by
  refine (dat0 m c).arrAt_eq_of_after_last 14 ⟨15, by decide⟩ (by decide +kernel) _ fun y => ?_
  obtain ⟨a, h, rfl⟩ : ∃ (a : Fin 128) (h : Fin 8), y = ix2 a h := ⟨y 0, y 1, eq_ix2 y⟩
  refine (show _ = lastShift (summed m c 15 (by decide)) MixerFrame.zero (ix2 a h) by dsimp only [dat0]; rfl).trans ((lastShift_at h a _ _).trans ?_)
  show _ = val_main_v162 (F := Ideal) _ _ (ix2 a h)
  simp only [summed_at]
  rw [Cert.MixerRef.dbs, Cert.MixerRef.dshift, Finset.sum_comm]

end

/-! ## The two programs' one value -/

theorem algebraic : Cert.algebraic_MixerIdeal_MixerRefIdeal := by
  intro m ρ m' ρ' _ hagree
  refine ⟨fun c => dz m c, fun c => val_main_v157 (F := Ideal) (X0 m c) (X1 m c) (X5 m c), fun c => val_main_v160 (F := Ideal) (X0 m c) (X1 m c) (X4 m c),
    fun c => val_main_v162 (F := Ideal) (X0 m c) (X1 m c), ?_, ?_⟩
  · refine (θ_run defs _ _).mono (fun r h c => ?_) (θ_run_and (run (F := Ideal) m ρ) (frame (F := Ideal) m ρ))
    obtain ⟨⟨hp, -⟩, ha, -⟩ := h
    exact ⟨((hp c).1 11).trans (end_dz m c), ((hp c).1 12).trans (end_small m c), ((hp c).1 13).trans (end_mix m c), ((hp c).1 14).trans (end_shift m c),
      ha c⟩
  · refine (θ_run Cert.MixerRefIdeal.defs _ _).mono (fun r h c => ?_) (Cert.MixerRefIdeal.Value.run (F := Ideal) m' ρ')
    obtain ⟨e0, e1, e2, e3, ea⟩ := h c
    rw [val_main_v159_eq] at e0
    rw [val_main_v157_eq] at e1
    rw [val_main_v160_eq] at e2
    rw [val_main_v162_eq] at e3
    obtain ⟨a0, a1, a2, a3, a4, a5, a6⟩ := hagree c
    refine ⟨e0.trans ?_, e1.trans ?_, e2.trans ?_, e3.trans ?_, ea⟩ <;> unfold StableHlo.launchContents
    · rw [a0, a1, a2, a3, a4, a5, a6]
    · rw [a0, a1, a5]
    · rw [a0, a1, a4]
    · rw [a0, a1]

end Cert.MixerValue

end
-- ==== Proof.NormFValue.lean ====
/- The norm of the forward pass: what the idealized kernel ends holding, and that the reference ends holding the same. -/
module

public import proofs.«01_k».proof.Proof.Gen.NormFIdeal.Value
public import proofs.«01_k».proof.Proof.Gen.NormFRefIdeal.Run
public import proofs.«01_k».proof.Proof.Gen.NormFRefIdeal.Read
public import proofs.«01_k».proof.Defs
public import Idealize.ShloMosaic.Lib.Pipeline.ValueKit.Point
public import Idealize.ShloMosaic.Lib.Pipeline.ReadBack

@[expose] public section

noncomputable section

namespace Cert.NormFValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.NormFIdeal Cert.NormFIdeal.Gen Cert.NormFRefIdeal.Read

/-- The row of the array that is row `j` of point `t`'s block. -/
abbrev row (t : Fin cfg0.N) (j : Fin 512) : Fin 4096 :=
  ⟨t.val * 512 + j.val, by have := lt_of_lt_of_eq t.isLt N_0; have := j.isLt; omega⟩

/-- Point `t`'s 512 rows of an array. -/
def rows (t : Fin cfg0.N) (X : Vec Ideal S4096x2048 .f32) : Vec Ideal S512x2048 .f32 := fun y => X (ix2 (row t (y 0)) (y 1))

/-- One point's row factors are the reference's. -/
theorem factor (t : Fin cfg0.N) (x0 : Vec Ideal S4096x2048 .f32) (y : S512x1.Idx) :
    k0_pay1 (F := Ideal) (rows t x0) y = val_main_v22 (F := Ideal) x0 (ix2 (row t (y 0)) (y 1)) := by
  pointwise [k0_pay1, rows, row, val_main_v15, val_main_cst_2, val_main_v16, val_main_v17, val_main_cst_3, val_main_v18,
    val_main_v19, val_main_cst_4, val_main_v20, val_main_v21, val_main_v22]

/-- One point's normed rows are the reference's. -/
theorem normed (t : Fin cfg0.N) (x0 : Vec Ideal S4096x2048 .f32) (x1 : Vec Ideal S1x2048 .f32) (y : S512x2048.Idx) :
    k0_pay2 (F := Ideal) (rows t x0) x1 y = val_main_v14 (F := Ideal) x0 x1 (ix2 (row t (y 0)) (y 1)) := by
  pointwise [k0_pay2, k0_pay1, rows, row, val_main_v0, val_main_v1, val_main_cst, val_main_v2, val_main_v3, val_main_cst_0,
    val_main_v4, val_main_v5, val_main_cst_1, val_main_v6, val_main_v7, val_main_v8, val_main_v9, val_main_v10,
    val_main_v11, val_main_v12, val_main_v13, val_main_v14]

section Points
variable (m : (ℓ : Loc nD τ sig) → Buf (Elt Ideal) ℓ) (c : Dev nD)

abbrev X0 : Vec Ideal S4096x2048 .f32 := m ((c : Thread nD τ).loc main_arg0)
abbrev X1 : Vec Ideal S1x2048 .f32 := m ((c : Thread nD τ).loc main_arg1)

theorem at0 : ∀ t : Fin grid0.N, win0_0.index t = ![t.val, 0] ∧ win0_1.index t = ![0, 0] ∧ win0_2.index t = ![t.val, 0]
    ∧ win0_3.index t = ![t.val, 0] := by decide +kernel

/-- The blocks the point `t` reads. -/
theorem blocks (t : Fin cfg0.N) : iblk m c 0 t = rows t (X0 m c) ∧ iblk m c 1 t = X1 m c := by
  constructor <;> funext y
  · blk_ext! [iblk, rows, row, at0 t]
  · blk_ext! [iblk, at0 t]

theorem end_norm : (dats m 0 c).arrAt 2 cfg0.N = val_main_v14 (X0 m c) (X1 m c) := by
  refine (dats m 0 c).arrAt_eq_of_covers 2 _ (by decide +kernel) fun t hf y => ?_
  obtain ⟨b0, b1⟩ := blocks m c t
  have e : (dats m 0 c).after 2 t = k0_pay2 (F := Ideal) (rows t (X0 m c)) (X1 m c) := by
    rw [after0_2, b0, b1]; frame_out
  blk_simp
  rw [e, normed]
  generalize val_main_v14 (F := Ideal) _ _ = G
  blk_ext [at0 t, row]

theorem end_factor : (dats m 0 c).arrAt 3 cfg0.N = val_main_v22 (X0 m c) := by
  refine (dats m 0 c).arrAt_eq_of_covers 3 _ (by decide +kernel) fun t hf y => ?_
  obtain ⟨b0, b1⟩ := blocks m c t
  have e : (dats m 0 c).after 3 t = k0_pay1 (F := Ideal) (rows t (X0 m c)) := by
    rw [after0_3, b0, b1]; frame_out
  blk_simp
  rw [e, factor]
  generalize val_main_v22 (F := Ideal) _ = G
  blk_ext [at0 t, row]

end Points

theorem algebraic : Cert.algebraic_NormFIdeal_NormFRefIdeal := by
  intro m ρ m' ρ' _ hagree
  refine ⟨fun c => val_main_v14 (X0 m c) (X1 m c), fun c => val_main_v22 (X0 m c), ?_, ?_⟩
  · refine (θ_run defs _ _).mono (fun r h c => ?_) (Cert.NormFIdeal.Value.run_blocks (F := Ideal) m ρ)
    obtain ⟨e2, e3, ea⟩ := h c
    exact ⟨e2.trans (end_norm m c), e3.trans (end_factor m c), ea⟩
  · refine (θ_run Cert.NormFRefIdeal.defs _ _).mono (fun r h c => ?_) (Cert.NormFRefIdeal.Value.run (F := Ideal) m' ρ')
    obtain ⟨e2, e3, ea⟩ := h c
    obtain ⟨a0, a1⟩ := hagree c
    rw [val_main_v14_eq] at e2
    rw [val_main_v22_eq] at e3
    refine ⟨e2.trans ?_, e3.trans ?_, ea⟩
    · rw [a0, a1]
    · rw [a0]

end Cert.NormFValue

end
-- ==== Proof.GateFValue.lean ====
/- The gated product of the forward pass: what the idealized kernel ends holding, and that the reference ends holding the
   same. -/
module

public import proofs.«01_k».proof.Proof.SwigluValue
public import proofs.«01_k».proof.Proof.Gen.GateFIdeal.Value
public import proofs.«01_k».proof.Proof.Gen.GateFRefIdeal.Run
public import proofs.«01_k».proof.Proof.Gen.GateFRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.GateFValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateFIdeal Cert.GateFIdeal.Gen Cert.GateFRefIdeal.Read

/-- A gate's number from its two products. -/
def gated (g u : EReal) : EReal := g * Ideal.div 1 (1 + Ideal.exp (-g)) * u

/-! ## One point's blocks -/

/-- A row times a column of two blocks. -/
def dot (A : Vec Ideal S1024x2048 .bf16) (B : Vec Ideal S2048x512 .bf16) (r : Fin 1024) (b : Fin 512) : EReal :=
  ∑ k : Fin 2048, A (ix2 r k) * B (ix2 k b)

section Block
variable (A : Vec Ideal S1024x2048 .bf16) (B C : Vec Ideal S2048x512 .bf16)

theorem block_pair : out0_3 (F := Ideal) A B C = Cert.SwigluValue.prods A B C := Cert.SwigluValue.out0 A B C

theorem block_gate (r : Fin 1024) (b : Fin 512) : out0_4 (F := Ideal) A B C (ix2 r b)
    = gated (dot A B r b) (dot A C r b) := by
  have e : out0_4 (F := Ideal) A B C = k0_pay5 A B C := by frame_out
  rw [e]
  pointwise [k0_pay5, k0_pay1, k0_pay2, gated, dot, Ideal.logistic]

end Block

/-! ## The reference's numbers -/

section Ref
variable (x0 : Vec Ideal S4096x2048 .bf16) (x1 : Vec Ideal S2048x11264 .bf16)

/-- The gate's and the up product's number. -/
abbrev prods : Vec Ideal S2x4096x5632 .bf16 := Cert.SwigluValue.Prods x0 x1

/-- The gated product. -/
def gate : Vec Ideal S4096x5632 .bf16 := fun y => gated (prods x0 x1 (ix3 0 (y 0) (y 1))) (prods x0 x1 (ix3 1 (y 0) (y 1)))

theorem pair_ref : val_main_v8 (F := Ideal) x0 x1 = prods x0 x1 := by
  funext y
  obtain ⟨a, r, s, rfl⟩ : ∃ (a : Fin 2) (r : Fin 4096) (s : Fin 5632), y = ix3 a r s := ⟨y 0, y 1, y 2, eq_ix3 y⟩
  match a with
  | 0 => pointwise [val_main_v8, val_main_v7, val_main_v6, val_main_v5, val_main_v4, val_main_v3, val_main_v2, val_main_v0, val_main_v1, Cert.SwigluValue.Prods]
  | 1 => pointwise [val_main_v8, val_main_v7, val_main_v6, val_main_v5, val_main_v4, val_main_v3, val_main_v2, val_main_v0, val_main_v1, Cert.SwigluValue.Prods]

theorem gate_ref : val_main_v11 (F := Ideal) x0 x1 = gate x0 x1 := by
  funext y
  obtain ⟨r, s, rfl⟩ : ∃ (r : Fin 4096) (s : Fin 5632), y = ix2 r s := ⟨y 0, y 1, eq_ix2 y⟩
  pointwise [val_main_v11, val_main_v10, val_main_v9, val_main_call0_v5, val_main_call0_v4, val_main_call0_cst_0,
    val_main_call0_v3, val_main_call0_v2, val_main_call0_cst, val_main_call0_v1, val_main_call0_v0,
    val_main_v4, val_main_v3, val_main_v2, val_main_v0, val_main_v1, gate, gated, Cert.SwigluValue.Prods]

end Ref

/-! ## The arrays after the run -/

theorem at0 : ∀ t : Fin grid0.N, win0_0.index t = ![t.val % 4, 0] ∧ win0_1.index t = ![0, t.val / 4] ∧ win0_2.index t = ![0, 11 + t.val / 4]
    ∧ win0_3.index t = ![0, t.val % 4, t.val / 4] ∧ win0_4.index t = ![t.val % 4, t.val / 4] := by decide +kernel

open Cert.SwigluValue (row cl)

section Points
variable (m : (ℓ : Loc nD τ sig) → Buf (Elt Ideal) ℓ) (c : Dev nD)

abbrev X0 : Vec Ideal S4096x2048 .bf16 := m ((c : Thread nD τ).loc main_arg0)
abbrev X1 : Vec Ideal S2048x11264 .bf16 := m ((c : Thread nD τ).loc main_arg1)

/-- One number of a product, from the blocks the point `t` reads. -/
theorem sums (t : Fin cfg0.N) (r : Fin 1024) (b : Fin 512) :
    dot (iblk m c 0 t) (iblk m c 1 t) r b = prods (X0 m c) (X1 m c) (ix3 0 (row t r) (cl t b))
      ∧ dot (iblk m c 0 t) (iblk m c 2 t) r b = prods (X0 m c) (X1 m c) (ix3 1 (row t r) (cl t b)) := by
  have e0 : iblk m c 0 t = fun y => X0 m c (ix2 (row t (y 0)) (y 1)) := by funext y; blk_ext! [iblk, at0 t, row]
  have e1 : iblk m c 1 t = fun y => X1 m c (ix2 (y 0) ⟨(cl t (y 1)).val, lt_trans (cl t (y 1)).isLt (by decide)⟩) := by
    funext y; blk_ext! [iblk, at0 t, cl]
  have e2 : iblk m c 2 t = fun y => X1 m c (ix2 (y 0) ⟨5632 + (cl t (y 1)).val, Nat.add_lt_add_left (cl t (y 1)).isLt 5632⟩) := by
    funext y; blk_ext! [iblk, at0 t, cl]
  rw [e0, e1, e2]
  constructor <;> refine Finset.sum_congr (M := EReal) rfl fun k _ => congrArg (fun p : EReal => _ * p) (congrArg (X1 m c) (congrArg (ix2 k) (Fin.ext ?_)))
  · show (cl t b).val = 0 * 5632 + (cl t b).val; omega
  · show 5632 + (cl t b).val = 1 * 5632 + (cl t b).val; omega

theorem end_pair : (dats m 0 c).arrAt 3 cfg0.N = prods (X0 m c) (X1 m c) := by
  refine (dats m 0 c).arrAt_eq_of_covers 3 _ (by decide +kernel) fun t hf y => ?_
  blk_simp
  rw [after0_3, block_pair]
  obtain ⟨g, r, b, rfl⟩ : ∃ (g : Fin 2) (r : Fin 1024) (b : Fin 512), y = ix3 g r b := ⟨y 0, y 1, y 2, eq_ix3 y⟩
  refine Eq.trans ?_ (show prods (X0 m c) (X1 m c) (ix3 g (row t r) (cl t b)) = _ by generalize prods _ _ = G; blk_ext [at0 t, row, cl])
  match g with
  | 0 => exact (sums m c t r b).1
  | 1 => exact (sums m c t r b).2

theorem end_gate : (dats m 0 c).arrAt 4 cfg0.N = gate (X0 m c) (X1 m c) := by
  refine (dats m 0 c).arrAt_eq_of_covers 4 _ (by decide +kernel) fun t hf y => ?_
  blk_simp
  rw [after0_4]
  obtain ⟨r, b, rfl⟩ : ∃ (r : Fin 1024) (b : Fin 512), y = ix2 r b := ⟨y 0, y 1, eq_ix2 y⟩
  refine (block_gate _ _ _ r b).trans ?_
  refine Eq.trans ?_ (show gate (X0 m c) (X1 m c) (ix2 (row t r) (cl t b)) = _ by generalize gate _ _ = G; blk_ext [at0 t, row, cl])
  exact congrArg₂ gated (sums m c t r b).1 (sums m c t r b).2

end Points

theorem algebraic : Cert.algebraic_GateFIdeal_GateFRefIdeal := by
  intro m ρ m' ρ' _ hagree
  refine ⟨fun c => prods (X0 m c) (X1 m c), fun c => gate (X0 m c) (X1 m c), ?_, ?_⟩
  · refine (θ_run defs _ _).mono (fun r h c => ?_) (Cert.GateFIdeal.Value.run_blocks (F := Ideal) m ρ)
    obtain ⟨e3, e4, ea⟩ := h c
    exact ⟨e3.trans (end_pair m c), e4.trans (end_gate m c), ea⟩
  · refine (θ_run Cert.GateFRefIdeal.defs _ _).mono (fun r h c => ?_) (Cert.GateFRefIdeal.Value.run (F := Ideal) m' ρ')
    obtain ⟨e3, e4, ea⟩ := h c
    obtain ⟨a0, a1⟩ := hagree c
    rw [val_main_v8_eq, pair_ref] at e3
    rw [val_main_v11_eq, gate_ref] at e4
    refine ⟨e3.trans ?_, e4.trans ?_, ea⟩ <;> rw [a0, a1]

end Cert.GateFValue

end
-- ==== Proof.AttnFValue.lean ====
/- The attention of the forward pass: what the idealized kernel ends holding, and that the reference ends holding the same.
   The heads' scores and weights are those of the gradients' proof. -/
module

public import proofs.«01_k».proof.Proof.AttnValue
public import proofs.«01_k».proof.Proof.Gen.AttnFIdeal.Value
public import proofs.«01_k».proof.Proof.Gen.AttnFRefIdeal.Run
public import proofs.«01_k».proof.Proof.Gen.AttnFRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.AttnFValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnFIdeal Cert.AttnFIdeal.Gen Cert.AttnFRefIdeal.Read
open Cert.AttnValue (col row tile head ex total top score emb_col)

variable (q : Vec Ideal S4096x2048 .bf16) (k v : Vec Ideal S256x2048 .bf16)

/-- The attention's output at a row and a head's column. -/
def out (h : Fin 4) (r : Fin 4096) (e : Fin 512) : EReal :=
  ∑ l : Fin 256, Ideal.div (ex (score h q k r) l) (total (score h q k r)) * v (ix2 l (col h e))

/-! ## The reference's numbers -/

/-- The reference's weights are those of the gradients' reference. -/
theorem weights_same : val_main_v19 (F := Ideal) q k = Cert.AttnRefIdeal.Read.val_main_v34 (F := Ideal) q k := rfl

theorem out_ref (h : Fin 4) (r : Fin 4096) (e : Fin 512) : val_main_v23 (F := Ideal) q k v (ix2 r (col h e)) = out q k v h r e := by
  refine Eq.trans (b := ∑ l : Fin 256, v (ix2 l (col h e)) * val_main_v19 (F := Ideal) q k (ix4 0 h r l)) ?_ ?_
  · pointwise [col, val_main_v23, val_main_v22, val_main_v21, val_main_v20, val_main_v5, val_main_v2]
  · rw [weights_same]
    exact Finset.sum_congr rfl fun l _ => (mul_comm _ _).trans (congrArg (fun p : EReal => p * _) (Cert.AttnValue.weightsRef h q k r l))

/-! ## One point's block -/

theorem out_tile (t : Fin 8) (h : Fin 4) (j e : Fin 512) :
    k0_pay2 (F := Ideal) (tile t h q) (head h k) (head h v) (ix2 j e) = out q k v h (row t j) e := by
  pointwise [k0_pay2, tile, head, row, col, ex, total, top, score, out]

/-- The body's text says one computation four times over, once per head. -/
theorem heads (A : Vec Ideal S512x512 .bf16) (B C : Vec Ideal S256x512 .bf16) :
    k0_pay4 (k0_pay3 A B) C = k0_pay2 A B C ∧ k0_pay5 A B C = k0_pay2 A B C ∧ k0_pay1 (k0_pay6 A B) (k0_pay7 A B) C = k0_pay2 A B C :=
  ⟨rfl, rfl, rfl⟩

/-- Point `t`'s rows of the queries or of the output. -/
def rows (t : Fin 8) (X : Vec Ideal S4096x2048 .bf16) : Vec Ideal S512x2048 .bf16 := fun y => X (ix2 (row t (y 0)) (y 1))

theorem ld_rows (t : Fin 8) (h : Fin 4) {o : Fin 2 → ℕ} (i : ∀ a, o a + ![512, 512] a ≤ S512x2048.size a) (e : o = ![0, h.val * 512]) :
    View.ld (rows t q) (Rect.unit o ![512, 512] i) = tile t h q := by
  funext y
  obtain ⟨a, b, rfl⟩ : ∃ (a b : Fin 512), y = ix2 a b := ⟨y 0, y 1, eq_ix2 y⟩
  exact congrArg (rows t q) (emb_col h i e a b)

theorem ld_head (h : Fin 4) {o : Fin 2 → ℕ} (i : ∀ a, o a + ![256, 512] a ≤ S256x2048.size a) (e : o = ![0, h.val * 512]) :
    View.ld k (Rect.unit o ![256, 512] i) = head h k := by
  funext y
  obtain ⟨a, b, rfl⟩ : ∃ (a : Fin 256) (b : Fin 512), y = ix2 a b := ⟨y 0, y 1, eq_ix2 y⟩
  exact congrArg k (emb_col h i e a b)

/-- What one head stores, from its loads. -/
theorem piece (t : Fin 8) (h : Fin 4) {o : Fin 2 → ℕ} (i : ∀ a, o a + ![512, 512] a ≤ S512x2048.size a)
    (i' : ∀ a, o a + ![256, 512] a ≤ S256x2048.size a) (e : o = ![0, h.val * 512]) (x : S512x512.Idx) :
    k0_pay2 (F := Ideal) (View.ld (rows t q) (Rect.unit o ![512, 512] i)) (View.ld k (Rect.unit o ![256, 512] i')) (View.ld v (Rect.unit o ![256, 512] i')) x
      = rows t (val_main_v23 (F := Ideal) q k v) ((Rect.unit (s := S512x2048) o ![512, 512] i).emb x) := by
  rw [ld_rows q t h i e, ld_head k h i' e, ld_head v h i' e]
  obtain ⟨a, b, rfl⟩ : ∃ (a b : Fin 512), x = ix2 a b := ⟨x 0, x 1, eq_ix2 x⟩
  rw [emb_col h i e]
  exact (out_tile q k v t h a b).trans (out_ref q k v h (row t a) b).symm

theorem block (t : Fin 8) : out0_3 (F := Ideal) (rows t q) k v = rows t (val_main_v23 (F := Ideal) q k v) := by
  unfold out0_3
  rw [(heads _ _ _).1, (heads _ _ _).2.1, (heads _ _ _).2.2]
  funext y
  refine View.canon_append_of_piecesOf (rows t (val_main_v23 (F := Ideal) q k v)) [] [_, _, _, _] ⟨?_, ?_, ?_, ?_, trivial⟩ y (cover0_3 _ _ _ _ y)
  · exact piece q k v t 3 _ _ rfl
  · exact piece q k v t 2 _ _ rfl
  · exact piece q k v t 1 _ _ rfl
  · exact piece q k v t 0 _ _ rfl

/-! ## The array after the run -/

section Points
variable (m : (ℓ : Loc nD τ sig) → Buf (Elt Ideal) ℓ) (c : Dev nD)

abbrev X0 : Vec Ideal S4096x2048 .bf16 := m ((c : Thread nD τ).loc main_arg0)
abbrev X1 : Vec Ideal S256x2048 .bf16 := m ((c : Thread nD τ).loc main_arg1)
abbrev X2 : Vec Ideal S256x2048 .bf16 := m ((c : Thread nD τ).loc main_arg2)

theorem at0 : ∀ t : Fin grid0.N, win0_0.index t = ![t.val, 0] ∧ win0_1.index t = ![0, 0] ∧ win0_2.index t = ![0, 0]
    ∧ win0_3.index t = ![t.val, 0] := by decide +kernel

theorem end_out : (dats m 0 c).arrAt 3 cfg0.N = val_main_v23 (X0 m c) (X1 m c) (X2 m c) := by
  refine (dats m 0 c).arrAt_eq_of_covers 3 _ (by decide +kernel) fun t hf y => ?_
  have b0 : iblk m c 0 t = rows t (X0 m c) := by funext y; blk_ext! [iblk, rows, row, at0 t]
  have b1 : iblk m c 1 t = X1 m c := by funext y; blk_ext! [iblk, at0 t]
  have b2 : iblk m c 2 t = X2 m c := by funext y; blk_ext! [iblk, at0 t]
  blk_simp
  rw [after0_3, b0, b1, b2]
  refine (congrFun (block (X0 m c) (X1 m c) (X2 m c) t) y).trans ?_
  generalize val_main_v23 (F := Ideal) _ _ _ = G
  blk_ext [at0 t, rows, row]

end Points

theorem algebraic : Cert.algebraic_AttnFIdeal_AttnFRefIdeal := by
  intro m ρ m' ρ' _ hagree
  refine ⟨fun c => val_main_v23 (X0 m c) (X1 m c) (X2 m c), ?_, ?_⟩
  · refine (θ_run defs _ _).mono (fun r h c => ?_) (Cert.AttnFIdeal.Value.run_blocks (F := Ideal) m ρ)
    obtain ⟨e3, ea⟩ := h c
    exact ⟨e3.trans (end_out m c), ea⟩
  · refine (θ_run Cert.AttnFRefIdeal.defs _ _).mono (fun r h c => ?_) (Cert.AttnFRefIdeal.Value.run (F := Ideal) m' ρ')
    obtain ⟨e3, ea⟩ := h c
    obtain ⟨a0, a1, a2⟩ := hagree c
    rw [val_main_v23_eq] at e3
    refine ⟨e3.trans ?_, ea⟩
    rw [a0, a1, a2]

end Cert.AttnFValue

end
-- ==== Proof.MixFValue.lean ====
/- The convolution and the spatial gating of the forward pass: what the idealized kernel ends holding, and that the reference ends
   holding the same. A point's numbers are those of the gradients' proof. -/
module

public import proofs.«01_k».proof.Proof.MixerValue
public import proofs.«01_k».proof.Proof.Gen.MixFIdeal.Value
public import proofs.«01_k».proof.Proof.Gen.MixFRefIdeal.Run
public import proofs.«01_k».proof.Proof.Gen.MixFRefIdeal.Read

@[expose] public section

set_option maxRecDepth 16384

noncomputable section

namespace Cert.MixFValue

open Idealize.ShloMosaic Idealize.ShloMosaic.TcCoe Idealize.ShloMosaic.Tactic
open Idealize.SL Idealize.SL.Sem
open Cert.MixFIdeal Cert.MixFIdeal.Gen Cert.MixFRefIdeal.Read Cert.MixerBody Cert.MixerPoint
open Cert.MixerRef (row lane part conv mixed)
open Cert.MixerValue (haloOf lane_of inBlock_of)

/-! ## The reference's numbers -/

section
variable (Z : Vec Ideal S4096x5120 .bf16) (C : Vec Ideal S1x3x1024 .f32) (B G : Vec Ideal S1x1024 .f32) (W : Vec Ideal S1x8x128x128 .f32)
  (T : Vec Ideal S1x8x128 .f32)

theorem ref_conv (r : Fin 4096) (j : Fin 1024) : val_main_v34 (F := Ideal) Z C B (ix3 (0 : Fin 1) r j) = part Z 0 r j * conv Z C B r j := by
  pointwise [val_main_v34, val_main_v2, val_main_v1, val_main_v0, part]
  exact congrArg (_ * ·) (Cert.MixerRef.v36 Z C B r j)

theorem ref_gate (c : Fin 32) (a : Fin 128) (h : Fin 8) (b : Fin 128) :
    val_main_v65 (F := Ideal) Z G W T (ix3 (0 : Fin 1) (row c a) (lane h b)) = part Z 3 (row c a) (lane h b) * mixed Z G W T c a h b := by
  pointwise [val_main_v65, val_main_v5, val_main_v1, val_main_v0, part, val_main_v64]
  rw [(Cert.MixerRef.rowOf c a (by omega) (by omega)).1, (Cert.MixerRef.rowOf c a (by omega) (by omega)).2,
    (Cert.MixerRef.laneOf h b (by omega) (by omega)).1, (Cert.MixerRef.laneOf h b (by omega) (by omega)).2]
  exact congrArg (_ * ·) (Cert.MixerRef.v69 Z G W T c a h b)

theorem left (r : Fin 4096) (j : Fin 1024) :
    val_main_v68 (F := Ideal) Z C B G W T (ix2 r (⟨j.val, by omega⟩ : Fin 2048)) = part Z 0 r j * conv Z C B r j := by
  refine Eq.trans ?_ (ref_conv Z C B r j)
  pointwise [val_main_v68, val_main_v67, val_main_v66]
theorem right (c : Fin 32) (a : Fin 128) (h : Fin 8) (b : Fin 128) :
    val_main_v68 (F := Ideal) Z C B G W T (ix2 (row c a) (⟨1024 + (lane h b).val, by omega⟩ : Fin 2048)) = part Z 3 (row c a) (lane h b) * mixed Z G W T c a h b := by
  refine Eq.trans ?_ (ref_gate Z G W T c a h b)
  pointwise [val_main_v68, val_main_v67, val_main_v66]

end

/-! ## What a point stores -/

section
variable {F : FTy → Type} [FloatOps F] (i : Cert.MixerIdeal.grid0.Coords) (I : Ins F)

def convOut : Vec F S256x1024 .bf16 := truncf .bf16 (mulf (colsOf I 0) (convOf i I)) Cert.MixerIdeal.Facts₀.bitsLt_bf16_f32
/-- The same, with the halos and the bias read whole. -/
def convStored : Vec F S256x1024 .bf16 := truncf .bf16 (mulf (colsOf I 0)
  (addf (addf (addf (broadcastTo S256x1024 I.bias Cert.MixerIdeal.Facts₀.broadcasts_S1x1024_S256x1024) (tap (tapOf I 2) (xOf I)))
    (tap (tapOf I 1) (down1 (edge (isFirst i) I.gHalo I.hHalo) (xOf I)))) (tap (tapOf I 0) (down2 (edge (isFirst i) I.gHalo I.hHalo) (xOf I)))))
  Cert.MixerIdeal.Facts₀.bitsLt_bf16_f32
def gateOut (h : Fin 8) (n : Fin 2) : Vec F S128x128 .bf16 :=
  truncf .bf16 (mulf (extf .f32 ((chunkU h n).get I.z : Vec F S128x128 .bf16) Cert.MixerIdeal.Facts₀.bitsLt_bf16_f32) (mOf I h n)) Cert.MixerIdeal.Facts₀.bitsLt_bf16_f32

/-- What a point stores, the last first. -/
def stores : List (View.Piece (Elt F) S256x2048 .bf16) :=
  ([7, 6, 5, 4, 3, 2, 1, 0] : List (Fin 8)).flatMap (fun h => [⟨(chunkDy h 1).rect, gateOut I h 1⟩, ⟨(chunkDy h 0).rect, gateOut I h 0⟩])
    ++ [⟨dyCols.rect, convStored i I⟩]
end

section
variable {Z : Vec Ideal S4096x5120 .bf16} {D : Vec Ideal S4096x2048 .bf16} {C : Vec Ideal S1x3x1024 .f32} {B G : Vec Ideal S1x1024 .f32}
  {W : Vec Ideal S1x8x128x128 .f32} {T : Vec Ideal S1x8x128 .f32} {t : Fin 16} {I : Ins Ideal} (O : Of Z D C B G W T t I)

/-- Point `t`'s rows of the reference's result. -/
def want (Z : Vec Ideal S4096x5120 .bf16) (C : Vec Ideal S1x3x1024 .f32) (B G : Vec Ideal S1x1024 .f32)
    (W : Vec Ideal S1x8x128x128 .f32) (T : Vec Ideal S1x8x128 .f32) (t : Fin 16) : Vec Ideal S256x2048 .bf16 :=
  fun y => val_main_v68 (F := Ideal) Z C B G W T (ix2 (rowAt t (y 0)) (y 1))

theorem box_at {s : Shape} {e : EltTy} {α : Type} (K : Acts.Box s e) (X : s.Idx → α) (x : K.rect.shape.Idx) (y : s.Idx)
    (h : ∀ a, (y a).val = K.off a + (x a).val) : X (K.rect.emb x) = X y := get_at K X x y h

theorem stored_conv : convStored (Cert.MixerIdeal.grid0.coords t) I = convOut (Cert.MixerIdeal.grid0.coords t) I := by
  have e : ∀ X : Vec Ideal S16x1024 .bf16, halo.get X = X := fun X => funext (halo_at X)
  have b : (whole1.get I.bias : Vec Ideal S1x1024 .f32) = I.bias := funext fun y => get_at whole1 I.bias y y fun
    | 0 => (Nat.zero_add _).symm
    | 1 => (Nat.zero_add _).symm
  unfold convStored convOut convOf MixerBody.before
  rw [e, e, b]
  rfl

include O
theorem conv_piece (x : S256x1024.Idx) : convOut (Cert.MixerIdeal.grid0.coords t) I x = want Z C B G W T t (dyCols.rect.emb x) := by
  obtain ⟨r, j, rfl⟩ : ∃ (r : Fin 256) (j : Fin 1024), x = ix2 r j := ⟨x 0, x 1, eq_ix2 x⟩
  rw [box_at dyCols (want Z C B G W T t) (ix2 r j) (ix2 r (⟨j.val, by omega⟩ : Fin 2048)) fun
    | 0 => (Nat.zero_add _).symm
    | 1 => (Nat.zero_add _).symm]
  refine Eq.trans ?_ (left Z C B G W T (rowAt t r) j).symm
  pointwise [convOut]
  rw [colsOf_at O, convOf_at O]
  rfl
theorem gate_piece (h : Fin 8) (n : Fin 2) (x : S128x128.Idx) : gateOut I h n x = want Z C B G W T t ((chunkDy h n).rect.emb x) := by
  obtain ⟨a, b, rfl⟩ : ∃ a b : Fin 128, x = ix2 a b := ⟨x 0, x 1, eq_ix2 x⟩
  rw [box_at (chunkDy h n) (want Z C B G W T t) (ix2 a b) (ix2 (inBlock n a) (⟨1024 + (lane h b).val, by omega⟩ : Fin 2048)) fun
    | 0 => rfl
    | 1 => by show 1024 + (h.val * 128 + b.val) = 1024 + 128 * h.val + b.val; omega]
  refine Eq.trans ?_ ((right Z C B G W T (chunkAt t n) a h b).symm.trans
    (congrArg (fun R => val_main_v68 (F := Ideal) Z C B G W T (ix2 R _)) (rowAt_inBlock t n a).symm))
  pointwise [gateOut]
  rw [mOf_at O]
  exact congrArg (· * _) ((get_at (chunkU h n) I.z (ix2 a b) (ix2 (inBlock n a) (⟨1024 * 3 + (lane h b).val, by omega⟩ : Fin 5120)) fun
    | 0 => rfl
    | 1 => by show 1024 * 3 + (h.val * 128 + b.val) = 3072 + 128 * h.val + b.val; omega).trans ((O.z _ _).trans (by rw [rowAt_inBlock]; rfl)))
end

/-! ## The blocks a point finds -/

section
variable (m : (ℓ : Loc nD τ sig) → Buf (Elt Ideal) ℓ) (c : Dev nD)

abbrev X0 : Vec Ideal S4096x5120 .bf16 := m ((c : Thread nD τ).loc main_arg0)
abbrev X1 : Vec Ideal S1x3x1024 .f32 := m ((c : Thread nD τ).loc main_arg1)
abbrev X2 : Vec Ideal S1x1024 .f32 := m ((c : Thread nD τ).loc main_arg2)
abbrev X3 : Vec Ideal S1x1024 .f32 := m ((c : Thread nD τ).loc main_arg3)
abbrev X4 : Vec Ideal S1x8x128x128 .f32 := m ((c : Thread nD τ).loc main_arg4)
abbrev X5 : Vec Ideal S1x8x128 .f32 := m ((c : Thread nD τ).loc main_arg5)

/-- The arrays that the host prepares. -/
def taps : Vec Ideal S8x1024 .f32 :=
  pad S8x1024 ![0, 0] ![5, 0] ![0, 0] (shapeCast S3x1024 (X1 m c) shapeCasts_S1x3x1024_S3x1024) (sitofp .f32 (constantI S_ 32 0#32) : FVec Ideal S_ .f32)
    pads_S3x1024_S8x1024_050_000 h_S_
def mix : Vec Ideal S8x128x128 .f32 := shapeCast S8x128x128 (X4 m c) shapeCasts_S1x8x128x128_S8x128x128
def shift : Vec Ideal S128x8 .f32 :=
  transpose S128x8 [1, 0] (shapeCast S8x128 (X5 m c) shapeCasts_S1x8x128_S8x128) transposes_S8x128_S128x8_1_0
theorem host : V m c main_v4 = taps m c ∧ V m c main_v0 = mix m c ∧ V m c main_v2 = shift m c := ⟨rfl, rfl, rfl⟩

theorem at0 : ∀ t : Fin grid0.N, win0_0.index t = ![t.val, 0] ∧ win0_1.index t = ![t.val * 16 - 1, 1] ∧ win0_2.index t = ![t.val * 16 - 1, 2]
    ∧ win0_3.index t = ![0, 0] ∧ win0_4.index t = ![0, 0] ∧ win0_5.index t = ![0, 0] ∧ win0_6.index t = ![0, 0, 0]
    ∧ win0_7.index t = ![0, 0] ∧ win0_8.index t = ![t.val, 0] := by decide +kernel

variable (t : Fin cfg0.N)

abbrev blkOf (w : Fin cfg0.W) := ((cfg0.win w).blk t).view.read (Elt Ideal)

theorem read_z (A : Vec Ideal S4096x5120 .bf16) : (blkOf t 0 A = fun y => A (ix2 (rowAt t (y 0)) (y 1)))
    ∧ blkOf t 1 A = haloOf A (t.val * 16 - 1) 1 (by have : t.val < 16 := t.isLt; omega) (by decide)
    ∧ blkOf t 2 A = haloOf A (t.val * 16 - 1) 2 (by have : t.val < 16 := t.isLt; omega) (by decide) := by
  refine ⟨?_, ?_, ?_⟩ <;> funext y <;> blk_ext [blkOf, at0 t, rowAt, haloOf] <;> rfl
theorem read_whole (A : Vec Ideal S8x1024 .f32) (B G : Vec Ideal S1x1024 .f32) (W : Vec Ideal S8x128x128 .f32) (T : Vec Ideal S128x8 .f32) :
    blkOf t 3 A = A ∧ blkOf t 4 B = B ∧ blkOf t 5 G = G ∧ blkOf t 6 W = W ∧ blkOf t 7 T = T := by
  refine ⟨?_, ?_, ?_, ?_, ?_⟩ <;> funext y <;> blk_ext [blkOf, at0 t] <;> rfl

/-- The blocks, with nothing in those that only the gradients read. -/
def ins : Ins Ideal where
  z := iblk m c 0 t
  gHalo := iblk m c 1 t
  hHalo := iblk m c 2 t
  bHalo y := if h : t.val * 256 + 256 + (y 0).val < 4096 then part (X0 m c) 0 ⟨t.val * 256 + 256 + (y 0).val, h⟩ (y 1) else 0
  dy _ := 0
  dyHalo _ := 0
  taps := iblk m c 3 t
  bias := iblk m c 4 t
  gain := iblk m c 5 t
  mix := iblk m c 6 t
  shift := iblk m c 7 t

theorem finds : Of (X0 m c) (fun _ => 0) (X1 m c) (X2 m c) (X3 m c) (X4 m c) (X5 m c) t (ins m c t) where
  z r j := congrFun ((congrArg (blkOf t 0) (V_main_arg0 m c)).trans (read_z t _).1) (ix2 r j)
  dy _ _ := rfl
  before ht q j R hR := by
    have hr : (⟨(t.val * 16 - 1) * 16 + q.val, by omega⟩ : Fin 4096) = R := Fin.ext (by show (t.val * 16 - 1) * 16 + q.val = R.val; omega)
    exact ⟨(congrFun ((congrArg (blkOf t 1) (V_main_arg0 m c)).trans (read_z t _).2.1) (ix2 q j)).trans (congrArg (fun R => X0 m c (ix2 R _)) hr),
      (congrFun ((congrArg (blkOf t 2) (V_main_arg0 m c)).trans (read_z t _).2.2) (ix2 q j)).trans (congrArg (fun R => X0 m c (ix2 R _)) hr)⟩
  after ht q j R hR := by
    refine ⟨(dif_pos (show t.val * 256 + 256 + q.val < 4096 by omega)).trans ?_, rfl⟩
    exact congrArg (fun R => part (X0 m c) 0 R j) (Fin.ext hR.symm)
  taps k j := (congrFun ((congrArg (blkOf t 3) (host m c).1).trans (read_whole t _ (X2 m c) (X3 m c) (mix m c) (shift m c)).1) _).trans (by
    obtain ⟨k, hk⟩ := k
    iterate 3
      rcases k with _ | k
      · pointwise [taps]
    omega)
  bias j := congrFun ((congrArg (blkOf t 4) (V_main_arg2 m c)).trans (read_whole t (taps m c) _ (X3 m c) (mix m c) (shift m c)).2.1) _
  gain j := congrFun ((congrArg (blkOf t 5) (V_main_arg3 m c)).trans (read_whole t (taps m c) (X2 m c) _ (mix m c) (shift m c)).2.2.1) _
  mix h i k := (congrFun ((congrArg (blkOf t 6) (host m c).2.1).trans (read_whole t (taps m c) (X2 m c) (X3 m c) _ (shift m c)).2.2.2.1) _).trans
    (by pointwise [mix])
  shift a h := (congrFun ((congrArg (blkOf t 7) (host m c).2.2).trans (read_whole t (taps m c) (X2 m c) (X3 m c) (mix m c) _).2.2.2.2) _).trans
    (by pointwise [shift])

/-! ## The array after the run -/

theorem left_at : outsAt0 m c t = want (X0 m c) (X1 m c) (X2 m c) (X3 m c) (X4 m c) (X5 m c) t := by
  unfold outsAt0
  frame_out
  refine Eq.trans (b := View.canon (stores (grid0.coords t) (ins m c t))) (by sl_kernel_rfl) (funext fun y => ?_)
  refine View.canon_append_of_pieces (want (X0 m c) (X1 m c) (X2 m c) (X3 m c) (X4 m c) (X5 m c) t) [] (stores (grid0.coords t) (ins m c t)) (fun p hp => ?_) y
    (View.cover_of_tiledBy _ ![128, 128] (by sl_kernel_rfl) y)
  rcases List.mem_append.mp hp with hp | hp
  · obtain ⟨h, -, hp⟩ := List.mem_flatMap.mp hp
    rcases List.mem_pair.mp hp with rfl | rfl
    · exact gate_piece (finds m c t) h 1
    · exact gate_piece (finds m c t) h 0
  · obtain rfl := List.mem_singleton.mp hp
    exact fun x => (congrFun stored_conv x).trans (conv_piece (finds m c t) x)

theorem end_out : (dats m 0 c).arrAt 8 cfg0.N = val_main_v68 (F := Ideal) (X0 m c) (X1 m c) (X2 m c) (X3 m c) (X4 m c) (X5 m c) := by
  refine (dats m 0 c).arrAt_eq_of_covers 8 _ (by decide +kernel) fun t hf y => ?_
  blk_simp
  rw [after0_8, left_at]
  unfold want
  generalize val_main_v68 (F := Ideal) _ _ _ _ _ _ = E
  blk_ext [blkOf, at0 t, rowAt] <;> rfl

end

theorem algebraic : Cert.algebraic_MixFIdeal_MixFRefIdeal := by
  intro m ρ m' ρ' _ hagree
  refine ⟨fun c => val_main_v68 (F := Ideal) (X0 m c) (X1 m c) (X2 m c) (X3 m c) (X4 m c) (X5 m c), ?_, ?_⟩
  · refine (θ_run defs _ _).mono (fun r h c => ?_) (Cert.MixFIdeal.Value.run_blocks (F := Ideal) m ρ)
    obtain ⟨e, ea⟩ := h c
    exact ⟨e.trans (end_out m c), ea⟩
  · refine (θ_run Cert.MixFRefIdeal.defs _ _).mono (fun r h c => ?_) (Cert.MixFRefIdeal.Value.run (F := Ideal) m' ρ')
    obtain ⟨e, ea⟩ := h c
    rw [val_main_v68_eq] at e
    obtain ⟨a0, a1, a2, a3, a4, a5⟩ := hagree c
    refine ⟨e.trans ?_, ea⟩
    rw [a0, a1, a2, a3, a4, a5]

end Cert.MixFValue

end
-- ==== Proof.HalfFValue.lean ====
/- The gated product of the forward pass, half of the columns at a time: what the idealized program of the two calls ends
   holding, the second call on the results of the first, and that the reference ends holding the same. -/
module

public import proofs.«01_k».proof.Proof.GateFValue
public import proofs.«01_k».proof.Proof.Gen.HalfFIdeal.Frame
public import proofs.«01_k».proof.Proof.Gen.HalfFRefIdeal.Run
public import proofs.«01_k».proof.Proof.Gen.HalfFRefIdeal.Read
public import Idealize.ShloMosaic.Lib.Pipeline.ValueKit.Partial

@[expose] public section

set_option maxRecDepth 16384

noncomputable section

namespace Cert.HalfFValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HalfFIdeal Cert.HalfFIdeal.Gen
open Cert.GateFValue (gated prods gate)

/-! ## One point's blocks -/

/-- A row times a column of two blocks. -/
def dot (A : Vec Ideal S512x2048 .bf16) (B : Vec Ideal S2048x1408 .bf16) (r : Fin 512) (b : Fin 1408) : EReal :=
  ∑ k : Fin 2048, A (ix2 r k) * B (ix2 k b)

/-- The two products' block, by the leading coordinate. -/
def pair (A : Vec Ideal S512x2048 .bf16) (B C : Vec Ideal S2048x1408 .bf16) : Vec Ideal S2x512x1408 .bf16 :=
  fun y => dot A (if (y 0).val = 0 then B else C) (y 1) (y 2)

section Block
variable (A : Vec Ideal S512x2048 .bf16) (B C : Vec Ideal S2048x1408 .bf16)

theorem prod_at (r : Fin 512) (b : Fin 1408) : k0_pay3 (F := Ideal) A B (ix3 0 r b) = dot A B r b := by
  pointwise [k0_pay3, k0_pay1, dot]

theorem emb_at {g : ℕ} (i : ∀ a, ![g, 0, 0] a + ![1, 512, 1408] a ≤ S2x512x1408.size a) (r : Fin 512) (b : Fin 1408) :
    (Rect.unit (s := S2x512x1408) ![g, 0, 0] ![1, 512, 1408] i).emb (ix3 0 r b) = ix3 ⟨g, i 0⟩ r b := by
  funext k
  match k with
  | ⟨0, _⟩ => exact Fin.ext (by show g + 1 * 0 = g; omega)
  | ⟨1, _⟩ => exact Fin.ext (by show 0 + 1 * r.val = r.val; omega)
  | ⟨2, _⟩ => exact Fin.ext (by show 0 + 1 * b.val = b.val; omega)

theorem pair_left : View.canon [⟨r0_3, k0_pay3 (F := Ideal) A C⟩, ⟨r0_2, k0_pay3 (F := Ideal) A B⟩] = pair A B C := by
  funext y
  refine View.canon_append_of_piecesOf (pair A B C) [] [_, _] ⟨fun x => ?_, fun x => ?_, trivial⟩ y
    (View.cover_of_tiledL (s := S2x512x1408) _ ![1, 512, 1408] (by sl_kernel_rfl) y)
  · obtain ⟨r, b, rfl⟩ := Cert.SwigluValue.idx3 x
    exact (prod_at A C r b).trans (congrArg (pair A B C) (emb_at inb_S2x512x1408_S1x512x1408_1_0_0 r b)).symm
  · obtain ⟨r, b, rfl⟩ := Cert.SwigluValue.idx3 x
    exact (prod_at A B r b).trans (congrArg (pair A B C) (emb_at inb_S2x512x1408_S1x512x1408_0_0_0 r b)).symm

theorem gate_at (r : Fin 512) (b : Fin 1408) : k0_pay5 (F := Ideal) A B C (ix2 r b) = gated (dot A B r b) (dot A C r b) := by
  pointwise [k0_pay5, k0_pay1, k0_pay2, gated, dot, Ideal.logistic]

/-- What the first call leaves at a point. -/
theorem block0 : out0_3 (F := Ideal) A B C = pair A B C ∧ out0_4 (F := Ideal) A B C = k0_pay5 A B C := by
  constructor
  · refine Eq.trans ?_ (pair_left A B C); frame_out; rfl
  · frame_out

end Block

/-! ## The halves -/

/-- Half `h` of the columns: of each quarter, its first or its second 1408. -/
def half (h : Fin 2) (W : Vec Ideal S2048x11264 .bf16) : Vec Ideal S2048x5632 .bf16 :=
  fun y => W (ix2 (y 0) ⟨(y 1).val / 1408 * 2816 + h.val * 1408 + (y 1).val % 1408, by
    have : (y 1).val < 5632 := (y 1).isLt; have := h.isLt; omega⟩)

theorem cut_half (h : Fin 2) (W : Vec Ideal S2048x11264 .bf16) (hs : S2048x4x2x1408.Slices ![0, 0, h.val, 0] S2048x4x1x1408) :
    shapeCast S2048x5632 (shapeCast S2048x4x1408 (extractStridedSlice S2048x4x1x1408 ![0, 0, h.val, 0]
      (shapeCast S2048x4x2x1408 W shapeCasts_S2048x11264_S2048x4x2x1408) hs) shapeCasts_S2048x4x1x1408_S2048x4x1408)
      shapeCasts_S2048x4x1408_S2048x5632 = half h W := by
  funext y
  obtain ⟨k, s, rfl⟩ : ∃ (k : Fin 2048) (s : Fin 5632), y = ix2 k s := ⟨y 0, y 1, eq_ix2 y⟩
  have q : s.val / 1408 < 4 := by omega
  have b : s.val % 1408 < 1408 := by omega
  have hh := h.isLt
  refine (shapeCast_apply _ _ _ (ix3 k ⟨s.val / 1408, q⟩ ⟨s.val % 1408, b⟩) ?_).trans ?_
  · rw [Shape.rowMajor_val_three, Shape.rowMajor_val_two]
    show (k.val * 4 + s.val / 1408) * 1408 + s.val % 1408 = k.val * 5632 + s.val
    omega
  refine (shapeCast_apply _ _ _ (ix4 k ⟨s.val / 1408, q⟩ 0 ⟨s.val % 1408, b⟩) ?_).trans ?_
  · rw [Shape.rowMajor_val_four, Shape.rowMajor_val_three]
    show ((k.val * 4 + s.val / 1408) * 1 + 0) * 1408 + s.val % 1408 = (k.val * 4 + s.val / 1408) * 1408 + s.val % 1408
    omega
  refine (extractStridedSlice_apply _ _ _ _ (ix4 k ⟨s.val / 1408, q⟩ h ⟨s.val % 1408, b⟩) ?_).trans ?_
  · intro a
    match a with
    | ⟨0, _⟩ => show k.val = 0 + k.val; omega
    | ⟨1, _⟩ => show s.val / 1408 = 0 + s.val / 1408; omega
    | ⟨2, _⟩ => show h.val = h.val + 0; omega
    | ⟨3, _⟩ => show s.val % 1408 = 0 + s.val % 1408; omega
  refine (shapeCast_apply _ _ _ (ix2 k ⟨s.val / 1408 * 2816 + h.val * 1408 + s.val % 1408, by omega⟩) ?_).trans rfl
  rw [Shape.rowMajor_val_four, Shape.rowMajor_val_two]
  show k.val * 11264 + (s.val / 1408 * 2816 + h.val * 1408 + s.val % 1408) = ((k.val * 4 + s.val / 1408) * 2 + h.val) * 1408 + s.val % 1408
  omega

/-- The row of the array that is a row of a point's block, the column of the half, and the column of the array. -/
abbrev row (t : Fin 16) (r : Fin 512) : Fin 4096 := ⟨t.val % 8 * 512 + r.val, by omega⟩
abbrev sub (t : Fin 16) (b : Fin 1408) : Fin 5632 := ⟨t.val / 8 * 1408 + b.val, by omega⟩
abbrev sub' (t : Fin 16) (b : Fin 1408) : Fin 5632 := ⟨(t.val / 8 + 2) * 1408 + b.val, by omega⟩
abbrev cl (h : Fin 2) (t : Fin 16) (b : Fin 1408) : Fin 5632 := ⟨(t.val / 8 * 2 + h.val) * 1408 + b.val, by omega⟩

section Sums
variable (X0 : Vec Ideal S4096x2048 .bf16) (X1 : Vec Ideal S2048x11264 .bf16) (h : Fin 2) (t : Fin 16)

/-- One number of each product, from the blocks the point `t` reads of a half. -/
theorem sums (r : Fin 512) (b : Fin 1408) :
    dot (fun y => X0 (ix2 (row t (y 0)) (y 1))) (fun y => half h X1 (ix2 (y 0) (sub t (y 1)))) r b = prods X0 X1 (ix3 0 (row t r) (cl h t b))
      ∧ dot (fun y => X0 (ix2 (row t (y 0)) (y 1))) (fun y => half h X1 (ix2 (y 0) (sub' t (y 1)))) r b = prods X0 X1 (ix3 1 (row t r) (cl h t b)) := by
  constructor <;> refine Finset.sum_congr (M := EReal) rfl fun k _ => congrArg (fun p : EReal => _ * p) (congrArg X1 (congrArg (ix2 k) (Fin.ext ?_)))
  · show (t.val / 8 * 1408 + b.val) / 1408 * 2816 + h.val * 1408 + (t.val / 8 * 1408 + b.val) % 1408 = 0 * 5632 + ((t.val / 8 * 2 + h.val) * 1408 + b.val)
    have := h.isLt; omega
  · show ((t.val / 8 + 2) * 1408 + b.val) / 1408 * 2816 + h.val * 1408 + ((t.val / 8 + 2) * 1408 + b.val) % 1408 = 1 * 5632 + ((t.val / 8 * 2 + h.val) * 1408 + b.val)
    have := h.isLt; omega

theorem pair_sums (y : S2x512x1408.Idx) :
    pair (fun y => X0 (ix2 (row t (y 0)) (y 1))) (fun y => half h X1 (ix2 (y 0) (sub t (y 1)))) (fun y => half h X1 (ix2 (y 0) (sub' t (y 1)))) y
      = prods X0 X1 (ix3 (y 0) (row t (y 1)) (cl h t (y 2))) := by
  obtain ⟨g, r, b, rfl⟩ : ∃ (g : Fin 2) (r : Fin 512) (b : Fin 1408), y = ix3 g r b := ⟨y 0, y 1, y 2, eq_ix3 y⟩
  match g with
  | 0 => exact (sums X0 X1 h t r b).1
  | 1 => exact (sums X0 X1 h t r b).2

theorem gate_sums (y : S512x1408.Idx) :
    k0_pay5 (F := Ideal) (fun y => X0 (ix2 (row t (y 0)) (y 1))) (fun y => half h X1 (ix2 (y 0) (sub t (y 1)))) (fun y => half h X1 (ix2 (y 0) (sub' t (y 1)))) y
      = gate X0 X1 (ix2 (row t (y 0)) (cl h t (y 1))) := by
  obtain ⟨r, b, rfl⟩ : ∃ (r : Fin 512) (b : Fin 1408), y = ix2 r b := ⟨y 0, y 1, eq_ix2 y⟩
  exact (gate_at _ _ _ r b).trans (congrArg₂ gated (sums X0 X1 h t r b).1 (sums X0 X1 h t r b).2)

end Sums

/-! ## The run -/

theorem at0 : ∀ t : Fin grid0.N, win0_0.index t = ![t.val % 8, 0] ∧ win0_1.index t = ![0, t.val / 8] ∧ win0_2.index t = ![0, t.val / 8 + 2]
    ∧ win0_3.index t = ![0, t.val % 8, t.val / 8 * 2] ∧ win0_4.index t = ![t.val % 8, t.val / 8 * 2] := by decide +kernel
theorem at1 : ∀ t : Fin grid1.N, win1_0.index t = ![t.val % 8, 0] ∧ win1_1.index t = ![0, t.val / 8] ∧ win1_2.index t = ![0, t.val / 8 + 2]
    ∧ win1_3.index t = ![0, t.val % 8, t.val / 8 * 2 + 1] ∧ win1_4.index t = ![t.val % 8, t.val / 8 * 2 + 1] := by decide +kernel

section Run
variable (m : (ℓ : Loc nD τ sig) → Buf (Elt Ideal) ℓ) (ρ : Dev nD → PrngReg) (c : Dev nD)

abbrev X0 : Vec Ideal S4096x2048 .bf16 := m ((c : Thread nD τ).loc main_arg0)
abbrev X1 : Vec Ideal S2048x11264 .bf16 := m ((c : Thread nD τ).loc main_arg1)

/-- What the host cuts off. -/
theorem cut_left : W1 m ρ c (Proc.devRef .tc main_v3) = half 0 (X1 m c) := by
  refine Eq.trans ?_ (cut_half 0 (X1 m c) slices_S2048x4x2x1408_S2048x4x1x1408_0_0_0_0)
  after_results <;> rfl
theorem cut_right : W1 m ρ c (Proc.devRef .tc main_v6) = half 1 (X1 m c) := by
  refine Eq.trans ?_ (cut_half 1 (X1 m c) slices_S2048x4x2x1408_S2048x4x1x1408_0_0_1_0)
  after_results <;> rfl

theorem reads0 (t : Fin cfg0.N) : iblk0 (V1 m ρ) c 0 t = (fun y => X0 m c (ix2 (row t (y 0)) (y 1)))
    ∧ iblk0 (V1 m ρ) c 1 t = (fun y => half 0 (X1 m c) (ix2 (y 0) (sub t (y 1))))
    ∧ iblk0 (V1 m ρ) c 2 t = (fun y => half 0 (X1 m c) (ix2 (y 0) (sub' t (y 1)))) := by
  refine ⟨?_, ?_, ?_⟩ <;> unfold iblk0
  · rw [show V1 m ρ c (Pipeline.arrRef spec0 0) = X0 m c from W1_args m ρ c _ (by decide)]
    funext y; blk_ext! [at0 t, row]
  · rw [show V1 m ρ c (Pipeline.arrRef spec0 1) = half 0 (X1 m c) from cut_left m ρ c]
    generalize half 0 (X1 m c) = G
    funext y; blk_ext! [at0 t, sub]
  · rw [show V1 m ρ c (Pipeline.arrRef spec0 2) = half 0 (X1 m c) from cut_left m ρ c]
    generalize half 0 (X1 m c) = G
    funext y; blk_ext! [at0 t, sub']

theorem reads1 (t : Fin cfg1.N) : iblk1 (V3 m ρ) c 0 t = (fun y => X0 m c (ix2 (row t (y 0)) (y 1)))
    ∧ iblk1 (V3 m ρ) c 1 t = (fun y => half 1 (X1 m c) (ix2 (y 0) (sub t (y 1))))
    ∧ iblk1 (V3 m ρ) c 2 t = (fun y => half 1 (X1 m c) (ix2 (y 0) (sub' t (y 1)))) := by
  have e : V3 m ρ c main_v6 = half 1 (X1 m c) :=
    (W3_of m ρ c main_v6 (by decide)).trans ((W2_of m ρ c main_v6 (by decide)).trans (cut_right m ρ c))
  refine ⟨?_, ?_, ?_⟩ <;> unfold iblk1
  · rw [show V3 m ρ c (Pipeline.arrRef spec1 0) = X0 m c from W3_args m ρ c _ (by decide)]
    funext y; blk_ext! [at1 t, row]
  · rw [show V3 m ρ c (Pipeline.arrRef spec1 1) = half 1 (X1 m c) from e]
    generalize half 1 (X1 m c) = G
    funext y; blk_ext! [at1 t, sub]
  · rw [show V3 m ρ c (Pipeline.arrRef spec1 2) = half 1 (X1 m c) from e]
    generalize half 1 (X1 m c) = G
    funext y; blk_ext! [at1 t, sub']

/-! ## The arrays -/

/-- The first call writes the even blocks of columns. -/
theorem left_pair (i : S2x4096x5632.Idx) : (dat0 (V1 m ρ) c).arrAt 3 cfg0.N i
    = if (i 2).val / 1408 % 2 = 0 then prods (X0 m c) (X1 m c) i else (dat0 (V1 m ρ) c).A 3 i := by
  refine (dat0 (V1 m ρ) c).arrAt_apply_of_coversWhere 3 (prods (X0 m c) (X1 m c)) (P := fun i : S2x4096x5632.Idx => (i 2).val / 1408 % 2 = 0)
    (fun β => β (2 : Fin 3) % 2 = 0) (by decide +kernel)
    (fun t hf y => ?_) (fun j => Iff.rfl) i
  blk_simp
  rw [after0_3, (block0 _ _ _).1, (reads0 m ρ c t).1, (reads0 m ρ c t).2.1, (reads0 m ρ c t).2.2]
  refine (pair_sums (X0 m c) (X1 m c) 0 t y).trans ?_
  generalize prods _ _ = G; blk_ext [at0 t, row, cl]

theorem left_gate (i : S4096x5632.Idx) : (dat0 (V1 m ρ) c).arrAt 4 cfg0.N i
    = if (i 1).val / 1408 % 2 = 0 then gate (X0 m c) (X1 m c) i else (dat0 (V1 m ρ) c).A 4 i := by
  refine (dat0 (V1 m ρ) c).arrAt_apply_of_coversWhere 4 (gate (X0 m c) (X1 m c)) (P := fun i : S4096x5632.Idx => (i 1).val / 1408 % 2 = 0)
    (fun β => β (1 : Fin 2) % 2 = 0) (by decide +kernel)
    (fun t hf y => ?_) (fun j => Iff.rfl) i
  blk_simp
  rw [after0_4, (block0 _ _ _).2, (reads0 m ρ c t).1, (reads0 m ρ c t).2.1, (reads0 m ρ c t).2.2]
  refine (gate_sums (X0 m c) (X1 m c) 0 t y).trans ?_
  generalize gate _ _ = G; blk_ext [at0 t, row, cl]

/-- What the second call leaves at a point. -/
theorem block1 (t : Fin cfg1.N) : outsAt1 (V3 m ρ) c t
    = (pair (iblk1 (V3 m ρ) c 0 t) (iblk1 (V3 m ρ) c 1 t) (iblk1 (V3 m ρ) c 2 t),
      k0_pay5 (iblk1 (V3 m ρ) c 0 t) (iblk1 (V3 m ρ) c 1 t) (iblk1 (V3 m ρ) c 2 t)) := by
  unfold outsAt1
  generalize iblk1 (V3 m ρ) c 0 t = A
  generalize iblk1 (V3 m ρ) c 1 t = B
  generalize iblk1 (V3 m ρ) c 2 t = C
  refine Prod.ext ?_ ?_
  · refine Eq.trans ?_ (pair_left A B C); frame_out; rfl
  · frame_out; rfl

/-- The second call starts from the first's arrays. -/
theorem copies : V3 m ρ c main_v8_0 = (dat0 (V1 m ρ) c).arrAt 3 cfg0.N ∧ V3 m ρ c main_v8_1 = (dat0 (V1 m ρ) c).arrAt 4 cfg0.N := by
  constructor
  · refine Eq.trans ?_ (W2_arr m ρ c 3)
    after_results <;> rfl
  · refine Eq.trans ?_ (W2_arr m ρ c 4)
    after_results <;> rfl

theorem end_pair : (dat1 (V3 m ρ) c).arrAt 3 cfg1.N = prods (X0 m c) (X1 m c) := by
  refine (dat1 (V3 m ρ) c).arrAt_eq_of_coversWhere_of_agree 3 _ (fun β => β (2 : Fin 3) % 2 = 1) (by decide +kernel) (fun t hf y => ?_) (fun j hj => ?_)
  · blk_simp
    rw [after1_3, block1, (reads1 m ρ c t).1, (reads1 m ρ c t).2.1, (reads1 m ρ c t).2.2]
    refine (pair_sums (X0 m c) (X1 m c) 1 t y).trans ?_
    generalize prods _ _ = G; blk_ext [at1 t, row, cl]
  · refine (congrFun (copies m ρ c).1 j).trans ((left_pair m ρ c j).trans (if_pos ?_))
    exact (Nat.mod_two_eq_zero_or_one _).resolve_right hj

theorem end_gate : (dat1 (V3 m ρ) c).arrAt 4 cfg1.N = gate (X0 m c) (X1 m c) := by
  refine (dat1 (V3 m ρ) c).arrAt_eq_of_coversWhere_of_agree 4 _ (fun β => β (1 : Fin 2) % 2 = 1) (by decide +kernel) (fun t hf y => ?_) (fun j hj => ?_)
  · blk_simp
    rw [after1_4, block1, (reads1 m ρ c t).1, (reads1 m ρ c t).2.1, (reads1 m ρ c t).2.2]
    refine (gate_sums (X0 m c) (X1 m c) 1 t y).trans ?_
    generalize gate _ _ = G; blk_ext [at1 t, row, cl]
  · refine (congrFun (copies m ρ c).2 j).trans ((left_gate m ρ c j).trans (if_pos ?_))
    exact (Nat.mod_two_eq_zero_or_one _).resolve_right hj

/-- The two calls' program ends as its segments leave it. -/
theorem run : θ_run defs (onTc (τ := τ) (main (F := Ideal))) ⟨m, fun _ => 0, ρ⟩
    (fun r => (∀ c : Dev nD, ∀ b ∈ Pipeline.ucRefs τ sig, r.2.mem (c, b) = W4 m ρ c b) ∧ r.2.sem = fun _ => 0) :=
  Cert.Held.run_segs (pcfgs (F := Ideal)) adm (pdats m ρ) cellOf_inj defs₀ m ρ main (segs m ρ) (main_run m ρ)
    (by simp only [segs, Pipeline.Seg.pipes_host, Pipeline.Seg.pipes_region, Pipeline.Seg.pipes_nil]; decide) (W4 m ρ)
    ⟨fun _ => .rfl, fun _ => .rfl, fun _ => .rfl, fun _ => .rfl, fun c => by
      unfold Cert.Held.between
      show iprop((StableHlo.held (c : Thread nD τ) (Pipeline.ucRefs τ sig) (W4 m ρ c) ∗ ∃ r, prngReg c r)
        ∗ ∃ Wd, owes (c : Thread nD τ) (0 : CellTallies nD τ sig Unit) Wd) ⊢ _
      iintro ⟨⟨Hh, Hp⟩, HO⟩
      isplitl [Hh]; · iexact Hh
      isplitl [Hp]; · iexact Hp
      iexact HO⟩
    no_unscoped

end Run

theorem algebraic : Cert.algebraic_HalfFIdeal_HalfFRefIdeal := by
  intro m ρ m' ρ' _ hagree
  refine ⟨fun c => prods (X0 m c) (X1 m c), fun c => gate (X0 m c) (X1 m c), ?_, ?_⟩
  · refine (θ_run defs _ _).mono (fun r h c => ?_) (run m ρ)
    have hb := fun b hb => h.1 c _ (mem_uc b hb)
    exact ⟨(hb main_v8_0 (by decide)).trans ((W4_arr m ρ c 3).trans (end_pair m ρ c)),
      (hb main_v8_1 (by decide)).trans ((W4_arr m ρ c 4).trans (end_gate m ρ c)),
      (hb main_arg0 (by decide)).trans (W4_main_arg0 m ρ c), (hb main_arg1 (by decide)).trans (W4_main_arg1 m ρ c)⟩
  · refine (θ_run Cert.HalfFRefIdeal.defs _ _).mono (fun r h c => ?_) (Cert.HalfFRefIdeal.Value.run (F := Ideal) m' ρ')
    obtain ⟨e3, e4, ea⟩ := h c
    obtain ⟨a0, a1⟩ := hagree c
    rw [Cert.HalfFRefIdeal.Read.val_main_v8_eq] at e3
    rw [Cert.HalfFRefIdeal.Read.val_main_v11_eq] at e4
    refine ⟨e3.trans ((Cert.GateFValue.pair_ref _ _).trans ?_), e4.trans ((Cert.GateFValue.gate_ref _ _).trans ?_), ea⟩ <;> rw [a0, a1]

end Cert.HalfFValue

end
-- ==== Proof.NnValue.lean ====
/- The product of the normed rows and the mixer's weight: what the idealized kernel ends holding, and that the reference
   ends holding the same. -/
module

public import proofs.«01_k».proof.Proof.Gen.NnIdeal.Value
public import proofs.«01_k».proof.Proof.Gen.NnRefIdeal.Run
public import proofs.«01_k».proof.Proof.Gen.NnRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.NnValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.NnIdeal Cert.NnIdeal.Gen Cert.NnRefIdeal.Read

/-- The product of the rows and the weight. -/
def prod (x0 : Vec Ideal S4096x2048 .bf16) (x1 : Vec Ideal S2048x5120 .bf16) : Vec Ideal S4096x5120 .bf16 :=
  fun y => (∑ k : Fin 2048, x0 (ix2 (y 0) k) * x1 (ix2 k (y 1)) : EReal)

theorem block (A : Vec Ideal S1024x2048 .bf16) (B : Vec Ideal S2048x1024 .bf16) (r b : Fin 1024) :
    out0_2 (F := Ideal) A B (ix2 r b) = (∑ k : Fin 2048, A (ix2 r k) * B (ix2 k b) : EReal) := by
  have e : out0_2 (F := Ideal) A B = k0_pay1 A B := by frame_out
  rw [e]
  pointwise [k0_pay1]

theorem ref (x0 : Vec Ideal S4096x2048 .bf16) (x1 : Vec Ideal S2048x5120 .bf16) : val_main_v3 (F := Ideal) x0 x1 = prod x0 x1 := by
  funext y
  obtain ⟨r, s, rfl⟩ : ∃ (r : Fin 4096) (s : Fin 5120), y = ix2 r s := ⟨y 0, y 1, eq_ix2 y⟩
  pointwise [val_main_v3, val_main_v2, val_main_v1, val_main_v0, prod]

theorem at0 : ∀ t : Fin grid0.N, win0_0.index t = ![t.val % 4, 0] ∧ win0_1.index t = ![0, t.val / 4]
    ∧ win0_2.index t = ![t.val % 4, t.val / 4] := by decide +kernel

/-- The row and the column of the array that are a point's. -/
abbrev row (t : Fin 20) (r : Fin 1024) : Fin 4096 := ⟨t.val % 4 * 1024 + r.val, by omega⟩
abbrev cl (t : Fin 20) (b : Fin 1024) : Fin 5120 := ⟨t.val / 4 * 1024 + b.val, by omega⟩

section Points
variable (m : (ℓ : Loc nD τ sig) → Buf (Elt Ideal) ℓ) (c : Dev nD)

abbrev X0 : Vec Ideal S4096x2048 .bf16 := m ((c : Thread nD τ).loc main_arg0)
abbrev X1 : Vec Ideal S2048x5120 .bf16 := m ((c : Thread nD τ).loc main_arg1)

theorem ends : (dats m 0 c).arrAt 2 cfg0.N = prod (X0 m c) (X1 m c) := by
  refine (dats m 0 c).arrAt_eq_of_covers 2 _ (by decide +kernel) fun t hf y => ?_
  blk_simp
  rw [after0_2]
  obtain ⟨r, b, rfl⟩ : ∃ (r b : Fin 1024), y = ix2 r b := ⟨y 0, y 1, eq_ix2 y⟩
  refine (block _ _ r b).trans ?_
  refine Eq.trans ?_ (show prod (X0 m c) (X1 m c) (ix2 (row t r) (cl t b)) = _ by generalize prod _ _ = G; blk_ext [at0 t, row, cl])
  have e0 : iblk m c 0 t = fun y => X0 m c (ix2 (row t (y 0)) (y 1)) := by funext y; blk_ext! [iblk, at0 t, row]
  have e1 : iblk m c 1 t = fun y => X1 m c (ix2 (y 0) (cl t (y 1))) := by funext y; blk_ext! [iblk, at0 t, cl]
  rw [e0, e1]; rfl

end Points

theorem algebraic : Cert.algebraic_NnIdeal_NnRefIdeal := by
  intro m ρ m' ρ' _ hagree
  refine ⟨fun c => prod (X0 m c) (X1 m c), ?_, ?_⟩
  · refine (θ_run defs _ _).mono (fun r h c => ?_) (Cert.NnIdeal.Value.run_blocks (F := Ideal) m ρ)
    obtain ⟨e, ea⟩ := h c
    exact ⟨e.trans (ends m c), ea⟩
  · refine (θ_run Cert.NnRefIdeal.defs _ _).mono (fun r h c => ?_) (Cert.NnRefIdeal.Value.run (F := Ideal) m' ρ')
    obtain ⟨e, ea⟩ := h c
    obtain ⟨a0, a1⟩ := hagree c
    rw [val_main_v3_eq, ref] at e
    refine ⟨e.trans ?_, ea⟩; rw [a0, a1]

end Cert.NnValue

end
-- ==== Proof.ResidValue.lean ====
/- The second feed-forward's last product with the rows it is added to: what the idealized kernel ends holding, and that the
   reference ends holding the same. -/
module

public import proofs.«01_k».proof.Proof.Gen.ResidIdeal.Value
public import proofs.«01_k».proof.Proof.Gen.ResidRefIdeal.Run
public import proofs.«01_k».proof.Proof.Gen.ResidRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.ResidValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ResidIdeal Cert.ResidIdeal.Gen Cert.ResidRefIdeal.Read

/-- The rows and half the product. -/
def sum (x0 : Vec Ideal S4096x5632 .bf16) (x1 : Vec Ideal S5632x2048 .bf16) (x2 : Vec Ideal S4096x2048 .f32) : Vec Ideal S4096x2048 .f32 :=
  fun y => (x2 y + Ideal.ofBits .f32 0x3F000000#32 * ∑ k : Fin 5632, x0 (ix2 (y 0) k) * x1 (ix2 k (y 1)) : EReal)

theorem block (A : Vec Ideal S512x5632 .bf16) (B : Vec Ideal S5632x1024 .bf16) (H : Vec Ideal S512x1024 .f32) (r : Fin 512) (b : Fin 1024) :
    out0_3 (F := Ideal) A B H (ix2 r b)
      = (H (ix2 r b) + Ideal.ofBits .f32 0x3F000000#32 * ∑ k : Fin 5632, A (ix2 r k) * B (ix2 k b) : EReal) := by
  have e : out0_3 (F := Ideal) A B H = k0_pay1 A B H := by frame_out
  rw [e]
  pointwise [k0_pay1]

theorem ref (x0 : Vec Ideal S4096x5632 .bf16) (x1 : Vec Ideal S5632x2048 .bf16) (x2 : Vec Ideal S4096x2048 .f32) :
    val_main_v5 (F := Ideal) x0 x1 x2 = sum x0 x1 x2 := by
  funext y
  obtain ⟨r, s, rfl⟩ : ∃ (r : Fin 4096) (s : Fin 2048), y = ix2 r s := ⟨y 0, y 1, eq_ix2 y⟩
  pointwise [val_main_v5, val_main_v4, val_main_v3, val_main_cst, val_main_v2, val_main_v1, val_main_v0, sum]

theorem at0 : ∀ t : Fin grid0.N, win0_0.index t = ![t.val % 8, 0] ∧ win0_1.index t = ![0, t.val / 8]
    ∧ win0_2.index t = ![t.val % 8, t.val / 8] ∧ win0_3.index t = ![t.val % 8, t.val / 8] := by decide +kernel

/-- The row and the column of the array that are a point's. -/
abbrev row (t : Fin 16) (r : Fin 512) : Fin 4096 := ⟨t.val % 8 * 512 + r.val, by omega⟩
abbrev cl (t : Fin 16) (b : Fin 1024) : Fin 2048 := ⟨t.val / 8 * 1024 + b.val, by omega⟩

section Points
variable (m : (ℓ : Loc nD τ sig) → Buf (Elt Ideal) ℓ) (c : Dev nD)

abbrev X0 : Vec Ideal S4096x5632 .bf16 := m ((c : Thread nD τ).loc main_arg0)
abbrev X1 : Vec Ideal S5632x2048 .bf16 := m ((c : Thread nD τ).loc main_arg1)
abbrev X2 : Vec Ideal S4096x2048 .f32 := m ((c : Thread nD τ).loc main_arg2)

theorem ends : (dats m 0 c).arrAt 3 cfg0.N = sum (X0 m c) (X1 m c) (X2 m c) := by
  refine (dats m 0 c).arrAt_eq_of_covers 3 _ (by decide +kernel) fun t hf y => ?_
  blk_simp
  rw [after0_3]
  obtain ⟨r, b, rfl⟩ : ∃ (r : Fin 512) (b : Fin 1024), y = ix2 r b := ⟨y 0, y 1, eq_ix2 y⟩
  refine (block _ _ _ r b).trans ?_
  refine Eq.trans ?_ (show sum (X0 m c) (X1 m c) (X2 m c) (ix2 (row t r) (cl t b)) = _ by generalize sum _ _ _ = G; blk_ext [at0 t, row, cl])
  have e0 : iblk m c 0 t = fun y => X0 m c (ix2 (row t (y 0)) (y 1)) := by funext y; blk_ext! [iblk, at0 t, row]
  have e1 : iblk m c 1 t = fun y => X1 m c (ix2 (y 0) (cl t (y 1))) := by funext y; blk_ext! [iblk, at0 t, cl]
  have e2 : iblk m c 2 t = fun y => X2 m c (ix2 (row t (y 0)) (cl t (y 1))) := by funext y; blk_ext! [iblk, at0 t, row, cl]
  rw [e0, e1, e2]; rfl

end Points

theorem algebraic : Cert.algebraic_ResidIdeal_ResidRefIdeal := by
  intro m ρ m' ρ' _ hagree
  refine ⟨fun c => sum (X0 m c) (X1 m c) (X2 m c), ?_, ?_⟩
  · refine (θ_run defs _ _).mono (fun r h c => ?_) (Cert.ResidIdeal.Value.run_blocks (F := Ideal) m ρ)
    obtain ⟨e, ea⟩ := h c
    exact ⟨e.trans (ends m c), ea⟩
  · refine (θ_run Cert.ResidRefIdeal.defs _ _).mono (fun r h c => ?_) (Cert.ResidRefIdeal.Value.run (F := Ideal) m' ρ')
    obtain ⟨e, ea⟩ := h c
    obtain ⟨a0, a1, a2⟩ := hagree c
    rw [val_main_v5_eq, ref] at e
    refine ⟨e.trans ?_, ea⟩; rw [a0, a1, a2]

end Cert.ResidValue

end
-- ==== Proof.NtValue.lean ====
/- The gradient of the mixer's rows, a product with the weight's transpose: what the idealized kernel ends holding, and that
   the reference ends holding the same. -/
module

public import proofs.«01_k».proof.Proof.Gen.NtIdeal.Value
public import proofs.«01_k».proof.Proof.Gen.NtRefIdeal.Run
public import proofs.«01_k».proof.Proof.Gen.NtRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.NtValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.NtIdeal Cert.NtIdeal.Gen Cert.NtRefIdeal.Read

/-- The product of the rows `x1` and the transpose of the weight `x0`. -/
def prod (x0 : Vec Ideal S2048x2048 .bf16) (x1 : Vec Ideal S4096x2048 .bf16) : Vec Ideal S4096x2048 .bf16 :=
  fun y => (∑ k : Fin 2048, x1 (ix2 (y 0) k) * x0 (ix2 (y 1) k) : EReal)

theorem block (A B : Vec Ideal S1024x2048 .bf16) (r b : Fin 1024) :
    out0_2 (F := Ideal) A B (ix2 r b) = (∑ k : Fin 2048, A (ix2 r k) * B (ix2 b k) : EReal) := by
  have e : out0_2 (F := Ideal) A B = k0_pay1 A B := by frame_out
  rw [e]
  pointwise [k0_pay1]

theorem ref (x0 : Vec Ideal S2048x2048 .bf16) (x1 : Vec Ideal S4096x2048 .bf16) : val_main_v3 (F := Ideal) x0 x1 = prod x0 x1 := by
  funext y
  obtain ⟨r, s, rfl⟩ : ∃ (r : Fin 4096) (s : Fin 2048), y = ix2 r s := ⟨y 0, y 1, eq_ix2 y⟩
  pointwise [val_main_v3, val_main_v2, val_main_v1, val_main_v0, prod]

theorem at0 : ∀ t : Fin grid0.N, win0_0.index t = ![t.val % 4, 0] ∧ win0_1.index t = ![t.val / 4, 0]
    ∧ win0_2.index t = ![t.val % 4, t.val / 4] := by decide +kernel

/-- The row and the column of the array that are a point's. -/
abbrev row (t : Fin 8) (r : Fin 1024) : Fin 4096 := ⟨t.val % 4 * 1024 + r.val, by omega⟩
abbrev cl (t : Fin 8) (b : Fin 1024) : Fin 2048 := ⟨t.val / 4 * 1024 + b.val, by omega⟩

section Points
variable (m : (ℓ : Loc nD τ sig) → Buf (Elt Ideal) ℓ) (c : Dev nD)

abbrev X0 : Vec Ideal S2048x2048 .bf16 := m ((c : Thread nD τ).loc main_arg0)
abbrev X1 : Vec Ideal S4096x2048 .bf16 := m ((c : Thread nD τ).loc main_arg1)

theorem ends : (dats m 0 c).arrAt 2 cfg0.N = prod (X0 m c) (X1 m c) := by
  refine (dats m 0 c).arrAt_eq_of_covers 2 _ (by decide +kernel) fun t hf y => ?_
  blk_simp
  rw [after0_2]
  obtain ⟨r, b, rfl⟩ : ∃ (r b : Fin 1024), y = ix2 r b := ⟨y 0, y 1, eq_ix2 y⟩
  refine (block _ _ r b).trans ?_
  refine Eq.trans ?_ (show prod (X0 m c) (X1 m c) (ix2 (row t r) (cl t b)) = _ by generalize prod _ _ = G; blk_ext [at0 t, row, cl])
  have e0 : iblk m c 0 t = fun y => X1 m c (ix2 (row t (y 0)) (y 1)) := by funext y; blk_ext! [iblk, at0 t, row]
  have e1 : iblk m c 1 t = fun y => X0 m c (ix2 (cl t (y 0)) (y 1)) := by funext y; blk_ext! [iblk, at0 t, cl]
  rw [e0, e1]; rfl

end Points

theorem algebraic : Cert.algebraic_NtIdeal_NtRefIdeal := by
  intro m ρ m' ρ' _ hagree
  refine ⟨fun c => prod (X0 m c) (X1 m c), ?_, ?_⟩
  · refine (θ_run defs _ _).mono (fun r h c => ?_) (Cert.NtIdeal.Value.run_blocks (F := Ideal) m ρ)
    obtain ⟨e, ea⟩ := h c
    exact ⟨e.trans (ends m c), ea⟩
  · refine (θ_run Cert.NtRefIdeal.defs _ _).mono (fun r h c => ?_) (Cert.NtRefIdeal.Value.run (F := Ideal) m' ρ')
    obtain ⟨e, ea⟩ := h c
    obtain ⟨a0, a1⟩ := hagree c
    rw [val_main_v3_eq, ref] at e
    refine ⟨e.trans ?_, ea⟩; rw [a0, a1]

end Cert.NtValue

end
-- ==== Proof.TnValue.lean ====
/- The gradient of the second feed-forward's last weight on one device's rows: what the idealized kernel ends holding, and
   that the reference ends holding the same. -/
module

public import proofs.«01_k».proof.Proof.Reals
public import proofs.«01_k».proof.Proof.Gen.TnIdeal.Value
public import proofs.«01_k».proof.Proof.Gen.TnRefIdeal.Run
public import proofs.«01_k».proof.Proof.Gen.TnRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.TnValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.TnIdeal Cert.TnIdeal.Gen Cert.TnRefIdeal.Read

/-- The product of the transpose of `x0` and `x1`, halved. -/
def prod (x0 : Vec Ideal S4096x5632 .bf16) (x1 : Vec Ideal S4096x2048 .bf16) : Vec Ideal S5632x2048 .bf16 :=
  fun y => ((∑ k : Fin 4096, x0 (ix2 k (y 0)) * x1 (ix2 k (y 1))) * Ideal.ofBits .f32 0x3F000000#32 : EReal)

/-- Halving a sum of products halves a factor of each, whatever the factors are. -/
theorem half_sum {n : ℕ} (f g : Fin n → EReal) :
    (∑ k, Ideal.ofBits .f32 0x3F000000#32 * g k * f k : EReal) = (∑ k, f k * g k) * Ideal.ofBits .f32 0x3F000000#32 := by
  rw [Cert.Reals.half_f32]
  have h0 : (0 : EReal) ≤ ((1 / 2 : ℝ) : EReal) := by exact_mod_cast (by norm_num : (0 : ℝ) ≤ 1 / 2)
  have key : ∀ s : Finset (Fin n), (∑ k ∈ s, ((1 / 2 : ℝ) : EReal) * g k * f k) = (∑ k ∈ s, f k * g k) * ((1 / 2 : ℝ) : EReal) := by
    intro s
    induction s using Finset.cons_induction with
    | empty => simp
    | cons a s h ih =>
      rw [Finset.sum_cons, Finset.sum_cons, ih, EReal.right_distrib_of_nonneg_of_ne_top h0 (EReal.coe_ne_top _)]
      congr 1
      rw [mul_assoc, mul_comm, mul_comm (f a)]
  exact key Finset.univ

theorem block (A : Vec Ideal S4096x512 .bf16) (B : Vec Ideal S4096x1024 .bf16) (r : Fin 512) (b : Fin 1024) :
    out0_2 (F := Ideal) A B (ix2 r b) = ((∑ k : Fin 4096, A (ix2 k r) * B (ix2 k b)) * Ideal.ofBits .f32 0x3F000000#32 : EReal) := by
  have e : out0_2 (F := Ideal) A B = k0_pay1 A B := by frame_out
  rw [e]
  pointwise [k0_pay1]

theorem ref (x0 : Vec Ideal S4096x5632 .bf16) (x1 : Vec Ideal S4096x2048 .bf16) : val_main_v6 (F := Ideal) x0 x1 = prod x0 x1 := by
  funext y
  obtain ⟨r, s, rfl⟩ : ∃ (r : Fin 5632) (s : Fin 2048), y = ix2 r s := ⟨y 0, y 1, eq_ix2 y⟩
  refine Eq.trans (?_ : _ = (∑ k : Fin 4096, Ideal.ofBits .f32 0x3F000000#32 * x1 (ix2 k s) * x0 (ix2 k r) : EReal)) (half_sum _ _)
  pointwise [val_main_v6, val_main_v5, val_main_v4, val_main_v3, val_main_v2, val_main_cst, val_main_v1, val_main_v0]

theorem at0 : ∀ t : Fin grid0.N, win0_0.index t = ![0, t.val % 11] ∧ win0_1.index t = ![0, t.val / 11]
    ∧ win0_2.index t = ![t.val % 11, t.val / 11] := by decide +kernel

/-- The row and the column of the array that are a point's. -/
abbrev row (t : Fin 22) (r : Fin 512) : Fin 5632 := ⟨t.val % 11 * 512 + r.val, by omega⟩
abbrev cl (t : Fin 22) (b : Fin 1024) : Fin 2048 := ⟨t.val / 11 * 1024 + b.val, by omega⟩

section Points
variable (m : (ℓ : Loc nD τ sig) → Buf (Elt Ideal) ℓ) (c : Dev nD)

abbrev X0 : Vec Ideal S4096x5632 .bf16 := m ((c : Thread nD τ).loc main_arg0)
abbrev X1 : Vec Ideal S4096x2048 .bf16 := m ((c : Thread nD τ).loc main_arg1)

theorem ends : (dats m 0 c).arrAt 2 cfg0.N = prod (X0 m c) (X1 m c) := by
  refine (dats m 0 c).arrAt_eq_of_covers 2 _ (by decide +kernel) fun t hf y => ?_
  blk_simp
  rw [after0_2]
  obtain ⟨r, b, rfl⟩ : ∃ (r : Fin 512) (b : Fin 1024), y = ix2 r b := ⟨y 0, y 1, eq_ix2 y⟩
  refine (block _ _ r b).trans ?_
  refine Eq.trans ?_ (show prod (X0 m c) (X1 m c) (ix2 (row t r) (cl t b)) = _ by generalize prod _ _ = G; blk_ext [at0 t, row, cl])
  have e0 : iblk m c 0 t = fun y => X0 m c (ix2 (y 0) (row t (y 1))) := by funext y; blk_ext! [iblk, at0 t, row]
  have e1 : iblk m c 1 t = fun y => X1 m c (ix2 (y 0) (cl t (y 1))) := by funext y; blk_ext! [iblk, at0 t, cl]
  rw [e0, e1]; rfl

end Points

theorem algebraic : Cert.algebraic_TnIdeal_TnRefIdeal := by
  intro m ρ m' ρ' _ hagree
  refine ⟨fun c => prod (X0 m c) (X1 m c), ?_, ?_⟩
  · refine (θ_run defs _ _).mono (fun r h c => ?_) (Cert.TnIdeal.Value.run_blocks (F := Ideal) m ρ)
    obtain ⟨e, ea⟩ := h c
    exact ⟨e.trans (ends m c), ea⟩
  · refine (θ_run Cert.TnRefIdeal.defs _ _).mono (fun r h c => ?_) (Cert.TnRefIdeal.Value.run (F := Ideal) m' ρ')
    obtain ⟨e, ea⟩ := h c
    obtain ⟨a0, a1⟩ := hagree c
    rw [val_main_v6_eq, ref] at e
    refine ⟨e.trans ?_, ea⟩; rw [a0, a1]

end Cert.TnValue

end
-- ==== Proof.TnPairValue.lean ====
/- The gradient of the second feed-forward's first weight on one device's rows: what the idealized kernel ends holding, and
   that the reference ends holding the same. -/
module

public import proofs.«01_k».proof.Proof.Gen.TnPairIdeal.Value
public import proofs.«01_k».proof.Proof.Gen.TnPairRefIdeal.Run
public import proofs.«01_k».proof.Proof.Gen.TnPairRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.TnPairValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.TnPairIdeal Cert.TnPairIdeal.Gen Cert.TnPairRefIdeal.Read

/-- The two halves side by side. -/
def joined (x1 : Vec Ideal S2x4096x5632 .bf16) (k : Fin 4096) (s : Fin 11264) : EReal :=
  x1 (ix3 ⟨s.val / 5632, by omega⟩ k ⟨s.val % 5632, Nat.mod_lt _ (by decide)⟩)

/-- The product of the transpose of `x0` and the two halves side by side. -/
def prod (x0 : Vec Ideal S4096x2048 .bf16) (x1 : Vec Ideal S2x4096x5632 .bf16) : Vec Ideal S2048x11264 .bf16 :=
  fun y => (∑ k : Fin 4096, x0 (ix2 k (y 0)) * joined x1 k (y 1) : EReal)

theorem block (A : Vec Ideal S4096x1024 .bf16) (B : Vec Ideal S1x4096x512 .bf16) (r : Fin 1024) (b : Fin 512) :
    out0_2 (F := Ideal) A B (ix2 r b) = (∑ k : Fin 4096, A (ix2 k r) * B (ix3 0 k b) : EReal) := by
  have e : out0_2 (F := Ideal) A B = k0_pay1 A B := by frame_out
  rw [e]
  pointwise [k0_pay1]

theorem joined_ref (x1 : Vec Ideal S2x4096x5632 .bf16) (k : Fin 4096) (s : Fin 11264) : val_main_v6 (F := Ideal) x1 (ix2 k s) = joined x1 k s := by
  pointwise [val_main_v6, val_main_v5, val_main_v4, val_main_v3, val_main_v2, val_main_v1]
  split_ifs
  all_goals exact congrArg x1 (congrArg₂ (fun p q => ix3 p k q) (Fin.ext (by dsimp; omega)) (Fin.ext (by dsimp; omega)))

theorem ref (x0 : Vec Ideal S4096x2048 .bf16) (x1 : Vec Ideal S2x4096x5632 .bf16) : val_main_v9 (F := Ideal) x0 x1 = prod x0 x1 := by
  funext y
  obtain ⟨r, s, rfl⟩ : ∃ (r : Fin 2048) (s : Fin 11264), y = ix2 r s := ⟨y 0, y 1, eq_ix2 y⟩
  show _ = (∑ k : Fin 4096, x0 (ix2 k r) * joined x1 k s : EReal)
  simp only [← joined_ref]
  unfold val_main_v9 val_main_v8 val_main_v7
  generalize val_main_v6 (F := Ideal) x1 = G
  pointwise [val_main_v0]
  exact Finset.sum_congr (M := EReal) rfl fun k _ => mul_comm _ _

theorem at0 : ∀ t : Fin grid0.N, win0_0.index t = ![0, t.val / 22] ∧ win0_1.index t = ![t.val % 22 / 11, 0, t.val % 22 % 11]
    ∧ win0_2.index t = ![t.val / 22, t.val % 22] := by decide +kernel

/-- The row and the column of the array that are a point's. -/
abbrev row (t : Fin 44) (r : Fin 1024) : Fin 2048 := ⟨t.val / 22 * 1024 + r.val, by omega⟩
abbrev cl (t : Fin 44) (b : Fin 512) : Fin 11264 := ⟨t.val % 22 * 512 + b.val, by omega⟩

section Points
variable (m : (ℓ : Loc nD τ sig) → Buf (Elt Ideal) ℓ) (c : Dev nD)

abbrev X0 : Vec Ideal S4096x2048 .bf16 := m ((c : Thread nD τ).loc main_arg0)
abbrev X1 : Vec Ideal S2x4096x5632 .bf16 := m ((c : Thread nD τ).loc main_arg1)

theorem reads (t : Fin cfg0.N) (k : Fin 4096) (b : Fin 512) : iblk m c 1 t (ix3 0 k b) = joined (X1 m c) k (cl t b) := by
  refine Eq.trans (b := X1 m c (ix3 ⟨t.val % 22 / 11, by omega⟩ k ⟨t.val % 22 % 11 * 512 + b.val, by omega⟩)) ?_ ?_
  · blk_ext! [iblk, at0 t]
  · exact congrArg (X1 m c) (congrArg₂ (fun p q => ix3 p k q) (Fin.ext (by dsimp; omega)) (Fin.ext (by dsimp; omega)))

theorem ends : (dats m 0 c).arrAt 2 cfg0.N = prod (X0 m c) (X1 m c) := by
  refine (dats m 0 c).arrAt_eq_of_covers 2 _ (by decide +kernel) fun t hf y => ?_
  blk_simp
  rw [after0_2]
  obtain ⟨r, b, rfl⟩ : ∃ (r : Fin 1024) (b : Fin 512), y = ix2 r b := ⟨y 0, y 1, eq_ix2 y⟩
  refine (block _ _ r b).trans ?_
  refine Eq.trans ?_ (show prod (X0 m c) (X1 m c) (ix2 (row t r) (cl t b)) = _ by generalize prod _ _ = G; blk_ext [at0 t, row, cl])
  have e0 : iblk m c 0 t = fun y => X0 m c (ix2 (y 0) (row t (y 1))) := by funext y; blk_ext! [iblk, at0 t, row]
  rw [e0]; simp only [reads]; rfl

end Points

theorem algebraic : Cert.algebraic_TnPairIdeal_TnPairRefIdeal := by
  intro m ρ m' ρ' _ hagree
  refine ⟨fun c => prod (X0 m c) (X1 m c), ?_, ?_⟩
  · refine (θ_run defs _ _).mono (fun r h c => ?_) (Cert.TnPairIdeal.Value.run_blocks (F := Ideal) m ρ)
    obtain ⟨e, ea⟩ := h c
    exact ⟨e.trans (ends m c), ea⟩
  · refine (θ_run Cert.TnPairRefIdeal.defs _ _).mono (fun r h c => ?_) (Cert.TnPairRefIdeal.Value.run (F := Ideal) m' ρ')
    obtain ⟨e, ea⟩ := h c
    obtain ⟨a0, a1⟩ := hagree c
    rw [val_main_v9_eq, ref] at e
    refine ⟨e.trans ?_, ea⟩; rw [a0, a1]

end Cert.TnPairValue

end
-- ==== Proof.NtHalvesValue.lean ====
/- The gradient of the first feed-forward's normed rows, summed one block of the common axis after the other, the weight taken as
   its two halves: what the idealized kernel ends holding, and that the reference ends holding the same. -/
module

public import proofs.«01_k».proof.Proof.HalfFValue
public import proofs.«01_k».proof.Proof.TnPairValue
public import proofs.«01_k».proof.Proof.Gen.NtHalvesIdeal.Value
public import proofs.«01_k».proof.Proof.Gen.NtHalvesRefIdeal.Run
public import proofs.«01_k».proof.Proof.Gen.NtHalvesRefIdeal.Read

@[expose] public section

set_option maxRecDepth 16384

noncomputable section

namespace Cert.NtHalvesValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.NtHalvesIdeal Cert.NtHalvesIdeal.Gen Cert.NtHalvesRefIdeal.Read
open Cert.HalfFValue (half cut_half)
open Cert.TnPairValue (joined joined_ref)

/-- The product of the two halves of `x1` side by side and the transpose of the weight `x0`. -/
def prod (x0 : Vec Ideal S2048x11264 .bf16) (x1 : Vec Ideal S2x4096x5632 .bf16) : Vec Ideal S4096x2048 .f32 :=
  fun y => (∑ k : Fin 11264, joined x1 (y 0) k * x0 (ix2 (y 1) k) : EReal)

theorem ref (x0 : Vec Ideal S2048x11264 .bf16) (x1 : Vec Ideal S2x4096x5632 .bf16) : val_main_v7 (F := Ideal) x0 x1 = prod x0 x1 := by
  funext y
  obtain ⟨r, s, rfl⟩ : ∃ (r : Fin 4096) (s : Fin 2048), y = ix2 r s := ⟨y 0, y 1, eq_ix2 y⟩
  show _ = (∑ k : Fin 11264, joined x1 r k * x0 (ix2 s k) : EReal)
  simp only [← joined_ref]
  rw [show Cert.TnPairRefIdeal.Read.val_main_v6 (F := Ideal) x1 = val_main_v6 (F := Ideal) x1 from rfl]
  unfold val_main_v7
  generalize val_main_v6 (F := Ideal) x1 = G
  pointwise [val_main_v0]

/-! ## One point -/

/-- Which half a point takes: the right one at the odd blocks. -/
def side (i : grid0.Coords) : BitVec 1 :=
  let d : BitVec 32 := Scalar.select (Scalar.cmpi .eq 2#32 0#32) 1#32 2#32
  let r : BitVec 32 := Scalar.remsi (BitVec.ofNat 32 (i 2).val) d
  Scalar.cmpi .eq (Scalar.select (Scalar.andi (Scalar.xori (Scalar.cmpi .slt r 0#32) (Scalar.cmpi .slt d 0#32)) (Scalar.cmpi .ne r 0#32))
    (Scalar.addi r d) r) 1#32

theorem side_at : ∀ t : Fin grid0.N, side (grid0.coords t) = if t.val % 2 = 1 then 1#1 else 0#1 := by decide +kernel

/-- A point's part of the product. -/
def part (A : Vec Ideal S1x1024x1408 .bf16) (W : Vec Ideal S1024x1408 .bf16) (y : S1024x1024.Idx) : EReal :=
  ∑ l : Fin 1408, A (ix3 0 (y 0) l) * W (ix2 (y 1) l)

section Point
variable (t : Fin cfg0.N) (s : Vec Ideal S1024x1024 .f32) (A : Vec Ideal S1x1024x1408 .bf16) (R L : Vec Ideal S1024x1408 .bf16)

/-- The weight's block at a point. -/
def weight : Vec Ideal S1024x1408 .bf16 := if t.val % 2 = 1 then R else L

theorem select_at : (Scalar.select (side (grid0.coords t)) R L : Vec Ideal S1024x1408 .bf16) = weight t R L := by
  rw [side_at t]; unfold weight; split_ifs <;> rfl

theorem starts (y : S1024x1024.Idx) : k0_pay1 (F := Ideal) (grid0.coords t) A R L y = 0 + part A (weight t R L) y := by
  obtain ⟨r, b, rfl⟩ : ∃ (r b : Fin 1024), y = ix2 r b := ⟨y 0, y 1, eq_ix2 y⟩
  rw [← select_at]
  unfold k0_pay1
  change shapeCast S1024x1024 (matmul _ none _ (Scalar.select (side (grid0.coords t)) _ _) _) _ _ = _
  generalize side (grid0.coords t) = q
  pointwise [part]

theorem adds (y : S1024x1024.Idx) : k0_pay2 (F := Ideal) (grid0.coords t) s A R L y = s y + part A (weight t R L) y := by
  obtain ⟨r, b, rfl⟩ : ∃ (r b : Fin 1024), y = ix2 r b := ⟨y 0, y 1, eq_ix2 y⟩
  rw [← select_at]
  unfold k0_pay2
  change shapeCast S1024x1024 (addf _ (matmul _ none _ (Scalar.select (side (grid0.coords t)) _ _) _)) _ _ = _
  generalize side (grid0.coords t) = q
  pointwise [part]

theorem finishes (y : S1024x1024.Idx) : k0_pay3 (F := Ideal) (grid0.coords t) s A R L y = s y + part A (weight t R L) y := by
  obtain ⟨r, b, rfl⟩ : ∃ (r b : Fin 1024), y = ix2 r b := ⟨y 0, y 1, eq_ix2 y⟩
  rw [← select_at]
  unfold k0_pay3
  change addf _ (matmul _ none _ (Scalar.select (side (grid0.coords t)) _ _) _) _ = _
  generalize side (grid0.coords t) = q
  pointwise [part]

end Point

/-! ## The run -/

theorem at0 : ∀ t : Fin grid0.N, win0_0.index t = ![t.val % 8 / 4, t.val / 8 % 4, t.val % 8 % 4] ∧ win0_1.index t = ![t.val / 32, t.val % 8 / 2]
    ∧ win0_2.index t = ![t.val / 32, t.val % 8 / 2] ∧ win0_3.index t = ![t.val / 8 % 4, t.val / 32] := by decide +kernel

/-- The row and the column of the array that are a point's, and the place of a point's block on the common axis. -/
abbrev row (t : Fin 64) (r : Fin 1024) : Fin 4096 := ⟨t.val / 8 % 4 * 1024 + r.val, by omega⟩
abbrev cl (t : Fin 64) (b : Fin 1024) : Fin 2048 := ⟨t.val / 32 * 1024 + b.val, by omega⟩
abbrev at' (t : Fin 64) (l : Fin 1408) : Fin 11264 := ⟨t.val % 8 * 1408 + l.val, by omega⟩

section Run
variable (m : (ℓ : Loc nD τ sig) → Buf (Elt Ideal) ℓ) (c : Dev nD)

abbrev X0 : Vec Ideal S2048x11264 .bf16 := m ((c : Thread nD τ).loc main_arg0)
abbrev X1 : Vec Ideal S2x4096x5632 .bf16 := m ((c : Thread nD τ).loc main_arg1)

theorem left : V m c main_v3 = half 0 (X0 m c) := by
  unfold V
  refine Eq.trans ?_ (cut_half 0 (X0 m c) slices_S2048x4x2x1408_S2048x4x1x1408_0_0_0_0)
  after_results <;> rfl

theorem right : V m c main_v6 = half 1 (X0 m c) := by
  unfold V
  refine Eq.trans ?_ (cut_half 1 (X0 m c) slices_S2048x4x2x1408_S2048x4x1x1408_0_0_1_0)
  after_results <;> rfl

/-- A block of a half is a block of the weight. -/
theorem half_at (t : Fin 64) (h : Fin 2) (e : t.val % 2 = h.val) (W : Vec Ideal S2048x11264 .bf16) (j : Fin 2048) (l : Fin 1408) :
    half h W (ix2 j ⟨t.val % 8 / 2 * 1408 + l.val, by omega⟩) = W (ix2 j (at' t l)) := by
  refine congrArg W (congrArg (ix2 j) (Fin.ext ?_))
  show (t.val % 8 / 2 * 1408 + l.val) / 1408 * 2816 + h.val * 1408 + (t.val % 8 / 2 * 1408 + l.val) % 1408 = t.val % 8 * 1408 + l.val
  omega

theorem reads (t : Fin cfg0.N) (r : Fin 1024) (l : Fin 1408) : iblk m c 0 t (ix3 0 r l) = joined (X1 m c) (row t r) (at' t l) := by
  refine Eq.trans (b := X1 m c (ix3 ⟨t.val % 8 / 4, by omega⟩ (row t r) ⟨t.val % 8 % 4 * 1408 + l.val, by omega⟩)) ?_ ?_
  · blk_ext! [iblk, at0 t, row]
  · exact congrArg (X1 m c) (congrArg₂ (fun p q => ix3 p (row t r) q) (Fin.ext (by dsimp; omega)) (Fin.ext (by dsimp; omega)))

theorem weighs (t : Fin cfg0.N) (b : Fin 1024) (l : Fin 1408) :
    weight t (iblk m c 2 t) (iblk m c 1 t) (ix2 b l) = X0 m c (ix2 (cl t b) (at' t l)) := by
  unfold weight
  split_ifs with h
  · refine Eq.trans ?_ (half_at t 1 h (X0 m c) (cl t b) l)
    rw [← right]; blk_ext! [iblk, at0 t, cl]
  · refine Eq.trans ?_ (half_at t 0 (by show t.val % 2 = 0; omega) (X0 m c) (cl t b) l)
    rw [← left]; blk_ext! [iblk, at0 t, cl]

/-- The sum as it stands after a point. -/
def soFar (n : ℕ) (h : n < cfg0.N) : Vec Ideal S1024x1024 .f32 := if n % 8 = 7 then (outsAt0 m c n h).1 else (outsAt0 m c n h).2

/-- What a point adds. -/
def term (t : Fin cfg0.N) : S1024x1024.Idx → EReal := part (iblk m c 0 t) (weight t (iblk m c 2 t) (iblk m c 1 t))

theorem first (t : Fin cfg0.N) (h : t.val % 8 = 0) (y : S1024x1024.Idx) : soFar m c t.val t.isLt y = 0 + term m c t y := by
  unfold soFar
  rw [if_neg (by omega), outsAt0_A m c t h (by omega) (by omega)]
  refine Eq.trans ?_ (starts t (iblk m c 0 t) (iblk m c 2 t) (iblk m c 1 t) y)
  refine congrFun ?_ y
  frame_out

theorem next (t : Fin cfg0.N) (h : ¬t.val % 8 = 0) (y : S1024x1024.Idx) :
    soFar m c t.val t.isLt y = soFar m c (t.val - 1) (Nat.lt_of_le_of_lt (Nat.sub_le _ _) t.isLt) y + term m c t y := by
  unfold soFar
  rw [if_neg (by omega : ¬(t.val - 1) % 8 = 7)]
  by_cases h2 : t.val % 8 = 7
  · rw [if_pos h2, outsAt0_C m c t h (by omega) h2]
    refine Eq.trans ?_ (finishes t _ (iblk m c 0 t) (iblk m c 2 t) (iblk m c 1 t) y)
    refine congrFun ?_ y
    frame_out; rw [read_unread_whole]
  · rw [if_neg h2, outsAt0_B m c t h (by omega) h2]
    refine Eq.trans ?_ (adds t _ (iblk m c 0 t) (iblk m c 2 t) (iblk m c 1 t) y)
    refine congrFun ?_ y
    frame_out; rw [read_unread_whole]

theorem term_at (t : Fin cfg0.N) (r b : Fin 1024) :
    term m c t (ix2 r b) = (∑ l : Fin 1408, joined (X1 m c) (row t r) (at' t l) * X0 m c (ix2 (cl t b) (at' t l)) : EReal) := by
  unfold term part
  exact Finset.sum_congr (M := EReal) rfl fun l _ => congrArg₂ (fun p q : EReal => p * q) (reads m c t r l) (weighs m c t b l)

theorem total (t : Fin cfg0.N) (ht : t.val % 8 = 7) (r b : Fin 1024) :
    (outsAt0 m c t.val t.isLt).1 (ix2 r b) = prod (X0 m c) (X1 m c) (ix2 (row t r) (cl t b)) := by
  have hN : t.val < 64 := lt_of_lt_of_eq t.isLt N_0
  refine Eq.trans (b := soFar m c t.val t.isLt (ix2 r b)) (by unfold soFar; rw [if_pos ht]) ?_
  refine ((Pipeline.eq_sum_fin_of_reset_step_apply_of_flush (fun n h => soFar m c n h) 8 (fun _ => (0 : EReal)) (fun p y => term m c p y)
    (fun t h i => first m c t h i) (fun t h i => next m c t h i) t ht (ix2 r b)).trans (zero_add _)).trans ?_
  simp only [term_at]
  refine Fin.sum_mul_add_congr (S := 8) (n := 1408) (L := 11264)
    (f := fun k => joined (X1 m c) (row t r) k * X0 m c (ix2 (cl t b) k)) (fun s k hl => ?_) (by rfl)
  have hs := s.isLt
  have e1 : row ⟨8 * (t.val / 8) + s.val, by omega⟩ r = row t r := Fin.ext (by dsimp [row]; omega)
  have e2 : cl ⟨8 * (t.val / 8) + s.val, by omega⟩ b = cl t b := Fin.ext (by dsimp [cl]; omega)
  have e3 : at' ⟨8 * (t.val / 8) + s.val, by omega⟩ k = ⟨s.val * 1408 + k.val, hl⟩ := Fin.ext (by dsimp [at']; omega)
  exact congrArg₂ (fun p q : EReal => p * q) (by rw [← e1, ← e3]) (by rw [← e2, ← e3])

theorem ends : (dats m 0 c).arrAt 3 cfg0.N = prod (X0 m c) (X1 m c) := by
  refine (dats m 0 c).arrAt_eq_of_covers 3 _ (by decide +kernel) fun t hf y => ?_
  blk_simp
  rw [after0_3]
  obtain ⟨r, b, rfl⟩ : ∃ (r b : Fin 1024), y = ix2 r b := ⟨y 0, y 1, eq_ix2 y⟩
  refine (total m c t ((flush0_3 t).mp hf) r b).trans ?_
  generalize prod _ _ = G
  blk_ext [at0 t, row, cl]

end Run

theorem algebraic : Cert.algebraic_NtHalvesIdeal_NtHalvesRefIdeal := by
  intro m ρ m' ρ' _ hagree
  refine ⟨fun c => prod (X0 m c) (X1 m c), ?_, ?_⟩
  · refine (θ_run defs _ _).mono (fun r h c => ?_) (Cert.NtHalvesIdeal.Value.run_blocks (F := Ideal) m ρ)
    obtain ⟨e, ea⟩ := h c
    exact ⟨e.trans (ends m c), ea⟩
  · refine (θ_run Cert.NtHalvesRefIdeal.defs _ _).mono (fun r h c => ?_) (Cert.NtHalvesRefIdeal.Value.run (F := Ideal) m' ρ')
    obtain ⟨e, ea⟩ := h c
    obtain ⟨a0, a1⟩ := hagree c
    rw [val_main_v7_eq, ref] at e
    refine ⟨e.trans ?_, ea⟩; rw [a0, a1]

end Cert.NtHalvesValue

end
-- ==== Proof.TnHalfValue.lean ====
/- The sibling's half of the gradient of the second feed-forward's first weight, on one device's rows: that the kernel's table
   is admissible, what the idealized kernel ends holding, and that the reference ends holding the same. -/
module

public import proofs.«01_k».proof.Proof.Gen.TnHalf.Frame
public import proofs.«01_k».proof.Proof.Gen.TnHalfIdeal.Frame
public import proofs.«01_k».proof.Proof.Gen.TnHalfRefIdeal.Run
public import proofs.«01_k».proof.Proof.Gen.TnHalfRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.TnHalfValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Table
open Cert.TnHalf Cert.TnHalf.Gen

/-- The table that @main writes: the device's place, 0. -/
def zeros : pre0.Contents (Elt Bits) := fun | 0 => (fun _ => 0#32 : Vec Bits S2 .i32) | ⟨_ + 1, h⟩ => absurd h (Nat.not_lt.2 (Nat.le_add_left _ _))

theorem tbl_eq (m : (ℓ : Loc nD τ sig) → Buf (Elt Bits) ℓ) : tbl m = zeros := by
  funext j
  obtain rfl : j = 0 := Subsingleton.elim _ _
  show V m 0 main_v0 = _
  unfold V
  after_results <;> rfl

theorem ok_zeros : ok0 zeros := by decide +kernel

theorem ok (m : (ℓ : Loc nD τ sig) → Buf (Elt Bits) ℓ) : Ok m := by
  show ok0 (tbl m)
  rw [tbl_eq]
  exact ok_zeros

end Table

open Cert.TnHalfIdeal Cert.TnHalfIdeal.Gen Cert.TnHalfRefIdeal.Read

/-- The same of the idealized kernel. -/
def zeros : pre0.Contents (Elt Ideal) := fun | 0 => (fun _ => 0#32 : Vec Ideal S2 .i32) | ⟨_ + 1, h⟩ => absurd h (Nat.not_lt.2 (Nat.le_add_left _ _))

theorem tbl_eq (m : (ℓ : Loc nD τ sig) → Buf (Elt Ideal) ℓ) : tbl m = zeros := by
  funext j
  obtain rfl : j = 0 := Subsingleton.elim _ _
  show V m 0 main_v0 = _
  unfold V
  after_results <;> rfl

theorem ok_zeros : ok0 zeros := by decide +kernel

theorem ok (m : (ℓ : Loc nD τ sig) → Buf (Elt Ideal) ℓ) : Ok m := by
  show ok0 (tbl m)
  rw [tbl_eq]
  exact ok_zeros

/-- The two halves side by side. -/
def joined (x1 : Vec Ideal S2x4096x5632 .bf16) (k : Fin 4096) (s : Fin 11264) : EReal :=
  x1 (ix3 ⟨s.val / 5632, by omega⟩ k ⟨s.val % 5632, Nat.mod_lt _ (by decide)⟩)

/-- The lower half of the rows of the product of the transpose of `x0` and the two halves side by side. -/
def lower (x0 : Vec Ideal S4096x2048 .bf16) (x1 : Vec Ideal S2x4096x5632 .bf16) : Vec Ideal S1024x11264 .bf16 :=
  fun y => (∑ k : Fin 4096, x0 (ix2 k ⟨1024 + (y 0).val, Nat.add_lt_add_left (y 0).isLt 1024⟩) * joined x1 k (y 1) : EReal)

theorem block (A : Vec Ideal S4096x1024 .bf16) (B : Vec Ideal S1x4096x512 .bf16) (r : Fin 1024) (b : Fin 512) :
    k0_pay1 (F := Ideal) A B (ix2 r b) = (∑ k : Fin 4096, A (ix2 k r) * B (ix3 0 k b) : EReal) := by
  pointwise [k0_pay1]

theorem joined_ref (x1 : Vec Ideal S2x4096x5632 .bf16) (k : Fin 4096) (s : Fin 11264) : val_main_v6 (F := Ideal) x1 (ix2 k s) = joined x1 k s := by
  pointwise [val_main_v6, val_main_v5, val_main_v4, val_main_v3, val_main_v2, val_main_v1]
  split_ifs
  all_goals exact congrArg x1 (congrArg₂ (fun p q => ix3 p k q) (Fin.ext (by dsimp; omega)) (Fin.ext (by dsimp; omega)))

theorem ref (x0 : Vec Ideal S4096x2048 .bf16) (x1 : Vec Ideal S2x4096x5632 .bf16) : val_main_v10 (F := Ideal) x0 x1 = lower x0 x1 := by
  funext y
  obtain ⟨r, s, rfl⟩ : ∃ (r : Fin 1024) (s : Fin 11264), y = ix2 r s := ⟨y 0, y 1, eq_ix2 y⟩
  show _ = (∑ k : Fin 4096, x0 (ix2 k ⟨1024 + r.val, Nat.add_lt_add_left r.isLt 1024⟩) * joined x1 k s : EReal)
  simp only [← joined_ref]
  unfold val_main_v10 val_main_v9 val_main_v8 val_main_v7
  generalize val_main_v6 (F := Ideal) x1 = G
  pointwise [val_main_v0]
  exact Finset.sum_congr (M := EReal) rfl fun k _ => mul_comm _ _

theorem maps : ∀ t : Fin grid0.N, ix0 zeros 0 (grid0.coords t) = ![0, 1] ∧ ix0 zeros 1 (grid0.coords t) = ![t.val / 11, 0, t.val % 11]
    ∧ ix0 zeros 2 (grid0.coords t) = ![0, t.val] := by decide +kernel

section Points
variable (m : (ℓ : Loc nD τ sig) → Buf (Elt Ideal) ℓ) (c : Dev nD)

abbrev X0 : Vec Ideal S4096x2048 .bf16 := m ((c : Thread nD τ).loc main_arg0)
abbrev X1 : Vec Ideal S2x4096x5632 .bf16 := m ((c : Thread nD τ).loc main_arg1)

theorem at0 (t : Fin (cfgM m (ok m)).N) : ((cfgM m (ok m)).win 0).index t = ![0, 1]
    ∧ ((cfgM m (ok m)).win 1).index t = ![t.val / 11, 0, t.val % 11] ∧ ((cfgM m (ok m)).win 2).index t = ![0, t.val] := by
  refine ⟨?_, (maps t).2.1, (maps t).2.2⟩
  refine Eq.trans ?_ (maps t).1
  show cc0_transform_0 _ _ (tbl m) _ = cc0_transform_0 _ _ zeros _
  rw [tbl_eq]

/-- The result's blocks cover it, whatever the table. -/
theorem covers_zeros : ((cfg0 (F := Ideal) ⟨zeros, ok_zeros⟩).win 2).Covers := by decide +kernel

theorem covers : ((cfgM m (ok m)).win 2).Covers := by
  have e : adm m (ok m) = ⟨zeros, ok_zeros⟩ := Subtype.ext (tbl_eq m)
  show ((cfg0 (adm m (ok m))).win 2).Covers
  rw [e]
  exact covers_zeros

theorem body (t : Fin (cfgM m (ok m)).N) : outsAt0 m (ok m) c t = k0_pay1 (iblk m (ok m) c 0 t) (iblk m (ok m) c 1 t) := by
  unfold outsAt0
  frame_out
  exact congrArg₂ k0_pay1 ((hs0_0 m (ok m) t).read_unread _) ((hs0_1 m (ok m) t).read_unread _)

/-- The column of the array that is a point's. -/
abbrev cl (t : Fin 22) (b : Fin 512) : Fin 11264 := ⟨t.val * 512 + b.val, by omega⟩

theorem reads0 (t : Fin (cfgM m (ok m)).N) (k : Fin 4096) (r : Fin 1024) :
    iblk m (ok m) c 0 t (ix2 k r) = X0 m c (ix2 k ⟨1024 + r.val, Nat.add_lt_add_left r.isLt 1024⟩) := by
  obtain ⟨h0, h1, h2⟩ := at0 m t
  blk_ext! [iblk, h0]

theorem reads1 (t : Fin (cfgM m (ok m)).N) (k : Fin 4096) (b : Fin 512) : iblk m (ok m) c 1 t (ix3 0 k b) = joined (X1 m c) k (cl t b) := by
  obtain ⟨h0, h1, h2⟩ := at0 m t
  have ht : t.val < 22 := t.isLt
  refine Eq.trans (b := X1 m c (ix3 ⟨t.val / 11, by omega⟩ k ⟨t.val % 11 * 512 + b.val, by omega⟩)) ?_ ?_
  · blk_ext! [iblk, h1]
  · exact congrArg (X1 m c) (congrArg₂ (fun p q => ix3 p k q) (Fin.ext (by dsimp; omega)) (Fin.ext (by dsimp; omega)))

theorem ends : (dats m (ok m) 0 c).arrAt 2 (cfgM m (ok m)).N = lower (X0 m c) (X1 m c) := by
  refine (dats m (ok m) 0 c).arrAt_eq_of_covers 2 _ (covers m) fun t hf y => ?_
  blk_simp
  rw [after0_2, body]
  obtain ⟨h0, h1, h2⟩ := at0 m t
  obtain ⟨r, b, rfl⟩ : ∃ (r : Fin 1024) (b : Fin 512), y = ix2 r b :=
    ⟨(show S1024x512.Idx from y) 0, (show S1024x512.Idx from y) 1, eq_ix2 (show S1024x512.Idx from y)⟩
  refine Eq.trans (b := lower (X0 m c) (X1 m c) (ix2 r (cl t b))) ?_ ?_
  · refine (block _ _ r b).trans ?_
    exact Finset.sum_congr (M := EReal) rfl fun k _ => congrArg₂ (fun p q : EReal => p * q) (reads0 m c t k r) (reads1 m c t k b)
  · generalize lower _ _ = A
    blk_ext [h2, cl]

end Points

theorem algebraic : Cert.algebraic_TnHalfIdeal_TnHalfRefIdeal := by
  intro m ρ m' ρ' _ hagree
  refine ⟨fun c => lower (X0 m c) (X1 m c), ?_, ?_⟩
  · refine (θ_run defs _ _).mono (fun r h c => ⟨((h c).1 2).trans (ends m c), ?_, ?_⟩) (run_main m ρ (ok m))
    · exact ((h c).1 0).trans (((dats m (ok m) 0 c).arrAt_in 0 rfl _).trans ((A_eq m (ok m) c 0).trans (V_main_arg0 m c)))
    · exact ((h c).1 1).trans (((dats m (ok m) 0 c).arrAt_in 1 rfl _).trans ((A_eq m (ok m) c 1).trans (V_main_arg1 m c)))
  · refine (θ_run Cert.TnHalfRefIdeal.defs _ _).mono (fun r h c => ?_) (Cert.TnHalfRefIdeal.Value.run (F := Ideal) m' ρ')
    obtain ⟨e, ea⟩ := h c
    obtain ⟨a0, a1⟩ := hagree c
    rw [val_main_v10_eq, ref] at e
    refine ⟨e.trans ?_, ea⟩; rw [a0, a1]

end Cert.TnHalfValue

end
-- ==== Proof.AdamwValue.lean ====
/- One weight's optimiser step: what the idealized kernel ends holding, and that the reference ends holding the same. -/
module

public import proofs.«01_k».proof.Proof.Gen.AdamwIdeal.Value
public import proofs.«01_k».proof.Proof.Gen.AdamwRefIdeal.Run
public import proofs.«01_k».proof.Proof.Gen.AdamwRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.AdamwValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AdamwIdeal Cert.AdamwIdeal.Gen Cert.AdamwRefIdeal.Read

/-! ## One number -/

/-- The first moment, the second moment and the step. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- The same of whole arrays. -/
def firsts (g m : Vec Ideal S2048x2816 .f32) : Vec Ideal S2048x2816 .f32 := fun y => first (g y) (m y)
def seconds (g v : Vec Ideal S2048x2816 .f32) : Vec Ideal S2048x2816 .f32 := fun y => second (g y) (v y)
def steps (w g m v : Vec Ideal S2048x2816 .f32) : Vec Ideal S2048x2816 .f32 := fun y => step (w y) (g y) (m y) (v y)

section Block
variable (W G M V : Vec Ideal S256x1408 .f32) (r : Fin 256) (b : Fin 1408)

theorem block4 : out0_4 (F := Ideal) W G M V = G := by frame_out

theorem block5 : out0_5 (F := Ideal) W G M V (ix2 r b) = step (W (ix2 r b)) (G (ix2 r b)) (M (ix2 r b)) (V (ix2 r b)) := by
  have e : out0_5 (F := Ideal) W G M V = k0_pay3 W G M V := by frame_out
  rw [e]
  pointwise [k0_pay3, k0_pay2, k0_pay1, step, second, first]

theorem block6 : out0_6 (F := Ideal) W G M V (ix2 r b) = first (G (ix2 r b)) (M (ix2 r b)) := by
  have e : out0_6 (F := Ideal) W G M V = k0_pay1 G M := by frame_out
  rw [e]
  pointwise [k0_pay1, first]

theorem block7 : out0_7 (F := Ideal) W G M V (ix2 r b) = second (G (ix2 r b)) (V (ix2 r b)) := by
  have e : out0_7 (F := Ideal) W G M V = k0_pay2 G V := by frame_out
  rw [e]
  pointwise [k0_pay2, second]

end Block

/-! ## The reference -/

section Ref
variable (x0 x1 x2 x3 : Vec Ideal S2048x2816 .f32)

theorem ref_first : val_main_v4 (F := Ideal) x1 x2 = firsts x1 x2 := by
  funext y
  obtain ⟨r, s, rfl⟩ : ∃ (r : Fin 2048) (s : Fin 2816), y = ix2 r s := ⟨y 0, y 1, eq_ix2 y⟩
  pointwise [val_main_v4, val_main_v3, val_main_v2, val_main_v1, val_main_v0, val_main_cst, val_main_cst_0, firsts, first]

theorem ref_second : val_main_v10 (F := Ideal) x1 x3 = seconds x1 x3 := by
  funext y
  obtain ⟨r, s, rfl⟩ : ∃ (r : Fin 2048) (s : Fin 2816), y = ix2 r s := ⟨y 0, y 1, eq_ix2 y⟩
  pointwise [val_main_v10, val_main_v9, val_main_v8, val_main_v7, val_main_v6, val_main_v5, val_main_cst_1, val_main_cst_2, seconds, second]

theorem ref_step : val_main_v23 (F := Ideal) x0 x1 x2 x3 = steps x0 x1 x2 x3 := by
  unfold val_main_v23 val_main_v21 val_main_v18 val_main_v17 val_main_v15 val_main_v14 val_main_v12
  rw [ref_first, ref_second]
  funext y
  obtain ⟨r, s, rfl⟩ : ∃ (r : Fin 2048) (s : Fin 2816), y = ix2 r s := ⟨y 0, y 1, eq_ix2 y⟩
  pointwise [val_main_v22, val_main_v20, val_main_v19, val_main_v16, val_main_v13, val_main_v11,
    val_main_cst_3, val_main_cst_4, val_main_cst_5, val_main_cst_6, val_main_cst_7, steps, step, firsts, seconds]

end Ref

/-! ## The arrays after the run -/

theorem at0 : ∀ t : Fin grid0.N, win0_0.index t = ![t.val / 2, t.val % 2] ∧ win0_1.index t = ![t.val / 2, t.val % 2]
    ∧ win0_2.index t = ![t.val / 2, t.val % 2] ∧ win0_3.index t = ![t.val / 2, t.val % 2] ∧ win0_4.index t = ![t.val / 2, t.val % 2]
    ∧ win0_5.index t = ![t.val / 2, t.val % 2] ∧ win0_6.index t = ![t.val / 2, t.val % 2] ∧ win0_7.index t = ![t.val / 2, t.val % 2] := by
  decide +kernel

/-- The row and the column of the array that are a point's. -/
abbrev row (t : Fin 16) (r : Fin 256) : Fin 2048 := ⟨t.val / 2 * 256 + r.val, by omega⟩
abbrev cl (t : Fin 16) (b : Fin 1408) : Fin 2816 := ⟨t.val % 2 * 1408 + b.val, by omega⟩

section Points
variable (m : (ℓ : Loc nD τ sig) → Buf (Elt Ideal) ℓ) (c : Dev nD)

abbrev X0 : Vec Ideal S2048x2816 .f32 := m ((c : Thread nD τ).loc main_arg0)
abbrev X1 : Vec Ideal S2048x2816 .f32 := m ((c : Thread nD τ).loc main_arg1)
abbrev X2 : Vec Ideal S2048x2816 .f32 := m ((c : Thread nD τ).loc main_arg2)
abbrev X3 : Vec Ideal S2048x2816 .f32 := m ((c : Thread nD τ).loc main_arg3)

theorem reads (t : Fin cfg0.N) (r : Fin 256) (b : Fin 1408) :
    iblk m c 0 t (ix2 r b) = X0 m c (ix2 (row t r) (cl t b)) ∧ iblk m c 1 t (ix2 r b) = X1 m c (ix2 (row t r) (cl t b))
      ∧ iblk m c 2 t (ix2 r b) = X2 m c (ix2 (row t r) (cl t b)) ∧ iblk m c 3 t (ix2 r b) = X3 m c (ix2 (row t r) (cl t b)) := by
  refine ⟨?_, ?_, ?_, ?_⟩ <;> blk_ext! [iblk, at0 t, row, cl]

theorem ends4 : (dats m 0 c).arrAt 4 cfg0.N = X1 m c := by
  refine (dats m 0 c).arrAt_eq_of_covers 4 _ (by decide +kernel) fun t hf y => ?_
  blk_simp
  obtain ⟨r, b, rfl⟩ : ∃ (r : Fin 256) (b : Fin 1408), y = ix2 r b := ⟨y 0, y 1, eq_ix2 y⟩
  rw [after0_4, block4]
  refine (reads m c t r b).2.1.trans ?_
  generalize X1 m c = A; blk_ext [at0 t, row, cl]

theorem ends5 : (dats m 0 c).arrAt 5 cfg0.N = steps (X0 m c) (X1 m c) (X2 m c) (X3 m c) := by
  refine (dats m 0 c).arrAt_eq_of_covers 5 _ (by decide +kernel) fun t hf y => ?_
  blk_simp
  obtain ⟨r, b, rfl⟩ : ∃ (r : Fin 256) (b : Fin 1408), y = ix2 r b := ⟨y 0, y 1, eq_ix2 y⟩
  rw [after0_5]
  refine (block5 _ _ _ _ r b).trans ?_
  rw [(reads m c t r b).1, (reads m c t r b).2.1, (reads m c t r b).2.2.1, (reads m c t r b).2.2.2]
  show steps (X0 m c) (X1 m c) (X2 m c) (X3 m c) (ix2 (row t r) (cl t b)) = _
  generalize steps _ _ _ _ = A; blk_ext [at0 t, row, cl]

theorem ends6 : (dats m 0 c).arrAt 6 cfg0.N = firsts (X1 m c) (X2 m c) := by
  refine (dats m 0 c).arrAt_eq_of_covers 6 _ (by decide +kernel) fun t hf y => ?_
  blk_simp
  obtain ⟨r, b, rfl⟩ : ∃ (r : Fin 256) (b : Fin 1408), y = ix2 r b := ⟨y 0, y 1, eq_ix2 y⟩
  rw [after0_6]
  refine (block6 _ _ _ _ r b).trans ?_
  rw [(reads m c t r b).2.1, (reads m c t r b).2.2.1]
  show firsts (X1 m c) (X2 m c) (ix2 (row t r) (cl t b)) = _
  generalize firsts _ _ = A; blk_ext [at0 t, row, cl]

theorem ends7 : (dats m 0 c).arrAt 7 cfg0.N = seconds (X1 m c) (X3 m c) := by
  refine (dats m 0 c).arrAt_eq_of_covers 7 _ (by decide +kernel) fun t hf y => ?_
  blk_simp
  obtain ⟨r, b, rfl⟩ : ∃ (r : Fin 256) (b : Fin 1408), y = ix2 r b := ⟨y 0, y 1, eq_ix2 y⟩
  rw [after0_7]
  refine (block7 _ _ _ _ r b).trans ?_
  rw [(reads m c t r b).2.1, (reads m c t r b).2.2.2]
  show seconds (X1 m c) (X3 m c) (ix2 (row t r) (cl t b)) = _
  generalize seconds _ _ = A; blk_ext [at0 t, row, cl]

end Points

theorem algebraic : Cert.algebraic_AdamwIdeal_AdamwRefIdeal := by
  intro m ρ m' ρ' _ hagree
  refine ⟨fun c => X1 m c, fun c => steps (X0 m c) (X1 m c) (X2 m c) (X3 m c), fun c => firsts (X1 m c) (X2 m c),
    fun c => seconds (X1 m c) (X3 m c), ?_, ?_⟩
  · refine (θ_run defs _ _).mono (fun r h c => ?_) (Cert.AdamwIdeal.Value.run_blocks (F := Ideal) m ρ)
    obtain ⟨e4, e5, e6, e7, ea⟩ := h c
    exact ⟨e4.trans (ends4 m c), e5.trans (ends5 m c), e6.trans (ends6 m c), e7.trans (ends7 m c), ea⟩
  · refine (θ_run Cert.AdamwRefIdeal.defs _ _).mono (fun r h c => ?_) (Cert.AdamwRefIdeal.Value.run (F := Ideal) m' ρ')
    obtain ⟨e4, e5, e6, e7, ea⟩ := h c
    obtain ⟨a0, a1, a2, a3⟩ := hagree c
    rw [val_main_v23_eq, ref_step] at e5
    rw [val_main_v4_eq, ref_first] at e6
    rw [val_main_v10_eq, ref_second] at e7
    refine ⟨e4.trans ?_, e5.trans ?_, e6.trans ?_, e7.trans ?_, ea⟩
    · rw [a1]
    · rw [a0, a1, a2, a3]
    · rw [a1, a2]
    · rw [a1, a3]

end Cert.AdamwValue

end
-- ==== Proof.PairAddValue.lean ====
/- The sum of a device's half of a weight's gradient and its sibling's on one device: that the kernel's table is admissible,
   what the idealized kernel ends holding, and that the reference ends holding the same. -/
module

public import proofs.«01_k».proof.Proof.Gen.PairAdd.Frame
public import proofs.«01_k».proof.Proof.Gen.PairAddIdeal.Frame
public import proofs.«01_k».proof.Proof.Gen.PairAddRefIdeal.Run
public import proofs.«01_k».proof.Proof.Gen.PairAddRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.PairAddValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Table
open Cert.PairAdd Cert.PairAdd.Gen

/-- The table that @main writes: the device's place, 0. -/
def zeros : pre0.Contents (Elt Bits) := fun | 0 => (fun _ => 0#32 : Vec Bits S2 .i32) | ⟨_ + 1, h⟩ => absurd h (Nat.not_lt.2 (Nat.le_add_left _ _))

theorem tbl_eq (m : (ℓ : Loc nD τ sig) → Buf (Elt Bits) ℓ) : tbl m = zeros := by
  funext j
  obtain rfl : j = 0 := Subsingleton.elim _ _
  show V m 0 main_v0 = _
  unfold V
  after_results <;> rfl

theorem ok_zeros : ok0 zeros := by decide +kernel

theorem ok (m : (ℓ : Loc nD τ sig) → Buf (Elt Bits) ℓ) : Ok m := by
  show ok0 (tbl m)
  rw [tbl_eq]
  exact ok_zeros

end Table

open Cert.PairAddIdeal Cert.PairAddIdeal.Gen Cert.PairAddRefIdeal.Read

/-- The same of the idealized kernel. -/
def zeros : pre0.Contents (Elt Ideal) := fun | 0 => (fun _ => 0#32 : Vec Ideal S2 .i32) | ⟨_ + 1, h⟩ => absurd h (Nat.not_lt.2 (Nat.le_add_left _ _))

theorem tbl_eq (m : (ℓ : Loc nD τ sig) → Buf (Elt Ideal) ℓ) : tbl m = zeros := by
  funext j
  obtain rfl : j = 0 := Subsingleton.elim _ _
  show V m 0 main_v0 = _
  unfold V
  after_results <;> rfl

theorem ok_zeros : ok0 zeros := by decide +kernel

theorem ok (m : (ℓ : Loc nD τ sig) → Buf (Elt Ideal) ℓ) : Ok m := by
  show ok0 (tbl m)
  rw [tbl_eq]
  exact ok_zeros

/-- The upper half of `x0` and `x1`. -/
def total (x0 : Vec Ideal S2048x11264 .bf16) (x1 : Vec Ideal S1024x11264 .bf16) : Vec Ideal S1024x11264 .bf16 :=
  fun y => (x0 (ix2 ⟨(y 0).val, (y 0).isLt.trans (by decide)⟩ (y 1)) + x1 y : EReal)

theorem ref (x0 : Vec Ideal S2048x11264 .bf16) (x1 : Vec Ideal S1024x11264 .bf16) : val_main_v4 (F := Ideal) x0 x1 = total x0 x1 := by
  funext y
  obtain ⟨r, s, rfl⟩ : ∃ (r : Fin 1024) (s : Fin 11264), y = ix2 r s := ⟨y 0, y 1, eq_ix2 y⟩
  pointwise [val_main_v4, val_main_v3, val_main_v2, val_main_v1, val_main_v0, total]

theorem block (A B : Vec Ideal S512x1408 .bf16) (r : Fin 512) (b : Fin 1408) :
    k0_pay1 (F := Ideal) A B (ix2 r b) = (A (ix2 r b) + B (ix2 r b) : EReal) := by
  pointwise [k0_pay1]

theorem maps : ∀ t : Fin grid0.N, ix0 zeros 0 (grid0.coords t) = ![t.val / 8, t.val % 8] ∧ ix0 zeros 1 (grid0.coords t) = ![t.val / 8, t.val % 8]
    ∧ ix0 zeros 2 (grid0.coords t) = ![t.val / 8, t.val % 8] := by decide +kernel

section Points
variable (m : (ℓ : Loc nD τ sig) → Buf (Elt Ideal) ℓ) (c : Dev nD)

abbrev X0 : Vec Ideal S2048x11264 .bf16 := m ((c : Thread nD τ).loc main_arg0)
abbrev X1 : Vec Ideal S1024x11264 .bf16 := m ((c : Thread nD τ).loc main_arg1)

theorem at0 (t : Fin (cfgM m (ok m)).N) : ((cfgM m (ok m)).win 0).index t = ![t.val / 8, t.val % 8]
    ∧ ((cfgM m (ok m)).win 1).index t = ![t.val / 8, t.val % 8] ∧ ((cfgM m (ok m)).win 2).index t = ![t.val / 8, t.val % 8] := by
  refine ⟨?_, (maps t).2.1, (maps t).2.2⟩
  refine Eq.trans ?_ (maps t).1
  show cc0_transform_0 _ _ (tbl m) _ = cc0_transform_0 _ _ zeros _
  rw [tbl_eq]

/-- The result's blocks cover it, whatever the table. -/
theorem covers_zeros : ((cfg0 (F := Ideal) ⟨zeros, ok_zeros⟩).win 2).Covers := by decide +kernel

theorem covers : ((cfgM m (ok m)).win 2).Covers := by
  have e : adm m (ok m) = ⟨zeros, ok_zeros⟩ := Subtype.ext (tbl_eq m)
  show ((cfg0 (adm m (ok m))).win 2).Covers
  rw [e]
  exact covers_zeros

theorem body (t : Fin (cfgM m (ok m)).N) : outsAt0 m (ok m) c t = k0_pay1 (iblk m (ok m) c 0 t) (iblk m (ok m) c 1 t) := by
  unfold outsAt0
  frame_out
  exact congrArg₂ k0_pay1 ((hs0_0 m (ok m) t).read_unread _) ((hs0_1 m (ok m) t).read_unread _)

/-- The row and the column of the array that are a point's. -/
abbrev row (t : Fin 16) (r : Fin 512) : Fin 1024 := ⟨t.val / 8 * 512 + r.val, by omega⟩
abbrev cl (t : Fin 16) (b : Fin 1408) : Fin 11264 := ⟨t.val % 8 * 1408 + b.val, by omega⟩

theorem reads (t : Fin (cfgM m (ok m)).N) (r : Fin 512) (b : Fin 1408) :
    iblk m (ok m) c 0 t (ix2 r b) = X0 m c (ix2 ⟨(row t r).val, (row t r).isLt.trans (by decide)⟩ (cl t b))
      ∧ iblk m (ok m) c 1 t (ix2 r b) = X1 m c (ix2 (row t r) (cl t b)) := by
  obtain ⟨h0, h1, h2⟩ := at0 m t
  constructor
  · blk_ext! [iblk, h0, row, cl]
  · blk_ext! [iblk, h1, row, cl]

theorem ends : (dats m (ok m) 0 c).arrAt 2 (cfgM m (ok m)).N = total (X0 m c) (X1 m c) := by
  refine (dats m (ok m) 0 c).arrAt_eq_of_covers 2 _ (covers m) fun t hf y => ?_
  blk_simp
  rw [after0_2, body]
  obtain ⟨h0, h1, h2⟩ := at0 m t
  obtain ⟨r, b, rfl⟩ : ∃ (r : Fin 512) (b : Fin 1408), y = ix2 r b :=
    ⟨(show S512x1408.Idx from y) 0, (show S512x1408.Idx from y) 1, eq_ix2 (show S512x1408.Idx from y)⟩
  obtain ⟨q0, q1⟩ := reads m c t r b
  refine Eq.trans (b := total (X0 m c) (X1 m c) (ix2 (row t r) (cl t b))) ?_ ?_
  · refine (block _ _ r b).trans ?_
    rw [q0, q1]
    rfl
  · generalize total _ _ = A
    blk_ext [h2, row, cl]

end Points

theorem algebraic : Cert.algebraic_PairAddIdeal_PairAddRefIdeal := by
  intro m ρ m' ρ' _ hagree
  refine ⟨fun c => total (X0 m c) (X1 m c), ?_, ?_⟩
  · refine (θ_run defs _ _).mono (fun r h c => ⟨((h c).1 2).trans (ends m c), ?_, ?_⟩) (run_main m ρ (ok m))
    · exact ((h c).1 0).trans (((dats m (ok m) 0 c).arrAt_in 0 rfl _).trans ((A_eq m (ok m) c 0).trans (V_main_arg0 m c)))
    · exact ((h c).1 1).trans (((dats m (ok m) 0 c).arrAt_in 1 rfl _).trans ((A_eq m (ok m) c 1).trans (V_main_arg1 m c)))
  · refine (θ_run Cert.PairAddRefIdeal.defs _ _).mono (fun r h c => ?_) (Cert.PairAddRefIdeal.Value.run (F := Ideal) m' ρ')
    obtain ⟨e, ea⟩ := h c
    obtain ⟨a0, a1⟩ := hagree c
    rw [val_main_v4_eq, ref] at e
    refine ⟨e.trans ?_, ea⟩; rw [a0, a1]

end Cert.PairAddValue

end
-- ==== Proof.PackedValue.lean ====
/- The sums of the devices' small gradients with their packing: what the idealized kernel ends holding, and that the reference
   ends holding the same. -/
module

public import proofs.«01_k».proof.Proof.Gen.PackedIdeal.Frame
public import proofs.«01_k».proof.Proof.Gen.PackedRefIdeal.Run
public import proofs.«01_k».proof.Proof.Gen.PackedRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.PackedValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PackedIdeal Cert.PackedIdeal.Gen Cert.PackedRefIdeal.Read

section Sums
variable (x1 : Vec Ideal S8x1x2048 .f32) (x2 : Vec Ideal S8x3x1024 .f32) (x3 : Vec Ideal S8x1x1024 .f32) (x4 : Vec Ideal S8x1x1024 .f32) (x5 : Vec Ideal S8x8x128x128 .f32) (x6 : Vec Ideal S8x8x128 .f32) (x7 : Vec Ideal S8x1x2048 .f32) (x8 : Vec Ideal S8x1x2048 .f32) (x9 : Vec Ideal S8x1x2048 .f32) (x10 : Vec Ideal S8x1x2048 .f32)

/-- The early gradients of the devices side by side. -/
def joined : Vec Ideal S8x147456 .f32 :=
  concatenate S8x147456 1 [⟨S8x2048, shapeCast S8x2048 x1 shapeCasts_S8x1x2048_S8x2048⟩,
      ⟨S8x3072, shapeCast S8x3072 x2 shapeCasts_S8x3x1024_S8x3072⟩,
      ⟨S8x1024, shapeCast S8x1024 x3 shapeCasts_S8x1x1024_S8x1024⟩,
      ⟨S8x1024, shapeCast S8x1024 x4 shapeCasts_S8x1x1024_S8x1024⟩,
      ⟨S8x131072, shapeCast S8x131072 x5 shapeCasts_S8x8x128x128_S8x131072⟩,
      ⟨S8x1024, shapeCast S8x1024 x6 shapeCasts_S8x8x128_S8x1024⟩,
      ⟨S8x2048, shapeCast S8x2048 x7 shapeCasts_S8x1x2048_S8x2048⟩,
      ⟨S8x2048, shapeCast S8x2048 x8 shapeCasts_S8x1x2048_S8x2048⟩,
      ⟨S8x2048, shapeCast S8x2048 x9 shapeCasts_S8x1x2048_S8x2048⟩,
      ⟨S8x2048, shapeCast S8x2048 x10 shapeCasts_S8x1x2048_S8x2048⟩]
    concatenates_S8x2048_S8x3072_S8x1024_S8x1024_S8x131072_S8x1024_S8x2048_S8x2048_S8x2048_S8x2048_S8x147456_d1

/-- They, as rows of 128. -/
def early (x : Vec Ideal S8x147456 .f32) : Vec Ideal S8x1152x128 .f32 :=
  shapeCast S8x1152x128 (pad S8x147456 ![0, 0] ![0, 0] ![0, 0] x (sitofp (F := Ideal) .f32 (constantI S_ 32 0#32)) pads_S8x147456_S8x147456_000_000 h_S_)
    shapeCasts_S8x147456_S8x1152x128

/-- The late ones so. -/
def late (x0 : Vec Ideal S8x1x2048 .f32) : Vec Ideal S8x16x128 .f32 :=
  shapeCast S8x16x128 (pad S8x2048 ![0, 0] ![0, 0] ![0, 0] (shapeCast S8x2048 x0 shapeCasts_S8x1x2048_S8x2048)
    (sitofp (F := Ideal) .f32 (constantI S_ 32 0#32)) pads_S8x2048_S8x2048_000_000 h_S_) shapeCasts_S8x2048_S8x16x128

/-- The sums over the devices. -/
def sums2 (x : Vec Ideal S8x1152x128 .f32) : Vec Ideal S1152x128 .f32 := fun y => (∑ k : Fin 8, x (ix3 k (y 0) (y 1)) : EReal)
def sums3 (x : Vec Ideal S8x16x128 .f32) : Vec Ideal S16x128 .f32 := fun y => (∑ k : Fin 8, x (ix3 k (y 0) (y 1)) : EReal)

theorem early_at (x : Vec Ideal S8x147456 .f32) (k : Fin 8) (n : Nat) (hn : n < 147456) :
    early x (ix3 k ⟨n / 128, by omega⟩ ⟨n % 128, by omega⟩) = x (ix2 k ⟨n, hn⟩) := by
  pointwise [early]
  rw [dif_pos (by omega)]
  exact congrArg x (congrArg (ix2 k) (Fin.ext (by dsimp; omega)))

theorem late_at (x0 : Vec Ideal S8x1x2048 .f32) (k : Fin 8) (n : Nat) (hn : n < 2048) :
    late x0 (ix3 k ⟨n / 128, by omega⟩ ⟨n % 128, by omega⟩) = x0 (ix3 k (0 : Fin 1) ⟨n, hn⟩) := by
  pointwise [late]
  rw [dif_pos (by omega)]
  exact congrArg x0 (congrArg (ix3 k 0) (Fin.ext (by dsimp; omega)))

theorem total (x : Vec Ideal S8x147456 .f32) (n : Nat) (hn : n < 147456) :
    sums2 (early x) (ix2 ⟨n / 128, by omega⟩ ⟨n % 128, by omega⟩) = (∑ k : Fin 8, x (ix2 k ⟨n, hn⟩) : EReal) :=
  Finset.sum_congr rfl fun k _ => early_at x k n hn

theorem total_late (x0 : Vec Ideal S8x1x2048 .f32) (n : Nat) (hn : n < 2048) :
    sums3 (late x0) (ix2 ⟨n / 128, by omega⟩ ⟨n % 128, by omega⟩) = (∑ k : Fin 8, x0 (ix3 k (0 : Fin 1) ⟨n, hn⟩) : EReal) :=
  Finset.sum_congr rfl fun k _ => late_at x0 k n hn

theorem unpack0 (A : Vec Ideal S16x128 .f32) (p : Fin 2048) :
    shapeCast S1x2048 (shapeCast S2048 A shapeCasts_S16x128_S2048) shapeCasts_S2048_S1x2048 (ix2 (0 : Fin 1) p)
      = A (ix2 ⟨p.val / 128, by omega⟩ ⟨p.val % 128, by omega⟩) := by
  pointwise []

theorem out0 (x0 : Vec Ideal S8x1x2048 .f32) :
    shapeCast S1x2048 (shapeCast S2048 (sums3 (late x0)) shapeCasts_S16x128_S2048) shapeCasts_S2048_S1x2048 = val_main_v0 (F := Ideal) x0 := by
  funext y
  obtain ⟨a, p, rfl⟩ : ∃ (a : Fin 1) (p : Fin 2048), y = ix2 a p := ⟨y 0, y 1, eq_ix2 y⟩
  obtain rfl : a = 0 := Subsingleton.elim _ _
  refine (unpack0 _ p).trans ((total_late x0 p.val p.isLt).trans ?_)
  pointwise [val_main_v0, val_main_cst]

theorem joined1 (k : Fin 8) (q : Fin 2048) : joined x1 x2 x3 x4 x5 x6 x7 x8 x9 x10 (ix2 k ⟨0 + q.val, by omega⟩) = shapeCast S8x2048 x1 shapeCasts_S8x1x2048_S8x2048 (ix2 k q) := by
  unfold joined
  refine concatenate_apply_piece (t := S8x147456) (1 : Fin 2) _ _ _ 0 ?_ S8x2048 _ ?_ rfl 0 ?_ (ix2 k q) (fun b hb => ?_) ?_
  · show 0 < 10
    omega
  · rfl
  · show List.sum ([] : List Nat) = 0
    simp only [List.sum_cons, List.sum_nil, Nat.reduceAdd]
  · match b with
    | ⟨0, _⟩ => rfl
    | ⟨1, _⟩ => exact absurd rfl hb
  · rfl

theorem joined2 (k : Fin 8) (q : Fin 3072) : joined x1 x2 x3 x4 x5 x6 x7 x8 x9 x10 (ix2 k ⟨2048 + q.val, by omega⟩) = shapeCast S8x3072 x2 shapeCasts_S8x3x1024_S8x3072 (ix2 k q) := by
  unfold joined
  refine concatenate_apply_piece (t := S8x147456) (1 : Fin 2) _ _ _ 1 ?_ S8x3072 _ ?_ rfl 2048 ?_ (ix2 k q) (fun b hb => ?_) ?_
  · show 1 < 10
    omega
  · rfl
  · show List.sum [2048] = 2048
    simp only [List.sum_cons, List.sum_nil, Nat.reduceAdd]
  · match b with
    | ⟨0, _⟩ => rfl
    | ⟨1, _⟩ => exact absurd rfl hb
  · rfl

theorem joined3 (k : Fin 8) (q : Fin 1024) : joined x1 x2 x3 x4 x5 x6 x7 x8 x9 x10 (ix2 k ⟨5120 + q.val, by omega⟩) = shapeCast S8x1024 x3 shapeCasts_S8x1x1024_S8x1024 (ix2 k q) := by
  unfold joined
  refine concatenate_apply_piece (t := S8x147456) (1 : Fin 2) _ _ _ 2 ?_ S8x1024 _ ?_ rfl 5120 ?_ (ix2 k q) (fun b hb => ?_) ?_
  · show 2 < 10
    omega
  · rfl
  · show List.sum [2048, 3072] = 5120
    simp only [List.sum_cons, List.sum_nil, Nat.reduceAdd]
  · match b with
    | ⟨0, _⟩ => rfl
    | ⟨1, _⟩ => exact absurd rfl hb
  · rfl

theorem joined4 (k : Fin 8) (q : Fin 1024) : joined x1 x2 x3 x4 x5 x6 x7 x8 x9 x10 (ix2 k ⟨6144 + q.val, by omega⟩) = shapeCast S8x1024 x4 shapeCasts_S8x1x1024_S8x1024 (ix2 k q) := by
  unfold joined
  refine concatenate_apply_piece (t := S8x147456) (1 : Fin 2) _ _ _ 3 ?_ S8x1024 _ ?_ rfl 6144 ?_ (ix2 k q) (fun b hb => ?_) ?_
  · show 3 < 10
    omega
  · rfl
  · show List.sum [2048, 3072, 1024] = 6144
    simp only [List.sum_cons, List.sum_nil, Nat.reduceAdd]
  · match b with
    | ⟨0, _⟩ => rfl
    | ⟨1, _⟩ => exact absurd rfl hb
  · rfl

theorem joined5 (k : Fin 8) (q : Fin 131072) : joined x1 x2 x3 x4 x5 x6 x7 x8 x9 x10 (ix2 k ⟨7168 + q.val, by omega⟩) = shapeCast S8x131072 x5 shapeCasts_S8x8x128x128_S8x131072 (ix2 k q) := by
  unfold joined
  refine concatenate_apply_piece (t := S8x147456) (1 : Fin 2) _ _ _ 4 ?_ S8x131072 _ ?_ rfl 7168 ?_ (ix2 k q) (fun b hb => ?_) ?_
  · show 4 < 10
    omega
  · rfl
  · show List.sum [2048, 3072, 1024, 1024] = 7168
    simp only [List.sum_cons, List.sum_nil, Nat.reduceAdd]
  · match b with
    | ⟨0, _⟩ => rfl
    | ⟨1, _⟩ => exact absurd rfl hb
  · rfl

theorem joined6 (k : Fin 8) (q : Fin 1024) : joined x1 x2 x3 x4 x5 x6 x7 x8 x9 x10 (ix2 k ⟨138240 + q.val, by omega⟩) = shapeCast S8x1024 x6 shapeCasts_S8x8x128_S8x1024 (ix2 k q) := by
  unfold joined
  refine concatenate_apply_piece (t := S8x147456) (1 : Fin 2) _ _ _ 5 ?_ S8x1024 _ ?_ rfl 138240 ?_ (ix2 k q) (fun b hb => ?_) ?_
  · show 5 < 10
    omega
  · rfl
  · show List.sum [2048, 3072, 1024, 1024, 131072] = 138240
    simp only [List.sum_cons, List.sum_nil, Nat.reduceAdd]
  · match b with
    | ⟨0, _⟩ => rfl
    | ⟨1, _⟩ => exact absurd rfl hb
  · rfl

theorem joined7 (k : Fin 8) (q : Fin 2048) : joined x1 x2 x3 x4 x5 x6 x7 x8 x9 x10 (ix2 k ⟨139264 + q.val, by omega⟩) = shapeCast S8x2048 x7 shapeCasts_S8x1x2048_S8x2048 (ix2 k q) := by
  unfold joined
  refine concatenate_apply_piece (t := S8x147456) (1 : Fin 2) _ _ _ 6 ?_ S8x2048 _ ?_ rfl 139264 ?_ (ix2 k q) (fun b hb => ?_) ?_
  · show 6 < 10
    omega
  · rfl
  · show List.sum [2048, 3072, 1024, 1024, 131072, 1024] = 139264
    simp only [List.sum_cons, List.sum_nil, Nat.reduceAdd]
  · match b with
    | ⟨0, _⟩ => rfl
    | ⟨1, _⟩ => exact absurd rfl hb
  · rfl

theorem joined8 (k : Fin 8) (q : Fin 2048) : joined x1 x2 x3 x4 x5 x6 x7 x8 x9 x10 (ix2 k ⟨141312 + q.val, by omega⟩) = shapeCast S8x2048 x8 shapeCasts_S8x1x2048_S8x2048 (ix2 k q) := by
  unfold joined
  refine concatenate_apply_piece (t := S8x147456) (1 : Fin 2) _ _ _ 7 ?_ S8x2048 _ ?_ rfl 141312 ?_ (ix2 k q) (fun b hb => ?_) ?_
  · show 7 < 10
    omega
  · rfl
  · show List.sum [2048, 3072, 1024, 1024, 131072, 1024, 2048] = 141312
    simp only [List.sum_cons, List.sum_nil, Nat.reduceAdd]
  · match b with
    | ⟨0, _⟩ => rfl
    | ⟨1, _⟩ => exact absurd rfl hb
  · rfl

theorem joined9 (k : Fin 8) (q : Fin 2048) : joined x1 x2 x3 x4 x5 x6 x7 x8 x9 x10 (ix2 k ⟨143360 + q.val, by omega⟩) = shapeCast S8x2048 x9 shapeCasts_S8x1x2048_S8x2048 (ix2 k q) := by
  unfold joined
  refine concatenate_apply_piece (t := S8x147456) (1 : Fin 2) _ _ _ 8 ?_ S8x2048 _ ?_ rfl 143360 ?_ (ix2 k q) (fun b hb => ?_) ?_
  · show 8 < 10
    omega
  · rfl
  · show List.sum [2048, 3072, 1024, 1024, 131072, 1024, 2048, 2048] = 143360
    simp only [List.sum_cons, List.sum_nil, Nat.reduceAdd]
  · match b with
    | ⟨0, _⟩ => rfl
    | ⟨1, _⟩ => exact absurd rfl hb
  · rfl

theorem joined10 (k : Fin 8) (q : Fin 2048) : joined x1 x2 x3 x4 x5 x6 x7 x8 x9 x10 (ix2 k ⟨145408 + q.val, by omega⟩) = shapeCast S8x2048 x10 shapeCasts_S8x1x2048_S8x2048 (ix2 k q) := by
  unfold joined
  refine concatenate_apply_piece (t := S8x147456) (1 : Fin 2) _ _ _ 9 ?_ S8x2048 _ ?_ rfl 145408 ?_ (ix2 k q) (fun b hb => ?_) ?_
  · show 9 < 10
    omega
  · rfl
  · show List.sum [2048, 3072, 1024, 1024, 131072, 1024, 2048, 2048, 2048] = 145408
    simp only [List.sum_cons, List.sum_nil, Nat.reduceAdd]
  · match b with
    | ⟨0, _⟩ => rfl
    | ⟨1, _⟩ => exact absurd rfl hb
  · rfl

theorem unpack1 (A : Vec Ideal S1152x128 .f32) (p : Fin 2048) :
    shapeCast S1x2048 (extractStridedSlice S2048 ![0] (shapeCast S147456 A shapeCasts_S1152x128_S147456) slices_S147456_S2048_0) shapeCasts_S2048_S1x2048 (ix2 (0 : Fin 1) p)
      = A (ix2 ⟨(0 + (p.val)) / 128, by omega⟩ ⟨(0 + (p.val)) % 128, by omega⟩) := by
  pointwise []

theorem flat1 (x : Vec Ideal S8x1x2048 .f32) (d : Fin 8) (p : Fin 2048) :
    shapeCast S8x2048 x shapeCasts_S8x1x2048_S8x2048 (ix2 d ⟨p.val, by omega⟩) = x (ix3 d (0 : Fin 1) p) := by
  pointwise []

theorem out1 :
    shapeCast S1x2048 (extractStridedSlice S2048 ![0] (shapeCast S147456 (sums2 (early (joined x1 x2 x3 x4 x5 x6 x7 x8 x9 x10))) shapeCasts_S1152x128_S147456) slices_S147456_S2048_0) shapeCasts_S2048_S1x2048
      = val_main_v1 (F := Ideal) x1 := by
  funext y
  obtain ⟨a, p, rfl⟩ : ∃ (a : Fin 1) (p : Fin 2048), y = ix2 a p := ⟨y 0, y 1, eq_ix2 y⟩
  obtain rfl : a = 0 := Subsingleton.elim _ _
  refine (unpack1 _ p).trans ((total _ (0 + (p.val)) (by omega)).trans ?_)
  refine Eq.trans (b := (∑ d : Fin 8, x1 (ix3 d (0 : Fin 1) p) : EReal)) (Finset.sum_congr rfl fun d _ => ?_) ?_
  · exact (joined1 x1 x2 x3 x4 x5 x6 x7 x8 x9 x10 d ⟨p.val, by omega⟩).trans (flat1 x1 d p)
  · pointwise [val_main_v1, val_main_cst_0]

theorem unpack2 (A : Vec Ideal S1152x128 .f32) (a : Fin 3) (p : Fin 1024) :
    shapeCast S3x1024 (extractStridedSlice S3072 ![2048] (shapeCast S147456 A shapeCasts_S1152x128_S147456) slices_S147456_S3072_2048) shapeCasts_S3072_S3x1024 (ix2 a p)
      = A (ix2 ⟨(2048 + (a.val * 1024 + p.val)) / 128, by omega⟩ ⟨(2048 + (a.val * 1024 + p.val)) % 128, by omega⟩) := by
  pointwise []

theorem flat2 (x : Vec Ideal S8x3x1024 .f32) (d : Fin 8) (a : Fin 3) (p : Fin 1024) :
    shapeCast S8x3072 x shapeCasts_S8x3x1024_S8x3072 (ix2 d ⟨a.val * 1024 + p.val, by omega⟩) = x (ix3 d a p) := by
  pointwise []

theorem out2 :
    shapeCast S3x1024 (extractStridedSlice S3072 ![2048] (shapeCast S147456 (sums2 (early (joined x1 x2 x3 x4 x5 x6 x7 x8 x9 x10))) shapeCasts_S1152x128_S147456) slices_S147456_S3072_2048) shapeCasts_S3072_S3x1024
      = val_main_v2 (F := Ideal) x2 := by
  funext y
  obtain ⟨a, p, rfl⟩ : ∃ (a : Fin 3) (p : Fin 1024), y = ix2 a p := ⟨y 0, y 1, eq_ix2 y⟩
  refine (unpack2 _ a p).trans ((total _ (2048 + (a.val * 1024 + p.val)) (by omega)).trans ?_)
  refine Eq.trans (b := (∑ d : Fin 8, x2 (ix3 d a p) : EReal)) (Finset.sum_congr rfl fun d _ => ?_) ?_
  · exact (joined2 x1 x2 x3 x4 x5 x6 x7 x8 x9 x10 d ⟨a.val * 1024 + p.val, by omega⟩).trans (flat2 x2 d a p)
  · pointwise [val_main_v2, val_main_cst_1]

theorem unpack3 (A : Vec Ideal S1152x128 .f32) (p : Fin 1024) :
    shapeCast S1x1024 (extractStridedSlice S1024 ![5120] (shapeCast S147456 A shapeCasts_S1152x128_S147456) slices_S147456_S1024_5120) shapeCasts_S1024_S1x1024 (ix2 (0 : Fin 1) p)
      = A (ix2 ⟨(5120 + (p.val)) / 128, by omega⟩ ⟨(5120 + (p.val)) % 128, by omega⟩) := by
  pointwise []

theorem flat3 (x : Vec Ideal S8x1x1024 .f32) (d : Fin 8) (p : Fin 1024) :
    shapeCast S8x1024 x shapeCasts_S8x1x1024_S8x1024 (ix2 d ⟨p.val, by omega⟩) = x (ix3 d (0 : Fin 1) p) := by
  pointwise []

theorem out3 :
    shapeCast S1x1024 (extractStridedSlice S1024 ![5120] (shapeCast S147456 (sums2 (early (joined x1 x2 x3 x4 x5 x6 x7 x8 x9 x10))) shapeCasts_S1152x128_S147456) slices_S147456_S1024_5120) shapeCasts_S1024_S1x1024
      = val_main_v3 (F := Ideal) x3 := by
  funext y
  obtain ⟨a, p, rfl⟩ : ∃ (a : Fin 1) (p : Fin 1024), y = ix2 a p := ⟨y 0, y 1, eq_ix2 y⟩
  obtain rfl : a = 0 := Subsingleton.elim _ _
  refine (unpack3 _ p).trans ((total _ (5120 + (p.val)) (by omega)).trans ?_)
  refine Eq.trans (b := (∑ d : Fin 8, x3 (ix3 d (0 : Fin 1) p) : EReal)) (Finset.sum_congr rfl fun d _ => ?_) ?_
  · exact (joined3 x1 x2 x3 x4 x5 x6 x7 x8 x9 x10 d ⟨p.val, by omega⟩).trans (flat3 x3 d p)
  · pointwise [val_main_v3, val_main_cst_2]

theorem unpack4 (A : Vec Ideal S1152x128 .f32) (p : Fin 1024) :
    shapeCast S1x1024 (extractStridedSlice S1024 ![6144] (shapeCast S147456 A shapeCasts_S1152x128_S147456) slices_S147456_S1024_6144) shapeCasts_S1024_S1x1024 (ix2 (0 : Fin 1) p)
      = A (ix2 ⟨(6144 + (p.val)) / 128, by omega⟩ ⟨(6144 + (p.val)) % 128, by omega⟩) := by
  pointwise []

theorem flat4 (x : Vec Ideal S8x1x1024 .f32) (d : Fin 8) (p : Fin 1024) :
    shapeCast S8x1024 x shapeCasts_S8x1x1024_S8x1024 (ix2 d ⟨p.val, by omega⟩) = x (ix3 d (0 : Fin 1) p) := by
  pointwise []

theorem out4 :
    shapeCast S1x1024 (extractStridedSlice S1024 ![6144] (shapeCast S147456 (sums2 (early (joined x1 x2 x3 x4 x5 x6 x7 x8 x9 x10))) shapeCasts_S1152x128_S147456) slices_S147456_S1024_6144) shapeCasts_S1024_S1x1024
      = val_main_v4 (F := Ideal) x4 := by
  funext y
  obtain ⟨a, p, rfl⟩ : ∃ (a : Fin 1) (p : Fin 1024), y = ix2 a p := ⟨y 0, y 1, eq_ix2 y⟩
  obtain rfl : a = 0 := Subsingleton.elim _ _
  refine (unpack4 _ p).trans ((total _ (6144 + (p.val)) (by omega)).trans ?_)
  refine Eq.trans (b := (∑ d : Fin 8, x4 (ix3 d (0 : Fin 1) p) : EReal)) (Finset.sum_congr rfl fun d _ => ?_) ?_
  · exact (joined4 x1 x2 x3 x4 x5 x6 x7 x8 x9 x10 d ⟨p.val, by omega⟩).trans (flat4 x4 d p)
  · pointwise [val_main_v4, val_main_cst_3]

theorem unpack5 (A : Vec Ideal S1152x128 .f32) (a : Fin 8) (p : Fin 128) (r : Fin 128) :
    shapeCast S8x128x128 (extractStridedSlice S131072 ![7168] (shapeCast S147456 A shapeCasts_S1152x128_S147456) slices_S147456_S131072_7168) shapeCasts_S131072_S8x128x128 (ix3 a p r)
      = A (ix2 ⟨(7168 + (a.val * 16384 + p.val * 128 + r.val)) / 128, by omega⟩ ⟨(7168 + (a.val * 16384 + p.val * 128 + r.val)) % 128, by omega⟩) := by
  pointwise []
  exact congrArg A (congrArg (ix2 _) (Fin.ext (by dsimp; omega)))

theorem flat5 (x : Vec Ideal S8x8x128x128 .f32) (d : Fin 8) (a : Fin 8) (p : Fin 128) (r : Fin 128) :
    shapeCast S8x131072 x shapeCasts_S8x8x128x128_S8x131072 (ix2 d ⟨a.val * 16384 + p.val * 128 + r.val, by omega⟩) = x (ix4 d a p r) := by
  pointwise []

theorem out5 :
    shapeCast S8x128x128 (extractStridedSlice S131072 ![7168] (shapeCast S147456 (sums2 (early (joined x1 x2 x3 x4 x5 x6 x7 x8 x9 x10))) shapeCasts_S1152x128_S147456) slices_S147456_S131072_7168) shapeCasts_S131072_S8x128x128
      = val_main_v5 (F := Ideal) x5 := by
  funext y
  obtain ⟨a, p, r, rfl⟩ : ∃ (a : Fin 8) (p : Fin 128) (r : Fin 128), y = ix3 a p r := ⟨y 0, y 1, y 2, eq_ix3 y⟩
  refine (unpack5 _ a p r).trans ((total _ (7168 + (a.val * 16384 + p.val * 128 + r.val)) (by omega)).trans ?_)
  refine Eq.trans (b := (∑ d : Fin 8, x5 (ix4 d a p r) : EReal)) (Finset.sum_congr rfl fun d _ => ?_) ?_
  · exact (joined5 x1 x2 x3 x4 x5 x6 x7 x8 x9 x10 d ⟨a.val * 16384 + p.val * 128 + r.val, by omega⟩).trans (flat5 x5 d a p r)
  · pointwise [val_main_v5, val_main_cst_4]

theorem unpack6 (A : Vec Ideal S1152x128 .f32) (a : Fin 8) (p : Fin 128) :
    shapeCast S8x128 (extractStridedSlice S1024 ![138240] (shapeCast S147456 A shapeCasts_S1152x128_S147456) slices_S147456_S1024_138240) shapeCasts_S1024_S8x128 (ix2 a p)
      = A (ix2 ⟨(138240 + (a.val * 128 + p.val)) / 128, by omega⟩ ⟨(138240 + (a.val * 128 + p.val)) % 128, by omega⟩) := by
  pointwise []
  exact congrArg A (congrArg (ix2 _) (Fin.ext (by dsimp; omega)))

theorem flat6 (x : Vec Ideal S8x8x128 .f32) (d : Fin 8) (a : Fin 8) (p : Fin 128) :
    shapeCast S8x1024 x shapeCasts_S8x8x128_S8x1024 (ix2 d ⟨a.val * 128 + p.val, by omega⟩) = x (ix3 d a p) := by
  pointwise []

theorem out6 :
    shapeCast S8x128 (extractStridedSlice S1024 ![138240] (shapeCast S147456 (sums2 (early (joined x1 x2 x3 x4 x5 x6 x7 x8 x9 x10))) shapeCasts_S1152x128_S147456) slices_S147456_S1024_138240) shapeCasts_S1024_S8x128
      = val_main_v6 (F := Ideal) x6 := by
  funext y
  obtain ⟨a, p, rfl⟩ : ∃ (a : Fin 8) (p : Fin 128), y = ix2 a p := ⟨y 0, y 1, eq_ix2 y⟩
  refine (unpack6 _ a p).trans ((total _ (138240 + (a.val * 128 + p.val)) (by omega)).trans ?_)
  refine Eq.trans (b := (∑ d : Fin 8, x6 (ix3 d a p) : EReal)) (Finset.sum_congr rfl fun d _ => ?_) ?_
  · exact (joined6 x1 x2 x3 x4 x5 x6 x7 x8 x9 x10 d ⟨a.val * 128 + p.val, by omega⟩).trans (flat6 x6 d a p)
  · pointwise [val_main_v6, val_main_cst_5]

theorem unpack7 (A : Vec Ideal S1152x128 .f32) (p : Fin 2048) :
    shapeCast S1x2048 (extractStridedSlice S2048 ![139264] (shapeCast S147456 A shapeCasts_S1152x128_S147456) slices_S147456_S2048_139264) shapeCasts_S2048_S1x2048 (ix2 (0 : Fin 1) p)
      = A (ix2 ⟨(139264 + (p.val)) / 128, by omega⟩ ⟨(139264 + (p.val)) % 128, by omega⟩) := by
  pointwise []

theorem flat7 (x : Vec Ideal S8x1x2048 .f32) (d : Fin 8) (p : Fin 2048) :
    shapeCast S8x2048 x shapeCasts_S8x1x2048_S8x2048 (ix2 d ⟨p.val, by omega⟩) = x (ix3 d (0 : Fin 1) p) := by
  pointwise []

theorem out7 :
    shapeCast S1x2048 (extractStridedSlice S2048 ![139264] (shapeCast S147456 (sums2 (early (joined x1 x2 x3 x4 x5 x6 x7 x8 x9 x10))) shapeCasts_S1152x128_S147456) slices_S147456_S2048_139264) shapeCasts_S2048_S1x2048
      = val_main_v7 (F := Ideal) x7 := by
  funext y
  obtain ⟨a, p, rfl⟩ : ∃ (a : Fin 1) (p : Fin 2048), y = ix2 a p := ⟨y 0, y 1, eq_ix2 y⟩
  obtain rfl : a = 0 := Subsingleton.elim _ _
  refine (unpack7 _ p).trans ((total _ (139264 + (p.val)) (by omega)).trans ?_)
  refine Eq.trans (b := (∑ d : Fin 8, x7 (ix3 d (0 : Fin 1) p) : EReal)) (Finset.sum_congr rfl fun d _ => ?_) ?_
  · exact (joined7 x1 x2 x3 x4 x5 x6 x7 x8 x9 x10 d ⟨p.val, by omega⟩).trans (flat7 x7 d p)
  · pointwise [val_main_v7, val_main_cst_6]

theorem unpack8 (A : Vec Ideal S1152x128 .f32) (p : Fin 2048) :
    shapeCast S1x2048 (extractStridedSlice S2048 ![141312] (shapeCast S147456 A shapeCasts_S1152x128_S147456) slices_S147456_S2048_141312) shapeCasts_S2048_S1x2048 (ix2 (0 : Fin 1) p)
      = A (ix2 ⟨(141312 + (p.val)) / 128, by omega⟩ ⟨(141312 + (p.val)) % 128, by omega⟩) := by
  pointwise []

theorem flat8 (x : Vec Ideal S8x1x2048 .f32) (d : Fin 8) (p : Fin 2048) :
    shapeCast S8x2048 x shapeCasts_S8x1x2048_S8x2048 (ix2 d ⟨p.val, by omega⟩) = x (ix3 d (0 : Fin 1) p) := by
  pointwise []

theorem out8 :
    shapeCast S1x2048 (extractStridedSlice S2048 ![141312] (shapeCast S147456 (sums2 (early (joined x1 x2 x3 x4 x5 x6 x7 x8 x9 x10))) shapeCasts_S1152x128_S147456) slices_S147456_S2048_141312) shapeCasts_S2048_S1x2048
      = val_main_v8 (F := Ideal) x8 := by
  funext y
  obtain ⟨a, p, rfl⟩ : ∃ (a : Fin 1) (p : Fin 2048), y = ix2 a p := ⟨y 0, y 1, eq_ix2 y⟩
  obtain rfl : a = 0 := Subsingleton.elim _ _
  refine (unpack8 _ p).trans ((total _ (141312 + (p.val)) (by omega)).trans ?_)
  refine Eq.trans (b := (∑ d : Fin 8, x8 (ix3 d (0 : Fin 1) p) : EReal)) (Finset.sum_congr rfl fun d _ => ?_) ?_
  · exact (joined8 x1 x2 x3 x4 x5 x6 x7 x8 x9 x10 d ⟨p.val, by omega⟩).trans (flat8 x8 d p)
  · pointwise [val_main_v8, val_main_cst_7]

theorem unpack9 (A : Vec Ideal S1152x128 .f32) (p : Fin 2048) :
    shapeCast S1x2048 (extractStridedSlice S2048 ![143360] (shapeCast S147456 A shapeCasts_S1152x128_S147456) slices_S147456_S2048_143360) shapeCasts_S2048_S1x2048 (ix2 (0 : Fin 1) p)
      = A (ix2 ⟨(143360 + (p.val)) / 128, by omega⟩ ⟨(143360 + (p.val)) % 128, by omega⟩) := by
  pointwise []

theorem flat9 (x : Vec Ideal S8x1x2048 .f32) (d : Fin 8) (p : Fin 2048) :
    shapeCast S8x2048 x shapeCasts_S8x1x2048_S8x2048 (ix2 d ⟨p.val, by omega⟩) = x (ix3 d (0 : Fin 1) p) := by
  pointwise []

theorem out9 :
    shapeCast S1x2048 (extractStridedSlice S2048 ![143360] (shapeCast S147456 (sums2 (early (joined x1 x2 x3 x4 x5 x6 x7 x8 x9 x10))) shapeCasts_S1152x128_S147456) slices_S147456_S2048_143360) shapeCasts_S2048_S1x2048
      = val_main_v9 (F := Ideal) x9 := by
  funext y
  obtain ⟨a, p, rfl⟩ : ∃ (a : Fin 1) (p : Fin 2048), y = ix2 a p := ⟨y 0, y 1, eq_ix2 y⟩
  obtain rfl : a = 0 := Subsingleton.elim _ _
  refine (unpack9 _ p).trans ((total _ (143360 + (p.val)) (by omega)).trans ?_)
  refine Eq.trans (b := (∑ d : Fin 8, x9 (ix3 d (0 : Fin 1) p) : EReal)) (Finset.sum_congr rfl fun d _ => ?_) ?_
  · exact (joined9 x1 x2 x3 x4 x5 x6 x7 x8 x9 x10 d ⟨p.val, by omega⟩).trans (flat9 x9 d p)
  · pointwise [val_main_v9, val_main_cst_8]

theorem unpack10 (A : Vec Ideal S1152x128 .f32) (p : Fin 2048) :
    shapeCast S1x2048 (extractStridedSlice S2048 ![145408] (shapeCast S147456 A shapeCasts_S1152x128_S147456) slices_S147456_S2048_145408) shapeCasts_S2048_S1x2048 (ix2 (0 : Fin 1) p)
      = A (ix2 ⟨(145408 + (p.val)) / 128, by omega⟩ ⟨(145408 + (p.val)) % 128, by omega⟩) := by
  pointwise []

theorem flat10 (x : Vec Ideal S8x1x2048 .f32) (d : Fin 8) (p : Fin 2048) :
    shapeCast S8x2048 x shapeCasts_S8x1x2048_S8x2048 (ix2 d ⟨p.val, by omega⟩) = x (ix3 d (0 : Fin 1) p) := by
  pointwise []

theorem out10 :
    shapeCast S1x2048 (extractStridedSlice S2048 ![145408] (shapeCast S147456 (sums2 (early (joined x1 x2 x3 x4 x5 x6 x7 x8 x9 x10))) shapeCasts_S1152x128_S147456) slices_S147456_S2048_145408) shapeCasts_S2048_S1x2048
      = val_main_v10 (F := Ideal) x10 := by
  funext y
  obtain ⟨a, p, rfl⟩ : ∃ (a : Fin 1) (p : Fin 2048), y = ix2 a p := ⟨y 0, y 1, eq_ix2 y⟩
  obtain rfl : a = 0 := Subsingleton.elim _ _
  refine (unpack10 _ p).trans ((total _ (145408 + (p.val)) (by omega)).trans ?_)
  refine Eq.trans (b := (∑ d : Fin 8, x10 (ix3 d (0 : Fin 1) p) : EReal)) (Finset.sum_congr rfl fun d _ => ?_) ?_
  · exact (joined10 x1 x2 x3 x4 x5 x6 x7 x8 x9 x10 d ⟨p.val, by omega⟩).trans (flat10 x10 d p)
  · pointwise [val_main_v10, val_main_cst_9]

end Sums

section Points
variable (m : (ℓ : Loc nD τ sig) → Buf (Elt Ideal) ℓ) (c : Dev nD)

abbrev X0 : Vec Ideal S8x1x2048 .f32 := m ((c : Thread nD τ).loc main_arg0)
abbrev X1 : Vec Ideal S8x1x2048 .f32 := m ((c : Thread nD τ).loc main_arg1)
abbrev X2 : Vec Ideal S8x3x1024 .f32 := m ((c : Thread nD τ).loc main_arg2)
abbrev X3 : Vec Ideal S8x1x1024 .f32 := m ((c : Thread nD τ).loc main_arg3)
abbrev X4 : Vec Ideal S8x1x1024 .f32 := m ((c : Thread nD τ).loc main_arg4)
abbrev X5 : Vec Ideal S8x8x128x128 .f32 := m ((c : Thread nD τ).loc main_arg5)
abbrev X6 : Vec Ideal S8x8x128 .f32 := m ((c : Thread nD τ).loc main_arg6)
abbrev X7 : Vec Ideal S8x1x2048 .f32 := m ((c : Thread nD τ).loc main_arg7)
abbrev X8 : Vec Ideal S8x1x2048 .f32 := m ((c : Thread nD τ).loc main_arg8)
abbrev X9 : Vec Ideal S8x1x2048 .f32 := m ((c : Thread nD τ).loc main_arg9)
abbrev X10 : Vec Ideal S8x1x2048 .f32 := m ((c : Thread nD τ).loc main_arg10)

theorem late_eq : V m c main_v15 = late (X0 m c) := by
  unfold V V0
  simp only [hostOps0, hostOps0_1, hostOps0_2, hostOps0_3, hostOps0_4, List.flatten_cons, List.flatten_nil, List.append_nil, List.cons_append, List.nil_append]
  after_results
  simp only [StableHlo.TRef.ofBuf_toBuf]
  show shapeCast S8x16x128 (pad S8x2048 ![0, 0] ![0, 0] ![0, 0] (shapeCast S8x2048 (X0 m c) shapeCasts_S8x1x2048_S8x2048)
    (sitofp (F := Ideal) .f32 (constantI S_ 32 0#32)) pads_S8x2048_S8x2048_000_000 h_S_) shapeCasts_S8x2048_S8x16x128 = _
  rfl

/-- What the first ten of the host's lines leave. -/
abbrev first : Valuation τ sig (Elt Ideal) := StableHlo.after (hostOps0.take 10) fun b => m (c, b)

theorem first1 : first m c (Proc.devRef .tc main_v0) = shapeCast S8x2048 (X1 m c) shapeCasts_S8x1x2048_S8x2048 := by
  unfold first
  simp only [hostOps0, List.take_succ_cons, List.take_zero]
  after_results <;> rfl

theorem first2 : first m c (Proc.devRef .tc main_v1) = shapeCast S8x3072 (X2 m c) shapeCasts_S8x3x1024_S8x3072 := by
  unfold first
  simp only [hostOps0, List.take_succ_cons, List.take_zero]
  after_results <;> rfl

theorem first3 : first m c (Proc.devRef .tc main_v2) = shapeCast S8x1024 (X3 m c) shapeCasts_S8x1x1024_S8x1024 := by
  unfold first
  simp only [hostOps0, List.take_succ_cons, List.take_zero]
  after_results <;> rfl

theorem first4 : first m c (Proc.devRef .tc main_v3) = shapeCast S8x1024 (X4 m c) shapeCasts_S8x1x1024_S8x1024 := by
  unfold first
  simp only [hostOps0, List.take_succ_cons, List.take_zero]
  after_results <;> rfl

theorem first5 : first m c (Proc.devRef .tc main_v4) = shapeCast S8x131072 (X5 m c) shapeCasts_S8x8x128x128_S8x131072 := by
  unfold first
  simp only [hostOps0, List.take_succ_cons, List.take_zero]
  after_results <;> rfl

theorem first6 : first m c (Proc.devRef .tc main_v5) = shapeCast S8x1024 (X6 m c) shapeCasts_S8x8x128_S8x1024 := by
  unfold first
  simp only [hostOps0, List.take_succ_cons, List.take_zero]
  after_results <;> rfl

theorem first7 : first m c (Proc.devRef .tc main_v6) = shapeCast S8x2048 (X7 m c) shapeCasts_S8x1x2048_S8x2048 := by
  unfold first
  simp only [hostOps0, List.take_succ_cons, List.take_zero]
  after_results <;> rfl

theorem first8 : first m c (Proc.devRef .tc main_v7) = shapeCast S8x2048 (X8 m c) shapeCasts_S8x1x2048_S8x2048 := by
  unfold first
  simp only [hostOps0, List.take_succ_cons, List.take_zero]
  after_results <;> rfl

theorem first9 : first m c (Proc.devRef .tc main_v8) = shapeCast S8x2048 (X9 m c) shapeCasts_S8x1x2048_S8x2048 := by
  unfold first
  simp only [hostOps0, List.take_succ_cons, List.take_zero]
  after_results <;> rfl

theorem first10 : first m c (Proc.devRef .tc main_v9) = shapeCast S8x2048 (X10 m c) shapeCasts_S8x1x2048_S8x2048 := by
  unfold first
  simp only [hostOps0, List.take_succ_cons, List.take_zero]
  after_results <;> rfl

theorem joins (W : Valuation τ sig (Elt Ideal)) : StableHlo.after (hostOps0.drop 10) W (Proc.devRef .tc main_v10)
    = concatenate S8x147456 1 [⟨S8x2048, W (Proc.devRef .tc main_v0)⟩,
      ⟨S8x3072, W (Proc.devRef .tc main_v1)⟩,
      ⟨S8x1024, W (Proc.devRef .tc main_v2)⟩,
      ⟨S8x1024, W (Proc.devRef .tc main_v3)⟩,
      ⟨S8x131072, W (Proc.devRef .tc main_v4)⟩,
      ⟨S8x1024, W (Proc.devRef .tc main_v5)⟩,
      ⟨S8x2048, W (Proc.devRef .tc main_v6)⟩,
      ⟨S8x2048, W (Proc.devRef .tc main_v7)⟩,
      ⟨S8x2048, W (Proc.devRef .tc main_v8)⟩,
      ⟨S8x2048, W (Proc.devRef .tc main_v9)⟩]
    concatenates_S8x2048_S8x3072_S8x1024_S8x1024_S8x131072_S8x1024_S8x2048_S8x2048_S8x2048_S8x2048_S8x147456_d1 := by
  simp only [hostOps0, List.drop_succ_cons, List.drop_zero]
  after_results
  rfl

theorem pad_word (W : Valuation τ sig (Elt Ideal)) : StableHlo.after (hostOps0.drop 10) W (Proc.devRef .tc main_c) = constantI S_ 32 0#32 := by
  simp only [hostOps0, List.drop_succ_cons, List.drop_zero]
  after_results

theorem pads (W : Valuation τ sig (Elt Ideal)) (x : Vec Ideal S8x147456 .f32) (hx : W (Proc.devRef .tc main_v10) = x)
    (hc : W (Proc.devRef .tc main_c) = constantI S_ 32 0#32) :
    StableHlo.after (hostOps0_1 ++ (hostOps0_2 ++ (hostOps0_3 ++ hostOps0_4))) W (Proc.devRef .tc main_v12) = early x := by
  simp only [hostOps0_1, hostOps0_2, hostOps0_3, hostOps0_4, List.cons_append, List.nil_append]
  after_results
  simp only [StableHlo.TRef.ofBuf_toBuf]
  show shapeCast S8x1152x128 (pad S8x147456 ![0, 0] ![0, 0] ![0, 0] (W (Proc.devRef .tc main_v10)) (sitofp (F := Ideal) .f32 (W (Proc.devRef .tc main_c)))
    pads_S8x147456_S8x147456_000_000 h_S_) shapeCasts_S8x147456_S8x1152x128 = _
  rw [hx, hc]
  rfl

theorem early_eq : V m c main_v12 = early (joined (X1 m c) (X2 m c) (X3 m c) (X4 m c) (X5 m c) (X6 m c) (X7 m c) (X8 m c) (X9 m c) (X10 m c)) := by
  show StableHlo.after (hostOps0_1 ++ (hostOps0_2 ++ (hostOps0_3 ++ hostOps0_4))) (StableHlo.after (hostOps0.drop 10) (first m c)) (Proc.devRef .tc main_v12) = _
  refine pads _ _ ?_ (pad_word _)
  rw [joins, first1, first2, first3, first4, first5, first6, first7, first8, first9, first10]
  rfl

abbrev A2 : Vec Ideal S1152x128 .f32 := (dats m 0 c).arrAt 2 cfg0.N
abbrev A3 : Vec Ideal S16x128 .f32 := (dats m 0 c).arrAt 3 cfg0.N

theorem eight (f : Fin 8 → EReal) : f 0 + f 1 + f 2 + f 3 + f 4 + f 5 + f 6 + f 7 = ∑ k, f k := (Fin.sum_univ_eight f).symm

theorem at0 : ∀ t : Fin cfg0.grid.N, win0_0.index t = ![0, 0, 0] ∧ win0_1.index t = ![0, 0, 0] ∧ win0_2.index t = ![0, 0] ∧ win0_3.index t = ![0, 0] := by
  decide +kernel

theorem A2_eq : A2 m c = sums2 (early (joined (X1 m c) (X2 m c) (X3 m c) (X4 m c) (X5 m c) (X6 m c) (X7 m c) (X8 m c) (X9 m c) (X10 m c))) := by
  rw [← early_eq]
  refine (dats m 0 c).arrAt_eq_of_covers 2 _ (by decide +kernel) fun t hf y => ?_
  obtain ⟨h0, h1, h2, h3⟩ := at0 t
  blk_simp
  rw [after0_2]
  unfold out0_2
  frame_out
  obtain ⟨r, b, rfl⟩ : ∃ (r : Fin 1152) (b : Fin 128), y = ix2 r b := ⟨(show S1152x128.Idx from y) 0, (show S1152x128.Idx from y) 1, eq_ix2 (show S1152x128.Idx from y)⟩
  refine Eq.trans (b := sums2 (V m c main_v12) (ix2 r b)) ?_ ?_
  · have e : (iblk m c 0 t : Vec Ideal S8x1152x128 .f32) = V m c main_v12 := by
      funext z
      blk_ext! [iblk, h0, h1]
    rw [e]
    generalize V m c main_v12 = x
    pointwise [k0_pay2, sums2]
    exact eight fun k => x (ix3 k r b)
  · generalize sums2 _ = A
    blk_ext [h2, h3]

theorem A3_eq : A3 m c = sums3 (late (X0 m c)) := by
  rw [← late_eq]
  refine (dats m 0 c).arrAt_eq_of_covers 3 _ (by decide +kernel) fun t hf y => ?_
  obtain ⟨h0, h1, h2, h3⟩ := at0 t
  blk_simp
  rw [after0_3]
  unfold out0_3
  frame_out
  obtain ⟨r, b, rfl⟩ : ∃ (r : Fin 16) (b : Fin 128), y = ix2 r b := ⟨(show S16x128.Idx from y) 0, (show S16x128.Idx from y) 1, eq_ix2 (show S16x128.Idx from y)⟩
  refine Eq.trans (b := sums3 (V m c main_v15) (ix2 r b)) ?_ ?_
  · have e : (iblk m c 1 t : Vec Ideal S8x16x128 .f32) = V m c main_v15 := by
      funext z
      blk_ext! [iblk, h0, h1]
    rw [e]
    generalize V m c main_v15 = x
    pointwise [k0_pay1, k0_pay3, sums3]
    exact eight fun k => x (ix3 k r b)
  · generalize sums3 _ = A
    blk_ext [h2, h3]

/-- What the region leaves, before the host's last lines. -/
abbrev U : Valuation τ sig (Elt Ideal) := Pipeline.withArrays (cfgs 0).spec c (V0 m c) fun w => (dats m 0 c).arrAt w (cfgs 0).N

theorem U2 : U m c (Proc.devRef .tc main_v16_0) = A2 m c := Pipeline.withArrays_arr (cfgs 0).spec launch0.win.arr_inj c _ _ 2

theorem U3 : U m c (Proc.devRef .tc main_v16_1) = A3 m c := Pipeline.withArrays_arr (cfgs 0).spec launch0.win.arr_inj c _ _ 3

theorem tail0 : Pipeline.afterTail₀ cfgs (dats m) 0 (V0 m) [hostOps1] c main_v18
    = shapeCast S1x2048 (shapeCast S2048 (A3 m c) shapeCasts_S16x128_S2048) shapeCasts_S2048_S1x2048 := by
  rw [← U3]
  show StableHlo.after hostOps1 (U m c) (Proc.devRef .tc main_v18) = _
  generalize U m c = W
  after_results <;> rfl

theorem tail1 : Pipeline.afterTail₀ cfgs (dats m) 0 (V0 m) [hostOps1] c main_v21
    = shapeCast S1x2048 (extractStridedSlice S2048 ![0] (shapeCast S147456 (A2 m c) shapeCasts_S1152x128_S147456) slices_S147456_S2048_0) shapeCasts_S2048_S1x2048 := by
  rw [← U2]
  show StableHlo.after hostOps1 (U m c) (Proc.devRef .tc main_v21) = _
  generalize U m c = W
  after_results <;> rfl

theorem tail2 : Pipeline.afterTail₀ cfgs (dats m) 0 (V0 m) [hostOps1] c main_v23
    = shapeCast S3x1024 (extractStridedSlice S3072 ![2048] (shapeCast S147456 (A2 m c) shapeCasts_S1152x128_S147456) slices_S147456_S3072_2048) shapeCasts_S3072_S3x1024 := by
  rw [← U2]
  show StableHlo.after hostOps1 (U m c) (Proc.devRef .tc main_v23) = _
  generalize U m c = W
  after_results <;> rfl

theorem tail3 : Pipeline.afterTail₀ cfgs (dats m) 0 (V0 m) [hostOps1] c main_v25
    = shapeCast S1x1024 (extractStridedSlice S1024 ![5120] (shapeCast S147456 (A2 m c) shapeCasts_S1152x128_S147456) slices_S147456_S1024_5120) shapeCasts_S1024_S1x1024 := by
  rw [← U2]
  show StableHlo.after hostOps1 (U m c) (Proc.devRef .tc main_v25) = _
  generalize U m c = W
  after_results <;> rfl

theorem tail4 : Pipeline.afterTail₀ cfgs (dats m) 0 (V0 m) [hostOps1] c main_v27
    = shapeCast S1x1024 (extractStridedSlice S1024 ![6144] (shapeCast S147456 (A2 m c) shapeCasts_S1152x128_S147456) slices_S147456_S1024_6144) shapeCasts_S1024_S1x1024 := by
  rw [← U2]
  show StableHlo.after hostOps1 (U m c) (Proc.devRef .tc main_v27) = _
  generalize U m c = W
  after_results <;> rfl

theorem tail5 : Pipeline.afterTail₀ cfgs (dats m) 0 (V0 m) [hostOps1] c main_v29
    = shapeCast S8x128x128 (extractStridedSlice S131072 ![7168] (shapeCast S147456 (A2 m c) shapeCasts_S1152x128_S147456) slices_S147456_S131072_7168) shapeCasts_S131072_S8x128x128 := by
  rw [← U2]
  show StableHlo.after hostOps1 (U m c) (Proc.devRef .tc main_v29) = _
  generalize U m c = W
  after_results <;> rfl

theorem tail6 : Pipeline.afterTail₀ cfgs (dats m) 0 (V0 m) [hostOps1] c main_v31
    = shapeCast S8x128 (extractStridedSlice S1024 ![138240] (shapeCast S147456 (A2 m c) shapeCasts_S1152x128_S147456) slices_S147456_S1024_138240) shapeCasts_S1024_S8x128 := by
  rw [← U2]
  show StableHlo.after hostOps1 (U m c) (Proc.devRef .tc main_v31) = _
  generalize U m c = W
  after_results <;> rfl

theorem tail7 : Pipeline.afterTail₀ cfgs (dats m) 0 (V0 m) [hostOps1] c main_v33
    = shapeCast S1x2048 (extractStridedSlice S2048 ![139264] (shapeCast S147456 (A2 m c) shapeCasts_S1152x128_S147456) slices_S147456_S2048_139264) shapeCasts_S2048_S1x2048 := by
  rw [← U2]
  show StableHlo.after hostOps1 (U m c) (Proc.devRef .tc main_v33) = _
  generalize U m c = W
  after_results <;> rfl

theorem tail8 : Pipeline.afterTail₀ cfgs (dats m) 0 (V0 m) [hostOps1] c main_v35
    = shapeCast S1x2048 (extractStridedSlice S2048 ![141312] (shapeCast S147456 (A2 m c) shapeCasts_S1152x128_S147456) slices_S147456_S2048_141312) shapeCasts_S2048_S1x2048 := by
  rw [← U2]
  show StableHlo.after hostOps1 (U m c) (Proc.devRef .tc main_v35) = _
  generalize U m c = W
  after_results <;> rfl

theorem tail9 : Pipeline.afterTail₀ cfgs (dats m) 0 (V0 m) [hostOps1] c main_v37
    = shapeCast S1x2048 (extractStridedSlice S2048 ![143360] (shapeCast S147456 (A2 m c) shapeCasts_S1152x128_S147456) slices_S147456_S2048_143360) shapeCasts_S2048_S1x2048 := by
  rw [← U2]
  show StableHlo.after hostOps1 (U m c) (Proc.devRef .tc main_v37) = _
  generalize U m c = W
  after_results <;> rfl

theorem tail10 : Pipeline.afterTail₀ cfgs (dats m) 0 (V0 m) [hostOps1] c main_v39
    = shapeCast S1x2048 (extractStridedSlice S2048 ![145408] (shapeCast S147456 (A2 m c) shapeCasts_S1152x128_S147456) slices_S147456_S2048_145408) shapeCasts_S2048_S1x2048 := by
  rw [← U2]
  show StableHlo.after hostOps1 (U m c) (Proc.devRef .tc main_v39) = _
  generalize U m c = W
  after_results <;> rfl

theorem ends0 : Pipeline.afterTail₀ cfgs (dats m) 0 (V0 m) [hostOps1] c main_v18 = val_main_v0 (F := Ideal) (X0 m c) := by
  rw [tail0, A3_eq]
  exact out0 _

theorem ends1 : Pipeline.afterTail₀ cfgs (dats m) 0 (V0 m) [hostOps1] c main_v21 = val_main_v1 (F := Ideal) (X1 m c) := by
  rw [tail1, A2_eq]
  exact out1 _ _ _ _ _ _ _ _ _ _

theorem ends2 : Pipeline.afterTail₀ cfgs (dats m) 0 (V0 m) [hostOps1] c main_v23 = val_main_v2 (F := Ideal) (X2 m c) := by
  rw [tail2, A2_eq]
  exact out2 _ _ _ _ _ _ _ _ _ _

theorem ends3 : Pipeline.afterTail₀ cfgs (dats m) 0 (V0 m) [hostOps1] c main_v25 = val_main_v3 (F := Ideal) (X3 m c) := by
  rw [tail3, A2_eq]
  exact out3 _ _ _ _ _ _ _ _ _ _

theorem ends4 : Pipeline.afterTail₀ cfgs (dats m) 0 (V0 m) [hostOps1] c main_v27 = val_main_v4 (F := Ideal) (X4 m c) := by
  rw [tail4, A2_eq]
  exact out4 _ _ _ _ _ _ _ _ _ _

theorem ends5 : Pipeline.afterTail₀ cfgs (dats m) 0 (V0 m) [hostOps1] c main_v29 = val_main_v5 (F := Ideal) (X5 m c) := by
  rw [tail5, A2_eq]
  exact out5 _ _ _ _ _ _ _ _ _ _

theorem ends6 : Pipeline.afterTail₀ cfgs (dats m) 0 (V0 m) [hostOps1] c main_v31 = val_main_v6 (F := Ideal) (X6 m c) := by
  rw [tail6, A2_eq]
  exact out6 _ _ _ _ _ _ _ _ _ _

theorem ends7 : Pipeline.afterTail₀ cfgs (dats m) 0 (V0 m) [hostOps1] c main_v33 = val_main_v7 (F := Ideal) (X7 m c) := by
  rw [tail7, A2_eq]
  exact out7 _ _ _ _ _ _ _ _ _ _

theorem ends8 : Pipeline.afterTail₀ cfgs (dats m) 0 (V0 m) [hostOps1] c main_v35 = val_main_v8 (F := Ideal) (X8 m c) := by
  rw [tail8, A2_eq]
  exact out8 _ _ _ _ _ _ _ _ _ _

theorem ends9 : Pipeline.afterTail₀ cfgs (dats m) 0 (V0 m) [hostOps1] c main_v37 = val_main_v9 (F := Ideal) (X9 m c) := by
  rw [tail9, A2_eq]
  exact out9 _ _ _ _ _ _ _ _ _ _

theorem ends10 : Pipeline.afterTail₀ cfgs (dats m) 0 (V0 m) [hostOps1] c main_v39 = val_main_v10 (F := Ideal) (X10 m c) := by
  rw [tail10, A2_eq]
  exact out10 _ _ _ _ _ _ _ _ _ _

end Points

theorem algebraic : Cert.algebraic_PackedIdeal_PackedRefIdeal := by
  intro m ρ m' ρ' _ hagree
  refine ⟨fun c => val_main_v0 (F := Ideal) (X0 m c), fun c => val_main_v1 (F := Ideal) (X1 m c), fun c => val_main_v2 (F := Ideal) (X2 m c), fun c => val_main_v3 (F := Ideal) (X3 m c), fun c => val_main_v4 (F := Ideal) (X4 m c), fun c => val_main_v5 (F := Ideal) (X5 m c), fun c => val_main_v6 (F := Ideal) (X6 m c), fun c => val_main_v7 (F := Ideal) (X7 m c), fun c => val_main_v8 (F := Ideal) (X8 m c), fun c => val_main_v9 (F := Ideal) (X9 m c), fun c => val_main_v10 (F := Ideal) (X10 m c), ?_, ?_⟩
  · refine (θ_run defs _ _).mono (fun r h c => ?_) (Cert.PackedIdeal.Gen.run_main (F := Ideal) m ρ)
    have hb := (h c).2
    refine ⟨(hb main_v18 (Pipeline.mem_restRefs_of main_v18 (by decide) (by decide))).trans (ends0 m c),
      (hb main_v21 (Pipeline.mem_restRefs_of main_v21 (by decide) (by decide))).trans (ends1 m c),
      (hb main_v23 (Pipeline.mem_restRefs_of main_v23 (by decide) (by decide))).trans (ends2 m c),
      (hb main_v25 (Pipeline.mem_restRefs_of main_v25 (by decide) (by decide))).trans (ends3 m c),
      (hb main_v27 (Pipeline.mem_restRefs_of main_v27 (by decide) (by decide))).trans (ends4 m c),
      (hb main_v29 (Pipeline.mem_restRefs_of main_v29 (by decide) (by decide))).trans (ends5 m c),
      (hb main_v31 (Pipeline.mem_restRefs_of main_v31 (by decide) (by decide))).trans (ends6 m c),
      (hb main_v33 (Pipeline.mem_restRefs_of main_v33 (by decide) (by decide))).trans (ends7 m c),
      (hb main_v35 (Pipeline.mem_restRefs_of main_v35 (by decide) (by decide))).trans (ends8 m c),
      (hb main_v37 (Pipeline.mem_restRefs_of main_v37 (by decide) (by decide))).trans (ends9 m c),
      (hb main_v39 (Pipeline.mem_restRefs_of main_v39 (by decide) (by decide))).trans (ends10 m c),
      (hb main_arg0 (Pipeline.mem_restRefs_of main_arg0 (by decide) (by decide))).trans (Cert.PackedIdeal.Gen.W_main_arg0 m (dats m) c),
      (hb main_arg1 (Pipeline.mem_restRefs_of main_arg1 (by decide) (by decide))).trans (Cert.PackedIdeal.Gen.W_main_arg1 m (dats m) c),
      (hb main_arg2 (Pipeline.mem_restRefs_of main_arg2 (by decide) (by decide))).trans (Cert.PackedIdeal.Gen.W_main_arg2 m (dats m) c),
      (hb main_arg3 (Pipeline.mem_restRefs_of main_arg3 (by decide) (by decide))).trans (Cert.PackedIdeal.Gen.W_main_arg3 m (dats m) c),
      (hb main_arg4 (Pipeline.mem_restRefs_of main_arg4 (by decide) (by decide))).trans (Cert.PackedIdeal.Gen.W_main_arg4 m (dats m) c),
      (hb main_arg5 (Pipeline.mem_restRefs_of main_arg5 (by decide) (by decide))).trans (Cert.PackedIdeal.Gen.W_main_arg5 m (dats m) c),
      (hb main_arg6 (Pipeline.mem_restRefs_of main_arg6 (by decide) (by decide))).trans (Cert.PackedIdeal.Gen.W_main_arg6 m (dats m) c),
      (hb main_arg7 (Pipeline.mem_restRefs_of main_arg7 (by decide) (by decide))).trans (Cert.PackedIdeal.Gen.W_main_arg7 m (dats m) c),
      (hb main_arg8 (Pipeline.mem_restRefs_of main_arg8 (by decide) (by decide))).trans (Cert.PackedIdeal.Gen.W_main_arg8 m (dats m) c),
      (hb main_arg9 (Pipeline.mem_restRefs_of main_arg9 (by decide) (by decide))).trans (Cert.PackedIdeal.Gen.W_main_arg9 m (dats m) c),
      (hb main_arg10 (Pipeline.mem_restRefs_of main_arg10 (by decide) (by decide))).trans (Cert.PackedIdeal.Gen.W_main_arg10 m (dats m) c)⟩
  · refine (θ_run Cert.PackedRefIdeal.defs _ _).mono (fun r h c => ?_) (Cert.PackedRefIdeal.Value.run (F := Ideal) m' ρ')
    obtain ⟨e0, e1, e2, e3, e4, e5, e6, e7, e8, e9, e10, ea⟩ := h c
    obtain ⟨a0, a1, a2, a3, a4, a5, a6, a7, a8, a9, a10⟩ := hagree c
    refine ⟨e0.trans ?_, e1.trans ?_, e2.trans ?_, e3.trans ?_, e4.trans ?_, e5.trans ?_, e6.trans ?_, e7.trans ?_, e8.trans ?_, e9.trans ?_, e10.trans ?_, ea⟩
    · rw [a0]; rfl
    · rw [a1]; rfl
    · rw [a2]; rfl
    · rw [a3]; rfl
    · rw [a4]; rfl
    · rw [a5]; rfl
    · rw [a6]; rfl
    · rw [a7]; rfl
    · rw [a8]; rfl
    · rw [a9]; rfl
    · rw [a10]; rfl

end Cert.PackedValue
end
-- ==== Proof.AdamwSmallValue.lean ====
/- The optimiser's step on the small weights with their packing: what the idealized kernel ends holding, and that the reference
   ends holding the same. -/
module

public import proofs.«01_k».proof.Proof.Gen.AdamwSmallIdeal.Frame
public import proofs.«01_k».proof.Proof.Gen.AdamwSmallRefIdeal.Run
public import proofs.«01_k».proof.Proof.Gen.AdamwSmallRefIdeal.Read
public import proofs.«01_k».proof.Defs
public import Idealize.ShloMosaic.Lib.Pipeline.ValueKit.Point
public import Idealize.ShloMosaic.Lib.Pipeline.ReadBack

@[expose] public section

set_option maxRecDepth 16384

noncomputable section

namespace Cert.AdamwSmallValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AdamwSmallIdeal Cert.AdamwSmallIdeal.Gen Cert.AdamwSmallRefIdeal.Read

/-! ## One number -/

/-- The first moment, the second moment and the step. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- The same of whole arrays. -/
def firsts {S : Shape} (g m : Vec Ideal S .f32) : Vec Ideal S .f32 := fun y => first (g y) (m y)
def seconds {S : Shape} (g v : Vec Ideal S .f32) : Vec Ideal S .f32 := fun y => second (g y) (v y)
def steps {S : Shape} (w g m v : Vec Ideal S .f32) : Vec Ideal S .f32 := fun y => step (w y) (g y) (m y) (v y)

theorem firsts_congr {S : Shape} {g g' m m' : Vec Ideal S .f32} (a : g = g') (b : m = m') : firsts g m = firsts g' m' := by rw [a, b]
theorem seconds_congr {S : Shape} {g g' v v' : Vec Ideal S .f32} (a : g = g') (b : v = v') : seconds g v = seconds g' v' := by rw [a, b]
theorem steps_congr {S : Shape} {w w' g g' m m' v v' : Vec Ideal S .f32} (a : w = w') (b : g = g') (d : m = m') (e : v = v') :
    steps w g m v = steps w' g' m' v' := by rw [a, b, d, e]

section Block
variable (W G M V : Vec Ideal S232x128 .f32) (r : Fin 232) (b : Fin 128)

theorem block5 : out0_5 (F := Ideal) W G M V (ix2 r b) = step (W (ix2 r b)) (G (ix2 r b)) (M (ix2 r b)) (V (ix2 r b)) := by
  have e : out0_5 (F := Ideal) W G M V = k0_pay4 W G M V := by frame_out
  rw [e]
  pointwise [k0_pay4, k0_pay3, k0_pay2, k0_pay1, step, second, first]

theorem block6 : out0_6 (F := Ideal) W G M V (ix2 r b) = first (G (ix2 r b)) (M (ix2 r b)) := by
  have e : out0_6 (F := Ideal) W G M V = k0_pay2 G M := by frame_out
  rw [e]
  pointwise [k0_pay2, k0_pay1, first]

theorem block7 : out0_7 (F := Ideal) W G M V (ix2 r b) = second (G (ix2 r b)) (V (ix2 r b)) := by
  have e : out0_7 (F := Ideal) W G M V = k0_pay3 G V := by frame_out
  rw [e]
  pointwise [k0_pay3, k0_pay1, second]

end Block

/-! ## The packing -/

/-- One array for each small weight. -/
structure Small where
  a0 : Vec Ideal S1x2048 .f32
  a1 : Vec Ideal S1x2048 .f32
  a2 : Vec Ideal S1x3x512 .f32
  a3 : Vec Ideal S1x1024 .f32
  a4 : Vec Ideal S1x1024 .f32
  a5 : Vec Ideal S1x8x128x128 .f32
  a6 : Vec Ideal S1x8x128 .f32
  a7 : Vec Ideal S1x2048 .f32
  a8 : Vec Ideal S1x2048 .f32
  a9 : Vec Ideal S1x2048 .f32
  a10 : Vec Ideal S1x2048 .f32

/-- Flat arrays one behind the other. -/
def chain (x0 : Vec Ideal S2048 .f32) (x1 : Vec Ideal S2048 .f32) (x2 : Vec Ideal S1536 .f32) (x3 : Vec Ideal S1024 .f32) (x4 : Vec Ideal S1024 .f32) (x5 : Vec Ideal S131072 .f32) (x6 : Vec Ideal S1024 .f32) (x7 : Vec Ideal S2048 .f32) (x8 : Vec Ideal S2048 .f32) (x9 : Vec Ideal S2048 .f32) (x10 : Vec Ideal S2048 .f32) : Vec Ideal S147968 .f32 :=
  concatenate S147968 0 [⟨S2048, x0⟩, ⟨S2048, x1⟩, ⟨S1536, x2⟩, ⟨S1024, x3⟩, ⟨S1024, x4⟩, ⟨S131072, x5⟩, ⟨S1024, x6⟩, ⟨S2048, x7⟩, ⟨S2048, x8⟩, ⟨S2048, x9⟩, ⟨S2048, x10⟩]
    concatenates_S2048_S2048_S1536_S1024_S1024_S131072_S1024_S2048_S2048_S2048_S2048_S147968_d0

/-- The arrays so. -/
def joined (x : Small) : Vec Ideal S147968 .f32 :=
  chain (shapeCast S2048 x.a0 shapeCasts_S1x2048_S2048)
    (shapeCast S2048 x.a1 shapeCasts_S1x2048_S2048)
    (shapeCast S1536 x.a2 shapeCasts_S1x3x512_S1536)
    (shapeCast S1024 x.a3 shapeCasts_S1x1024_S1024)
    (shapeCast S1024 x.a4 shapeCasts_S1x1024_S1024)
    (shapeCast S131072 x.a5 shapeCasts_S1x8x128x128_S131072)
    (shapeCast S1024 x.a6 shapeCasts_S1x8x128_S1024)
    (shapeCast S2048 x.a7 shapeCasts_S1x2048_S2048)
    (shapeCast S2048 x.a8 shapeCasts_S1x2048_S2048)
    (shapeCast S2048 x.a9 shapeCasts_S1x2048_S2048)
    (shapeCast S2048 x.a10 shapeCasts_S1x2048_S2048)

/-- They, padded and as rows of 128. -/
def rows (x : Vec Ideal S147968 .f32) : Vec Ideal S1160x128 .f32 :=
  shapeCast S1160x128 (pad S148480 ![0] ![512] ![0] x (sitofp (F := Ideal) .f32 (constantI S_ 32 0#32)) pads_S147968_S148480_05120 h_S_)
    shapeCasts_S148480_S1160x128

theorem rows_at (x : Vec Ideal S147968 .f32) (n : Nat) (hn : n < 147968) :
    rows x (ix2 ⟨n / 128, by omega⟩ ⟨n % 128, by omega⟩) = x (ix1 ⟨n, hn⟩) := by
  pointwise [rows]
  rw [dif_pos (by omega)]
  exact congrArg x (congrArg ix1 (Fin.ext (by dsimp; omega)))

/-! What the host cuts out for a weight, and that this is the weight's array. -/

theorem flat0 (x : Vec Ideal S1x2048 .f32) (p : Fin 2048) : shapeCast S2048 x shapeCasts_S1x2048_S2048 (ix1 ⟨p.val, by omega⟩) = x (ix2 (0 : Fin 1) p) := by
  pointwise []

theorem flat2 (x : Vec Ideal S1x3x512 .f32) (p : Fin 3) (r : Fin 512) : shapeCast S1536 x shapeCasts_S1x3x512_S1536 (ix1 ⟨p.val * 512 + r.val, by omega⟩) = x (ix3 (0 : Fin 1) p r) := by
  pointwise []

theorem flat3 (x : Vec Ideal S1x1024 .f32) (p : Fin 1024) : shapeCast S1024 x shapeCasts_S1x1024_S1024 (ix1 ⟨p.val, by omega⟩) = x (ix2 (0 : Fin 1) p) := by
  pointwise []

theorem flat5 (x : Vec Ideal S1x8x128x128 .f32) (p : Fin 8) (r : Fin 128) (s : Fin 128) : shapeCast S131072 x shapeCasts_S1x8x128x128_S131072 (ix1 ⟨p.val * 16384 + r.val * 128 + s.val, by omega⟩) = x (ix4 (0 : Fin 1) p r s) := by
  pointwise []

theorem flat6 (x : Vec Ideal S1x8x128 .f32) (p : Fin 8) (r : Fin 128) : shapeCast S1024 x shapeCasts_S1x8x128_S1024 (ix1 ⟨p.val * 128 + r.val, by omega⟩) = x (ix3 (0 : Fin 1) p r) := by
  pointwise []

theorem joined0 (x : Small) (q : Fin 2048) : joined x (ix1 ⟨0 + q.val, by omega⟩) = shapeCast S2048 x.a0 shapeCasts_S1x2048_S2048 (ix1 q) := by
  unfold joined chain
  refine concatenate_apply_piece (t := S147968) (0 : Fin 1) _ _ _ 0 ?_ S2048 _ rfl rfl 0 ?_ (ix1 q) (fun b hb => absurd (Subsingleton.elim _ _) hb) rfl
  · show 0 < 11
    omega
  · show List.sum ([] : List Nat) = 0
    simp only [List.sum_cons, List.sum_nil, Nat.reduceAdd]

def cut0 (A : Vec Ideal S1160x128 .f32) : Vec Ideal S1x2048 .f32 :=
  shapeCast S1x2048 (extractStridedSlice S2048 ![0] (shapeCast S148480 A shapeCasts_S1160x128_S148480) slices_S148480_S2048_0) shapeCasts_S2048_S1x2048

theorem unpack0 (A : Vec Ideal S1160x128 .f32) (p : Fin 2048) : cut0 A (ix2 (0 : Fin 1) p) = A (ix2 ⟨(0 + (p.val)) / 128, by omega⟩ ⟨(0 + (p.val)) % 128, by omega⟩) := by
  pointwise [cut0]

theorem back0 (x : Small) : cut0 (rows (joined x)) = x.a0 := by
  funext y
  obtain ⟨a, p, rfl⟩ : ∃ (a : Fin 1) (p : Fin 2048), y = ix2 a p := ⟨y 0, y 1, eq_ix2 y⟩
  obtain rfl : a = 0 := Subsingleton.elim _ _
  exact (unpack0 _ p).trans ((rows_at _ (0 + (p.val)) (by omega)).trans ((joined0 x ⟨p.val, by omega⟩).trans (flat0 _ p)))

theorem joined1 (x : Small) (q : Fin 2048) : joined x (ix1 ⟨2048 + q.val, by omega⟩) = shapeCast S2048 x.a1 shapeCasts_S1x2048_S2048 (ix1 q) := by
  unfold joined chain
  refine concatenate_apply_piece (t := S147968) (0 : Fin 1) _ _ _ 1 ?_ S2048 _ rfl rfl 2048 ?_ (ix1 q) (fun b hb => absurd (Subsingleton.elim _ _) hb) rfl
  · show 1 < 11
    omega
  · show List.sum [2048] = 2048
    simp only [List.sum_cons, List.sum_nil, Nat.reduceAdd]

def cut1 (A : Vec Ideal S1160x128 .f32) : Vec Ideal S1x2048 .f32 :=
  shapeCast S1x2048 (extractStridedSlice S2048 ![2048] (shapeCast S148480 A shapeCasts_S1160x128_S148480) slices_S148480_S2048_2048) shapeCasts_S2048_S1x2048

theorem unpack1 (A : Vec Ideal S1160x128 .f32) (p : Fin 2048) : cut1 A (ix2 (0 : Fin 1) p) = A (ix2 ⟨(2048 + (p.val)) / 128, by omega⟩ ⟨(2048 + (p.val)) % 128, by omega⟩) := by
  pointwise [cut1]

theorem back1 (x : Small) : cut1 (rows (joined x)) = x.a1 := by
  funext y
  obtain ⟨a, p, rfl⟩ : ∃ (a : Fin 1) (p : Fin 2048), y = ix2 a p := ⟨y 0, y 1, eq_ix2 y⟩
  obtain rfl : a = 0 := Subsingleton.elim _ _
  exact (unpack1 _ p).trans ((rows_at _ (2048 + (p.val)) (by omega)).trans ((joined1 x ⟨p.val, by omega⟩).trans (flat0 _ p)))

theorem joined2 (x : Small) (q : Fin 1536) : joined x (ix1 ⟨4096 + q.val, by omega⟩) = shapeCast S1536 x.a2 shapeCasts_S1x3x512_S1536 (ix1 q) := by
  unfold joined chain
  refine concatenate_apply_piece (t := S147968) (0 : Fin 1) _ _ _ 2 ?_ S1536 _ rfl rfl 4096 ?_ (ix1 q) (fun b hb => absurd (Subsingleton.elim _ _) hb) rfl
  · show 2 < 11
    omega
  · show List.sum [2048, 2048] = 4096
    simp only [List.sum_cons, List.sum_nil, Nat.reduceAdd]

def cut2 (A : Vec Ideal S1160x128 .f32) : Vec Ideal S1x3x512 .f32 :=
  shapeCast S1x3x512 (extractStridedSlice S1536 ![4096] (shapeCast S148480 A shapeCasts_S1160x128_S148480) slices_S148480_S1536_4096) shapeCasts_S1536_S1x3x512

theorem unpack2 (A : Vec Ideal S1160x128 .f32) (p : Fin 3) (r : Fin 512) : cut2 A (ix3 (0 : Fin 1) p r) = A (ix2 ⟨(4096 + (p.val * 512 + r.val)) / 128, by omega⟩ ⟨(4096 + (p.val * 512 + r.val)) % 128, by omega⟩) := by
  pointwise [cut2]

theorem back2 (x : Small) : cut2 (rows (joined x)) = x.a2 := by
  funext y
  obtain ⟨a, p, r, rfl⟩ : ∃ (a : Fin 1) (p : Fin 3) (r : Fin 512), y = ix3 a p r := ⟨y 0, y 1, y 2, eq_ix3 y⟩
  obtain rfl : a = 0 := Subsingleton.elim _ _
  exact (unpack2 _ p r).trans ((rows_at _ (4096 + (p.val * 512 + r.val)) (by omega)).trans ((joined2 x ⟨p.val * 512 + r.val, by omega⟩).trans (flat2 _ p r)))

theorem joined3 (x : Small) (q : Fin 1024) : joined x (ix1 ⟨5632 + q.val, by omega⟩) = shapeCast S1024 x.a3 shapeCasts_S1x1024_S1024 (ix1 q) := by
  unfold joined chain
  refine concatenate_apply_piece (t := S147968) (0 : Fin 1) _ _ _ 3 ?_ S1024 _ rfl rfl 5632 ?_ (ix1 q) (fun b hb => absurd (Subsingleton.elim _ _) hb) rfl
  · show 3 < 11
    omega
  · show List.sum [2048, 2048, 1536] = 5632
    simp only [List.sum_cons, List.sum_nil, Nat.reduceAdd]

def cut3 (A : Vec Ideal S1160x128 .f32) : Vec Ideal S1x1024 .f32 :=
  shapeCast S1x1024 (extractStridedSlice S1024 ![5632] (shapeCast S148480 A shapeCasts_S1160x128_S148480) slices_S148480_S1024_5632) shapeCasts_S1024_S1x1024

theorem unpack3 (A : Vec Ideal S1160x128 .f32) (p : Fin 1024) : cut3 A (ix2 (0 : Fin 1) p) = A (ix2 ⟨(5632 + (p.val)) / 128, by omega⟩ ⟨(5632 + (p.val)) % 128, by omega⟩) := by
  pointwise [cut3]

theorem back3 (x : Small) : cut3 (rows (joined x)) = x.a3 := by
  funext y
  obtain ⟨a, p, rfl⟩ : ∃ (a : Fin 1) (p : Fin 1024), y = ix2 a p := ⟨y 0, y 1, eq_ix2 y⟩
  obtain rfl : a = 0 := Subsingleton.elim _ _
  exact (unpack3 _ p).trans ((rows_at _ (5632 + (p.val)) (by omega)).trans ((joined3 x ⟨p.val, by omega⟩).trans (flat3 _ p)))

theorem joined4 (x : Small) (q : Fin 1024) : joined x (ix1 ⟨6656 + q.val, by omega⟩) = shapeCast S1024 x.a4 shapeCasts_S1x1024_S1024 (ix1 q) := by
  unfold joined chain
  refine concatenate_apply_piece (t := S147968) (0 : Fin 1) _ _ _ 4 ?_ S1024 _ rfl rfl 6656 ?_ (ix1 q) (fun b hb => absurd (Subsingleton.elim _ _) hb) rfl
  · show 4 < 11
    omega
  · show List.sum [2048, 2048, 1536, 1024] = 6656
    simp only [List.sum_cons, List.sum_nil, Nat.reduceAdd]

def cut4 (A : Vec Ideal S1160x128 .f32) : Vec Ideal S1x1024 .f32 :=
  shapeCast S1x1024 (extractStridedSlice S1024 ![6656] (shapeCast S148480 A shapeCasts_S1160x128_S148480) slices_S148480_S1024_6656) shapeCasts_S1024_S1x1024

theorem unpack4 (A : Vec Ideal S1160x128 .f32) (p : Fin 1024) : cut4 A (ix2 (0 : Fin 1) p) = A (ix2 ⟨(6656 + (p.val)) / 128, by omega⟩ ⟨(6656 + (p.val)) % 128, by omega⟩) := by
  pointwise [cut4]

theorem back4 (x : Small) : cut4 (rows (joined x)) = x.a4 := by
  funext y
  obtain ⟨a, p, rfl⟩ : ∃ (a : Fin 1) (p : Fin 1024), y = ix2 a p := ⟨y 0, y 1, eq_ix2 y⟩
  obtain rfl : a = 0 := Subsingleton.elim _ _
  exact (unpack4 _ p).trans ((rows_at _ (6656 + (p.val)) (by omega)).trans ((joined4 x ⟨p.val, by omega⟩).trans (flat3 _ p)))

theorem joined5 (x : Small) (q : Fin 131072) : joined x (ix1 ⟨7680 + q.val, by omega⟩) = shapeCast S131072 x.a5 shapeCasts_S1x8x128x128_S131072 (ix1 q) := by
  unfold joined chain
  refine concatenate_apply_piece (t := S147968) (0 : Fin 1) _ _ _ 5 ?_ S131072 _ rfl rfl 7680 ?_ (ix1 q) (fun b hb => absurd (Subsingleton.elim _ _) hb) rfl
  · show 5 < 11
    omega
  · show List.sum [2048, 2048, 1536, 1024, 1024] = 7680
    simp only [List.sum_cons, List.sum_nil, Nat.reduceAdd]

def cut5 (A : Vec Ideal S1160x128 .f32) : Vec Ideal S1x8x128x128 .f32 :=
  shapeCast S1x8x128x128 (extractStridedSlice S131072 ![7680] (shapeCast S148480 A shapeCasts_S1160x128_S148480) slices_S148480_S131072_7680) shapeCasts_S131072_S1x8x128x128

theorem unpack5 (A : Vec Ideal S1160x128 .f32) (p : Fin 8) (r : Fin 128) (s : Fin 128) : cut5 A (ix4 (0 : Fin 1) p r s) = A (ix2 ⟨(7680 + (p.val * 16384 + r.val * 128 + s.val)) / 128, by omega⟩ ⟨(7680 + (p.val * 16384 + r.val * 128 + s.val)) % 128, by omega⟩) := by
  pointwise [cut5]
  exact congrArg A (congrArg (ix2 _) (Fin.ext (by dsimp; omega)))

theorem back5 (x : Small) : cut5 (rows (joined x)) = x.a5 := by
  funext y
  obtain ⟨a, p, r, s, rfl⟩ : ∃ (a : Fin 1) (p : Fin 8) (r : Fin 128) (s : Fin 128), y = ix4 a p r s := ⟨y 0, y 1, y 2, y 3, eq_ix4 y⟩
  obtain rfl : a = 0 := Subsingleton.elim _ _
  exact (unpack5 _ p r s).trans ((rows_at _ (7680 + (p.val * 16384 + r.val * 128 + s.val)) (by omega)).trans ((joined5 x ⟨p.val * 16384 + r.val * 128 + s.val, by omega⟩).trans (flat5 _ p r s)))

theorem joined6 (x : Small) (q : Fin 1024) : joined x (ix1 ⟨138752 + q.val, by omega⟩) = shapeCast S1024 x.a6 shapeCasts_S1x8x128_S1024 (ix1 q) := by
  unfold joined chain
  refine concatenate_apply_piece (t := S147968) (0 : Fin 1) _ _ _ 6 ?_ S1024 _ rfl rfl 138752 ?_ (ix1 q) (fun b hb => absurd (Subsingleton.elim _ _) hb) rfl
  · show 6 < 11
    omega
  · show List.sum [2048, 2048, 1536, 1024, 1024, 131072] = 138752
    simp only [List.sum_cons, List.sum_nil, Nat.reduceAdd]

def cut6 (A : Vec Ideal S1160x128 .f32) : Vec Ideal S1x8x128 .f32 :=
  shapeCast S1x8x128 (extractStridedSlice S1024 ![138752] (shapeCast S148480 A shapeCasts_S1160x128_S148480) slices_S148480_S1024_138752) shapeCasts_S1024_S1x8x128

theorem unpack6 (A : Vec Ideal S1160x128 .f32) (p : Fin 8) (r : Fin 128) : cut6 A (ix3 (0 : Fin 1) p r) = A (ix2 ⟨(138752 + (p.val * 128 + r.val)) / 128, by omega⟩ ⟨(138752 + (p.val * 128 + r.val)) % 128, by omega⟩) := by
  pointwise [cut6]
  exact congrArg A (congrArg (ix2 _) (Fin.ext (by dsimp; omega)))

theorem back6 (x : Small) : cut6 (rows (joined x)) = x.a6 := by
  funext y
  obtain ⟨a, p, r, rfl⟩ : ∃ (a : Fin 1) (p : Fin 8) (r : Fin 128), y = ix3 a p r := ⟨y 0, y 1, y 2, eq_ix3 y⟩
  obtain rfl : a = 0 := Subsingleton.elim _ _
  exact (unpack6 _ p r).trans ((rows_at _ (138752 + (p.val * 128 + r.val)) (by omega)).trans ((joined6 x ⟨p.val * 128 + r.val, by omega⟩).trans (flat6 _ p r)))

theorem joined7 (x : Small) (q : Fin 2048) : joined x (ix1 ⟨139776 + q.val, by omega⟩) = shapeCast S2048 x.a7 shapeCasts_S1x2048_S2048 (ix1 q) := by
  unfold joined chain
  refine concatenate_apply_piece (t := S147968) (0 : Fin 1) _ _ _ 7 ?_ S2048 _ rfl rfl 139776 ?_ (ix1 q) (fun b hb => absurd (Subsingleton.elim _ _) hb) rfl
  · show 7 < 11
    omega
  · show List.sum [2048, 2048, 1536, 1024, 1024, 131072, 1024] = 139776
    simp only [List.sum_cons, List.sum_nil, Nat.reduceAdd]

def cut7 (A : Vec Ideal S1160x128 .f32) : Vec Ideal S1x2048 .f32 :=
  shapeCast S1x2048 (extractStridedSlice S2048 ![139776] (shapeCast S148480 A shapeCasts_S1160x128_S148480) slices_S148480_S2048_139776) shapeCasts_S2048_S1x2048

theorem unpack7 (A : Vec Ideal S1160x128 .f32) (p : Fin 2048) : cut7 A (ix2 (0 : Fin 1) p) = A (ix2 ⟨(139776 + (p.val)) / 128, by omega⟩ ⟨(139776 + (p.val)) % 128, by omega⟩) := by
  pointwise [cut7]

theorem back7 (x : Small) : cut7 (rows (joined x)) = x.a7 := by
  funext y
  obtain ⟨a, p, rfl⟩ : ∃ (a : Fin 1) (p : Fin 2048), y = ix2 a p := ⟨y 0, y 1, eq_ix2 y⟩
  obtain rfl : a = 0 := Subsingleton.elim _ _
  exact (unpack7 _ p).trans ((rows_at _ (139776 + (p.val)) (by omega)).trans ((joined7 x ⟨p.val, by omega⟩).trans (flat0 _ p)))

theorem joined8 (x : Small) (q : Fin 2048) : joined x (ix1 ⟨141824 + q.val, by omega⟩) = shapeCast S2048 x.a8 shapeCasts_S1x2048_S2048 (ix1 q) := by
  unfold joined chain
  refine concatenate_apply_piece (t := S147968) (0 : Fin 1) _ _ _ 8 ?_ S2048 _ rfl rfl 141824 ?_ (ix1 q) (fun b hb => absurd (Subsingleton.elim _ _) hb) rfl
  · show 8 < 11
    omega
  · show List.sum [2048, 2048, 1536, 1024, 1024, 131072, 1024, 2048] = 141824
    simp only [List.sum_cons, List.sum_nil, Nat.reduceAdd]

def cut8 (A : Vec Ideal S1160x128 .f32) : Vec Ideal S1x2048 .f32 :=
  shapeCast S1x2048 (extractStridedSlice S2048 ![141824] (shapeCast S148480 A shapeCasts_S1160x128_S148480) slices_S148480_S2048_141824) shapeCasts_S2048_S1x2048

theorem unpack8 (A : Vec Ideal S1160x128 .f32) (p : Fin 2048) : cut8 A (ix2 (0 : Fin 1) p) = A (ix2 ⟨(141824 + (p.val)) / 128, by omega⟩ ⟨(141824 + (p.val)) % 128, by omega⟩) := by
  pointwise [cut8]

theorem back8 (x : Small) : cut8 (rows (joined x)) = x.a8 := by
  funext y
  obtain ⟨a, p, rfl⟩ : ∃ (a : Fin 1) (p : Fin 2048), y = ix2 a p := ⟨y 0, y 1, eq_ix2 y⟩
  obtain rfl : a = 0 := Subsingleton.elim _ _
  exact (unpack8 _ p).trans ((rows_at _ (141824 + (p.val)) (by omega)).trans ((joined8 x ⟨p.val, by omega⟩).trans (flat0 _ p)))

theorem joined9 (x : Small) (q : Fin 2048) : joined x (ix1 ⟨143872 + q.val, by omega⟩) = shapeCast S2048 x.a9 shapeCasts_S1x2048_S2048 (ix1 q) := by
  unfold joined chain
  refine concatenate_apply_piece (t := S147968) (0 : Fin 1) _ _ _ 9 ?_ S2048 _ rfl rfl 143872 ?_ (ix1 q) (fun b hb => absurd (Subsingleton.elim _ _) hb) rfl
  · show 9 < 11
    omega
  · show List.sum [2048, 2048, 1536, 1024, 1024, 131072, 1024, 2048, 2048] = 143872
    simp only [List.sum_cons, List.sum_nil, Nat.reduceAdd]

def cut9 (A : Vec Ideal S1160x128 .f32) : Vec Ideal S1x2048 .f32 :=
  shapeCast S1x2048 (extractStridedSlice S2048 ![143872] (shapeCast S148480 A shapeCasts_S1160x128_S148480) slices_S148480_S2048_143872) shapeCasts_S2048_S1x2048

theorem unpack9 (A : Vec Ideal S1160x128 .f32) (p : Fin 2048) : cut9 A (ix2 (0 : Fin 1) p) = A (ix2 ⟨(143872 + (p.val)) / 128, by omega⟩ ⟨(143872 + (p.val)) % 128, by omega⟩) := by
  pointwise [cut9]

theorem back9 (x : Small) : cut9 (rows (joined x)) = x.a9 := by
  funext y
  obtain ⟨a, p, rfl⟩ : ∃ (a : Fin 1) (p : Fin 2048), y = ix2 a p := ⟨y 0, y 1, eq_ix2 y⟩
  obtain rfl : a = 0 := Subsingleton.elim _ _
  exact (unpack9 _ p).trans ((rows_at _ (143872 + (p.val)) (by omega)).trans ((joined9 x ⟨p.val, by omega⟩).trans (flat0 _ p)))

theorem joined10 (x : Small) (q : Fin 2048) : joined x (ix1 ⟨145920 + q.val, by omega⟩) = shapeCast S2048 x.a10 shapeCasts_S1x2048_S2048 (ix1 q) := by
  unfold joined chain
  refine concatenate_apply_piece (t := S147968) (0 : Fin 1) _ _ _ 10 ?_ S2048 _ rfl rfl 145920 ?_ (ix1 q) (fun b hb => absurd (Subsingleton.elim _ _) hb) rfl
  · show 10 < 11
    omega
  · show List.sum [2048, 2048, 1536, 1024, 1024, 131072, 1024, 2048, 2048, 2048] = 145920
    simp only [List.sum_cons, List.sum_nil, Nat.reduceAdd]

def cut10 (A : Vec Ideal S1160x128 .f32) : Vec Ideal S1x2048 .f32 :=
  shapeCast S1x2048 (extractStridedSlice S2048 ![145920] (shapeCast S148480 A shapeCasts_S1160x128_S148480) slices_S148480_S2048_145920) shapeCasts_S2048_S1x2048

theorem unpack10 (A : Vec Ideal S1160x128 .f32) (p : Fin 2048) : cut10 A (ix2 (0 : Fin 1) p) = A (ix2 ⟨(145920 + (p.val)) / 128, by omega⟩ ⟨(145920 + (p.val)) % 128, by omega⟩) := by
  pointwise [cut10]

theorem back10 (x : Small) : cut10 (rows (joined x)) = x.a10 := by
  funext y
  obtain ⟨a, p, rfl⟩ : ∃ (a : Fin 1) (p : Fin 2048), y = ix2 a p := ⟨y 0, y 1, eq_ix2 y⟩
  obtain rfl : a = 0 := Subsingleton.elim _ _
  exact (unpack10 _ p).trans ((rows_at _ (145920 + (p.val)) (by omega)).trans ((joined10 x ⟨p.val, by omega⟩).trans (flat0 _ p)))

/-! ## The reference -/

section Ref0
variable (w g m v : Vec Ideal S1x2048 .f32)

theorem ref_first0 : val_main_v4 (F := Ideal) g m = firsts g m := by
  funext y
  obtain ⟨a, p, rfl⟩ : ∃ (a : Fin 1) (p : Fin 2048), y = ix2 a p := ⟨y 0, y 1, eq_ix2 y⟩
  pointwise [val_main_v4, val_main_v3, val_main_v2, val_main_v1, val_main_v0, val_main_cst, val_main_cst_0, firsts, first]

theorem ref_second0 : val_main_v10 (F := Ideal) g v = seconds g v := by
  funext y
  obtain ⟨a, p, rfl⟩ : ∃ (a : Fin 1) (p : Fin 2048), y = ix2 a p := ⟨y 0, y 1, eq_ix2 y⟩
  pointwise [val_main_v10, val_main_v9, val_main_v8, val_main_v7, val_main_v6, val_main_v5, val_main_cst_1, val_main_cst_2, seconds, second]

theorem ref_step0 : val_main_v23 (F := Ideal) w g m v = steps w g m v := by
  unfold val_main_v23 val_main_v21 val_main_v18 val_main_v17 val_main_v15 val_main_v14 val_main_v12
  rw [ref_first0, ref_second0]
  funext y
  obtain ⟨a, p, rfl⟩ : ∃ (a : Fin 1) (p : Fin 2048), y = ix2 a p := ⟨y 0, y 1, eq_ix2 y⟩
  pointwise [val_main_v22, val_main_v20, val_main_v19, val_main_v16, val_main_v13, val_main_v11,
    val_main_cst_3, val_main_cst_4, val_main_cst_5, val_main_cst_6, val_main_cst_7, steps, step, firsts, seconds]

end Ref0

section Ref2
variable (w g m v : Vec Ideal S1x3x512 .f32)

theorem ref_first2 : val_main_v52 (F := Ideal) g m = firsts g m := by
  funext y
  obtain ⟨a, p, r, rfl⟩ : ∃ (a : Fin 1) (p : Fin 3) (r : Fin 512), y = ix3 a p r := ⟨y 0, y 1, y 2, eq_ix3 y⟩
  pointwise [val_main_v52, val_main_v51, val_main_v50, val_main_v49, val_main_v48, val_main_cst_17, val_main_cst_18, firsts, first]

theorem ref_second2 : val_main_v58 (F := Ideal) g v = seconds g v := by
  funext y
  obtain ⟨a, p, r, rfl⟩ : ∃ (a : Fin 1) (p : Fin 3) (r : Fin 512), y = ix3 a p r := ⟨y 0, y 1, y 2, eq_ix3 y⟩
  pointwise [val_main_v58, val_main_v57, val_main_v56, val_main_v55, val_main_v54, val_main_v53, val_main_cst_19, val_main_cst_20, seconds, second]

theorem ref_step2 : val_main_v71 (F := Ideal) w g m v = steps w g m v := by
  unfold val_main_v71 val_main_v69 val_main_v66 val_main_v65 val_main_v63 val_main_v62 val_main_v60
  rw [ref_first2, ref_second2]
  funext y
  obtain ⟨a, p, r, rfl⟩ : ∃ (a : Fin 1) (p : Fin 3) (r : Fin 512), y = ix3 a p r := ⟨y 0, y 1, y 2, eq_ix3 y⟩
  pointwise [val_main_v70, val_main_v68, val_main_v67, val_main_v64, val_main_v61, val_main_v59,
    val_main_cst_21, val_main_cst_22, val_main_cst_23, val_main_cst_24, val_main_cst_25, steps, step, firsts, seconds]

end Ref2

section Ref3
variable (w g m v : Vec Ideal S1x1024 .f32)

theorem ref_first3 : val_main_v76 (F := Ideal) g m = firsts g m := by
  funext y
  obtain ⟨a, p, rfl⟩ : ∃ (a : Fin 1) (p : Fin 1024), y = ix2 a p := ⟨y 0, y 1, eq_ix2 y⟩
  pointwise [val_main_v76, val_main_v75, val_main_v74, val_main_v73, val_main_v72, val_main_cst_26, val_main_cst_27, firsts, first]

theorem ref_second3 : val_main_v82 (F := Ideal) g v = seconds g v := by
  funext y
  obtain ⟨a, p, rfl⟩ : ∃ (a : Fin 1) (p : Fin 1024), y = ix2 a p := ⟨y 0, y 1, eq_ix2 y⟩
  pointwise [val_main_v82, val_main_v81, val_main_v80, val_main_v79, val_main_v78, val_main_v77, val_main_cst_28, val_main_cst_29, seconds, second]

theorem ref_step3 : val_main_v95 (F := Ideal) w g m v = steps w g m v := by
  unfold val_main_v95 val_main_v93 val_main_v90 val_main_v89 val_main_v87 val_main_v86 val_main_v84
  rw [ref_first3, ref_second3]
  funext y
  obtain ⟨a, p, rfl⟩ : ∃ (a : Fin 1) (p : Fin 1024), y = ix2 a p := ⟨y 0, y 1, eq_ix2 y⟩
  pointwise [val_main_v94, val_main_v92, val_main_v91, val_main_v88, val_main_v85, val_main_v83,
    val_main_cst_30, val_main_cst_31, val_main_cst_32, val_main_cst_33, val_main_cst_34, steps, step, firsts, seconds]

end Ref3

section Ref5
variable (w g m v : Vec Ideal S1x8x128x128 .f32)

theorem ref_first5 : val_main_v124 (F := Ideal) g m = firsts g m := by
  funext y
  obtain ⟨a, p, r, s, rfl⟩ : ∃ (a : Fin 1) (p : Fin 8) (r : Fin 128) (s : Fin 128), y = ix4 a p r s := ⟨y 0, y 1, y 2, y 3, eq_ix4 y⟩
  pointwise [val_main_v124, val_main_v123, val_main_v122, val_main_v121, val_main_v120, val_main_cst_44, val_main_cst_45, firsts, first]

theorem ref_second5 : val_main_v130 (F := Ideal) g v = seconds g v := by
  funext y
  obtain ⟨a, p, r, s, rfl⟩ : ∃ (a : Fin 1) (p : Fin 8) (r : Fin 128) (s : Fin 128), y = ix4 a p r s := ⟨y 0, y 1, y 2, y 3, eq_ix4 y⟩
  pointwise [val_main_v130, val_main_v129, val_main_v128, val_main_v127, val_main_v126, val_main_v125, val_main_cst_46, val_main_cst_47, seconds, second]

theorem ref_step5 : val_main_v143 (F := Ideal) w g m v = steps w g m v := by
  unfold val_main_v143 val_main_v141 val_main_v138 val_main_v137 val_main_v135 val_main_v134 val_main_v132
  rw [ref_first5, ref_second5]
  funext y
  obtain ⟨a, p, r, s, rfl⟩ : ∃ (a : Fin 1) (p : Fin 8) (r : Fin 128) (s : Fin 128), y = ix4 a p r s := ⟨y 0, y 1, y 2, y 3, eq_ix4 y⟩
  pointwise [val_main_v142, val_main_v140, val_main_v139, val_main_v136, val_main_v133, val_main_v131,
    val_main_cst_48, val_main_cst_49, val_main_cst_50, val_main_cst_51, val_main_cst_52, steps, step, firsts, seconds]

end Ref5

section Ref6
variable (w g m v : Vec Ideal S1x8x128 .f32)

theorem ref_first6 : val_main_v148 (F := Ideal) g m = firsts g m := by
  funext y
  obtain ⟨a, p, r, rfl⟩ : ∃ (a : Fin 1) (p : Fin 8) (r : Fin 128), y = ix3 a p r := ⟨y 0, y 1, y 2, eq_ix3 y⟩
  pointwise [val_main_v148, val_main_v147, val_main_v146, val_main_v145, val_main_v144, val_main_cst_53, val_main_cst_54, firsts, first]

theorem ref_second6 : val_main_v154 (F := Ideal) g v = seconds g v := by
  funext y
  obtain ⟨a, p, r, rfl⟩ : ∃ (a : Fin 1) (p : Fin 8) (r : Fin 128), y = ix3 a p r := ⟨y 0, y 1, y 2, eq_ix3 y⟩
  pointwise [val_main_v154, val_main_v153, val_main_v152, val_main_v151, val_main_v150, val_main_v149, val_main_cst_55, val_main_cst_56, seconds, second]

theorem ref_step6 : val_main_v167 (F := Ideal) w g m v = steps w g m v := by
  unfold val_main_v167 val_main_v165 val_main_v162 val_main_v161 val_main_v159 val_main_v158 val_main_v156
  rw [ref_first6, ref_second6]
  funext y
  obtain ⟨a, p, r, rfl⟩ : ∃ (a : Fin 1) (p : Fin 8) (r : Fin 128), y = ix3 a p r := ⟨y 0, y 1, y 2, eq_ix3 y⟩
  pointwise [val_main_v166, val_main_v164, val_main_v163, val_main_v160, val_main_v157, val_main_v155,
    val_main_cst_57, val_main_cst_58, val_main_cst_59, val_main_cst_60, val_main_cst_61, steps, step, firsts, seconds]

end Ref6

/-! ## The arrays after the run -/

theorem at0 : ∀ t : Fin cfg0.grid.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] := by
  decide +kernel

/-- The row of the array that is a point's. -/
abbrev row (t : Fin 5) (r : Fin 232) : Fin 1160 := ⟨t.val * 232 + r.val, by omega⟩

section Points
variable (m : (ℓ : Loc nD τ sig) → Buf (Elt Ideal) ℓ) (c : Dev nD)

abbrev XW : Small := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩
abbrev XG : Small := ⟨m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩
abbrev XM : Small := ⟨m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩
abbrev XV : Small := ⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43)⟩

/-- What the host's lines leave up to array 0's parts. -/
abbrev before0 : Valuation τ sig (Elt Ideal) := StableHlo.after (hostOps0.take 11) (fun b => m (c, b))

theorem joins0 (W : Valuation τ sig (Elt Ideal)) : StableHlo.after (hostOps0.drop 11) W (Proc.devRef .tc main_v11)
    = chain (W (Proc.devRef .tc main_v0)) (W (Proc.devRef .tc main_v1)) (W (Proc.devRef .tc main_v2)) (W (Proc.devRef .tc main_v3)) (W (Proc.devRef .tc main_v4)) (W (Proc.devRef .tc main_v5)) (W (Proc.devRef .tc main_v6)) (W (Proc.devRef .tc main_v7)) (W (Proc.devRef .tc main_v8)) (W (Proc.devRef .tc main_v9)) (W (Proc.devRef .tc main_v10)) := by
  simp only [hostOps0, List.drop_succ_cons, List.drop_zero]
  after_results
  rfl

theorem pad_word0 (W : Valuation τ sig (Elt Ideal)) : StableHlo.after (hostOps0.drop 11) W (Proc.devRef .tc main_c) = constantI S_ 32 0#32 := by
  simp only [hostOps0, List.drop_succ_cons, List.drop_zero]
  after_results

theorem pads0 (W : Valuation τ sig (Elt Ideal)) (x : Vec Ideal S147968 .f32) (hx : W (Proc.devRef .tc main_v11) = x)
    (hc : W (Proc.devRef .tc main_c) = constantI S_ 32 0#32) :
    StableHlo.after (hostOps0_1 ++ (hostOps0_2 ++ (hostOps0_3 ++ (hostOps0_4 ++ (hostOps0_5 ++ (hostOps0_6 ++ (hostOps0_7 ++ hostOps0_8))))))) W (Proc.devRef .tc main_v13) = rows x := by
  simp only [hostOps0_1, hostOps0_2, hostOps0_3, hostOps0_4, hostOps0_5, hostOps0_6, hostOps0_7, hostOps0_8, List.cons_append, List.nil_append]
  after_results
  simp only [StableHlo.TRef.ofBuf_toBuf]
  show shapeCast S1160x128 (pad S148480 ![0] ![512] ![0] (W (Proc.devRef .tc main_v11)) (sitofp (F := Ideal) .f32 (W (Proc.devRef .tc main_c)))
    pads_S147968_S148480_05120 h_S_) shapeCasts_S148480_S1160x128 = _
  rw [hx, hc]
  rfl

theorem packed0 : V m c main_v13 = rows (joined (XW m c)) := by
  show StableHlo.after (hostOps0_1 ++ (hostOps0_2 ++ (hostOps0_3 ++ (hostOps0_4 ++ (hostOps0_5 ++ (hostOps0_6 ++ (hostOps0_7 ++ hostOps0_8))))))) (StableHlo.after (hostOps0.drop 11) (before0 m c)) (Proc.devRef .tc main_v13) = _
  refine pads0 _ _ ?_ (pad_word0 _)
  rw [joins0]
  unfold joined before0
  congr 1 <;> (simp only [hostOps0, List.take_succ_cons, List.take_zero]; after_results <;> rfl)

/-- What the host's lines leave up to array 1's parts. -/
abbrev before1 : Valuation τ sig (Elt Ideal) := StableHlo.after (hostOps0_2.take 12) (StableHlo.after (hostOps0 ++ hostOps0_1) fun b => m (c, b))

theorem joins1 (W : Valuation τ sig (Elt Ideal)) : StableHlo.after (hostOps0_2.drop 12) W (Proc.devRef .tc main_v25)
    = chain (W (Proc.devRef .tc main_v14)) (W (Proc.devRef .tc main_v15)) (W (Proc.devRef .tc main_v16)) (W (Proc.devRef .tc main_v17)) (W (Proc.devRef .tc main_v18)) (W (Proc.devRef .tc main_v19)) (W (Proc.devRef .tc main_v20)) (W (Proc.devRef .tc main_v21)) (W (Proc.devRef .tc main_v22)) (W (Proc.devRef .tc main_v23)) (W (Proc.devRef .tc main_v24)) := by
  simp only [hostOps0_2, List.drop_succ_cons, List.drop_zero]
  after_results
  rfl

theorem pad_word1 (W : Valuation τ sig (Elt Ideal)) : StableHlo.after (hostOps0_2.drop 12) W (Proc.devRef .tc main_c_0) = constantI S_ 32 0#32 := by
  simp only [hostOps0_2, List.drop_succ_cons, List.drop_zero]
  after_results

theorem pads1 (W : Valuation τ sig (Elt Ideal)) (x : Vec Ideal S147968 .f32) (hx : W (Proc.devRef .tc main_v25) = x)
    (hc : W (Proc.devRef .tc main_c_0) = constantI S_ 32 0#32) :
    StableHlo.after (hostOps0_3 ++ (hostOps0_4 ++ (hostOps0_5 ++ (hostOps0_6 ++ (hostOps0_7 ++ hostOps0_8))))) W (Proc.devRef .tc main_v27) = rows x := by
  simp only [hostOps0_3, hostOps0_4, hostOps0_5, hostOps0_6, hostOps0_7, hostOps0_8, List.cons_append, List.nil_append]
  after_results
  simp only [StableHlo.TRef.ofBuf_toBuf]
  show shapeCast S1160x128 (pad S148480 ![0] ![512] ![0] (W (Proc.devRef .tc main_v25)) (sitofp (F := Ideal) .f32 (W (Proc.devRef .tc main_c_0)))
    pads_S147968_S148480_05120 h_S_) shapeCasts_S148480_S1160x128 = _
  rw [hx, hc]
  rfl

theorem packed1 : V m c main_v27 = rows (joined (XG m c)) := by
  show StableHlo.after (hostOps0_3 ++ (hostOps0_4 ++ (hostOps0_5 ++ (hostOps0_6 ++ (hostOps0_7 ++ hostOps0_8))))) (StableHlo.after (hostOps0_2.drop 12) (before1 m c)) (Proc.devRef .tc main_v27) = _
  refine pads1 _ _ ?_ (pad_word1 _)
  rw [joins1]
  unfold joined before1
  congr 1 <;> (simp only [hostOps0, hostOps0_1, hostOps0_2, List.take_succ_cons, List.take_zero, List.cons_append, List.nil_append]; after_results <;> rfl)

/-- What the host's lines leave up to array 2's parts. -/
abbrev before2 : Valuation τ sig (Elt Ideal) := StableHlo.after (hostOps0_4.take 12) (StableHlo.after (hostOps0 ++ (hostOps0_1 ++ (hostOps0_2 ++ hostOps0_3))) fun b => m (c, b))

theorem joins2 (W : Valuation τ sig (Elt Ideal)) : StableHlo.after (hostOps0_4.drop 12) W (Proc.devRef .tc main_v39)
    = chain (W (Proc.devRef .tc main_v28)) (W (Proc.devRef .tc main_v29)) (W (Proc.devRef .tc main_v30)) (W (Proc.devRef .tc main_v31)) (W (Proc.devRef .tc main_v32)) (W (Proc.devRef .tc main_v33)) (W (Proc.devRef .tc main_v34)) (W (Proc.devRef .tc main_v35)) (W (Proc.devRef .tc main_v36)) (W (Proc.devRef .tc main_v37)) (W (Proc.devRef .tc main_v38)) := by
  simp only [hostOps0_4, List.drop_succ_cons, List.drop_zero]
  after_results
  rfl

theorem pad_word2 (W : Valuation τ sig (Elt Ideal)) : StableHlo.after (hostOps0_4.drop 12) W (Proc.devRef .tc main_c_1) = constantI S_ 32 0#32 := by
  simp only [hostOps0_4, List.drop_succ_cons, List.drop_zero]
  after_results

theorem pads2 (W : Valuation τ sig (Elt Ideal)) (x : Vec Ideal S147968 .f32) (hx : W (Proc.devRef .tc main_v39) = x)
    (hc : W (Proc.devRef .tc main_c_1) = constantI S_ 32 0#32) :
    StableHlo.after (hostOps0_5 ++ (hostOps0_6 ++ (hostOps0_7 ++ hostOps0_8))) W (Proc.devRef .tc main_v41) = rows x := by
  simp only [hostOps0_5, hostOps0_6, hostOps0_7, hostOps0_8, List.cons_append, List.nil_append]
  after_results
  simp only [StableHlo.TRef.ofBuf_toBuf]
  show shapeCast S1160x128 (pad S148480 ![0] ![512] ![0] (W (Proc.devRef .tc main_v39)) (sitofp (F := Ideal) .f32 (W (Proc.devRef .tc main_c_1)))
    pads_S147968_S148480_05120 h_S_) shapeCasts_S148480_S1160x128 = _
  rw [hx, hc]
  rfl

theorem packed2 : V m c main_v41 = rows (joined (XM m c)) := by
  show StableHlo.after (hostOps0_5 ++ (hostOps0_6 ++ (hostOps0_7 ++ hostOps0_8))) (StableHlo.after (hostOps0_4.drop 12) (before2 m c)) (Proc.devRef .tc main_v41) = _
  refine pads2 _ _ ?_ (pad_word2 _)
  rw [joins2]
  unfold joined before2
  congr 1 <;> (simp only [hostOps0, hostOps0_1, hostOps0_2, hostOps0_3, hostOps0_4, List.take_succ_cons, List.take_zero, List.cons_append, List.nil_append]; after_results <;> rfl)

/-- What the host's lines leave up to array 3's parts. -/
abbrev before3 : Valuation τ sig (Elt Ideal) := StableHlo.after (hostOps0_6.take 12) (StableHlo.after (hostOps0 ++ (hostOps0_1 ++ (hostOps0_2 ++ (hostOps0_3 ++ (hostOps0_4 ++ hostOps0_5))))) fun b => m (c, b))

theorem joins3 (W : Valuation τ sig (Elt Ideal)) : StableHlo.after (hostOps0_6.drop 12) W (Proc.devRef .tc main_v53)
    = chain (W (Proc.devRef .tc main_v42)) (W (Proc.devRef .tc main_v43)) (W (Proc.devRef .tc main_v44)) (W (Proc.devRef .tc main_v45)) (W (Proc.devRef .tc main_v46)) (W (Proc.devRef .tc main_v47)) (W (Proc.devRef .tc main_v48)) (W (Proc.devRef .tc main_v49)) (W (Proc.devRef .tc main_v50)) (W (Proc.devRef .tc main_v51)) (W (Proc.devRef .tc main_v52)) := by
  simp only [hostOps0_6, List.drop_succ_cons, List.drop_zero]
  after_results
  rfl

theorem pad_word3 (W : Valuation τ sig (Elt Ideal)) : StableHlo.after (hostOps0_6.drop 12) W (Proc.devRef .tc main_c_2) = constantI S_ 32 0#32 := by
  simp only [hostOps0_6, List.drop_succ_cons, List.drop_zero]
  after_results

theorem pads3 (W : Valuation τ sig (Elt Ideal)) (x : Vec Ideal S147968 .f32) (hx : W (Proc.devRef .tc main_v53) = x)
    (hc : W (Proc.devRef .tc main_c_2) = constantI S_ 32 0#32) :
    StableHlo.after (hostOps0_7 ++ hostOps0_8) W (Proc.devRef .tc main_v55) = rows x := by
  simp only [hostOps0_7, hostOps0_8, List.cons_append, List.nil_append]
  after_results
  simp only [StableHlo.TRef.ofBuf_toBuf]
  show shapeCast S1160x128 (pad S148480 ![0] ![512] ![0] (W (Proc.devRef .tc main_v53)) (sitofp (F := Ideal) .f32 (W (Proc.devRef .tc main_c_2)))
    pads_S147968_S148480_05120 h_S_) shapeCasts_S148480_S1160x128 = _
  rw [hx, hc]
  rfl

theorem packed3 : V m c main_v55 = rows (joined (XV m c)) := by
  show StableHlo.after (hostOps0_7 ++ hostOps0_8) (StableHlo.after (hostOps0_6.drop 12) (before3 m c)) (Proc.devRef .tc main_v55) = _
  refine pads3 _ _ ?_ (pad_word3 _)
  rw [joins3]
  unfold joined before3
  congr 1 <;> (simp only [hostOps0, hostOps0_1, hostOps0_2, hostOps0_3, hostOps0_4, hostOps0_5, hostOps0_6, List.take_succ_cons, List.take_zero, List.cons_append, List.nil_append]; after_results <;> rfl)

theorem reads (t : Fin cfg0.N) (r : Fin 232) (b : Fin 128) :
    iblk m c 0 t (ix2 r b) = rows (joined (XW m c)) (ix2 (row t r) b) ∧ iblk m c 1 t (ix2 r b) = rows (joined (XG m c)) (ix2 (row t r) b)
      ∧ iblk m c 2 t (ix2 r b) = rows (joined (XM m c)) (ix2 (row t r) b) ∧ iblk m c 3 t (ix2 r b) = rows (joined (XV m c)) (ix2 (row t r) b) := by
  obtain ⟨h0, h1, h2, h3, -, -, -⟩ := at0 t
  refine ⟨?_, ?_, ?_, ?_⟩
  · refine Eq.trans (b := ((cfg0.win 0).blk t).view.read (Elt Ideal) (V m c main_v13) (ix2 r b)) rfl ?_
    rw [packed0]
    generalize rows _ = x
    blk_ext! [h0, row]
  · refine Eq.trans (b := ((cfg0.win 1).blk t).view.read (Elt Ideal) (V m c main_v27) (ix2 r b)) rfl ?_
    rw [packed1]
    generalize rows _ = x
    blk_ext! [h1, row]
  · refine Eq.trans (b := ((cfg0.win 2).blk t).view.read (Elt Ideal) (V m c main_v41) (ix2 r b)) rfl ?_
    rw [packed2]
    generalize rows _ = x
    blk_ext! [h2, row]
  · refine Eq.trans (b := ((cfg0.win 3).blk t).view.read (Elt Ideal) (V m c main_v55) (ix2 r b)) rfl ?_
    rw [packed3]
    generalize rows _ = x
    blk_ext! [h3, row]

abbrev A5 : Vec Ideal S1160x128 .f32 := (dats m 0 c).arrAt 5 cfg0.N
abbrev A6 : Vec Ideal S1160x128 .f32 := (dats m 0 c).arrAt 6 cfg0.N
abbrev A7 : Vec Ideal S1160x128 .f32 := (dats m 0 c).arrAt 7 cfg0.N

theorem A5_eq : A5 m c = steps (rows (joined (XW m c))) (rows (joined (XG m c))) (rows (joined (XM m c))) (rows (joined (XV m c))) := by
  refine (dats m 0 c).arrAt_eq_of_covers 5 _ (by decide +kernel) fun t hf y => ?_
  blk_simp
  obtain ⟨r, b, rfl⟩ : ∃ (r : Fin 232) (b : Fin 128), y = ix2 r b := ⟨y 0, y 1, eq_ix2 y⟩
  obtain ⟨-, -, -, -, h5, h6, h7⟩ := at0 t
  rw [after0_5]
  refine (block5 _ _ _ _ r b).trans ?_
  rw [(reads m c t r b).1, (reads m c t r b).2.1, (reads m c t r b).2.2.1, (reads m c t r b).2.2.2]
  show steps (rows (joined (XW m c))) (rows (joined (XG m c))) (rows (joined (XM m c))) (rows (joined (XV m c))) (ix2 (row t r) b) = _
  generalize steps _ _ _ _ = A; blk_ext [h5, h6, h7, row]

theorem A6_eq : A6 m c = firsts (rows (joined (XG m c))) (rows (joined (XM m c))) := by
  refine (dats m 0 c).arrAt_eq_of_covers 6 _ (by decide +kernel) fun t hf y => ?_
  blk_simp
  obtain ⟨r, b, rfl⟩ : ∃ (r : Fin 232) (b : Fin 128), y = ix2 r b := ⟨y 0, y 1, eq_ix2 y⟩
  obtain ⟨-, -, -, -, h5, h6, h7⟩ := at0 t
  rw [after0_6]
  refine (block6 _ _ _ _ r b).trans ?_
  rw [(reads m c t r b).2.1, (reads m c t r b).2.2.1]
  show firsts (rows (joined (XG m c))) (rows (joined (XM m c))) (ix2 (row t r) b) = _
  generalize firsts _ _ = A; blk_ext [h5, h6, h7, row]

theorem A7_eq : A7 m c = seconds (rows (joined (XG m c))) (rows (joined (XV m c))) := by
  refine (dats m 0 c).arrAt_eq_of_covers 7 _ (by decide +kernel) fun t hf y => ?_
  blk_simp
  obtain ⟨r, b, rfl⟩ : ∃ (r : Fin 232) (b : Fin 128), y = ix2 r b := ⟨y 0, y 1, eq_ix2 y⟩
  obtain ⟨-, -, -, -, h5, h6, h7⟩ := at0 t
  rw [after0_7]
  refine (block7 _ _ _ _ r b).trans ?_
  rw [(reads m c t r b).2.1, (reads m c t r b).2.2.2]
  show seconds (rows (joined (XG m c))) (rows (joined (XV m c))) (ix2 (row t r) b) = _
  generalize seconds _ _ = A; blk_ext [h5, h6, h7, row]

/-- What the region leaves, before the host's last lines. -/
abbrev U : Valuation τ sig (Elt Ideal) := Pipeline.withArrays (cfgs 0).spec c (V0 m c) fun w => (dats m 0 c).arrAt w (cfgs 0).N

/-- What those leave. -/
abbrev K (b : Ref sig .tc) := Pipeline.afterTail₀ cfgs (dats m) 0 (V0 m) [hostOps1] c b

theorem U5 : U m c (Proc.devRef .tc main_v56_1) = A5 m c := Pipeline.withArrays_arr (cfgs 0).spec launch0.win.arr_inj c _ _ 5

theorem U6 : U m c (Proc.devRef .tc main_v56_2) = A6 m c := Pipeline.withArrays_arr (cfgs 0).spec launch0.win.arr_inj c _ _ 6

theorem U7 : U m c (Proc.devRef .tc main_v56_3) = A7 m c := Pipeline.withArrays_arr (cfgs 0).spec launch0.win.arr_inj c _ _ 7

theorem cuts0 (W : Valuation τ sig (Elt Ideal)) : StableHlo.after hostOps1 W (Proc.devRef .tc main_v59) = cut0 (W (Proc.devRef .tc main_v56_1))
    ∧ StableHlo.after hostOps1 W (Proc.devRef .tc main_v82) = cut0 (W (Proc.devRef .tc main_v56_2))
    ∧ StableHlo.after hostOps1 W (Proc.devRef .tc main_v105) = cut0 (W (Proc.devRef .tc main_v56_3)) := by
  refine ⟨?_, ?_, ?_⟩ <;> (after_results <;> rfl)

theorem ends0 : K m c main_v59 = steps (XW m c).a0 (XG m c).a0 (XM m c).a0 (XV m c).a0
    ∧ K m c main_v82 = firsts (XG m c).a0 (XM m c).a0
    ∧ K m c main_v105 = seconds (XG m c).a0 (XV m c).a0 := by
  rw [← back0 (XW m c), ← back0 (XG m c), ← back0 (XM m c), ← back0 (XV m c)]
  obtain ⟨e, e', e''⟩ := cuts0 (U m c)
  exact ⟨e.trans (congrArg cut0 ((U5 m c).trans (A5_eq m c))), e'.trans (congrArg cut0 ((U6 m c).trans (A6_eq m c))), e''.trans (congrArg cut0 ((U7 m c).trans (A7_eq m c)))⟩

theorem cuts1 (W : Valuation τ sig (Elt Ideal)) : StableHlo.after hostOps1 W (Proc.devRef .tc main_v61) = cut1 (W (Proc.devRef .tc main_v56_1))
    ∧ StableHlo.after hostOps1 W (Proc.devRef .tc main_v84) = cut1 (W (Proc.devRef .tc main_v56_2))
    ∧ StableHlo.after hostOps1 W (Proc.devRef .tc main_v107) = cut1 (W (Proc.devRef .tc main_v56_3)) := by
  refine ⟨?_, ?_, ?_⟩ <;> (after_results <;> rfl)

theorem ends1 : K m c main_v61 = steps (XW m c).a1 (XG m c).a1 (XM m c).a1 (XV m c).a1
    ∧ K m c main_v84 = firsts (XG m c).a1 (XM m c).a1
    ∧ K m c main_v107 = seconds (XG m c).a1 (XV m c).a1 := by
  rw [← back1 (XW m c), ← back1 (XG m c), ← back1 (XM m c), ← back1 (XV m c)]
  obtain ⟨e, e', e''⟩ := cuts1 (U m c)
  exact ⟨e.trans (congrArg cut1 ((U5 m c).trans (A5_eq m c))), e'.trans (congrArg cut1 ((U6 m c).trans (A6_eq m c))), e''.trans (congrArg cut1 ((U7 m c).trans (A7_eq m c)))⟩

theorem cuts2 (W : Valuation τ sig (Elt Ideal)) : StableHlo.after hostOps1 W (Proc.devRef .tc main_v63) = cut2 (W (Proc.devRef .tc main_v56_1))
    ∧ StableHlo.after hostOps1 W (Proc.devRef .tc main_v86) = cut2 (W (Proc.devRef .tc main_v56_2))
    ∧ StableHlo.after hostOps1 W (Proc.devRef .tc main_v109) = cut2 (W (Proc.devRef .tc main_v56_3)) := by
  refine ⟨?_, ?_, ?_⟩ <;> (after_results <;> rfl)

theorem ends2 : K m c main_v63 = steps (XW m c).a2 (XG m c).a2 (XM m c).a2 (XV m c).a2
    ∧ K m c main_v86 = firsts (XG m c).a2 (XM m c).a2
    ∧ K m c main_v109 = seconds (XG m c).a2 (XV m c).a2 := by
  rw [← back2 (XW m c), ← back2 (XG m c), ← back2 (XM m c), ← back2 (XV m c)]
  obtain ⟨e, e', e''⟩ := cuts2 (U m c)
  exact ⟨e.trans (congrArg cut2 ((U5 m c).trans (A5_eq m c))), e'.trans (congrArg cut2 ((U6 m c).trans (A6_eq m c))), e''.trans (congrArg cut2 ((U7 m c).trans (A7_eq m c)))⟩

theorem cuts3 (W : Valuation τ sig (Elt Ideal)) : StableHlo.after hostOps1 W (Proc.devRef .tc main_v65) = cut3 (W (Proc.devRef .tc main_v56_1))
    ∧ StableHlo.after hostOps1 W (Proc.devRef .tc main_v88) = cut3 (W (Proc.devRef .tc main_v56_2))
    ∧ StableHlo.after hostOps1 W (Proc.devRef .tc main_v111) = cut3 (W (Proc.devRef .tc main_v56_3)) := by
  refine ⟨?_, ?_, ?_⟩ <;> (after_results <;> rfl)

theorem ends3 : K m c main_v65 = steps (XW m c).a3 (XG m c).a3 (XM m c).a3 (XV m c).a3
    ∧ K m c main_v88 = firsts (XG m c).a3 (XM m c).a3
    ∧ K m c main_v111 = seconds (XG m c).a3 (XV m c).a3 := by
  rw [← back3 (XW m c), ← back3 (XG m c), ← back3 (XM m c), ← back3 (XV m c)]
  obtain ⟨e, e', e''⟩ := cuts3 (U m c)
  exact ⟨e.trans (congrArg cut3 ((U5 m c).trans (A5_eq m c))), e'.trans (congrArg cut3 ((U6 m c).trans (A6_eq m c))), e''.trans (congrArg cut3 ((U7 m c).trans (A7_eq m c)))⟩

theorem cuts4 (W : Valuation τ sig (Elt Ideal)) : StableHlo.after hostOps1 W (Proc.devRef .tc main_v67) = cut4 (W (Proc.devRef .tc main_v56_1))
    ∧ StableHlo.after hostOps1 W (Proc.devRef .tc main_v90) = cut4 (W (Proc.devRef .tc main_v56_2))
    ∧ StableHlo.after hostOps1 W (Proc.devRef .tc main_v113) = cut4 (W (Proc.devRef .tc main_v56_3)) := by
  refine ⟨?_, ?_, ?_⟩ <;> (after_results <;> rfl)

theorem ends4 : K m c main_v67 = steps (XW m c).a4 (XG m c).a4 (XM m c).a4 (XV m c).a4
    ∧ K m c main_v90 = firsts (XG m c).a4 (XM m c).a4
    ∧ K m c main_v113 = seconds (XG m c).a4 (XV m c).a4 := by
  rw [← back4 (XW m c), ← back4 (XG m c), ← back4 (XM m c), ← back4 (XV m c)]
  obtain ⟨e, e', e''⟩ := cuts4 (U m c)
  exact ⟨e.trans (congrArg cut4 ((U5 m c).trans (A5_eq m c))), e'.trans (congrArg cut4 ((U6 m c).trans (A6_eq m c))), e''.trans (congrArg cut4 ((U7 m c).trans (A7_eq m c)))⟩

theorem cuts5 (W : Valuation τ sig (Elt Ideal)) : StableHlo.after hostOps1 W (Proc.devRef .tc main_v69) = cut5 (W (Proc.devRef .tc main_v56_1))
    ∧ StableHlo.after hostOps1 W (Proc.devRef .tc main_v92) = cut5 (W (Proc.devRef .tc main_v56_2))
    ∧ StableHlo.after hostOps1 W (Proc.devRef .tc main_v115) = cut5 (W (Proc.devRef .tc main_v56_3)) := by
  refine ⟨?_, ?_, ?_⟩ <;> (after_results <;> rfl)

theorem ends5 : K m c main_v69 = steps (XW m c).a5 (XG m c).a5 (XM m c).a5 (XV m c).a5
    ∧ K m c main_v92 = firsts (XG m c).a5 (XM m c).a5
    ∧ K m c main_v115 = seconds (XG m c).a5 (XV m c).a5 := by
  rw [← back5 (XW m c), ← back5 (XG m c), ← back5 (XM m c), ← back5 (XV m c)]
  obtain ⟨e, e', e''⟩ := cuts5 (U m c)
  exact ⟨e.trans (congrArg cut5 ((U5 m c).trans (A5_eq m c))), e'.trans (congrArg cut5 ((U6 m c).trans (A6_eq m c))), e''.trans (congrArg cut5 ((U7 m c).trans (A7_eq m c)))⟩

theorem cuts6 (W : Valuation τ sig (Elt Ideal)) : StableHlo.after hostOps1 W (Proc.devRef .tc main_v71) = cut6 (W (Proc.devRef .tc main_v56_1))
    ∧ StableHlo.after hostOps1 W (Proc.devRef .tc main_v94) = cut6 (W (Proc.devRef .tc main_v56_2))
    ∧ StableHlo.after hostOps1 W (Proc.devRef .tc main_v117) = cut6 (W (Proc.devRef .tc main_v56_3)) := by
  refine ⟨?_, ?_, ?_⟩ <;> (after_results <;> rfl)

theorem ends6 : K m c main_v71 = steps (XW m c).a6 (XG m c).a6 (XM m c).a6 (XV m c).a6
    ∧ K m c main_v94 = firsts (XG m c).a6 (XM m c).a6
    ∧ K m c main_v117 = seconds (XG m c).a6 (XV m c).a6 := by
  rw [← back6 (XW m c), ← back6 (XG m c), ← back6 (XM m c), ← back6 (XV m c)]
  obtain ⟨e, e', e''⟩ := cuts6 (U m c)
  exact ⟨e.trans (congrArg cut6 ((U5 m c).trans (A5_eq m c))), e'.trans (congrArg cut6 ((U6 m c).trans (A6_eq m c))), e''.trans (congrArg cut6 ((U7 m c).trans (A7_eq m c)))⟩

theorem cuts7 (W : Valuation τ sig (Elt Ideal)) : StableHlo.after hostOps1 W (Proc.devRef .tc main_v73) = cut7 (W (Proc.devRef .tc main_v56_1))
    ∧ StableHlo.after hostOps1 W (Proc.devRef .tc main_v96) = cut7 (W (Proc.devRef .tc main_v56_2))
    ∧ StableHlo.after hostOps1 W (Proc.devRef .tc main_v119) = cut7 (W (Proc.devRef .tc main_v56_3)) := by
  refine ⟨?_, ?_, ?_⟩ <;> (after_results <;> rfl)

theorem ends7 : K m c main_v73 = steps (XW m c).a7 (XG m c).a7 (XM m c).a7 (XV m c).a7
    ∧ K m c main_v96 = firsts (XG m c).a7 (XM m c).a7
    ∧ K m c main_v119 = seconds (XG m c).a7 (XV m c).a7 := by
  rw [← back7 (XW m c), ← back7 (XG m c), ← back7 (XM m c), ← back7 (XV m c)]
  obtain ⟨e, e', e''⟩ := cuts7 (U m c)
  exact ⟨e.trans (congrArg cut7 ((U5 m c).trans (A5_eq m c))), e'.trans (congrArg cut7 ((U6 m c).trans (A6_eq m c))), e''.trans (congrArg cut7 ((U7 m c).trans (A7_eq m c)))⟩

theorem cuts8 (W : Valuation τ sig (Elt Ideal)) : StableHlo.after hostOps1 W (Proc.devRef .tc main_v75) = cut8 (W (Proc.devRef .tc main_v56_1))
    ∧ StableHlo.after hostOps1 W (Proc.devRef .tc main_v98) = cut8 (W (Proc.devRef .tc main_v56_2))
    ∧ StableHlo.after hostOps1 W (Proc.devRef .tc main_v121) = cut8 (W (Proc.devRef .tc main_v56_3)) := by
  refine ⟨?_, ?_, ?_⟩ <;> (after_results <;> rfl)

theorem ends8 : K m c main_v75 = steps (XW m c).a8 (XG m c).a8 (XM m c).a8 (XV m c).a8
    ∧ K m c main_v98 = firsts (XG m c).a8 (XM m c).a8
    ∧ K m c main_v121 = seconds (XG m c).a8 (XV m c).a8 := by
  rw [← back8 (XW m c), ← back8 (XG m c), ← back8 (XM m c), ← back8 (XV m c)]
  obtain ⟨e, e', e''⟩ := cuts8 (U m c)
  exact ⟨e.trans (congrArg cut8 ((U5 m c).trans (A5_eq m c))), e'.trans (congrArg cut8 ((U6 m c).trans (A6_eq m c))), e''.trans (congrArg cut8 ((U7 m c).trans (A7_eq m c)))⟩

theorem cuts9 (W : Valuation τ sig (Elt Ideal)) : StableHlo.after hostOps1 W (Proc.devRef .tc main_v77) = cut9 (W (Proc.devRef .tc main_v56_1))
    ∧ StableHlo.after hostOps1 W (Proc.devRef .tc main_v100) = cut9 (W (Proc.devRef .tc main_v56_2))
    ∧ StableHlo.after hostOps1 W (Proc.devRef .tc main_v123) = cut9 (W (Proc.devRef .tc main_v56_3)) := by
  refine ⟨?_, ?_, ?_⟩ <;> (after_results <;> rfl)

theorem ends9 : K m c main_v77 = steps (XW m c).a9 (XG m c).a9 (XM m c).a9 (XV m c).a9
    ∧ K m c main_v100 = firsts (XG m c).a9 (XM m c).a9
    ∧ K m c main_v123 = seconds (XG m c).a9 (XV m c).a9 := by
  rw [← back9 (XW m c), ← back9 (XG m c), ← back9 (XM m c), ← back9 (XV m c)]
  obtain ⟨e, e', e''⟩ := cuts9 (U m c)
  exact ⟨e.trans (congrArg cut9 ((U5 m c).trans (A5_eq m c))), e'.trans (congrArg cut9 ((U6 m c).trans (A6_eq m c))), e''.trans (congrArg cut9 ((U7 m c).trans (A7_eq m c)))⟩

theorem cuts10 (W : Valuation τ sig (Elt Ideal)) : StableHlo.after hostOps1 W (Proc.devRef .tc main_v79) = cut10 (W (Proc.devRef .tc main_v56_1))
    ∧ StableHlo.after hostOps1 W (Proc.devRef .tc main_v102) = cut10 (W (Proc.devRef .tc main_v56_2))
    ∧ StableHlo.after hostOps1 W (Proc.devRef .tc main_v125) = cut10 (W (Proc.devRef .tc main_v56_3)) := by
  refine ⟨?_, ?_, ?_⟩ <;> (after_results <;> rfl)

theorem ends10 : K m c main_v79 = steps (XW m c).a10 (XG m c).a10 (XM m c).a10 (XV m c).a10
    ∧ K m c main_v102 = firsts (XG m c).a10 (XM m c).a10
    ∧ K m c main_v125 = seconds (XG m c).a10 (XV m c).a10 := by
  rw [← back10 (XW m c), ← back10 (XG m c), ← back10 (XM m c), ← back10 (XV m c)]
  obtain ⟨e, e', e''⟩ := cuts10 (U m c)
  exact ⟨e.trans (congrArg cut10 ((U5 m c).trans (A5_eq m c))), e'.trans (congrArg cut10 ((U6 m c).trans (A6_eq m c))), e''.trans (congrArg cut10 ((U7 m c).trans (A7_eq m c)))⟩

end Points

theorem algebraic : Cert.algebraic_AdamwSmallIdeal_AdamwSmallRefIdeal := by
  intro m ρ m' ρ' _ hagree
  refine ⟨fun c => steps (XW m c).a0 (XG m c).a0 (XM m c).a0 (XV m c).a0,
      fun c => steps (XW m c).a1 (XG m c).a1 (XM m c).a1 (XV m c).a1,
      fun c => steps (XW m c).a2 (XG m c).a2 (XM m c).a2 (XV m c).a2,
      fun c => steps (XW m c).a3 (XG m c).a3 (XM m c).a3 (XV m c).a3,
      fun c => steps (XW m c).a4 (XG m c).a4 (XM m c).a4 (XV m c).a4,
      fun c => steps (XW m c).a5 (XG m c).a5 (XM m c).a5 (XV m c).a5,
      fun c => steps (XW m c).a6 (XG m c).a6 (XM m c).a6 (XV m c).a6,
      fun c => steps (XW m c).a7 (XG m c).a7 (XM m c).a7 (XV m c).a7,
      fun c => steps (XW m c).a8 (XG m c).a8 (XM m c).a8 (XV m c).a8,
      fun c => steps (XW m c).a9 (XG m c).a9 (XM m c).a9 (XV m c).a9,
      fun c => steps (XW m c).a10 (XG m c).a10 (XM m c).a10 (XV m c).a10,
      fun c => firsts (XG m c).a0 (XM m c).a0,
      fun c => firsts (XG m c).a1 (XM m c).a1,
      fun c => firsts (XG m c).a2 (XM m c).a2,
      fun c => firsts (XG m c).a3 (XM m c).a3,
      fun c => firsts (XG m c).a4 (XM m c).a4,
      fun c => firsts (XG m c).a5 (XM m c).a5,
      fun c => firsts (XG m c).a6 (XM m c).a6,
      fun c => firsts (XG m c).a7 (XM m c).a7,
      fun c => firsts (XG m c).a8 (XM m c).a8,
      fun c => firsts (XG m c).a9 (XM m c).a9,
      fun c => firsts (XG m c).a10 (XM m c).a10,
      fun c => seconds (XG m c).a0 (XV m c).a0,
      fun c => seconds (XG m c).a1 (XV m c).a1,
      fun c => seconds (XG m c).a2 (XV m c).a2,
      fun c => seconds (XG m c).a3 (XV m c).a3,
      fun c => seconds (XG m c).a4 (XV m c).a4,
      fun c => seconds (XG m c).a5 (XV m c).a5,
      fun c => seconds (XG m c).a6 (XV m c).a6,
      fun c => seconds (XG m c).a7 (XV m c).a7,
      fun c => seconds (XG m c).a8 (XV m c).a8,
      fun c => seconds (XG m c).a9 (XV m c).a9,
      fun c => seconds (XG m c).a10 (XV m c).a10, ?_, ?_⟩
  · refine (θ_run defs _ _).mono (fun r h c => ?_) (Cert.AdamwSmallIdeal.Gen.run_main (F := Ideal) m ρ)
    have hr := fun b h1 h2 => (h c).2 b (Pipeline.mem_restRefs_of b h1 h2)
    refine ⟨(hr main_v59 (by decide) (by decide)).trans (ends0 m c).1,
      (hr main_v61 (by decide) (by decide)).trans (ends1 m c).1,
      (hr main_v63 (by decide) (by decide)).trans (ends2 m c).1,
      (hr main_v65 (by decide) (by decide)).trans (ends3 m c).1,
      (hr main_v67 (by decide) (by decide)).trans (ends4 m c).1,
      (hr main_v69 (by decide) (by decide)).trans (ends5 m c).1,
      (hr main_v71 (by decide) (by decide)).trans (ends6 m c).1,
      (hr main_v73 (by decide) (by decide)).trans (ends7 m c).1,
      (hr main_v75 (by decide) (by decide)).trans (ends8 m c).1,
      (hr main_v77 (by decide) (by decide)).trans (ends9 m c).1,
      (hr main_v79 (by decide) (by decide)).trans (ends10 m c).1,
      (hr main_v82 (by decide) (by decide)).trans (ends0 m c).2.1,
      (hr main_v84 (by decide) (by decide)).trans (ends1 m c).2.1,
      (hr main_v86 (by decide) (by decide)).trans (ends2 m c).2.1,
      (hr main_v88 (by decide) (by decide)).trans (ends3 m c).2.1,
      (hr main_v90 (by decide) (by decide)).trans (ends4 m c).2.1,
      (hr main_v92 (by decide) (by decide)).trans (ends5 m c).2.1,
      (hr main_v94 (by decide) (by decide)).trans (ends6 m c).2.1,
      (hr main_v96 (by decide) (by decide)).trans (ends7 m c).2.1,
      (hr main_v98 (by decide) (by decide)).trans (ends8 m c).2.1,
      (hr main_v100 (by decide) (by decide)).trans (ends9 m c).2.1,
      (hr main_v102 (by decide) (by decide)).trans (ends10 m c).2.1,
      (hr main_v105 (by decide) (by decide)).trans (ends0 m c).2.2,
      (hr main_v107 (by decide) (by decide)).trans (ends1 m c).2.2,
      (hr main_v109 (by decide) (by decide)).trans (ends2 m c).2.2,
      (hr main_v111 (by decide) (by decide)).trans (ends3 m c).2.2,
      (hr main_v113 (by decide) (by decide)).trans (ends4 m c).2.2,
      (hr main_v115 (by decide) (by decide)).trans (ends5 m c).2.2,
      (hr main_v117 (by decide) (by decide)).trans (ends6 m c).2.2,
      (hr main_v119 (by decide) (by decide)).trans (ends7 m c).2.2,
      (hr main_v121 (by decide) (by decide)).trans (ends8 m c).2.2,
      (hr main_v123 (by decide) (by decide)).trans (ends9 m c).2.2,
      (hr main_v125 (by decide) (by decide)).trans (ends10 m c).2.2,
      (hr main_arg0 (by decide) (by decide)).trans (W_main_arg0 m _ c),
      (hr main_arg1 (by decide) (by decide)).trans (W_main_arg1 m _ c),
      (hr main_arg2 (by decide) (by decide)).trans (W_main_arg2 m _ c),
      (hr main_arg3 (by decide) (by decide)).trans (W_main_arg3 m _ c),
      (hr main_arg4 (by decide) (by decide)).trans (W_main_arg4 m _ c),
      (hr main_arg5 (by decide) (by decide)).trans (W_main_arg5 m _ c),
      (hr main_arg6 (by decide) (by decide)).trans (W_main_arg6 m _ c),
      (hr main_arg7 (by decide) (by decide)).trans (W_main_arg7 m _ c),
      (hr main_arg8 (by decide) (by decide)).trans (W_main_arg8 m _ c),
      (hr main_arg9 (by decide) (by decide)).trans (W_main_arg9 m _ c),
      (hr main_arg10 (by decide) (by decide)).trans (W_main_arg10 m _ c),
      (hr main_arg11 (by decide) (by decide)).trans (W_main_arg11 m _ c),
      (hr main_arg12 (by decide) (by decide)).trans (W_main_arg12 m _ c),
      (hr main_arg13 (by decide) (by decide)).trans (W_main_arg13 m _ c),
      (hr main_arg14 (by decide) (by decide)).trans (W_main_arg14 m _ c),
      (hr main_arg15 (by decide) (by decide)).trans (W_main_arg15 m _ c),
      (hr main_arg16 (by decide) (by decide)).trans (W_main_arg16 m _ c),
      (hr main_arg17 (by decide) (by decide)).trans (W_main_arg17 m _ c),
      (hr main_arg18 (by decide) (by decide)).trans (W_main_arg18 m _ c),
      (hr main_arg19 (by decide) (by decide)).trans (W_main_arg19 m _ c),
      (hr main_arg20 (by decide) (by decide)).trans (W_main_arg20 m _ c),
      (hr main_arg21 (by decide) (by decide)).trans (W_main_arg21 m _ c),
      (hr main_arg22 (by decide) (by decide)).trans (W_main_arg22 m _ c),
      (hr main_arg23 (by decide) (by decide)).trans (W_main_arg23 m _ c),
      (hr main_arg24 (by decide) (by decide)).trans (W_main_arg24 m _ c),
      (hr main_arg25 (by decide) (by decide)).trans (W_main_arg25 m _ c),
      (hr main_arg26 (by decide) (by decide)).trans (W_main_arg26 m _ c),
      (hr main_arg27 (by decide) (by decide)).trans (W_main_arg27 m _ c),
      (hr main_arg28 (by decide) (by decide)).trans (W_main_arg28 m _ c),
      (hr main_arg29 (by decide) (by decide)).trans (W_main_arg29 m _ c),
      (hr main_arg30 (by decide) (by decide)).trans (W_main_arg30 m _ c),
      (hr main_arg31 (by decide) (by decide)).trans (W_main_arg31 m _ c),
      (hr main_arg32 (by decide) (by decide)).trans (W_main_arg32 m _ c),
      (hr main_arg33 (by decide) (by decide)).trans (W_main_arg33 m _ c),
      (hr main_arg34 (by decide) (by decide)).trans (W_main_arg34 m _ c),
      (hr main_arg35 (by decide) (by decide)).trans (W_main_arg35 m _ c),
      (hr main_arg36 (by decide) (by decide)).trans (W_main_arg36 m _ c),
      (hr main_arg37 (by decide) (by decide)).trans (W_main_arg37 m _ c),
      (hr main_arg38 (by decide) (by decide)).trans (W_main_arg38 m _ c),
      (hr main_arg39 (by decide) (by decide)).trans (W_main_arg39 m _ c),
      (hr main_arg40 (by decide) (by decide)).trans (W_main_arg40 m _ c),
      (hr main_arg41 (by decide) (by decide)).trans (W_main_arg41 m _ c),
      (hr main_arg42 (by decide) (by decide)).trans (W_main_arg42 m _ c),
      (hr main_arg43 (by decide) (by decide)).trans (W_main_arg43 m _ c)⟩
  · refine (θ_run Cert.AdamwSmallRefIdeal.defs _ _).mono (fun r h c => ?_) (Cert.AdamwSmallRefIdeal.Value.run (F := Ideal) m' ρ')
    obtain ⟨e_step0, e_step1, e_step2, e_step3, e_step4, e_step5, e_step6, e_step7, e_step8, e_step9, e_step10, e_first0, e_first1, e_first2, e_first3, e_first4, e_first5, e_first6, e_first7, e_first8, e_first9, e_first10, e_second0, e_second1, e_second2, e_second3, e_second4, e_second5, e_second6, e_second7, e_second8, e_second9, e_second10, ea⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hagree c
    exact ⟨e_step0.trans ((ref_step0 _ _ _ _).trans (steps_congr a0 a11 a22 a33)),
      e_step1.trans ((ref_step0 _ _ _ _).trans (steps_congr a1 a12 a23 a34)),
      e_step2.trans ((ref_step2 _ _ _ _).trans (steps_congr a2 a13 a24 a35)),
      e_step3.trans ((ref_step3 _ _ _ _).trans (steps_congr a3 a14 a25 a36)),
      e_step4.trans ((ref_step3 _ _ _ _).trans (steps_congr a4 a15 a26 a37)),
      e_step5.trans ((ref_step5 _ _ _ _).trans (steps_congr a5 a16 a27 a38)),
      e_step6.trans ((ref_step6 _ _ _ _).trans (steps_congr a6 a17 a28 a39)),
      e_step7.trans ((ref_step0 _ _ _ _).trans (steps_congr a7 a18 a29 a40)),
      e_step8.trans ((ref_step0 _ _ _ _).trans (steps_congr a8 a19 a30 a41)),
      e_step9.trans ((ref_step0 _ _ _ _).trans (steps_congr a9 a20 a31 a42)),
      e_step10.trans ((ref_step0 _ _ _ _).trans (steps_congr a10 a21 a32 a43)),
      e_first0.trans ((ref_first0 _ _).trans (firsts_congr a11 a22)),
      e_first1.trans ((ref_first0 _ _).trans (firsts_congr a12 a23)),
      e_first2.trans ((ref_first2 _ _).trans (firsts_congr a13 a24)),
      e_first3.trans ((ref_first3 _ _).trans (firsts_congr a14 a25)),
      e_first4.trans ((ref_first3 _ _).trans (firsts_congr a15 a26)),
      e_first5.trans ((ref_first5 _ _).trans (firsts_congr a16 a27)),
      e_first6.trans ((ref_first6 _ _).trans (firsts_congr a17 a28)),
      e_first7.trans ((ref_first0 _ _).trans (firsts_congr a18 a29)),
      e_first8.trans ((ref_first0 _ _).trans (firsts_congr a19 a30)),
      e_first9.trans ((ref_first0 _ _).trans (firsts_congr a20 a31)),
      e_first10.trans ((ref_first0 _ _).trans (firsts_congr a21 a32)),
      e_second0.trans ((ref_second0 _ _).trans (seconds_congr a11 a33)),
      e_second1.trans ((ref_second0 _ _).trans (seconds_congr a12 a34)),
      e_second2.trans ((ref_second2 _ _).trans (seconds_congr a13 a35)),
      e_second3.trans ((ref_second3 _ _).trans (seconds_congr a14 a36)),
      e_second4.trans ((ref_second3 _ _).trans (seconds_congr a15 a37)),
      e_second5.trans ((ref_second5 _ _).trans (seconds_congr a16 a38)),
      e_second6.trans ((ref_second6 _ _).trans (seconds_congr a17 a39)),
      e_second7.trans ((ref_second0 _ _).trans (seconds_congr a18 a40)),
      e_second8.trans ((ref_second0 _ _).trans (seconds_congr a19 a41)),
      e_second9.trans ((ref_second0 _ _).trans (seconds_congr a20 a42)),
      e_second10.trans ((ref_second0 _ _).trans (seconds_congr a21 a43)), ea⟩

end Cert.AdamwSmallValue

end
-- ==== Proof.lean ====
/- What is claimed of each part of the training step, and the proofs: that the kernel, the idealized kernel and the
   reference run to their end and leave their arguments as they were, and that the idealized kernel and the reference end
   with the same results. -/
module

public import proofs.«01_k».proof.Defs
public import proofs.«01_k».proof.Proof.Gen.Gain
public import proofs.«01_k».proof.Proof.Gen.Gain.Skeleton
public import proofs.«01_k».proof.Proof.Gen.Gain.Launch
public import proofs.«01_k».proof.Proof.Gen.Gain.Points
public import proofs.«01_k».proof.Proof.Gen.Gain.Frame
public import proofs.«01_k».proof.Proof.Gen.GainIdeal
public import proofs.«01_k».proof.Proof.Gen.GainIdeal.Skeleton
public import proofs.«01_k».proof.Proof.Gen.GainIdeal.Launch
public import proofs.«01_k».proof.Proof.Gen.GainIdeal.Points
public import proofs.«01_k».proof.Proof.Gen.GainIdeal.Frame
public import proofs.«01_k».proof.Proof.Gen.GainRefIdeal
public import proofs.«01_k».proof.Proof.Gen.GainRefIdeal.Run
public import proofs.«01_k».proof.Proof.Gen.GainRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Norm1
public import proofs.«01_k».proof.Proof.Gen.Norm1.Skeleton
public import proofs.«01_k».proof.Proof.Gen.Norm1.Launch
public import proofs.«01_k».proof.Proof.Gen.Norm1.Regions
public import proofs.«01_k».proof.Proof.Gen.Norm1.Points
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Regions
public import proofs.«01_k».proof.Proof.Gen.Norm1Ideal.Points
public import proofs.«01_k».proof.Proof.Gen.Norm1RefIdeal
public import proofs.«01_k».proof.Proof.Gen.Norm1RefIdeal.Run
public import proofs.«01_k».proof.Proof.Gen.Norm1RefIdeal.Read
public import proofs.«01_k».proof.Proof.Gen.Xq
public import proofs.«01_k».proof.Proof.Gen.Xq.Skeleton
public import proofs.«01_k».proof.Proof.Gen.Xq.Launch
public import proofs.«01_k».proof.Proof.Gen.Xq.Regions
public import proofs.«01_k».proof.Proof.Gen.Xq.Points
public import proofs.«01_k».proof.Proof.Gen.XqIdeal
public import proofs.«01_k».proof.Proof.Gen.XqIdeal.Skeleton
public import proofs.«01_k».proof.Proof.Gen.XqIdeal.Launch
public import proofs.«01_k».proof.Proof.Gen.XqIdeal.Regions
public import proofs.«01_k».proof.Proof.Gen.XqIdeal.Points
public import proofs.«01_k».proof.Proof.Gen.XqRefIdeal
public import proofs.«01_k».proof.Proof.Gen.XqRefIdeal.Run
public import proofs.«01_k».proof.Proof.Gen.XqRefIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Regions
public import proofs.«01_k».proof.Proof.Gen.MixIn.Points
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Regions
public import proofs.«01_k».proof.Proof.Gen.MixInIdeal.Points
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Regions
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Regions
public import proofs.«01_k».proof.Proof.Gen.FfnIdeal.Points
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.AttnF
public import proofs.«01_k».proof.Proof.Gen.AttnF.Skeleton
public import proofs.«01_k».proof.Proof.Gen.AttnF.Launch
public import proofs.«01_k».proof.Proof.Gen.AttnF.Points
public import proofs.«01_k».proof.Proof.Gen.AttnF.Frame
public import proofs.«01_k».proof.Proof.Gen.AttnFIdeal
public import proofs.«01_k».proof.Proof.Gen.AttnFIdeal.Skeleton
public import proofs.«01_k».proof.Proof.Gen.AttnFIdeal.Launch
public import proofs.«01_k».proof.Proof.Gen.AttnFIdeal.Points
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.MixF
public import proofs.«01_k».proof.Proof.Gen.MixF.Skeleton
public import proofs.«01_k».proof.Proof.Gen.MixF.Launch
public import proofs.«01_k».proof.Proof.Gen.MixF.Points
public import proofs.«01_k».proof.Proof.Gen.MixF.Frame
public import proofs.«01_k».proof.Proof.Gen.MixFIdeal
public import proofs.«01_k».proof.Proof.Gen.MixFIdeal.Skeleton
public import proofs.«01_k».proof.Proof.Gen.MixFIdeal.Launch
public import proofs.«01_k».proof.Proof.Gen.MixFIdeal.Points
public import proofs.«01_k».proof.Proof.Gen.MixFIdeal.Frame
public import proofs.«01_k».proof.Proof.Gen.MixFIdeal.Value
public import proofs.«01_k».proof.Proof.Gen.MixFRefIdeal
public import proofs.«01_k».proof.Proof.Gen.MixFRefIdeal.Run
public import proofs.«01_k».proof.Proof.Gen.MixFRefIdeal.Read
public import proofs.«01_k».proof.Proof.Gen.NormF
public import proofs.«01_k».proof.Proof.Gen.NormF.Skeleton
public import proofs.«01_k».proof.Proof.Gen.NormF.Launch
public import proofs.«01_k».proof.Proof.Gen.NormF.Points
public import proofs.«01_k».proof.Proof.Gen.NormF.Frame
public import proofs.«01_k».proof.Proof.Gen.NormFIdeal
public import proofs.«01_k».proof.Proof.Gen.NormFIdeal.Skeleton
public import proofs.«01_k».proof.Proof.Gen.NormFIdeal.Launch
public import proofs.«01_k».proof.Proof.Gen.NormFIdeal.Points
public import proofs.«01_k».proof.Proof.Gen.NormFIdeal.Frame
public import proofs.«01_k».proof.Proof.Gen.NormFIdeal.Value
public import proofs.«01_k».proof.Proof.Gen.NormFRefIdeal
public import proofs.«01_k».proof.Proof.Gen.NormFRefIdeal.Run
public import proofs.«01_k».proof.Proof.Gen.NormFRefIdeal.Read
public import proofs.«01_k».proof.Proof.Gen.GateF
public import proofs.«01_k».proof.Proof.Gen.GateF.Skeleton
public import proofs.«01_k».proof.Proof.Gen.GateF.Launch
public import proofs.«01_k».proof.Proof.Gen.GateF.Points
public import proofs.«01_k».proof.Proof.Gen.GateF.Frame
public import proofs.«01_k».proof.Proof.Gen.GateFIdeal
public import proofs.«01_k».proof.Proof.Gen.GateFIdeal.Skeleton
public import proofs.«01_k».proof.Proof.Gen.GateFIdeal.Launch
public import proofs.«01_k».proof.Proof.Gen.GateFIdeal.Points
public import proofs.«01_k».proof.Proof.Gen.GateFIdeal.Frame
public import proofs.«01_k».proof.Proof.Gen.GateFIdeal.Value
public import proofs.«01_k».proof.Proof.Gen.GateFRefIdeal
public import proofs.«01_k».proof.Proof.Gen.GateFRefIdeal.Run
public import proofs.«01_k».proof.Proof.Gen.GateFRefIdeal.Read
public import proofs.«01_k».proof.Proof.Gen.HalfF
public import proofs.«01_k».proof.Proof.Gen.HalfF.Skeleton
public import proofs.«01_k».proof.Proof.Gen.HalfF.Launch
public import proofs.«01_k».proof.Proof.Gen.HalfF.Points
public import proofs.«01_k».proof.Proof.Gen.HalfF.Frame
public import proofs.«01_k».proof.Proof.Gen.HalfFIdeal
public import proofs.«01_k».proof.Proof.Gen.HalfFIdeal.Skeleton
public import proofs.«01_k».proof.Proof.Gen.HalfFIdeal.Launch
public import proofs.«01_k».proof.Proof.Gen.HalfFIdeal.Points
public import proofs.«01_k».proof.Proof.Gen.HalfFIdeal.Frame
public import proofs.«01_k».proof.Proof.Gen.HalfFRefIdeal
public import proofs.«01_k».proof.Proof.Gen.HalfFRefIdeal.Run
public import proofs.«01_k».proof.Proof.Gen.HalfFRefIdeal.Read
public import proofs.«01_k».proof.Proof.Gen.Nn
public import proofs.«01_k».proof.Proof.Gen.Nn.Skeleton
public import proofs.«01_k».proof.Proof.Gen.Nn.Launch
public import proofs.«01_k».proof.Proof.Gen.Nn.Points
public import proofs.«01_k».proof.Proof.Gen.Nn.Frame
public import proofs.«01_k».proof.Proof.Gen.NnIdeal
public import proofs.«01_k».proof.Proof.Gen.NnIdeal.Skeleton
public import proofs.«01_k».proof.Proof.Gen.NnIdeal.Launch
public import proofs.«01_k».proof.Proof.Gen.NnIdeal.Points
public import proofs.«01_k».proof.Proof.Gen.NnIdeal.Frame
public import proofs.«01_k».proof.Proof.Gen.NnIdeal.Value
public import proofs.«01_k».proof.Proof.Gen.NnRefIdeal
public import proofs.«01_k».proof.Proof.Gen.NnRefIdeal.Run
public import proofs.«01_k».proof.Proof.Gen.NnRefIdeal.Read
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.ResidRefIdeal.Read
public import proofs.«01_k».proof.Proof.Gen.Nt
public import proofs.«01_k».proof.Proof.Gen.Nt.Skeleton
public import proofs.«01_k».proof.Proof.Gen.Nt.Launch
public import proofs.«01_k».proof.Proof.Gen.Nt.Points
public import proofs.«01_k».proof.Proof.Gen.Nt.Frame
public import proofs.«01_k».proof.Proof.Gen.NtIdeal
public import proofs.«01_k».proof.Proof.Gen.NtIdeal.Skeleton
public import proofs.«01_k».proof.Proof.Gen.NtIdeal.Launch
public import proofs.«01_k».proof.Proof.Gen.NtIdeal.Points
public import proofs.«01_k».proof.Proof.Gen.NtIdeal.Frame
public import proofs.«01_k».proof.Proof.Gen.NtIdeal.Value
public import proofs.«01_k».proof.Proof.Gen.NtRefIdeal
public import proofs.«01_k».proof.Proof.Gen.NtRefIdeal.Run
public import proofs.«01_k».proof.Proof.Gen.NtRefIdeal.Read
public import proofs.«01_k».proof.Proof.Gen.Tn
public import proofs.«01_k».proof.Proof.Gen.Tn.Skeleton
public import proofs.«01_k».proof.Proof.Gen.Tn.Launch
public import proofs.«01_k».proof.Proof.Gen.Tn.Points
public import proofs.«01_k».proof.Proof.Gen.Tn.Frame
public import proofs.«01_k».proof.Proof.Gen.TnIdeal
public import proofs.«01_k».proof.Proof.Gen.TnIdeal.Skeleton
public import proofs.«01_k».proof.Proof.Gen.TnIdeal.Launch
public import proofs.«01_k».proof.Proof.Gen.TnIdeal.Points
public import proofs.«01_k».proof.Proof.Gen.TnIdeal.Frame
public import proofs.«01_k».proof.Proof.Gen.TnIdeal.Value
public import proofs.«01_k».proof.Proof.Gen.TnRefIdeal
public import proofs.«01_k».proof.Proof.Gen.TnRefIdeal.Run
public import proofs.«01_k».proof.Proof.Gen.TnRefIdeal.Read
public import proofs.«01_k».proof.Proof.Gen.TnPair
public import proofs.«01_k».proof.Proof.Gen.TnPair.Skeleton
public import proofs.«01_k».proof.Proof.Gen.TnPair.Launch
public import proofs.«01_k».proof.Proof.Gen.TnPair.Points
public import proofs.«01_k».proof.Proof.Gen.TnPair.Frame
public import proofs.«01_k».proof.Proof.Gen.TnPairIdeal
public import proofs.«01_k».proof.Proof.Gen.TnPairIdeal.Skeleton
public import proofs.«01_k».proof.Proof.Gen.TnPairIdeal.Launch
public import proofs.«01_k».proof.Proof.Gen.TnPairIdeal.Points
public import proofs.«01_k».proof.Proof.Gen.TnPairIdeal.Frame
public import proofs.«01_k».proof.Proof.Gen.TnPairIdeal.Value
public import proofs.«01_k».proof.Proof.Gen.TnPairRefIdeal
public import proofs.«01_k».proof.Proof.Gen.TnPairRefIdeal.Run
public import proofs.«01_k».proof.Proof.Gen.TnPairRefIdeal.Read
public import proofs.«01_k».proof.Proof.Gen.NtHalves
public import proofs.«01_k».proof.Proof.Gen.NtHalves.Skeleton
public import proofs.«01_k».proof.Proof.Gen.NtHalves.Launch
public import proofs.«01_k».proof.Proof.Gen.NtHalves.Points
public import proofs.«01_k».proof.Proof.Gen.NtHalves.Frame
public import proofs.«01_k».proof.Proof.Gen.NtHalvesIdeal
public import proofs.«01_k».proof.Proof.Gen.NtHalvesIdeal.Skeleton
public import proofs.«01_k».proof.Proof.Gen.NtHalvesIdeal.Launch
public import proofs.«01_k».proof.Proof.Gen.NtHalvesIdeal.Points
public import proofs.«01_k».proof.Proof.Gen.NtHalvesIdeal.Frame
public import proofs.«01_k».proof.Proof.Gen.NtHalvesIdeal.Value
public import proofs.«01_k».proof.Proof.Gen.NtHalvesRefIdeal
public import proofs.«01_k».proof.Proof.Gen.NtHalvesRefIdeal.Run
public import proofs.«01_k».proof.Proof.Gen.NtHalvesRefIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Gen.TnHalf
public import proofs.«01_k».proof.Proof.Gen.TnHalf.Skeleton
public import proofs.«01_k».proof.Proof.Gen.TnHalf.Launch
public import proofs.«01_k».proof.Proof.Gen.TnHalf.Points
public import proofs.«01_k».proof.Proof.Gen.TnHalf.Frame
public import proofs.«01_k».proof.Proof.Gen.TnHalfIdeal
public import proofs.«01_k».proof.Proof.Gen.TnHalfIdeal.Skeleton
public import proofs.«01_k».proof.Proof.Gen.TnHalfIdeal.Launch
public import proofs.«01_k».proof.Proof.Gen.TnHalfIdeal.Points
public import proofs.«01_k».proof.Proof.Gen.TnHalfIdeal.Frame
public import proofs.«01_k».proof.Proof.Gen.TnHalfRefIdeal
public import proofs.«01_k».proof.Proof.Gen.TnHalfRefIdeal.Run
public import proofs.«01_k».proof.Proof.Gen.TnHalfRefIdeal.Read
public import proofs.«01_k».proof.Proof.Gen.PairAdd
public import proofs.«01_k».proof.Proof.Gen.PairAdd.Skeleton
public import proofs.«01_k».proof.Proof.Gen.PairAdd.Launch
public import proofs.«01_k».proof.Proof.Gen.PairAdd.Points
public import proofs.«01_k».proof.Proof.Gen.PairAdd.Frame
public import proofs.«01_k».proof.Proof.Gen.PairAddIdeal
public import proofs.«01_k».proof.Proof.Gen.PairAddIdeal.Skeleton
public import proofs.«01_k».proof.Proof.Gen.PairAddIdeal.Launch
public import proofs.«01_k».proof.Proof.Gen.PairAddIdeal.Points
public import proofs.«01_k».proof.Proof.Gen.PairAddIdeal.Frame
public import proofs.«01_k».proof.Proof.Gen.PairAddRefIdeal
public import proofs.«01_k».proof.Proof.Gen.PairAddRefIdeal.Run
public import proofs.«01_k».proof.Proof.Gen.PairAddRefIdeal.Read
public import proofs.«01_k».proof.Proof.Gen.Packed
public import proofs.«01_k».proof.Proof.Gen.Packed.Skeleton
public import proofs.«01_k».proof.Proof.Gen.Packed.Launch
public import proofs.«01_k».proof.Proof.Gen.Packed.Points
public import proofs.«01_k».proof.Proof.Gen.Packed.Frame
public import proofs.«01_k».proof.Proof.Gen.PackedIdeal
public import proofs.«01_k».proof.Proof.Gen.PackedIdeal.Skeleton
public import proofs.«01_k».proof.Proof.Gen.PackedIdeal.Launch
public import proofs.«01_k».proof.Proof.Gen.PackedIdeal.Points
public import proofs.«01_k».proof.Proof.Gen.PackedIdeal.Frame
public import proofs.«01_k».proof.Proof.Gen.PackedRefIdeal
public import proofs.«01_k».proof.Proof.Gen.PackedRefIdeal.Run
public import proofs.«01_k».proof.Proof.Gen.PackedRefIdeal.Read
public import proofs.«01_k».proof.Proof.Gen.AdamwSmall
public import proofs.«01_k».proof.Proof.Gen.AdamwSmall.Skeleton
public import proofs.«01_k».proof.Proof.Gen.AdamwSmall.Launch
public import proofs.«01_k».proof.Proof.Gen.AdamwSmall.Points
public import proofs.«01_k».proof.Proof.Gen.AdamwSmall.Frame
public import proofs.«01_k».proof.Proof.Gen.AdamwSmallIdeal
public import proofs.«01_k».proof.Proof.Gen.AdamwSmallIdeal.Skeleton
public import proofs.«01_k».proof.Proof.Gen.AdamwSmallIdeal.Launch
public import proofs.«01_k».proof.Proof.Gen.AdamwSmallIdeal.Points
public import proofs.«01_k».proof.Proof.Gen.AdamwSmallIdeal.Frame
public import proofs.«01_k».proof.Proof.Gen.AdamwSmallRefIdeal
public import proofs.«01_k».proof.Proof.Gen.AdamwSmallRefIdeal.Run
public import proofs.«01_k».proof.Proof.Gen.AdamwSmallRefIdeal.Read
public import proofs.«01_k».proof.Proof.GainValue
public import proofs.«01_k».proof.Proof.LossValue
public import proofs.«01_k».proof.Proof.AttnValue
public import proofs.«01_k».proof.Proof.SwigluValue
public import proofs.«01_k».proof.Proof.Norm1Value
public import proofs.«01_k».proof.Proof.XqValue
public import proofs.«01_k».proof.Proof.MixInValue
public import proofs.«01_k».proof.Proof.FfnValue
public import proofs.«01_k».proof.Proof.MixerValue
public import proofs.«01_k».proof.Proof.NormFValue
public import proofs.«01_k».proof.Proof.GateFValue
public import proofs.«01_k».proof.Proof.AttnFValue
public import proofs.«01_k».proof.Proof.MixFValue
public import proofs.«01_k».proof.Proof.HalfFValue
public import proofs.«01_k».proof.Proof.NnValue
public import proofs.«01_k».proof.Proof.ResidValue
public import proofs.«01_k».proof.Proof.NtValue
public import proofs.«01_k».proof.Proof.TnValue
public import proofs.«01_k».proof.Proof.TnPairValue
public import proofs.«01_k».proof.Proof.NtHalvesValue
public import proofs.«01_k».proof.Proof.TnHalfValue
public import proofs.«01_k».proof.Proof.AdamwValue
public import proofs.«01_k».proof.Proof.PairAddValue
public import proofs.«01_k».proof.Proof.PackedValue
public import proofs.«01_k».proof.Proof.AdamwSmallValue
public import Idealize.ShloMosaic.Adequacy
public import Idealize.ShloMosaic.Init

@[expose] public section

noncomputable section

namespace Cert.Proof

open Idealize.ShloMosaic Idealize.SL.Sem

/-! ## The gradient of the memory norm's gain -/

theorem frame_Gain : Cert.quiescent_Gain := fun m ρ _ => Cert.Gain.Gen.frame m ρ
theorem frame_GainIdeal : Cert.quiescent_GainIdeal := fun m ρ _ => Cert.GainIdeal.Gen.frame m ρ
theorem frame_GainRefIdeal : Cert.quiescent_GainRefIdeal := fun m ρ _ =>
  (θ_run Cert.GainRefIdeal.defs _ _).mono (fun r h => ⟨fun c => (h c).2, sem_eq_zero_of_no_sems (by decide) r.2⟩)
    (Cert.GainRefIdeal.Value.run (F := Ideal) m ρ)
theorem algebraic_Gain : Cert.algebraic_GainIdeal_GainRefIdeal := Cert.GainValue.algebraic

/-! ## The loss, its gradient through the last norm, and that norm's gain -/

theorem frame_Loss : Cert.quiescent_Loss := fun m ρ _ => Cert.Loss.Gen.frame m ρ
theorem frame_LossIdeal : Cert.quiescent_LossIdeal := fun m ρ _ => Cert.LossIdeal.Gen.frame m ρ
theorem frame_LossRefIdeal : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)
theorem algebraic_Loss : Cert.algebraic_LossIdeal_LossRefIdeal_pre_loss_finite := Cert.LossValue.algebraic

/-! ## The attention's gradients -/

theorem frame_Attn : Cert.quiescent_Attn := fun m ρ _ => Cert.Attn.Gen.frame m ρ
theorem frame_AttnIdeal : Cert.quiescent_AttnIdeal := fun m ρ _ => Cert.AttnIdeal.Gen.frame m ρ
theorem frame_AttnRefIdeal : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)
theorem algebraic_Attn : Cert.algebraic_AttnIdeal_AttnRefIdeal_pre_attn_finite := Cert.AttnValue.algebraic

/-! ## The gradients of the gated products -/

theorem frame_Swiglu : Cert.quiescent_Swiglu := fun m ρ _ => Cert.Swiglu.Gen.frame m ρ
theorem frame_SwigluIdeal : Cert.quiescent_SwigluIdeal := fun m ρ _ => Cert.SwigluIdeal.Gen.frame m ρ
theorem frame_SwigluRefIdeal : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)
theorem algebraic_Swiglu : Cert.algebraic_SwigluIdeal_SwigluRefIdeal_pre_swiglu_finite := Cert.SwigluValue.algebraic

/-! ## The block's norm and its gradients -/

theorem frame_Norm1 : Cert.quiescent_Norm1 := fun m ρ _ =>
  cast (by sl_kernel_rfl) (Cert.Norm1Frame.frame (F := Bits) m ρ)
theorem frame_Norm1Ideal : Cert.quiescent_Norm1Ideal := fun m ρ _ => Cert.Norm1Frame.frame (F := Ideal) m ρ
theorem frame_Norm1RefIdeal : Cert.quiescent_Norm1RefIdeal := fun m ρ _ =>
  (θ_run Cert.Norm1RefIdeal.defs _ _).mono (fun r h => ⟨fun c => (h c).2.2.2, sem_eq_zero_of_no_sems (by decide) r.2⟩)
    (Cert.Norm1RefIdeal.Value.run (F := Ideal) m ρ)
theorem algebraic_Norm1 : Cert.algebraic_Norm1Ideal_Norm1RefIdeal_pre_norm1_finite := Cert.Norm1Value.algebraic

/-! ## The cross attention's norm and its gradients, from the queries' product on -/

theorem frame_Xq : Cert.quiescent_Xq := fun m ρ _ =>
  cast (by sl_kernel_rfl) (Cert.XqFrame.frame (F := Bits) m ρ)
theorem frame_XqIdeal : Cert.quiescent_XqIdeal := fun m ρ _ => Cert.XqFrame.frame (F := Ideal) m ρ
theorem frame_XqRefIdeal : Cert.quiescent_XqRefIdeal := fun m ρ _ =>
  (θ_run Cert.XqRefIdeal.defs _ _).mono (fun r h => ⟨fun c => (h c).2.2.2, sem_eq_zero_of_no_sems (by decide) r.2⟩)
    (Cert.XqRefIdeal.Value.run (F := Ideal) m ρ)
theorem algebraic_Xq : Cert.algebraic_XqIdeal_XqRefIdeal_pre_xq_finite := Cert.XqValue.algebraic

/-! ## The mixer's norm and its gradients, from the mixer's product on -/

theorem frame_MixIn : Cert.quiescent_MixIn := fun m ρ _ =>
  cast (by sl_kernel_rfl) (Cert.MixInFrame.frame (F := Bits) m ρ)
theorem frame_MixInIdeal : Cert.quiescent_MixInIdeal := fun m ρ _ => Cert.MixInFrame.frame (F := Ideal) m ρ
theorem frame_MixInRefIdeal : Cert.quiescent_MixInRefIdeal := fun m ρ _ =>
  (θ_run Cert.MixInRefIdeal.defs _ _).mono (fun r h => ⟨fun c => (h c).2.2.2, sem_eq_zero_of_no_sems (by decide) r.2⟩)
    (Cert.MixInRefIdeal.Value.run (F := Ideal) m ρ)
theorem algebraic_MixIn : Cert.algebraic_MixInIdeal_MixInRefIdeal_pre_mixin_finite := Cert.MixInValue.algebraic

/-! ## The second gated product's norm and its gradients, from the product on -/

theorem frame_Ffn : Cert.quiescent_Ffn := fun m ρ _ =>
  cast (by sl_kernel_rfl) (Cert.FfnFrame.frame (F := Bits) m ρ)
theorem frame_FfnIdeal : Cert.quiescent_FfnIdeal := fun m ρ _ => Cert.FfnFrame.frame (F := Ideal) m ρ
theorem frame_FfnRefIdeal : Cert.quiescent_FfnRefIdeal := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)
theorem algebraic_Ffn : Cert.algebraic_FfnIdeal_FfnRefIdeal_pre_ffn_finite := Cert.FfnValue.algebraic

/-! ## The gradients of the mixer's convolution and gating -/

theorem frame_Mixer : Cert.quiescent_Mixer := fun m ρ _ =>
  cast (by sl_kernel_rfl) (Cert.MixerFrame.frame (F := Bits) m ρ)
theorem frame_MixerIdeal : Cert.quiescent_MixerIdeal := fun m ρ _ => Cert.MixerFrame.frame (F := Ideal) m ρ
theorem frame_MixerRefIdeal : Cert.quiescent_MixerRefIdeal := fun m ρ _ =>
  (θ_run Cert.MixerRefIdeal.defs _ _).mono (fun r h => ⟨fun c => (h c).2.2.2.2, sem_eq_zero_of_no_sems (by decide) r.2⟩)
    (Cert.MixerRefIdeal.Value.run (F := Ideal) m ρ)
theorem algebraic_Mixer : Cert.algebraic_MixerIdeal_MixerRefIdeal := Cert.MixerValue.algebraic

/-! ## The norm of the forward pass -/

theorem frame_NormF : Cert.quiescent_NormF := fun m ρ _ => Cert.NormF.Gen.frame m ρ
theorem frame_NormFIdeal : Cert.quiescent_NormFIdeal := fun m ρ _ => Cert.NormFIdeal.Gen.frame m ρ
theorem frame_NormFRefIdeal : Cert.quiescent_NormFRefIdeal := fun m ρ _ =>
  (θ_run Cert.NormFRefIdeal.defs _ _).mono (fun r h => ⟨fun c => (h c).2.2, sem_eq_zero_of_no_sems (by decide) r.2⟩)
    (Cert.NormFRefIdeal.Value.run (F := Ideal) m ρ)
theorem algebraic_NormF : Cert.algebraic_NormFIdeal_NormFRefIdeal := Cert.NormFValue.algebraic

/-! ## The gated product of the forward pass -/

theorem frame_GateF : Cert.quiescent_GateF := fun m ρ _ => Cert.GateF.Gen.frame m ρ
theorem frame_GateFIdeal : Cert.quiescent_GateFIdeal := fun m ρ _ => Cert.GateFIdeal.Gen.frame m ρ
theorem frame_GateFRefIdeal : Cert.quiescent_GateFRefIdeal := fun m ρ _ =>
  (θ_run Cert.GateFRefIdeal.defs _ _).mono (fun r h => ⟨fun c => (h c).2.2, sem_eq_zero_of_no_sems (by decide) r.2⟩)
    (Cert.GateFRefIdeal.Value.run (F := Ideal) m ρ)
theorem algebraic_GateF : Cert.algebraic_GateFIdeal_GateFRefIdeal := Cert.GateFValue.algebraic

/-! ## The attention of the forward pass -/

theorem frame_AttnF : Cert.quiescent_AttnF := fun m ρ _ => Cert.AttnF.Gen.frame m ρ
theorem frame_AttnFIdeal : Cert.quiescent_AttnFIdeal := fun m ρ _ => Cert.AttnFIdeal.Gen.frame m ρ
theorem frame_AttnFRefIdeal : Cert.quiescent_AttnFRefIdeal := fun m ρ _ =>
  (θ_run Cert.AttnFRefIdeal.defs _ _).mono (fun r h => ⟨fun c => (h c).2, sem_eq_zero_of_no_sems (by decide) r.2⟩)
    (Cert.AttnFRefIdeal.Value.run (F := Ideal) m ρ)
theorem algebraic_AttnF : Cert.algebraic_AttnFIdeal_AttnFRefIdeal := Cert.AttnFValue.algebraic

/-! ## The convolution and the spatial gating of the forward pass -/

theorem frame_MixF : Cert.quiescent_MixF := fun m ρ _ => Cert.MixF.Gen.frame m ρ
theorem frame_MixFIdeal : Cert.quiescent_MixFIdeal := fun m ρ _ => Cert.MixFIdeal.Gen.frame m ρ
theorem frame_MixFRefIdeal : Cert.quiescent_MixFRefIdeal := fun m ρ _ =>
  (θ_run Cert.MixFRefIdeal.defs _ _).mono (fun r h => ⟨fun c => (h c).2, sem_eq_zero_of_no_sems (by decide) r.2⟩)
    (Cert.MixFRefIdeal.Value.run (F := Ideal) m ρ)
theorem algebraic_MixF : Cert.algebraic_MixFIdeal_MixFRefIdeal := Cert.MixFValue.algebraic

/-! ## The gated product of the forward pass, half of the columns at a time -/

theorem frame_HalfF : Cert.quiescent_HalfF := fun m ρ _ => Cert.HalfF.Gen.frame m ρ
theorem frame_HalfFIdeal : Cert.quiescent_HalfFIdeal := fun m ρ _ => Cert.HalfFIdeal.Gen.frame m ρ
theorem frame_HalfFRefIdeal : Cert.quiescent_HalfFRefIdeal := fun m ρ _ =>
  (θ_run Cert.HalfFRefIdeal.defs _ _).mono (fun r h => ⟨fun c => (h c).2.2, sem_eq_zero_of_no_sems (by decide) r.2⟩)
    (Cert.HalfFRefIdeal.Value.run (F := Ideal) m ρ)
theorem algebraic_HalfF : Cert.algebraic_HalfFIdeal_HalfFRefIdeal := Cert.HalfFValue.algebraic

/-! ## The mixer's product of the forward pass -/

theorem frame_Nn : Cert.quiescent_Nn := fun m ρ _ => Cert.Nn.Gen.frame m ρ
theorem frame_NnIdeal : Cert.quiescent_NnIdeal := fun m ρ _ => Cert.NnIdeal.Gen.frame m ρ
theorem frame_NnRefIdeal : Cert.quiescent_NnRefIdeal := fun m ρ _ =>
  (θ_run Cert.NnRefIdeal.defs _ _).mono (fun r h => ⟨fun c => (h c).2, sem_eq_zero_of_no_sems (by decide) r.2⟩)
    (Cert.NnRefIdeal.Value.run (F := Ideal) m ρ)
theorem algebraic_Nn : Cert.algebraic_NnIdeal_NnRefIdeal := Cert.NnValue.algebraic

/-! ## The second feed-forward's output product of the forward pass, added to the residual state -/

theorem frame_Resid : Cert.quiescent_Resid := fun m ρ _ => Cert.Resid.Gen.frame m ρ
theorem frame_ResidIdeal : Cert.quiescent_ResidIdeal := fun m ρ _ => Cert.ResidIdeal.Gen.frame m ρ
theorem frame_ResidRefIdeal : Cert.quiescent_ResidRefIdeal := fun m ρ _ =>
  (θ_run Cert.ResidRefIdeal.defs _ _).mono (fun r h => ⟨fun c => (h c).2, sem_eq_zero_of_no_sems (by decide) r.2⟩)
    (Cert.ResidRefIdeal.Value.run (F := Ideal) m ρ)
theorem algebraic_Resid : Cert.algebraic_ResidIdeal_ResidRefIdeal := Cert.ResidValue.algebraic

/-! ## The gradient of the mixer's joined outputs -/

theorem frame_Nt : Cert.quiescent_Nt := fun m ρ _ => Cert.Nt.Gen.frame m ρ
theorem frame_NtIdeal : Cert.quiescent_NtIdeal := fun m ρ _ => Cert.NtIdeal.Gen.frame m ρ
theorem frame_NtRefIdeal : Cert.quiescent_NtRefIdeal := fun m ρ _ =>
  (θ_run Cert.NtRefIdeal.defs _ _).mono (fun r h => ⟨fun c => (h c).2, sem_eq_zero_of_no_sems (by decide) r.2⟩)
    (Cert.NtRefIdeal.Value.run (F := Ideal) m ρ)
theorem algebraic_Nt : Cert.algebraic_NtIdeal_NtRefIdeal := Cert.NtValue.algebraic

/-! ## The gradient of the second feed-forward's output weight -/

theorem frame_Tn : Cert.quiescent_Tn := fun m ρ _ => Cert.Tn.Gen.frame m ρ
theorem frame_TnIdeal : Cert.quiescent_TnIdeal := fun m ρ _ => Cert.TnIdeal.Gen.frame m ρ
theorem frame_TnRefIdeal : Cert.quiescent_TnRefIdeal := fun m ρ _ =>
  (θ_run Cert.TnRefIdeal.defs _ _).mono (fun r h => ⟨fun c => (h c).2, sem_eq_zero_of_no_sems (by decide) r.2⟩)
    (Cert.TnRefIdeal.Value.run (F := Ideal) m ρ)
theorem algebraic_Tn : Cert.algebraic_TnIdeal_TnRefIdeal := Cert.TnValue.algebraic

/-! ## The gradient of the second feed-forward's first weight -/

theorem frame_TnPair : Cert.quiescent_TnPair := fun m ρ _ => Cert.TnPair.Gen.frame m ρ
theorem frame_TnPairIdeal : Cert.quiescent_TnPairIdeal := fun m ρ _ => Cert.TnPairIdeal.Gen.frame m ρ
theorem frame_TnPairRefIdeal : Cert.quiescent_TnPairRefIdeal := fun m ρ _ =>
  (θ_run Cert.TnPairRefIdeal.defs _ _).mono (fun r h => ⟨fun c => (h c).2, sem_eq_zero_of_no_sems (by decide) r.2⟩)
    (Cert.TnPairRefIdeal.Value.run (F := Ideal) m ρ)
theorem algebraic_TnPair : Cert.algebraic_TnPairIdeal_TnPairRefIdeal := Cert.TnPairValue.algebraic

/-! ## The gradient of the first feed-forward's normed rows -/

theorem frame_NtHalves : Cert.quiescent_NtHalves := fun m ρ _ => Cert.NtHalves.Gen.frame m ρ
theorem frame_NtHalvesIdeal : Cert.quiescent_NtHalvesIdeal := fun m ρ _ => Cert.NtHalvesIdeal.Gen.frame m ρ
theorem frame_NtHalvesRefIdeal : Cert.quiescent_NtHalvesRefIdeal := fun m ρ _ =>
  (θ_run Cert.NtHalvesRefIdeal.defs _ _).mono (fun r h => ⟨fun c => (h c).2, sem_eq_zero_of_no_sems (by decide) r.2⟩)
    (Cert.NtHalvesRefIdeal.Value.run (F := Ideal) m ρ)
theorem algebraic_NtHalves : Cert.algebraic_NtHalvesIdeal_NtHalvesRefIdeal := Cert.NtHalvesValue.algebraic

/-! ## The sibling's half of the gradient of the second feed-forward's first weight -/

theorem frame_TnHalf : Cert.quiescent_TnHalf := fun m ρ _ => Cert.TnHalf.Gen.frame m ρ (Cert.TnHalfValue.Table.ok m)
theorem frame_TnHalfIdeal : Cert.quiescent_TnHalfIdeal := fun m ρ _ => Cert.TnHalfIdeal.Gen.frame m ρ (Cert.TnHalfValue.ok m)
theorem frame_TnHalfRefIdeal : Cert.quiescent_TnHalfRefIdeal := fun m ρ _ =>
  (θ_run Cert.TnHalfRefIdeal.defs _ _).mono (fun r h => ⟨fun c => (h c).2, sem_eq_zero_of_no_sems (by decide) r.2⟩)
    (Cert.TnHalfRefIdeal.Value.run (F := Ideal) m ρ)
theorem algebraic_TnHalf : Cert.algebraic_TnHalfIdeal_TnHalfRefIdeal := Cert.TnHalfValue.algebraic

/-! ## The optimiser's step on a weight -/

theorem frame_Adamw : Cert.quiescent_Adamw := fun m ρ _ => Cert.Adamw.Gen.frame m ρ
theorem frame_AdamwIdeal : Cert.quiescent_AdamwIdeal := fun m ρ _ => Cert.AdamwIdeal.Gen.frame m ρ
theorem frame_AdamwRefIdeal : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)
theorem algebraic_Adamw : Cert.algebraic_AdamwIdeal_AdamwRefIdeal := Cert.AdamwValue.algebraic

/-! ## The sum of a weight's gradient's half and its sibling's -/

theorem frame_PairAdd : Cert.quiescent_PairAdd := fun m ρ _ => Cert.PairAdd.Gen.frame m ρ (Cert.PairAddValue.Table.ok m)
theorem frame_PairAddIdeal : Cert.quiescent_PairAddIdeal := fun m ρ _ => Cert.PairAddIdeal.Gen.frame m ρ (Cert.PairAddValue.ok m)
theorem frame_PairAddRefIdeal : Cert.quiescent_PairAddRefIdeal := fun m ρ _ =>
  (θ_run Cert.PairAddRefIdeal.defs _ _).mono (fun r h => ⟨fun c => (h c).2, sem_eq_zero_of_no_sems (by decide) r.2⟩)
    (Cert.PairAddRefIdeal.Value.run (F := Ideal) m ρ)
theorem algebraic_PairAdd : Cert.algebraic_PairAddIdeal_PairAddRefIdeal := Cert.PairAddValue.algebraic

/-! ## The sums over the devices of the small gradients, packed and unpacked -/

theorem frame_Packed : Cert.quiescent_Packed := fun m ρ _ => Cert.Packed.Gen.frame m ρ
theorem frame_PackedIdeal : Cert.quiescent_PackedIdeal := fun m ρ _ => Cert.PackedIdeal.Gen.frame m ρ
theorem frame_PackedRefIdeal : Cert.quiescent_PackedRefIdeal := fun m ρ _ =>
  (θ_run Cert.PackedRefIdeal.defs _ _).mono (fun r h => ⟨fun c => (h c).2.2.2.2.2.2.2.2.2.2.2, sem_eq_zero_of_no_sems (by decide) r.2⟩)
    (Cert.PackedRefIdeal.Value.run (F := Ideal) m ρ)
theorem algebraic_Packed : Cert.algebraic_PackedIdeal_PackedRefIdeal := Cert.PackedValue.algebraic

/-! ## The optimiser's step on the small weights, packed and unpacked -/

theorem frame_AdamwSmall : Cert.quiescent_AdamwSmall := fun m ρ _ => Cert.AdamwSmall.Gen.frame m ρ
theorem frame_AdamwSmallIdeal : Cert.quiescent_AdamwSmallIdeal := fun m ρ _ => Cert.AdamwSmallIdeal.Gen.frame m ρ
theorem frame_AdamwSmallRefIdeal : Cert.quiescent_AdamwSmallRefIdeal := fun m ρ _ =>
  (θ_run Cert.AdamwSmallRefIdeal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.AdamwSmallRefIdeal.Value.run (F := Ideal) m ρ)
theorem algebraic_AdamwSmall : Cert.algebraic_AdamwSmallIdeal_AdamwSmallRefIdeal := Cert.AdamwSmallValue.algebraic

/-! ## Everything -/

theorem claim : Cert.Claim := ⟨Cert.Gain.Gen.facts, Cert.GainIdeal.Gen.facts, Cert.GainRefIdeal.Gen.facts,
  Cert.Loss.Gen.facts, Cert.LossIdeal.Gen.facts, Cert.LossRefIdeal.Gen.facts,
  Cert.Attn.Gen.facts, Cert.AttnIdeal.Gen.facts, Cert.AttnRefIdeal.Gen.facts,
  Cert.Swiglu.Gen.facts, Cert.SwigluIdeal.Gen.facts, Cert.SwigluRefIdeal.Gen.facts,
  Cert.Norm1.Gen.facts, Cert.Norm1Ideal.Gen.facts, Cert.Norm1RefIdeal.Gen.facts,
  Cert.Xq.Gen.facts, Cert.XqIdeal.Gen.facts, Cert.XqRefIdeal.Gen.facts,
  Cert.MixIn.Gen.facts, Cert.MixInIdeal.Gen.facts, Cert.MixInRefIdeal.Gen.facts,
  Cert.Ffn.Gen.facts, Cert.FfnIdeal.Gen.facts, Cert.FfnRefIdeal.Gen.facts,
  Cert.Mixer.Gen.facts, Cert.MixerIdeal.Gen.facts, Cert.MixerRefIdeal.Gen.facts,
  Cert.NormF.Gen.facts, Cert.NormFIdeal.Gen.facts, Cert.NormFRefIdeal.Gen.facts,
  Cert.GateF.Gen.facts, Cert.GateFIdeal.Gen.facts, Cert.GateFRefIdeal.Gen.facts,
  Cert.AttnF.Gen.facts, Cert.AttnFIdeal.Gen.facts, Cert.AttnFRefIdeal.Gen.facts,
  Cert.MixF.Gen.facts, Cert.MixFIdeal.Gen.facts, Cert.MixFRefIdeal.Gen.facts,
  Cert.HalfF.Gen.facts, Cert.HalfFIdeal.Gen.facts, Cert.HalfFRefIdeal.Gen.facts,
  Cert.Nn.Gen.facts, Cert.NnIdeal.Gen.facts, Cert.NnRefIdeal.Gen.facts,
  Cert.Resid.Gen.facts, Cert.ResidIdeal.Gen.facts, Cert.ResidRefIdeal.Gen.facts,
  Cert.Nt.Gen.facts, Cert.NtIdeal.Gen.facts, Cert.NtRefIdeal.Gen.facts,
  Cert.Tn.Gen.facts, Cert.TnIdeal.Gen.facts, Cert.TnRefIdeal.Gen.facts,
  Cert.TnPair.Gen.facts, Cert.TnPairIdeal.Gen.facts, Cert.TnPairRefIdeal.Gen.facts,
  Cert.NtHalves.Gen.facts, Cert.NtHalvesIdeal.Gen.facts, Cert.NtHalvesRefIdeal.Gen.facts,
  Cert.TnHalf.Gen.facts, Cert.TnHalfIdeal.Gen.facts, Cert.TnHalfRefIdeal.Gen.facts,
  Cert.Adamw.Gen.facts, Cert.AdamwIdeal.Gen.facts, Cert.AdamwRefIdeal.Gen.facts,
  Cert.PairAdd.Gen.facts, Cert.PairAddIdeal.Gen.facts, Cert.PairAddRefIdeal.Gen.facts,
  Cert.Packed.Gen.facts, Cert.PackedIdeal.Gen.facts, Cert.PackedRefIdeal.Gen.facts,
  Cert.AdamwSmall.Gen.facts, Cert.AdamwSmallIdeal.Gen.facts, Cert.AdamwSmallRefIdeal.Gen.facts,
  inferInstance, inferInstance, inferInstance,
  inferInstance, inferInstance, inferInstance,
  inferInstance,
  frame_Gain, frame_GainIdeal, frame_GainRefIdeal,
  frame_Loss, frame_LossIdeal, fun m ρ _ => frame_LossIdeal m ρ trivial, frame_LossRefIdeal, fun m ρ _ => frame_LossRefIdeal m ρ trivial,
  frame_Attn, frame_AttnIdeal, fun m ρ _ => frame_AttnIdeal m ρ trivial, frame_AttnRefIdeal, fun m ρ _ => frame_AttnRefIdeal m ρ trivial,
  frame_Swiglu, frame_SwigluIdeal, fun m ρ _ => frame_SwigluIdeal m ρ trivial, frame_SwigluRefIdeal, fun m ρ _ => frame_SwigluRefIdeal m ρ trivial,
  frame_Norm1, frame_Norm1Ideal, fun m ρ _ => frame_Norm1Ideal m ρ trivial, frame_Norm1RefIdeal, fun m ρ _ => frame_Norm1RefIdeal m ρ trivial,
  frame_Xq, frame_XqIdeal, fun m ρ _ => frame_XqIdeal m ρ trivial, frame_XqRefIdeal, fun m ρ _ => frame_XqRefIdeal m ρ trivial,
  frame_MixIn, frame_MixInIdeal, fun m ρ _ => frame_MixInIdeal m ρ trivial, frame_MixInRefIdeal, fun m ρ _ => frame_MixInRefIdeal m ρ trivial,
  frame_Ffn, frame_FfnIdeal, fun m ρ _ => frame_FfnIdeal m ρ trivial, frame_FfnRefIdeal, fun m ρ _ => frame_FfnRefIdeal m ρ trivial,
  frame_Mixer, frame_MixerIdeal, frame_MixerRefIdeal,
  frame_NormF, frame_NormFIdeal, frame_NormFRefIdeal,
  frame_GateF, frame_GateFIdeal, frame_GateFRefIdeal,
  frame_AttnF, frame_AttnFIdeal, frame_AttnFRefIdeal,
  frame_MixF, frame_MixFIdeal, frame_MixFRefIdeal,
  frame_HalfF, frame_HalfFIdeal, frame_HalfFRefIdeal,
  frame_Nn, frame_NnIdeal, frame_NnRefIdeal,
  frame_Resid, frame_ResidIdeal, frame_ResidRefIdeal,
  frame_Nt, frame_NtIdeal, frame_NtRefIdeal,
  frame_Tn, frame_TnIdeal, frame_TnRefIdeal,
  frame_TnPair, frame_TnPairIdeal, frame_TnPairRefIdeal,
  frame_NtHalves, frame_NtHalvesIdeal, frame_NtHalvesRefIdeal,
  frame_TnHalf, frame_TnHalfIdeal, frame_TnHalfRefIdeal,
  frame_Adamw, frame_AdamwIdeal, frame_AdamwRefIdeal,
  frame_PairAdd, frame_PairAddIdeal, frame_PairAddRefIdeal,
  frame_Packed, frame_PackedIdeal, frame_PackedRefIdeal,
  frame_AdamwSmall, frame_AdamwSmallIdeal, frame_AdamwSmallRefIdeal,
  trivial, algebraic_Gain,
  trivial, algebraic_Loss,
  trivial, algebraic_Attn,
  trivial, algebraic_Swiglu,
  trivial, algebraic_Norm1,
  trivial, algebraic_Xq,
  trivial, algebraic_MixIn,
  trivial, algebraic_Ffn,
  trivial, algebraic_Mixer,
  trivial, algebraic_NormF,
  trivial, algebraic_GateF,
  trivial, algebraic_AttnF,
  trivial, algebraic_MixF,
  trivial, algebraic_HalfF,
  trivial, algebraic_Nn,
  trivial, algebraic_Resid,
  trivial, algebraic_Nt,
  trivial, algebraic_Tn,
  trivial, algebraic_TnPair,
  trivial, algebraic_NtHalves,
  trivial, algebraic_TnHalf,
  trivial, algebraic_Adamw,
  trivial, algebraic_PairAdd,
  trivial, algebraic_Packed,
  trivial, algebraic_AdamwSmall⟩

end Cert.Proof

end
